-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Gwd (m : (ℓ : Loc Cert.Gwd.nD Cert.Gwd.τ Cert.Gwd.sig) → Buf (Elt Bits) ℓ) : Prop :=
  True

def Pre_GwdIdeal (m : (ℓ : Loc Cert.GwdIdeal.nD Cert.GwdIdeal.τ Cert.GwdIdeal.sig) → Buf (Elt Ideal) ℓ) : Prop :=
  True

def Pre_GwdRefIdeal (m : (ℓ : Loc Cert.GwdRefIdeal.nD Cert.GwdRefIdeal.τ Cert.GwdRefIdeal.sig) → Buf (Elt Ideal) ℓ) : Prop :=
  True

def Pre_Gwgu (m : (ℓ : Loc Cert.Gwgu.nD Cert.Gwgu.τ Cert.Gwgu.sig) → Buf (Elt Bits) ℓ) : Prop :=
  True

def Pre_GwguIdeal (m : (ℓ : Loc Cert.GwguIdeal.nD Cert.GwguIdeal.τ Cert.GwguIdeal.sig) → Buf (Elt Ideal) ℓ) : Prop :=
  True

def Pre_GwguRefIdeal (m : (ℓ : Loc Cert.GwguRefIdeal.nD Cert.GwguRefIdeal.τ Cert.GwguRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguRefIdeal (m : (ℓ : Loc Cert.DguRefIdeal.nD Cert.DguRefIdeal.τ Cert.DguRefIdeal.sig) → Buf (Elt Ideal) ℓ) : Prop :=
  True

def Pre_Gwb (m : (ℓ : Loc Cert.Gwb.nD Cert.Gwb.τ Cert.Gwb.sig) → Buf (Elt Bits) ℓ) : Prop :=
  True

def Pre_GwbIdeal (m : (ℓ : Loc Cert.GwbIdeal.nD Cert.GwbIdeal.τ Cert.GwbIdeal.sig) → Buf (Elt Ideal) ℓ) : Prop :=
  True

def Pre_GwbRefIdeal (m : (ℓ : Loc Cert.GwbRefIdeal.nD Cert.GwbRefIdeal.τ Cert.GwbRefIdeal.sig) → Buf (Elt Ideal) ℓ) : Prop :=
  True

def Pre_Dub (m : (ℓ : Loc Cert.Dub.nD Cert.Dub.τ Cert.Dub.sig) → Buf (Elt Bits) ℓ) : Prop :=
  True

def Pre_DubIdeal (m : (ℓ : Loc Cert.DubIdeal.nD Cert.DubIdeal.τ Cert.DubIdeal.sig) → Buf (Elt Ideal) ℓ) : Prop :=
  True

def Pre_DubRefIdeal (m : (ℓ : Loc Cert.DubRefIdeal.nD Cert.DubRefIdeal.τ Cert.DubRefIdeal.sig) → Buf (Elt Ideal) ℓ) : Prop :=
  True

def Pre_Gwout (m : (ℓ : Loc Cert.Gwout.nD Cert.Gwout.τ Cert.Gwout.sig) → Buf (Elt Bits) ℓ) : Prop :=
  True

def Pre_GwoutIdeal (m : (ℓ : Loc Cert.GwoutIdeal.nD Cert.GwoutIdeal.τ Cert.GwoutIdeal.sig) → Buf (Elt Ideal) ℓ) : Prop :=
  True

def Pre_GwoutRefIdeal (m : (ℓ : Loc Cert.GwoutRefIdeal.nD Cert.GwoutRefIdeal.τ Cert.GwoutRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Gwpd (m : (ℓ : Loc Cert.Gwpd.nD Cert.Gwpd.τ Cert.Gwpd.sig) → Buf (Elt Bits) ℓ) : Prop :=
  True

def Pre_GwpdIdeal (m : (ℓ : Loc Cert.GwpdIdeal.nD Cert.GwpdIdeal.τ Cert.GwpdIdeal.sig) → Buf (Elt Ideal) ℓ) : Prop :=
  True

def Pre_GwpdRefIdeal (m : (ℓ : Loc Cert.GwpdRefIdeal.nD Cert.GwpdRefIdeal.τ Cert.GwpdRefIdeal.sig) → Buf (Elt Ideal) ℓ) : Prop :=
  True

def Pre_Dod (m : (ℓ : Loc Cert.Dod.nD Cert.Dod.τ Cert.Dod.sig) → Buf (Elt Bits) ℓ) : Prop :=
  True

def Pre_DodIdeal (m : (ℓ : Loc Cert.DodIdeal.nD Cert.DodIdeal.τ Cert.DodIdeal.sig) → Buf (Elt Ideal) ℓ) : Prop :=
  True

def Pre_DodRefIdeal (m : (ℓ : Loc Cert.DodRefIdeal.nD Cert.DodRefIdeal.τ Cert.DodRefIdeal.sig) → Buf (Elt Ideal) ℓ) : Prop :=
  True

def Pre_Gwpa (m : (ℓ : Loc Cert.Gwpa.nD Cert.Gwpa.τ Cert.Gwpa.sig) → Buf (Elt Bits) ℓ) : Prop :=
  True

def Pre_GwpaIdeal (m : (ℓ : Loc Cert.GwpaIdeal.nD Cert.GwpaIdeal.τ Cert.GwpaIdeal.sig) → Buf (Elt Ideal) ℓ) : Prop :=
  True

def Pre_GwpaRefIdeal (m : (ℓ : Loc Cert.GwpaRefIdeal.nD Cert.GwpaRefIdeal.τ Cert.GwpaRefIdeal.sig) → Buf (Elt Ideal) ℓ) : Prop :=
  True

def Pre_Dyam (m : (ℓ : Loc Cert.Dyam.nD Cert.Dyam.τ Cert.Dyam.sig) → Buf (Elt Bits) ℓ) : Prop :=
  True

def Pre_DyamIdeal (m : (ℓ : Loc Cert.DyamIdeal.nD Cert.DyamIdeal.τ Cert.DyamIdeal.sig) → Buf (Elt Ideal) ℓ) : Prop :=
  True

def Pre_DyamRefIdeal (m : (ℓ : Loc Cert.DyamRefIdeal.nD Cert.DyamRefIdeal.τ Cert.DyamRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pd (m : (ℓ : Loc Cert.Pd.nD Cert.Pd.τ Cert.Pd.sig) → Buf (Elt Bits) ℓ) : Prop :=
  True

def Pre_PdIdeal (m : (ℓ : Loc Cert.PdIdeal.nD Cert.PdIdeal.τ Cert.PdIdeal.sig) → Buf (Elt Ideal) ℓ) : Prop :=
  True

def Pre_PdRefIdeal (m : (ℓ : Loc Cert.PdRefIdeal.nD Cert.PdRefIdeal.τ Cert.PdRefIdeal.sig) → Buf (Elt Ideal) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaRefIdeal (m : (ℓ : Loc Cert.PaRefIdeal.nD Cert.PaRefIdeal.τ Cert.PaRefIdeal.sig) → Buf (Elt Ideal) ℓ) : Prop :=
  True

def Pre_Rmsb (m : (ℓ : Loc Cert.Rmsb.nD Cert.Rmsb.τ Cert.Rmsb.sig) → Buf (Elt Bits) ℓ) : Prop :=
  True

def Pre_RmsbIdeal (m : (ℓ : Loc Cert.RmsbIdeal.nD Cert.RmsbIdeal.τ Cert.RmsbIdeal.sig) → Buf (Elt Ideal) ℓ) : Prop :=
  True

def Pre_RmsbRefIdeal (m : (ℓ : Loc Cert.RmsbRefIdeal.nD Cert.RmsbRefIdeal.τ Cert.RmsbRefIdeal.sig) → Buf (Elt Ideal) ℓ) : Prop :=
  True

def Pre_Mixb (m : (ℓ : Loc Cert.Mixb.nD Cert.Mixb.τ Cert.Mixb.sig) → Buf (Elt Bits) ℓ) : Prop :=
  True

def Pre_MixbIdeal (m : (ℓ : Loc Cert.MixbIdeal.nD Cert.MixbIdeal.τ Cert.MixbIdeal.sig) → Buf (Elt Ideal) ℓ) : Prop :=
  True

def Pre_MixbRefIdeal (m : (ℓ : Loc Cert.MixbRefIdeal.nD Cert.MixbRefIdeal.τ Cert.MixbRefIdeal.sig) → Buf (Elt Ideal) ℓ) : Prop :=
  True

def Pre_Gwba (m : (ℓ : Loc Cert.Gwba.nD Cert.Gwba.τ Cert.Gwba.sig) → Buf (Elt Bits) ℓ) : Prop :=
  True

def Pre_GwbaIdeal (m : (ℓ : Loc Cert.GwbaIdeal.nD Cert.GwbaIdeal.τ Cert.GwbaIdeal.sig) → Buf (Elt Ideal) ℓ) : Prop :=
  True

def Pre_GwbaRefIdeal (m : (ℓ : Loc Cert.GwbaRefIdeal.nD Cert.GwbaRefIdeal.τ Cert.GwbaRefIdeal.sig) → Buf (Elt Ideal) ℓ) : Prop :=
  True

def Pre_Duba (m : (ℓ : Loc Cert.Duba.nD Cert.Duba.τ Cert.Duba.sig) → Buf (Elt Bits) ℓ) : Prop :=
  True

def Pre_DubaIdeal (m : (ℓ : Loc Cert.DubaIdeal.nD Cert.DubaIdeal.τ Cert.DubaIdeal.sig) → Buf (Elt Ideal) ℓ) : Prop :=
  True

def Pre_DubaRefIdeal (m : (ℓ : Loc Cert.DubaRefIdeal.nD Cert.DubaRefIdeal.τ Cert.DubaRefIdeal.sig) → Buf (Elt Ideal) ℓ) : Prop :=
  True

def Pre_Ba (m : (ℓ : Loc Cert.Ba.nD Cert.Ba.τ Cert.Ba.sig) → Buf (Elt Bits) ℓ) : Prop :=
  True

def Pre_BaIdeal (m : (ℓ : Loc Cert.BaIdeal.nD Cert.BaIdeal.τ Cert.BaIdeal.sig) → Buf (Elt Ideal) ℓ) : Prop :=
  True

def Pre_BaRefIdeal (m : (ℓ : Loc Cert.BaRefIdeal.nD Cert.BaRefIdeal.τ Cert.BaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gwd [hGwd : Cert.Gwd.Facts] : Prop :=
  ∀ (m : (ℓ : Loc Cert.Gwd.nD Cert.Gwd.τ Cert.Gwd.sig) → Buf (Elt Bits) ℓ) (g : Dev Cert.Gwd.nD → PrngReg), Pre_Gwd m →
    θ_run (Cert.Gwd.defs (F := Bits)) (onTc (τ := Cert.Gwd.τ) (Cert.Gwd.main (F := Bits))) ⟨m, fun _ => 0, g⟩ (fun r => (∀ c : Dev Cert.Gwd.nD,
      r.2.mem ((c.tc : Thread Cert.Gwd.nD Cert.Gwd.τ).loc Cert.Gwd.main_arg0) = m ((c.tc : Thread Cert.Gwd.nD Cert.Gwd.τ).loc Cert.Gwd.main_arg0)
      ∧ r.2.mem ((c.tc : Thread Cert.Gwd.nD Cert.Gwd.τ).loc Cert.Gwd.main_arg1) = m ((c.tc : Thread Cert.Gwd.nD Cert.Gwd.τ).loc Cert.Gwd.main_arg1))
      ∧ r.2.sem = fun _ => 0)

def quiescent_GwdIdeal [hGwdIdeal : Cert.GwdIdeal.Facts] : Prop :=
  ∀ (m : (ℓ : Loc Cert.GwdIdeal.nD Cert.GwdIdeal.τ Cert.GwdIdeal.sig) → Buf (Elt Ideal) ℓ) (g : Dev Cert.GwdIdeal.nD → PrngReg), Pre_GwdIdeal m →
    θ_run (Cert.GwdIdeal.defs (F := Ideal)) (onTc (τ := Cert.GwdIdeal.τ) (Cert.GwdIdeal.main (F := Ideal))) ⟨m, fun _ => 0, g⟩ (fun r => (∀ c : Dev Cert.GwdIdeal.nD,
      r.2.mem ((c.tc : Thread Cert.GwdIdeal.nD Cert.GwdIdeal.τ).loc Cert.GwdIdeal.main_arg0) = m ((c.tc : Thread Cert.GwdIdeal.nD Cert.GwdIdeal.τ).loc Cert.GwdIdeal.main_arg0)
      ∧ r.2.mem ((c.tc : Thread Cert.GwdIdeal.nD Cert.GwdIdeal.τ).loc Cert.GwdIdeal.main_arg1) = m ((c.tc : Thread Cert.GwdIdeal.nD Cert.GwdIdeal.τ).loc Cert.GwdIdeal.main_arg1))
      ∧ r.2.sem = fun _ => 0)

def quiescent_GwdRefIdeal [hGwdRefIdeal : Cert.GwdRefIdeal.Facts] : Prop :=
  ∀ (m : (ℓ : Loc Cert.GwdRefIdeal.nD Cert.GwdRefIdeal.τ Cert.GwdRefIdeal.sig) → Buf (Elt Ideal) ℓ) (g : Dev Cert.GwdRefIdeal.nD → PrngReg), Pre_GwdRefIdeal m →
    θ_run (Cert.GwdRefIdeal.defs (F := Ideal)) (onTc (τ := Cert.GwdRefIdeal.τ) (Cert.GwdRefIdeal.main (F := Ideal))) ⟨m, fun _ => 0, g⟩ (fun r => (∀ c : Dev Cert.GwdRefIdeal.nD,
      r.2.mem ((c.tc : Thread Cert.GwdRefIdeal.nD Cert.GwdRefIdeal.τ).loc Cert.GwdRefIdeal.main_arg0) = m ((c.tc : Thread Cert.GwdRefIdeal.nD Cert.GwdRefIdeal.τ).loc Cert.GwdRefIdeal.main_arg0)
      ∧ r.2.mem ((c.tc : Thread Cert.GwdRefIdeal.nD Cert.GwdRefIdeal.τ).loc Cert.GwdRefIdeal.main_arg1) = m ((c.tc : Thread Cert.GwdRefIdeal.nD Cert.GwdRefIdeal.τ).loc Cert.GwdRefIdeal.main_arg1))
      ∧ r.2.sem = fun _ => 0)

def quiescent_Gwgu [hGwgu : Cert.Gwgu.Facts] : Prop :=
  ∀ (m : (ℓ : Loc Cert.Gwgu.nD Cert.Gwgu.τ Cert.Gwgu.sig) → Buf (Elt Bits) ℓ) (g : Dev Cert.Gwgu.nD → PrngReg), Pre_Gwgu m →
    θ_run (Cert.Gwgu.defs (F := Bits)) (onTc (τ := Cert.Gwgu.τ) (Cert.Gwgu.main (F := Bits))) ⟨m, fun _ => 0, g⟩ (fun r => (∀ c : Dev Cert.Gwgu.nD,
      r.2.mem ((c.tc : Thread Cert.Gwgu.nD Cert.Gwgu.τ).loc Cert.Gwgu.main_arg0) = m ((c.tc : Thread Cert.Gwgu.nD Cert.Gwgu.τ).loc Cert.Gwgu.main_arg0)
      ∧ r.2.mem ((c.tc : Thread Cert.Gwgu.nD Cert.Gwgu.τ).loc Cert.Gwgu.main_arg1) = m ((c.tc : Thread Cert.Gwgu.nD Cert.Gwgu.τ).loc Cert.Gwgu.main_arg1))
      ∧ r.2.sem = fun _ => 0)

def quiescent_GwguIdeal [hGwguIdeal : Cert.GwguIdeal.Facts] : Prop :=
  ∀ (m : (ℓ : Loc Cert.GwguIdeal.nD Cert.GwguIdeal.τ Cert.GwguIdeal.sig) → Buf (Elt Ideal) ℓ) (g : Dev Cert.GwguIdeal.nD → PrngReg), Pre_GwguIdeal m →
    θ_run (Cert.GwguIdeal.defs (F := Ideal)) (onTc (τ := Cert.GwguIdeal.τ) (Cert.GwguIdeal.main (F := Ideal))) ⟨m, fun _ => 0, g⟩ (fun r => (∀ c : Dev Cert.GwguIdeal.nD,
      r.2.mem ((c.tc : Thread Cert.GwguIdeal.nD Cert.GwguIdeal.τ).loc Cert.GwguIdeal.main_arg0) = m ((c.tc : Thread Cert.GwguIdeal.nD Cert.GwguIdeal.τ).loc Cert.GwguIdeal.main_arg0)
      ∧ r.2.mem ((c.tc : Thread Cert.GwguIdeal.nD Cert.GwguIdeal.τ).loc Cert.GwguIdeal.main_arg1) = m ((c.tc : Thread Cert.GwguIdeal.nD Cert.GwguIdeal.τ).loc Cert.GwguIdeal.main_arg1))
      ∧ r.2.sem = fun _ => 0)

def quiescent_GwguRefIdeal [hGwguRefIdeal : Cert.GwguRefIdeal.Facts] : Prop :=
  ∀ (m : (ℓ : Loc Cert.GwguRefIdeal.nD Cert.GwguRefIdeal.τ Cert.GwguRefIdeal.sig) → Buf (Elt Ideal) ℓ) (g : Dev Cert.GwguRefIdeal.nD → PrngReg), Pre_GwguRefIdeal m →
    θ_run (Cert.GwguRefIdeal.defs (F := Ideal)) (onTc (τ := Cert.GwguRefIdeal.τ) (Cert.GwguRefIdeal.main (F := Ideal))) ⟨m, fun _ => 0, g⟩ (fun r => (∀ c : Dev Cert.GwguRefIdeal.nD,
      r.2.mem ((c.tc : Thread Cert.GwguRefIdeal.nD Cert.GwguRefIdeal.τ).loc Cert.GwguRefIdeal.main_arg0) = m ((c.tc : Thread Cert.GwguRefIdeal.nD Cert.GwguRefIdeal.τ).loc Cert.GwguRefIdeal.main_arg0)
      ∧ r.2.mem ((c.tc : Thread Cert.GwguRefIdeal.nD Cert.GwguRefIdeal.τ).loc Cert.GwguRefIdeal.main_arg1) = m ((c.tc : Thread Cert.GwguRefIdeal.nD Cert.GwguRefIdeal.τ).loc Cert.GwguRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1))
      ∧ r.2.sem = fun _ => 0)

def quiescent_Gwb [hGwb : Cert.Gwb.Facts] : Prop :=
  ∀ (m : (ℓ : Loc Cert.Gwb.nD Cert.Gwb.τ Cert.Gwb.sig) → Buf (Elt Bits) ℓ) (g : Dev Cert.Gwb.nD → PrngReg), Pre_Gwb m →
    θ_run (Cert.Gwb.defs (F := Bits)) (onTc (τ := Cert.Gwb.τ) (Cert.Gwb.main (F := Bits))) ⟨m, fun _ => 0, g⟩ (fun r => (∀ c : Dev Cert.Gwb.nD,
      r.2.mem ((c.tc : Thread Cert.Gwb.nD Cert.Gwb.τ).loc Cert.Gwb.main_arg0) = m ((c.tc : Thread Cert.Gwb.nD Cert.Gwb.τ).loc Cert.Gwb.main_arg0)
      ∧ r.2.mem ((c.tc : Thread Cert.Gwb.nD Cert.Gwb.τ).loc Cert.Gwb.main_arg1) = m ((c.tc : Thread Cert.Gwb.nD Cert.Gwb.τ).loc Cert.Gwb.main_arg1)
      ∧ r.2.mem ((c.tc : Thread Cert.Gwb.nD Cert.Gwb.τ).loc Cert.Gwb.main_arg2) = m ((c.tc : Thread Cert.Gwb.nD Cert.Gwb.τ).loc Cert.Gwb.main_arg2)
      ∧ r.2.mem ((c.tc : Thread Cert.Gwb.nD Cert.Gwb.τ).loc Cert.Gwb.main_arg3) = m ((c.tc : Thread Cert.Gwb.nD Cert.Gwb.τ).loc Cert.Gwb.main_arg3))
      ∧ r.2.sem = fun _ => 0)

def quiescent_GwbIdeal [hGwbIdeal : Cert.GwbIdeal.Facts] : Prop :=
  ∀ (m : (ℓ : Loc Cert.GwbIdeal.nD Cert.GwbIdeal.τ Cert.GwbIdeal.sig) → Buf (Elt Ideal) ℓ) (g : Dev Cert.GwbIdeal.nD → PrngReg), Pre_GwbIdeal m →
    θ_run (Cert.GwbIdeal.defs (F := Ideal)) (onTc (τ := Cert.GwbIdeal.τ) (Cert.GwbIdeal.main (F := Ideal))) ⟨m, fun _ => 0, g⟩ (fun r => (∀ c : Dev Cert.GwbIdeal.nD,
      r.2.mem ((c.tc : Thread Cert.GwbIdeal.nD Cert.GwbIdeal.τ).loc Cert.GwbIdeal.main_arg0) = m ((c.tc : Thread Cert.GwbIdeal.nD Cert.GwbIdeal.τ).loc Cert.GwbIdeal.main_arg0)
      ∧ r.2.mem ((c.tc : Thread Cert.GwbIdeal.nD Cert.GwbIdeal.τ).loc Cert.GwbIdeal.main_arg1) = m ((c.tc : Thread Cert.GwbIdeal.nD Cert.GwbIdeal.τ).loc Cert.GwbIdeal.main_arg1)
      ∧ r.2.mem ((c.tc : Thread Cert.GwbIdeal.nD Cert.GwbIdeal.τ).loc Cert.GwbIdeal.main_arg2) = m ((c.tc : Thread Cert.GwbIdeal.nD Cert.GwbIdeal.τ).loc Cert.GwbIdeal.main_arg2)
      ∧ r.2.mem ((c.tc : Thread Cert.GwbIdeal.nD Cert.GwbIdeal.τ).loc Cert.GwbIdeal.main_arg3) = m ((c.tc : Thread Cert.GwbIdeal.nD Cert.GwbIdeal.τ).loc Cert.GwbIdeal.main_arg3))
      ∧ r.2.sem = fun _ => 0)

def quiescent_GwbRefIdeal [hGwbRefIdeal : Cert.GwbRefIdeal.Facts] : Prop :=
  ∀ (m : (ℓ : Loc Cert.GwbRefIdeal.nD Cert.GwbRefIdeal.τ Cert.GwbRefIdeal.sig) → Buf (Elt Ideal) ℓ) (g : Dev Cert.GwbRefIdeal.nD → PrngReg), Pre_GwbRefIdeal m →
    θ_run (Cert.GwbRefIdeal.defs (F := Ideal)) (onTc (τ := Cert.GwbRefIdeal.τ) (Cert.GwbRefIdeal.main (F := Ideal))) ⟨m, fun _ => 0, g⟩ (fun r => (∀ c : Dev Cert.GwbRefIdeal.nD,
      r.2.mem ((c.tc : Thread Cert.GwbRefIdeal.nD Cert.GwbRefIdeal.τ).loc Cert.GwbRefIdeal.main_arg0) = m ((c.tc : Thread Cert.GwbRefIdeal.nD Cert.GwbRefIdeal.τ).loc Cert.GwbRefIdeal.main_arg0)
      ∧ r.2.mem ((c.tc : Thread Cert.GwbRefIdeal.nD Cert.GwbRefIdeal.τ).loc Cert.GwbRefIdeal.main_arg1) = m ((c.tc : Thread Cert.GwbRefIdeal.nD Cert.GwbRefIdeal.τ).loc Cert.GwbRefIdeal.main_arg1)
      ∧ r.2.mem ((c.tc : Thread Cert.GwbRefIdeal.nD Cert.GwbRefIdeal.τ).loc Cert.GwbRefIdeal.main_arg2) = m ((c.tc : Thread Cert.GwbRefIdeal.nD Cert.GwbRefIdeal.τ).loc Cert.GwbRefIdeal.main_arg2)
      ∧ r.2.mem ((c.tc : Thread Cert.GwbRefIdeal.nD Cert.GwbRefIdeal.τ).loc Cert.GwbRefIdeal.main_arg3) = m ((c.tc : Thread Cert.GwbRefIdeal.nD Cert.GwbRefIdeal.τ).loc Cert.GwbRefIdeal.main_arg3))
      ∧ r.2.sem = fun _ => 0)

def quiescent_Dub [hDub : Cert.Dub.Facts] : Prop :=
  ∀ (m : (ℓ : Loc Cert.Dub.nD Cert.Dub.τ Cert.Dub.sig) → Buf (Elt Bits) ℓ) (g : Dev Cert.Dub.nD → PrngReg), Pre_Dub m →
    θ_run (Cert.Dub.defs (F := Bits)) (onTc (τ := Cert.Dub.τ) (Cert.Dub.main (F := Bits))) ⟨m, fun _ => 0, g⟩ (fun r => (∀ c : Dev Cert.Dub.nD,
      r.2.mem ((c.tc : Thread Cert.Dub.nD Cert.Dub.τ).loc Cert.Dub.main_arg0) = m ((c.tc : Thread Cert.Dub.nD Cert.Dub.τ).loc Cert.Dub.main_arg0)
      ∧ r.2.mem ((c.tc : Thread Cert.Dub.nD Cert.Dub.τ).loc Cert.Dub.main_arg1) = m ((c.tc : Thread Cert.Dub.nD Cert.Dub.τ).loc Cert.Dub.main_arg1)
      ∧ r.2.mem ((c.tc : Thread Cert.Dub.nD Cert.Dub.τ).loc Cert.Dub.main_arg2) = m ((c.tc : Thread Cert.Dub.nD Cert.Dub.τ).loc Cert.Dub.main_arg2)
      ∧ r.2.mem ((c.tc : Thread Cert.Dub.nD Cert.Dub.τ).loc Cert.Dub.main_arg3) = m ((c.tc : Thread Cert.Dub.nD Cert.Dub.τ).loc Cert.Dub.main_arg3)
      ∧ r.2.mem ((c.tc : Thread Cert.Dub.nD Cert.Dub.τ).loc Cert.Dub.main_arg4) = m ((c.tc : Thread Cert.Dub.nD Cert.Dub.τ).loc Cert.Dub.main_arg4))
      ∧ r.2.sem = fun _ => 0)

def quiescent_DubIdeal [hDubIdeal : Cert.DubIdeal.Facts] : Prop :=
  ∀ (m : (ℓ : Loc Cert.DubIdeal.nD Cert.DubIdeal.τ Cert.DubIdeal.sig) → Buf (Elt Ideal) ℓ) (g : Dev Cert.DubIdeal.nD → PrngReg), Pre_DubIdeal m →
    θ_run (Cert.DubIdeal.defs (F := Ideal)) (onTc (τ := Cert.DubIdeal.τ) (Cert.DubIdeal.main (F := Ideal))) ⟨m, fun _ => 0, g⟩ (fun r => (∀ c : Dev Cert.DubIdeal.nD,
      r.2.mem ((c.tc : Thread Cert.DubIdeal.nD Cert.DubIdeal.τ).loc Cert.DubIdeal.main_arg0) = m ((c.tc : Thread Cert.DubIdeal.nD Cert.DubIdeal.τ).loc Cert.DubIdeal.main_arg0)
      ∧ r.2.mem ((c.tc : Thread Cert.DubIdeal.nD Cert.DubIdeal.τ).loc Cert.DubIdeal.main_arg1) = m ((c.tc : Thread Cert.DubIdeal.nD Cert.DubIdeal.τ).loc Cert.DubIdeal.main_arg1)
      ∧ r.2.mem ((c.tc : Thread Cert.DubIdeal.nD Cert.DubIdeal.τ).loc Cert.DubIdeal.main_arg2) = m ((c.tc : Thread Cert.DubIdeal.nD Cert.DubIdeal.τ).loc Cert.DubIdeal.main_arg2)
      ∧ r.2.mem ((c.tc : Thread Cert.DubIdeal.nD Cert.DubIdeal.τ).loc Cert.DubIdeal.main_arg3) = m ((c.tc : Thread Cert.DubIdeal.nD Cert.DubIdeal.τ).loc Cert.DubIdeal.main_arg3)
      ∧ r.2.mem ((c.tc : Thread Cert.DubIdeal.nD Cert.DubIdeal.τ).loc Cert.DubIdeal.main_arg4) = m ((c.tc : Thread Cert.DubIdeal.nD Cert.DubIdeal.τ).loc Cert.DubIdeal.main_arg4))
      ∧ r.2.sem = fun _ => 0)

def quiescent_DubRefIdeal [hDubRefIdeal : Cert.DubRefIdeal.Facts] : Prop :=
  ∀ (m : (ℓ : Loc Cert.DubRefIdeal.nD Cert.DubRefIdeal.τ Cert.DubRefIdeal.sig) → Buf (Elt Ideal) ℓ) (g : Dev Cert.DubRefIdeal.nD → PrngReg), Pre_DubRefIdeal m →
    θ_run (Cert.DubRefIdeal.defs (F := Ideal)) (onTc (τ := Cert.DubRefIdeal.τ) (Cert.DubRefIdeal.main (F := Ideal))) ⟨m, fun _ => 0, g⟩ (fun r => (∀ c : Dev Cert.DubRefIdeal.nD,
      r.2.mem ((c.tc : Thread Cert.DubRefIdeal.nD Cert.DubRefIdeal.τ).loc Cert.DubRefIdeal.main_arg0) = m ((c.tc : Thread Cert.DubRefIdeal.nD Cert.DubRefIdeal.τ).loc Cert.DubRefIdeal.main_arg0)
      ∧ r.2.mem ((c.tc : Thread Cert.DubRefIdeal.nD Cert.DubRefIdeal.τ).loc Cert.DubRefIdeal.main_arg1) = m ((c.tc : Thread Cert.DubRefIdeal.nD Cert.DubRefIdeal.τ).loc Cert.DubRefIdeal.main_arg1)
      ∧ r.2.mem ((c.tc : Thread Cert.DubRefIdeal.nD Cert.DubRefIdeal.τ).loc Cert.DubRefIdeal.main_arg2) = m ((c.tc : Thread Cert.DubRefIdeal.nD Cert.DubRefIdeal.τ).loc Cert.DubRefIdeal.main_arg2)
      ∧ r.2.mem ((c.tc : Thread Cert.DubRefIdeal.nD Cert.DubRefIdeal.τ).loc Cert.DubRefIdeal.main_arg3) = m ((c.tc : Thread Cert.DubRefIdeal.nD Cert.DubRefIdeal.τ).loc Cert.DubRefIdeal.main_arg3)
      ∧ r.2.mem ((c.tc : Thread Cert.DubRefIdeal.nD Cert.DubRefIdeal.τ).loc Cert.DubRefIdeal.main_arg4) = m ((c.tc : Thread Cert.DubRefIdeal.nD Cert.DubRefIdeal.τ).loc Cert.DubRefIdeal.main_arg4))
      ∧ r.2.sem = fun _ => 0)

def quiescent_Gwout [hGwout : Cert.Gwout.Facts] : Prop :=
  ∀ (m : (ℓ : Loc Cert.Gwout.nD Cert.Gwout.τ Cert.Gwout.sig) → Buf (Elt Bits) ℓ) (g : Dev Cert.Gwout.nD → PrngReg), Pre_Gwout m →
    θ_run (Cert.Gwout.defs (F := Bits)) (onTc (τ := Cert.Gwout.τ) (Cert.Gwout.main (F := Bits))) ⟨m, fun _ => 0, g⟩ (fun r => (∀ c : Dev Cert.Gwout.nD,
      r.2.mem ((c.tc : Thread Cert.Gwout.nD Cert.Gwout.τ).loc Cert.Gwout.main_arg0) = m ((c.tc : Thread Cert.Gwout.nD Cert.Gwout.τ).loc Cert.Gwout.main_arg0)
      ∧ r.2.mem ((c.tc : Thread Cert.Gwout.nD Cert.Gwout.τ).loc Cert.Gwout.main_arg1) = m ((c.tc : Thread Cert.Gwout.nD Cert.Gwout.τ).loc Cert.Gwout.main_arg1))
      ∧ r.2.sem = fun _ => 0)

def quiescent_GwoutIdeal [hGwoutIdeal : Cert.GwoutIdeal.Facts] : Prop :=
  ∀ (m : (ℓ : Loc Cert.GwoutIdeal.nD Cert.GwoutIdeal.τ Cert.GwoutIdeal.sig) → Buf (Elt Ideal) ℓ) (g : Dev Cert.GwoutIdeal.nD → PrngReg), Pre_GwoutIdeal m →
    θ_run (Cert.GwoutIdeal.defs (F := Ideal)) (onTc (τ := Cert.GwoutIdeal.τ) (Cert.GwoutIdeal.main (F := Ideal))) ⟨m, fun _ => 0, g⟩ (fun r => (∀ c : Dev Cert.GwoutIdeal.nD,
      r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
      ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ r.2.sem = fun _ => 0)

def quiescent_GwoutRefIdeal [hGwoutRefIdeal : Cert.GwoutRefIdeal.Facts] : Prop :=
  ∀ (m : (ℓ : Loc Cert.GwoutRefIdeal.nD Cert.GwoutRefIdeal.τ Cert.GwoutRefIdeal.sig) → Buf (Elt Ideal) ℓ) (g : Dev Cert.GwoutRefIdeal.nD → PrngReg), Pre_GwoutRefIdeal m →
    θ_run (Cert.GwoutRefIdeal.defs (F := Ideal)) (onTc (τ := Cert.GwoutRefIdeal.τ) (Cert.GwoutRefIdeal.main (F := Ideal))) ⟨m, fun _ => 0, g⟩ (fun r => (∀ c : Dev Cert.GwoutRefIdeal.nD,
      r.2.mem ((c.tc : Thread Cert.GwoutRefIdeal.nD Cert.GwoutRefIdeal.τ).loc Cert.GwoutRefIdeal.main_arg0) = m ((c.tc : Thread Cert.GwoutRefIdeal.nD Cert.GwoutRefIdeal.τ).loc Cert.GwoutRefIdeal.main_arg0)
      ∧ r.2.mem ((c.tc : Thread Cert.GwoutRefIdeal.nD Cert.GwoutRefIdeal.τ).loc Cert.GwoutRefIdeal.main_arg1) = m ((c.tc : Thread Cert.GwoutRefIdeal.nD Cert.GwoutRefIdeal.τ).loc Cert.GwoutRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Gwpd [hGwpd : Cert.Gwpd.Facts] : Prop :=
  ∀ (m : (ℓ : Loc Cert.Gwpd.nD Cert.Gwpd.τ Cert.Gwpd.sig) → Buf (Elt Bits) ℓ) (g : Dev Cert.Gwpd.nD → PrngReg), Pre_Gwpd m →
    θ_run (Cert.Gwpd.defs (F := Bits)) (onTc (τ := Cert.Gwpd.τ) (Cert.Gwpd.main (F := Bits))) ⟨m, fun _ => 0, g⟩ (fun r => (∀ c : Dev Cert.Gwpd.nD,
      r.2.mem ((c.tc : Thread Cert.Gwpd.nD Cert.Gwpd.τ).loc Cert.Gwpd.main_arg0) = m ((c.tc : Thread Cert.Gwpd.nD Cert.Gwpd.τ).loc Cert.Gwpd.main_arg0)
      ∧ r.2.mem ((c.tc : Thread Cert.Gwpd.nD Cert.Gwpd.τ).loc Cert.Gwpd.main_arg1) = m ((c.tc : Thread Cert.Gwpd.nD Cert.Gwpd.τ).loc Cert.Gwpd.main_arg1))
      ∧ r.2.sem = fun _ => 0)

def quiescent_GwpdIdeal [hGwpdIdeal : Cert.GwpdIdeal.Facts] : Prop :=
  ∀ (m : (ℓ : Loc Cert.GwpdIdeal.nD Cert.GwpdIdeal.τ Cert.GwpdIdeal.sig) → Buf (Elt Ideal) ℓ) (g : Dev Cert.GwpdIdeal.nD → PrngReg), Pre_GwpdIdeal m →
    θ_run (Cert.GwpdIdeal.defs (F := Ideal)) (onTc (τ := Cert.GwpdIdeal.τ) (Cert.GwpdIdeal.main (F := Ideal))) ⟨m, fun _ => 0, g⟩ (fun r => (∀ c : Dev Cert.GwpdIdeal.nD,
      r.2.mem ((c.tc : Thread Cert.GwpdIdeal.nD Cert.GwpdIdeal.τ).loc Cert.GwpdIdeal.main_arg0) = m ((c.tc : Thread Cert.GwpdIdeal.nD Cert.GwpdIdeal.τ).loc Cert.GwpdIdeal.main_arg0)
      ∧ r.2.mem ((c.tc : Thread Cert.GwpdIdeal.nD Cert.GwpdIdeal.τ).loc Cert.GwpdIdeal.main_arg1) = m ((c.tc : Thread Cert.GwpdIdeal.nD Cert.GwpdIdeal.τ).loc Cert.GwpdIdeal.main_arg1))
      ∧ r.2.sem = fun _ => 0)

def quiescent_GwpdRefIdeal [hGwpdRefIdeal : Cert.GwpdRefIdeal.Facts] : Prop :=
  ∀ (m : (ℓ : Loc Cert.GwpdRefIdeal.nD Cert.GwpdRefIdeal.τ Cert.GwpdRefIdeal.sig) → Buf (Elt Ideal) ℓ) (g : Dev Cert.GwpdRefIdeal.nD → PrngReg), Pre_GwpdRefIdeal m →
    θ_run (Cert.GwpdRefIdeal.defs (F := Ideal)) (onTc (τ := Cert.GwpdRefIdeal.τ) (Cert.GwpdRefIdeal.main (F := Ideal))) ⟨m, fun _ => 0, g⟩ (fun r => (∀ c : Dev Cert.GwpdRefIdeal.nD,
      r.2.mem ((c.tc : Thread Cert.GwpdRefIdeal.nD Cert.GwpdRefIdeal.τ).loc Cert.GwpdRefIdeal.main_arg0) = m ((c.tc : Thread Cert.GwpdRefIdeal.nD Cert.GwpdRefIdeal.τ).loc Cert.GwpdRefIdeal.main_arg0)
      ∧ r.2.mem ((c.tc : Thread Cert.GwpdRefIdeal.nD Cert.GwpdRefIdeal.τ).loc Cert.GwpdRefIdeal.main_arg1) = m ((c.tc : Thread Cert.GwpdRefIdeal.nD Cert.GwpdRefIdeal.τ).loc Cert.GwpdRefIdeal.main_arg1))
      ∧ r.2.sem = fun _ => 0)

def quiescent_Dod [hDod : Cert.Dod.Facts] : Prop :=
  ∀ (m : (ℓ : Loc Cert.Dod.nD Cert.Dod.τ Cert.Dod.sig) → Buf (Elt Bits) ℓ) (g : Dev Cert.Dod.nD → PrngReg), Pre_Dod m →
    θ_run (Cert.Dod.defs (F := Bits)) (onTc (τ := Cert.Dod.τ) (Cert.Dod.main (F := Bits))) ⟨m, fun _ => 0, g⟩ (fun r => (∀ c : Dev Cert.Dod.nD,
      r.2.mem ((c.tc : Thread Cert.Dod.nD Cert.Dod.τ).loc Cert.Dod.main_arg0) = m ((c.tc : Thread Cert.Dod.nD Cert.Dod.τ).loc Cert.Dod.main_arg0)
      ∧ r.2.mem ((c.tc : Thread Cert.Dod.nD Cert.Dod.τ).loc Cert.Dod.main_arg1) = m ((c.tc : Thread Cert.Dod.nD Cert.Dod.τ).loc Cert.Dod.main_arg1))
      ∧ r.2.sem = fun _ => 0)

def quiescent_DodIdeal [hDodIdeal : Cert.DodIdeal.Facts] : Prop :=
  ∀ (m : (ℓ : Loc Cert.DodIdeal.nD Cert.DodIdeal.τ Cert.DodIdeal.sig) → Buf (Elt Ideal) ℓ) (g : Dev Cert.DodIdeal.nD → PrngReg), Pre_DodIdeal m →
    θ_run (Cert.DodIdeal.defs (F := Ideal)) (onTc (τ := Cert.DodIdeal.τ) (Cert.DodIdeal.main (F := Ideal))) ⟨m, fun _ => 0, g⟩ (fun r => (∀ c : Dev Cert.DodIdeal.nD,
      r.2.mem ((c.tc : Thread Cert.DodIdeal.nD Cert.DodIdeal.τ).loc Cert.DodIdeal.main_arg0) = m ((c.tc : Thread Cert.DodIdeal.nD Cert.DodIdeal.τ).loc Cert.DodIdeal.main_arg0)
      ∧ r.2.mem ((c.tc : Thread Cert.DodIdeal.nD Cert.DodIdeal.τ).loc Cert.DodIdeal.main_arg1) = m ((c.tc : Thread Cert.DodIdeal.nD Cert.DodIdeal.τ).loc Cert.DodIdeal.main_arg1))
      ∧ r.2.sem = fun _ => 0)

def quiescent_DodRefIdeal [hDodRefIdeal : Cert.DodRefIdeal.Facts] : Prop :=
  ∀ (m : (ℓ : Loc Cert.DodRefIdeal.nD Cert.DodRefIdeal.τ Cert.DodRefIdeal.sig) → Buf (Elt Ideal) ℓ) (g : Dev Cert.DodRefIdeal.nD → PrngReg), Pre_DodRefIdeal m →
    θ_run (Cert.DodRefIdeal.defs (F := Ideal)) (onTc (τ := Cert.DodRefIdeal.τ) (Cert.DodRefIdeal.main (F := Ideal))) ⟨m, fun _ => 0, g⟩ (fun r => (∀ c : Dev Cert.DodRefIdeal.nD,
      r.2.mem ((c.tc : Thread Cert.DodRefIdeal.nD Cert.DodRefIdeal.τ).loc Cert.DodRefIdeal.main_arg0) = m ((c.tc : Thread Cert.DodRefIdeal.nD Cert.DodRefIdeal.τ).loc Cert.DodRefIdeal.main_arg0)
      ∧ r.2.mem ((c.tc : Thread Cert.DodRefIdeal.nD Cert.DodRefIdeal.τ).loc Cert.DodRefIdeal.main_arg1) = m ((c.tc : Thread Cert.DodRefIdeal.nD Cert.DodRefIdeal.τ).loc Cert.DodRefIdeal.main_arg1))
      ∧ r.2.sem = fun _ => 0)

def quiescent_Gwpa [hGwpa : Cert.Gwpa.Facts] : Prop :=
  ∀ (m : (ℓ : Loc Cert.Gwpa.nD Cert.Gwpa.τ Cert.Gwpa.sig) → Buf (Elt Bits) ℓ) (g : Dev Cert.Gwpa.nD → PrngReg), Pre_Gwpa m →
    θ_run (Cert.Gwpa.defs (F := Bits)) (onTc (τ := Cert.Gwpa.τ) (Cert.Gwpa.main (F := Bits))) ⟨m, fun _ => 0, g⟩ (fun r => (∀ c : Dev Cert.Gwpa.nD,
      r.2.mem ((c.tc : Thread Cert.Gwpa.nD Cert.Gwpa.τ).loc Cert.Gwpa.main_arg0) = m ((c.tc : Thread Cert.Gwpa.nD Cert.Gwpa.τ).loc Cert.Gwpa.main_arg0)
      ∧ r.2.mem ((c.tc : Thread Cert.Gwpa.nD Cert.Gwpa.τ).loc Cert.Gwpa.main_arg1) = m ((c.tc : Thread Cert.Gwpa.nD Cert.Gwpa.τ).loc Cert.Gwpa.main_arg1))
      ∧ r.2.sem = fun _ => 0)

def quiescent_GwpaIdeal [hGwpaIdeal : Cert.GwpaIdeal.Facts] : Prop :=
  ∀ (m : (ℓ : Loc Cert.GwpaIdeal.nD Cert.GwpaIdeal.τ Cert.GwpaIdeal.sig) → Buf (Elt Ideal) ℓ) (g : Dev Cert.GwpaIdeal.nD → PrngReg), Pre_GwpaIdeal m →
    θ_run (Cert.GwpaIdeal.defs (F := Ideal)) (onTc (τ := Cert.GwpaIdeal.τ) (Cert.GwpaIdeal.main (F := Ideal))) ⟨m, fun _ => 0, g⟩ (fun r => (∀ c : Dev Cert.GwpaIdeal.nD,
      r.2.mem ((c.tc : Thread Cert.GwpaIdeal.nD Cert.GwpaIdeal.τ).loc Cert.GwpaIdeal.main_arg0) = m ((c.tc : Thread Cert.GwpaIdeal.nD Cert.GwpaIdeal.τ).loc Cert.GwpaIdeal.main_arg0)
      ∧ r.2.mem ((c.tc : Thread Cert.GwpaIdeal.nD Cert.GwpaIdeal.τ).loc Cert.GwpaIdeal.main_arg1) = m ((c.tc : Thread Cert.GwpaIdeal.nD Cert.GwpaIdeal.τ).loc Cert.GwpaIdeal.main_arg1))
      ∧ r.2.sem = fun _ => 0)

def quiescent_GwpaRefIdeal [hGwpaRefIdeal : Cert.GwpaRefIdeal.Facts] : Prop :=
  ∀ (m : (ℓ : Loc Cert.GwpaRefIdeal.nD Cert.GwpaRefIdeal.τ Cert.GwpaRefIdeal.sig) → Buf (Elt Ideal) ℓ) (g : Dev Cert.GwpaRefIdeal.nD → PrngReg), Pre_GwpaRefIdeal m →
    θ_run (Cert.GwpaRefIdeal.defs (F := Ideal)) (onTc (τ := Cert.GwpaRefIdeal.τ) (Cert.GwpaRefIdeal.main (F := Ideal))) ⟨m, fun _ => 0, g⟩ (fun r => (∀ c : Dev Cert.GwpaRefIdeal.nD,
      r.2.mem ((c.tc : Thread Cert.GwpaRefIdeal.nD Cert.GwpaRefIdeal.τ).loc Cert.GwpaRefIdeal.main_arg0) = m ((c.tc : Thread Cert.GwpaRefIdeal.nD Cert.GwpaRefIdeal.τ).loc Cert.GwpaRefIdeal.main_arg0)
      ∧ r.2.mem ((c.tc : Thread Cert.GwpaRefIdeal.nD Cert.GwpaRefIdeal.τ).loc Cert.GwpaRefIdeal.main_arg1) = m ((c.tc : Thread Cert.GwpaRefIdeal.nD Cert.GwpaRefIdeal.τ).loc Cert.GwpaRefIdeal.main_arg1))
      ∧ r.2.sem = fun _ => 0)

def quiescent_Dyam [hDyam : Cert.Dyam.Facts] : Prop :=
  ∀ (m : (ℓ : Loc Cert.Dyam.nD Cert.Dyam.τ Cert.Dyam.sig) → Buf (Elt Bits) ℓ) (g : Dev Cert.Dyam.nD → PrngReg), Pre_Dyam m →
    θ_run (Cert.Dyam.defs (F := Bits)) (onTc (τ := Cert.Dyam.τ) (Cert.Dyam.main (F := Bits))) ⟨m, fun _ => 0, g⟩ (fun r => (∀ c : Dev Cert.Dyam.nD,
      r.2.mem ((c.tc : Thread Cert.Dyam.nD Cert.Dyam.τ).loc Cert.Dyam.main_arg0) = m ((c.tc : Thread Cert.Dyam.nD Cert.Dyam.τ).loc Cert.Dyam.main_arg0)
      ∧ r.2.mem ((c.tc : Thread Cert.Dyam.nD Cert.Dyam.τ).loc Cert.Dyam.main_arg1) = m ((c.tc : Thread Cert.Dyam.nD Cert.Dyam.τ).loc Cert.Dyam.main_arg1))
      ∧ r.2.sem = fun _ => 0)

def quiescent_DyamIdeal [hDyamIdeal : Cert.DyamIdeal.Facts] : Prop :=
  ∀ (m : (ℓ : Loc Cert.DyamIdeal.nD Cert.DyamIdeal.τ Cert.DyamIdeal.sig) → Buf (Elt Ideal) ℓ) (g : Dev Cert.DyamIdeal.nD → PrngReg), Pre_DyamIdeal m →
    θ_run (Cert.DyamIdeal.defs (F := Ideal)) (onTc (τ := Cert.DyamIdeal.τ) (Cert.DyamIdeal.main (F := Ideal))) ⟨m, fun _ => 0, g⟩ (fun r => (∀ c : Dev Cert.DyamIdeal.nD,
      r.2.mem ((c.tc : Thread Cert.DyamIdeal.nD Cert.DyamIdeal.τ).loc Cert.DyamIdeal.main_arg0) = m ((c.tc : Thread Cert.DyamIdeal.nD Cert.DyamIdeal.τ).loc Cert.DyamIdeal.main_arg0)
      ∧ r.2.mem ((c.tc : Thread Cert.DyamIdeal.nD Cert.DyamIdeal.τ).loc Cert.DyamIdeal.main_arg1) = m ((c.tc : Thread Cert.DyamIdeal.nD Cert.DyamIdeal.τ).loc Cert.DyamIdeal.main_arg1))
      ∧ r.2.sem = fun _ => 0)

def quiescent_DyamRefIdeal [hDyamRefIdeal : Cert.DyamRefIdeal.Facts] : Prop :=
  ∀ (m : (ℓ : Loc Cert.DyamRefIdeal.nD Cert.DyamRefIdeal.τ Cert.DyamRefIdeal.sig) → Buf (Elt Ideal) ℓ) (g : Dev Cert.DyamRefIdeal.nD → PrngReg), Pre_DyamRefIdeal m →
    θ_run (Cert.DyamRefIdeal.defs (F := Ideal)) (onTc (τ := Cert.DyamRefIdeal.τ) (Cert.DyamRefIdeal.main (F := Ideal))) ⟨m, fun _ => 0, g⟩ (fun r => (∀ c : Dev Cert.DyamRefIdeal.nD,
      r.2.mem ((c.tc : Thread Cert.DyamRefIdeal.nD Cert.DyamRefIdeal.τ).loc Cert.DyamRefIdeal.main_arg0) = m ((c.tc : Thread Cert.DyamRefIdeal.nD Cert.DyamRefIdeal.τ).loc Cert.DyamRefIdeal.main_arg0)
      ∧ r.2.mem ((c.tc : Thread Cert.DyamRefIdeal.nD Cert.DyamRefIdeal.τ).loc Cert.DyamRefIdeal.main_arg1) = m ((c.tc : Thread Cert.DyamRefIdeal.nD Cert.DyamRefIdeal.τ).loc Cert.DyamRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Pd [hPd : Cert.Pd.Facts] : Prop :=
  ∀ (m : (ℓ : Loc Cert.Pd.nD Cert.Pd.τ Cert.Pd.sig) → Buf (Elt Bits) ℓ) (g : Dev Cert.Pd.nD → PrngReg), Pre_Pd m →
    θ_run (Cert.Pd.defs (F := Bits)) (onTc (τ := Cert.Pd.τ) (Cert.Pd.main (F := Bits))) ⟨m, fun _ => 0, g⟩ (fun r => (∀ c : Dev Cert.Pd.nD,
      r.2.mem ((c.tc : Thread Cert.Pd.nD Cert.Pd.τ).loc Cert.Pd.main_arg0) = m ((c.tc : Thread Cert.Pd.nD Cert.Pd.τ).loc Cert.Pd.main_arg0)
      ∧ r.2.mem ((c.tc : Thread Cert.Pd.nD Cert.Pd.τ).loc Cert.Pd.main_arg1) = m ((c.tc : Thread Cert.Pd.nD Cert.Pd.τ).loc Cert.Pd.main_arg1))
      ∧ r.2.sem = fun _ => 0)

def quiescent_PdIdeal [hPdIdeal : Cert.PdIdeal.Facts] : Prop :=
  ∀ (m : (ℓ : Loc Cert.PdIdeal.nD Cert.PdIdeal.τ Cert.PdIdeal.sig) → Buf (Elt Ideal) ℓ) (g : Dev Cert.PdIdeal.nD → PrngReg), Pre_PdIdeal m →
    θ_run (Cert.PdIdeal.defs (F := Ideal)) (onTc (τ := Cert.PdIdeal.τ) (Cert.PdIdeal.main (F := Ideal))) ⟨m, fun _ => 0, g⟩ (fun r => (∀ c : Dev Cert.PdIdeal.nD,
      r.2.mem ((c.tc : Thread Cert.PdIdeal.nD Cert.PdIdeal.τ).loc Cert.PdIdeal.main_arg0) = m ((c.tc : Thread Cert.PdIdeal.nD Cert.PdIdeal.τ).loc Cert.PdIdeal.main_arg0)
      ∧ r.2.mem ((c.tc : Thread Cert.PdIdeal.nD Cert.PdIdeal.τ).loc Cert.PdIdeal.main_arg1) = m ((c.tc : Thread Cert.PdIdeal.nD Cert.PdIdeal.τ).loc Cert.PdIdeal.main_arg1))
      ∧ r.2.sem = fun _ => 0)

def quiescent_PdRefIdeal [hPdRefIdeal : Cert.PdRefIdeal.Facts] : Prop :=
  ∀ (m : (ℓ : Loc Cert.PdRefIdeal.nD Cert.PdRefIdeal.τ Cert.PdRefIdeal.sig) → Buf (Elt Ideal) ℓ) (g : Dev Cert.PdRefIdeal.nD → PrngReg), Pre_PdRefIdeal m →
    θ_run (Cert.PdRefIdeal.defs (F := Ideal)) (onTc (τ := Cert.PdRefIdeal.τ) (Cert.PdRefIdeal.main (F := Ideal))) ⟨m, fun _ => 0, g⟩ (fun r => (∀ c : Dev Cert.PdRefIdeal.nD,
      r.2.mem ((c.tc : Thread Cert.PdRefIdeal.nD Cert.PdRefIdeal.τ).loc Cert.PdRefIdeal.main_arg0) = m ((c.tc : Thread Cert.PdRefIdeal.nD Cert.PdRefIdeal.τ).loc Cert.PdRefIdeal.main_arg0)
      ∧ r.2.mem ((c.tc : Thread Cert.PdRefIdeal.nD Cert.PdRefIdeal.τ).loc Cert.PdRefIdeal.main_arg1) = m ((c.tc : Thread Cert.PdRefIdeal.nD Cert.PdRefIdeal.τ).loc Cert.PdRefIdeal.main_arg1))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaRefIdeal [hPaRefIdeal : Cert.PaRefIdeal.Facts] : Prop :=
  ∀ (m : (ℓ : Loc Cert.PaRefIdeal.nD Cert.PaRefIdeal.τ Cert.PaRefIdeal.sig) → Buf (Elt Ideal) ℓ) (g : Dev Cert.PaRefIdeal.nD → PrngReg), Pre_PaRefIdeal m →
    θ_run (Cert.PaRefIdeal.defs (F := Ideal)) (onTc (τ := Cert.PaRefIdeal.τ) (Cert.PaRefIdeal.main (F := Ideal))) ⟨m, fun _ => 0, g⟩ (fun r => (∀ c : Dev Cert.PaRefIdeal.nD,
      r.2.mem ((c.tc : Thread Cert.PaRefIdeal.nD Cert.PaRefIdeal.τ).loc Cert.PaRefIdeal.main_arg0) = m ((c.tc : Thread Cert.PaRefIdeal.nD Cert.PaRefIdeal.τ).loc Cert.PaRefIdeal.main_arg0)
      ∧ r.2.mem ((c.tc : Thread Cert.PaRefIdeal.nD Cert.PaRefIdeal.τ).loc Cert.PaRefIdeal.main_arg1) = m ((c.tc : Thread Cert.PaRefIdeal.nD Cert.PaRefIdeal.τ).loc Cert.PaRefIdeal.main_arg1))
      ∧ r.2.sem = fun _ => 0)

def quiescent_Rmsb [hRmsb : Cert.Rmsb.Facts] : Prop :=
  ∀ (m : (ℓ : Loc Cert.Rmsb.nD Cert.Rmsb.τ Cert.Rmsb.sig) → Buf (Elt Bits) ℓ) (g : Dev Cert.Rmsb.nD → PrngReg), Pre_Rmsb m →
    θ_run (Cert.Rmsb.defs (F := Bits)) (onTc (τ := Cert.Rmsb.τ) (Cert.Rmsb.main (F := Bits))) ⟨m, fun _ => 0, g⟩ (fun r => (∀ c : Dev Cert.Rmsb.nD,
      r.2.mem ((c.tc : Thread Cert.Rmsb.nD Cert.Rmsb.τ).loc Cert.Rmsb.main_arg0) = m ((c.tc : Thread Cert.Rmsb.nD Cert.Rmsb.τ).loc Cert.Rmsb.main_arg0)
      ∧ r.2.mem ((c.tc : Thread Cert.Rmsb.nD Cert.Rmsb.τ).loc Cert.Rmsb.main_arg1) = m ((c.tc : Thread Cert.Rmsb.nD Cert.Rmsb.τ).loc Cert.Rmsb.main_arg1)
      ∧ r.2.mem ((c.tc : Thread Cert.Rmsb.nD Cert.Rmsb.τ).loc Cert.Rmsb.main_arg2) = m ((c.tc : Thread Cert.Rmsb.nD Cert.Rmsb.τ).loc Cert.Rmsb.main_arg2)
      ∧ r.2.mem ((c.tc : Thread Cert.Rmsb.nD Cert.Rmsb.τ).loc Cert.Rmsb.main_arg3) = m ((c.tc : Thread Cert.Rmsb.nD Cert.Rmsb.τ).loc Cert.Rmsb.main_arg3))
      ∧ r.2.sem = fun _ => 0)

def quiescent_RmsbIdeal [hRmsbIdeal : Cert.RmsbIdeal.Facts] : Prop :=
  ∀ (m : (ℓ : Loc Cert.RmsbIdeal.nD Cert.RmsbIdeal.τ Cert.RmsbIdeal.sig) → Buf (Elt Ideal) ℓ) (g : Dev Cert.RmsbIdeal.nD → PrngReg), Pre_RmsbIdeal m →
    θ_run (Cert.RmsbIdeal.defs (F := Ideal)) (onTc (τ := Cert.RmsbIdeal.τ) (Cert.RmsbIdeal.main (F := Ideal))) ⟨m, fun _ => 0, g⟩ (fun r => (∀ c : Dev Cert.RmsbIdeal.nD,
      r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
      ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
      ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2)
      ∧ r.2.mem ((c.tc : Thread Cert.RmsbIdeal.nD Cert.RmsbIdeal.τ).loc Cert.RmsbIdeal.main_arg3) = m ((c.tc : Thread Cert.RmsbIdeal.nD Cert.RmsbIdeal.τ).loc Cert.RmsbIdeal.main_arg3))
      ∧ r.2.sem = fun _ => 0)

def quiescent_RmsbRefIdeal [hRmsbRefIdeal : Cert.RmsbRefIdeal.Facts] : Prop :=
  ∀ (m : (ℓ : Loc Cert.RmsbRefIdeal.nD Cert.RmsbRefIdeal.τ Cert.RmsbRefIdeal.sig) → Buf (Elt Ideal) ℓ) (g : Dev Cert.RmsbRefIdeal.nD → PrngReg), Pre_RmsbRefIdeal m →
    θ_run (Cert.RmsbRefIdeal.defs (F := Ideal)) (onTc (τ := Cert.RmsbRefIdeal.τ) (Cert.RmsbRefIdeal.main (F := Ideal))) ⟨m, fun _ => 0, g⟩ (fun r => (∀ c : Dev Cert.RmsbRefIdeal.nD,
      r.2.mem ((c.tc : Thread Cert.RmsbRefIdeal.nD Cert.RmsbRefIdeal.τ).loc Cert.RmsbRefIdeal.main_arg0) = m ((c.tc : Thread Cert.RmsbRefIdeal.nD Cert.RmsbRefIdeal.τ).loc Cert.RmsbRefIdeal.main_arg0)
      ∧ r.2.mem ((c.tc : Thread Cert.RmsbRefIdeal.nD Cert.RmsbRefIdeal.τ).loc Cert.RmsbRefIdeal.main_arg1) = m ((c.tc : Thread Cert.RmsbRefIdeal.nD Cert.RmsbRefIdeal.τ).loc Cert.RmsbRefIdeal.main_arg1)
      ∧ r.2.mem ((c.tc : Thread Cert.RmsbRefIdeal.nD Cert.RmsbRefIdeal.τ).loc Cert.RmsbRefIdeal.main_arg2) = m ((c.tc : Thread Cert.RmsbRefIdeal.nD Cert.RmsbRefIdeal.τ).loc Cert.RmsbRefIdeal.main_arg2)
      ∧ r.2.mem ((c.tc : Thread Cert.RmsbRefIdeal.nD Cert.RmsbRefIdeal.τ).loc Cert.RmsbRefIdeal.main_arg3) = m ((c.tc : Thread Cert.RmsbRefIdeal.nD Cert.RmsbRefIdeal.τ).loc Cert.RmsbRefIdeal.main_arg3))
      ∧ r.2.sem = fun _ => 0)

def quiescent_Mixb [hMixb : Cert.Mixb.Facts] : Prop :=
  ∀ (m : (ℓ : Loc Cert.Mixb.nD Cert.Mixb.τ Cert.Mixb.sig) → Buf (Elt Bits) ℓ) (g : Dev Cert.Mixb.nD → PrngReg), Pre_Mixb m →
    θ_run (Cert.Mixb.defs (F := Bits)) (onTc (τ := Cert.Mixb.τ) (Cert.Mixb.main (F := Bits))) ⟨m, fun _ => 0, g⟩ (fun r => (∀ c : Dev Cert.Mixb.nD,
      r.2.mem ((c.tc : Thread Cert.Mixb.nD Cert.Mixb.τ).loc Cert.Mixb.main_arg0) = m ((c.tc : Thread Cert.Mixb.nD Cert.Mixb.τ).loc Cert.Mixb.main_arg0)
      ∧ r.2.mem ((c.tc : Thread Cert.Mixb.nD Cert.Mixb.τ).loc Cert.Mixb.main_arg1) = m ((c.tc : Thread Cert.Mixb.nD Cert.Mixb.τ).loc Cert.Mixb.main_arg1)
      ∧ r.2.mem ((c.tc : Thread Cert.Mixb.nD Cert.Mixb.τ).loc Cert.Mixb.main_arg2) = m ((c.tc : Thread Cert.Mixb.nD Cert.Mixb.τ).loc Cert.Mixb.main_arg2)
      ∧ r.2.mem ((c.tc : Thread Cert.Mixb.nD Cert.Mixb.τ).loc Cert.Mixb.main_arg3) = m ((c.tc : Thread Cert.Mixb.nD Cert.Mixb.τ).loc Cert.Mixb.main_arg3))
      ∧ r.2.sem = fun _ => 0)

def quiescent_MixbIdeal [hMixbIdeal : Cert.MixbIdeal.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3))
      ∧ r.2.sem = fun _ => 0)

def quiescent_MixbRefIdeal [hMixbRefIdeal : Cert.MixbRefIdeal.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3))
      ∧ r.2.sem = fun _ => 0)

def quiescent_Gwba [hGwba : Cert.Gwba.Facts] : Prop :=
  ∀ (m : (ℓ : Loc Cert.Gwba.nD Cert.Gwba.τ Cert.Gwba.sig) → Buf (Elt Bits) ℓ) (g : Dev Cert.Gwba.nD → PrngReg), Pre_Gwba m →
    θ_run (Cert.Gwba.defs (F := Bits)) (onTc (τ := Cert.Gwba.τ) (Cert.Gwba.main (F := Bits))) ⟨m, fun _ => 0, g⟩ (fun r => (∀ c : Dev Cert.Gwba.nD,
      r.2.mem ((c.tc : Thread Cert.Gwba.nD Cert.Gwba.τ).loc Cert.Gwba.main_arg0) = m ((c.tc : Thread Cert.Gwba.nD Cert.Gwba.τ).loc Cert.Gwba.main_arg0)
      ∧ r.2.mem ((c.tc : Thread Cert.Gwba.nD Cert.Gwba.τ).loc Cert.Gwba.main_arg1) = m ((c.tc : Thread Cert.Gwba.nD Cert.Gwba.τ).loc Cert.Gwba.main_arg1))
      ∧ r.2.sem = fun _ => 0)

def quiescent_GwbaIdeal [hGwbaIdeal : Cert.GwbaIdeal.Facts] : Prop :=
  ∀ (m : (ℓ : Loc Cert.GwbaIdeal.nD Cert.GwbaIdeal.τ Cert.GwbaIdeal.sig) → Buf (Elt Ideal) ℓ) (g : Dev Cert.GwbaIdeal.nD → PrngReg), Pre_GwbaIdeal m →
    θ_run (Cert.GwbaIdeal.defs (F := Ideal)) (onTc (τ := Cert.GwbaIdeal.τ) (Cert.GwbaIdeal.main (F := Ideal))) ⟨m, fun _ => 0, g⟩ (fun r => (∀ c : Dev Cert.GwbaIdeal.nD,
      r.2.mem ((c.tc : Thread Cert.GwbaIdeal.nD Cert.GwbaIdeal.τ).loc Cert.GwbaIdeal.main_arg0) = m ((c.tc : Thread Cert.GwbaIdeal.nD Cert.GwbaIdeal.τ).loc Cert.GwbaIdeal.main_arg0)
      ∧ r.2.mem ((c.tc : Thread Cert.GwbaIdeal.nD Cert.GwbaIdeal.τ).loc Cert.GwbaIdeal.main_arg1) = m ((c.tc : Thread Cert.GwbaIdeal.nD Cert.GwbaIdeal.τ).loc Cert.GwbaIdeal.main_arg1))
      ∧ r.2.sem = fun _ => 0)

def quiescent_GwbaRefIdeal [hGwbaRefIdeal : Cert.GwbaRefIdeal.Facts] : Prop :=
  ∀ (m : (ℓ : Loc Cert.GwbaRefIdeal.nD Cert.GwbaRefIdeal.τ Cert.GwbaRefIdeal.sig) → Buf (Elt Ideal) ℓ) (g : Dev Cert.GwbaRefIdeal.nD → PrngReg), Pre_GwbaRefIdeal m →
    θ_run (Cert.GwbaRefIdeal.defs (F := Ideal)) (onTc (τ := Cert.GwbaRefIdeal.τ) (Cert.GwbaRefIdeal.main (F := Ideal))) ⟨m, fun _ => 0, g⟩ (fun r => (∀ c : Dev Cert.GwbaRefIdeal.nD,
      r.2.mem ((c.tc : Thread Cert.GwbaRefIdeal.nD Cert.GwbaRefIdeal.τ).loc Cert.GwbaRefIdeal.main_arg0) = m ((c.tc : Thread Cert.GwbaRefIdeal.nD Cert.GwbaRefIdeal.τ).loc Cert.GwbaRefIdeal.main_arg0)
      ∧ r.2.mem ((c.tc : Thread Cert.GwbaRefIdeal.nD Cert.GwbaRefIdeal.τ).loc Cert.GwbaRefIdeal.main_arg1) = m ((c.tc : Thread Cert.GwbaRefIdeal.nD Cert.GwbaRefIdeal.τ).loc Cert.GwbaRefIdeal.main_arg1))
      ∧ r.2.sem = fun _ => 0)

def quiescent_Duba [hDuba : Cert.Duba.Facts] : Prop :=
  ∀ (m : (ℓ : Loc Cert.Duba.nD Cert.Duba.τ Cert.Duba.sig) → Buf (Elt Bits) ℓ) (g : Dev Cert.Duba.nD → PrngReg), Pre_Duba m →
    θ_run (Cert.Duba.defs (F := Bits)) (onTc (τ := Cert.Duba.τ) (Cert.Duba.main (F := Bits))) ⟨m, fun _ => 0, g⟩ (fun r => (∀ c : Dev Cert.Duba.nD,
      r.2.mem ((c.tc : Thread Cert.Duba.nD Cert.Duba.τ).loc Cert.Duba.main_arg0) = m ((c.tc : Thread Cert.Duba.nD Cert.Duba.τ).loc Cert.Duba.main_arg0)
      ∧ r.2.mem ((c.tc : Thread Cert.Duba.nD Cert.Duba.τ).loc Cert.Duba.main_arg1) = m ((c.tc : Thread Cert.Duba.nD Cert.Duba.τ).loc Cert.Duba.main_arg1))
      ∧ r.2.sem = fun _ => 0)

def quiescent_DubaIdeal [hDubaIdeal : Cert.DubaIdeal.Facts] : Prop :=
  ∀ (m : (ℓ : Loc Cert.DubaIdeal.nD Cert.DubaIdeal.τ Cert.DubaIdeal.sig) → Buf (Elt Ideal) ℓ) (g : Dev Cert.DubaIdeal.nD → PrngReg), Pre_DubaIdeal m →
    θ_run (Cert.DubaIdeal.defs (F := Ideal)) (onTc (τ := Cert.DubaIdeal.τ) (Cert.DubaIdeal.main (F := Ideal))) ⟨m, fun _ => 0, g⟩ (fun r => (∀ c : Dev Cert.DubaIdeal.nD,
      r.2.mem ((c.tc : Thread Cert.DubaIdeal.nD Cert.DubaIdeal.τ).loc Cert.DubaIdeal.main_arg0) = m ((c.tc : Thread Cert.DubaIdeal.nD Cert.DubaIdeal.τ).loc Cert.DubaIdeal.main_arg0)
      ∧ r.2.mem ((c.tc : Thread Cert.DubaIdeal.nD Cert.DubaIdeal.τ).loc Cert.DubaIdeal.main_arg1) = m ((c.tc : Thread Cert.DubaIdeal.nD Cert.DubaIdeal.τ).loc Cert.DubaIdeal.main_arg1))
      ∧ r.2.sem = fun _ => 0)

def quiescent_DubaRefIdeal [hDubaRefIdeal : Cert.DubaRefIdeal.Facts] : Prop :=
  ∀ (m : (ℓ : Loc Cert.DubaRefIdeal.nD Cert.DubaRefIdeal.τ Cert.DubaRefIdeal.sig) → Buf (Elt Ideal) ℓ) (g : Dev Cert.DubaRefIdeal.nD → PrngReg), Pre_DubaRefIdeal m →
    θ_run (Cert.DubaRefIdeal.defs (F := Ideal)) (onTc (τ := Cert.DubaRefIdeal.τ) (Cert.DubaRefIdeal.main (F := Ideal))) ⟨m, fun _ => 0, g⟩ (fun r => (∀ c : Dev Cert.DubaRefIdeal.nD,
      r.2.mem ((c.tc : Thread Cert.DubaRefIdeal.nD Cert.DubaRefIdeal.τ).loc Cert.DubaRefIdeal.main_arg0) = m ((c.tc : Thread Cert.DubaRefIdeal.nD Cert.DubaRefIdeal.τ).loc Cert.DubaRefIdeal.main_arg0)
      ∧ r.2.mem ((c.tc : Thread Cert.DubaRefIdeal.nD Cert.DubaRefIdeal.τ).loc Cert.DubaRefIdeal.main_arg1) = m ((c.tc : Thread Cert.DubaRefIdeal.nD Cert.DubaRefIdeal.τ).loc Cert.DubaRefIdeal.main_arg1))
      ∧ r.2.sem = fun _ => 0)

def quiescent_Ba [hBa : Cert.Ba.Facts] : Prop :=
  ∀ (m : (ℓ : Loc Cert.Ba.nD Cert.Ba.τ Cert.Ba.sig) → Buf (Elt Bits) ℓ) (g : Dev Cert.Ba.nD → PrngReg), Pre_Ba m →
    θ_run (Cert.Ba.defs (F := Bits)) (onTc (τ := Cert.Ba.τ) (Cert.Ba.main (F := Bits))) ⟨m, fun _ => 0, g⟩ (fun r => (∀ c : Dev Cert.Ba.nD,
      r.2.mem ((c.tc : Thread Cert.Ba.nD Cert.Ba.τ).loc Cert.Ba.main_arg0) = m ((c.tc : Thread Cert.Ba.nD Cert.Ba.τ).loc Cert.Ba.main_arg0)
      ∧ r.2.mem ((c.tc : Thread Cert.Ba.nD Cert.Ba.τ).loc Cert.Ba.main_arg1) = m ((c.tc : Thread Cert.Ba.nD Cert.Ba.τ).loc Cert.Ba.main_arg1))
      ∧ r.2.sem = fun _ => 0)

def quiescent_BaIdeal [hBaIdeal : Cert.BaIdeal.Facts] : Prop :=
  ∀ (m : (ℓ : Loc Cert.BaIdeal.nD Cert.BaIdeal.τ Cert.BaIdeal.sig) → Buf (Elt Ideal) ℓ) (g : Dev Cert.BaIdeal.nD → PrngReg), Pre_BaIdeal m →
    θ_run (Cert.BaIdeal.defs (F := Ideal)) (onTc (τ := Cert.BaIdeal.τ) (Cert.BaIdeal.main (F := Ideal))) ⟨m, fun _ => 0, g⟩ (fun r => (∀ c : Dev Cert.BaIdeal.nD,
      r.2.mem ((c.tc : Thread Cert.BaIdeal.nD Cert.BaIdeal.τ).loc Cert.BaIdeal.main_arg0) = m ((c.tc : Thread Cert.BaIdeal.nD Cert.BaIdeal.τ).loc Cert.BaIdeal.main_arg0)
      ∧ r.2.mem ((c.tc : Thread Cert.BaIdeal.nD Cert.BaIdeal.τ).loc Cert.BaIdeal.main_arg1) = m ((c.tc : Thread Cert.BaIdeal.nD Cert.BaIdeal.τ).loc Cert.BaIdeal.main_arg1))
      ∧ r.2.sem = fun _ => 0)

def quiescent_BaRefIdeal [hBaRefIdeal : Cert.BaRefIdeal.Facts] : Prop :=
  ∀ (m : (ℓ : Loc Cert.BaRefIdeal.nD Cert.BaRefIdeal.τ Cert.BaRefIdeal.sig) → Buf (Elt Ideal) ℓ) (g : Dev Cert.BaRefIdeal.nD → PrngReg), Pre_BaRefIdeal m →
    θ_run (Cert.BaRefIdeal.defs (F := Ideal)) (onTc (τ := Cert.BaRefIdeal.τ) (Cert.BaRefIdeal.main (F := Ideal))) ⟨m, fun _ => 0, g⟩ (fun r => (∀ c : Dev Cert.BaRefIdeal.nD,
      r.2.mem ((c.tc : Thread Cert.BaRefIdeal.nD Cert.BaRefIdeal.τ).loc Cert.BaRefIdeal.main_arg0) = m ((c.tc : Thread Cert.BaRefIdeal.nD Cert.BaRefIdeal.τ).loc Cert.BaRefIdeal.main_arg0)
      ∧ r.2.mem ((c.tc : Thread Cert.BaRefIdeal.nD Cert.BaRefIdeal.τ).loc Cert.BaRefIdeal.main_arg1) = m ((c.tc : Thread Cert.BaRefIdeal.nD Cert.BaRefIdeal.τ).loc Cert.BaRefIdeal.main_arg1))
      ∧ r.2.sem = fun _ => 0)

def preserves_Kernel_KernelIdeal : Prop :=
  IdealRules.named_const.Statement Cert.KernelIdeal.κ "log_slope" .f32 0xBEEC9820#32 ((-((8 * 12⁻¹) * (Real.log 2)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gwd_GwdIdeal : Prop :=
  True

def algebraic_GwdIdeal_GwdRefIdeal [hGwdIdeal : Cert.GwdIdeal.Facts] [hGwdRefIdeal : Cert.GwdRefIdeal.Facts] : Prop :=
  ∀ (m : (ℓ : Loc Cert.GwdIdeal.nD Cert.GwdIdeal.τ Cert.GwdIdeal.sig) → Buf (Elt Ideal) ℓ) (g : Dev Cert.GwdIdeal.nD → PrngReg)
    (m' : (ℓ : Loc Cert.GwdRefIdeal.nD Cert.GwdRefIdeal.τ Cert.GwdRefIdeal.sig) → Buf (Elt Ideal) ℓ) (g' : Dev Cert.GwdRefIdeal.nD → PrngReg), Pre_GwdIdeal m →
    (∀ c : Dev Cert.GwdIdeal.nD,
      m' ((c.tc : Thread Cert.GwdRefIdeal.nD Cert.GwdRefIdeal.τ).loc Cert.GwdRefIdeal.main_arg0) = m ((c.tc : Thread Cert.GwdIdeal.nD Cert.GwdIdeal.τ).loc Cert.GwdIdeal.main_arg0)
      ∧ m' ((c.tc : Thread Cert.GwdRefIdeal.nD Cert.GwdRefIdeal.τ).loc Cert.GwdRefIdeal.main_arg1) = m ((c.tc : Thread Cert.GwdIdeal.nD Cert.GwdIdeal.τ).loc Cert.GwdIdeal.main_arg1)) →
    ∃ (v0 : (c : Dev Cert.GwdIdeal.nD) → Buf (Elt Ideal) ((c.tc : Thread Cert.GwdIdeal.nD Cert.GwdIdeal.τ).loc Cert.GwdIdeal.main_v0)),
      θ_run (Cert.GwdIdeal.defs (F := Ideal)) (onTc (τ := Cert.GwdIdeal.τ) (Cert.GwdIdeal.main (F := Ideal))) ⟨m, fun _ => 0, g⟩ (fun r => ∀ c : Dev Cert.GwdIdeal.nD,
          r.2.mem ((c.tc : Thread Cert.GwdIdeal.nD Cert.GwdIdeal.τ).loc Cert.GwdIdeal.main_v0) = v0 c
          ∧ r.2.mem ((c.tc : Thread Cert.GwdIdeal.nD Cert.GwdIdeal.τ).loc Cert.GwdIdeal.main_arg0) = m ((c.tc : Thread Cert.GwdIdeal.nD Cert.GwdIdeal.τ).loc Cert.GwdIdeal.main_arg0)
          ∧ r.2.mem ((c.tc : Thread Cert.GwdIdeal.nD Cert.GwdIdeal.τ).loc Cert.GwdIdeal.main_arg1) = m ((c.tc : Thread Cert.GwdIdeal.nD Cert.GwdIdeal.τ).loc Cert.GwdIdeal.main_arg1))
      ∧ θ_run (Cert.GwdRefIdeal.defs (F := Ideal)) (onTc (τ := Cert.GwdRefIdeal.τ) (Cert.GwdRefIdeal.main (F := Ideal))) ⟨m', fun _ => 0, g'⟩ (fun r => ∀ c : Dev Cert.GwdRefIdeal.nD,
          r.2.mem ((c.tc : Thread Cert.GwdRefIdeal.nD Cert.GwdRefIdeal.τ).loc Cert.GwdRefIdeal.main_v10) = v0 c
          ∧ r.2.mem ((c.tc : Thread Cert.GwdRefIdeal.nD Cert.GwdRefIdeal.τ).loc Cert.GwdRefIdeal.main_arg0) = m' ((c.tc : Thread Cert.GwdRefIdeal.nD Cert.GwdRefIdeal.τ).loc Cert.GwdRefIdeal.main_arg0)
          ∧ r.2.mem ((c.tc : Thread Cert.GwdRefIdeal.nD Cert.GwdRefIdeal.τ).loc Cert.GwdRefIdeal.main_arg1) = m' ((c.tc : Thread Cert.GwdRefIdeal.nD Cert.GwdRefIdeal.τ).loc Cert.GwdRefIdeal.main_arg1))

def preserves_Gwgu_GwguIdeal : Prop :=
  True

def algebraic_GwguIdeal_GwguRefIdeal [hGwguIdeal : Cert.GwguIdeal.Facts] [hGwguRefIdeal : Cert.GwguRefIdeal.Facts] : Prop :=
  ∀ (m : (ℓ : Loc Cert.GwguIdeal.nD Cert.GwguIdeal.τ Cert.GwguIdeal.sig) → Buf (Elt Ideal) ℓ) (g : Dev Cert.GwguIdeal.nD → PrngReg)
    (m' : (ℓ : Loc Cert.GwguRefIdeal.nD Cert.GwguRefIdeal.τ Cert.GwguRefIdeal.sig) → Buf (Elt Ideal) ℓ) (g' : Dev Cert.GwguRefIdeal.nD → PrngReg), Pre_GwguIdeal m →
    (∀ c : Dev Cert.GwguIdeal.nD,
      m' ((c.tc : Thread Cert.GwguRefIdeal.nD Cert.GwguRefIdeal.τ).loc Cert.GwguRefIdeal.main_arg0) = m ((c.tc : Thread Cert.GwguIdeal.nD Cert.GwguIdeal.τ).loc Cert.GwguIdeal.main_arg0)
      ∧ m' ((c.tc : Thread Cert.GwguRefIdeal.nD Cert.GwguRefIdeal.τ).loc Cert.GwguRefIdeal.main_arg1) = m ((c.tc : Thread Cert.GwguIdeal.nD Cert.GwguIdeal.τ).loc Cert.GwguIdeal.main_arg1)) →
    ∃ (v0 : (c : Dev Cert.GwguIdeal.nD) → Buf (Elt Ideal) ((c.tc : Thread Cert.GwguIdeal.nD Cert.GwguIdeal.τ).loc Cert.GwguIdeal.main_v0)),
      θ_run (Cert.GwguIdeal.defs (F := Ideal)) (onTc (τ := Cert.GwguIdeal.τ) (Cert.GwguIdeal.main (F := Ideal))) ⟨m, fun _ => 0, g⟩ (fun r => ∀ c : Dev Cert.GwguIdeal.nD,
          r.2.mem ((c.tc : Thread Cert.GwguIdeal.nD Cert.GwguIdeal.τ).loc Cert.GwguIdeal.main_v0) = v0 c
          ∧ r.2.mem ((c.tc : Thread Cert.GwguIdeal.nD Cert.GwguIdeal.τ).loc Cert.GwguIdeal.main_arg0) = m ((c.tc : Thread Cert.GwguIdeal.nD Cert.GwguIdeal.τ).loc Cert.GwguIdeal.main_arg0)
          ∧ r.2.mem ((c.tc : Thread Cert.GwguIdeal.nD Cert.GwguIdeal.τ).loc Cert.GwguIdeal.main_arg1) = m ((c.tc : Thread Cert.GwguIdeal.nD Cert.GwguIdeal.τ).loc Cert.GwguIdeal.main_arg1))
      ∧ θ_run (Cert.GwguRefIdeal.defs (F := Ideal)) (onTc (τ := Cert.GwguRefIdeal.τ) (Cert.GwguRefIdeal.main (F := Ideal))) ⟨m', fun _ => 0, g'⟩ (fun r => ∀ c : Dev Cert.GwguRefIdeal.nD,
          r.2.mem ((c.tc : Thread Cert.GwguRefIdeal.nD Cert.GwguRefIdeal.τ).loc Cert.GwguRefIdeal.main_v6) = v0 c
          ∧ r.2.mem ((c.tc : Thread Cert.GwguRefIdeal.nD Cert.GwguRefIdeal.τ).loc Cert.GwguRefIdeal.main_arg0) = m' ((c.tc : Thread Cert.GwguRefIdeal.nD Cert.GwguRefIdeal.τ).loc Cert.GwguRefIdeal.main_arg0)
          ∧ r.2.mem ((c.tc : Thread Cert.GwguRefIdeal.nD Cert.GwguRefIdeal.τ).loc Cert.GwguRefIdeal.main_arg1) = m' ((c.tc : Thread Cert.GwguRefIdeal.nD Cert.GwguRefIdeal.τ).loc Cert.GwguRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v4) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dgu_DguIdeal : Prop :=
  True

def algebraic_DguIdeal_DguRefIdeal [hDguIdeal : Cert.DguIdeal.Facts] [hDguRefIdeal : Cert.DguRefIdeal.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)) →
    ∃ (v0 : (c : Dev Cert.DguIdeal.nD) → Buf (Elt Ideal) ((c.tc : Thread Cert.DguIdeal.nD Cert.DguIdeal.τ).loc Cert.DguIdeal.main_v0)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v0) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v12) = v0 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1))

def preserves_Gwb_GwbIdeal : Prop :=
  True

def algebraic_GwbIdeal_GwbRefIdeal [hGwbIdeal : Cert.GwbIdeal.Facts] [hGwbRefIdeal : Cert.GwbRefIdeal.Facts] : Prop :=
  ∀ (m : (ℓ : Loc Cert.GwbIdeal.nD Cert.GwbIdeal.τ Cert.GwbIdeal.sig) → Buf (Elt Ideal) ℓ) (g : Dev Cert.GwbIdeal.nD → PrngReg)
    (m' : (ℓ : Loc Cert.GwbRefIdeal.nD Cert.GwbRefIdeal.τ Cert.GwbRefIdeal.sig) → Buf (Elt Ideal) ℓ) (g' : Dev Cert.GwbRefIdeal.nD → PrngReg), Pre_GwbIdeal m →
    (∀ c : Dev Cert.GwbIdeal.nD,
      m' ((c.tc : Thread Cert.GwbRefIdeal.nD Cert.GwbRefIdeal.τ).loc Cert.GwbRefIdeal.main_arg0) = m ((c.tc : Thread Cert.GwbIdeal.nD Cert.GwbIdeal.τ).loc Cert.GwbIdeal.main_arg0)
      ∧ m' ((c.tc : Thread Cert.GwbRefIdeal.nD Cert.GwbRefIdeal.τ).loc Cert.GwbRefIdeal.main_arg1) = m ((c.tc : Thread Cert.GwbIdeal.nD Cert.GwbIdeal.τ).loc Cert.GwbIdeal.main_arg1)
      ∧ m' ((c.tc : Thread Cert.GwbRefIdeal.nD Cert.GwbRefIdeal.τ).loc Cert.GwbRefIdeal.main_arg2) = m ((c.tc : Thread Cert.GwbIdeal.nD Cert.GwbIdeal.τ).loc Cert.GwbIdeal.main_arg2)
      ∧ m' ((c.tc : Thread Cert.GwbRefIdeal.nD Cert.GwbRefIdeal.τ).loc Cert.GwbRefIdeal.main_arg3) = m ((c.tc : Thread Cert.GwbIdeal.nD Cert.GwbIdeal.τ).loc Cert.GwbIdeal.main_arg3)) →
    ∃ (v0 : (c : Dev Cert.GwbIdeal.nD) → Buf (Elt Ideal) ((c.tc : Thread Cert.GwbIdeal.nD Cert.GwbIdeal.τ).loc Cert.GwbIdeal.main_v0)),
      θ_run (Cert.GwbIdeal.defs (F := Ideal)) (onTc (τ := Cert.GwbIdeal.τ) (Cert.GwbIdeal.main (F := Ideal))) ⟨m, fun _ => 0, g⟩ (fun r => ∀ c : Dev Cert.GwbIdeal.nD,
          r.2.mem ((c.tc : Thread Cert.GwbIdeal.nD Cert.GwbIdeal.τ).loc Cert.GwbIdeal.main_v0) = v0 c
          ∧ r.2.mem ((c.tc : Thread Cert.GwbIdeal.nD Cert.GwbIdeal.τ).loc Cert.GwbIdeal.main_arg0) = m ((c.tc : Thread Cert.GwbIdeal.nD Cert.GwbIdeal.τ).loc Cert.GwbIdeal.main_arg0)
          ∧ r.2.mem ((c.tc : Thread Cert.GwbIdeal.nD Cert.GwbIdeal.τ).loc Cert.GwbIdeal.main_arg1) = m ((c.tc : Thread Cert.GwbIdeal.nD Cert.GwbIdeal.τ).loc Cert.GwbIdeal.main_arg1)
          ∧ r.2.mem ((c.tc : Thread Cert.GwbIdeal.nD Cert.GwbIdeal.τ).loc Cert.GwbIdeal.main_arg2) = m ((c.tc : Thread Cert.GwbIdeal.nD Cert.GwbIdeal.τ).loc Cert.GwbIdeal.main_arg2)
          ∧ r.2.mem ((c.tc : Thread Cert.GwbIdeal.nD Cert.GwbIdeal.τ).loc Cert.GwbIdeal.main_arg3) = m ((c.tc : Thread Cert.GwbIdeal.nD Cert.GwbIdeal.τ).loc Cert.GwbIdeal.main_arg3))
      ∧ θ_run (Cert.GwbRefIdeal.defs (F := Ideal)) (onTc (τ := Cert.GwbRefIdeal.τ) (Cert.GwbRefIdeal.main (F := Ideal))) ⟨m', fun _ => 0, g'⟩ (fun r => ∀ c : Dev Cert.GwbRefIdeal.nD,
          r.2.mem ((c.tc : Thread Cert.GwbRefIdeal.nD Cert.GwbRefIdeal.τ).loc Cert.GwbRefIdeal.main_v12) = v0 c
          ∧ r.2.mem ((c.tc : Thread Cert.GwbRefIdeal.nD Cert.GwbRefIdeal.τ).loc Cert.GwbRefIdeal.main_arg0) = m' ((c.tc : Thread Cert.GwbRefIdeal.nD Cert.GwbRefIdeal.τ).loc Cert.GwbRefIdeal.main_arg0)
          ∧ r.2.mem ((c.tc : Thread Cert.GwbRefIdeal.nD Cert.GwbRefIdeal.τ).loc Cert.GwbRefIdeal.main_arg1) = m' ((c.tc : Thread Cert.GwbRefIdeal.nD Cert.GwbRefIdeal.τ).loc Cert.GwbRefIdeal.main_arg1)
          ∧ r.2.mem ((c.tc : Thread Cert.GwbRefIdeal.nD Cert.GwbRefIdeal.τ).loc Cert.GwbRefIdeal.main_arg2) = m' ((c.tc : Thread Cert.GwbRefIdeal.nD Cert.GwbRefIdeal.τ).loc Cert.GwbRefIdeal.main_arg2)
          ∧ r.2.mem ((c.tc : Thread Cert.GwbRefIdeal.nD Cert.GwbRefIdeal.τ).loc Cert.GwbRefIdeal.main_arg3) = m' ((c.tc : Thread Cert.GwbRefIdeal.nD Cert.GwbRefIdeal.τ).loc Cert.GwbRefIdeal.main_arg3))

def preserves_Dub_DubIdeal : Prop :=
  True

def algebraic_DubIdeal_DubRefIdeal [hDubIdeal : Cert.DubIdeal.Facts] [hDubRefIdeal : Cert.DubRefIdeal.Facts] : Prop :=
  ∀ (m : (ℓ : Loc Cert.DubIdeal.nD Cert.DubIdeal.τ Cert.DubIdeal.sig) → Buf (Elt Ideal) ℓ) (g : Dev Cert.DubIdeal.nD → PrngReg)
    (m' : (ℓ : Loc Cert.DubRefIdeal.nD Cert.DubRefIdeal.τ Cert.DubRefIdeal.sig) → Buf (Elt Ideal) ℓ) (g' : Dev Cert.DubRefIdeal.nD → PrngReg), Pre_DubIdeal m →
    (∀ c : Dev Cert.DubIdeal.nD,
      m' ((c.tc : Thread Cert.DubRefIdeal.nD Cert.DubRefIdeal.τ).loc Cert.DubRefIdeal.main_arg0) = m ((c.tc : Thread Cert.DubIdeal.nD Cert.DubIdeal.τ).loc Cert.DubIdeal.main_arg0)
      ∧ m' ((c.tc : Thread Cert.DubRefIdeal.nD Cert.DubRefIdeal.τ).loc Cert.DubRefIdeal.main_arg1) = m ((c.tc : Thread Cert.DubIdeal.nD Cert.DubIdeal.τ).loc Cert.DubIdeal.main_arg1)
      ∧ m' ((c.tc : Thread Cert.DubRefIdeal.nD Cert.DubRefIdeal.τ).loc Cert.DubRefIdeal.main_arg2) = m ((c.tc : Thread Cert.DubIdeal.nD Cert.DubIdeal.τ).loc Cert.DubIdeal.main_arg2)
      ∧ m' ((c.tc : Thread Cert.DubRefIdeal.nD Cert.DubRefIdeal.τ).loc Cert.DubRefIdeal.main_arg3) = m ((c.tc : Thread Cert.DubIdeal.nD Cert.DubIdeal.τ).loc Cert.DubIdeal.main_arg3)
      ∧ m' ((c.tc : Thread Cert.DubRefIdeal.nD Cert.DubRefIdeal.τ).loc Cert.DubRefIdeal.main_arg4) = m ((c.tc : Thread Cert.DubIdeal.nD Cert.DubIdeal.τ).loc Cert.DubIdeal.main_arg4)) →
    ∃ (v0 : (c : Dev Cert.DubIdeal.nD) → Buf (Elt Ideal) ((c.tc : Thread Cert.DubIdeal.nD Cert.DubIdeal.τ).loc Cert.DubIdeal.main_v0)),
      θ_run (Cert.DubIdeal.defs (F := Ideal)) (onTc (τ := Cert.DubIdeal.τ) (Cert.DubIdeal.main (F := Ideal))) ⟨m, fun _ => 0, g⟩ (fun r => ∀ c : Dev Cert.DubIdeal.nD,
          r.2.mem ((c.tc : Thread Cert.DubIdeal.nD Cert.DubIdeal.τ).loc Cert.DubIdeal.main_v0) = v0 c
          ∧ r.2.mem ((c.tc : Thread Cert.DubIdeal.nD Cert.DubIdeal.τ).loc Cert.DubIdeal.main_arg0) = m ((c.tc : Thread Cert.DubIdeal.nD Cert.DubIdeal.τ).loc Cert.DubIdeal.main_arg0)
          ∧ r.2.mem ((c.tc : Thread Cert.DubIdeal.nD Cert.DubIdeal.τ).loc Cert.DubIdeal.main_arg1) = m ((c.tc : Thread Cert.DubIdeal.nD Cert.DubIdeal.τ).loc Cert.DubIdeal.main_arg1)
          ∧ r.2.mem ((c.tc : Thread Cert.DubIdeal.nD Cert.DubIdeal.τ).loc Cert.DubIdeal.main_arg2) = m ((c.tc : Thread Cert.DubIdeal.nD Cert.DubIdeal.τ).loc Cert.DubIdeal.main_arg2)
          ∧ r.2.mem ((c.tc : Thread Cert.DubIdeal.nD Cert.DubIdeal.τ).loc Cert.DubIdeal.main_arg3) = m ((c.tc : Thread Cert.DubIdeal.nD Cert.DubIdeal.τ).loc Cert.DubIdeal.main_arg3)
          ∧ r.2.mem ((c.tc : Thread Cert.DubIdeal.nD Cert.DubIdeal.τ).loc Cert.DubIdeal.main_arg4) = m ((c.tc : Thread Cert.DubIdeal.nD Cert.DubIdeal.τ).loc Cert.DubIdeal.main_arg4))
      ∧ θ_run (Cert.DubRefIdeal.defs (F := Ideal)) (onTc (τ := Cert.DubRefIdeal.τ) (Cert.DubRefIdeal.main (F := Ideal))) ⟨m', fun _ => 0, g'⟩ (fun r => ∀ c : Dev Cert.DubRefIdeal.nD,
          r.2.mem ((c.tc : Thread Cert.DubRefIdeal.nD Cert.DubRefIdeal.τ).loc Cert.DubRefIdeal.main_v11) = v0 c
          ∧ r.2.mem ((c.tc : Thread Cert.DubRefIdeal.nD Cert.DubRefIdeal.τ).loc Cert.DubRefIdeal.main_arg0) = m' ((c.tc : Thread Cert.DubRefIdeal.nD Cert.DubRefIdeal.τ).loc Cert.DubRefIdeal.main_arg0)
          ∧ r.2.mem ((c.tc : Thread Cert.DubRefIdeal.nD Cert.DubRefIdeal.τ).loc Cert.DubRefIdeal.main_arg1) = m' ((c.tc : Thread Cert.DubRefIdeal.nD Cert.DubRefIdeal.τ).loc Cert.DubRefIdeal.main_arg1)
          ∧ r.2.mem ((c.tc : Thread Cert.DubRefIdeal.nD Cert.DubRefIdeal.τ).loc Cert.DubRefIdeal.main_arg2) = m' ((c.tc : Thread Cert.DubRefIdeal.nD Cert.DubRefIdeal.τ).loc Cert.DubRefIdeal.main_arg2)
          ∧ r.2.mem ((c.tc : Thread Cert.DubRefIdeal.nD Cert.DubRefIdeal.τ).loc Cert.DubRefIdeal.main_arg3) = m' ((c.tc : Thread Cert.DubRefIdeal.nD Cert.DubRefIdeal.τ).loc Cert.DubRefIdeal.main_arg3)
          ∧ r.2.mem ((c.tc : Thread Cert.DubRefIdeal.nD Cert.DubRefIdeal.τ).loc Cert.DubRefIdeal.main_arg4) = m' ((c.tc : Thread Cert.DubRefIdeal.nD Cert.DubRefIdeal.τ).loc Cert.DubRefIdeal.main_arg4))

def preserves_Gwout_GwoutIdeal : Prop :=
  True

def algebraic_GwoutIdeal_GwoutRefIdeal [hGwoutIdeal : Cert.GwoutIdeal.Facts] [hGwoutRefIdeal : Cert.GwoutRefIdeal.Facts] : Prop :=
  ∀ (m : (ℓ : Loc Cert.GwoutIdeal.nD Cert.GwoutIdeal.τ Cert.GwoutIdeal.sig) → Buf (Elt Ideal) ℓ) (g : Dev Cert.GwoutIdeal.nD → PrngReg)
    (m' : (ℓ : Loc Cert.GwoutRefIdeal.nD Cert.GwoutRefIdeal.τ Cert.GwoutRefIdeal.sig) → Buf (Elt Ideal) ℓ) (g' : Dev Cert.GwoutRefIdeal.nD → PrngReg), Pre_GwoutIdeal m →
    (∀ c : Dev Cert.GwoutIdeal.nD,
      m' ((c.tc : Thread Cert.GwoutRefIdeal.nD Cert.GwoutRefIdeal.τ).loc Cert.GwoutRefIdeal.main_arg0) = m ((c.tc : Thread Cert.GwoutIdeal.nD Cert.GwoutIdeal.τ).loc Cert.GwoutIdeal.main_arg0)
      ∧ m' ((c.tc : Thread Cert.GwoutRefIdeal.nD Cert.GwoutRefIdeal.τ).loc Cert.GwoutRefIdeal.main_arg1) = m ((c.tc : Thread Cert.GwoutIdeal.nD Cert.GwoutIdeal.τ).loc Cert.GwoutIdeal.main_arg1)) →
    ∃ (v0 : (c : Dev Cert.GwoutIdeal.nD) → Buf (Elt Ideal) ((c.tc : Thread Cert.GwoutIdeal.nD Cert.GwoutIdeal.τ).loc Cert.GwoutIdeal.main_v0)),
      θ_run (Cert.GwoutIdeal.defs (F := Ideal)) (onTc (τ := Cert.GwoutIdeal.τ) (Cert.GwoutIdeal.main (F := Ideal))) ⟨m, fun _ => 0, g⟩ (fun r => ∀ c : Dev Cert.GwoutIdeal.nD,
          r.2.mem ((c.tc : Thread Cert.GwoutIdeal.nD Cert.GwoutIdeal.τ).loc Cert.GwoutIdeal.main_v0) = v0 c
          ∧ r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
          ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ θ_run (Cert.GwoutRefIdeal.defs (F := Ideal)) (onTc (τ := Cert.GwoutRefIdeal.τ) (Cert.GwoutRefIdeal.main (F := Ideal))) ⟨m', fun _ => 0, g'⟩ (fun r => ∀ c : Dev Cert.GwoutRefIdeal.nD,
          r.2.mem ((c.tc : Thread Cert.GwoutRefIdeal.nD Cert.GwoutRefIdeal.τ).loc Cert.GwoutRefIdeal.main_v5) = v0 c
          ∧ r.2.mem ((c.tc : Thread Cert.GwoutRefIdeal.nD Cert.GwoutRefIdeal.τ).loc Cert.GwoutRefIdeal.main_arg0) = m' ((c.tc : Thread Cert.GwoutRefIdeal.nD Cert.GwoutRefIdeal.τ).loc Cert.GwoutRefIdeal.main_arg0)
          ∧ r.2.mem ((c.tc : Thread Cert.GwoutRefIdeal.nD Cert.GwoutRefIdeal.τ).loc Cert.GwoutRefIdeal.main_arg1) = m' ((c.tc : Thread Cert.GwoutRefIdeal.nD Cert.GwoutRefIdeal.τ).loc Cert.GwoutRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v4) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Gwpd_GwpdIdeal : Prop :=
  True

def algebraic_GwpdIdeal_GwpdRefIdeal [hGwpdIdeal : Cert.GwpdIdeal.Facts] [hGwpdRefIdeal : Cert.GwpdRefIdeal.Facts] : Prop :=
  ∀ (m : (ℓ : Loc Cert.GwpdIdeal.nD Cert.GwpdIdeal.τ Cert.GwpdIdeal.sig) → Buf (Elt Ideal) ℓ) (g : Dev Cert.GwpdIdeal.nD → PrngReg)
    (m' : (ℓ : Loc Cert.GwpdRefIdeal.nD Cert.GwpdRefIdeal.τ Cert.GwpdRefIdeal.sig) → Buf (Elt Ideal) ℓ) (g' : Dev Cert.GwpdRefIdeal.nD → PrngReg), Pre_GwpdIdeal m →
    (∀ c : Dev Cert.GwpdIdeal.nD,
      m' ((c.tc : Thread Cert.GwpdRefIdeal.nD Cert.GwpdRefIdeal.τ).loc Cert.GwpdRefIdeal.main_arg0) = m ((c.tc : Thread Cert.GwpdIdeal.nD Cert.GwpdIdeal.τ).loc Cert.GwpdIdeal.main_arg0)
      ∧ m' ((c.tc : Thread Cert.GwpdRefIdeal.nD Cert.GwpdRefIdeal.τ).loc Cert.GwpdRefIdeal.main_arg1) = m ((c.tc : Thread Cert.GwpdIdeal.nD Cert.GwpdIdeal.τ).loc Cert.GwpdIdeal.main_arg1)) →
    ∃ (v0 : (c : Dev Cert.GwpdIdeal.nD) → Buf (Elt Ideal) ((c.tc : Thread Cert.GwpdIdeal.nD Cert.GwpdIdeal.τ).loc Cert.GwpdIdeal.main_v0)),
      θ_run (Cert.GwpdIdeal.defs (F := Ideal)) (onTc (τ := Cert.GwpdIdeal.τ) (Cert.GwpdIdeal.main (F := Ideal))) ⟨m, fun _ => 0, g⟩ (fun r => ∀ c : Dev Cert.GwpdIdeal.nD,
          r.2.mem ((c.tc : Thread Cert.GwpdIdeal.nD Cert.GwpdIdeal.τ).loc Cert.GwpdIdeal.main_v0) = v0 c
          ∧ r.2.mem ((c.tc : Thread Cert.GwpdIdeal.nD Cert.GwpdIdeal.τ).loc Cert.GwpdIdeal.main_arg0) = m ((c.tc : Thread Cert.GwpdIdeal.nD Cert.GwpdIdeal.τ).loc Cert.GwpdIdeal.main_arg0)
          ∧ r.2.mem ((c.tc : Thread Cert.GwpdIdeal.nD Cert.GwpdIdeal.τ).loc Cert.GwpdIdeal.main_arg1) = m ((c.tc : Thread Cert.GwpdIdeal.nD Cert.GwpdIdeal.τ).loc Cert.GwpdIdeal.main_arg1))
      ∧ θ_run (Cert.GwpdRefIdeal.defs (F := Ideal)) (onTc (τ := Cert.GwpdRefIdeal.τ) (Cert.GwpdRefIdeal.main (F := Ideal))) ⟨m', fun _ => 0, g'⟩ (fun r => ∀ c : Dev Cert.GwpdRefIdeal.nD,
          r.2.mem ((c.tc : Thread Cert.GwpdRefIdeal.nD Cert.GwpdRefIdeal.τ).loc Cert.GwpdRefIdeal.main_v6) = v0 c
          ∧ r.2.mem ((c.tc : Thread Cert.GwpdRefIdeal.nD Cert.GwpdRefIdeal.τ).loc Cert.GwpdRefIdeal.main_arg0) = m' ((c.tc : Thread Cert.GwpdRefIdeal.nD Cert.GwpdRefIdeal.τ).loc Cert.GwpdRefIdeal.main_arg0)
          ∧ r.2.mem ((c.tc : Thread Cert.GwpdRefIdeal.nD Cert.GwpdRefIdeal.τ).loc Cert.GwpdRefIdeal.main_arg1) = m' ((c.tc : Thread Cert.GwpdRefIdeal.nD Cert.GwpdRefIdeal.τ).loc Cert.GwpdRefIdeal.main_arg1))

def preserves_Dod_DodIdeal : Prop :=
  True

def algebraic_DodIdeal_DodRefIdeal [hDodIdeal : Cert.DodIdeal.Facts] [hDodRefIdeal : Cert.DodRefIdeal.Facts] : Prop :=
  ∀ (m : (ℓ : Loc Cert.DodIdeal.nD Cert.DodIdeal.τ Cert.DodIdeal.sig) → Buf (Elt Ideal) ℓ) (g : Dev Cert.DodIdeal.nD → PrngReg)
    (m' : (ℓ : Loc Cert.DodRefIdeal.nD Cert.DodRefIdeal.τ Cert.DodRefIdeal.sig) → Buf (Elt Ideal) ℓ) (g' : Dev Cert.DodRefIdeal.nD → PrngReg), Pre_DodIdeal m →
    (∀ c : Dev Cert.DodIdeal.nD,
      m' ((c.tc : Thread Cert.DodRefIdeal.nD Cert.DodRefIdeal.τ).loc Cert.DodRefIdeal.main_arg0) = m ((c.tc : Thread Cert.DodIdeal.nD Cert.DodIdeal.τ).loc Cert.DodIdeal.main_arg0)
      ∧ m' ((c.tc : Thread Cert.DodRefIdeal.nD Cert.DodRefIdeal.τ).loc Cert.DodRefIdeal.main_arg1) = m ((c.tc : Thread Cert.DodIdeal.nD Cert.DodIdeal.τ).loc Cert.DodIdeal.main_arg1)) →
    ∃ (v0 : (c : Dev Cert.DodIdeal.nD) → Buf (Elt Ideal) ((c.tc : Thread Cert.DodIdeal.nD Cert.DodIdeal.τ).loc Cert.DodIdeal.main_v0)),
      θ_run (Cert.DodIdeal.defs (F := Ideal)) (onTc (τ := Cert.DodIdeal.τ) (Cert.DodIdeal.main (F := Ideal))) ⟨m, fun _ => 0, g⟩ (fun r => ∀ c : Dev Cert.DodIdeal.nD,
          r.2.mem ((c.tc : Thread Cert.DodIdeal.nD Cert.DodIdeal.τ).loc Cert.DodIdeal.main_v0) = v0 c
          ∧ r.2.mem ((c.tc : Thread Cert.DodIdeal.nD Cert.DodIdeal.τ).loc Cert.DodIdeal.main_arg0) = m ((c.tc : Thread Cert.DodIdeal.nD Cert.DodIdeal.τ).loc Cert.DodIdeal.main_arg0)
          ∧ r.2.mem ((c.tc : Thread Cert.DodIdeal.nD Cert.DodIdeal.τ).loc Cert.DodIdeal.main_arg1) = m ((c.tc : Thread Cert.DodIdeal.nD Cert.DodIdeal.τ).loc Cert.DodIdeal.main_arg1))
      ∧ θ_run (Cert.DodRefIdeal.defs (F := Ideal)) (onTc (τ := Cert.DodRefIdeal.τ) (Cert.DodRefIdeal.main (F := Ideal))) ⟨m', fun _ => 0, g'⟩ (fun r => ∀ c : Dev Cert.DodRefIdeal.nD,
          r.2.mem ((c.tc : Thread Cert.DodRefIdeal.nD Cert.DodRefIdeal.τ).loc Cert.DodRefIdeal.main_v5) = v0 c
          ∧ r.2.mem ((c.tc : Thread Cert.DodRefIdeal.nD Cert.DodRefIdeal.τ).loc Cert.DodRefIdeal.main_arg0) = m' ((c.tc : Thread Cert.DodRefIdeal.nD Cert.DodRefIdeal.τ).loc Cert.DodRefIdeal.main_arg0)
          ∧ r.2.mem ((c.tc : Thread Cert.DodRefIdeal.nD Cert.DodRefIdeal.τ).loc Cert.DodRefIdeal.main_arg1) = m' ((c.tc : Thread Cert.DodRefIdeal.nD Cert.DodRefIdeal.τ).loc Cert.DodRefIdeal.main_arg1))

def preserves_Gwpa_GwpaIdeal : Prop :=
  True

def algebraic_GwpaIdeal_GwpaRefIdeal [hGwpaIdeal : Cert.GwpaIdeal.Facts] [hGwpaRefIdeal : Cert.GwpaRefIdeal.Facts] : Prop :=
  ∀ (m : (ℓ : Loc Cert.GwpaIdeal.nD Cert.GwpaIdeal.τ Cert.GwpaIdeal.sig) → Buf (Elt Ideal) ℓ) (g : Dev Cert.GwpaIdeal.nD → PrngReg)
    (m' : (ℓ : Loc Cert.GwpaRefIdeal.nD Cert.GwpaRefIdeal.τ Cert.GwpaRefIdeal.sig) → Buf (Elt Ideal) ℓ) (g' : Dev Cert.GwpaRefIdeal.nD → PrngReg), Pre_GwpaIdeal m →
    (∀ c : Dev Cert.GwpaIdeal.nD,
      m' ((c.tc : Thread Cert.GwpaRefIdeal.nD Cert.GwpaRefIdeal.τ).loc Cert.GwpaRefIdeal.main_arg0) = m ((c.tc : Thread Cert.GwpaIdeal.nD Cert.GwpaIdeal.τ).loc Cert.GwpaIdeal.main_arg0)
      ∧ m' ((c.tc : Thread Cert.GwpaRefIdeal.nD Cert.GwpaRefIdeal.τ).loc Cert.GwpaRefIdeal.main_arg1) = m ((c.tc : Thread Cert.GwpaIdeal.nD Cert.GwpaIdeal.τ).loc Cert.GwpaIdeal.main_arg1)) →
    ∃ (v0 : (c : Dev Cert.GwpaIdeal.nD) → Buf (Elt Ideal) ((c.tc : Thread Cert.GwpaIdeal.nD Cert.GwpaIdeal.τ).loc Cert.GwpaIdeal.main_v0)),
      θ_run (Cert.GwpaIdeal.defs (F := Ideal)) (onTc (τ := Cert.GwpaIdeal.τ) (Cert.GwpaIdeal.main (F := Ideal))) ⟨m, fun _ => 0, g⟩ (fun r => ∀ c : Dev Cert.GwpaIdeal.nD,
          r.2.mem ((c.tc : Thread Cert.GwpaIdeal.nD Cert.GwpaIdeal.τ).loc Cert.GwpaIdeal.main_v0) = v0 c
          ∧ r.2.mem ((c.tc : Thread Cert.GwpaIdeal.nD Cert.GwpaIdeal.τ).loc Cert.GwpaIdeal.main_arg0) = m ((c.tc : Thread Cert.GwpaIdeal.nD Cert.GwpaIdeal.τ).loc Cert.GwpaIdeal.main_arg0)
          ∧ r.2.mem ((c.tc : Thread Cert.GwpaIdeal.nD Cert.GwpaIdeal.τ).loc Cert.GwpaIdeal.main_arg1) = m ((c.tc : Thread Cert.GwpaIdeal.nD Cert.GwpaIdeal.τ).loc Cert.GwpaIdeal.main_arg1))
      ∧ θ_run (Cert.GwpaRefIdeal.defs (F := Ideal)) (onTc (τ := Cert.GwpaRefIdeal.τ) (Cert.GwpaRefIdeal.main (F := Ideal))) ⟨m', fun _ => 0, g'⟩ (fun r => ∀ c : Dev Cert.GwpaRefIdeal.nD,
          r.2.mem ((c.tc : Thread Cert.GwpaRefIdeal.nD Cert.GwpaRefIdeal.τ).loc Cert.GwpaRefIdeal.main_v6) = v0 c
          ∧ r.2.mem ((c.tc : Thread Cert.GwpaRefIdeal.nD Cert.GwpaRefIdeal.τ).loc Cert.GwpaRefIdeal.main_arg0) = m' ((c.tc : Thread Cert.GwpaRefIdeal.nD Cert.GwpaRefIdeal.τ).loc Cert.GwpaRefIdeal.main_arg0)
          ∧ r.2.mem ((c.tc : Thread Cert.GwpaRefIdeal.nD Cert.GwpaRefIdeal.τ).loc Cert.GwpaRefIdeal.main_arg1) = m' ((c.tc : Thread Cert.GwpaRefIdeal.nD Cert.GwpaRefIdeal.τ).loc Cert.GwpaRefIdeal.main_arg1))

def preserves_Dyam_DyamIdeal : Prop :=
  True

def algebraic_DyamIdeal_DyamRefIdeal [hDyamIdeal : Cert.DyamIdeal.Facts] [hDyamRefIdeal : Cert.DyamRefIdeal.Facts] : Prop :=
  ∀ (m : (ℓ : Loc Cert.DyamIdeal.nD Cert.DyamIdeal.τ Cert.DyamIdeal.sig) → Buf (Elt Ideal) ℓ) (g : Dev Cert.DyamIdeal.nD → PrngReg)
    (m' : (ℓ : Loc Cert.DyamRefIdeal.nD Cert.DyamRefIdeal.τ Cert.DyamRefIdeal.sig) → Buf (Elt Ideal) ℓ) (g' : Dev Cert.DyamRefIdeal.nD → PrngReg), Pre_DyamIdeal m →
    (∀ c : Dev Cert.DyamIdeal.nD,
      m' ((c.tc : Thread Cert.DyamRefIdeal.nD Cert.DyamRefIdeal.τ).loc Cert.DyamRefIdeal.main_arg0) = m ((c.tc : Thread Cert.DyamIdeal.nD Cert.DyamIdeal.τ).loc Cert.DyamIdeal.main_arg0)
      ∧ m' ((c.tc : Thread Cert.DyamRefIdeal.nD Cert.DyamRefIdeal.τ).loc Cert.DyamRefIdeal.main_arg1) = m ((c.tc : Thread Cert.DyamIdeal.nD Cert.DyamIdeal.τ).loc Cert.DyamIdeal.main_arg1)) →
    ∃ (v0 : (c : Dev Cert.DyamIdeal.nD) → Buf (Elt Ideal) ((c.tc : Thread Cert.DyamIdeal.nD Cert.DyamIdeal.τ).loc Cert.DyamIdeal.main_v0)),
      θ_run (Cert.DyamIdeal.defs (F := Ideal)) (onTc (τ := Cert.DyamIdeal.τ) (Cert.DyamIdeal.main (F := Ideal))) ⟨m, fun _ => 0, g⟩ (fun r => ∀ c : Dev Cert.DyamIdeal.nD,
          r.2.mem ((c.tc : Thread Cert.DyamIdeal.nD Cert.DyamIdeal.τ).loc Cert.DyamIdeal.main_v0) = v0 c
          ∧ r.2.mem ((c.tc : Thread Cert.DyamIdeal.nD Cert.DyamIdeal.τ).loc Cert.DyamIdeal.main_arg0) = m ((c.tc : Thread Cert.DyamIdeal.nD Cert.DyamIdeal.τ).loc Cert.DyamIdeal.main_arg0)
          ∧ r.2.mem ((c.tc : Thread Cert.DyamIdeal.nD Cert.DyamIdeal.τ).loc Cert.DyamIdeal.main_arg1) = m ((c.tc : Thread Cert.DyamIdeal.nD Cert.DyamIdeal.τ).loc Cert.DyamIdeal.main_arg1))
      ∧ θ_run (Cert.DyamRefIdeal.defs (F := Ideal)) (onTc (τ := Cert.DyamRefIdeal.τ) (Cert.DyamRefIdeal.main (F := Ideal))) ⟨m', fun _ => 0, g'⟩ (fun r => ∀ c : Dev Cert.DyamRefIdeal.nD,
          r.2.mem ((c.tc : Thread Cert.DyamRefIdeal.nD Cert.DyamRefIdeal.τ).loc Cert.DyamRefIdeal.main_v5) = v0 c
          ∧ r.2.mem ((c.tc : Thread Cert.DyamRefIdeal.nD Cert.DyamRefIdeal.τ).loc Cert.DyamRefIdeal.main_arg0) = m' ((c.tc : Thread Cert.DyamRefIdeal.nD Cert.DyamRefIdeal.τ).loc Cert.DyamRefIdeal.main_arg0)
          ∧ r.2.mem ((c.tc : Thread Cert.DyamRefIdeal.nD Cert.DyamRefIdeal.τ).loc Cert.DyamRefIdeal.main_arg1) = m' ((c.tc : Thread Cert.DyamRefIdeal.nD Cert.DyamRefIdeal.τ).loc Cert.DyamRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v3) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Pd_PdIdeal : Prop :=
  True

def algebraic_PdIdeal_PdRefIdeal [hPdIdeal : Cert.PdIdeal.Facts] [hPdRefIdeal : Cert.PdRefIdeal.Facts] : Prop :=
  ∀ (m : (ℓ : Loc Cert.PdIdeal.nD Cert.PdIdeal.τ Cert.PdIdeal.sig) → Buf (Elt Ideal) ℓ) (g : Dev Cert.PdIdeal.nD → PrngReg)
    (m' : (ℓ : Loc Cert.PdRefIdeal.nD Cert.PdRefIdeal.τ Cert.PdRefIdeal.sig) → Buf (Elt Ideal) ℓ) (g' : Dev Cert.PdRefIdeal.nD → PrngReg), Pre_PdIdeal m →
    (∀ c : Dev Cert.PdIdeal.nD,
      m' ((c.tc : Thread Cert.PdRefIdeal.nD Cert.PdRefIdeal.τ).loc Cert.PdRefIdeal.main_arg0) = m ((c.tc : Thread Cert.PdIdeal.nD Cert.PdIdeal.τ).loc Cert.PdIdeal.main_arg0)
      ∧ m' ((c.tc : Thread Cert.PdRefIdeal.nD Cert.PdRefIdeal.τ).loc Cert.PdRefIdeal.main_arg1) = m ((c.tc : Thread Cert.PdIdeal.nD Cert.PdIdeal.τ).loc Cert.PdIdeal.main_arg1)) →
    ∃ (v0 : (c : Dev Cert.PdIdeal.nD) → Buf (Elt Ideal) ((c.tc : Thread Cert.PdIdeal.nD Cert.PdIdeal.τ).loc Cert.PdIdeal.main_v0)),
      θ_run (Cert.PdIdeal.defs (F := Ideal)) (onTc (τ := Cert.PdIdeal.τ) (Cert.PdIdeal.main (F := Ideal))) ⟨m, fun _ => 0, g⟩ (fun r => ∀ c : Dev Cert.PdIdeal.nD,
          r.2.mem ((c.tc : Thread Cert.PdIdeal.nD Cert.PdIdeal.τ).loc Cert.PdIdeal.main_v0) = v0 c
          ∧ r.2.mem ((c.tc : Thread Cert.PdIdeal.nD Cert.PdIdeal.τ).loc Cert.PdIdeal.main_arg0) = m ((c.tc : Thread Cert.PdIdeal.nD Cert.PdIdeal.τ).loc Cert.PdIdeal.main_arg0)
          ∧ r.2.mem ((c.tc : Thread Cert.PdIdeal.nD Cert.PdIdeal.τ).loc Cert.PdIdeal.main_arg1) = m ((c.tc : Thread Cert.PdIdeal.nD Cert.PdIdeal.τ).loc Cert.PdIdeal.main_arg1))
      ∧ θ_run (Cert.PdRefIdeal.defs (F := Ideal)) (onTc (τ := Cert.PdRefIdeal.τ) (Cert.PdRefIdeal.main (F := Ideal))) ⟨m', fun _ => 0, g'⟩ (fun r => ∀ c : Dev Cert.PdRefIdeal.nD,
          r.2.mem ((c.tc : Thread Cert.PdRefIdeal.nD Cert.PdRefIdeal.τ).loc Cert.PdRefIdeal.main_v3) = v0 c
          ∧ r.2.mem ((c.tc : Thread Cert.PdRefIdeal.nD Cert.PdRefIdeal.τ).loc Cert.PdRefIdeal.main_arg0) = m' ((c.tc : Thread Cert.PdRefIdeal.nD Cert.PdRefIdeal.τ).loc Cert.PdRefIdeal.main_arg0)
          ∧ r.2.mem ((c.tc : Thread Cert.PdRefIdeal.nD Cert.PdRefIdeal.τ).loc Cert.PdRefIdeal.main_arg1) = m' ((c.tc : Thread Cert.PdRefIdeal.nD Cert.PdRefIdeal.τ).loc Cert.PdRefIdeal.main_arg1))

def preserves_Pa_PaIdeal : Prop :=
  True

def algebraic_PaIdeal_PaRefIdeal [hPaIdeal : Cert.PaIdeal.Facts] [hPaRefIdeal : Cert.PaRefIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaRefIdeal.nD Cert.PaRefIdeal.τ Cert.PaRefIdeal.sig) → Buf (Elt Ideal) ℓ) (g' : Dev Cert.PaRefIdeal.nD → PrngReg), Pre_PaIdeal m →
    (∀ c : Dev Cert.PaIdeal.nD,
      m' ((c.tc : Thread Cert.PaRefIdeal.nD Cert.PaRefIdeal.τ).loc Cert.PaRefIdeal.main_arg0) = m ((c.tc : Thread Cert.PaIdeal.nD Cert.PaIdeal.τ).loc Cert.PaIdeal.main_arg0)
      ∧ m' ((c.tc : Thread Cert.PaRefIdeal.nD Cert.PaRefIdeal.τ).loc Cert.PaRefIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v0)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v0) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaRefIdeal.defs (F := Ideal)) (onTc (τ := Cert.PaRefIdeal.τ) (Cert.PaRefIdeal.main (F := Ideal))) ⟨m', fun _ => 0, g'⟩ (fun r => ∀ c : Dev Cert.PaRefIdeal.nD,
          r.2.mem ((c.tc : Thread Cert.PaRefIdeal.nD Cert.PaRefIdeal.τ).loc Cert.PaRefIdeal.main_v3) = v0 c
          ∧ r.2.mem ((c.tc : Thread Cert.PaRefIdeal.nD Cert.PaRefIdeal.τ).loc Cert.PaRefIdeal.main_arg0) = m' ((c.tc : Thread Cert.PaRefIdeal.nD Cert.PaRefIdeal.τ).loc Cert.PaRefIdeal.main_arg0)
          ∧ r.2.mem ((c.tc : Thread Cert.PaRefIdeal.nD Cert.PaRefIdeal.τ).loc Cert.PaRefIdeal.main_arg1) = m' ((c.tc : Thread Cert.PaRefIdeal.nD Cert.PaRefIdeal.τ).loc Cert.PaRefIdeal.main_arg1))

def preserves_Rmsb_RmsbIdeal : Prop :=
  True

def algebraic_RmsbIdeal_RmsbRefIdeal [hRmsbIdeal : Cert.RmsbIdeal.Facts] [hRmsbRefIdeal : Cert.RmsbRefIdeal.Facts] : Prop :=
  ∀ (m : (ℓ : Loc Cert.RmsbIdeal.nD Cert.RmsbIdeal.τ Cert.RmsbIdeal.sig) → Buf (Elt Ideal) ℓ) (g : Dev Cert.RmsbIdeal.nD → PrngReg)
    (m' : (ℓ : Loc Cert.RmsbRefIdeal.nD Cert.RmsbRefIdeal.τ Cert.RmsbRefIdeal.sig) → Buf (Elt Ideal) ℓ) (g' : Dev Cert.RmsbRefIdeal.nD → PrngReg), Pre_RmsbIdeal m →
    (∀ c : Dev Cert.RmsbIdeal.nD,
      m' ((c.tc : Thread Cert.RmsbRefIdeal.nD Cert.RmsbRefIdeal.τ).loc Cert.RmsbRefIdeal.main_arg0) = m ((c.tc : Thread Cert.RmsbIdeal.nD Cert.RmsbIdeal.τ).loc Cert.RmsbIdeal.main_arg0)
      ∧ m' ((c.tc : Thread Cert.RmsbRefIdeal.nD Cert.RmsbRefIdeal.τ).loc Cert.RmsbRefIdeal.main_arg1) = m ((c.tc : Thread Cert.RmsbIdeal.nD Cert.RmsbIdeal.τ).loc Cert.RmsbIdeal.main_arg1)
      ∧ m' ((c.tc : Thread Cert.RmsbRefIdeal.nD Cert.RmsbRefIdeal.τ).loc Cert.RmsbRefIdeal.main_arg2) = m ((c.tc : Thread Cert.RmsbIdeal.nD Cert.RmsbIdeal.τ).loc Cert.RmsbIdeal.main_arg2)
      ∧ m' ((c.tc : Thread Cert.RmsbRefIdeal.nD Cert.RmsbRefIdeal.τ).loc Cert.RmsbRefIdeal.main_arg3) = m ((c.tc : Thread Cert.RmsbIdeal.nD Cert.RmsbIdeal.τ).loc Cert.RmsbIdeal.main_arg3)) →
    ∃ (v0 : (c : Dev Cert.RmsbIdeal.nD) → Buf (Elt Ideal) ((c.tc : Thread Cert.RmsbIdeal.nD Cert.RmsbIdeal.τ).loc Cert.RmsbIdeal.main_v0_0)) (v1 : (c : Dev Cert.RmsbIdeal.nD) → Buf (Elt Ideal) ((c.tc : Thread Cert.RmsbIdeal.nD Cert.RmsbIdeal.τ).loc Cert.RmsbIdeal.main_v0_1)),
      θ_run (Cert.RmsbIdeal.defs (F := Ideal)) (onTc (τ := Cert.RmsbIdeal.τ) (Cert.RmsbIdeal.main (F := Ideal))) ⟨m, fun _ => 0, g⟩ (fun r => ∀ c : Dev Cert.RmsbIdeal.nD,
          r.2.mem ((c.tc : Thread Cert.RmsbIdeal.nD Cert.RmsbIdeal.τ).loc Cert.RmsbIdeal.main_v0_0) = v0 c
          ∧ r.2.mem ((c.tc : Thread Cert.RmsbIdeal.nD Cert.RmsbIdeal.τ).loc Cert.RmsbIdeal.main_v0_1) = v1 c
          ∧ r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
          ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
          ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2)
          ∧ r.2.mem ((c.tc : Thread Cert.RmsbIdeal.nD Cert.RmsbIdeal.τ).loc Cert.RmsbIdeal.main_arg3) = m ((c.tc : Thread Cert.RmsbIdeal.nD Cert.RmsbIdeal.τ).loc Cert.RmsbIdeal.main_arg3))
      ∧ θ_run (Cert.RmsbRefIdeal.defs (F := Ideal)) (onTc (τ := Cert.RmsbRefIdeal.τ) (Cert.RmsbRefIdeal.main (F := Ideal))) ⟨m', fun _ => 0, g'⟩ (fun r => ∀ c : Dev Cert.RmsbRefIdeal.nD,
          r.2.mem ((c.tc : Thread Cert.RmsbRefIdeal.nD Cert.RmsbRefIdeal.τ).loc Cert.RmsbRefIdeal.main_v38) = v0 c
          ∧ r.2.mem ((c.tc : Thread Cert.RmsbRefIdeal.nD Cert.RmsbRefIdeal.τ).loc Cert.RmsbRefIdeal.main_v37) = v1 c
          ∧ r.2.mem ((c.tc : Thread Cert.RmsbRefIdeal.nD Cert.RmsbRefIdeal.τ).loc Cert.RmsbRefIdeal.main_arg0) = m' ((c.tc : Thread Cert.RmsbRefIdeal.nD Cert.RmsbRefIdeal.τ).loc Cert.RmsbRefIdeal.main_arg0)
          ∧ r.2.mem ((c.tc : Thread Cert.RmsbRefIdeal.nD Cert.RmsbRefIdeal.τ).loc Cert.RmsbRefIdeal.main_arg1) = m' ((c.tc : Thread Cert.RmsbRefIdeal.nD Cert.RmsbRefIdeal.τ).loc Cert.RmsbRefIdeal.main_arg1)
          ∧ r.2.mem ((c.tc : Thread Cert.RmsbRefIdeal.nD Cert.RmsbRefIdeal.τ).loc Cert.RmsbRefIdeal.main_arg2) = m' ((c.tc : Thread Cert.RmsbRefIdeal.nD Cert.RmsbRefIdeal.τ).loc Cert.RmsbRefIdeal.main_arg2)
          ∧ r.2.mem ((c.tc : Thread Cert.RmsbRefIdeal.nD Cert.RmsbRefIdeal.τ).loc Cert.RmsbRefIdeal.main_arg3) = m' ((c.tc : Thread Cert.RmsbRefIdeal.nD Cert.RmsbRefIdeal.τ).loc Cert.RmsbRefIdeal.main_arg3))

def preserves_Mixb_MixbIdeal : Prop :=
  True

def algebraic_MixbIdeal_MixbRefIdeal [hMixbIdeal : Cert.MixbIdeal.Facts] [hMixbRefIdeal : Cert.MixbRefIdeal.Facts] : Prop :=
  ∀ (m : (ℓ : Loc Cert.MixbIdeal.nD Cert.MixbIdeal.τ Cert.MixbIdeal.sig) → Buf (Elt Ideal) ℓ) (g : Dev Cert.MixbIdeal.nD → PrngReg)
    (m' : (ℓ : Loc Cert.MixbRefIdeal.nD Cert.MixbRefIdeal.τ Cert.MixbRefIdeal.sig) → Buf (Elt Ideal) ℓ) (g' : Dev Cert.MixbRefIdeal.nD → PrngReg), Pre_MixbIdeal m →
    (∀ c : Dev Cert.MixbIdeal.nD,
      m' ((c.tc : Thread Cert.MixbRefIdeal.nD Cert.MixbRefIdeal.τ).loc Cert.MixbRefIdeal.main_arg0) = m ((c.tc : Thread Cert.MixbIdeal.nD Cert.MixbIdeal.τ).loc Cert.MixbIdeal.main_arg0)
      ∧ m' ((c.tc : Thread Cert.MixbRefIdeal.nD Cert.MixbRefIdeal.τ).loc Cert.MixbRefIdeal.main_arg1) = m ((c.tc : Thread Cert.MixbIdeal.nD Cert.MixbIdeal.τ).loc Cert.MixbIdeal.main_arg1)
      ∧ m' ((c.tc : Thread Cert.MixbRefIdeal.nD Cert.MixbRefIdeal.τ).loc Cert.MixbRefIdeal.main_arg2) = m ((c.tc : Thread Cert.MixbIdeal.nD Cert.MixbIdeal.τ).loc Cert.MixbIdeal.main_arg2)
      ∧ m' ((c.tc : Thread Cert.MixbRefIdeal.nD Cert.MixbRefIdeal.τ).loc Cert.MixbRefIdeal.main_arg3) = m ((c.tc : Thread Cert.MixbIdeal.nD Cert.MixbIdeal.τ).loc Cert.MixbIdeal.main_arg3)) →
    ∃ (v0 : (c : Dev Cert.MixbIdeal.nD) → Buf (Elt Ideal) ((c.tc : Thread Cert.MixbIdeal.nD Cert.MixbIdeal.τ).loc Cert.MixbIdeal.main_v0_0)) (v1 : (c : Dev Cert.MixbIdeal.nD) → Buf (Elt Ideal) ((c.tc : Thread Cert.MixbIdeal.nD Cert.MixbIdeal.τ).loc Cert.MixbIdeal.main_v0_1)) (v2 : (c : Dev Cert.MixbIdeal.nD) → Buf (Elt Ideal) ((c.tc : Thread Cert.MixbIdeal.nD Cert.MixbIdeal.τ).loc Cert.MixbIdeal.main_v0_2)),
      θ_run (Cert.MixbIdeal.defs (F := Ideal)) (onTc (τ := Cert.MixbIdeal.τ) (Cert.MixbIdeal.main (F := Ideal))) ⟨m, fun _ => 0, g⟩ (fun r => ∀ c : Dev Cert.MixbIdeal.nD,
          r.2.mem ((c.tc : Thread Cert.MixbIdeal.nD Cert.MixbIdeal.τ).loc Cert.MixbIdeal.main_v0_0) = v0 c
          ∧ r.2.mem ((c.tc : Thread Cert.MixbIdeal.nD Cert.MixbIdeal.τ).loc Cert.MixbIdeal.main_v0_1) = v1 c
          ∧ r.2.mem ((c.tc : Thread Cert.MixbIdeal.nD Cert.MixbIdeal.τ).loc Cert.MixbIdeal.main_v0_2) = v2 c
          ∧ r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
          ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
          ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
          ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3))
      ∧ θ_run (Cert.MixbRefIdeal.defs (F := Ideal)) (onTc (τ := Cert.MixbRefIdeal.τ) (Cert.MixbRefIdeal.main (F := Ideal))) ⟨m', fun _ => 0, g'⟩ (fun r => ∀ c : Dev Cert.MixbRefIdeal.nD,
          r.2.mem ((c.tc : Thread Cert.MixbRefIdeal.nD Cert.MixbRefIdeal.τ).loc Cert.MixbRefIdeal.main_v25) = v0 c
          ∧ r.2.mem ((c.tc : Thread Cert.MixbRefIdeal.nD Cert.MixbRefIdeal.τ).loc Cert.MixbRefIdeal.main_v26) = v1 c
          ∧ r.2.mem ((c.tc : Thread Cert.MixbRefIdeal.nD Cert.MixbRefIdeal.τ).loc Cert.MixbRefIdeal.main_v27) = v2 c
          ∧ r.2.mem ((c.tc : Thread Cert.MixbRefIdeal.nD Cert.MixbRefIdeal.τ).loc Cert.MixbRefIdeal.main_arg0) = m' ((c.tc : Thread Cert.MixbRefIdeal.nD Cert.MixbRefIdeal.τ).loc Cert.MixbRefIdeal.main_arg0)
          ∧ r.2.mem ((c.tc : Thread Cert.MixbRefIdeal.nD Cert.MixbRefIdeal.τ).loc Cert.MixbRefIdeal.main_arg1) = m' ((c.tc : Thread Cert.MixbRefIdeal.nD Cert.MixbRefIdeal.τ).loc Cert.MixbRefIdeal.main_arg1)
          ∧ r.2.mem ((c.tc : Thread Cert.MixbRefIdeal.nD Cert.MixbRefIdeal.τ).loc Cert.MixbRefIdeal.main_arg2) = m' ((c.tc : Thread Cert.MixbRefIdeal.nD Cert.MixbRefIdeal.τ).loc Cert.MixbRefIdeal.main_arg2)
          ∧ r.2.mem ((c.tc : Thread Cert.MixbRefIdeal.nD Cert.MixbRefIdeal.τ).loc Cert.MixbRefIdeal.main_arg3) = m' ((c.tc : Thread Cert.MixbRefIdeal.nD Cert.MixbRefIdeal.τ).loc Cert.MixbRefIdeal.main_arg3))

def preserves_Gwba_GwbaIdeal : Prop :=
  True

def algebraic_GwbaIdeal_GwbaRefIdeal [hGwbaIdeal : Cert.GwbaIdeal.Facts] [hGwbaRefIdeal : Cert.GwbaRefIdeal.Facts] : Prop :=
  ∀ (m : (ℓ : Loc Cert.GwbaIdeal.nD Cert.GwbaIdeal.τ Cert.GwbaIdeal.sig) → Buf (Elt Ideal) ℓ) (g : Dev Cert.GwbaIdeal.nD → PrngReg)
    (m' : (ℓ : Loc Cert.GwbaRefIdeal.nD Cert.GwbaRefIdeal.τ Cert.GwbaRefIdeal.sig) → Buf (Elt Ideal) ℓ) (g' : Dev Cert.GwbaRefIdeal.nD → PrngReg), Pre_GwbaIdeal m →
    (∀ c : Dev Cert.GwbaIdeal.nD,
      m' ((c.tc : Thread Cert.GwbaRefIdeal.nD Cert.GwbaRefIdeal.τ).loc Cert.GwbaRefIdeal.main_arg0) = m ((c.tc : Thread Cert.GwbaIdeal.nD Cert.GwbaIdeal.τ).loc Cert.GwbaIdeal.main_arg0)
      ∧ m' ((c.tc : Thread Cert.GwbaRefIdeal.nD Cert.GwbaRefIdeal.τ).loc Cert.GwbaRefIdeal.main_arg1) = m ((c.tc : Thread Cert.GwbaIdeal.nD Cert.GwbaIdeal.τ).loc Cert.GwbaIdeal.main_arg1)) →
    ∃ (v0 : (c : Dev Cert.GwbaIdeal.nD) → Buf (Elt Ideal) ((c.tc : Thread Cert.GwbaIdeal.nD Cert.GwbaIdeal.τ).loc Cert.GwbaIdeal.main_v0)),
      θ_run (Cert.GwbaIdeal.defs (F := Ideal)) (onTc (τ := Cert.GwbaIdeal.τ) (Cert.GwbaIdeal.main (F := Ideal))) ⟨m, fun _ => 0, g⟩ (fun r => ∀ c : Dev Cert.GwbaIdeal.nD,
          r.2.mem ((c.tc : Thread Cert.GwbaIdeal.nD Cert.GwbaIdeal.τ).loc Cert.GwbaIdeal.main_v0) = v0 c
          ∧ r.2.mem ((c.tc : Thread Cert.GwbaIdeal.nD Cert.GwbaIdeal.τ).loc Cert.GwbaIdeal.main_arg0) = m ((c.tc : Thread Cert.GwbaIdeal.nD Cert.GwbaIdeal.τ).loc Cert.GwbaIdeal.main_arg0)
          ∧ r.2.mem ((c.tc : Thread Cert.GwbaIdeal.nD Cert.GwbaIdeal.τ).loc Cert.GwbaIdeal.main_arg1) = m ((c.tc : Thread Cert.GwbaIdeal.nD Cert.GwbaIdeal.τ).loc Cert.GwbaIdeal.main_arg1))
      ∧ θ_run (Cert.GwbaRefIdeal.defs (F := Ideal)) (onTc (τ := Cert.GwbaRefIdeal.τ) (Cert.GwbaRefIdeal.main (F := Ideal))) ⟨m', fun _ => 0, g'⟩ (fun r => ∀ c : Dev Cert.GwbaRefIdeal.nD,
          r.2.mem ((c.tc : Thread Cert.GwbaRefIdeal.nD Cert.GwbaRefIdeal.τ).loc Cert.GwbaRefIdeal.main_v5) = v0 c
          ∧ r.2.mem ((c.tc : Thread Cert.GwbaRefIdeal.nD Cert.GwbaRefIdeal.τ).loc Cert.GwbaRefIdeal.main_arg0) = m' ((c.tc : Thread Cert.GwbaRefIdeal.nD Cert.GwbaRefIdeal.τ).loc Cert.GwbaRefIdeal.main_arg0)
          ∧ r.2.mem ((c.tc : Thread Cert.GwbaRefIdeal.nD Cert.GwbaRefIdeal.τ).loc Cert.GwbaRefIdeal.main_arg1) = m' ((c.tc : Thread Cert.GwbaRefIdeal.nD Cert.GwbaRefIdeal.τ).loc Cert.GwbaRefIdeal.main_arg1))

def preserves_Duba_DubaIdeal : Prop :=
  True

def algebraic_DubaIdeal_DubaRefIdeal [hDubaIdeal : Cert.DubaIdeal.Facts] [hDubaRefIdeal : Cert.DubaRefIdeal.Facts] : Prop :=
  ∀ (m : (ℓ : Loc Cert.DubaIdeal.nD Cert.DubaIdeal.τ Cert.DubaIdeal.sig) → Buf (Elt Ideal) ℓ) (g : Dev Cert.DubaIdeal.nD → PrngReg)
    (m' : (ℓ : Loc Cert.DubaRefIdeal.nD Cert.DubaRefIdeal.τ Cert.DubaRefIdeal.sig) → Buf (Elt Ideal) ℓ) (g' : Dev Cert.DubaRefIdeal.nD → PrngReg), Pre_DubaIdeal m →
    (∀ c : Dev Cert.DubaIdeal.nD,
      m' ((c.tc : Thread Cert.DubaRefIdeal.nD Cert.DubaRefIdeal.τ).loc Cert.DubaRefIdeal.main_arg0) = m ((c.tc : Thread Cert.DubaIdeal.nD Cert.DubaIdeal.τ).loc Cert.DubaIdeal.main_arg0)
      ∧ m' ((c.tc : Thread Cert.DubaRefIdeal.nD Cert.DubaRefIdeal.τ).loc Cert.DubaRefIdeal.main_arg1) = m ((c.tc : Thread Cert.DubaIdeal.nD Cert.DubaIdeal.τ).loc Cert.DubaIdeal.main_arg1)) →
    ∃ (v0 : (c : Dev Cert.DubaIdeal.nD) → Buf (Elt Ideal) ((c.tc : Thread Cert.DubaIdeal.nD Cert.DubaIdeal.τ).loc Cert.DubaIdeal.main_v0)),
      θ_run (Cert.DubaIdeal.defs (F := Ideal)) (onTc (τ := Cert.DubaIdeal.τ) (Cert.DubaIdeal.main (F := Ideal))) ⟨m, fun _ => 0, g⟩ (fun r => ∀ c : Dev Cert.DubaIdeal.nD,
          r.2.mem ((c.tc : Thread Cert.DubaIdeal.nD Cert.DubaIdeal.τ).loc Cert.DubaIdeal.main_v0) = v0 c
          ∧ r.2.mem ((c.tc : Thread Cert.DubaIdeal.nD Cert.DubaIdeal.τ).loc Cert.DubaIdeal.main_arg0) = m ((c.tc : Thread Cert.DubaIdeal.nD Cert.DubaIdeal.τ).loc Cert.DubaIdeal.main_arg0)
          ∧ r.2.mem ((c.tc : Thread Cert.DubaIdeal.nD Cert.DubaIdeal.τ).loc Cert.DubaIdeal.main_arg1) = m ((c.tc : Thread Cert.DubaIdeal.nD Cert.DubaIdeal.τ).loc Cert.DubaIdeal.main_arg1))
      ∧ θ_run (Cert.DubaRefIdeal.defs (F := Ideal)) (onTc (τ := Cert.DubaRefIdeal.τ) (Cert.DubaRefIdeal.main (F := Ideal))) ⟨m', fun _ => 0, g'⟩ (fun r => ∀ c : Dev Cert.DubaRefIdeal.nD,
          r.2.mem ((c.tc : Thread Cert.DubaRefIdeal.nD Cert.DubaRefIdeal.τ).loc Cert.DubaRefIdeal.main_v3) = v0 c
          ∧ r.2.mem ((c.tc : Thread Cert.DubaRefIdeal.nD Cert.DubaRefIdeal.τ).loc Cert.DubaRefIdeal.main_arg0) = m' ((c.tc : Thread Cert.DubaRefIdeal.nD Cert.DubaRefIdeal.τ).loc Cert.DubaRefIdeal.main_arg0)
          ∧ r.2.mem ((c.tc : Thread Cert.DubaRefIdeal.nD Cert.DubaRefIdeal.τ).loc Cert.DubaRefIdeal.main_arg1) = m' ((c.tc : Thread Cert.DubaRefIdeal.nD Cert.DubaRefIdeal.τ).loc Cert.DubaRefIdeal.main_arg1))

def preserves_Ba_BaIdeal : Prop :=
  True

def algebraic_BaIdeal_BaRefIdeal [hBaIdeal : Cert.BaIdeal.Facts] [hBaRefIdeal : Cert.BaRefIdeal.Facts] : Prop :=
  ∀ (m : (ℓ : Loc Cert.BaIdeal.nD Cert.BaIdeal.τ Cert.BaIdeal.sig) → Buf (Elt Ideal) ℓ) (g : Dev Cert.BaIdeal.nD → PrngReg)
    (m' : (ℓ : Loc Cert.BaRefIdeal.nD Cert.BaRefIdeal.τ Cert.BaRefIdeal.sig) → Buf (Elt Ideal) ℓ) (g' : Dev Cert.BaRefIdeal.nD → PrngReg), Pre_BaIdeal m →
    (∀ c : Dev Cert.BaIdeal.nD,
      m' ((c.tc : Thread Cert.BaRefIdeal.nD Cert.BaRefIdeal.τ).loc Cert.BaRefIdeal.main_arg0) = m ((c.tc : Thread Cert.BaIdeal.nD Cert.BaIdeal.τ).loc Cert.BaIdeal.main_arg0)
      ∧ m' ((c.tc : Thread Cert.BaRefIdeal.nD Cert.BaRefIdeal.τ).loc Cert.BaRefIdeal.main_arg1) = m ((c.tc : Thread Cert.BaIdeal.nD Cert.BaIdeal.τ).loc Cert.BaIdeal.main_arg1)) →
    ∃ (v0 : (c : Dev Cert.BaIdeal.nD) → Buf (Elt Ideal) ((c.tc : Thread Cert.BaIdeal.nD Cert.BaIdeal.τ).loc Cert.BaIdeal.main_v0)),
      θ_run (Cert.BaIdeal.defs (F := Ideal)) (onTc (τ := Cert.BaIdeal.τ) (Cert.BaIdeal.main (F := Ideal))) ⟨m, fun _ => 0, g⟩ (fun r => ∀ c : Dev Cert.BaIdeal.nD,
          r.2.mem ((c.tc : Thread Cert.BaIdeal.nD Cert.BaIdeal.τ).loc Cert.BaIdeal.main_v0) = v0 c
          ∧ r.2.mem ((c.tc : Thread Cert.BaIdeal.nD Cert.BaIdeal.τ).loc Cert.BaIdeal.main_arg0) = m ((c.tc : Thread Cert.BaIdeal.nD Cert.BaIdeal.τ).loc Cert.BaIdeal.main_arg0)
          ∧ r.2.mem ((c.tc : Thread Cert.BaIdeal.nD Cert.BaIdeal.τ).loc Cert.BaIdeal.main_arg1) = m ((c.tc : Thread Cert.BaIdeal.nD Cert.BaIdeal.τ).loc Cert.BaIdeal.main_arg1))
      ∧ θ_run (Cert.BaRefIdeal.defs (F := Ideal)) (onTc (τ := Cert.BaRefIdeal.τ) (Cert.BaRefIdeal.main (F := Ideal))) ⟨m', fun _ => 0, g'⟩ (fun r => ∀ c : Dev Cert.BaRefIdeal.nD,
          r.2.mem ((c.tc : Thread Cert.BaRefIdeal.nD Cert.BaRefIdeal.τ).loc Cert.BaRefIdeal.main_v2) = v0 c
          ∧ r.2.mem ((c.tc : Thread Cert.BaRefIdeal.nD Cert.BaRefIdeal.τ).loc Cert.BaRefIdeal.main_arg0) = m' ((c.tc : Thread Cert.BaRefIdeal.nD Cert.BaRefIdeal.τ).loc Cert.BaRefIdeal.main_arg0)
          ∧ r.2.mem ((c.tc : Thread Cert.BaRefIdeal.nD Cert.BaRefIdeal.τ).loc Cert.BaRefIdeal.main_arg1) = m' ((c.tc : Thread Cert.BaRefIdeal.nD Cert.BaRefIdeal.τ).loc Cert.BaRefIdeal.main_arg1))

def Claim : Prop :=
  ∃ (hKernel : Cert.Kernel.Facts) (hKernelIdeal : Cert.KernelIdeal.Facts) (hReferenceIdeal : Cert.ReferenceIdeal.Facts) (hGwd : Cert.Gwd.Facts) (hGwdIdeal : Cert.GwdIdeal.Facts) (hGwdRefIdeal : Cert.GwdRefIdeal.Facts) (hGwgu : Cert.Gwgu.Facts) (hGwguIdeal : Cert.GwguIdeal.Facts) (hGwguRefIdeal : Cert.GwguRefIdeal.Facts) (hDhn : Cert.Dhn.Facts) (hDhnIdeal : Cert.DhnIdeal.Facts) (hDhnRefIdeal : Cert.DhnRefIdeal.Facts) (hDact : Cert.Dact.Facts) (hDactIdeal : Cert.DactIdeal.Facts) (hDactRefIdeal : Cert.DactRefIdeal.Facts) (hDgu : Cert.Dgu.Facts) (hDguIdeal : Cert.DguIdeal.Facts) (hDguRefIdeal : Cert.DguRefIdeal.Facts) (hGwb : Cert.Gwb.Facts) (hGwbIdeal : Cert.GwbIdeal.Facts) (hGwbRefIdeal : Cert.GwbRefIdeal.Facts) (hDub : Cert.Dub.Facts) (hDubIdeal : Cert.DubIdeal.Facts) (hDubRefIdeal : Cert.DubRefIdeal.Facts) (hGwout : Cert.Gwout.Facts) (hGwoutIdeal : Cert.GwoutIdeal.Facts) (hGwoutRefIdeal : Cert.GwoutRefIdeal.Facts) (hDmix : Cert.Dmix.Facts) (hDmixIdeal : Cert.DmixIdeal.Facts) (hDmixRefIdeal : Cert.DmixRefIdeal.Facts) (hGwpd : Cert.Gwpd.Facts) (hGwpdIdeal : Cert.GwpdIdeal.Facts) (hGwpdRefIdeal : Cert.GwpdRefIdeal.Facts) (hDod : Cert.Dod.Facts) (hDodIdeal : Cert.DodIdeal.Facts) (hDodRefIdeal : Cert.DodRefIdeal.Facts) (hGwpa : Cert.Gwpa.Facts) (hGwpaIdeal : Cert.GwpaIdeal.Facts) (hGwpaRefIdeal : Cert.GwpaRefIdeal.Facts) (hDyam : Cert.Dyam.Facts) (hDyamIdeal : Cert.DyamIdeal.Facts) (hDyamRefIdeal : Cert.DyamRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hPd : Cert.Pd.Facts) (hPdIdeal : Cert.PdIdeal.Facts) (hPdRefIdeal : Cert.PdRefIdeal.Facts) (hPa : Cert.Pa.Facts) (hPaIdeal : Cert.PaIdeal.Facts) (hPaRefIdeal : Cert.PaRefIdeal.Facts) (hRmsb : Cert.Rmsb.Facts) (hRmsbIdeal : Cert.RmsbIdeal.Facts) (hRmsbRefIdeal : Cert.RmsbRefIdeal.Facts) (hMixb : Cert.Mixb.Facts) (hMixbIdeal : Cert.MixbIdeal.Facts) (hMixbRefIdeal : Cert.MixbRefIdeal.Facts) (hGwba : Cert.Gwba.Facts) (hGwbaIdeal : Cert.GwbaIdeal.Facts) (hGwbaRefIdeal : Cert.GwbaRefIdeal.Facts) (hDuba : Cert.Duba.Facts) (hDubaIdeal : Cert.DubaIdeal.Facts) (hDubaRefIdeal : Cert.DubaRefIdeal.Facts) (hBa : Cert.Ba.Facts) (hBaIdeal : Cert.BaIdeal.Facts) (hBaRefIdeal : Cert.BaRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gwd (hGwd := hGwd)
    ∧ quiescent_GwdIdeal (hGwdIdeal := hGwdIdeal)
    ∧ quiescent_GwdRefIdeal (hGwdRefIdeal := hGwdRefIdeal)
    ∧ quiescent_Gwgu (hGwgu := hGwgu)
    ∧ quiescent_GwguIdeal (hGwguIdeal := hGwguIdeal)
    ∧ quiescent_GwguRefIdeal (hGwguRefIdeal := hGwguRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Dact (hDact := hDact)
    ∧ quiescent_DactIdeal (hDactIdeal := hDactIdeal)
    ∧ quiescent_DactRefIdeal (hDactRefIdeal := hDactRefIdeal)
    ∧ quiescent_Dgu (hDgu := hDgu)
    ∧ quiescent_DguIdeal (hDguIdeal := hDguIdeal)
    ∧ quiescent_DguRefIdeal (hDguRefIdeal := hDguRefIdeal)
    ∧ quiescent_Gwb (hGwb := hGwb)
    ∧ quiescent_GwbIdeal (hGwbIdeal := hGwbIdeal)
    ∧ quiescent_GwbRefIdeal (hGwbRefIdeal := hGwbRefIdeal)
    ∧ quiescent_Dub (hDub := hDub)
    ∧ quiescent_DubIdeal (hDubIdeal := hDubIdeal)
    ∧ quiescent_DubRefIdeal (hDubRefIdeal := hDubRefIdeal)
    ∧ quiescent_Gwout (hGwout := hGwout)
    ∧ quiescent_GwoutIdeal (hGwoutIdeal := hGwoutIdeal)
    ∧ quiescent_GwoutRefIdeal (hGwoutRefIdeal := hGwoutRefIdeal)
    ∧ quiescent_Dmix (hDmix := hDmix)
    ∧ quiescent_DmixIdeal (hDmixIdeal := hDmixIdeal)
    ∧ quiescent_DmixRefIdeal (hDmixRefIdeal := hDmixRefIdeal)
    ∧ quiescent_Gwpd (hGwpd := hGwpd)
    ∧ quiescent_GwpdIdeal (hGwpdIdeal := hGwpdIdeal)
    ∧ quiescent_GwpdRefIdeal (hGwpdRefIdeal := hGwpdRefIdeal)
    ∧ quiescent_Dod (hDod := hDod)
    ∧ quiescent_DodIdeal (hDodIdeal := hDodIdeal)
    ∧ quiescent_DodRefIdeal (hDodRefIdeal := hDodRefIdeal)
    ∧ quiescent_Gwpa (hGwpa := hGwpa)
    ∧ quiescent_GwpaIdeal (hGwpaIdeal := hGwpaIdeal)
    ∧ quiescent_GwpaRefIdeal (hGwpaRefIdeal := hGwpaRefIdeal)
    ∧ quiescent_Dyam (hDyam := hDyam)
    ∧ quiescent_DyamIdeal (hDyamIdeal := hDyamIdeal)
    ∧ quiescent_DyamRefIdeal (hDyamRefIdeal := hDyamRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Pd (hPd := hPd)
    ∧ quiescent_PdIdeal (hPdIdeal := hPdIdeal)
    ∧ quiescent_PdRefIdeal (hPdRefIdeal := hPdRefIdeal)
    ∧ quiescent_Pa (hPa := hPa)
    ∧ quiescent_PaIdeal (hPaIdeal := hPaIdeal)
    ∧ quiescent_PaRefIdeal (hPaRefIdeal := hPaRefIdeal)
    ∧ quiescent_Rmsb (hRmsb := hRmsb)
    ∧ quiescent_RmsbIdeal (hRmsbIdeal := hRmsbIdeal)
    ∧ quiescent_RmsbRefIdeal (hRmsbRefIdeal := hRmsbRefIdeal)
    ∧ quiescent_Mixb (hMixb := hMixb)
    ∧ quiescent_MixbIdeal (hMixbIdeal := hMixbIdeal)
    ∧ quiescent_MixbRefIdeal (hMixbRefIdeal := hMixbRefIdeal)
    ∧ quiescent_Gwba (hGwba := hGwba)
    ∧ quiescent_GwbaIdeal (hGwbaIdeal := hGwbaIdeal)
    ∧ quiescent_GwbaRefIdeal (hGwbaRefIdeal := hGwbaRefIdeal)
    ∧ quiescent_Duba (hDuba := hDuba)
    ∧ quiescent_DubaIdeal (hDubaIdeal := hDubaIdeal)
    ∧ quiescent_DubaRefIdeal (hDubaRefIdeal := hDubaRefIdeal)
    ∧ quiescent_Ba (hBa := hBa)
    ∧ quiescent_BaIdeal (hBaIdeal := hBaIdeal)
    ∧ quiescent_BaRefIdeal (hBaRefIdeal := hBaRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gwd_GwdIdeal
    ∧ algebraic_GwdIdeal_GwdRefIdeal (hGwdIdeal := hGwdIdeal) (hGwdRefIdeal := hGwdRefIdeal)
    ∧ preserves_Gwgu_GwguIdeal
    ∧ algebraic_GwguIdeal_GwguRefIdeal (hGwguIdeal := hGwguIdeal) (hGwguRefIdeal := hGwguRefIdeal)
    ∧ preserves_Dhn_DhnIdeal
    ∧ algebraic_DhnIdeal_DhnRefIdeal (hDhnIdeal := hDhnIdeal) (hDhnRefIdeal := hDhnRefIdeal)
    ∧ preserves_Dact_DactIdeal
    ∧ algebraic_DactIdeal_DactRefIdeal (hDactIdeal := hDactIdeal) (hDactRefIdeal := hDactRefIdeal)
    ∧ preserves_Dgu_DguIdeal
    ∧ algebraic_DguIdeal_DguRefIdeal (hDguIdeal := hDguIdeal) (hDguRefIdeal := hDguRefIdeal)
    ∧ preserves_Gwb_GwbIdeal
    ∧ algebraic_GwbIdeal_GwbRefIdeal (hGwbIdeal := hGwbIdeal) (hGwbRefIdeal := hGwbRefIdeal)
    ∧ preserves_Dub_DubIdeal
    ∧ algebraic_DubIdeal_DubRefIdeal (hDubIdeal := hDubIdeal) (hDubRefIdeal := hDubRefIdeal)
    ∧ preserves_Gwout_GwoutIdeal
    ∧ algebraic_GwoutIdeal_GwoutRefIdeal (hGwoutIdeal := hGwoutIdeal) (hGwoutRefIdeal := hGwoutRefIdeal)
    ∧ preserves_Dmix_DmixIdeal
    ∧ algebraic_DmixIdeal_DmixRefIdeal (hDmixIdeal := hDmixIdeal) (hDmixRefIdeal := hDmixRefIdeal)
    ∧ preserves_Gwpd_GwpdIdeal
    ∧ algebraic_GwpdIdeal_GwpdRefIdeal (hGwpdIdeal := hGwpdIdeal) (hGwpdRefIdeal := hGwpdRefIdeal)
    ∧ preserves_Dod_DodIdeal
    ∧ algebraic_DodIdeal_DodRefIdeal (hDodIdeal := hDodIdeal) (hDodRefIdeal := hDodRefIdeal)
    ∧ preserves_Gwpa_GwpaIdeal
    ∧ algebraic_GwpaIdeal_GwpaRefIdeal (hGwpaIdeal := hGwpaIdeal) (hGwpaRefIdeal := hGwpaRefIdeal)
    ∧ preserves_Dyam_DyamIdeal
    ∧ algebraic_DyamIdeal_DyamRefIdeal (hDyamIdeal := hDyamIdeal) (hDyamRefIdeal := hDyamRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Pd_PdIdeal
    ∧ algebraic_PdIdeal_PdRefIdeal (hPdIdeal := hPdIdeal) (hPdRefIdeal := hPdRefIdeal)
    ∧ preserves_Pa_PaIdeal
    ∧ algebraic_PaIdeal_PaRefIdeal (hPaIdeal := hPaIdeal) (hPaRefIdeal := hPaRefIdeal)
    ∧ preserves_Rmsb_RmsbIdeal
    ∧ algebraic_RmsbIdeal_RmsbRefIdeal (hRmsbIdeal := hRmsbIdeal) (hRmsbRefIdeal := hRmsbRefIdeal)
    ∧ preserves_Mixb_MixbIdeal
    ∧ algebraic_MixbIdeal_MixbRefIdeal (hMixbIdeal := hMixbIdeal) (hMixbRefIdeal := hMixbRefIdeal)
    ∧ preserves_Gwba_GwbaIdeal
    ∧ algebraic_GwbaIdeal_GwbaRefIdeal (hGwbaIdeal := hGwbaIdeal) (hGwbaRefIdeal := hGwbaRefIdeal)
    ∧ preserves_Duba_DubaIdeal
    ∧ algebraic_DubaIdeal_DubaRefIdeal (hDubaIdeal := hDubaIdeal) (hDubaRefIdeal := hDubaRefIdeal)
    ∧ preserves_Ba_BaIdeal
    ∧ algebraic_BaIdeal_BaRefIdeal (hBaIdeal := hBaIdeal) (hBaRefIdeal := hBaRefIdeal)
-- ==== Pre_finite.lean ====
abbrev S16384x4608 : Shape := ⟨2, ![16384, 4608]⟩
abbrev S16384x512 : Shape := ⟨2, ![16384, 512]⟩
abbrev S16384x1536 : Shape := ⟨2, ![16384, 1536]⟩
abbrev S_ : Shape := ⟨0, ![]⟩

class Facts : Prop where
  slices_S16384x4608_S16384x1536_0_3072 : S16384x4608.Slices ![0, 3072] S16384x1536
  bcast_S_S16384x1536 : S_.BroadcastsInDim S16384x1536 (![] : Fin 0 → Fin S16384x1536.rank)
  bcast_S_S16384x512 : S_.BroadcastsInDim S16384x512 (![] : Fin 0 → Fin S16384x512.rank)

variable [Facts]

def fn {F : FTy → Type} [FloatOps F] (main_arg0 : FVec F S16384x4608 .f32) (main_arg1 : FVec F S16384x512 .f32) (main_arg2 : FVec F S16384x512 .f32) (main_arg3 : FVec F S16384x4608 .bf16) : IVec S16384x1536 1 × IVec S16384x512 1 × IVec S16384x512 1 :=
  let main_v0 : FVec F S16384x1536 .f32 := (extractStridedSlice S16384x1536 ![0, 3072] · slices_S16384x4608_S16384x1536_0_3072) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  (main_v3, main_v6, main_v9)
-- ==== Kernel.lean ====
abbrev S16384x4608 : Shape := ⟨2, ![16384, 4608]⟩
abbrev S16384x512 : Shape := ⟨2, ![16384, 512]⟩
abbrev S16384x1536 : Shape := ⟨2, ![16384, 1536]⟩
abbrev S1x16384x4x3x128 : Shape := ⟨5, ![1, 16384, 4, 3, 128]⟩
abbrev S1x16384x4x1x128 : Shape := ⟨5, ![1, 16384, 4, 1, 128]⟩
abbrev S1x16384x4x128 : Shape := ⟨4, ![1, 16384, 4, 128]⟩
abbrev S12 : Shape := ⟨1, ![12]⟩
abbrev S_ : Shape := ⟨0, ![]⟩
abbrev S4 : Shape := ⟨1, ![4]⟩
abbrev S1x8x128x16x4x128 : Shape := ⟨6, ![1, 8, 128, 16, 4, 128]⟩
abbrev S1x1x128x16x4x128 : Shape := ⟨6, ![1, 1, 128, 16, 4, 128]⟩
abbrev S1x7x128x16x4x128 : Shape := ⟨6, ![1, 7, 128, 16, 4, 128]⟩
abbrev S1x8x256x16x4x128 : Shape := ⟨6, ![1, 8, 256, 16, 4, 128]⟩
abbrev S1x8x16x4x128x256 : Shape := ⟨6, ![1, 8, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S4x1x1 : Shape := ⟨3, ![4, 1, 1]⟩
abbrev S4x128x256 : Shape := ⟨3, ![4, 128, 256]⟩
abbrev S1x8x1x1x128x256 : Shape := ⟨6, ![1, 8, 1, 1, 128, 256]⟩
abbrev S1x1x1x4x128x256 : Shape := ⟨6, ![1, 1, 1, 4, 128, 256]⟩
abbrev S1x8x16x4x128 : Shape := ⟨5, ![1, 8, 16, 4, 128]⟩
abbrev S1x8x16x4x128x1 : Shape := ⟨6, ![1, 8, 16, 4, 128, 1]⟩
abbrev S1x8x16x4x128x128 : Shape := ⟨6, ![1, 8, 16, 4, 128, 128]⟩
abbrev S1x8x128x16x4 : Shape := ⟨5, ![1, 8, 128, 16, 4]⟩
abbrev S1x8x128x16x4x1 : Shape := ⟨6, ![1, 8, 128, 16, 4, 1]⟩
abbrev S1x16384x4 : Shape := ⟨3, ![1, 16384, 4]⟩
abbrev S16384x4x1 : Shape := ⟨3, ![16384, 4, 1]⟩
abbrev S16384x4x128 : Shape := ⟨3, ![16384, 4, 128]⟩
abbrev S2048x128 : Shape := ⟨2, ![2048, 128]⟩
abbrev S2048x384 : Shape := ⟨2, ![2048, 384]⟩
abbrev S2x2048x128 : Shape := ⟨3, ![2, 2048, 128]⟩
abbrev S1x1 : Shape := ⟨2, ![1, 1]⟩
abbrev S128x128 : Shape := ⟨2, ![128, 128]⟩
abbrev S256x128 : Shape := ⟨2, ![256, 128]⟩
abbrev S1x128x128 : Shape := ⟨3, ![1, 128, 128]⟩
abbrev S1x2048x128 : Shape := ⟨3, ![1, 2048, 128]⟩

abbrev nBuf : Space → Nat
  | .hbm => 122
  | .vmem => 23
  | .smem => 0
  | _ => 0

abbrev bufTy : (tb : Table) → Fin (tcTables nBuf tb) → BufTy
  | .hbm, ⟨0, _⟩ => ⟨S16384x4608, .f32⟩
  | .hbm, ⟨1, _⟩ => ⟨S16384x512, .f32⟩
  | .hbm, ⟨2, _⟩ => ⟨S16384x512, .f32⟩
  | .hbm, ⟨3, _⟩ => ⟨S16384x4608, .bf16⟩
  | .hbm, ⟨4, _⟩ => ⟨S16384x1536, .f32⟩
  | .hbm, ⟨5, _⟩ => ⟨S1x16384x4x3x128, .f32⟩
  | .hbm, ⟨6, _⟩ => ⟨S1x16384x4x1x128, .f32⟩
  | .hbm, ⟨7, _⟩ => ⟨S1x16384x4x128, .f32⟩
  | .hbm, ⟨8, _⟩ => ⟨S1x16384x4x1x128, .f32⟩
  | .hbm, ⟨9, _⟩ => ⟨S1x16384x4x128, .f32⟩
  | .hbm, ⟨10, _⟩ => ⟨S1x16384x4x1x128, .f32⟩
  | .hbm, ⟨11, _⟩ => ⟨S1x16384x4x128, .f32⟩
  | .hbm, ⟨12, _⟩ => ⟨S12, .f32⟩
  | .hbm, ⟨13, _⟩ => ⟨S_, .f32⟩
  | .hbm, ⟨14, _⟩ => ⟨S12, .f32⟩
  | .hbm, ⟨15, _⟩ => ⟨S12, .f32⟩
  | .hbm, ⟨16, _⟩ => ⟨S_, .f32⟩
  | .hbm, ⟨17, _⟩ => ⟨S12, .f32⟩
  | .hbm, ⟨18, _⟩ => ⟨S12, .f32⟩
  | .hbm, ⟨19, _⟩ => ⟨S_, .f32⟩
  | .hbm, ⟨20, _⟩ => ⟨S12, .f32⟩
  | .hbm, ⟨21, _⟩ => ⟨S12, .f32⟩
  | .hbm, ⟨22, _⟩ => ⟨S_, .f32⟩
  | .hbm, ⟨23, _⟩ => ⟨S12, .f32⟩
  | .hbm, ⟨24, _⟩ => ⟨S12, .f32⟩
  | .hbm, ⟨25, _⟩ => ⟨S4, .f32⟩
  | .hbm, ⟨26, _⟩ => ⟨S1x8x128x16x4x128, .f32⟩
  | .hbm, ⟨27, _⟩ => ⟨S1x8x128x16x4x128, .f32⟩
  | .hbm, ⟨28, _⟩ => ⟨S1x8x128x16x4x128, .f32⟩
  | .hbm, ⟨29, _⟩ => ⟨S1x1x128x16x4x128, .f32⟩
  | .hbm, ⟨30, _⟩ => ⟨S_, .f32⟩
  | .hbm, ⟨31, _⟩ => ⟨S1x1x128x16x4x128, .f32⟩
  | .hbm, ⟨32, _⟩ => ⟨S1x7x128x16x4x128, .f32⟩
  | .hbm, ⟨33, _⟩ => ⟨S1x8x128x16x4x128, .f32⟩
  | .hbm, ⟨34, _⟩ => ⟨S1x8x256x16x4x128, .f32⟩
  | .hbm, ⟨35, _⟩ => ⟨S1x1x128x16x4x128, .f32⟩
  | .hbm, ⟨36, _⟩ => ⟨S_, .f32⟩
  | .hbm, ⟨37, _⟩ => ⟨S1x1x128x16x4x128, .f32⟩
  | .hbm, ⟨38, _⟩ => ⟨S1x7x128x16x4x128, .f32⟩
  | .hbm, ⟨39, _⟩ => ⟨S1x8x128x16x4x128, .f32⟩
  | .hbm, ⟨40, _⟩ => ⟨S1x8x256x16x4x128, .f32⟩
  | .hbm, ⟨41, _⟩ => ⟨S1x8x16x4x128x256, .f32⟩
  | .hbm, ⟨42, _⟩ => ⟨S_, .f32⟩
  | .hbm, ⟨43, _⟩ => ⟨S1x8x16x4x128x256, .f32⟩
  | .hbm, ⟨44, _⟩ => ⟨S1x8x16x4x128x256, .f32⟩
  | .hbm, ⟨45, _⟩ => ⟨S128, .i32⟩
  | .hbm, ⟨46, _⟩ => ⟨S128x1, .i32⟩
  | .hbm, ⟨47, _⟩ => ⟨S256, .i32⟩
  | .hbm, ⟨48, _⟩ => ⟨S1x256, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S128x256, .i1⟩
  | .hbm, ⟨62, _⟩ => ⟨S8, .i32⟩
  | .hbm, ⟨63, _⟩ => ⟨S8x1x1, .i32⟩
  | .hbm, ⟨64, _⟩ => ⟨S_, .i32⟩
  | .hbm, ⟨65, _⟩ => ⟨S8x1x1, .i32⟩
  | .hbm, ⟨66, _⟩ => ⟨S8x1x1, .i1⟩
  | .hbm, ⟨67, _⟩ => ⟨S_, .i32⟩
  | .hbm, ⟨68, _⟩ => ⟨S1x256, .i32⟩
  | .hbm, ⟨69, _⟩ => ⟨S1x256, .i1⟩
  | .hbm, ⟨70, _⟩ => ⟨S1x1x256, .i1⟩
  | .hbm, ⟨71, _⟩ => ⟨S8x1x256, .i1⟩
  | .hbm, ⟨72, _⟩ => ⟨S8x1x256, .i1⟩
  | .hbm, ⟨73, _⟩ => ⟨S8x1x256, .i1⟩
  | .hbm, ⟨74, _⟩ => ⟨S1x128x256, .i1⟩
  | .hbm, ⟨75, _⟩ => ⟨S8x128x256, .i1⟩
  | .hbm, ⟨76, _⟩ => ⟨S8x128x256, .i1⟩
  | .hbm, ⟨77, _⟩ => ⟨S8x128x256, .i1⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4x1x1, .f32⟩
  | .hbm, ⟨82, _⟩ => ⟨S4x1x1, .f32⟩
  | .hbm, ⟨83, _⟩ => ⟨S128x256, .f32⟩
  | .hbm, ⟨84, _⟩ => ⟨S1x128x256, .f32⟩
  | .hbm, ⟨85, _⟩ => ⟨S4x128x256, .f32⟩
  | .hbm, ⟨86, _⟩ => ⟨S4x128x256, .f32⟩
  | .hbm, ⟨87, _⟩ => ⟨S4x128x256, .f32⟩
  | .hbm, ⟨88, _⟩ => ⟨S1x8x1x1x128x256, .i1⟩
  | .hbm, ⟨89, _⟩ => ⟨S1x1x1x4x128x256, .f32⟩
  | .hbm, ⟨90, _⟩ => ⟨S1x8x16x4x128x256, .f32⟩
  | .hbm, ⟨91, _⟩ => ⟨S1x8x16x4x128x256, .f32⟩
  | .hbm, ⟨92, _⟩ => ⟨S_, .f32⟩
  | .hbm, ⟨93, _⟩ => ⟨S_, .f32⟩
  | .hbm, ⟨94, _⟩ => ⟨S1x8x16x4x128x256, .i1⟩
  | .hbm, ⟨95, _⟩ => ⟨S1x8x16x4x128x256, .f32⟩
  | .hbm, ⟨96, _⟩ => ⟨S1x8x16x4x128x256, .f32⟩
  | .hbm, ⟨97, _⟩ => ⟨S_, .f32⟩
  | .hbm, ⟨98, _⟩ => ⟨S1x8x16x4x128, .f32⟩
  | .hbm, ⟨99, _⟩ => ⟨S1x8x16x4x128x1, .f32⟩
  | .hbm, ⟨100, _⟩ => ⟨S1x8x16x4x128x256, .f32⟩
  | .hbm, ⟨101, _⟩ => ⟨S1x8x16x4x128x256, .f32⟩
  | .hbm, ⟨102, _⟩ => ⟨S1x8x16x4x128x256, .f32⟩
  | .hbm, ⟨103, _⟩ => ⟨S_, .f32⟩
  | .hbm, ⟨104, _⟩ => ⟨S1x8x16x4x128, .f32⟩
  | .hbm, ⟨105, _⟩ => ⟨S1x8x16x4x128x128, .f32⟩
  | .hbm, ⟨106, _⟩ => ⟨S1x8x128x16x4x128, .f32⟩
  | .hbm, ⟨107, _⟩ => ⟨S1x8x128x16x4, .f32⟩
  | .hbm, ⟨108, _⟩ => ⟨S1x8x128x16x4x1, .f32⟩
  | .hbm, ⟨109, _⟩ => ⟨S1x8x128x16x4x128, .f32⟩
  | .hbm, ⟨110, _⟩ => ⟨S1x8x128x16x4x128, .f32⟩
  | .hbm, ⟨111, _⟩ => ⟨S1x8x16x4x128, .f32⟩
  | .hbm, ⟨112, _⟩ => ⟨S1x8x16x4x128, .f32⟩
  | .hbm, ⟨113, _⟩ => ⟨S1x8x16x4x128, .f32⟩
  | .hbm, ⟨114, _⟩ => ⟨S1x8x128x16x4, .f32⟩
  | .hbm, ⟨115, _⟩ => ⟨S1x16384x4x128, .f32⟩
  | .hbm, ⟨116, _⟩ => ⟨S1x16384x4, .f32⟩
  | .hbm, ⟨117, _⟩ => ⟨S16384x512, .f32⟩
  | .hbm, ⟨118, _⟩ => ⟨S16384x4x1, .f32⟩
  | .hbm, ⟨119, _⟩ => ⟨S16384x4x128, .f32⟩
  | .hbm, ⟨120, _⟩ => ⟨S16384x512, .f32⟩
  | .hbm, ⟨121, _⟩ => ⟨S16384x4608, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x384, .bf16⟩
  | .local _ .vmem, ⟨19, _⟩ => ⟨S2048x384, .bf16⟩
  | .local _ .vmem, ⟨20, _⟩ => ⟨S2x2048x128, .f32⟩
  | .local _ .vmem, ⟨21, _⟩ => ⟨S2x2048x128, .f32⟩
  | .local _ .vmem, ⟨22, _⟩ => ⟨S2x2048x128, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v16 : BitVec 1 := Scalar.cmpi .slt arg1 c8_i32
  let v17 : BitVec 32 := Scalar.extui v16
  let c0_i32_8 : BitVec 32 := 0#32
  let v18 : BitVec 1 := Scalar.cmpi .ne v17 c0_i32_8
  v18

@[reducible] def k0_t1_loop : Scf.Loop 32 :=
  let c0_i32_23 : BitVec 32 := 0#32
  let c16_i32 : BitVec 32 := 16#32
  let v45 : BitVec 32 := Scalar.addi c0_i32_23 c16_i32
  let c1_i32_24 : BitVec 32 := 1#32
  ⟨c0_i32_23, v45, c1_i32_24⟩
def k0_off1 (k0_t1 : Fin k0_t1_loop.trips) : Fin 2 → Nat :=
  let c0_i32_27 : BitVec 32 := 0#32
  let c0_i32_23 : BitVec 32 := 0#32
  let c1_i32_24 : BitVec 32 := 1#32
  let arg16 : BitVec 32 := Scf.iv c0_i32_23 c1_i32_24 k0_t1
  let v47 : BitVec 32 := Scalar.addi c0_i32_27 arg16
  let v48 : Index := Scalar.indexCast v47
  let c0_28 : Index := 0#32
  ![v48.toNat, 0]
def k0_off2 (i : grid0.Coords) (k0_t1 : Fin k0_t1_loop.trips) : Fin 3 → Nat :=
  let arg1 : BitVec 32 := BitVec.ofNat 32 (i 1).val
  let c2_i32 : BitVec 32 := 2#32
  let c0_i32_1 : BitVec 32 := 0#32
  let v2 : BitVec 1 := Scalar.cmpi .eq c2_i32 c0_i32_1
  let c1_i32 : BitVec 32 := 1#32
  let v3 : BitVec 32 := Scalar.select v2 c1_i32 c2_i32
  let v4 : BitVec 32 := Scalar.remsi arg1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v124 : Index := Scalar.indexCast v11
  let c0_i32_26 : BitVec 32 := 0#32
  let c0_i32_23 : BitVec 32 := 0#32
  let c1_i32_24 : BitVec 32 := 1#32
  let arg16 : BitVec 32 := Scf.iv c0_i32_23 c1_i32_24 k0_t1
  let v46 : BitVec 32 := Scalar.addi c0_i32_26 arg16
  let v125 : Index := Scalar.indexCast v46
  let c0_52 : Index := 0#32
  ![v124.toNat, v125.toNat, 0]
def k0_off3 (i : grid0.Coords) (k0_t1 : Fin k0_t1_loop.trips) : Fin 3 → Nat :=
  let c1_i32_5 : BitVec 32 := 1#32
  let arg1 : BitVec 32 := BitVec.ofNat 32 (i 1).val
  let c2_i32 : BitVec 32 := 2#32
  let c0_i32_1 : BitVec 32 := 0#32
  let v2 : BitVec 1 := Scalar.cmpi .eq c2_i32 c0_i32_1
  let c1_i32 : BitVec 32 := 1#32
  let v3 : BitVec 32 := Scalar.select v2 c1_i32 c2_i32
  let v4 : BitVec 32 := Scalar.remsi arg1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v12 : BitVec 32 := Scalar.subi c1_i32_5 v11
  let v140 : Index := Scalar.indexCast v12
  let c0_i32_55 : BitVec 32 := 0#32
  let c0_i32_23 : BitVec 32 := 0#32
  let c1_i32_24 : BitVec 32 := 1#32
  let arg16 : BitVec 32 := Scf.iv c0_i32_23 c1_i32_24 k0_t1
  let v139 : BitVec 32 := Scalar.addi c0_i32_55 arg16
  let v141 : Index := Scalar.indexCast v139
  let c0_56 : Index := 0#32
  ![v140.toNat, v141.toNat, 0]
def k0_off4 (i : grid0.Coords) : Fin 3 → Nat :=
  let c1_i32_5 : BitVec 32 := 1#32
  let arg1 : BitVec 32 := BitVec.ofNat 32 (i 1).val
  let c2_i32 : BitVec 32 := 2#32
  let c0_i32_1 : BitVec 32 := 0#32
  let v2 : BitVec 1 := Scalar.cmpi .eq c2_i32 c0_i32_1
  let c1_i32 : BitVec 32 := 1#32
  let v3 : BitVec 32 := Scalar.select v2 c1_i32 c2_i32
  let v4 : BitVec 32 := Scalar.remsi arg1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v12 : BitVec 32 := Scalar.subi c1_i32_5 v11
  let v19 : Index := Scalar.indexCast v12
  let c0 : Index := 0#32
  let c0_9 : Index := 0#32
  ![v19.toNat, 0, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli c3_i32 arg0
  let c24_i32 : BitVec 32 := 24#32
  let v2 : BitVec 32 := Scalar.addi c24_i32 v1
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli c3_i32 arg0
  let c25_i32 : BitVec 32 := 25#32
  let v2 : BitVec 32 := Scalar.addi c25_i32 v1
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.muli c1_i32 v0
  let c1_i32_0 : BitVec 32 := 1#32
  let v2 : BitVec 32 := Scalar.subi v1 c1_i32_0
  let c0_i32 : BitVec 32 := 0#32
  let v3 : BitVec 32 := Scalar.maxsi v2 c0_i32
  let c3_i32 : BitVec 32 := 3#32
  let v4 : BitVec 32 := Scalar.muli c3_i32 arg0
  let c25_i32 : BitVec 32 := 25#32
  let v5 : BitVec 32 := Scalar.addi c25_i32 v4
  let c0_i32_1 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli c3_i32 arg0
  let c26_i32 : BitVec 32 := 26#32
  let v2 : BitVec 32 := Scalar.addi c26_i32 v1
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.muli c1_i32 v0
  let c1_i32_0 : BitVec 32 := 1#32
  let v2 : BitVec 32 := Scalar.subi v1 c1_i32_0
  let c0_i32 : BitVec 32 := 0#32
  let v3 : BitVec 32 := Scalar.maxsi v2 c0_i32
  let c3_i32 : BitVec 32 := 3#32
  let v4 : BitVec 32 := Scalar.muli c3_i32 arg0
  let c26_i32 : BitVec 32 := 26#32
  let v5 : BitVec 32 := Scalar.addi c26_i32 v4
  let c0_i32_1 : BitVec 32 := 0#32
  ![v3.toNat, v5.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log_slope" => some ((-((8 * 12⁻¹) * (Real.log 2)) : ℝ) : EReal)
  | _ => none
-- ==== ReferenceIdeal.lean ====
abbrev S16384x4608 : Shape := ⟨2, ![16384, 4608]⟩
abbrev S16384x512 : Shape := ⟨2, ![16384, 512]⟩
abbrev S1x16384x4x128 : Shape := ⟨4, ![1, 16384, 4, 128]⟩
abbrev S16384x1536 : Shape := ⟨2, ![16384, 1536]⟩
abbrev S1x16384x4x3x128 : Shape := ⟨5, ![1, 16384, 4, 3, 128]⟩
abbrev S1x16384x4x1x128 : Shape := ⟨5, ![1, 16384, 4, 1, 128]⟩
abbrev S12 : Shape := ⟨1, ![12]⟩
abbrev S_ : Shape := ⟨0, ![]⟩
abbrev S4 : Shape := ⟨1, ![4]⟩
abbrev S1x8x128x16x4x128 : Shape := ⟨6, ![1, 8, 128, 16, 4, 128]⟩
abbrev S1x1x128x16x4x128 : Shape := ⟨6, ![1, 1, 128, 16, 4, 128]⟩
abbrev S1x7x128x16x4x128 : Shape := ⟨6, ![1, 7, 128, 16, 4, 128]⟩
abbrev S1x8x256x16x4x128 : Shape := ⟨6, ![1, 8, 256, 16, 4, 128]⟩
abbrev S1x8x16x4x128x256 : Shape := ⟨6, ![1, 8, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S4x1x1 : Shape := ⟨3, ![4, 1, 1]⟩
abbrev S4x128x256 : Shape := ⟨3, ![4, 128, 256]⟩
abbrev S1x8x1x1x128x256 : Shape := ⟨6, ![1, 8, 1, 1, 128, 256]⟩
abbrev S1x1x1x4x128x256 : Shape := ⟨6, ![1, 1, 1, 4, 128, 256]⟩
abbrev S1x8x16x4x128 : Shape := ⟨5, ![1, 8, 16, 4, 128]⟩
abbrev S1x8x16x4x128x1 : Shape := ⟨6, ![1, 8, 16, 4, 128, 1]⟩
abbrev S1x8x16x4x128x128 : Shape := ⟨6, ![1, 8, 16, 4, 128, 128]⟩
abbrev S1x8x128x16x4 : Shape := ⟨5, ![1, 8, 128, 16, 4]⟩
abbrev S1x8x128x16x4x1 : Shape := ⟨6, ![1, 8, 128, 16, 4, 1]⟩
abbrev S1x16384x4 : Shape := ⟨3, ![1, 16384, 4]⟩
abbrev S1x16384x4x1 : Shape := ⟨4, ![1, 16384, 4, 1]⟩
abbrev S16384x4 : Shape := ⟨2, ![16384, 4]⟩
abbrev S8x128x16x4 : Shape := ⟨4, ![8, 128, 16, 4]⟩
abbrev S8x16x4x128 : Shape := ⟨4, ![8, 16, 4, 128]⟩
abbrev S1x8x16x4x256x128 : Shape := ⟨6, ![1, 8, 16, 4, 256, 128]⟩
abbrev S16384x3072 : Shape := ⟨2, ![16384, 3072]⟩

abbrev nBuf : Space → Nat
  | .hbm => 216
  | .vmem => 0
  | .smem => 0
  | _ => 0

abbrev hbmTy0_0 (i : Nat) : BufTy := match i % 128 with
  | 0 => ⟨S16384x4608, .f32⟩
  | 1 => ⟨S16384x512, .f32⟩
  | 2 => ⟨S16384x512, .f32⟩
  | 3 => ⟨S16384x4608, .bf16⟩
  | 4 => ⟨S1x16384x4x128, .f32⟩
  | 5 => ⟨S1x16384x4x128, .f32⟩
  | 6 => ⟨S16384x1536, .f32⟩
  | 7 => ⟨S1x16384x4x3x128, .f32⟩
  | 8 => ⟨S1x16384x4x1x128, .f32⟩
  | 9 => ⟨S1x16384x4x128, .f32⟩
  | 10 => ⟨S1x16384x4x1x128, .f32⟩
  | 11 => ⟨S1x16384x4x128, .f32⟩
  | 12 => ⟨S1x16384x4x1x128, .f32⟩
  | 13 => ⟨S1x16384x4x128, .f32⟩
  | 14 => ⟨S12, .f32⟩
  | 15 => ⟨S_, .f32⟩
  | 16 => ⟨S12, .f32⟩
  | 17 => ⟨S12, .f32⟩
  | 18 => ⟨S_, .f32⟩
  | 19 => ⟨S12, .f32⟩
  | 20 => ⟨S12, .f32⟩
  | 21 => ⟨S_, .f32⟩
  | 22 => ⟨S12, .f32⟩
  | 23 => ⟨S12, .f32⟩
  | 24 => ⟨S_, .f32⟩
  | 25 => ⟨S12, .f32⟩
  | 26 => ⟨S12, .f32⟩
  | 27 => ⟨S4, .f32⟩
  | 28 => ⟨S1x8x128x16x4x128, .f32⟩
  | 29 => ⟨S1x8x128x16x4x128, .f32⟩
  | 30 => ⟨S1x8x128x16x4x128, .f32⟩
  | 31 => ⟨S1x1x128x16x4x128, .f32⟩
  | 32 => ⟨S_, .f32⟩
  | 33 => ⟨S1x1x128x16x4x128, .f32⟩
  | 34 => ⟨S1x7x128x16x4x128, .f32⟩
  | 35 => ⟨S1x8x128x16x4x128, .f32⟩
  | 36 => ⟨S_, .f32⟩
  | 37 => ⟨S1x1x128x16x4x128, .f32⟩
  | 38 => ⟨S1x8x256x16x4x128, .f32⟩
  | 39 => ⟨S1x1x128x16x4x128, .f32⟩
  | 40 => ⟨S_, .f32⟩
  | 41 => ⟨S1x1x128x16x4x128, .f32⟩
  | 42 => ⟨S1x7x128x16x4x128, .f32⟩
  | 43 => ⟨S1x8x128x16x4x128, .f32⟩
  | 44 => ⟨S_, .f32⟩
  | 45 => ⟨S1x1x128x16x4x128, .f32⟩
  | 46 => ⟨S1x8x256x16x4x128, .f32⟩
  | 47 => ⟨S1x8x16x4x128x256, .f32⟩
  | 48 => ⟨S_, .f32⟩
  | 49 => ⟨S1x8x16x4x128x256, .f32⟩
  | 50 => ⟨S1x8x16x4x128x256, .f32⟩
  | 51 => ⟨S128, .i32⟩
  | 52 => ⟨S128x1, .i32⟩
  | 53 => ⟨S256, .i32⟩
  | 54 => ⟨S1x256, .i32⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i1⟩
  | 67 => ⟨S128x256, .i1⟩
  | 68 => ⟨S8, .i32⟩
  | 69 => ⟨S8x1x1, .i32⟩
  | 70 => ⟨S_, .i32⟩
  | 71 => ⟨S8x1x1, .i32⟩
  | 72 => ⟨S8x1x1, .i1⟩
  | 73 => ⟨S_, .i32⟩
  | 74 => ⟨S1x256, .i32⟩
  | 75 => ⟨S1x256, .i1⟩
  | 76 => ⟨S1x1x256, .i1⟩
  | 77 => ⟨S8x1x256, .i1⟩
  | 78 => ⟨S8x1x256, .i1⟩
  | 79 => ⟨S8x1x256, .i1⟩
  | 80 => ⟨S1x128x256, .i1⟩
  | 81 => ⟨S8x128x256, .i1⟩
  | 82 => ⟨S8x128x256, .i1⟩
  | 83 => ⟨S8x128x256, .i1⟩
  | 84 => ⟨S_, .f32⟩
  | 85 => ⟨S4, .f32⟩
  | 86 => ⟨S4, .f32⟩
  | 87 => ⟨S4x1x1, .f32⟩
  | 88 => ⟨S4x1x1, .f32⟩
  | 89 => ⟨S128x256, .f32⟩
  | 90 => ⟨S1x128x256, .f32⟩
  | 91 => ⟨S4x128x256, .f32⟩
  | 92 => ⟨S4x128x256, .f32⟩
  | 93 => ⟨S4x128x256, .f32⟩
  | 94 => ⟨S1x8x1x1x128x256, .i1⟩
  | 95 => ⟨S1x1x1x4x128x256, .f32⟩
  | 96 => ⟨S1x8x16x4x128x256, .f32⟩
  | 97 => ⟨S1x8x16x4x128x256, .f32⟩
  | 98 => ⟨S_, .f32⟩
  | 99 => ⟨S_, .f32⟩
  | 100 => ⟨S1x8x16x4x128x256, .i1⟩
  | 101 => ⟨S1x8x16x4x128x256, .f32⟩
  | 102 => ⟨S1x8x16x4x128x256, .f32⟩
  | 103 => ⟨S_, .f32⟩
  | 104 => ⟨S1x8x16x4x128x256, .f32⟩
  | 105 => ⟨S_, .f32⟩
  | 106 => ⟨S1x8x16x4x128, .f32⟩
  | 107 => ⟨S1x8x16x4x128x1, .f32⟩
  | 108 => ⟨S1x8x16x4x128x256, .f32⟩
  | 109 => ⟨S1x8x16x4x128x256, .i1⟩
  | 110 => ⟨S1x8x16x4x128x256, .f32⟩
  | 111 => ⟨S_, .f32⟩
  | 112 => ⟨S1x8x16x4x128, .f32⟩
  | 113 => ⟨S1x8x16x4x128x1, .f32⟩
  | 114 => ⟨S1x8x16x4x128x256, .f32⟩
  | 115 => ⟨S1x8x16x4x128x256, .f32⟩
  | 116 => ⟨S1x8x16x4x128x256, .f32⟩
  | 117 => ⟨S_, .f32⟩
  | 118 => ⟨S1x8x16x4x128, .f32⟩
  | 119 => ⟨S1x8x16x4x128x128, .f32⟩
  | 120 => ⟨S1x8x128x16x4x128, .f32⟩
  | 121 => ⟨S1x8x128x16x4, .f32⟩
  | 122 => ⟨S1x8x128x16x4x1, .f32⟩
  | 123 => ⟨S1x8x128x16x4x128, .f32⟩
  | 124 => ⟨S1x8x128x16x4x128, .f32⟩
  | 125 => ⟨S1x8x128x16x4x1, .f32⟩
  | 126 => ⟨S_, .f32⟩
  | 127 => ⟨S1x8x128x16x4x1, .f32⟩
  | _ => ⟨S16384x4608, .f32⟩

abbrev hbmTy0_1 (i : Nat) : BufTy := match i % 128 with
  | 0 => ⟨S1x8x128x16x4x1, .f32⟩
  | 1 => ⟨S1x8x16x4x128, .f32⟩
  | 2 => ⟨S1x8x16x4x128, .f32⟩
  | 3 => ⟨S1x8x16x4x128, .f32⟩
  | 4 => ⟨S1x8x128x16x4, .f32⟩
  | 5 => ⟨S1x16384x4x128, .f32⟩
  | 6 => ⟨S1x16384x4, .f32⟩
  | 7 => ⟨S1x16384x4x1, .f32⟩
  | 8 => ⟨S1x16384x4x128, .f32⟩
  | 9 => ⟨S_, .f32⟩
  | 10 => ⟨S16384x4, .f32⟩
  | 11 => ⟨S1x16384x4x1, .f32⟩
  | 12 => ⟨S_, .f32⟩
  | 13 => ⟨S16384x4, .f32⟩
  | 14 => ⟨S1x16384x4, .f32⟩
  | 15 => ⟨S1x8x128x16x4, .f32⟩
  | 16 => ⟨S1x8x128x16x4x128, .f32⟩
  | 17 => ⟨S1x8x16x4x128, .f32⟩
  | 18 => ⟨S1x8x16x4x128, .f32⟩
  | 19 => ⟨S1x8x16x4x128x1, .f32⟩
  | 20 => ⟨S1x8x128x16x4x128, .f32⟩
  | 21 => ⟨S1x8x128x16x4x128, .f32⟩
  | 22 => ⟨S1x8x128x16x4x128, .f32⟩
  | 23 => ⟨S_, .f32⟩
  | 24 => ⟨S1x8x128x16x4, .f32⟩
  | 25 => ⟨S1x8x128x16x4x1, .f32⟩
  | 26 => ⟨S1x8x128x16x4x1, .f32⟩
  | 27 => ⟨S1x8x128x16x4x128, .f32⟩
  | 28 => ⟨S1x8x128x16x4x128, .f32⟩
  | 29 => ⟨S_, .f32⟩
  | 30 => ⟨S8x128x16x4, .f32⟩
  | 31 => ⟨S1x8x128x16x4, .f32⟩
  | 32 => ⟨S1x8x16x4x128, .f32⟩
  | 33 => ⟨S1x8x16x4x128, .f32⟩
  | 34 => ⟨S1x8x16x4x128x128, .f32⟩
  | 35 => ⟨S1x8x16x4x128x256, .f32⟩
  | 36 => ⟨S1x8x16x4x128x256, .f32⟩
  | 37 => ⟨S1x8x256x16x4x128, .f32⟩
  | 38 => ⟨S1x8x16x4x128x256, .f32⟩
  | 39 => ⟨S1x8x16x4x128x256, .f32⟩
  | 40 => ⟨S1x8x16x4x128x256, .f32⟩
  | 41 => ⟨S1x8x16x4x128x256, .f32⟩
  | 42 => ⟨S_, .f32⟩
  | 43 => ⟨S1x8x16x4x128, .f32⟩
  | 44 => ⟨S1x8x16x4x128x1, .f32⟩
  | 45 => ⟨S1x8x16x4x128x1, .f32⟩
  | 46 => ⟨S_, .f32⟩
  | 47 => ⟨S8x16x4x128, .f32⟩
  | 48 => ⟨S1x8x16x4x128, .f32⟩
  | 49 => ⟨S1x8x16x4x128, .f32⟩
  | 50 => ⟨S1x8x16x4x128x256, .f32⟩
  | 51 => ⟨S1x8x16x4x128x256, .f32⟩
  | 52 => ⟨S1x8x16x4x128x256, .f32⟩
  | 53 => ⟨S_, .f32⟩
  | 54 => ⟨S1x8x16x4x128x256, .f32⟩
  | 55 => ⟨S1x8x16x4x128x256, .f32⟩
  | 56 => ⟨S_, .f32⟩
  | 57 => ⟨S1x8x16x4x128x256, .f32⟩
  | 58 => ⟨S1x8x16x4x128x256, .f32⟩
  | 59 => ⟨S1x8x16x4x256x128, .f32⟩
  | 60 => ⟨S1x8x256x16x4x128, .f32⟩
  | 61 => ⟨S1x8x16x4x128x128, .f32⟩
  | 62 => ⟨S1x8x128x16x4x128, .f32⟩
  | 63 => ⟨S1x8x128x16x4x128, .f32⟩
  | 64 => ⟨S1x8x128x16x4x128, .f32⟩
  | 65 => ⟨S1x1x128x16x4x128, .f32⟩
  | 66 => ⟨S1x7x128x16x4x128, .f32⟩
  | 67 => ⟨S_, .f32⟩
  | 68 => ⟨S1x8x128x16x4x128, .f32⟩
  | 69 => ⟨S1x8x128x16x4x128, .f32⟩
  | 70 => ⟨S1x8x128x16x4x128, .f32⟩
  | 71 => ⟨S1x8x128x16x4x128, .f32⟩
  | 72 => ⟨S1x1x128x16x4x128, .f32⟩
  | 73 => ⟨S1x7x128x16x4x128, .f32⟩
  | 74 => ⟨S_, .f32⟩
  | 75 => ⟨S1x8x128x16x4x128, .f32⟩
  | 76 => ⟨S1x8x128x16x4x128, .f32⟩
  | 77 => ⟨S1x16384x4x128, .f32⟩
  | 78 => ⟨S1x16384x4x128, .f32⟩
  | 79 => ⟨S1x16384x4x128, .f32⟩
  | 80 => ⟨S1x16384x4x1x128, .f32⟩
  | 81 => ⟨S1x16384x4x1x128, .f32⟩
  | 82 => ⟨S1x16384x4x1x128, .f32⟩
  | 83 => ⟨S1x16384x4x3x128, .f32⟩
  | 84 => ⟨S16384x1536, .f32⟩
  | 85 => ⟨S16384x1536, .bf16⟩
  | 86 => ⟨S16384x3072, .bf16⟩
  | 87 => ⟨S16384x4608, .bf16⟩
  | _ => ⟨S16384x4608, .f32⟩

abbrev hbmTy (i : Nat) : BufTy := match i / 128 with
  | 0 => hbmTy0_0 i
  | 1 => hbmTy0_1 i
  | _ => ⟨S16384x4608, .f32⟩

abbrev bufTy : (tb : Table) → Fin (tcTables nBuf tb) → BufTy
  | .hbm, ⟨i, _⟩ => hbmTy i
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_call0_v0 : Ref sig .tc := ⟨.hbm, 99, rfl⟩
abbrev main_v79_1 : Ref sig .tc := ⟨.hbm, 100, rfl⟩
abbrev main_call0_v2 : Ref sig .tc := ⟨.hbm, 101, rfl⟩
abbrev main_v79_0 : Ref sig .tc := ⟨.hbm, 102, rfl⟩
abbrev main_call0_cst : Ref sig .tc := ⟨.hbm, 103, rfl⟩
abbrev main_v79_2 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_16 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_17 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_cst_19 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_20 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_21 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_22 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_23 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_call1_cst : Ref sig .tc := ⟨.hbm, 181, rfl⟩
abbrev main_call1_v0 : Ref sig .tc := ⟨.hbm, 182, rfl⟩
abbrev main_v146 : Ref sig .tc := ⟨.hbm, 183, rfl⟩
abbrev main_cst_24 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_25 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_cst_26 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩

abbrev nD : Nat := 1
abbrev τ : Topo := Topo.v7x

variable {F : FTy → Type} [FloatOps F]
-- ==== Gwd.lean ====
abbrev S16384x5632 : Shape := ⟨2, ![16384, 5632]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v19 : BitVec 1 := Scalar.cmpi .eq arg2 c15_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwdRefIdeal.lean ====
abbrev S16384x5632 : Shape := ⟨2, ![16384, 5632]⟩
abbrev S16384x1024 : Shape := ⟨2, ![16384, 1024]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S16384x2816, .bf16⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .bf16⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S2816x1024, .f32⟩
  | .hbm, ⟨18, _⟩ => ⟨S16384x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Gwgu.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwguRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S_, .f32⟩
  | .hbm, ⟨5, _⟩ => ⟨S1024x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhn.lean ====
abbrev S16384x5632 : Shape := ⟨2, ![16384, 5632]⟩
abbrev S1024x5632 : Shape := ⟨2, ![1024, 5632]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnRefIdeal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x5632, .f32⟩
  | .hbm, ⟨3, _⟩ => ⟨S1024x5632, .f32⟩
  | .hbm, ⟨4, _⟩ => ⟨S_, .f32⟩
  | .hbm, ⟨5, _⟩ => ⟨S16384x1024, .f32⟩
  | .hbm, ⟨6, _⟩ => ⟨S16384x5632, .f32⟩
  | .hbm, ⟨7, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dact.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S16384x2816, .f32⟩
  | .hbm, ⟨5, _⟩ => ⟨S16384x1024, .f32⟩
  | .hbm, ⟨6, _⟩ => ⟨S16384x2816, .f32⟩
  | .hbm, ⟨7, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dgu.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DguRefIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S_, .f32⟩
  | .hbm, ⟨23, _⟩ => ⟨S16384x5632, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Gwb.lean ====
abbrev S16384x3072 : Shape := ⟨2, ![16384, 3072]⟩
abbrev S16384x1024 : Shape := ⟨2, ![16384, 1024]⟩
abbrev S16384x2048 : Shape := ⟨2, ![16384, 2048]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 6, 8], ![false, false, false]⟩

def k0_cond5 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c3_i32 : BitVec 32 := 3#32
  let v1 : BitVec 1 := Scalar.cmpi .slt arg1 c3_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg1 c3_i32
  let c4_i32 : BitVec 32 := 4#32
  let v1 : BitVec 1 := Scalar.cmpi .slt arg1 c4_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg1 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c6_i32 : BitVec 32 := 6#32
  let v1 : BitVec 1 := Scalar.cmpi .slt arg1 c6_i32
  let v2 : BitVec 1 := Scalar.andi v0 v1
  let c0_i32 : BitVec 32 := 0#32
  let v3 : BitVec 32 := Scalar.select v2 arg2 c0_i32
  let c4_i32_0 : BitVec 32 := 4#32
  let v4 : BitVec 32 := Scalar.subi arg1 c4_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GwbRefIdeal.lean ====
abbrev S16384x3072 : Shape := ⟨2, ![16384, 3072]⟩
abbrev S16384x1024 : Shape := ⟨2, ![16384, 1024]⟩
abbrev S16384x2048 : Shape := ⟨2, ![16384, 2048]⟩
abbrev S_ : Shape := ⟨0, ![]⟩
abbrev S1024x6144 : Shape := ⟨2, ![1024, 6144]⟩
abbrev S16384x6144 : Shape := ⟨2, ![16384, 6144]⟩
abbrev S6144x1024 : Shape := ⟨2, ![6144, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S16384x1024, .f32⟩
  | .hbm, ⟨5, _⟩ => ⟨S16384x3072, .f32⟩
  | .hbm, ⟨6, _⟩ => ⟨S16384x1024, .f32⟩
  | .hbm, ⟨7, _⟩ => ⟨S16384x2048, .f32⟩
  | .hbm, ⟨8, _⟩ => ⟨S_, .f32⟩
  | .hbm, ⟨9, _⟩ => ⟨S1024x6144, .f32⟩
  | .hbm, ⟨10, _⟩ => ⟨S16384x6144, .f32⟩
  | .hbm, ⟨11, _⟩ => ⟨S16384x3072, .f32⟩
  | .hbm, ⟨12, _⟩ => ⟨S16384x1024, .f32⟩
  | .hbm, ⟨13, _⟩ => ⟨S16384x2048, .f32⟩
  | .hbm, ⟨14, _⟩ => ⟨S16384x6144, .f32⟩
  | .hbm, ⟨15, _⟩ => ⟨S6144x1024, .f32⟩
  | .hbm, ⟨16, _⟩ => ⟨S1024x6144, .f32⟩
  | .hbm, ⟨17, _⟩ => ⟨S1024x6144, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dub.lean ====
abbrev S16384x3072 : Shape := ⟨2, ![16384, 3072]⟩
abbrev S16384x1024 : Shape := ⟨2, ![16384, 1024]⟩
abbrev S16384x2048 : Shape := ⟨2, ![16384, 2048]⟩
abbrev S1024x6144 : Shape := ⟨2, ![1024, 6144]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x2048, .bf16⟩
  | .hbm, ⟨3, _⟩ => ⟨S1024x6144, .bf16⟩
  | .hbm, ⟨4, _⟩ => ⟨S16384x1024, .f32⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 6], ![false, false, false]⟩

def k0_cond5 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DubRefIdeal.lean ====
abbrev S16384x3072 : Shape := ⟨2, ![16384, 3072]⟩
abbrev S16384x1024 : Shape := ⟨2, ![16384, 1024]⟩
abbrev S16384x2048 : Shape := ⟨2, ![16384, 2048]⟩
abbrev S1024x6144 : Shape := ⟨2, ![1024, 6144]⟩
abbrev S_ : Shape := ⟨0, ![]⟩
abbrev S16384x6144 : Shape := ⟨2, ![16384, 6144]⟩

abbrev nBuf : Space → Nat
  | .hbm => 18
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x2048, .bf16⟩
  | .hbm, ⟨3, _⟩ => ⟨S1024x6144, .bf16⟩
  | .hbm, ⟨4, _⟩ => ⟨S16384x1024, .f32⟩
  | .hbm, ⟨5, _⟩ => ⟨S1024x6144, .f32⟩
  | .hbm, ⟨6, _⟩ => ⟨S16384x3072, .f32⟩
  | .hbm, ⟨7, _⟩ => ⟨S16384x1024, .f32⟩
  | .hbm, ⟨8, _⟩ => ⟨S16384x2048, .f32⟩
  | .hbm, ⟨9, _⟩ => ⟨S_, .f32⟩
  | .hbm, ⟨10, _⟩ => ⟨S16384x1024, .f32⟩
  | .hbm, ⟨11, _⟩ => ⟨S16384x6144, .f32⟩
  | .hbm, ⟨12, _⟩ => ⟨S16384x3072, .f32⟩
  | .hbm, ⟨13, _⟩ => ⟨S16384x1024, .f32⟩
  | .hbm, ⟨14, _⟩ => ⟨S16384x2048, .f32⟩
  | .hbm, ⟨15, _⟩ => ⟨S16384x6144, .f32⟩
  | .hbm, ⟨16, _⟩ => ⟨S16384x1024, .f32⟩
  | .hbm, ⟨17, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Gwout.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwoutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmix.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gwpd.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwpdRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dod.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DodRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gwpa.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwpaRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .f32⟩
  | .hbm, ⟨3, _⟩ => ⟨S16384x1024, .f32⟩
  | .hbm, ⟨4, _⟩ => ⟨S_, .f32⟩
  | .hbm, ⟨5, _⟩ => ⟨S512x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dyam.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyamRefIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x1024, .f32⟩
  | .hbm, ⟨3, _⟩ => ⟨S512x1024, .f32⟩
  | .hbm, ⟨4, _⟩ => ⟨S_, .f32⟩
  | .hbm, ⟨5, _⟩ => ⟨S16384x512, .f32⟩
  | .hbm, ⟨6, _⟩ => ⟨S16384x1024, .f32⟩
  | .hbm, ⟨7, _⟩ => ⟨S16384x512, .f32⟩
  | .hbm, ⟨8, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gu.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16384x5632 : Shape := ⟨2, ![16384, 5632]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2816x1024, .bf16⟩
  | .hbm, ⟨2, _⟩ => ⟨S16384x1024, .f32⟩
  | .hbm, ⟨3, _⟩ => ⟨S16384x2816, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | .hbm, ⟨15, _⟩ => ⟨S16384x2816, .f32⟩
  | .hbm, ⟨16, _⟩ => ⟨S16384x2816, .f32⟩
  | .hbm, ⟨17, _⟩ => ⟨S2816x1024, .f32⟩
  | .hbm, ⟨18, _⟩ => ⟨S16384x1024, .f32⟩
  | .hbm, ⟨19, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Pd.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PdRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Pa.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .f32⟩
  | .hbm, ⟨3, _⟩ => ⟨S512x1024, .f32⟩
  | .hbm, ⟨4, _⟩ => ⟨S16384x1024, .f32⟩
  | .hbm, ⟨5, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rmsb.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsbRefIdeal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Mixb.lean ====
abbrev S16384x1024 : Shape := ⟨2, ![16384, 1024]⟩
abbrev S16384x6144 : Shape := ⟨2, ![16384, 6144]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixbRefIdeal.lean ====
abbrev S16384x1024 : Shape := ⟨2, ![16384, 1024]⟩
abbrev S16384x6144 : Shape := ⟨2, ![16384, 6144]⟩
abbrev S16384x2048 : Shape := ⟨2, ![16384, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .bf16⟩
  | .hbm, ⟨3, _⟩ => ⟨S16384x1024, .bf16⟩
  | .hbm, ⟨4, _⟩ => ⟨S16384x1024, .f32⟩
  | .hbm, ⟨5, _⟩ => ⟨S16384x1024, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2048, .f32⟩
  | .hbm, ⟨31, _⟩ => ⟨S16384x2048, .f32⟩
  | .hbm, ⟨32, _⟩ => ⟨S16384x1024, .bf16⟩
  | .hbm, ⟨33, _⟩ => ⟨S16384x1024, .bf16⟩
  | .hbm, ⟨34, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Gwba.lean ====
abbrev S16384x1024 : Shape := ⟨2, ![16384, 1024]⟩
abbrev S16384x128 : Shape := ⟨2, ![16384, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwbaRefIdeal.lean ====
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S_, .f32⟩
  | .hbm, ⟨4, _⟩ => ⟨S1024x128, .f32⟩
  | .hbm, ⟨5, _⟩ => ⟨S16384x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Duba.lean ====
abbrev S16384x128 : Shape := ⟨2, ![16384, 128]⟩
abbrev S1024x128 : Shape := ⟨2, ![1024, 128]⟩
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S1024x128, .bf16⟩
  | .hbm, ⟨2, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DubaRefIdeal.lean ====
abbrev S16384x128 : Shape := ⟨2, ![16384, 128]⟩
abbrev S1024x128 : Shape := ⟨2, ![1024, 128]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1024x128, .bf16⟩
  | .hbm, ⟨2, _⟩ => ⟨S1024x128, .f32⟩
  | .hbm, ⟨3, _⟩ => ⟨S_, .f32⟩
  | .hbm, ⟨4, _⟩ => ⟨S16384x1024, .f32⟩
  | .hbm, ⟨5, _⟩ => ⟨S16384x128, .f32⟩
  | .hbm, ⟨6, _⟩ => ⟨S16384x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ba.lean ====
abbrev S16384x1024 : Shape := ⟨2, ![16384, 1024]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BaRefIdeal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x1024, .f32⟩
  | .hbm, ⟨3, _⟩ => ⟨S1024x128, .f32⟩
  | .hbm, ⟨4, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Run.Owned.lean ====
/-
  Loads and stores of a memref whose contents are known as a function: the two rules the body's proof uses.
-/
module

public import Idealize.ShloMosaic.Lib.Memref
public import Idealize.ShloMosaic.Init

@[expose] public section

noncomputable section

namespace Cert.Proof.Run

open Idealize.ShloMosaic
open Idealize.SL Idealize.SL.RA Idealize.SL.BI
open scoped Idealize.SL.BI
open Idealize.SL.BI.BIBase Idealize.SL.BI.Laws Idealize.SL.ProofMode Idealize.SL.Sem

/-! ## Contents after a store through a rectangle -/

/-- The contents `X` with the rectangle `r` replaced by `w`. -/
def put {s : Shape} {β : Type} (r : Rect s) (w : r.shape.Idx → β) (X : s.Idx → β) : s.Idx → β :=
  fun y => match preimage? r.emb y with
    | some x => w x
    | none => X y

/-- At an element of the rectangle the new value is read, -/
theorem put_emb {s : Shape} {β : Type} (r : Rect s) (w : r.shape.Idx → β) (X : s.Idx → β) (x : r.shape.Idx) :
    put r w X (r.emb x) = w x := by
  unfold put; rw [preimage?_emb]

/-- elsewhere the old one. -/
theorem put_of_not {s : Shape} {β : Type} (r : Rect s) (w : r.shape.Idx → β) (X : s.Idx → β) (y : s.Idx)
    (h : ∀ x, r.emb x ≠ y) : put r w X y = X y := by
  unfold put; rw [preimage?_eq_none h]

section Rules

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} (𝒱 : Variants) (c : Thread nD τ)
variable (bd : Option 𝒱.V) {Γ : PendingWaitsCtx sig Ix} (E : Set Name)
variable {s : Shape} {e : EltTy} {α : Type} {Q : α → sProp (MT nD τ sig Ix Val Name U Lvl)}

/-- A load from a memref owned at contents `X` continues at `X` read through the rectangle. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X
      ⊢ iprop((owns c m q X -∗ wp frame (wpE' defs 𝒱 c bd Γ) E (k (fun x => X (r.idx x))) Q)
        -∗ wp frame (wpE' defs 𝒱 c bd Γ) E (.op (.load m r hl) k) Q) := by
  unfold owns
  iintro ⟨%f, %hf, H⟩ Hk
  iapply (wp_load 𝒱 c bd E (m := m) (View.setOn_subset_set _ _)) $$ H
  iintro H
  have hX : (m.view.readAt Val r f) = fun x => X (r.idx x) := by subst hf; rfl
  rw [hX]
  iapply Hk
  iexists f
  isplitr
  · ipureintro; exact hf
  iexact H

/-- A store of `w` through a rectangle of a memref owned at contents `X` leaves it owned at `put r w X`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (put r w X) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  have hsub : (m.access r).setOn Finset.univ ⊆ m.view.set := by
    rw [View.setOn_univ]
    exact View.set_slice_subset _ r
  iapply (wp_store 𝒱 c bd E (m := m) (r := r) (Mk := Finset.univ) hsub) $$ H
  iintro H
  iapply Hk
  iexists _
  isplitr
  swap
  · iexact H
  ipureintro
  subst hf
  funext y
  by_cases hy : ∃ x, r.emb x = y
  · obtain ⟨x, rfl⟩ := hy
    rw [put_emb]
    exact View.read_slice_write_emb (v := m.view) r f w (Finset.mem_univ x)
  · rw [put_of_not _ _ _ _ (fun x hx => hy ⟨x, hx⟩)]
    refine View.read_slice_write_of_not_mem (v := m.view) r f w Finset.univ ?_
    intro h
    obtain ⟨x, -, hx⟩ := Finset.mem_map.mp h
    exact hy ⟨x, hx⟩

end Rules

end Cert.Proof.Run

end
-- ==== Proof.Run.Model.lean ====
/-
  What one grid point of the attention-gradient kernel computes, as functions of the nine blocks it reads and
  of the three carried arrays: stripe by stripe (sixteen interleaved streams), then the whole point.
-/
module

public import proofs.«01_k».proof.Proof.Gen.KernelIdeal.Skeleton
public import proofs.«01_k».proof.Proof.Run.Owned
public import Idealize.ShloMosaic.Lib.ValueIdxCore

@[expose] public section

noncomputable section

namespace Cert.Proof.Run

open Cert.KernelIdeal Cert.KernelIdeal.Gen
open Idealize.ShloMosaic Idealize.ShloMosaic.ValueIdx

variable {F : FTy → Type} [FloatOps F] [Named F]

/-! ## The offsets the kernel computes -/

theorem trips_eq : k0_t1_loop.trips = 16 := by decide

/-- The slot of the carried arrays a grid point writes its own tile's part to. -/
def slot (i : grid0.Coords) : ℕ := (i 1).val % 2

theorem slot_lt (i : grid0.Coords) : slot i < 2 := Nat.mod_lt _ (by decide)

/-- A stripe's number as one of sixteen. -/
def str (k : Fin k0_t1_loop.trips) : Fin 16 := ⟨k.val, lt_of_lt_of_eq k.isLt trips_eq⟩

theorem off1_eq (k : Fin k0_t1_loop.trips) : k0_off1 k = ![(str k).val, 0] := by
  revert k; decide

theorem off2_eq (i : grid0.Coords) (k : Fin k0_t1_loop.trips) : k0_off2 i k = ![slot i, (str k).val, 0] := by
  unfold slot k0_off2
  generalize (i 1) = n
  revert k n; decide

theorem off3_eq (i : grid0.Coords) (k : Fin k0_t1_loop.trips) : k0_off3 i k = ![1 - slot i, (str k).val, 0] := by
  unfold slot k0_off3
  generalize (i 1) = n
  revert k n; decide

theorem off4_eq (i : grid0.Coords) : k0_off4 i = ![1 - slot i, 0, 0] := by
  unfold slot k0_off4
  generalize (i 1) = n
  revert n; decide

/-- A point computes a tile exactly when its row number is below eight. -/
theorem cond2_iff (i : grid0.Coords) : k0_cond2 i = 1#1 ↔ (i 1).val < 8 := by
  unfold k0_cond2
  generalize (i 1) = n
  revert n; decide

/-- The carried arrays are zeroed exactly at row 0. -/
theorem cond1_iff (i : grid0.Coords) :
    Scalar.cmpi .ne (Scalar.extui (Scalar.cmpi .eq (BitVec.ofNat 32 (i 1).val) 0#32) : BitVec 32) 0#32 = 1#1 ↔ (i 1).val = 0 := by
  generalize (i 1) = n
  revert n; decide

/-- The first key a tile may look at: the tile of row 0 has no previous tile. -/
def firstKey (i : grid0.Coords) : BitVec 32 :=
  Scalar.select (Scalar.cmpi .sgt (BitVec.ofNat 32 (i 1).val) 0#32) 0#32 128#32

theorem firstKey_eq (i : grid0.Coords) : firstKey i = if (i 1).val = 0 then 128#32 else 0#32 := by
  unfold firstKey
  generalize (i 1) = n
  revert n; decide

/-! ## The blocks a point reads and the stripes of them -/

/-- The nine blocks a grid point reads. -/
structure Blocks (F : FTy → Type) where
  /-- queries -/
  q : Vec F S2048x128 .f32
  /-- keys of the tile -/
  kc : Vec F S2048x128 .f32
  /-- keys of the tile before -/
  kp : Vec F S2048x128 .f32
  /-- values of the tile -/
  vc : Vec F S2048x128 .f32
  /-- values of the tile before -/
  vp : Vec F S2048x128 .f32
  /-- the forward pass's result -/
  o : Vec F S2048x128 .f32
  /-- the forward pass's log-sum, on every lane -/
  lse : Vec F S2048x128 .f32
  /-- the gradient of the result -/
  dout : Vec F S2048x128 .f32
  /-- the gradient of the log-sum's lanes -/
  dl : Vec F S2048x128 .f32

/-- Stripe `r` of a block: its rows `r, r + 16, r + 32, …`. -/
def stripe (r : Fin 16) (X : Vec F S2048x128 .f32) : Vec F S128x128 .f32 :=
  fun x => X (ix2 ⟨r.val + 16 * (x 0).val, by have := r.isLt; have h : (x 0).val < 128 := (x 0).isLt; omega⟩ (x 1))

variable (i : grid0.Coords) (B : Blocks F) (r : Fin 16)

/-- A stripe's contribution to its own tile's query gradient, -/
def ownQ : FVec F S1x128x128 .f32 :=
  k0_pay19 (k0_pay24 i) (k0_pay2 (stripe r B.o)) (k0_pay3 (stripe r B.lse)) (stripe r B.dout) (stripe r B.dl)
    (k0_pay5 (stripe r B.kp) (stripe r B.kc)) (k0_pay6 (stripe r B.vp) (stripe r B.vc)) (k0_pay7 (stripe r B.dout))
    (k0_pay8 (stripe r B.kp) (stripe r B.q) (stripe r B.kc)) k0_pay9 k0_pay10 (k0_pay11 (firstKey i))

/-- to its own tile's key gradient, -/
def ownK : FVec F S1x128x128 .f32 :=
  k0_pay20 (k0_pay24 i) (k0_pay2 (stripe r B.o)) (k0_pay3 (stripe r B.lse)) (stripe r B.dout) (stripe r B.dl)
    (k0_pay4 (stripe r B.q)) (k0_pay6 (stripe r B.vp) (stripe r B.vc)) (k0_pay7 (stripe r B.dout))
    (k0_pay8 (stripe r B.kp) (stripe r B.q) (stripe r B.kc)) k0_pay9 k0_pay10 (k0_pay11 (firstKey i))

/-- to its own tile's value gradient, -/
def ownV : FVec F S1x128x128 .f32 :=
  k0_pay25 (k0_pay18 (k0_pay24 i) (k0_pay3 (stripe r B.lse)) (k0_pay7 (stripe r B.dout))
    (k0_pay8 (stripe r B.kp) (stripe r B.q) (stripe r B.kc)) k0_pay9 k0_pay10 (k0_pay11 (firstKey i)))

/-- to the key gradient of the tile before, -/
def prevK : FVec F S128x128 .f32 :=
  k0_pay16 (k0_pay24 i) (k0_pay2 (stripe r B.o)) (k0_pay3 (stripe r B.lse)) (stripe r B.dout) (stripe r B.dl)
    (k0_pay4 (stripe r B.q)) (k0_pay6 (stripe r B.vp) (stripe r B.vc)) (k0_pay7 (stripe r B.dout))
    (k0_pay8 (stripe r B.kp) (stripe r B.q) (stripe r B.kc)) k0_pay9 k0_pay10 (k0_pay11 (firstKey i))

/-- and to the value gradient of the tile before. -/
def prevV : FVec F S128x128 .f32 :=
  k0_pay17 (k0_pay24 i) (k0_pay3 (stripe r B.lse)) (k0_pay7 (stripe r B.dout))
    (k0_pay8 (stripe r B.kp) (stripe r B.q) (stripe r B.kc)) k0_pay9 k0_pay10 (k0_pay11 (firstKey i))

/-! ## The carried arrays, stripe by stripe -/

/-- The stripe a row of a carried array lies in. -/
def strOf (y : S2x2048x128.Idx) : Fin 16 := ⟨(y 1).val % 16, Nat.mod_lt _ (by decide)⟩

/-- A row's place within its stripe. -/
def inStr (y : S2x2048x128.Idx) : S1x128x128.Idx :=
  ix3 0 ⟨(y 1).val / 16, by have h : (y 1).val < 2048 := (y 1).isLt; omega⟩ (y 2)

/-- Stripe `r` of slot `s` of a carried array. -/
def slotStripe (s : ℕ) (hs : s < 2) (r : Fin 16) (X : Vec F S2x2048x128 .f32) : Vec F S1x128x128 .f32 :=
  fun x => X (ix3 ⟨s, hs⟩
    ⟨r.val + 16 * (x 1).val, by have := r.isLt; have h : (x 1).val < 128 := (x 1).isLt; omega⟩ (x 2))

theorem other_lt (i : grid0.Coords) : 1 - slot i < 2 := by omega

/-- The carried query gradients after `k` stripes. -/
def stQ (k : ℕ) (X : Vec F S2x2048x128 .f32) : Vec F S2x2048x128 .f32 := fun y =>
  if (y 1).val % 16 < k ∧ (y 0).val = slot i then ownQ i B (strOf y) (inStr y) else X y

/-- The carried key gradients after `k` stripes. -/
def stK (k : ℕ) (X : Vec F S2x2048x128 .f32) : Vec F S2x2048x128 .f32 := fun y =>
  if (y 1).val % 16 < k then
    if (y 0).val = slot i then ownK i B (strOf y) (inStr y)
    else k0_pay26 (prevK i B (strOf y)) (slotStripe (1 - slot i) (other_lt i) (strOf y) X) (inStr y)
  else X y

/-- The carried value gradients after `k` stripes. -/
def stV (k : ℕ) (X : Vec F S2x2048x128 .f32) : Vec F S2x2048x128 .f32 := fun y =>
  if (y 1).val % 16 < k then
    if (y 0).val = slot i then ownV i B (strOf y) (inStr y)
    else k0_pay27 (prevV i B (strOf y)) (slotStripe (1 - slot i) (other_lt i) (strOf y) X) (inStr y)
  else X y

/-! ## The whole point -/

/-- The carried arrays as the point leaves them: zeroed at row 0, then the sixteen stripes where a tile is
    computed. -/
def endQ (X : Vec F S2x2048x128 .f32) : Vec F S2x2048x128 .f32 :=
  if (i 1).val < 8 then stQ i B 16 (if (i 1).val = 0 then k0_pay21 else X) else X
def endK (X : Vec F S2x2048x128 .f32) : Vec F S2x2048x128 .f32 :=
  if (i 1).val < 8 then stK i B 16 (if (i 1).val = 0 then k0_pay22 else X) else X
def endV (X : Vec F S2x2048x128 .f32) : Vec F S2x2048x128 .f32 :=
  if (i 1).val < 8 then stV i B 16 (if (i 1).val = 0 then k0_pay23 else X) else X

/-- One slot of a carried array. -/
def slotOf (s : ℕ) (hs : s < 2) (X : Vec F S2x2048x128 .f32) : Vec F S1x2048x128 .f32 :=
  fun x => X (ix3 ⟨s, hs⟩ (x 1) (x 2))

/-- The block the point writes: the three slots side by side, rounded to bf16. -/
def outBlk (Xq Xk Xv : Vec F S2x2048x128 .f32) : Vec F S2048x384 .bf16 := fun y =>
  if h : (y 1).val < 128 then k0_pay28 (slotOf (1 - slot i) (other_lt i) Xq) (ix2 (y 0) ⟨(y 1).val, h⟩)
  else if h' : (y 1).val < 256 then
    k0_pay29 (slotOf (1 - slot i) (other_lt i) Xk) (ix2 (y 0) ⟨(y 1).val - 128, by omega⟩)
  else k0_pay1 (slotOf (1 - slot i) (other_lt i) Xv)
    (ix2 (y 0) ⟨(y 1).val - 256, by have h : (y 1).val < 384 := (y 1).isLt; omega⟩)

/-! ## Reading and writing stripes and slots -/

omit [Named F] in
/-- A strided load of a block reads its stripe. -/
theorem load_stripe (k : Fin k0_t1_loop.trips) (X : Vec F S2048x128 .f32)
    (hb : ∀ a, S128x128.size a = 0 ∨ (k0_off1 k) a + (![16, 1] : Fin 2 → Nat) a * (S128x128.size a - 1) < S2048x128.size a) :
    (fun x => X ((⟨k0_off1 k, S128x128.size, ![16, 1], hb⟩ : LoadRect S2048x128).idx x)) = stripe (str k) X := by
  funext x
  unfold stripe
  congr 1
  funext a
  apply Fin.ext
  rw [LoadRect.idx_apply]
  simp only [off1_eq]
  match a with
  | ⟨0, _⟩ => rfl
  | ⟨1, _⟩ => exact (Nat.zero_add _).trans (Nat.one_mul _)

omit [FloatOps F] [Named F] in
/-- A strided load of a carried array reads one stripe of one slot. -/
theorem load_slotStripe {off : Fin 3 → ℕ} (s : ℕ) (hs : s < 2) (r : Fin 16) (ho : off = ![s, r.val, 0])
    (X : Vec F S2x2048x128 .f32)
    (hb : ∀ a, S1x128x128.size a = 0 ∨ off a + (![1, 16, 1] : Fin 3 → Nat) a * (S1x128x128.size a - 1) < S2x2048x128.size a) :
    (fun x => X ((⟨off, S1x128x128.size, ![1, 16, 1], hb⟩ : LoadRect S2x2048x128).idx x)) = slotStripe s hs r X := by
  subst ho
  funext x
  unfold slotStripe
  congr 1
  funext a
  apply Fin.ext
  rw [LoadRect.idx_apply]
  match a with
  | ⟨0, _⟩ =>
    have h0 : (x 0).val < 1 := (x 0).isLt
    show s + 1 * (x 0).val = s
    omega
  | ⟨1, _⟩ => rfl
  | ⟨2, _⟩ => exact (Nat.zero_add _).trans (Nat.one_mul _)

omit [FloatOps F] [Named F] in
/-- A strided store into a carried array replaces one stripe of one slot. -/
theorem put_slotStripe {off : Fin 3 → ℕ} (s : ℕ) (r : Fin 16) (ho : off = ![s, r.val, 0])
    (hb : ∀ a, S1x128x128.size a = 0 ∨ off a + (![1, 16, 1] : Fin 3 → Nat) a * (S1x128x128.size a - 1) < S2x2048x128.size a)
    (hp : ∀ a, 0 < (![1, 16, 1] : Fin 3 → Nat) a) (w : Vec F S1x128x128 .f32) (X : Vec F S2x2048x128 .f32) (y : S2x2048x128.Idx) :
    put (⟨⟨off, S1x128x128.size, ![1, 16, 1], hb⟩, hp⟩ : Rect S2x2048x128) w X y
      = if (y 0).val = s ∧ strOf y = r then w (inStr y) else X y := by
  subst ho
  have h1 : (y 1).val < 2048 := (y 1).isLt
  by_cases h : (y 0).val = s ∧ strOf y = r
  · rw [if_pos h]
    have hr : (y 1).val % 16 = r.val := congrArg Fin.val h.2
    have hy : (⟨⟨![s, r.val, 0], S1x128x128.size, ![1, 16, 1], hb⟩, hp⟩ : Rect S2x2048x128).emb (inStr y) = y := by
      funext a
      apply Fin.ext
      rw [Rect.emb_apply]
      match a with
      | ⟨0, _⟩ => show s + 1 * 0 = (y 0).val; omega
      | ⟨1, _⟩ => show r.val + 16 * ((y 1).val / 16) = (y 1).val; omega
      | ⟨2, _⟩ => exact (Nat.zero_add _).trans (Nat.one_mul _)
    conv_lhs => rw [← hy]
    rw [put_emb]
  · rw [if_neg h]
    refine put_of_not _ _ _ _ fun x hx => h ?_
    have hx0 : (x 0).val < 1 := (x 0).isLt
    constructor
    · have := congrArg (fun z : S2x2048x128.Idx => (z 0).val) hx
      replace this : s + 1 * (x 0).val = (y 0).val := this
      omega
    · have := congrArg (fun z : S2x2048x128.Idx => (z 1).val) hx
      replace this : r.val + 16 * (x 1).val = (y 1).val := this
      apply Fin.ext
      show (y 1).val % 16 = r.val
      have := r.isLt
      omega

/-! ## No stripe and one more stripe -/

theorem stQ_zero (X : Vec F S2x2048x128 .f32) : stQ i B 0 X = X := by
  funext y; unfold stQ; rw [if_neg (fun h => Nat.not_lt_zero _ h.1)]
theorem stK_zero (X : Vec F S2x2048x128 .f32) : stK i B 0 X = X := by
  funext y; unfold stK; rw [if_neg (Nat.not_lt_zero _)]
theorem stV_zero (X : Vec F S2x2048x128 .f32) : stV i B 0 X = X := by
  funext y; unfold stV; rw [if_neg (Nat.not_lt_zero _)]

variable (k : Fin k0_t1_loop.trips)

theorem stQ_succ (X : Vec F S2x2048x128 .f32)
    (hb : ∀ a, S1x128x128.size a = 0 ∨ k0_off2 i k a + (![1, 16, 1] : Fin 3 → Nat) a * (S1x128x128.size a - 1) < S2x2048x128.size a)
    (hp : ∀ a, 0 < (![1, 16, 1] : Fin 3 → Nat) a) :
    put (⟨⟨k0_off2 i k, S1x128x128.size, ![1, 16, 1], hb⟩, hp⟩ : Rect S2x2048x128) (ownQ i B (str k)) (stQ i B k.val X)
      = stQ i B (k.val + 1) X := by
  funext y
  rw [put_slotStripe (slot i) (str k) (off2_eq i k)]
  unfold stQ
  by_cases h : (y 0).val = slot i ∧ strOf y = str k
  · have hk : (y 1).val % 16 = k.val := congrArg Fin.val h.2
    rw [if_pos h, if_pos ⟨by omega, h.1⟩, h.2]
  · rw [if_neg h]
    refine if_congr ?_ rfl rfl
    constructor
    · exact fun h' => ⟨by omega, h'.2⟩
    · rintro ⟨h1, h2⟩
      refine ⟨?_, h2⟩
      rcases Nat.lt_succ_iff_lt_or_eq.mp h1 with h3 | h3
      · exact h3
      · exact absurd ⟨h2, Fin.ext h3⟩ h

/-- The other slot's stripe `k` is as it was before the stripe is added to. -/
theorem slotStripe_stK (X : Vec F S2x2048x128 .f32) (w : Vec F S1x128x128 .f32)
    (hb : ∀ a, S1x128x128.size a = 0 ∨ k0_off2 i k a + (![1, 16, 1] : Fin 3 → Nat) a * (S1x128x128.size a - 1) < S2x2048x128.size a)
    (hp : ∀ a, 0 < (![1, 16, 1] : Fin 3 → Nat) a) :
    slotStripe (1 - slot i) (other_lt i) (str k)
      (put (⟨⟨k0_off2 i k, S1x128x128.size, ![1, 16, 1], hb⟩, hp⟩ : Rect S2x2048x128) w (stK i B k.val X))
      = slotStripe (1 - slot i) (other_lt i) (str k) X := by
  funext x
  have hs := slot_lt i
  unfold slotStripe
  rw [put_slotStripe (slot i) (str k) (off2_eq i k), if_neg]
  · unfold stK
    rw [if_neg]
    show ¬ ((str k).val + 16 * (x 1).val) % 16 < k.val
    have : (str k).val = k.val := rfl
    have := (str k).isLt
    omega
  · rintro ⟨h, -⟩
    replace h : 1 - slot i = slot i := h
    omega

theorem slotStripe_stV (X : Vec F S2x2048x128 .f32) (w : Vec F S1x128x128 .f32)
    (hb : ∀ a, S1x128x128.size a = 0 ∨ k0_off2 i k a + (![1, 16, 1] : Fin 3 → Nat) a * (S1x128x128.size a - 1) < S2x2048x128.size a)
    (hp : ∀ a, 0 < (![1, 16, 1] : Fin 3 → Nat) a) :
    slotStripe (1 - slot i) (other_lt i) (str k)
      (put (⟨⟨k0_off2 i k, S1x128x128.size, ![1, 16, 1], hb⟩, hp⟩ : Rect S2x2048x128) w (stV i B k.val X))
      = slotStripe (1 - slot i) (other_lt i) (str k) X := by
  funext x
  have hs := slot_lt i
  unfold slotStripe
  rw [put_slotStripe (slot i) (str k) (off2_eq i k), if_neg]
  · unfold stV
    rw [if_neg]
    show ¬ ((str k).val + 16 * (x 1).val) % 16 < k.val
    have : (str k).val = k.val := rfl
    have := (str k).isLt
    omega
  · rintro ⟨h, -⟩
    replace h : 1 - slot i = slot i := h
    omega

theorem stK_succ (X : Vec F S2x2048x128 .f32)
    (hb : ∀ a, S1x128x128.size a = 0 ∨ k0_off2 i k a + (![1, 16, 1] : Fin 3 → Nat) a * (S1x128x128.size a - 1) < S2x2048x128.size a)
    (hb' : ∀ a, S1x128x128.size a = 0 ∨ k0_off3 i k a + (![1, 16, 1] : Fin 3 → Nat) a * (S1x128x128.size a - 1) < S2x2048x128.size a)
    (hp hp' : ∀ a, 0 < (![1, 16, 1] : Fin 3 → Nat) a) :
    put (⟨⟨k0_off3 i k, S1x128x128.size, ![1, 16, 1], hb'⟩, hp'⟩ : Rect S2x2048x128)
        (k0_pay26 (prevK i B (str k)) (slotStripe (1 - slot i) (other_lt i) (str k) X))
        (put (⟨⟨k0_off2 i k, S1x128x128.size, ![1, 16, 1], hb⟩, hp⟩ : Rect S2x2048x128) (ownK i B (str k)) (stK i B k.val X))
      = stK i B (k.val + 1) X := by
  funext y
  have hs := slot_lt i
  have hy0 : (y 0).val < 2 := (y 0).isLt
  rw [put_slotStripe (1 - slot i) (str k) (off3_eq i k), put_slotStripe (slot i) (str k) (off2_eq i k)]
  unfold stK
  by_cases hk : strOf y = str k
  · have hk' : (y 1).val % 16 = k.val := congrArg Fin.val hk
    by_cases h0 : (y 0).val = slot i
    · rw [if_neg (by omega), if_pos ⟨h0, hk⟩, if_pos (by omega), if_pos h0, hk]
    · rw [if_pos ⟨by omega, hk⟩, if_pos (by omega), if_neg h0, hk]
  · have hk' : (y 1).val % 16 ≠ k.val := fun h => hk (Fin.ext h)
    rw [if_neg (fun h => hk h.2), if_neg (fun h => hk h.2)]
    exact if_congr (by omega) rfl rfl

theorem stV_succ (X : Vec F S2x2048x128 .f32)
    (hb : ∀ a, S1x128x128.size a = 0 ∨ k0_off2 i k a + (![1, 16, 1] : Fin 3 → Nat) a * (S1x128x128.size a - 1) < S2x2048x128.size a)
    (hb' : ∀ a, S1x128x128.size a = 0 ∨ k0_off3 i k a + (![1, 16, 1] : Fin 3 → Nat) a * (S1x128x128.size a - 1) < S2x2048x128.size a)
    (hp hp' : ∀ a, 0 < (![1, 16, 1] : Fin 3 → Nat) a) :
    put (⟨⟨k0_off3 i k, S1x128x128.size, ![1, 16, 1], hb'⟩, hp'⟩ : Rect S2x2048x128)
        (k0_pay27 (prevV i B (str k)) (slotStripe (1 - slot i) (other_lt i) (str k) X))
        (put (⟨⟨k0_off2 i k, S1x128x128.size, ![1, 16, 1], hb⟩, hp⟩ : Rect S2x2048x128) (ownV i B (str k)) (stV i B k.val X))
      = stV i B (k.val + 1) X := by
  funext y
  have hs := slot_lt i
  have hy0 : (y 0).val < 2 := (y 0).isLt
  rw [put_slotStripe (1 - slot i) (str k) (off3_eq i k), put_slotStripe (slot i) (str k) (off2_eq i k)]
  unfold stV
  by_cases hk : strOf y = str k
  · have hk' : (y 1).val % 16 = k.val := congrArg Fin.val hk
    by_cases h0 : (y 0).val = slot i
    · rw [if_neg (by omega), if_pos ⟨h0, hk⟩, if_pos (by omega), if_pos h0, hk]
    · rw [if_pos ⟨by omega, hk⟩, if_pos (by omega), if_neg h0, hk]
  · have hk' : (y 1).val % 16 ≠ k.val := fun h => hk (Fin.ext h)
    rw [if_neg (fun h => hk h.2), if_neg (fun h => hk h.2)]
    exact if_congr (by omega) rfl rfl

/-! ## Whole arrays, slots and column blocks -/

omit [FloatOps F] [Named F] in
/-- A load of one slot reads it. -/
theorem load_slot {off : Fin 3 → ℕ} (s : ℕ) (hs : s < 2) (ho : off = ![s, 0, 0]) (X : Vec F S2x2048x128 .f32)
    (hb : ∀ a, off a + S1x2048x128.size a ≤ S2x2048x128.size a) :
    (fun x => X ((Rect.unit (s := S2x2048x128) off S1x2048x128.size hb).toLoadRect.idx x)) = slotOf s hs X := by
  subst ho
  funext x
  unfold slotOf
  congr 1
  funext a
  apply Fin.ext
  rw [LoadRect.idx_apply]
  match a with
  | ⟨0, _⟩ =>
    have h0 : (x 0).val < 1 := (x 0).isLt
    show s + 1 * (x 0).val = s
    omega
  | ⟨1, _⟩ => exact (Nat.zero_add _).trans (Nat.one_mul _)
  | ⟨2, _⟩ => exact (Nat.zero_add _).trans (Nat.one_mul _)

omit [FloatOps F] [Named F] in
/-- A store through the whole of a carried array replaces it. -/
theorem put_all (hb : ∀ a, (![0, 0, 0] : Fin 3 → ℕ) a + S2x2048x128.size a ≤ S2x2048x128.size a) (w X : Vec F S2x2048x128 .f32) :
    put (Rect.unit (s := S2x2048x128) ![0, 0, 0] S2x2048x128.size hb) w X = w := by
  funext y
  have hy : (Rect.unit (s := S2x2048x128) ![0, 0, 0] S2x2048x128.size hb).emb y = y := by
    funext a
    apply Fin.ext
    rw [Rect.emb_apply]
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  conv_lhs => rw [← hy]
  exact put_emb _ _ _ _

omit [FloatOps F] [Named F] in
/-- A store of one of the three column blocks of the result's block. -/
theorem put_cols (o : ℕ) (ho : o + 128 ≤ 384) (hb : ∀ a, (![0, o] : Fin 2 → ℕ) a + S2048x128.size a ≤ S2048x384.size a)
    (w : Vec F S2048x128 .bf16) (X : Vec F S2048x384 .bf16) (y : S2048x384.Idx) :
    put (Rect.unit (s := S2048x384) ![0, o] S2048x128.size hb) w X y
      = if h : o ≤ (y 1).val ∧ (y 1).val < o + 128 then w (ix2 (y 0) ⟨(y 1).val - o, by omega⟩) else X y := by
  by_cases h : o ≤ (y 1).val ∧ (y 1).val < o + 128
  · rw [dif_pos h]
    have hy : (Rect.unit (s := S2048x384) ![0, o] S2048x128.size hb).emb (ix2 (y 0) ⟨(y 1).val - o, by omega⟩) = y := by
      funext a
      apply Fin.ext
      rw [Rect.emb_apply]
      match a with
      | ⟨0, _⟩ => exact (Nat.zero_add _).trans (Nat.one_mul _)
      | ⟨1, _⟩ => show o + 1 * ((y 1).val - o) = (y 1).val; omega
    conv_lhs => rw [← hy]
    exact put_emb _ _ _ _
  · rw [dif_neg h]
    refine put_of_not _ _ _ _ fun x hx => h ?_
    have hx1 : (x 1).val < 128 := (x 1).isLt
    have := congrArg (fun z : S2048x384.Idx => (z 1).val) hx
    replace this : o + 1 * (x 1).val = (y 1).val := this
    omega

/-- The three stores of the point's end write its block, whatever was there. -/
theorem put_out (Xq Xk Xv : Vec F S2x2048x128 .f32) (W : Vec F S2048x384 .bf16)
    (h0 : ∀ a, (![0, 0] : Fin 2 → ℕ) a + S2048x128.size a ≤ S2048x384.size a)
    (h1 : ∀ a, (![0, 128] : Fin 2 → ℕ) a + S2048x128.size a ≤ S2048x384.size a)
    (h2 : ∀ a, (![0, 256] : Fin 2 → ℕ) a + S2048x128.size a ≤ S2048x384.size a) :
    put (Rect.unit (s := S2048x384) ![0, 256] S2048x128.size h2) (k0_pay1 (slotOf (1 - slot i) (other_lt i) Xv))
      (put (Rect.unit (s := S2048x384) ![0, 128] S2048x128.size h1) (k0_pay29 (slotOf (1 - slot i) (other_lt i) Xk))
        (put (Rect.unit (s := S2048x384) ![0, 0] S2048x128.size h0) (k0_pay28 (slotOf (1 - slot i) (other_lt i) Xq)) W))
      = outBlk i Xq Xk Xv := by
  funext y
  have hy : (y 1).val < 384 := (y 1).isLt
  rw [put_cols 256 (by decide), put_cols 128 (by decide), put_cols 0 (by decide)]
  unfold outBlk
  by_cases ha : (y 1).val < 128
  · rw [dif_neg (by omega), dif_neg (by omega), dif_pos (by omega), dif_pos ha]; rfl
  · by_cases hb : (y 1).val < 256
    · rw [dif_neg (by omega), dif_pos (by omega), dif_neg ha, dif_pos hb]
    · rw [dif_pos (by omega), dif_neg ha, dif_neg hb]

end Cert.Proof.Run

end
-- ==== Proof.Run.Point.lean ====
/-
  One stripe of the kernel's loop, and one grid point, as triples over the contents of the memrefs.
-/
module

public import proofs.«01_k».proof.Proof.Run.Model
public import proofs.«01_k».proof.Proof.Gen.KernelIdeal.Loops
public import Idealize.ShloMosaic.Lib.Scf

@[expose] public section

noncomputable section

namespace Cert.Proof.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- No variants are needed: the kernel's loop is counted. -/
abbrev 𝒱₀ : Variants := Variants.none

/-- A carried array stored whole is owned at what was stored. -/
theorem owns_put_all (c : Dev nD) (m : Memref sig .tc .vmem S2x2048x128 .f32) (w X : Vec F S2x2048x128 .f32) :
    (owns (c : Thread nD τ) m fullShare
        (put (Rect.unit (s := S2x2048x128) ![0, 0, 0] S2x2048x128.size inb_S2x2048x128_S2x2048x128_0_0_0) w X) : sProp 𝕄)
      ⊢ owns (c : Thread nD τ) m fullShare w := by
  rw [put_all]

section Point

variable (c : Dev nD) (i : grid0.Coords) (B : Blocks F)
variable (arg2 : Memref sig .tc .vmem S2048x128 .f32) (harg2 : arg2.IsWhole)
variable (arg3 : Memref sig .tc .vmem S2048x128 .f32) (harg3 : arg3.IsWhole)
variable (arg4 : Memref sig .tc .vmem S2048x128 .f32) (harg4 : arg4.IsWhole)
variable (arg5 : Memref sig .tc .vmem S2048x128 .f32) (harg5 : arg5.IsWhole)
variable (arg6 : Memref sig .tc .vmem S2048x128 .f32) (harg6 : arg6.IsWhole)
variable (arg7 : Memref sig .tc .vmem S2048x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .hbm S16384x4608 .bf16) (harg11 : arg11.IsWhole)
variable (arg12 : Memref sig .tc .vmem S2048x384 .bf16) (harg12 : arg12.IsWhole)
variable (arg13 : Memref sig .tc .vmem S2x2048x128 .f32) (harg13 : arg13.IsWhole)
variable (arg14 : Memref sig .tc .vmem S2x2048x128 .f32) (harg14 : arg14.IsWhole)
variable (arg15 : Memref sig .tc .vmem S2x2048x128 .f32) (harg15 : arg15.IsWhole)

/-- The nine blocks the point reads, in their memrefs. -/
def reads : sProp 𝕄 :=
  iprop(owns (c : Thread nD τ) arg2 fullShare B.q ∗ owns (c : Thread nD τ) arg3 fullShare B.kc ∗ owns (c : Thread nD τ) arg4 fullShare B.kp ∗ owns (c : Thread nD τ) arg5 fullShare B.vc ∗ owns (c : Thread nD τ) arg6 fullShare B.vp ∗ owns (c : Thread nD τ) arg7 fullShare B.o ∗ owns (c : Thread nD τ) arg8 fullShare B.lse ∗ owns (c : Thread nD τ) arg9 fullShare B.dout ∗ owns (c : Thread nD τ) arg10 fullShare B.dl)

/-- The three carried arrays, in theirs. -/
def carried (Xq Xk Xv : Vec F S2x2048x128 .f32) : sProp 𝕄 :=
  iprop(owns (c : Thread nD τ) arg13 fullShare Xq ∗ owns (c : Thread nD τ) arg14 fullShare Xk ∗ owns (c : Thread nD τ) arg15 fullShare Xv)

/-- The loop's invariant: after `k` stripes the carried arrays are `stQ`, `stK`, `stV` at `k`. -/
def loopInv (Xq Xk Xv : Vec F S2x2048x128 .f32) (k : ℕ) (_ : Unit) : sProp 𝕄 :=
  iprop(reads c B arg2 arg3 arg4 arg5 arg6 arg7 arg8 arg9 arg10
    ∗ carried c arg13 arg14 arg15 (stQ i B k Xq) (stK i B k Xk) (stV i B k Xv))

set_option maxHeartbeats 4000000 in
/-- One stripe takes the invariant to the next. -/
theorem trip_sound (v11 : BitVec 32) (h2 : k0_cond2 i = 1#1) (Xq Xk Xv : Vec F S2x2048x128 .f32) (k : Fin k0_t1_loop.trips) (u : Unit) :
    loopInv c i B arg2 arg3 arg4 arg5 arg6 arg7 arg8 arg9 arg10 arg13 arg14 arg15 Xq Xk Xv k.val u
      ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 arg12 harg12 arg13 harg13 arg14 harg14 arg15 harg15 (firstKey i) v11 h2 k u)
          (loopInv c i B arg2 arg3 arg4 arg5 arg6 arg7 arg8 arg9 arg10 arg13 arg14 arg15 Xq Xk Xv (k.val + 1)) := by
  unfold k0_t1_body
  simp only [k0_part1_eq_skeleton, k0_part2_eq_skeleton]
  unfold k0_part1_skel k0_part2_skel
  simp only [Prog.lift, Prog.bind_op, Prog.bind_ret, Prog.pure_eq_ret]
  unfold loopInv reads carried
  iintro ⟨⟨H2, H3, H4, H5, H6, H7, H8, H9, H10⟩, H13, H14, H15⟩
  iapply (wp_load_owns 𝒱₀ (c : Thread nD τ) none Set.univ (m := arg4)) $$ H4; iintro H4
  iapply (wp_load_owns 𝒱₀ (c : Thread nD τ) none Set.univ (m := arg6)) $$ H6; iintro H6
  iapply (wp_load_owns 𝒱₀ (c : Thread nD τ) none Set.univ (m := arg2)) $$ H2; iintro H2
  iapply (wp_load_owns 𝒱₀ (c : Thread nD τ) none Set.univ (m := arg3)) $$ H3; iintro H3
  iapply (wp_load_owns 𝒱₀ (c : Thread nD τ) none Set.univ (m := arg5)) $$ H5; iintro H5
  iapply (wp_load_owns 𝒱₀ (c : Thread nD τ) none Set.univ (m := arg7)) $$ H7; iintro H7
  iapply (wp_load_owns 𝒱₀ (c : Thread nD τ) none Set.univ (m := arg8)) $$ H8; iintro H8
  iapply (wp_load_owns 𝒱₀ (c : Thread nD τ) none Set.univ (m := arg9)) $$ H9; iintro H9
  iapply (wp_load_owns 𝒱₀ (c : Thread nD τ) none Set.univ (m := arg10)) $$ H10; iintro H10
  simp only [load_stripe]
  iapply (wp_load_owns 𝒱₀ (c : Thread nD τ) none Set.univ (m := arg13)) $$ H13; iintro H13
  iapply (wp_store_owns 𝒱₀ (c : Thread nD τ) none Set.univ (m := arg13)) $$ H13; iintro H13
  iapply (wp_load_owns 𝒱₀ (c : Thread nD τ) none Set.univ (m := arg14)) $$ H14; iintro H14
  iapply (wp_store_owns 𝒱₀ (c : Thread nD τ) none Set.univ (m := arg14)) $$ H14; iintro H14
  iapply (wp_load_owns 𝒱₀ (c : Thread nD τ) none Set.univ (m := arg15)) $$ H15; iintro H15
  iapply (wp_store_owns 𝒱₀ (c : Thread nD τ) none Set.univ (m := arg15)) $$ H15; iintro H15
  iapply (wp_load_owns 𝒱₀ (c : Thread nD τ) none Set.univ (m := arg14)) $$ H14; iintro H14
  iapply (wp_load_owns 𝒱₀ (c : Thread nD τ) none Set.univ (m := arg14)) $$ H14; iintro H14
  iapply (wp_store_owns 𝒱₀ (c : Thread nD τ) none Set.univ (m := arg14)) $$ H14; iintro H14
  iapply (wp_load_owns 𝒱₀ (c : Thread nD τ) none Set.univ (m := arg15)) $$ H15; iintro H15
  iapply (wp_load_owns 𝒱₀ (c : Thread nD τ) none Set.univ (m := arg15)) $$ H15; iintro H15
  iapply (wp_store_owns 𝒱₀ (c : Thread nD τ) none Set.univ (m := arg15)) $$ H15; iintro H15
  rw [wp_ret]; imodintro
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H13]
  · have e := stQ_succ i B k Xq (k0_off2_inb i k h2) spos_1_16_1
    rw [← e]; iexact H13
  isplitl [H14]
  · have e := stK_succ i B k Xk (k0_off2_inb i k h2) (k0_off3_inb i k h2) spos_1_16_1 spos_1_16_1
    rw [← e, ← slotStripe_stK i B k Xk (ownK i B (str k)) (k0_off2_inb i k h2) spos_1_16_1,
      ← load_slotStripe (1 - slot i) (other_lt i) (str k) (off3_eq i k) _ (k0_off3_inb i k h2)]
    iexact H14
  · have e := stV_succ i B k Xv (k0_off2_inb i k h2) (k0_off3_inb i k h2) spos_1_16_1 spos_1_16_1
    rw [← e, ← slotStripe_stV i B k Xv (ownV i B (str k)) (k0_off2_inb i k h2) spos_1_16_1,
      ← load_slotStripe (1 - slot i) (other_lt i) (str k) (off3_eq i k) _ (k0_off3_inb i k h2)]
    iexact H15

/-- The program's last statements: the slot of each carried array loaded, rounded and stored. -/
def finishProg : Prog (TpuEff nD τ sig (Elt F) Λ₀ .tc) PUnit :=
  .op (.load arg13 (Rect.unit (s := S2x2048x128) (k0_off4 i) S1x2048x128.size (k0_off4_inb i)).toLoadRect (View.loadsAt_vmem h_S1x2048x128)) fun v20 =>
  .op (.load arg12 (Rect.unit (s := S2048x384) ![0, 0] S2048x128.size inb_S2048x384_S2048x128_0_0).toLoadRect (View.loadsAt_vmem h_S2048x128)) fun _ =>
  .op (.store arg12 (Rect.unit (s := S2048x384) ![0, 0] S2048x128.size inb_S2048x384_S2048x128_0_0) (k0_pay28 v20) Finset.univ (View.stores_vmem h_S2048x128 (harg12.storeExact_slice rfl _ packedbf16_S2048x384_S2048x128_0_0) (fun _ => rfl)) (.inl rfl)) fun _ =>
  .op (.load arg14 (Rect.unit (s := S2x2048x128) (k0_off4 i) S1x2048x128.size (k0_off4_inb i)).toLoadRect (View.loadsAt_vmem h_S1x2048x128)) fun v25 =>
  .op (.load arg12 (Rect.unit (s := S2048x384) ![0, 128] S2048x128.size inb_S2048x384_S2048x128_0_128).toLoadRect (View.loadsAt_vmem h_S2048x128)) fun _ =>
  .op (.store arg12 (Rect.unit (s := S2048x384) ![0, 128] S2048x128.size inb_S2048x384_S2048x128_0_128) (k0_pay29 v25) Finset.univ (View.stores_vmem h_S2048x128 (harg12.storeExact_slice rfl _ packedbf16_S2048x384_S2048x128_0_128) (fun _ => rfl)) (.inl rfl)) fun _ =>
  .op (.load arg15 (Rect.unit (s := S2x2048x128) (k0_off4 i) S1x2048x128.size (k0_off4_inb i)).toLoadRect (View.loadsAt_vmem h_S1x2048x128)) fun v30 =>
  .op (.load arg12 (Rect.unit (s := S2048x384) ![0, 256] S2048x128.size inb_S2048x384_S2048x128_0_256).toLoadRect (View.loadsAt_vmem h_S2048x128)) fun _ =>
  .op (.store arg12 (Rect.unit (s := S2048x384) ![0, 256] S2048x128.size inb_S2048x384_S2048x128_0_256) (k0_pay1 v30) Finset.univ (View.stores_vmem h_S2048x128 (harg12.storeExact_slice rfl _ packedbf16_S2048x384_S2048x128_0_256) (fun _ => rfl)) (.inl rfl)) fun _ =>
  .ret ⟨⟩

/-- The end of a point: from the carried arrays at `Yq`, `Yk`, `Yv`, the block of the result is written. -/
theorem finish_sound (W : Vec F S2048x384 .bf16) (Yq Yk Yv : Vec F S2x2048x128 .f32) (K : PUnit → sProp 𝕄) :
    iprop(reads c B arg2 arg3 arg4 arg5 arg6 arg7 arg8 arg9 arg10 ∗ owns (c : Thread nD τ) arg12 fullShare W ∗ carried c arg13 arg14 arg15 Yq Yk Yv
        ∗ ((reads c B arg2 arg3 arg4 arg5 arg6 arg7 arg8 arg9 arg10 ∗ owns (c : Thread nD τ) arg12 fullShare (outBlk i Yq Yk Yv) ∗ carried c arg13 arg14 arg15 Yq Yk Yv) -∗ K ⟨⟩))
      ⊢ wp frame (wpE (defs₀ (F := F)) 𝒱₀ (c : Thread nD τ) none) Set.univ (finishProg i arg12 harg12 arg13 arg14 arg15) K := by
  unfold finishProg carried
  iintro ⟨HR, H12, ⟨H13, H14, H15⟩, Hk⟩
  iapply (wp_load_owns 𝒱₀ (c : Thread nD τ) none Set.univ (m := arg13)) $$ H13; iintro H13
  iapply (wp_load_owns 𝒱₀ (c : Thread nD τ) none Set.univ (m := arg12)) $$ H12; iintro H12
  iapply (wp_store_owns 𝒱₀ (c : Thread nD τ) none Set.univ (m := arg12)) $$ H12; iintro H12
  iapply (wp_load_owns 𝒱₀ (c : Thread nD τ) none Set.univ (m := arg14)) $$ H14; iintro H14
  iapply (wp_load_owns 𝒱₀ (c : Thread nD τ) none Set.univ (m := arg12)) $$ H12; iintro H12
  iapply (wp_store_owns 𝒱₀ (c : Thread nD τ) none Set.univ (m := arg12)) $$ H12; iintro H12
  iapply (wp_load_owns 𝒱₀ (c : Thread nD τ) none Set.univ (m := arg15)) $$ H15; iintro H15
  iapply (wp_load_owns 𝒱₀ (c : Thread nD τ) none Set.univ (m := arg12)) $$ H12; iintro H12
  iapply (wp_store_owns 𝒱₀ (c : Thread nD τ) none Set.univ (m := arg12)) $$ H12; iintro H12
  rw [wp_ret]; imodintro
  iapply Hk
  simp only [load_slot (1 - slot i) (other_lt i) (off4_eq i)]
  isplitl [HR]; · iexact HR
  isplitl [H12]
  · rw [← put_out i Yq Yk Yv W inb_S2048x384_S2048x128_0_0 inb_S2048x384_S2048x128_0_128 inb_S2048x384_S2048x128_0_256]
    iexact H12
  isplitl [H13]; · iexact H13
  isplitl [H14]; · iexact H14
  iexact H15

set_option maxHeartbeats 4000000 in
/-- One grid point: from the nine blocks and the carried arrays at `Xq`, `Xk`, `Xv`, the body writes its block of
    the result and leaves the carried arrays at `endQ`, `endK`, `endV`. -/
theorem point_sound (W : Vec F S2048x384 .bf16) (Xq Xk Xv : Vec F S2x2048x128 .f32) (K : PUnit → sProp 𝕄) :
    iprop(reads c B arg2 arg3 arg4 arg5 arg6 arg7 arg8 arg9 arg10 ∗ owns (c : Thread nD τ) arg12 fullShare W ∗ carried c arg13 arg14 arg15 Xq Xk Xv
        ∗ ((reads c B arg2 arg3 arg4 arg5 arg6 arg7 arg8 arg9 arg10 ∗ owns (c : Thread nD τ) arg12 fullShare (outBlk i (endQ i B Xq) (endK i B Xk) (endV i B Xv))
            ∗ carried c arg13 arg14 arg15 (endQ i B Xq) (endK i B Xk) (endV i B Xv)) -∗ K ⟨⟩))
      ⊢ wp frame (wpE (defs₀ (F := F)) 𝒱₀ (c : Thread nD τ) none) Set.univ
          (cc0_attn_bwd2 i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_attn_bwd2_eq_skeleton]
  unfold cc0_attn_bwd2_skel
  rw [k0_part3_eq_skeleton]
  unfold k0_part3_skel
  by_cases h0 : (i 1).val = 0
  · have h8 : (i 1).val < 8 := by omega
    have h2 : k0_cond2 i = 1#1 := (cond2_iff i).mpr h8
    simp only [Prog.lift, Prog.bind_op, Prog.bind_ret, Prog.pure_eq_ret, bind_assoc, dif_pos ((cond1_iff i).mpr h0), dif_pos h2]
    unfold endQ endK endV carried
    simp only [if_pos h8, if_pos h0]
    iintro ⟨HR, H12, ⟨H13, H14, H15⟩, Hk⟩
    iapply (wp_load_owns 𝒱₀ (c : Thread nD τ) none Set.univ (m := arg13)) $$ H13; iintro H13
    iapply (wp_store_owns 𝒱₀ (c : Thread nD τ) none Set.univ (m := arg13)) $$ H13; iintro H13
    iapply (wp_load_owns 𝒱₀ (c : Thread nD τ) none Set.univ (m := arg14)) $$ H14; iintro H14
    iapply (wp_store_owns 𝒱₀ (c : Thread nD τ) none Set.univ (m := arg14)) $$ H14; iintro H14
    iapply (wp_load_owns 𝒱₀ (c : Thread nD τ) none Set.univ (m := arg15)) $$ H15; iintro H15
    iapply (wp_store_owns 𝒱₀ (c : Thread nD τ) none Set.univ (m := arg15)) $$ H15; iintro H15
    iapply (Scf.wp_for_bind frame (wpE (defs₀ (F := F)) 𝒱₀ (c : Thread nD τ) none) Set.univ _ _ _ (k0_t1_ok i h2) _ _
      (loopInv c i B arg2 arg3 arg4 arg5 arg6 arg7 arg8 arg9 arg10 arg13 arg14 arg15 k0_pay21 k0_pay22 k0_pay23)
      (trip_sound c i B arg2 harg2 arg3 harg3 arg4 harg4 arg5 harg5 arg6 harg6 arg7 harg7 arg8 harg8 arg9 harg9 arg10 harg10 arg11 harg11 arg12 harg12 arg13 harg13 arg14 harg14 arg15 harg15 _ h2 k0_pay21 k0_pay22 k0_pay23)) $$ [HR H13 H14 H15]
    · unfold loopInv carried
      rw [stQ_zero, stK_zero, stV_zero]
      isplitl [HR]; · iexact HR
      isplitl [H13]
      · iapply (owns_put_all c arg13 k0_pay21 Xq); iexact H13
      isplitl [H14]
      · iapply (owns_put_all c arg14 k0_pay22 Xk); iexact H14
      iapply (owns_put_all c arg15 k0_pay23 Xv); iexact H15
    iintro %u Hinv
    unfold loopInv
    icases Hinv with ⟨HR, Hc⟩
    simp only [Prog.lift, Prog.bind_op, Prog.bind_ret, Prog.pure_eq_ret]
    iapply (finish_sound c i B arg2 arg3 arg4 arg5 arg6 arg7 arg8 arg9 arg10 arg12 harg12 arg13 arg14 arg15 W)
    isplitl [HR]; · iexact HR
    isplitl [H12]; · iexact H12
    isplitl [Hc]; · iexact Hc
    rw [show Scf.trips (0#32) (Scalar.addi 0#32 16#32) (1#32) = 16 from trips_eq]
    iexact Hk
  · by_cases h8 : (i 1).val < 8
    · have h2 : k0_cond2 i = 1#1 := (cond2_iff i).mpr h8
      simp only [Prog.lift, Prog.bind_op, Prog.bind_ret, Prog.pure_eq_ret, bind_assoc, dif_neg (fun h => h0 ((cond1_iff i).mp h)), dif_pos h2]
      unfold endQ endK endV carried
      simp only [if_pos h8, if_neg h0]
      iintro ⟨HR, H12, ⟨H13, H14, H15⟩, Hk⟩
      iapply (Scf.wp_for_bind frame (wpE (defs₀ (F := F)) 𝒱₀ (c : Thread nD τ) none) Set.univ _ _ _ (k0_t1_ok i h2) _ _
        (loopInv c i B arg2 arg3 arg4 arg5 arg6 arg7 arg8 arg9 arg10 arg13 arg14 arg15 Xq Xk Xv)
        (trip_sound c i B arg2 harg2 arg3 harg3 arg4 harg4 arg5 harg5 arg6 harg6 arg7 harg7 arg8 harg8 arg9 harg9 arg10 harg10 arg11 harg11 arg12 harg12 arg13 harg13 arg14 harg14 arg15 harg15 _ h2 Xq Xk Xv)) $$ [HR H13 H14 H15]
      · unfold loopInv carried
        rw [stQ_zero, stK_zero, stV_zero]
        isplitl [HR]; · iexact HR
        isplitl [H13]; · iexact H13
        isplitl [H14]; · iexact H14
        iexact H15
      iintro %u Hinv
      unfold loopInv
      icases Hinv with ⟨HR, Hc⟩
      simp only [Prog.lift, Prog.bind_op, Prog.bind_ret, Prog.pure_eq_ret]
      iapply (finish_sound c i B arg2 arg3 arg4 arg5 arg6 arg7 arg8 arg9 arg10 arg12 harg12 arg13 arg14 arg15 W)
      isplitl [HR]; · iexact HR
      isplitl [H12]; · iexact H12
      isplitl [Hc]; · iexact Hc
      rw [show Scf.trips (0#32) (Scalar.addi 0#32 16#32) (1#32) = 16 from trips_eq]
      iexact Hk
    · simp only [Prog.lift, Prog.bind_op, Prog.bind_ret, Prog.pure_eq_ret, bind_assoc, dif_neg (fun h => h0 ((cond1_iff i).mp h)),
        dif_neg (fun h => h8 ((cond2_iff i).mp h))]
      unfold endQ endK endV
      simp only [if_neg h8]
      exact finish_sound c i B arg2 arg3 arg4 arg5 arg6 arg7 arg8 arg9 arg10 arg12 harg12 arg13 arg14 arg15 W Xq Xk Xv K

end Point

end Cert.Proof.Run

end
-- ==== Proof.Run.Run.lean ====
/-
  The whole call: the contents of every buffer at every grid point, and the run of @main to its end.
-/
module

public import proofs.«01_k».proof.Proof.Run.Point
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The nine blocks a grid point reads, off the arrays as the call finds them. -/
def blocksAt (c : Dev nD) (t : Fin cfg0.N) : Blocks F where
  q := iblk m c 0 t
  kc := iblk m c 1 t
  kp := iblk m c 2 t
  vc := iblk m c 3 t
  vp := iblk m c 4 t
  o := iblk m c 5 t
  lse := iblk m c 6 t
  dout := iblk m c 7 t
  dl := iblk m c 8 t

/-- The three carried arrays. -/
structure Carried (F : FTy → Type) where
  /-- gradient of the queries -/
  q : Vec F S2x2048x128 .f32
  /-- gradient of the keys -/
  k : Vec F S2x2048x128 .f32
  /-- gradient of the values -/
  v : Vec F S2x2048x128 .f32

/-- The carried arrays after one grid point. -/
def stepC (c : Dev nD) (t : Fin cfg0.N) (X : Carried F) : Carried F :=
  ⟨endQ (grid0.coords t) (blocksAt m c t) X.q, endK (grid0.coords t) (blocksAt m c t) X.k, endV (grid0.coords t) (blocksAt m c t) X.v⟩

/-- The carried arrays before grid point `n` (before the first: zero, which no point reads). -/
def carriedAt (c : Dev nD) : ℕ → Carried F
  | 0 => ⟨k0_pay21, k0_pay22, k0_pay23⟩
  | n + 1 => if h : n < cfg0.N then stepC m c ⟨n, h⟩ (carriedAt c n) else carriedAt c n

theorem carriedAt_succ (c : Dev nD) (t : Fin cfg0.N) : carriedAt m c (t.val + 1) = stepC m c t (carriedAt m c t.val) := by
  rw [carriedAt, dif_pos t.isLt]

/-- The result's block after a grid point. -/
def outAt (c : Dev nD) (t : Fin cfg0.N) : Vec F S2048x384 .bf16 :=
  outBlk (grid0.coords t) (carriedAt m c (t.val + 1)).q (carriedAt m c (t.val + 1)).k (carriedAt m c (t.val + 1)).v

/-- What is known between the grid points: the carried arrays, known after the first point, and the register. -/
def ΦS (c : Dev nD) (n : ℕ) : sProp 𝕄 :=
  iprop(∃ X : Carried F, ⌜n ≠ 0 → X = carriedAt m c n⌝ ∗ carried c (Memref.whole cc0_scratch0) (Memref.whole cc0_scratch1) (Memref.whole cc0_scratch2) X.q X.k X.v
    ∗ ∃ r, prngReg c r)

/-- The proof data: the arrays as the call finds them; each read block left in place; the result's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := ΦS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

/-- Before the first point nothing is known of the carried arrays; the first point overwrites them. -/
theorem step_any (c : Dev nD) (t : Fin cfg0.N) (X : Carried F) (hX : t.val ≠ 0 → X = carriedAt m c t.val) :
    stepC m c t X = carriedAt m c (t.val + 1) := by
  rw [carriedAt_succ]
  by_cases h : t.val = 0
  · have h0 : (grid0.coords t 1).val = 0 := by
      have : t = ⟨0, by decide⟩ := Fin.ext h
      rw [this]; rfl
    unfold stepC endQ endK endV
    simp only [h0, if_true, show (0 : ℕ) < 8 by decide]
  · rw [hX h]

/-- What the body is handed at a grid point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

@[inherit_doc bodyPre]
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

attribute [local irreducible] iblk in
set_option maxHeartbeats 4000000 in
/-- The body at a grid point meets the proof data. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).Φ t.succ = ΦS m c (t.val + 1) from rfl, show (dats m 0 c).Φ t.castSucc = ΦS m c t.val from rfl,
    after0, after1, after2, after3, after4, after5, after6, after7, after8, after9]
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c), before0_7_of m (dats m 0 c) (A_eq m c 7) (after7 m c),
    before0_8_of m (dats m 0 c) (A_eq m c 8) (after8 m c)]
  unfold Dat.owesAt Pipeline.owesWithin
  rw [show (dats m 0 c).owed t.castSucc = 0 from rfl, show (dats m 0 c).owed t.succ = 0 from rfl]
  unfold ΦS
  iintro ⟨⟨%X, %hX, Hc, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point_sound c (grid0.coords t) (blocksAt m c t) _ _ _ _ _ _ _ _ _ _ _ _ _ _ _ _ _ _ _ _ _ _ _ _ _ _ _ _
    ((dats m 0 c).before 9 t d9) X.q X.k X.v)
  isplitl [H0 H1 H2 H3 H4 H5 H6 H7 H8]
  · unfold reads
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [Hc]; · iexact Hc
  have hs := step_any m c t X hX
  unfold outAt
  rw [← hs]
  unfold reads
  iintro ⟨⟨H0, H1, H2, H3, H4, H5, H6, H7, H8⟩, H9, Hc⟩
  isplitl [Hc Hg]
  · iexists (stepC m c t X)
    isplitr; · ipureintro; exact fun _ => rfl
    isplitl [Hc]; · iexact Hc
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) 𝒱₀ () Set.univ := fun t => by
  rw [bigSep_W0, bigSep_W0, defs₀_row]
  exact triple_restated (sound_body m c t) rfl .rfl fun _ => .rfl

/-- Entering: the scratch arrays hold something. -/
theorem enter (c : Dev nD) : Pipeline.ΦA (U := UR sig nD τ) (Val := Elt F) spec0 c ⊢ (dats m 0 c).Φ 0 := by
  rw [show (dats m 0 c).Φ 0 = ΦS m c 0 from rfl]
  unfold ΦS Pipeline.ΦA carried
  rw [scopedRest0_eq]
  iintro ⟨⟨⟨%f0, H0⟩, ⟨%f1, H1⟩, ⟨%f2, H2⟩⟩, Hg⟩
  iexists ⟨f0, f1, f2⟩
  isplitr; · ipureintro; exact fun h => absurd rfl h
  simp only [owns_whole]
  isplitr [Hg]
  · isplitl [H0]; · iexact H0
    isplitl [H1]; · iexact H1
    iexact H2
  iexact Hg

/-- Leaving: they are given back. -/
theorem leave (c : Dev nD) : (dats m 0 c).Φ (Fin.last cfg0.N) ⊢ Pipeline.ΦA (U := UR sig nD τ) (Val := Elt F) spec0 c := by
  rw [show (dats m 0 c).Φ (Fin.last cfg0.N) = ΦS m c cfg0.N from rfl]
  unfold ΦS Pipeline.ΦA carried
  rw [scopedRest0_eq]
  simp only [owns_whole]
  iintro ⟨%X, -, ⟨H0, H1, H2⟩, Hg⟩
  isplitr [Hg]
  · isplitl [H0]; · iexists _; iexact H0
    isplitl [H1]; · iexists _; iexact H1
    iexists _; iexact H2
  iexact Hg

set_option backward.isDefEq.respectTransparency.types false in
/-- Every fair execution of @main ends, with every array at the contents the proof data give and every counter zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m)
    (hin := enter m) (hout := leave m) (hQ' := fun _ h => h)

/-- The arguments end as they began, and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 4).trans (((dats m 0 c).arrAt_in 4 rfl _).trans ((A_eq m c 4).trans (V_main_arg0 m c))),
      ((h.1 c).1 7).trans (((dats m 0 c).arrAt_in 7 rfl _).trans ((A_eq m c 7).trans (V_main_arg1 m c))),
      ((h.1 c).1 8).trans (((dats m 0 c).arrAt_in 8 rfl _).trans ((A_eq m c 8).trans (V_main_arg2 m c))),
      ((h.1 c).2 main_arg3 (Pipeline.mem_restRefs_of main_arg3 (by decide) (by decide))).trans (V_main_arg3 m c)⟩, h.2⟩) (run_main m ρ)

end Cert.Proof.Run

end
-- ==== Proof.Run.Frames.lean ====
/-
  The frame of the printed kernel. It differs from the kernel with the named constant in that one
  constant, so the run, proved for any reading of floats and any reading of named constants, is taken
  at the reading that gives the named constant its literal.
-/
module

public import proofs.«01_k».proof.Proof.Run.Run
public import proofs.«01_k».proof.Proof.Gen.Kernel

@[expose] public section

noncomputable section

namespace Cert.Proof.Run

open Idealize.ShloMosaic Idealize.ShloMosaic.TcCoe Idealize.SL.Sem

/-- The reading of named constants that gives each its literal. -/
@[reducible] def literal {F : FTy → Type} [FloatOps F] : Named F := ⟨fun _ _ φ bits => Scalar.ofBits φ bits⟩

section Same

variable {F : FTy → Type} [FloatOps F]

set_option maxHeartbeats 8000000 in
/-- The two kernels' bodies are the same at the literal. -/
theorem defs₀_same : Cert.Kernel.defs₀ (F := F) = @Cert.KernelIdeal.defs₀ F _ literal _ := by
  unfold Cert.Kernel.defs₀ Cert.KernelIdeal.defs₀
  refine congrArg _ (funext fun l => funext fun x => ?_)
  match l, x with
  | 0, (t, s) => rfl

theorem defs_same : Cert.Kernel.defs (F := F) = @Cert.KernelIdeal.defs F _ literal _ := congrArg _ defs₀_same

set_option maxHeartbeats 8000000 in
theorem part0_same : Cert.Kernel.main_part0 (F := F) = Cert.KernelIdeal.main_part0 (F := F) := by
  unfold Cert.Kernel.main_part0 Cert.KernelIdeal.main_part0
  rfl

set_option maxHeartbeats 8000000 in
theorem part1_same : Cert.Kernel.main_part1 (F := F) = Cert.KernelIdeal.main_part1 (F := F) := by
  unfold Cert.Kernel.main_part1 Cert.KernelIdeal.main_part1
  rfl

set_option maxHeartbeats 8000000 in
/-- The two host programs are the same. -/
theorem main_same : Cert.Kernel.main (F := F) = Cert.KernelIdeal.main (F := F) := by
  unfold Cert.Kernel.main Cert.KernelIdeal.main
  rw [part0_same, part1_same]
  rfl

end Same

set_option maxHeartbeats 1000000 in
/-- The printed kernel ends, its arguments unchanged and every counter zero. -/
theorem quiescent_literal {F : FTy → Type} [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_same, main_same]
  exact @quiescent F _ literal m ρ

end Cert.Proof.Run

end
-- ==== Proof.Run.Finite.lean ====
/-
  What the precondition says: every element it names is a real number.
-/
module

public import proofs.«01_k».proof.Defs
public import proofs.«01_k».proof.Proof.Gen.Pre_finite
public import Idealize.ShloMosaic.Lib.Pointwise

@[expose] public section

noncomputable section

namespace Cert.Proof.Run

open Idealize.ShloMosaic Idealize.ShloMosaic.TcCoe Idealize.ShloMosaic.Pointwise

/-- An extended real of absolute value below the infinity is a real number. -/
theorem real_of_abs (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x using EReal.rec with
  | bot => simp [Ideal.cmp] at h
  | coe x => rfl
  | top => simp [Ideal.cmp] at h

section

variable (X0 : Vec Ideal Cert.Pre_finite.S16384x4608 .f32) (X1 X2 : Vec Ideal Cert.Pre_finite.S16384x512 .f32)
  (X3 : Vec Ideal Cert.Pre_finite.S16384x4608 .bf16)

/-- The projection's columns from 3072 on are real numbers. -/
theorem finite0 (h : (Cert.Pre_finite.fn (F := Ideal) X0 X1 X2 X3).1 = fun _ => 1#1) (row : Fin 16384) (col : Fin 4608) (hc : 3072 ≤ col.val) :
    X0 (ix2 row col) = ((X0 (ix2 row col)).toReal : ℝ) := by
  apply real_of_abs
  have := congrFun h (ix2 row ⟨col.val - 3072, by omega⟩)
  rw [← this]
  symm
  have hb : ∀ k : Fin 1536, (Cert.Pre_finite.fn (F := Ideal) X0 X1 X2 X3).1 (ix2 row k)
      = Ideal.cmp .olt (max (X0 (ix2 row ⟨3072 + k.val, by omega⟩)) (-(X0 (ix2 row ⟨3072 + k.val, by omega⟩)))) (Ideal.ofBits .f32 0x7F800000#32) := by
    intro k
    unfold Cert.Pre_finite.fn
    pointwise []
    rfl
  rw [hb]
  have he : (⟨3072 + (col.val - 3072), by omega⟩ : Fin 4608) = col := Fin.ext (by show 3072 + (col.val - 3072) = _; omega)
  show Ideal.cmp .olt (max (X0 (ix2 row ⟨3072 + (col.val - 3072), _⟩)) (-(X0 (ix2 row ⟨3072 + (col.val - 3072), _⟩)))) _ = _
  rw [he]

/-- The result's gradient is real. -/
theorem finite1 (h : (Cert.Pre_finite.fn (F := Ideal) X0 X1 X2 X3).2.1 = fun _ => 1#1) (row : Fin 16384) (col : Fin 512) :
    X1 (ix2 row col) = ((X1 (ix2 row col)).toReal : ℝ) := by
  apply real_of_abs
  rw [← congrFun h (ix2 row col)]
  symm
  unfold Cert.Pre_finite.fn
  pointwise []
  rfl

/-- The lanes' gradient is real. -/
theorem finite2 (h : (Cert.Pre_finite.fn (F := Ideal) X0 X1 X2 X3).2.2 = fun _ => 1#1) (row : Fin 16384) (col : Fin 512) :
    X2 (ix2 row col) = ((X2 (ix2 row col)).toReal : ℝ) := by
  apply real_of_abs
  rw [← congrFun h (ix2 row col)]
  symm
  unfold Cert.Pre_finite.fn
  pointwise []
  rfl

end

end Cert.Proof.Run

end
-- ==== Proof.Run.Cell.lean ====
module

public import Mathlib.Analysis.SpecialFunctions.Log.Basic
public import Mathlib.Algebra.BigOperators.Field

@[expose] public section

noncomputable section

namespace Cert.Proof.Run

/-- The real numbers of one head's attention on one residue of one block: 128 queries with their two cotangents (of the
output and of the log-denominator's lanes), 256 keys and values, the bias slope, the scale and the first key that
exists. -/
structure Cell where
  q : Fin 128 → Fin 128 → ℝ
  k : Fin 256 → Fin 128 → ℝ
  v : Fin 256 → Fin 128 → ℝ
  g : Fin 128 → Fin 128 → ℝ
  e : Fin 128 → Fin 128 → ℝ
  slope : ℝ
  scale : ℝ
  first : ℕ

/-- Query `i` sees key `j`: at most 128 places back, not ahead, and a key that exists. -/
def Sees (first : ℕ) (i : Fin 128) (j : Fin 256) : Prop := i.val ≤ j.val ∧ j.val ≤ 128 + i.val ∧ first ≤ j.val

instance (first : ℕ) (i : Fin 128) (j : Fin 256) : Decidable (Sees first i j) := by unfold Sees; infer_instance

namespace Cell

variable (C : Cell)

/-- The biased score of query `i` and key `j`. -/
def score (i : Fin 128) (j : Fin 256) : ℝ :=
  (∑ d, C.q i d * C.k j d) * C.scale + -C.slope * ((128 + (i.val : ℝ)) - (j.val : ℝ))

/-- The exponential of a score less a number of its row; zero for a key not seen. -/
def expo (m : Fin 128 → ℝ) (i : Fin 128) (j : Fin 256) : ℝ :=
  if Sees C.first i j then Real.exp (C.score i j - m i) else 0

/-- The denominator of row `i`. -/
def den (m : Fin 128 → ℝ) (i : Fin 128) : ℝ := ∑ j, C.expo m i j

/-- The numerator of the output. -/
def num (m : Fin 128 → ℝ) (i d : Fin 128) : ℝ := ∑ j, C.expo m i j * C.v j d

/-- The logarithm of the row's sum. -/
def lse (m : Fin 128 → ℝ) (i : Fin 128) : ℝ := m i + Real.log (C.den m i)

/-- The attention's output. -/
def out (m : Fin 128 → ℝ) (i d : Fin 128) : ℝ := C.num m i d / C.den m i

/-- The gradient at the scores, from a row's log-sum and its output. -/
def grad (L : Fin 128 → ℝ) (o : Fin 128 → Fin 128 → ℝ) (i : Fin 128) (j : Fin 256) : ℝ :=
  C.expo L i j * ((∑ d, C.g i d * C.v j d) + ((∑ d, C.e i d) - ∑ d, C.g i d * o i d))

/-- The gradient at the scores as differentiating the quotient by hand gives it. -/
def gradBy (m : Fin 128 → ℝ) (i : Fin 128) (j : Fin 256) : ℝ :=
  ((∑ d, C.g i d / C.den m i * C.v j d) +
    ((∑ d, C.e i d) / C.den m i + -∑ d, C.g i d * (1 / (C.den m i * C.den m i)) * C.num m i d)) * C.expo m i j

/-- The gradient at the queries. -/
def dq (L : Fin 128 → ℝ) (o : Fin 128 → Fin 128 → ℝ) (i d : Fin 128) : ℝ :=
  (∑ j, C.grad L o i j * C.k j d) * C.scale

/-- The gradient at the keys. -/
def dk (L : Fin 128 → ℝ) (o : Fin 128 → Fin 128 → ℝ) (j : Fin 256) (d : Fin 128) : ℝ :=
  (∑ i, C.grad L o i j * C.q i d) * C.scale

/-- The gradient at the values. -/
def dv (L : Fin 128 → ℝ) (j : Fin 256) (d : Fin 128) : ℝ := ∑ i, C.expo L i j * C.g i d

variable (m : Fin 128 → ℝ)

theorem expo_nonneg (i : Fin 128) (j : Fin 256) : 0 ≤ C.expo m i j := by
  unfold expo; split
  · exact (Real.exp_pos _).le
  · exact le_rfl

/-- Every query sees its own key, so the denominator is positive. -/
theorem den_pos (h : C.first ≤ 128) (i : Fin 128) : 0 < C.den m i := by
  unfold den
  refine Finset.sum_pos' (fun j _ => C.expo_nonneg m i j) ⟨⟨128 + i.val, by omega⟩, Finset.mem_univ _, ?_⟩
  unfold expo
  rw [if_pos ⟨by simp, by simp, by show C.first ≤ 128 + i.val; omega⟩]
  exact Real.exp_pos _

/-- Taking the log-sum off a score divides its exponential by the denominator. -/
theorem expo_lse (h : C.first ≤ 128) (i : Fin 128) (j : Fin 256) :
    C.expo (C.lse m) i j = C.expo m i j / C.den m i := by
  have hp := C.den_pos m h i
  unfold expo
  split
  · rw [show C.score i j - C.lse m i = (C.score i j - m i) - Real.log (C.den m i) by unfold lse; ring,
      Real.exp_sub, Real.exp_log hp]
  · simp

/-- The two ways of writing the gradient at the scores agree. -/
theorem grad_eq (h : C.first ≤ 128) (i : Fin 128) (j : Fin 256) :
    C.grad (C.lse m) (C.out m) i j = C.gradBy m i j := by
  have hp := (C.den_pos m h i).ne'
  unfold grad gradBy
  rw [C.expo_lse m h]
  have h1 : ∑ d, C.g i d / C.den m i * C.v j d = (∑ d, C.g i d * C.v j d) / C.den m i := by
    rw [Finset.sum_div]; exact Finset.sum_congr rfl fun d _ => by ring
  have h2 : ∑ d, C.g i d * (1 / (C.den m i * C.den m i)) * C.num m i d =
      (∑ d, C.g i d * C.out m i d) / C.den m i := by
    rw [Finset.sum_div]; exact Finset.sum_congr rfl fun d _ => by unfold out; field_simp
  rw [h1, h2]; ring

/-- The gradient's row adds up to the log-denominator's cotangent: nothing is left for the row's maximum. -/
theorem gradBy_sum (h : C.first ≤ 128) (i : Fin 128) : ∑ j, C.gradBy m i j = ∑ d, C.e i d := by
  have hp := (C.den_pos m h i).ne'
  unfold gradBy
  simp only [add_mul, Finset.sum_add_distrib]
  rw [← Finset.mul_sum, ← Finset.mul_sum]
  have h1 : ∑ j, (∑ d, C.g i d / C.den m i * C.v j d) * C.expo m i j =
      ∑ d, C.g i d / C.den m i * C.num m i d := by
    simp only [Finset.sum_mul]
    rw [Finset.sum_comm]
    refine Finset.sum_congr rfl fun d _ => ?_
    unfold num; rw [Finset.mul_sum]
    exact Finset.sum_congr rfl fun j _ => by ring
  have h2 : (-∑ d, C.g i d * (1 / (C.den m i * C.den m i)) * C.num m i d) * C.den m i =
      -∑ d, C.g i d / C.den m i * C.num m i d := by
    rw [neg_mul, Finset.sum_mul]
    congr 1
    exact Finset.sum_congr rfl fun d _ => by field_simp
  rw [h1]
  change _ + (_ * C.den m i + _ * C.den m i) = _
  rw [h2, div_mul_cancel₀ _ hp]; ring

/-- A cell with other keys and values where no query looks has the same gradients. -/
theorem expo_congr {C D : Cell} (hq : C.q = D.q) (hs : C.slope = D.slope) (hc : C.scale = D.scale)
    (hf : C.first = D.first) (hk : ∀ j : Fin 256, C.first ≤ j.val → C.k j = D.k j) (L : Fin 128 → ℝ) :
    C.expo L = D.expo L := by
  funext i j
  unfold expo
  rw [← hf]
  split
  · next h => unfold score; rw [hq, hs, hc, hk j h.2.2]
  · rfl

theorem grad_congr {C D : Cell} (hq : C.q = D.q) (hg : C.g = D.g) (he : C.e = D.e) (hs : C.slope = D.slope)
    (hc : C.scale = D.scale) (hf : C.first = D.first) (hk : ∀ j : Fin 256, C.first ≤ j.val → C.k j = D.k j)
    (hv : ∀ j : Fin 256, C.first ≤ j.val → C.v j = D.v j) (L : Fin 128 → ℝ) (o : Fin 128 → Fin 128 → ℝ) :
    C.grad L o = D.grad L o := by
  funext i j
  unfold grad
  rw [expo_congr hq hs hc hf hk, hg, he]
  by_cases h : C.first ≤ j.val
  · rw [hv j h]
  · have : D.expo L i j = 0 := by unfold expo; rw [if_neg]; rw [← hf]; exact fun hh => h hh.2.2
    rw [this, zero_mul, zero_mul]

/-- No gradient reaches a key that does not exist. -/
theorem grad_of_lt {j : Fin 256} (h : j.val < C.first) (L : Fin 128 → ℝ) (o : Fin 128 → Fin 128 → ℝ) (i : Fin 128) :
    C.grad L o i j = 0 := by
  have : C.expo L i j = 0 := by unfold expo; rw [if_neg]; exact fun hh => absurd hh.2.2 (by omega)
  unfold grad; rw [this, zero_mul]

theorem dq_congr {C D : Cell} (hq : C.q = D.q) (hg : C.g = D.g) (he : C.e = D.e) (hs : C.slope = D.slope)
    (hc : C.scale = D.scale) (hf : C.first = D.first) (hk : ∀ j : Fin 256, C.first ≤ j.val → C.k j = D.k j)
    (hv : ∀ j : Fin 256, C.first ≤ j.val → C.v j = D.v j) (L : Fin 128 → ℝ) (o : Fin 128 → Fin 128 → ℝ) :
    C.dq L o = D.dq L o := by
  funext i d
  unfold dq
  rw [grad_congr hq hg he hs hc hf hk hv, hc]
  congr 1
  refine Finset.sum_congr rfl fun j _ => ?_
  by_cases h : C.first ≤ j.val
  · rw [hk j h]
  · rw [D.grad_of_lt (by omega), zero_mul, zero_mul]

theorem dk_congr {C D : Cell} (hq : C.q = D.q) (hg : C.g = D.g) (he : C.e = D.e) (hs : C.slope = D.slope)
    (hc : C.scale = D.scale) (hf : C.first = D.first) (hk : ∀ j : Fin 256, C.first ≤ j.val → C.k j = D.k j)
    (hv : ∀ j : Fin 256, C.first ≤ j.val → C.v j = D.v j) (L : Fin 128 → ℝ) (o : Fin 128 → Fin 128 → ℝ) :
    C.dk L o = D.dk L o := by
  funext j d
  unfold dk
  rw [grad_congr hq hg he hs hc hf hk hv, hc, hq]

theorem dv_congr {C D : Cell} (hq : C.q = D.q) (hg : C.g = D.g) (hs : C.slope = D.slope)
    (hc : C.scale = D.scale) (hf : C.first = D.first) (hk : ∀ j : Fin 256, C.first ≤ j.val → C.k j = D.k j)
    (L : Fin 128 → ℝ) : C.dv L = D.dv L := by
  funext j d
  unfold dv
  rw [expo_congr hq hs hc hf hk, hg]

end Cell

end Cert.Proof.Run
end
end
-- ==== Proof.Run.Reals.lean ====
/-
  Extended reals that are real numbers: the few constants the two programs use, sums, the division by a real number that
  is not zero, and the largest element of a row.
-/
module

public import Idealize.ShloMosaic.Lib.Pointwise
public import Idealize.ShloMosaic.PureOps.Ideal

@[expose] public section

noncomputable section

namespace Cert.Proof.Run

open Idealize.ShloMosaic

/-- The scale of the scores: the number nearest to 1/√128 that the format holds. -/
def scale : ℝ := 11863283 / 134217728

theorem ofBits_scale : Ideal.ofBits .f32 0x3DB504F3#32 = (scale : EReal) := by
  simp [Ideal.ofBits, Ideal.ieee, scale]
  norm_num [zpow_neg, ← EReal.coe_mul]

theorem ofBits_sixteen : Ideal.ofBits .f32 0x41800000#32 = ((16 : ℝ) : EReal) := by
  simp [Ideal.ofBits, Ideal.ieee]
  norm_num [zpow_neg, ← EReal.coe_mul]

theorem ofBits_bot : Ideal.ofBits .f32 0xFF800000#32 = ⊥ := by
  simp [Ideal.ofBits, Ideal.ieee]

theorem coe_sum {ι : Type} (s : Finset ι) (f : ι → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

theorem div_real (x y : ℝ) (h : y ≠ 0) : Ideal.div (x : EReal) (y : EReal) = ((x / y : ℝ) : EReal) := by
  rw [Ideal.div_coe h, ← EReal.coe_mul]; congr 1; ring

theorem log_real (x : ℝ) (h : 0 < x) : Ideal.log (x : EReal) = ((Real.log x : ℝ) : EReal) := by
  rw [Ideal.log_coe, if_neg (not_le.mpr h)]

/-- The largest of equal elements is that element. -/
theorem fold_max_const (n : ℕ) (hn : 0 < n) (x : ℝ) :
    Finset.fold max (⊥ : EReal) (fun _ : Fin n => (x : EReal)) Finset.univ = x := by
  apply le_antisymm
  · rw [Finset.fold_max_le]; exact ⟨bot_le, fun _ _ => le_rfl⟩
  · rw [Finset.le_fold_max]; exact .inr ⟨⟨0, hn⟩, Finset.mem_univ _, le_rfl⟩

/-- The largest element of a row of numbers and of `⊥`s, one of them a number, is a number, and one of the elements. -/
theorem fold_max_real {n : ℕ} (f : Fin n → EReal) (hf : ∀ i, f i ≠ ⊤) (i₀ : Fin n) (h₀ : f i₀ ≠ ⊥) :
    ∃ x : ℝ, Finset.fold max (⊥ : EReal) f Finset.univ = x ∧ ∃ i, f i = x := by
  have hmem : ∃ i, f i = Finset.fold max (⊥ : EReal) f Finset.univ := by
    obtain ⟨i, -, hi⟩ := Finset.exists_max_image Finset.univ f ⟨i₀, Finset.mem_univ _⟩
    refine ⟨i, le_antisymm ?_ ?_⟩
    · rw [Finset.le_fold_max]; exact .inr ⟨i, Finset.mem_univ _, le_rfl⟩
    · rw [Finset.fold_max_le]; exact ⟨bot_le, hi⟩
  obtain ⟨i, hi⟩ := hmem
  have hle : f i₀ ≤ f i := by
    rw [hi, Finset.le_fold_max]; exact .inr ⟨i₀, Finset.mem_univ _, le_rfl⟩
  have hb : f i ≠ ⊥ := fun h => h₀ (le_bot_iff.mp (h ▸ hle))
  refine ⟨(f i).toReal, ?_, i, ?_⟩
  · rw [← hi, EReal.coe_toReal (hf i) hb]
  · rw [EReal.coe_toReal (hf i) hb]

end Cert.Proof.Run
end
end
-- ==== Proof.Run.Pay.lean ====
/-
  One stripe of the kernel on real numbers: each value of the kernel's body at an index is the real number that
  `Run/Cell.lean` names.
-/
module

public import proofs.«01_k».proof.Proof.Run.Model
public import proofs.«01_k».proof.Proof.Run.Cell
public import proofs.«01_k».proof.Proof.Run.Reals

@[expose] public section

noncomputable section

namespace Cert.Proof.Run

open Cert.KernelIdeal Cert.KernelIdeal.Gen
open Idealize.ShloMosaic Idealize.ShloMosaic.Pointwise

/-- Nine stripes hold a cell's real numbers, with the log-sum `L` on every lane and the output `o`. -/
structure Holds (C : Cell) (L : Fin 128 → ℝ) (o : Fin 128 → Fin 128 → ℝ)
    (xq xkp xkc xvp xvc xo xl xg xe : Vec Ideal S128x128 .f32) : Prop where
  q : ∀ i d, xq (ix2 i d) = (C.q i d : EReal)
  kp : ∀ i d : Fin 128, xkp (ix2 i d) = (C.k ⟨i.val, by omega⟩ d : EReal)
  kc : ∀ i d : Fin 128, xkc (ix2 i d) = (C.k ⟨128 + i.val, by omega⟩ d : EReal)
  vp : ∀ i d : Fin 128, xvp (ix2 i d) = (C.v ⟨i.val, by omega⟩ d : EReal)
  vc : ∀ i d : Fin 128, xvc (ix2 i d) = (C.v ⟨128 + i.val, by omega⟩ d : EReal)
  o : ∀ i d, xo (ix2 i d) = (o i d : EReal)
  l : ∀ i d, xl (ix2 i d) = (L i : EReal)
  g : ∀ i d, xg (ix2 i d) = (C.g i d : EReal)
  e : ∀ i d, xe (ix2 i d) = (C.e i d : EReal)
  scale : C.scale = scale

/-- The integers `128 + i - j` of the two masks. -/
theorem pay9_apply (i : Fin 128) (j : Fin 256) :
    k0_pay9 (ix2 i j) = 128#32 + BitVec.ofNat 32 i.val - BitVec.ofNat 32 j.val := by
  pointwise [k0_pay9]
  rfl

theorem pay9_toInt (i : Fin 128) (j : Fin 256) : (k0_pay9 (ix2 i j)).toInt = 128 + (i.val : ℤ) - j.val := by
  rw [pay9_apply]
  have h : 128#32 + BitVec.ofNat 32 i.val - BitVec.ofNat 32 j.val = BitVec.ofInt 32 (128 + (i.val : ℤ) - j.val) := by
    apply BitVec.eq_of_toInt_eq
    have hi : (BitVec.ofNat 32 i.val).toInt = i.val := by
      rw [BitVec.toInt_ofNat']; apply Int.bmod_eq_of_le <;> omega
    have hj : (BitVec.ofNat 32 j.val).toInt = j.val := by
      rw [BitVec.toInt_ofNat']; apply Int.bmod_eq_of_le <;> omega
    simp [BitVec.toInt_sub, BitVec.toInt_add, hi, hj]
  rw [h, BitVec.toInt_ofInt]
  apply Int.bmod_eq_of_le <;> omega

/-- The kernel's mask is the relation `Sees`. -/
theorem mask_apply (f : ℕ) (hf : f < 256) (i : Fin 128) (j : Fin 256) :
    IntOp.andi (k0_pay10 (ix2 i j)) (k0_pay11 (BitVec.ofNat 32 f) (ix2 i j)) = if Sees f i j then 1#1 else 0#1 := by
  have h9 := pay9_toInt i j
  have h10 : k0_pay10 (ix2 i j) = IntOp.andi (IntOp.cmpi .sge (k0_pay9 (ix2 i j)) 0#32) (IntOp.cmpi .sle (k0_pay9 (ix2 i j)) 128#32) := by
    pointwise [k0_pay10]
  have h11 : k0_pay11 (BitVec.ofNat 32 f) (ix2 i j) = IntOp.cmpi .sge (BitVec.ofNat 32 j.val) (BitVec.ofNat 32 f) := by
    pointwise [k0_pay11]
  have hj : (BitVec.ofNat 32 j.val).toInt = j.val := by
    rw [BitVec.toInt_ofNat']; apply Int.bmod_eq_of_le <;> omega
  have hf' : (BitVec.ofNat 32 f).toInt = f := by
    rw [BitVec.toInt_ofNat']; apply Int.bmod_eq_of_le <;> omega
  have e0 : (0#32).toInt = 0 := rfl
  have e1 : (128#32).toInt = 128 := rfl
  rw [h10, h11]
  simp only [IntOp.cmpi, BitVec.sle_eq_decide, h9, hj, hf', e0, e1]
  by_cases a : (0 : ℤ) ≤ 128 + i.val - j.val <;> by_cases b : 128 + (i.val : ℤ) - j.val ≤ 128 <;>
    by_cases d : (f : ℤ) ≤ j.val <;> simp only [a, b, d, decide_true, decide_false]
  all_goals (by_cases s : Sees f i j)
  all_goals (first | (rw [if_pos s]; rfl) | (rw [if_neg s]; rfl) | (exfalso; simp only [Sees] at s; omega))

/-- Sums of products of real numbers. -/
theorem sum_mul_real {n : ℕ} {f g : Fin n → EReal} {a b : Fin n → ℝ} (hf : ∀ x, f x = (a x : EReal)) (hg : ∀ x, g x = (b x : EReal)) :
    ∑ x, f x * g x = ((∑ x, a x * b x : ℝ) : EReal) := by
  rw [← coe_sum]
  exact Finset.sum_congr rfl fun x _ => by rw [hf, hg, EReal.coe_mul]

theorem sum_real {n : ℕ} {f : Fin n → EReal} {a : Fin n → ℝ} (hf : ∀ x, f x = (a x : EReal)) :
    ∑ x, f x = ((∑ x, a x : ℝ) : EReal) := by
  rw [← coe_sum]
  exact Finset.sum_congr rfl fun x _ => hf x

section
variable {C : Cell} {L : Fin 128 → ℝ} {o : Fin 128 → Fin 128 → ℝ}
variable {xq xkp xkc xvp xvc xo xl xg xe : Vec Ideal S128x128 .f32} {sl : FVec Ideal S1x1 .f32} {f : BitVec 32}

/-- The keys of the two tiles, one after the other. -/
theorem pay5_real (h : Holds C L o xq xkp xkc xvp xvc xo xl xg xe) (j : Fin 256) (d : Fin 128) :
    k0_pay5 xkp xkc (ix2 j d) = (C.k j d : EReal) := by
  have : k0_pay5 xkp xkc (ix2 j d) = if h : j.val < 128 then xkp (ix2 ⟨j.val, h⟩ d) else xkc (ix2 ⟨j.val - 128, by omega⟩ d) := by
    pointwise [k0_pay5]
  rw [this]
  split
  · rw [h.kp]
  · rw [h.kc]; congr 2; apply Fin.ext; show 128 + (j.val - 128) = j.val; omega

/-- The values of the two tiles, one after the other. -/
theorem pay6_real (h : Holds C L o xq xkp xkc xvp xvc xo xl xg xe) (j : Fin 256) (d : Fin 128) :
    k0_pay6 xvp xvc (ix2 j d) = (C.v j d : EReal) := by
  have : k0_pay6 xvp xvc (ix2 j d) = if h : j.val < 128 then xvp (ix2 ⟨j.val, h⟩ d) else xvc (ix2 ⟨j.val - 128, by omega⟩ d) := by
    pointwise [k0_pay6]
  rw [this]
  split
  · rw [h.vp]
  · rw [h.vc]; congr 2; apply Fin.ext; show 128 + (j.val - 128) = j.val; omega

theorem pay4_real (h : Holds C L o xq xkp xkc xvp xvc xo xl xg xe) (i d : Fin 128) :
    k0_pay4 xq (ix2 i d) = (C.q i d : EReal) := by
  have : k0_pay4 xq (ix2 i d) = xq (ix2 i d) := by pointwise [k0_pay4]
  rw [this, h.q]

theorem pay7_real (h : Holds C L o xq xkp xkc xvp xvc xo xl xg xe) (i d : Fin 128) :
    k0_pay7 xg (ix2 i d) = (C.g i d : EReal) := by
  have : k0_pay7 xg (ix2 i d) = xg (ix2 i d) := by pointwise [k0_pay7]
  rw [this, h.g]

theorem pay2_real (h : Holds C L o xq xkp xkc xvp xvc xo xl xg xe) (i d : Fin 128) :
    k0_pay2 xo (ix2 i d) = (o i d : EReal) := by
  have : k0_pay2 xo (ix2 i d) = xo (ix2 i d) := by pointwise [k0_pay2]
  rw [this, h.o]

theorem pay3_real (h : Holds C L o xq xkp xkc xvp xvc xo xl xg xe) (i d : Fin 128) :
    k0_pay3 xl (ix2 i d) = (L i : EReal) := by
  have : k0_pay3 xl (ix2 i d) = xl (ix2 i d) := by pointwise [k0_pay3]
  rw [this, h.l]

/-- The scaled products of queries and keys. -/
theorem pay8_real (h : Holds C L o xq xkp xkc xvp xvc xo xl xg xe) (i : Fin 128) (j : Fin 256) :
    k0_pay8 xkp xq xkc (ix2 i j) = (((∑ d, C.q i d * C.k j d) * C.scale : ℝ) : EReal) := by
  have : k0_pay8 xkp xq xkc (ix2 i j)
      = (∑ d, k0_pay4 xq (ix2 i d) * k0_pay5 xkp xkc (ix2 j d)) * Ideal.ofBits .f32 0x3DB504F3#32 := by
    pointwise [k0_pay8]
  rw [this, sum_mul_real (pay4_real h i) (pay5_real h j), ofBits_scale, h.scale, ← EReal.coe_mul]

/-- The exponentials. -/
theorem pay12_real (h : Holds C L o xq xkp xkc xvp xvc xo xl xg xe) (hs : sl (ix2 0 0) = (C.slope : EReal))
    (hf : f = BitVec.ofNat 32 C.first) (hf' : C.first < 256) (i : Fin 128) (j : Fin 256) :
    k0_pay12 sl (k0_pay3 xl) (k0_pay8 xkp xq xkc) k0_pay9 k0_pay10 (k0_pay11 f) (ix2 i j) = (C.expo L i j : EReal) := by
  have : k0_pay12 sl (k0_pay3 xl) (k0_pay8 xkp xq xkc) k0_pay9 k0_pay10 (k0_pay11 f) (ix2 i j)
      = Ideal.exp (Scalar.select (IntOp.andi (k0_pay10 (ix2 i j)) (k0_pay11 f (ix2 i j)))
          (k0_pay8 xkp xq xkc (ix2 i j) - sl (ix2 0 0) * (((k0_pay9 (ix2 i j)).toInt : ℝ) : EReal)) (Ideal.ofBits .f32 0xFF800000#32)
        - Finset.fold max (Ideal.ofBits .f32 0xFF800000#32) (fun x => k0_pay3 xl (ix2 i x)) Finset.univ) := by
    pointwise [k0_pay12]
    rfl
  subst hf
  rw [this, mask_apply _ hf', pay8_real h, hs, pay9_toInt, ofBits_bot]
  simp only [pay3_real h]
  rw [fold_max_const 128 (by decide)]
  unfold Cell.expo
  split
  · rw [show (Scalar.select (1#1) : EReal → EReal → EReal) = fun a _ => a from rfl]
    simp only
    rw [← EReal.coe_mul, ← EReal.coe_sub, ← EReal.coe_sub, Ideal.exp_coe]
    congr 2
    unfold Cell.score
    push_cast
    ring
  · rw [show (Scalar.select (0#1) : EReal → EReal → EReal) = fun _ b => b from rfl]
    simp only
    rw [EReal.bot_sub, Ideal.exp_bot, EReal.coe_zero]

/-- The gradient at the scores. -/
theorem pay13_real (h : Holds C L o xq xkp xkc xvp xvc xo xl xg xe) (hs : sl (ix2 0 0) = (C.slope : EReal))
    (hf : f = BitVec.ofNat 32 C.first) (hf' : C.first < 256) (i : Fin 128) (j : Fin 256) :
    k0_pay13 sl (k0_pay2 xo) (k0_pay3 xl) xg xe (k0_pay6 xvp xvc) (k0_pay7 xg) (k0_pay8 xkp xq xkc) k0_pay9 k0_pay10
      (k0_pay11 f) (ix2 i j) = (C.grad L o i j : EReal) := by
  have : k0_pay13 sl (k0_pay2 xo) (k0_pay3 xl) xg xe (k0_pay6 xvp xvc) (k0_pay7 xg) (k0_pay8 xkp xq xkc) k0_pay9 k0_pay10
      (k0_pay11 f) (ix2 i j)
      = k0_pay12 sl (k0_pay3 xl) (k0_pay8 xkp xq xkc) k0_pay9 k0_pay10 (k0_pay11 f) (ix2 i j)
        * (∑ x, k0_pay7 xg (ix2 i x) * k0_pay6 xvp xvc (ix2 j x)
          + (∑ x, xe (ix2 i x) - ∑ x, xg (ix2 i x) * k0_pay2 xo (ix2 i x))) := by
    pointwise [k0_pay13]
  rw [this, pay12_real h hs hf hf', sum_mul_real (pay7_real h i) (pay6_real h j), sum_real (h.e i),
    sum_mul_real (h.g i) (pay2_real h i), ← EReal.coe_sub, ← EReal.coe_add, ← EReal.coe_mul]
  rfl

theorem pay19_real (h : Holds C L o xq xkp xkc xvp xvc xo xl xg xe) (hs : sl (ix2 0 0) = (C.slope : EReal))
    (hf : f = BitVec.ofNat 32 C.first) (hf' : C.first < 256) (i d : Fin 128) :
    k0_pay19 sl (k0_pay2 xo) (k0_pay3 xl) xg xe (k0_pay5 xkp xkc) (k0_pay6 xvp xvc) (k0_pay7 xg) (k0_pay8 xkp xq xkc)
      k0_pay9 k0_pay10 (k0_pay11 f) (ix3 0 i d) = (C.dq L o i d : EReal) := by
  have : k0_pay19 sl (k0_pay2 xo) (k0_pay3 xl) xg xe (k0_pay5 xkp xkc) (k0_pay6 xvp xvc) (k0_pay7 xg) (k0_pay8 xkp xq xkc)
      k0_pay9 k0_pay10 (k0_pay11 f) (ix3 0 i d)
      = (∑ x, k0_pay13 sl (k0_pay2 xo) (k0_pay3 xl) xg xe (k0_pay6 xvp xvc) (k0_pay7 xg) (k0_pay8 xkp xq xkc) k0_pay9 k0_pay10
          (k0_pay11 f) (ix2 i x) * k0_pay5 xkp xkc (ix2 x d)) * Ideal.ofBits .f32 0x3DB504F3#32 := by
    pointwise [k0_pay19]
  rw [this, sum_mul_real (pay13_real h hs hf hf' i) (fun j => pay5_real h j d), ofBits_scale, ← h.scale, ← EReal.coe_mul]
  rfl

theorem pay20_real (h : Holds C L o xq xkp xkc xvp xvc xo xl xg xe) (hs : sl (ix2 0 0) = (C.slope : EReal))
    (hf : f = BitVec.ofNat 32 C.first) (hf' : C.first < 256) (i d : Fin 128) :
    k0_pay20 sl (k0_pay2 xo) (k0_pay3 xl) xg xe (k0_pay4 xq) (k0_pay6 xvp xvc) (k0_pay7 xg) (k0_pay8 xkp xq xkc)
      k0_pay9 k0_pay10 (k0_pay11 f) (ix3 0 i d) = (C.dk L o ⟨128 + i.val, by omega⟩ d : EReal) := by
  have : k0_pay20 sl (k0_pay2 xo) (k0_pay3 xl) xg xe (k0_pay4 xq) (k0_pay6 xvp xvc) (k0_pay7 xg) (k0_pay8 xkp xq xkc)
      k0_pay9 k0_pay10 (k0_pay11 f) (ix3 0 i d)
      = (∑ x, k0_pay13 sl (k0_pay2 xo) (k0_pay3 xl) xg xe (k0_pay6 xvp xvc) (k0_pay7 xg) (k0_pay8 xkp xq xkc) k0_pay9 k0_pay10
          (k0_pay11 f) (ix2 x ⟨128 + i.val, by omega⟩) * k0_pay4 xq (ix2 x d)) * Ideal.ofBits .f32 0x3DB504F3#32 := by
    pointwise [k0_pay20, k0_pay15]
  rw [this, sum_mul_real (fun x => pay13_real h hs hf hf' x _) (fun j => pay4_real h j d), ofBits_scale, ← h.scale, ← EReal.coe_mul]
  rfl

theorem pay16_real (h : Holds C L o xq xkp xkc xvp xvc xo xl xg xe) (hs : sl (ix2 0 0) = (C.slope : EReal))
    (hf : f = BitVec.ofNat 32 C.first) (hf' : C.first < 256) (i d : Fin 128) :
    k0_pay16 sl (k0_pay2 xo) (k0_pay3 xl) xg xe (k0_pay4 xq) (k0_pay6 xvp xvc) (k0_pay7 xg) (k0_pay8 xkp xq xkc)
      k0_pay9 k0_pay10 (k0_pay11 f) (ix2 i d) = (C.dk L o ⟨i.val, by omega⟩ d : EReal) := by
  have : k0_pay16 sl (k0_pay2 xo) (k0_pay3 xl) xg xe (k0_pay4 xq) (k0_pay6 xvp xvc) (k0_pay7 xg) (k0_pay8 xkp xq xkc)
      k0_pay9 k0_pay10 (k0_pay11 f) (ix2 i d)
      = (∑ x, k0_pay13 sl (k0_pay2 xo) (k0_pay3 xl) xg xe (k0_pay6 xvp xvc) (k0_pay7 xg) (k0_pay8 xkp xq xkc) k0_pay9 k0_pay10
          (k0_pay11 f) (ix2 x ⟨i.val, by omega⟩) * k0_pay4 xq (ix2 x d)) * Ideal.ofBits .f32 0x3DB504F3#32 := by
    pointwise [k0_pay16, k0_pay15]
  rw [this, sum_mul_real (fun x => pay13_real h hs hf hf' x _) (fun j => pay4_real h j d), ofBits_scale, ← h.scale, ← EReal.coe_mul]
  rfl

theorem pay25_real (h : Holds C L o xq xkp xkc xvp xvc xo xl xg xe) (hs : sl (ix2 0 0) = (C.slope : EReal))
    (hf : f = BitVec.ofNat 32 C.first) (hf' : C.first < 256) (i d : Fin 128) :
    k0_pay25 (k0_pay18 sl (k0_pay3 xl) (k0_pay7 xg) (k0_pay8 xkp xq xkc) k0_pay9 k0_pay10 (k0_pay11 f)) (ix3 0 i d)
      = (C.dv L ⟨128 + i.val, by omega⟩ d : EReal) := by
  have : k0_pay25 (k0_pay18 sl (k0_pay3 xl) (k0_pay7 xg) (k0_pay8 xkp xq xkc) k0_pay9 k0_pay10 (k0_pay11 f)) (ix3 0 i d)
      = ∑ x, k0_pay12 sl (k0_pay3 xl) (k0_pay8 xkp xq xkc) k0_pay9 k0_pay10 (k0_pay11 f) (ix2 x ⟨128 + i.val, by omega⟩)
          * k0_pay7 xg (ix2 x d) := by
    pointwise [k0_pay25, k0_pay18, k0_pay14]
  rw [this, sum_mul_real (fun x => pay12_real h hs hf hf' x _) (fun j => pay7_real h j d)]
  rfl

theorem pay17_real (h : Holds C L o xq xkp xkc xvp xvc xo xl xg xe) (hs : sl (ix2 0 0) = (C.slope : EReal))
    (hf : f = BitVec.ofNat 32 C.first) (hf' : C.first < 256) (i d : Fin 128) :
    k0_pay17 sl (k0_pay3 xl) (k0_pay7 xg) (k0_pay8 xkp xq xkc) k0_pay9 k0_pay10 (k0_pay11 f) (ix2 i d)
      = (C.dv L ⟨i.val, by omega⟩ d : EReal) := by
  have : k0_pay17 sl (k0_pay3 xl) (k0_pay7 xg) (k0_pay8 xkp xq xkc) k0_pay9 k0_pay10 (k0_pay11 f) (ix2 i d)
      = ∑ x, k0_pay12 sl (k0_pay3 xl) (k0_pay8 xkp xq xkc) k0_pay9 k0_pay10 (k0_pay11 f) (ix2 x ⟨i.val, by omega⟩)
          * k0_pay7 xg (ix2 x d) := by
    pointwise [k0_pay17, k0_pay14]
  rw [this, sum_mul_real (fun x => pay12_real h hs hf hf' x _) (fun j => pay7_real h j d)]
  rfl
end

/-! ## The slope -/

/-- The slope of head `8 + hb + 1` of twelve, times the dilation. -/
def slopeAt (hb : ℕ) : ℝ := Real.exp (-((8 * 12⁻¹) * Real.log 2) * (8 + hb + 1)) * 16

theorem pay24_real (i : grid0.Coords) : (k0_pay24 (F := Ideal) i) (ix2 0 0) = (slopeAt (i 0).val : EReal) := by
  have : (k0_pay24 (F := Ideal) i) (ix2 0 0)
      = Ideal.exp (((-((8 * 12⁻¹) * Real.log 2) : ℝ) : EReal) *
          (((IntOp.addi (IntOp.addi 8#32 (IntOp.addi (IntOp.muli (BitVec.ofNat 32 (i 0).val) 1#32) 0#32)) 1#32).toInt : ℝ) : EReal))
        * Ideal.ofBits .f32 0x41800000#32 := by
    pointwise [k0_pay24]
    rfl
  have hi : (IntOp.addi (IntOp.addi 8#32 (IntOp.addi (IntOp.muli (BitVec.ofNat 32 (i 0).val) 1#32) 0#32)) 1#32).toInt
      = 8 + ((i 0).val : ℤ) + 1 := by
    generalize (i 0) = n
    revert n; decide
  rw [this, hi, ofBits_sixteen, ← EReal.coe_mul, Ideal.exp_coe, ← EReal.coe_mul]
  unfold slopeAt
  push_cast
  rfl

end Cert.Proof.Run
end
end
-- ==== Proof.Run.Data.lean ====
/-
  The arrays of the attention gradient as real numbers, the cells they fall into, and the gradient they have.
-/
module

public import proofs.«01_k».proof.Proof.Run.Cell

@[expose] public section

noncomputable section

namespace Cert.Proof.Run

/-- The arrays' real numbers by row and column: the projection, the gradients of the result and of the log-sum's lanes,
and the forward pass's result and log-sum (of a row and a head). -/
structure Data where
  p : ℕ → ℕ → ℝ
  g : ℕ → ℕ → ℝ
  e : ℕ → ℕ → ℝ
  o : ℕ → ℕ → ℝ
  l : ℕ → ℕ → ℝ

/-- Place `i` of stream `r` of block `n` is this row. -/
def token (n : ℕ) (r : Fin 16) (i : ℕ) : ℕ := (n * 128 + i) * 16 + r.val

namespace Data

variable (D : Data) (slopeOf : ℕ → ℝ) (scale : ℝ) (n : ℕ) (r : Fin 16) (h : ℕ)

/-- The cell of a block, a stream and a head, with `pad` as the keys and values before the first block. -/
def cell (pad : ℕ → ℕ → ℝ) : Cell where
  q i d := D.p (token n r i.val) (3072 + 384 * h + d.val)
  k j d := if j.val < 128 then (if n = 0 then pad (token 0 r j.val) (3200 + 384 * h + d.val)
      else D.p (token (n - 1) r j.val) (3200 + 384 * h + d.val))
    else D.p (token n r (j.val - 128)) (3200 + 384 * h + d.val)
  v j d := if j.val < 128 then (if n = 0 then pad (token 0 r j.val) (3328 + 384 * h + d.val)
      else D.p (token (n - 1) r j.val) (3328 + 384 * h + d.val))
    else D.p (token n r (j.val - 128)) (3328 + 384 * h + d.val)
  g i d := D.g (token n r i.val) (128 * h + d.val)
  e i d := D.e (token n r i.val) (128 * h + d.val)
  slope := slopeOf h
  scale := scale
  first := if n = 0 then 128 else 0

/-- The forward pass's result of a cell. -/
def oOf (i d : Fin 128) : ℝ := D.o (token n r i.val) (128 * h + d.val)

/-- The forward pass's log-sum of a cell. -/
def lOf (i : Fin 128) : ℝ := D.l (token n r i.val) h

variable (pad : ℕ → ℕ → ℝ)

theorem cell_first : (D.cell slopeOf scale n r h pad).first ≤ 128 := by
  show (if n = 0 then 128 else 0) ≤ 128
  split <;> omega

/-- The gradient of the queries. -/
def gq (i d : Fin 128) : ℝ := (D.cell slopeOf scale n r h pad).dq (D.lOf n r h) (D.oOf n r h) i d

/-- The gradient of the keys: the block's own part, and the next block's where there is one. -/
def gk (i d : Fin 128) : ℝ :=
  (D.cell slopeOf scale n r h pad).dk (D.lOf n r h) (D.oOf n r h) ⟨128 + i.val, by omega⟩ d +
    if n < 7 then (D.cell slopeOf scale (n + 1) r h pad).dk (D.lOf (n + 1) r h) (D.oOf (n + 1) r h) ⟨i.val, by omega⟩ d else 0

/-- The gradient of the values, likewise. -/
def gv (i d : Fin 128) : ℝ :=
  (D.cell slopeOf scale n r h pad).dv (D.lOf n r h) ⟨128 + i.val, by omega⟩ d +
    if n < 7 then (D.cell slopeOf scale (n + 1) r h pad).dv (D.lOf (n + 1) r h) ⟨i.val, by omega⟩ d else 0

/-- The gradients side by side, in columns of a head: queries, keys, values. -/
def res (x : Fin 384) (i : Fin 128) : ℝ :=
  if hx : x.val < 128 then D.gq slopeOf scale n r h pad i ⟨x.val, hx⟩
  else if hx' : x.val < 256 then D.gk slopeOf scale n r h pad i ⟨x.val - 128, by omega⟩
  else D.gv slopeOf scale n r h pad i ⟨x.val - 256, by omega⟩

/-- The gradient at a row and a column of the twelve column blocks of 128. -/
def resAt (row col : ℕ) : ℝ :=
  D.res slopeOf scale (row / 2048) ⟨row % 16, Nat.mod_lt _ (by decide)⟩ (col / 384) pad
    ⟨col % 384, Nat.mod_lt _ (by decide)⟩ ⟨row / 16 % 128, Nat.mod_lt _ (by decide)⟩

end Data

end Cert.Proof.Run
end
end
-- ==== Proof.Run.RefA.lean ====
/-
  The reference's queries, keys, values, mask and scores on real numbers: those of a cell whose keys and values before the
  first block are zero.
-/
module

public import proofs.«01_k».proof.Proof.Gen.ReferenceIdeal.Run
public import proofs.«01_k».proof.Proof.Run.Reals
public import proofs.«01_k».proof.Proof.Run.Data

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

/-- The slope of head `8 + h + 1` of twelve, times the dilation. -/
def slopeOf (h : ℕ) : ℝ := (2 : ℝ) ^ ((-8 * (1 + (8 + (h : ℝ)))) / 12) * 16

/-- The reference's cell: zero keys and values before the first block. -/
abbrev rcell (D : Data) (n : ℕ) (r : Fin 16) (h : ℕ) : Cell := D.cell slopeOf scale n r h (fun _ _ => 0)

variable {W : Valuation Cert.ReferenceIdeal.τ Cert.ReferenceIdeal.sig (Elt Ideal)} {D : Data}

/-- The reference's arguments hold the real numbers `D`. -/
structure Args (W : Valuation Cert.ReferenceIdeal.τ Cert.ReferenceIdeal.sig (Elt Ideal)) (D : Data) : Prop where
  p : ∃ X : Vec Ideal S16384x4608 .f32, W (Proc.devRef .tc main_arg0) = X ∧
    ∀ (row : Fin 16384) (col : Fin 4608), 3072 ≤ col.val → X (ix2 row col) = (D.p row.val col.val : EReal)
  g : ∃ X : Vec Ideal S16384x512 .f32, W (Proc.devRef .tc main_arg1) = X ∧
    ∀ (row : Fin 16384) (col : Fin 512), X (ix2 row col) = (D.g row.val col.val : EReal)
  e : ∃ X : Vec Ideal S16384x512 .f32, W (Proc.devRef .tc main_arg2) = X ∧
    ∀ (row : Fin 16384) (col : Fin 512), X (ix2 row col) = (D.e row.val col.val : EReal)

theorem token_eq (n i : ℕ) (r : Fin 16) : n * 2048 + i * 16 + r.val = token n r i := by unfold token; omega

/-- The queries. -/
theorem v20_real (hW : Args W D) (n : Fin 8) (i : Fin 128) (r : Fin 16) (h : Fin 4) (d : Fin 128) :
    (res_main_v20 (F := Ideal) W : Vec Ideal S1x8x128x16x4x128 .f32) (ix6 0 n i r h d) = ((rcell D n.val r h.val).q i d : EReal) := by
  obtain ⟨X, hX, hX'⟩ := hW.p
  have : (res_main_v20 (F := Ideal) W : Vec Ideal S1x8x128x16x4x128 .f32) (ix6 0 n i r h d)
      = X (ix2 ⟨n.val * 2048 + i.val * 16 + r.val, by omega⟩ ⟨3072 + (h.val * 384 + d.val), by omega⟩) := by
    unfold res_main_v20 res_main_v3
    rw [hX]
    pointwise []
  rw [this, hX' _ _ (by show 3072 ≤ 3072 + _; omega)]
  show ((D.p (n.val * 2048 + i.val * 16 + r.val) (3072 + (h.val * 384 + d.val)) : ℝ) : EReal)
    = (D.p (token n.val r i.val) (3072 + 384 * h.val + d.val) : ℝ)
  rw [token_eq, show 3072 + (h.val * 384 + d.val) = 3072 + 384 * h.val + d.val by omega]

/-- The keys, block by block. -/
theorem v21_real (hW : Args W D) (n : Fin 8) (i : Fin 128) (r : Fin 16) (h : Fin 4) (d : Fin 128) :
    (res_main_v21 (F := Ideal) W : Vec Ideal S1x8x128x16x4x128 .f32) (ix6 0 n i r h d)
      = (D.p (token n.val r i.val) (3200 + 384 * h.val + d.val) : EReal) := by
  obtain ⟨X, hX, hX'⟩ := hW.p
  have : (res_main_v21 (F := Ideal) W : Vec Ideal S1x8x128x16x4x128 .f32) (ix6 0 n i r h d)
      = X (ix2 ⟨n.val * 2048 + i.val * 16 + r.val, by omega⟩ ⟨3072 + (h.val * 384 + 128 + d.val), by omega⟩) := by
    unfold res_main_v21 res_main_v3
    rw [hX]
    pointwise []
  rw [this, hX' _ _ (by show 3072 ≤ 3072 + _; omega)]
  show ((D.p (n.val * 2048 + i.val * 16 + r.val) (3072 + (h.val * 384 + 128 + d.val)) : ℝ) : EReal) = _
  rw [token_eq, show 3072 + (h.val * 384 + 128 + d.val) = 3200 + 384 * h.val + d.val by omega]

/-- The values, block by block. -/
theorem v22_real (hW : Args W D) (n : Fin 8) (i : Fin 128) (r : Fin 16) (h : Fin 4) (d : Fin 128) :
    (res_main_v22 (F := Ideal) W : Vec Ideal S1x8x128x16x4x128 .f32) (ix6 0 n i r h d)
      = (D.p (token n.val r i.val) (3328 + 384 * h.val + d.val) : EReal) := by
  obtain ⟨X, hX, hX'⟩ := hW.p
  have : (res_main_v22 (F := Ideal) W : Vec Ideal S1x8x128x16x4x128 .f32) (ix6 0 n i r h d)
      = X (ix2 ⟨n.val * 2048 + i.val * 16 + r.val, by omega⟩ ⟨3072 + (h.val * 384 + 256 + d.val), by omega⟩) := by
    unfold res_main_v22 res_main_v3
    rw [hX]
    pointwise []
  rw [this, hX' _ _ (by show 3072 ≤ 3072 + _; omega)]
  show ((D.p (n.val * 2048 + i.val * 16 + r.val) (3072 + (h.val * 384 + 256 + d.val)) : ℝ) : EReal) = _
  rw [token_eq, show 3072 + (h.val * 384 + 256 + d.val) = 3328 + 384 * h.val + d.val by omega]

/-- Each block with the block before it, read at an index. -/
theorem withPrev_apply (X : Vec Ideal S1x8x128x16x4x128 .f32) (n : Fin 8) (j : Fin 256) (r : Fin 16) (h : Fin 4) (d : Fin 128) :
    (concatenate S1x8x256x16x4x128 2 [⟨S1x8x128x16x4x128, (concatenate S1x8x128x16x4x128 1 [⟨S1x1x128x16x4x128, (broadcastInDim S1x1x128x16x4x128 ![] bcast_S_S1x1x128x16x4x128 (constant (F := Ideal) S_ .f32 0x00000000#32))⟩, ⟨S1x7x128x16x4x128, (extractStridedSlice S1x7x128x16x4x128 ![0, 0, 0, 0, 0, 0] X slices_S1x8x128x16x4x128_S1x7x128x16x4x128_0_0_0_0_0_0)⟩] concatenates_S1x1x128x16x4x128_S1x7x128x16x4x128_S1x8x128x16x4x128_d1)⟩, ⟨S1x8x128x16x4x128, X⟩] concatenates_S1x8x128x16x4x128_S1x8x128x16x4x128_S1x8x256x16x4x128_d2 : Vec Ideal S1x8x256x16x4x128 .f32)
      (ix6 0 n j r h d)
      = if hj : j.val < 128 then (if hn : n.val < 1 then 0 else X (ix6 0 ⟨n.val - 1, by omega⟩ ⟨j.val, hj⟩ r h d))
        else X (ix6 0 n ⟨j.val - 128, by omega⟩ r h d) := by
  pointwise []

/-- Each block with the one before it, on real numbers. -/
theorem withPrev_real (X : Vec Ideal S1x8x128x16x4x128 .f32) (col : ℕ) (r : Fin 16) (h : Fin 4) (d : Fin 128)
    (hX : ∀ (n : Fin 8) (i : Fin 128), X (ix6 0 n i r h d) = (D.p (token n.val r i.val) col : EReal)) (n : Fin 8) (j : Fin 256) :
    (if hj : j.val < 128 then (if hn : n.val < 1 then 0 else X (ix6 0 ⟨n.val - 1, by omega⟩ ⟨j.val, hj⟩ r h d))
        else X (ix6 0 n ⟨j.val - 128, by omega⟩ r h d) : EReal)
      = ((if j.val < 128 then (if n.val = 0 then (fun _ _ => 0 : ℕ → ℕ → ℝ) (token 0 r j.val) col else D.p (token (n.val - 1) r j.val) col)
          else D.p (token n.val r (j.val - 128)) col : ℝ) : EReal) := by
  by_cases hj : j.val < 128
  · rw [dif_pos hj, if_pos hj]
    by_cases hn : n.val = 0
    · rw [dif_pos (by omega), if_pos hn]; rfl
    · rw [dif_neg (by omega), if_neg hn, hX]
  · rw [dif_neg hj, if_neg hj, hX]

/-- The keys of a block and of the block before it. -/
theorem v28_real (hW : Args W D) (n : Fin 8) (j : Fin 256) (r : Fin 16) (h : Fin 4) (d : Fin 128) :
    (res_main_v28 (F := Ideal) W : Vec Ideal S1x8x256x16x4x128 .f32) (ix6 0 n j r h d) = ((rcell D n.val r h.val).k j d : EReal) := by
  have e := withPrev_apply (res_main_v21 (F := Ideal) W) n j r h d
  unfold res_main_v28
  exact e.trans (withPrev_real _ (3200 + 384 * h.val + d.val) r h d (fun n i => v21_real hW n i r h d) n j)

/-- The values of a block and of the block before it. -/
theorem v34_real (hW : Args W D) (n : Fin 8) (j : Fin 256) (r : Fin 16) (h : Fin 4) (d : Fin 128) :
    (res_main_v34 (F := Ideal) W : Vec Ideal S1x8x256x16x4x128 .f32) (ix6 0 n j r h d) = ((rcell D n.val r h.val).v j d : EReal) := by
  have e := withPrev_apply (res_main_v22 (F := Ideal) W) n j r h d
  unfold res_main_v34
  exact e.trans (withPrev_real _ (3328 + 384 * h.val + d.val) r h d (fun n i => v22_real hW n i r h d) n j)

end Cert.Proof.Run.Ref
end
end
-- ==== Proof.Run.Bridge.lean ====
/-
  The kernel's cells and the reference's give the same gradients: the slopes agree, and the keys before the first block,
  which the two fill differently, are never seen.
-/
module

public import proofs.«01_k».proof.Proof.Run.Pay
public import proofs.«01_k».proof.Proof.Run.RefA

@[expose] public section

noncomputable section

namespace Cert.Proof.Run

open Cert.Proof.Run.Ref (slopeOf)

/-- The two ways of writing the slope. -/
theorem slope_eq (h : ℕ) : slopeAt h = slopeOf h := by
  unfold slopeAt slopeOf
  rw [Real.rpow_def_of_pos (by norm_num)]
  congr 2
  ring

variable (D : Data) (s : ℕ → ℝ) (n : ℕ) (r : Fin 16) (h : ℕ) (pad pad' : ℕ → ℕ → ℝ)

theorem cell_k (j : Fin 256) (hj : (D.cell s scale n r h pad).first ≤ j.val) :
    (D.cell s scale n r h pad).k j = (D.cell s scale n r h pad').k j := by
  funext d
  show (if j.val < 128 then (if n = 0 then _ else _) else _) = (if j.val < 128 then (if n = 0 then _ else _) else _)
  have hj' : (if n = 0 then 128 else 0) ≤ j.val := hj
  split_ifs at hj' ⊢ <;> first | rfl | omega

theorem cell_v (j : Fin 256) (hj : (D.cell s scale n r h pad).first ≤ j.val) :
    (D.cell s scale n r h pad).v j = (D.cell s scale n r h pad').v j := by
  funext d
  show (if j.val < 128 then (if n = 0 then _ else _) else _) = (if j.val < 128 then (if n = 0 then _ else _) else _)
  have hj' : (if n = 0 then 128 else 0) ≤ j.val := hj
  split_ifs at hj' ⊢ <;> first | rfl | omega

theorem dq_pad (L : Fin 128 → ℝ) (o : Fin 128 → Fin 128 → ℝ) :
    (D.cell s scale n r h pad).dq L o = (D.cell s scale n r h pad').dq L o :=
  Cell.dq_congr (C := D.cell s scale n r h pad) (D := D.cell s scale n r h pad') rfl rfl rfl rfl rfl rfl (cell_k D s n r h pad pad') (cell_v D s n r h pad pad') L o

theorem dk_pad (L : Fin 128 → ℝ) (o : Fin 128 → Fin 128 → ℝ) :
    (D.cell s scale n r h pad).dk L o = (D.cell s scale n r h pad').dk L o :=
  Cell.dk_congr (C := D.cell s scale n r h pad) (D := D.cell s scale n r h pad') rfl rfl rfl rfl rfl rfl (cell_k D s n r h pad pad') (cell_v D s n r h pad pad') L o

theorem dv_pad (L : Fin 128 → ℝ) :
    (D.cell s scale n r h pad).dv L = (D.cell s scale n r h pad').dv L :=
  Cell.dv_congr (C := D.cell s scale n r h pad) (D := D.cell s scale n r h pad') rfl rfl rfl rfl rfl (cell_k D s n r h pad pad') L

/-- The gradients do not depend on what stands before the first block. -/
theorem resAt_pad (row col : ℕ) : D.resAt s scale pad row col = D.resAt s scale pad' row col := by
  unfold Data.resAt Data.res Data.gq Data.gk Data.gv
  simp only [dq_pad D s _ _ _ pad pad', dk_pad D s _ _ _ pad pad', dv_pad D s _ _ _ pad pad']

/-- The kernel's gradients are the reference's. -/
theorem resAt_eq (row col : ℕ) : D.resAt slopeAt scale D.p row col = D.resAt slopeOf scale (fun _ _ => 0) row col := by
  rw [resAt_pad D slopeAt D.p (fun _ _ => 0), show slopeAt = slopeOf from funext slope_eq]

end Cert.Proof.Run

end
-- ==== Proof.Run.Grid.lean ====
/-
  Where the blocks of a grid point lie in the arrays: the point's head and row, and what each block reads.
-/
module

public import proofs.«01_k».proof.Proof.Run.Run
public import Idealize.ShloMosaic.Lib.Pipeline.Value

@[expose] public section

noncomputable section

namespace Cert.Proof.Run

open Cert.KernelIdeal Cert.KernelIdeal.Gen
open Idealize.ShloMosaic Idealize.ShloMosaic.TcCoe Idealize.ShloMosaic.ValueIdx
open Idealize.ShloMosaic.Pipeline (Dat Cfg Window)
open Idealize.SL.Sem

variable {F : FTy → Type} [FloatOps F] [Named F]
variable (m : (ℓ : Loc nD τ sig) → Buf (Elt F) ℓ)

/-! ## The index maps -/

theorem tr0_eq (i : grid0.Coords) : cc0_transform_0 i = ![min (i 1).val 7, 24 + 3 * (i 0).val] := by
  unfold cc0_transform_0; generalize (i 1) = n; generalize (i 0) = h; revert n h; decide
theorem tr1_eq (i : grid0.Coords) : cc0_transform_1 i = ![min (i 1).val 7, 25 + 3 * (i 0).val] := by
  unfold cc0_transform_1; generalize (i 1) = n; generalize (i 0) = h; revert n h; decide
theorem tr2_eq (i : grid0.Coords) : cc0_transform_2 i = ![min (i 1).val 7 - 1, 25 + 3 * (i 0).val] := by
  unfold cc0_transform_2; generalize (i 1) = n; generalize (i 0) = h; revert n h; decide
theorem tr3_eq (i : grid0.Coords) : cc0_transform_3 i = ![min (i 1).val 7, 26 + 3 * (i 0).val] := by
  unfold cc0_transform_3; generalize (i 1) = n; generalize (i 0) = h; revert n h; decide
theorem tr4_eq (i : grid0.Coords) : cc0_transform_4 i = ![min (i 1).val 7 - 1, 26 + 3 * (i 0).val] := by
  unfold cc0_transform_4; generalize (i 1) = n; generalize (i 0) = h; revert n h; decide
theorem tr5_eq (i : grid0.Coords) : cc0_transform_5 i = ![min (i 1).val 7, (i 0).val] := by
  unfold cc0_transform_5; generalize (i 1) = n; generalize (i 0) = h; revert n h; decide
theorem tr6_eq (i : grid0.Coords) : cc0_transform_6 i = ![min (i 1).val 7, (i 0).val] := by
  unfold cc0_transform_6; generalize (i 1) = n; generalize (i 0) = h; revert n h; decide
theorem tr7_eq (i : grid0.Coords) : cc0_transform_7 i = ![min (i 1).val 7, (i 0).val] := by
  unfold cc0_transform_7; generalize (i 1) = n; generalize (i 0) = h; revert n h; decide
theorem tr8_eq (i : grid0.Coords) : cc0_transform_8 i = ![min (i 1).val 7, (i 0).val] := by
  unfold cc0_transform_8; generalize (i 1) = n; generalize (i 0) = h; revert n h; decide
theorem tr10_eq (i : grid0.Coords) : cc0_transform_10 i = ![(i 1).val - 1, 8 + (i 0).val] := by
  unfold cc0_transform_10; generalize (i 1) = n; generalize (i 0) = h; revert n h; decide

/-! ## The points -/

theorem coords_val (t : Fin cfg0.N) : (grid0.coords t 0).val = t.val / 9 ∧ (grid0.coords t 1).val = t.val % 9 := by
  revert t; decide

theorem flush_iff (t : Fin cfg0.N) : (cfg0.win 9).flush t = true ↔ 1 ≤ t.val % 9 := by
  revert t; decide +kernel

/-! ## What the blocks read -/

/-- The block of the queries. -/
theorem iblk0_apply (c : Dev nD) (t : Fin cfg0.N) (a : Fin 2048) (d : Fin 128) (row : Fin 16384) (col : Fin 4608)
    (hr : row.val = min (grid0.coords t 1).val 7 * 2048 + a.val) (hc : col.val = 3072 + 384 * (grid0.coords t 0).val + d.val) :
    (iblk m c 0 t : Vec F S2048x128 .f32) (ix2 a d) = (m ((c : Thread nD τ).loc main_arg0) : Vec F S16384x4608 .f32) (ix2 row col) := by
  have hV : V m c (Pipeline.arrRef spec0 0) = m ((c : Thread nD τ).loc main_arg0) := V_main_arg0 m c
  unfold iblk
  rw [hV]
  show (m ((c : Thread nD τ).loc main_arg0) : Vec F S16384x4608 .f32) (((cfg0.win 0).rect t).emb (ix2 a d)) = _
  congr 1
  funext x
  apply Fin.ext
  refine (Pipeline.Window.rect_emb_val (cfg0.win 0) t (ix2 a d) x rfl).trans ?_
  match x with
  | ⟨0, _⟩ =>
    show cc0_transform_0 (grid0.coords t) 0 * 2048 + a.val = row.val
    rw [tr0_eq]; exact hr.symm
  | ⟨1, _⟩ =>
    show cc0_transform_0 (grid0.coords t) 1 * 128 + d.val = col.val
    rw [tr0_eq, hc]; show (24 + 3 * (grid0.coords t 0).val) * 128 + d.val = _; omega

/-- The block of the keys of the tile. -/
theorem iblk1_apply (c : Dev nD) (t : Fin cfg0.N) (a : Fin 2048) (d : Fin 128) (row : Fin 16384) (col : Fin 4608)
    (hr : row.val = min (grid0.coords t 1).val 7 * 2048 + a.val) (hc : col.val = 3200 + 384 * (grid0.coords t 0).val + d.val) :
    (iblk m c 1 t : Vec F S2048x128 .f32) (ix2 a d) = (m ((c : Thread nD τ).loc main_arg0) : Vec F S16384x4608 .f32) (ix2 row col) := by
  have hV : V m c (Pipeline.arrRef spec0 1) = m ((c : Thread nD τ).loc main_arg0) := V_main_arg0 m c
  unfold iblk
  rw [hV]
  show (m ((c : Thread nD τ).loc main_arg0) : Vec F S16384x4608 .f32) (((cfg0.win 1).rect t).emb (ix2 a d)) = _
  congr 1
  funext x
  apply Fin.ext
  refine (Pipeline.Window.rect_emb_val (cfg0.win 1) t (ix2 a d) x rfl).trans ?_
  match x with
  | ⟨0, _⟩ =>
    show cc0_transform_1 (grid0.coords t) 0 * 2048 + a.val = row.val
    rw [tr1_eq]; exact hr.symm
  | ⟨1, _⟩ =>
    show cc0_transform_1 (grid0.coords t) 1 * 128 + d.val = col.val
    rw [tr1_eq, hc]; show (25 + 3 * (grid0.coords t 0).val) * 128 + d.val = _; omega

/-- The block of the keys of the tile before. -/
theorem iblk2_apply (c : Dev nD) (t : Fin cfg0.N) (a : Fin 2048) (d : Fin 128) (row : Fin 16384) (col : Fin 4608)
    (hr : row.val = (min (grid0.coords t 1).val 7 - 1) * 2048 + a.val) (hc : col.val = 3200 + 384 * (grid0.coords t 0).val + d.val) :
    (iblk m c 2 t : Vec F S2048x128 .f32) (ix2 a d) = (m ((c : Thread nD τ).loc main_arg0) : Vec F S16384x4608 .f32) (ix2 row col) := by
  have hV : V m c (Pipeline.arrRef spec0 2) = m ((c : Thread nD τ).loc main_arg0) := V_main_arg0 m c
  unfold iblk
  rw [hV]
  show (m ((c : Thread nD τ).loc main_arg0) : Vec F S16384x4608 .f32) (((cfg0.win 2).rect t).emb (ix2 a d)) = _
  congr 1
  funext x
  apply Fin.ext
  refine (Pipeline.Window.rect_emb_val (cfg0.win 2) t (ix2 a d) x rfl).trans ?_
  match x with
  | ⟨0, _⟩ =>
    show cc0_transform_2 (grid0.coords t) 0 * 2048 + a.val = row.val
    rw [tr2_eq]; exact hr.symm
  | ⟨1, _⟩ =>
    show cc0_transform_2 (grid0.coords t) 1 * 128 + d.val = col.val
    rw [tr2_eq, hc]; show (25 + 3 * (grid0.coords t 0).val) * 128 + d.val = _; omega

/-- The block of the values of the tile. -/
theorem iblk3_apply (c : Dev nD) (t : Fin cfg0.N) (a : Fin 2048) (d : Fin 128) (row : Fin 16384) (col : Fin 4608)
    (hr : row.val = min (grid0.coords t 1).val 7 * 2048 + a.val) (hc : col.val = 3328 + 384 * (grid0.coords t 0).val + d.val) :
    (iblk m c 3 t : Vec F S2048x128 .f32) (ix2 a d) = (m ((c : Thread nD τ).loc main_arg0) : Vec F S16384x4608 .f32) (ix2 row col) := by
  have hV : V m c (Pipeline.arrRef spec0 3) = m ((c : Thread nD τ).loc main_arg0) := V_main_arg0 m c
  unfold iblk
  rw [hV]
  show (m ((c : Thread nD τ).loc main_arg0) : Vec F S16384x4608 .f32) (((cfg0.win 3).rect t).emb (ix2 a d)) = _
  congr 1
  funext x
  apply Fin.ext
  refine (Pipeline.Window.rect_emb_val (cfg0.win 3) t (ix2 a d) x rfl).trans ?_
  match x with
  | ⟨0, _⟩ =>
    show cc0_transform_3 (grid0.coords t) 0 * 2048 + a.val = row.val
    rw [tr3_eq]; exact hr.symm
  | ⟨1, _⟩ =>
    show cc0_transform_3 (grid0.coords t) 1 * 128 + d.val = col.val
    rw [tr3_eq, hc]; show (26 + 3 * (grid0.coords t 0).val) * 128 + d.val = _; omega

/-- The block of the values of the tile before. -/
theorem iblk4_apply (c : Dev nD) (t : Fin cfg0.N) (a : Fin 2048) (d : Fin 128) (row : Fin 16384) (col : Fin 4608)
    (hr : row.val = (min (grid0.coords t 1).val 7 - 1) * 2048 + a.val) (hc : col.val = 3328 + 384 * (grid0.coords t 0).val + d.val) :
    (iblk m c 4 t : Vec F S2048x128 .f32) (ix2 a d) = (m ((c : Thread nD τ).loc main_arg0) : Vec F S16384x4608 .f32) (ix2 row col) := by
  have hV : V m c (Pipeline.arrRef spec0 4) = m ((c : Thread nD τ).loc main_arg0) := V_main_arg0 m c
  unfold iblk
  rw [hV]
  show (m ((c : Thread nD τ).loc main_arg0) : Vec F S16384x4608 .f32) (((cfg0.win 4).rect t).emb (ix2 a d)) = _
  congr 1
  funext x
  apply Fin.ext
  refine (Pipeline.Window.rect_emb_val (cfg0.win 4) t (ix2 a d) x rfl).trans ?_
  match x with
  | ⟨0, _⟩ =>
    show cc0_transform_4 (grid0.coords t) 0 * 2048 + a.val = row.val
    rw [tr4_eq]; exact hr.symm
  | ⟨1, _⟩ =>
    show cc0_transform_4 (grid0.coords t) 1 * 128 + d.val = col.val
    rw [tr4_eq, hc]; show (26 + 3 * (grid0.coords t 0).val) * 128 + d.val = _; omega

/-- The block of the forward pass's result, of any contents. -/
theorem blk5_read (X : Vec F S16384x512 .f32) (t : Fin cfg0.N) (a : Fin 2048) (d : Fin 128) (row : Fin 16384) (col : Fin 512)
    (hr : row.val = min (grid0.coords t 1).val 7 * 2048 + a.val) (hc : col.val = 128 * (grid0.coords t 0).val + d.val) :
    (((cfg0.win 5).blk t).view.read (Elt F) X : Vec F S2048x128 .f32) (ix2 a d) = X (ix2 row col) := by
  show X (((cfg0.win 5).rect t).emb (ix2 a d)) = _
  congr 1
  funext x
  apply Fin.ext
  refine (Pipeline.Window.rect_emb_val (cfg0.win 5) t (ix2 a d) x rfl).trans ?_
  match x with
  | ⟨0, _⟩ =>
    show cc0_transform_5 (grid0.coords t) 0 * 2048 + a.val = row.val
    rw [tr5_eq]; exact hr.symm
  | ⟨1, _⟩ =>
    show cc0_transform_5 (grid0.coords t) 1 * 128 + d.val = col.val
    rw [tr5_eq, hc]; show (grid0.coords t 0).val * 128 + d.val = _; omega

/-- The block of the forward pass's result, off the array `X` the call finds. -/
theorem iblk5_apply (c : Dev nD) (X : Vec F S16384x512 .f32) (hX : V m c main_v94 = X) (t : Fin cfg0.N) (a : Fin 2048)
    (d : Fin 128) (row : Fin 16384) (col : Fin 512)
    (hr : row.val = min (grid0.coords t 1).val 7 * 2048 + a.val) (hc : col.val = 128 * (grid0.coords t 0).val + d.val) :
    (iblk m c 5 t : Vec F S2048x128 .f32) (ix2 a d) = X (ix2 row col) := by
  subst hX
  unfold iblk
  exact blk5_read _ t a d row col hr hc

/-- The block of the forward pass's log-sum, of any contents. -/
theorem blk6_read (X : Vec F S16384x512 .f32) (t : Fin cfg0.N) (a : Fin 2048) (d : Fin 128) (row : Fin 16384) (col : Fin 512)
    (hr : row.val = min (grid0.coords t 1).val 7 * 2048 + a.val) (hc : col.val = 128 * (grid0.coords t 0).val + d.val) :
    (((cfg0.win 6).blk t).view.read (Elt F) X : Vec F S2048x128 .f32) (ix2 a d) = X (ix2 row col) := by
  show X (((cfg0.win 6).rect t).emb (ix2 a d)) = _
  congr 1
  funext x
  apply Fin.ext
  refine (Pipeline.Window.rect_emb_val (cfg0.win 6) t (ix2 a d) x rfl).trans ?_
  match x with
  | ⟨0, _⟩ =>
    show cc0_transform_6 (grid0.coords t) 0 * 2048 + a.val = row.val
    rw [tr6_eq]; exact hr.symm
  | ⟨1, _⟩ =>
    show cc0_transform_6 (grid0.coords t) 1 * 128 + d.val = col.val
    rw [tr6_eq, hc]; show (grid0.coords t 0).val * 128 + d.val = _; omega

/-- The block of the forward pass's log-sum, off the array `X` the call finds. -/
theorem iblk6_apply (c : Dev nD) (X : Vec F S16384x512 .f32) (hX : V m c main_v97 = X) (t : Fin cfg0.N) (a : Fin 2048)
    (d : Fin 128) (row : Fin 16384) (col : Fin 512)
    (hr : row.val = min (grid0.coords t 1).val 7 * 2048 + a.val) (hc : col.val = 128 * (grid0.coords t 0).val + d.val) :
    (iblk m c 6 t : Vec F S2048x128 .f32) (ix2 a d) = X (ix2 row col) := by
  subst hX
  unfold iblk
  exact blk6_read _ t a d row col hr hc

/-- The block of the result's gradient. -/
theorem iblk7_apply (c : Dev nD) (t : Fin cfg0.N) (a : Fin 2048) (d : Fin 128) (row : Fin 16384) (col : Fin 512)
    (hr : row.val = min (grid0.coords t 1).val 7 * 2048 + a.val) (hc : col.val = 128 * (grid0.coords t 0).val + d.val) :
    (iblk m c 7 t : Vec F S2048x128 .f32) (ix2 a d) = (m ((c : Thread nD τ).loc main_arg1) : Vec F S16384x512 .f32) (ix2 row col) := by
  have hV : V m c (Pipeline.arrRef spec0 7) = m ((c : Thread nD τ).loc main_arg1) := V_main_arg1 m c
  unfold iblk
  rw [hV]
  show (m ((c : Thread nD τ).loc main_arg1) : Vec F S16384x512 .f32) (((cfg0.win 7).rect t).emb (ix2 a d)) = _
  congr 1
  funext x
  apply Fin.ext
  refine (Pipeline.Window.rect_emb_val (cfg0.win 7) t (ix2 a d) x rfl).trans ?_
  match x with
  | ⟨0, _⟩ =>
    show cc0_transform_7 (grid0.coords t) 0 * 2048 + a.val = row.val
    rw [tr7_eq]; exact hr.symm
  | ⟨1, _⟩ =>
    show cc0_transform_7 (grid0.coords t) 1 * 128 + d.val = col.val
    rw [tr7_eq, hc]; show (grid0.coords t 0).val * 128 + d.val = _; omega

/-- The block of the gradient of the log-sum's lanes. -/
theorem iblk8_apply (c : Dev nD) (t : Fin cfg0.N) (a : Fin 2048) (d : Fin 128) (row : Fin 16384) (col : Fin 512)
    (hr : row.val = min (grid0.coords t 1).val 7 * 2048 + a.val) (hc : col.val = 128 * (grid0.coords t 0).val + d.val) :
    (iblk m c 8 t : Vec F S2048x128 .f32) (ix2 a d) = (m ((c : Thread nD τ).loc main_arg2) : Vec F S16384x512 .f32) (ix2 row col) := by
  have hV : V m c (Pipeline.arrRef spec0 8) = m ((c : Thread nD τ).loc main_arg2) := V_main_arg2 m c
  unfold iblk
  rw [hV]
  show (m ((c : Thread nD τ).loc main_arg2) : Vec F S16384x512 .f32) (((cfg0.win 8).rect t).emb (ix2 a d)) = _
  congr 1
  funext x
  apply Fin.ext
  refine (Pipeline.Window.rect_emb_val (cfg0.win 8) t (ix2 a d) x rfl).trans ?_
  match x with
  | ⟨0, _⟩ =>
    show cc0_transform_8 (grid0.coords t) 0 * 2048 + a.val = row.val
    rw [tr8_eq]; exact hr.symm
  | ⟨1, _⟩ =>
    show cc0_transform_8 (grid0.coords t) 1 * 128 + d.val = col.val
    rw [tr8_eq, hc]; show (grid0.coords t 0).val * 128 + d.val = _; omega

end Cert.Proof.Run

end
-- ==== Proof.Run.Carry.lean ====
/-
  What the carried arrays and the result's blocks hold at each grid point, on real numbers.
-/
module

public import proofs.«01_k».proof.Proof.Run.Pay
public import proofs.«01_k».proof.Proof.Run.Data
public import proofs.«01_k».proof.Proof.Run.Grid

@[expose] public section

noncomputable section

namespace Cert.Proof.Run

open Cert.KernelIdeal Cert.KernelIdeal.Gen
open Idealize.ShloMosaic Idealize.ShloMosaic.TcCoe Idealize.ShloMosaic.Pointwise
open Idealize.SL.Sem

variable (m : (ℓ : Loc nD τ sig) → Buf (Elt Ideal) ℓ) (c : Dev nD) (D : Data)

/-- The call's arrays hold the real numbers `D`. -/
structure Agrees : Prop where
  p : ∀ (row : Fin 16384) (col : Fin 4608), 3072 ≤ col.val →
    (m ((c : Thread nD τ).loc main_arg0) : Vec Ideal S16384x4608 .f32) (ValueIdx.ix2 row col) = (D.p row.val col.val : EReal)
  g : ∀ (row : Fin 16384) (col : Fin 512),
    (m ((c : Thread nD τ).loc main_arg1) : Vec Ideal S16384x512 .f32) (ValueIdx.ix2 row col) = (D.g row.val col.val : EReal)
  e : ∀ (row : Fin 16384) (col : Fin 512),
    (m ((c : Thread nD τ).loc main_arg2) : Vec Ideal S16384x512 .f32) (ValueIdx.ix2 row col) = (D.e row.val col.val : EReal)
  o : ∃ X : Vec Ideal S16384x512 .f32, V m c main_v94 = X ∧
    ∀ (row : Fin 16384) (col : Fin 512), X (ValueIdx.ix2 row col) = (D.o row.val col.val : EReal)
  l : ∃ X : Vec Ideal S16384x512 .f32, V m c main_v97 = X ∧
    ∀ (row : Fin 16384) (col : Fin 512), X (ValueIdx.ix2 row col) = (D.l row.val (col.val / 128) : EReal)

/-- The cell a grid point and a stream are at; before the first block stand the first block's own keys and values. -/
abbrev cellAt (n : ℕ) (r : Fin 16) (h : ℕ) : Cell := D.cell slopeAt scale n r h D.p

variable {m c D}

theorem token_lt {n : ℕ} (hn : n < 8) (r : Fin 16) (i : Fin 128) : token n r i.val < 16384 := by
  have := r.isLt
  unfold token; omega

/-- The row of a block a stream's place is. -/
def rowIn (r : Fin 16) (i : Fin 128) : Fin 2048 := ⟨r.val + 16 * i.val, by have := r.isLt; omega⟩

theorem stripe_at (r : Fin 16) (X : Vec Ideal S2048x128 .f32) (i d : Fin 128) :
    stripe r X (ix2 i d) = X (ValueIdx.ix2 (rowIn r i) d) := by
  rw [ix2_eq_valueIdx]; rfl

/-- A stream's place in its block. -/
theorem token_row {n : ℕ} (hn : n < 8) (r : Fin 16) (i : Fin 128) :
    token n r i.val = min n 7 * 2048 + (r.val + 16 * i.val) := by
  unfold token; omega

theorem token_row' {n : ℕ} (hn : n < 8) (r : Fin 16) (i : Fin 128) :
    token (n - 1) r i.val = (min n 7 - 1) * 2048 + (r.val + 16 * i.val) := by
  unfold token; omega

theorem col_lt {h k : ℕ} (hh : h < 4) (hk : k ≤ 3328) (d : Fin 128) : k + 384 * h + d.val < 4608 := by omega
theorem col_ge {h k : ℕ} (hk : 3072 ≤ k) (d : Fin 128) : 3072 ≤ k + 384 * h + d.val := by omega
theorem lane_lt {h : ℕ} (hh : h < 4) (d : Fin 128) : 128 * h + d.val < 512 := by omega
theorem lane_div (h : ℕ) (d : Fin 128) : (128 * h + d.val) / 128 = h := by omega

/-- The rows a cell reads before its own block. -/
theorem cell_before (X : ℕ → ℕ → ℝ) (n : ℕ) (r : Fin 16) (i : Fin 128) (col : ℕ) :
    (if i.val < 128 then (if n = 0 then X (token 0 r i.val) col else X (token (n - 1) r i.val) col)
      else X (token n r (i.val - 128)) col) = X (token (n - 1) r i.val) col := by
  rw [if_pos i.isLt]
  split
  · rename_i h0; rw [h0]
  · rfl

theorem cell_own (X : ℕ → ℕ → ℝ) (n : ℕ) (r : Fin 16) (i : Fin 128) (col : ℕ) (y : ℝ) :
    (if 128 + i.val < 128 then y else X (token n r (128 + i.val - 128)) col) = X (token n r i.val) col := by
  rw [if_neg (by omega), show 128 + i.val - 128 = i.val by omega]

attribute [local irreducible] iblk in
/-- A stream of a grid point's blocks is its cell. -/
theorem holds (hD : Agrees m c D) (t : Fin cfg0.N) (hn : (grid0.coords t 1).val < 8) (r : Fin 16) :
    Holds (cellAt D (grid0.coords t 1).val r (grid0.coords t 0).val)
      (D.lOf (grid0.coords t 1).val r (grid0.coords t 0).val) (D.oOf (grid0.coords t 1).val r (grid0.coords t 0).val)
      (stripe r (blocksAt m c t).q) (stripe r (blocksAt m c t).kp) (stripe r (blocksAt m c t).kc)
      (stripe r (blocksAt m c t).vp) (stripe r (blocksAt m c t).vc) (stripe r (blocksAt m c t).o)
      (stripe r (blocksAt m c t).lse) (stripe r (blocksAt m c t).dout) (stripe r (blocksAt m c t).dl) := by
  have hh : (grid0.coords t 0).val < 4 := (grid0.coords t 0).isLt
  have hn' : (grid0.coords t 1).val - 1 < 8 := lt_of_le_of_lt (Nat.sub_le _ _) hn
  dsimp only [blocksAt]
  constructor
  case q =>
    intro i d
    rw [stripe_at]
    refine Eq.trans (iblk0_apply m c t (rowIn r i) d ⟨_, token_lt hn r i⟩ ⟨_, col_lt hh (by decide) d⟩ (token_row hn r i) rfl) ?_
    exact hD.p _ _ (col_ge (by decide) d)
  case kp =>
    intro i d
    rw [stripe_at]
    refine Eq.trans (iblk2_apply m c t (rowIn r i) d ⟨_, token_lt hn' r i⟩ ⟨_, col_lt hh (by decide) d⟩ (token_row' hn r i) rfl) ?_
    exact (hD.p _ _ (col_ge (by decide) d)).trans (congrArg Real.toEReal (cell_before D.p _ r i _).symm)
  case kc =>
    intro i d
    rw [stripe_at]
    refine Eq.trans (iblk1_apply m c t (rowIn r i) d ⟨_, token_lt hn r i⟩ ⟨_, col_lt hh (by decide) d⟩ (token_row hn r i) rfl) ?_
    exact (hD.p _ _ (col_ge (by decide) d)).trans (congrArg Real.toEReal (cell_own D.p _ r i _ _).symm)
  case vp =>
    intro i d
    rw [stripe_at]
    refine Eq.trans (iblk4_apply m c t (rowIn r i) d ⟨_, token_lt hn' r i⟩ ⟨_, col_lt hh (by decide) d⟩ (token_row' hn r i) rfl) ?_
    exact (hD.p _ _ (col_ge (by decide) d)).trans (congrArg Real.toEReal (cell_before D.p _ r i _).symm)
  case vc =>
    intro i d
    rw [stripe_at]
    refine Eq.trans (iblk3_apply m c t (rowIn r i) d ⟨_, token_lt hn r i⟩ ⟨_, col_lt hh (by decide) d⟩ (token_row hn r i) rfl) ?_
    exact (hD.p _ _ (col_ge (by decide) d)).trans (congrArg Real.toEReal (cell_own D.p _ r i _ _).symm)
  case o =>
    obtain ⟨X, hX, hX'⟩ := hD.o
    intro i d
    rw [stripe_at]
    refine Eq.trans (iblk5_apply m c X hX t (rowIn r i) d ⟨_, token_lt hn r i⟩ ⟨_, lane_lt hh d⟩ (token_row hn r i) rfl) ?_
    exact hX' _ _
  case l =>
    obtain ⟨X, hX, hX'⟩ := hD.l
    intro i d
    rw [stripe_at]
    refine Eq.trans (iblk6_apply m c X hX t (rowIn r i) d ⟨_, token_lt hn r i⟩ ⟨_, lane_lt hh d⟩ (token_row hn r i) rfl) ?_
    exact (hX' _ _).trans (congrArg Real.toEReal (congrArg (D.l _) (lane_div _ d)))
  case g =>
    intro i d
    rw [stripe_at]
    refine Eq.trans (iblk7_apply m c t (rowIn r i) d ⟨_, token_lt hn r i⟩ ⟨_, lane_lt hh d⟩ (token_row hn r i) rfl) ?_
    exact hD.g _ _
  case e =>
    intro i d
    rw [stripe_at]
    refine Eq.trans (iblk8_apply m c t (rowIn r i) d ⟨_, token_lt hn r i⟩ ⟨_, lane_lt hh d⟩ (token_row hn r i) rfl) ?_
    exact hD.e _ _
  case scale => rfl

theorem first_eq (i : grid0.Coords) (r : Fin 16) (h : ℕ) :
    firstKey i = BitVec.ofNat 32 (cellAt D (i 1).val r h).first := by
  rw [firstKey_eq]
  show _ = BitVec.ofNat 32 (if (i 1).val = 0 then 128 else 0)
  split <;> rfl

theorem first_lt (n : ℕ) (r : Fin 16) (h : ℕ) : (cellAt D n r h).first < 256 :=
  lt_of_le_of_lt (D.cell_first slopeAt scale n r h D.p) (by decide)

end Cert.Proof.Run

end
-- ==== Proof.Run.Carried.lean ====
/-
  What the carried arrays and the result's block hold at each grid point, on real numbers.
-/
module

public import proofs.«01_k».proof.Proof.Run.Carry

@[expose] public section

noncomputable section

namespace Cert.Proof.Run

open Cert.KernelIdeal Cert.KernelIdeal.Gen
open Idealize.ShloMosaic Idealize.ShloMosaic.TcCoe Idealize.ShloMosaic.Pointwise
open Idealize.SL.Sem

variable {m : (ℓ : Loc nD τ sig) → Buf (Elt Ideal) ℓ} {c : Dev nD} {D : Data}

/-! ## One stream -/

section
variable (hD : Agrees m c D) (t : Fin cfg0.N) (hn : (grid0.coords t 1).val < 8) (r : Fin 16) (i d : Fin 128)
include hD hn

/-- The query part a grid point computes. -/
theorem ownQ_real : ownQ (grid0.coords t) (blocksAt m c t) r (ValueIdx.ix3 0 i d) =
    (D.gq slopeAt scale (grid0.coords t 1).val r (grid0.coords t 0).val D.p i d : EReal) := by
  rw [← ix3_eq_valueIdx]
  exact pay19_real (holds hD t hn r) (pay24_real _) (first_eq _ _ _) (first_lt _ _ _) i d

/-- The key part of the point's own tile. -/
theorem ownK_real : ownK (grid0.coords t) (blocksAt m c t) r (ValueIdx.ix3 0 i d) =
    ((cellAt D (grid0.coords t 1).val r (grid0.coords t 0).val).dk (D.lOf (grid0.coords t 1).val r (grid0.coords t 0).val)
      (D.oOf (grid0.coords t 1).val r (grid0.coords t 0).val) ⟨128 + i.val, by omega⟩ d : EReal) := by
  rw [← ix3_eq_valueIdx]
  exact pay20_real (holds hD t hn r) (pay24_real _) (first_eq _ _ _) (first_lt _ _ _) i d

/-- The value part of the point's own tile. -/
theorem ownV_real : ownV (grid0.coords t) (blocksAt m c t) r (ValueIdx.ix3 0 i d) =
    ((cellAt D (grid0.coords t 1).val r (grid0.coords t 0).val).dv (D.lOf (grid0.coords t 1).val r (grid0.coords t 0).val)
      ⟨128 + i.val, by omega⟩ d : EReal) := by
  rw [← ix3_eq_valueIdx]
  exact pay25_real (holds hD t hn r) (pay24_real _) (first_eq _ _ _) (first_lt _ _ _) i d

/-- The key part of the tile before. -/
theorem prevK_real : prevK (grid0.coords t) (blocksAt m c t) r (ix2 i d) =
    ((cellAt D (grid0.coords t 1).val r (grid0.coords t 0).val).dk (D.lOf (grid0.coords t 1).val r (grid0.coords t 0).val)
      (D.oOf (grid0.coords t 1).val r (grid0.coords t 0).val) ⟨i.val, by omega⟩ d : EReal) :=
  pay16_real (holds hD t hn r) (pay24_real _) (first_eq _ _ _) (first_lt _ _ _) i d

/-- The value part of the tile before. -/
theorem prevV_real : prevV (grid0.coords t) (blocksAt m c t) r (ix2 i d) =
    ((cellAt D (grid0.coords t 1).val r (grid0.coords t 0).val).dv (D.lOf (grid0.coords t 1).val r (grid0.coords t 0).val)
      ⟨i.val, by omega⟩ d : EReal) :=
  pay17_real (holds hD t hn r) (pay24_real _) (first_eq _ _ _) (first_lt _ _ _) i d
end

theorem pay26_apply (P : Vec Ideal S128x128 .f32) (S : Vec Ideal S1x128x128 .f32) (i d : Fin 128) :
    k0_pay26 P S (ValueIdx.ix3 0 i d) = S (ValueIdx.ix3 0 i d) + P (ix2 i d) := by
  rw [← ix3_eq_valueIdx]
  pointwise [k0_pay26]

theorem pay27_apply (P : Vec Ideal S128x128 .f32) (S : Vec Ideal S1x128x128 .f32) (i d : Fin 128) :
    k0_pay27 P S (ValueIdx.ix3 0 i d) = S (ValueIdx.ix3 0 i d) + P (ix2 i d) := by
  rw [← ix3_eq_valueIdx]
  pointwise [k0_pay27]

theorem pay28_apply (S : Vec Ideal S1x2048x128 .f32) (a : Fin 2048) (d : Fin 128) :
    k0_pay28 S (ValueIdx.ix2 a d) = S (ValueIdx.ix3 0 a d) := by
  rw [← ix3_eq_valueIdx, ← ix2_eq_valueIdx]
  pointwise [k0_pay28]

theorem pay29_apply (S : Vec Ideal S1x2048x128 .f32) (a : Fin 2048) (d : Fin 128) :
    k0_pay29 S (ValueIdx.ix2 a d) = S (ValueIdx.ix3 0 a d) := by
  rw [← ix3_eq_valueIdx, ← ix2_eq_valueIdx]
  pointwise [k0_pay29]

theorem pay1_apply (S : Vec Ideal S1x2048x128 .f32) (a : Fin 2048) (d : Fin 128) :
    k0_pay1 S (ValueIdx.ix2 a d) = S (ValueIdx.ix3 0 a d) := by
  rw [← ix3_eq_valueIdx, ← ix2_eq_valueIdx]
  pointwise [k0_pay1]

/-! ## The carried arrays -/

/-- A row's place within its stripe, as a number below 128. -/
abbrev place (y : S2x2048x128.Idx) : Fin 128 :=
  ⟨(y 1).val / 16, by have h : (y 1).val < 2048 := (y 1).isLt; omega⟩

/-- A row's lane. -/
abbrev lane (y : S2x2048x128.Idx) : Fin 128 := y 2

theorem mod_lt16 (a : ℕ) : a % 16 < 16 := Nat.mod_lt _ (by decide)

theorem inStr_eq (y : S2x2048x128.Idx) : inStr y = ValueIdx.ix3 0 (place y) (lane y) := rfl

/-- Reading a stripe of the slot a row lies in gives the row back. -/
theorem slotStripe_at (s : ℕ) (hs : s < 2) (X : Vec Ideal S2x2048x128 .f32) (y : S2x2048x128.Idx) (hy : (y 0).val = s) :
    slotStripe s hs (strOf y) X (ValueIdx.ix3 0 (place y) (lane y)) = X y := by
  unfold slotStripe
  congr 1
  funext a
  apply Fin.ext
  match a with
  | ⟨0, _⟩ => exact hy.symm
  | ⟨1, _⟩ => show (y 1).val % 16 + 16 * ((y 1).val / 16) = (y 1).val; omega
  | ⟨2, _⟩ => rfl

section
variable (hD : Agrees m c D) (t : Fin cfg0.N) (y : S2x2048x128.Idx)
include hD

theorem new_q (hn : (grid0.coords t 1).val < 8) (hy : (y 0).val = slot (grid0.coords t)) :
    (carriedAt m c (t.val + 1)).q y =
      (D.gq slopeAt scale (grid0.coords t 1).val (strOf y) (grid0.coords t 0).val D.p (place y) (lane y) : EReal) := by
  rw [carriedAt_succ]
  dsimp only [stepC]
  unfold endQ stQ
  rw [if_pos hn, if_pos ⟨mod_lt16 _, hy⟩, inStr_eq]
  exact ownQ_real hD t hn _ _ _

theorem new_k (hn : (grid0.coords t 1).val < 8) (hy : (y 0).val = slot (grid0.coords t)) :
    (carriedAt m c (t.val + 1)).k y =
      ((cellAt D (grid0.coords t 1).val (strOf y) (grid0.coords t 0).val).dk (D.lOf (grid0.coords t 1).val (strOf y) (grid0.coords t 0).val)
      (D.oOf (grid0.coords t 1).val (strOf y) (grid0.coords t 0).val) ⟨128 + (place y).val, by omega⟩ (lane y) : EReal) := by
  rw [carriedAt_succ]
  dsimp only [stepC]
  unfold endK stK
  rw [if_pos hn, if_pos (mod_lt16 _), if_pos hy, inStr_eq]
  exact ownK_real hD t hn _ _ _

theorem new_v (hn : (grid0.coords t 1).val < 8) (hy : (y 0).val = slot (grid0.coords t)) :
    (carriedAt m c (t.val + 1)).v y =
      ((cellAt D (grid0.coords t 1).val (strOf y) (grid0.coords t 0).val).dv (D.lOf (grid0.coords t 1).val (strOf y) (grid0.coords t 0).val)
      ⟨128 + (place y).val, by omega⟩ (lane y) : EReal) := by
  rw [carriedAt_succ]
  dsimp only [stepC]
  unfold endV stV
  rw [if_pos hn, if_pos (mod_lt16 _), if_pos hy, inStr_eq]
  exact ownV_real hD t hn _ _ _
end

section
variable (hD : Agrees m c D) (t t' : Fin cfg0.N) (ht : t.val = t'.val + 1)
  (h0 : (grid0.coords t 0).val = (grid0.coords t' 0).val) (h1 : (grid0.coords t 1).val = (grid0.coords t' 1).val + 1)
  (hn : (grid0.coords t' 1).val < 8) (y : S2x2048x128.Idx) (hy : (y 0).val = 1 - slot (grid0.coords t))
include hD ht h0 h1 hn hy

omit hD ht h0 hn in
theorem old_slot : (y 0).val = slot (grid0.coords t') := by
  rw [hy]; unfold slot; rw [h1]; omega

omit hD ht h0 h1 hn in
theorem old_ne : ¬ (y 0).val = slot (grid0.coords t) := by
  rw [hy]; have := slot_lt (grid0.coords t); omega

theorem old_q : (carriedAt m c (t.val + 1)).q y =
      (D.gq slopeAt scale (grid0.coords t' 1).val (strOf y) (grid0.coords t' 0).val D.p (place y) (lane y) : EReal) := by
  have hp := new_q hD t' y hn (old_slot t t' h1 y hy)
  rw [← ht] at hp
  rw [carriedAt_succ, ← hp]
  dsimp only [stepC]
  unfold endQ stQ
  have hz : ¬ (grid0.coords t 1).val = 0 := by rw [h1]; exact Nat.succ_ne_zero _
  by_cases h8 : (grid0.coords t 1).val < 8
  · rw [if_pos h8, if_neg (fun h : _ ∧ _ => old_ne t y hy h.2), if_neg hz]
  · rw [if_neg h8]

theorem old_k : (carriedAt m c (t.val + 1)).k y =
      (D.gk slopeAt scale (grid0.coords t' 1).val (strOf y) (grid0.coords t' 0).val D.p (place y) (lane y) : EReal) := by
  have hp := new_k hD t' y hn (old_slot t t' h1 y hy)
  rw [← ht] at hp
  rw [carriedAt_succ]
  dsimp only [stepC]
  unfold endK stK Data.gk
  have hz : ¬ (grid0.coords t 1).val = 0 := by rw [h1]; exact Nat.succ_ne_zero _
  by_cases h8 : (grid0.coords t 1).val < 8
  · rw [if_pos h8, if_pos (mod_lt16 _), if_neg (old_ne t y hy), if_neg hz, inStr_eq]
    refine (pay26_apply _ _ _ _).trans ?_
    rw [slotStripe_at _ _ _ _ hy, hp, prevK_real hD t h8, ← EReal.coe_add, if_pos (by rw [h1] at h8; omega), h0, h1]
  · rw [if_neg h8, hp, if_neg (by rw [h1] at h8; omega), add_zero]

theorem old_v : (carriedAt m c (t.val + 1)).v y =
      (D.gv slopeAt scale (grid0.coords t' 1).val (strOf y) (grid0.coords t' 0).val D.p (place y) (lane y) : EReal) := by
  have hp := new_v hD t' y hn (old_slot t t' h1 y hy)
  rw [← ht] at hp
  rw [carriedAt_succ]
  dsimp only [stepC]
  unfold endV stV Data.gv
  have hz : ¬ (grid0.coords t 1).val = 0 := by rw [h1]; exact Nat.succ_ne_zero _
  by_cases h8 : (grid0.coords t 1).val < 8
  · rw [if_pos h8, if_pos (mod_lt16 _), if_neg (old_ne t y hy), if_neg hz, inStr_eq]
    refine (pay27_apply _ _ _ _).trans ?_
    rw [slotStripe_at _ _ _ _ hy, hp, prevV_real hD t h8, ← EReal.coe_add, if_pos (by rw [h1] at h8; omega), h0, h1]
  · rw [if_neg h8, hp, if_neg (by rw [h1] at h8; omega), add_zero]

end

/-- The result's block at a point after the first of its row: the gradients of the tile before, side by side. -/
theorem outAt_real (hD : Agrees m c D) (t : Fin cfg0.N) (ht : 1 ≤ t.val % 9) (a : Fin 2048) (x : Fin 384) :
    outAt m c t (ValueIdx.ix2 a x) =
      (D.res slopeAt scale (t.val % 9 - 1) ⟨a.val % 16, mod_lt16 _⟩ (t.val / 9) D.p x ⟨a.val / 16, by omega⟩ : EReal) := by
  have hN : t.val < 36 := t.isLt
  obtain ⟨c0, c1⟩ := coords_val t
  obtain ⟨d0, d1⟩ := coords_val ⟨t.val - 1, lt_of_le_of_lt (Nat.sub_le _ _) t.isLt⟩
  have e0 : (grid0.coords ⟨t.val - 1, lt_of_le_of_lt (Nat.sub_le _ _) t.isLt⟩ 0).val = t.val / 9 := by rw [d0]; show (t.val - 1) / 9 = _; omega
  have e1 : (grid0.coords ⟨t.val - 1, lt_of_le_of_lt (Nat.sub_le _ _) t.isLt⟩ 1).val = t.val % 9 - 1 := by rw [d1]; show (t.val - 1) % 9 = _; omega
  have H : ∀ y : S2x2048x128.Idx, (y 0).val = 1 - slot (grid0.coords t) → _ ∧ _ ∧ _ := fun y hy =>
    ⟨old_q hD t ⟨t.val - 1, lt_of_le_of_lt (Nat.sub_le _ _) t.isLt⟩ (by show t.val = t.val - 1 + 1; omega) (by rw [c0, e0]) (by rw [c1, e1]; omega)
      (by rw [e1]; omega) y hy,
    old_k hD t ⟨t.val - 1, lt_of_le_of_lt (Nat.sub_le _ _) t.isLt⟩ (by show t.val = t.val - 1 + 1; omega) (by rw [c0, e0]) (by rw [c1, e1]; omega)
      (by rw [e1]; omega) y hy,
    old_v hD t ⟨t.val - 1, lt_of_le_of_lt (Nat.sub_le _ _) t.isLt⟩ (by show t.val = t.val - 1 + 1; omega) (by rw [c0, e0]) (by rw [c1, e1]; omega)
      (by rw [e1]; omega) y hy⟩
  simp only [e0, e1] at H
  unfold outAt outBlk Data.res
  by_cases hx : x.val < 128
  · rw [dif_pos (show ((ValueIdx.ix2 a x : S2048x384.Idx) 1).val < 128 from hx), dif_pos hx]
    exact (pay28_apply _ _ _).trans (H (ValueIdx.ix3 ⟨1 - slot (grid0.coords t), other_lt _⟩ a ⟨x.val, hx⟩) rfl).1
  · rw [dif_neg (show ¬ ((ValueIdx.ix2 a x : S2048x384.Idx) 1).val < 128 from hx), dif_neg hx]
    by_cases hx' : x.val < 256
    · rw [dif_pos (show ((ValueIdx.ix2 a x : S2048x384.Idx) 1).val < 256 from hx'), dif_pos hx']
      exact (pay29_apply _ _ _).trans (H (ValueIdx.ix3 ⟨1 - slot (grid0.coords t), other_lt _⟩ a ⟨x.val - 128, by omega⟩) rfl).2.1
    · rw [dif_neg (show ¬ ((ValueIdx.ix2 a x : S2048x384.Idx) 1).val < 256 from hx'), dif_neg hx']
      exact (pay1_apply _ _ _).trans (H (ValueIdx.ix3 ⟨1 - slot (grid0.coords t), other_lt _⟩ a ⟨x.val - 256, by omega⟩) rfl).2.2

end Cert.Proof.Run

end
-- ==== Proof.Run.KArray.lean ====
/-
  The result array after the call: the gradients in the last third of its columns, the rest as it was.
-/
module

public import proofs.«01_k».proof.Proof.Run.Carried
public import Idealize.ShloMosaic.Lib.StableHlo.RunRead

@[expose] public section

noncomputable section

namespace Cert.Proof.Run

open Cert.KernelIdeal Cert.KernelIdeal.Gen
open Idealize.ShloMosaic Idealize.ShloMosaic.TcCoe Idealize.ShloMosaic.StableHlo
open Idealize.ShloMosaic.Pipeline (Dat Cfg Window)
open Idealize.SL.Sem

variable {m : (ℓ : Loc nD τ sig) → Buf (Elt Ideal) ℓ} {c : Dev nD} {D : Data}

/-- What a column from 3072 on ends at. -/
def want (D : Data) : Vec Ideal S16384x4608 .bf16 := fun x => (D.resAt slopeAt scale D.p (x 0).val ((x 1).val - 3072) : EReal)

/-- Where a point's block of the result lies. -/
theorem emb9 (t : Fin cfg0.N) (a : Fin 2048) (x : Fin 384) (row : Fin 16384) (col : Fin 4608)
    (hr : row.val = (t.val % 9 - 1) * 2048 + a.val) (hc : col.val = 3072 + 384 * (t.val / 9) + x.val) :
    ((cfg0.win 9).rect t).emb (ValueIdx.ix2 a x) = (ValueIdx.ix2 row col : S16384x4608.Idx) := by
  obtain ⟨c0, c1⟩ := coords_val t
  funext y
  apply Fin.ext
  refine (Pipeline.Window.rect_emb_val (cfg0.win 9) t (ValueIdx.ix2 a x) y rfl).trans ?_
  match y with
  | ⟨0, _⟩ =>
    show cc0_transform_10 (grid0.coords t) 0 * 2048 + a.val = row.val
    rw [tr10_eq, hr]; show ((grid0.coords t 1).val - 1) * 2048 + a.val = _; rw [c1]
  | ⟨1, _⟩ =>
    show cc0_transform_10 (grid0.coords t) 1 * 384 + x.val = col.val
    rw [tr10_eq, hc]; show (8 + (grid0.coords t 0).val) * 384 + x.val = _; rw [c0]; omega

/-- Gradients at equal blocks, streams, heads, columns and places are equal. -/
theorem res_at (D : Data) {n n' r r' h h' x x' i i' : ℕ} (hr : r < 16) (hr' : r' < 16) (hx : x < 384) (hx' : x' < 384) (hi : i < 128) (hi' : i' < 128)
    (a : n = n') (b : r = r') (d : h = h') (e : x = x') (f : i = i') :
    D.res slopeAt scale n ⟨r, hr⟩ h D.p ⟨x, hx⟩ ⟨i, hi⟩ = D.res slopeAt scale n' ⟨r', hr'⟩ h' D.p ⟨x', hx'⟩ ⟨i', hi'⟩ := by
  subst a; subst b; subst d; subst e; subst f; rfl

/-- What a flushing point writes is its block of `want`. -/
theorem flushed_want (hD : Agrees m c D) (t : Fin cfg0.N) (ht : (cfg0.win 9).flush t = true) :
    (dats m 0 c).flushed 9 t = ((cfg0.win 9).blk t).view.read (Elt Ideal) (want D) := by
  have h1 := (flush_iff t).mp ht
  have hN : t.val < 36 := t.isLt
  funext y
  obtain ⟨a, x, rfl⟩ : ∃ (a : Fin 2048) (x : Fin 384), y = ValueIdx.ix2 a x := ⟨y 0, y 1, ValueIdx.eq_ix2 y⟩
  refine Eq.trans (b := outAt m c t (ValueIdx.ix2 a x)) ?_ ?_
  · exact congrFun (after9 m c t) _
  rw [outAt_real hD t h1 a x]
  have he := emb9 t a x ⟨(t.val % 9 - 1) * 2048 + a.val, by omega⟩ ⟨3072 + 384 * (t.val / 9) + x.val, by omega⟩ rfl rfl
  show _ = want D (((cfg0.win 9).rect t).emb (ValueIdx.ix2 a x))
  rw [he]
  show _ = ((D.resAt slopeAt scale D.p ((t.val % 9 - 1) * 2048 + a.val) (3072 + 384 * (t.val / 9) + x.val - 3072) : ℝ) : EReal)
  unfold Data.resAt
  have e1 : ((t.val % 9 - 1) * 2048 + a.val) / 2048 = t.val % 9 - 1 := by omega
  have e2 : ((t.val % 9 - 1) * 2048 + a.val) % 16 = a.val % 16 := by omega
  have e3 : ((t.val % 9 - 1) * 2048 + a.val) / 16 % 128 = a.val / 16 := by omega
  have e4 : (3072 + 384 * (t.val / 9) + x.val - 3072) / 384 = t.val / 9 := by omega
  have e5 : (3072 + 384 * (t.val / 9) + x.val - 3072) % 384 = x.val := by omega
  exact congrArg _ (res_at D _ _ _ _ _ _ e1.symm e2.symm e4.symm e5.symm e3.symm)

/-- A row and a column from 3072 on lie in some flushing point's block. -/
theorem covered (row : Fin 16384) (col : Fin 4608) (hc : 3072 ≤ col.val) :
    ∃ t : Fin cfg0.N, (cfg0.win 9).flush t = true ∧ (ValueIdx.ix2 row col : S16384x4608.Idx) ∈ ((cfg0.win 9).blk t).view.set := by
  refine ⟨⟨(col.val - 3072) / 384 * 9 + (row.val / 2048 + 1), ?_⟩, (flush_iff _).mpr ?_, ?_⟩
  · show _ < 36; omega
  · show 1 ≤ ((col.val - 3072) / 384 * 9 + (row.val / 2048 + 1)) % 9; omega
  · have he := emb9 ⟨(col.val - 3072) / 384 * 9 + (row.val / 2048 + 1), by show _ < 36; omega⟩ ⟨row.val % 2048, by omega⟩
      ⟨(col.val - 3072) % 384, by omega⟩ row col
      (by show _ = (((col.val - 3072) / 384 * 9 + (row.val / 2048 + 1)) % 9 - 1) * 2048 + row.val % 2048; omega)
      (by show _ = 3072 + 384 * (((col.val - 3072) / 384 * 9 + (row.val / 2048 + 1)) / 9) + (col.val - 3072) % 384; omega)
    rw [← he]
    exact ((cfg0.win 9).blk _).view.emb_mem_set _

/-- A column before 3072 lies in none. -/
theorem uncovered (row : Fin 16384) (col : Fin 4608) (hc : col.val < 3072) (t : Fin cfg0.N) :
    ¬ (ValueIdx.ix2 row col : S16384x4608.Idx) ∈ ((cfg0.win 9).blk t).view.set := by
  intro hm
  obtain ⟨y, -, hy⟩ := Finset.mem_map.mp hm
  have := congrArg (fun z : S16384x4608.Idx => (z 1).val) hy
  have h2 := Pipeline.Window.rect_emb_val (cfg0.win 9) t y 1 rfl
  have h3 : (((cfg0.win 9).rect t).emb y 1).val = col.val := this
  rw [h3] at h2
  have h4 : col.val = cc0_transform_10 (grid0.coords t) 1 * 384 + (y 1).val := h2
  rw [tr10_eq] at h4
  have h5 : col.val = (8 + (grid0.coords t 0).val) * 384 + (y 1).val := h4
  omega

/-- The result array after the call. -/
theorem array9 (hD : Agrees m c D) (row : Fin 16384) (col : Fin 4608) :
    ((dats m 0 c).arrAt 9 cfg0.N : Vec Ideal S16384x4608 .bf16) (ValueIdx.ix2 row col) =
      if col.val < 3072 then (V m c main_v98 : Vec Ideal S16384x4608 .bf16) (ValueIdx.ix2 row col)
      else (D.resAt slopeAt scale D.p row.val (col.val - 3072) : EReal) := by
  refine ((dats m 0 c).arrAt_eq_piecewise 9 (want D) (flushed_want hD) (ValueIdx.ix2 row col)).trans ?_
  by_cases hc : col.val < 3072
  · rw [if_neg (fun ⟨t, _, h⟩ => uncovered row col hc t h), if_pos hc]
    exact congrFun (A_eq m c 9) _
  · rw [if_pos (covered row col (by omega)), if_neg hc]
    rfl

/-- The result begins as a copy of the array it is written over. -/
theorem entry9 : (V m c main_v98 : Vec Ideal S16384x4608 .bf16) = m ((c : Thread nD τ).loc main_arg3) := by
  unfold V
  after_reads_simp
  rfl

end Cert.Proof.Run

end
-- ==== Proof.Run.Rows.lean ====
/-
  The sums and the largest element that the reference takes along an axis: the entries that fall on one place of the result.
-/
module

public import proofs.«01_k».proof.Proof.Gen.ReferenceIdeal.Run
public import Idealize.ShloMosaic.Lib.Pointwise

@[expose] public section

noncomputable section

namespace Cert.Proof.Run.Ref

open Idealize.ShloMosaic Idealize.ShloMosaic.Pointwise

variable {a b c d e f : ℕ}

/-- The entries that fall on a place when the last of six axes is dropped. -/
theorem drop_last (hr : (⟨6, ![a, b, c, d, e, f]⟩ : Shape).ReducesTo [5] ⟨5, ![a, b, c, d, e]⟩)
    (x : Fin a) (n : Fin b) (r : Fin c) (h : Fin d) (i : Fin e) (y : (⟨6, ![a, b, c, d, e, f]⟩ : Shape).Idx) :
    hr.drop y = ix5 x n r h i ↔ ∃ k : Fin f, ix6 x n r h i k = y := by
  constructor
  · intro q
    refine ⟨y 5, ?_⟩
    funext s; apply Fin.ext
    match s with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext s; apply Fin.ext
    match s with
    | ⟨0, _⟩ => rfl
    | ⟨1, _⟩ => rfl
    | ⟨2, _⟩ => rfl
    | ⟨3, _⟩ => rfl
    | ⟨4, _⟩ => rfl

/-- A sum along the last of six axes. -/
theorem sum_last (hr : (⟨6, ![a, b, c, d, e, f]⟩ : Shape).ReducesTo [5] ⟨5, ![a, b, c, d, e]⟩)
    (v : (⟨6, ![a, b, c, d, e, f]⟩ : Shape).Idx → EReal) (z : EReal)
    (x : Fin a) (n : Fin b) (r : Fin c) (h : Fin d) (i : Fin e) :
    Ideal.hostReduceAdd hr v z (ix5 x n r h i) = z + ∑ k : Fin f, v (ix6 x n r h i k) :=
  congrArg (z + ·) (Finset.sum_filter_eq_sum_of_fiber _ (fun k : Fin f => ix6 x n r h i k) (fun _ _ q => congrFun q 5)
    (drop_last hr x n r h i) v)

/-- The largest element along the last of six axes. -/
theorem max_last (hr : (⟨6, ![a, b, c, d, e, f]⟩ : Shape).ReducesTo [5] ⟨5, ![a, b, c, d, e]⟩)
    (v : (⟨6, ![a, b, c, d, e, f]⟩ : Shape).Idx → EReal) (z : EReal)
    (x : Fin a) (n : Fin b) (r : Fin c) (h : Fin d) (i : Fin e) :
    Finset.fold max z v (Finset.univ.filter fun y => hr.drop y = ix5 x n r h i)
      = Finset.fold max z (fun k : Fin f => v (ix6 x n r h i k)) Finset.univ :=
  Finset.fold_filter_eq_fold_of_fiber max _ (fun k : Fin f => ix6 x n r h i k) (fun _ _ q => congrFun q 5)
    (drop_last hr x n r h i) z v

/-- A sum along the first and the last of six axes of extent 1: the one entry. -/
theorem sum_ends (hr : (⟨6, ![1, b, c, d, e, 1]⟩ : Shape).ReducesTo [0, 5] ⟨4, ![b, c, d, e]⟩)
    (v : (⟨6, ![1, b, c, d, e, 1]⟩ : Shape).Idx → EReal) (z : EReal) (n : Fin b) (r : Fin c) (h : Fin d) (i : Fin e) :
    Ideal.hostReduceAdd hr v z (ix4 n r h i) = z + ∑ k : Fin 1, v (ix6 0 n r h i k) := by
  refine congrArg (z + ·) (Finset.sum_filter_eq_sum_of_fiber _ (fun k : Fin 1 => ix6 (0 : Fin 1) n r h i k) (fun _ _ q => congrFun q 5)
    (fun y => ?_) v)
  constructor
  · intro q
    refine ⟨y 5, ?_⟩
    funext s; apply Fin.ext
    match s with
    | ⟨0, _⟩ =>
      have := (y 0).isLt
      change (y 0).val < 1 at this
      show 0 = (y 0).val
      omega
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => rfl
  · rintro ⟨k, rfl⟩
    funext s; apply Fin.ext
    match s with
    | ⟨0, _⟩ => rfl
    | ⟨1, _⟩ => rfl
    | ⟨2, _⟩ => rfl
    | ⟨3, _⟩ => rfl

/-- A sum along the first of four axes, of extent 1, and the last. -/
theorem sum_lanes (hr : (⟨4, ![1, b, c, d]⟩ : Shape).ReducesTo [0, 3] ⟨2, ![b, c]⟩)
    (v : (⟨4, ![1, b, c, d]⟩ : Shape).Idx → EReal) (z : EReal) (n : Fin b) (r : Fin c) :
    Ideal.hostReduceAdd hr v z (ix2 n r) = z + ∑ k : Fin d, v (ix4 0 n r k) := by
  refine congrArg (z + ·) (Finset.sum_filter_eq_sum_of_fiber _ (fun k : Fin d => ix4 (0 : Fin 1) n r k) (fun _ _ q => congrFun q 3)
    (fun y => ?_) v)
  constructor
  · intro q
    refine ⟨y 3, ?_⟩
    funext s; apply Fin.ext
    match s with
    | ⟨0, _⟩ =>
      have := (y 0).isLt
      change (y 0).val < 1 at this
      show 0 = (y 0).val
      omega
    | ⟨1, _⟩ => exact (congrArg Fin.val (congrFun q 0)).symm
    | ⟨2, _⟩ => exact (congrArg Fin.val (congrFun q 1)).symm
    | ⟨3, _⟩ => rfl
  · rintro ⟨k, rfl⟩
    funext s; apply Fin.ext
    match s with
    | ⟨0, _⟩ => rfl
    | ⟨1, _⟩ => rfl

end Cert.Proof.Run.Ref
end
end
-- ==== Proof.Run.RefB.lean ====
/-
  The reference's masked scores, their row's largest, the exponentials, and the sums over a row, on real numbers.
-/
module

public import proofs.«01_k».proof.Proof.Run.RefA
public import proofs.«01_k».proof.Proof.Run.Pay
public import proofs.«01_k».proof.Proof.Run.Rows

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- The distances of query and key. -/
theorem v46_toInt (i : Fin 128) (j : Fin 256) :
    ((res_main_v46 (F := Ideal) W : IVec S128x256 32) (ix2 i j)).toInt = 128 + (i.val : ℤ) - j.val := by
  have : (res_main_v46 (F := Ideal) W : IVec S128x256 32) (ix2 i j) = 128#32 + BitVec.ofNat 32 i.val - BitVec.ofNat 32 j.val := by
    unfold res_main_v46 res_main_v41
    pointwise []
    rfl
  rw [this]
  have h : 128#32 + BitVec.ofNat 32 i.val - BitVec.ofNat 32 j.val = BitVec.ofInt 32 (128 + (i.val : ℤ) - j.val) := by
    apply BitVec.eq_of_toInt_eq
    have hi : (BitVec.ofNat 32 i.val).toInt = i.val := by
      rw [BitVec.toInt_ofNat']; apply Int.bmod_eq_of_le <;> omega
    have hj : (BitVec.ofNat 32 j.val).toInt = j.val := by
      rw [BitVec.toInt_ofNat']; apply Int.bmod_eq_of_le <;> omega
    simp [BitVec.toInt_sub, BitVec.toInt_add, hi, hj]
  rw [h, BitVec.toInt_ofInt]
  apply Int.bmod_eq_of_le <;> omega

/-- The reference's mask is the relation `Sees`. -/
theorem v79_1_apply (n : Fin 8) (r : Fin 16) (h : Fin 4) (i : Fin 128) (j : Fin 256) :
    (res_main_v79_1 (F := Ideal) W : IVec S1x8x16x4x128x256 1) (ix6 0 n r h i j)
      = if Sees (rcell D n.val r h.val).first i j then 1#1 else 0#1 := by
  have : ∀ Z : IVec S128x256 32, (res_main_v46 (F := Ideal) W : IVec S128x256 32) = Z →
      (res_main_v79_1 (F := Ideal) W : IVec S1x8x16x4x128x256 1) (ix6 0 n r h i j)
      = IntOp.andi (IntOp.andi (IntOp.cmpi .sge (Z (ix2 i j)) 0#32) (IntOp.cmpi .sle (Z (ix2 i j)) 128#32))
          (IntOp.ori (IntOp.cmpi .sgt (BitVec.ofNat 32 n.val) 0#32) (IntOp.cmpi .sge (BitVec.ofNat 32 j.val) 128#32)) := by
    intro Z hZ
    unfold res_main_v79_1 res_main_v41
    rw [hZ]
    pointwise []
  rw [this _ rfl]
  have h9 := v46_toInt (W := W) i j
  have hj : (BitVec.ofNat 32 j.val).toInt = j.val := by
    rw [BitVec.toInt_ofNat']; apply Int.bmod_eq_of_le <;> omega
  have hn : (BitVec.ofNat 32 n.val).toInt = n.val := by
    rw [BitVec.toInt_ofNat']; apply Int.bmod_eq_of_le <;> omega
  have e0 : (0#32).toInt = 0 := rfl
  have e1 : (128#32).toInt = 128 := rfl
  have hf : (rcell D n.val r h.val).first = if n.val = 0 then 128 else 0 := rfl
  rw [hf]
  simp only [IntOp.cmpi, BitVec.sle_eq_decide, BitVec.slt_eq_decide, h9, hj, hn, e0, e1]
  by_cases a : (0 : ℤ) ≤ 128 + i.val - j.val <;> by_cases b : 128 + (i.val : ℤ) - j.val ≤ 128 <;>
    by_cases d : (0 : ℤ) < n.val <;> by_cases e : (128 : ℤ) ≤ j.val <;> simp only [a, b, d, e, decide_true, decide_false]
  all_goals (by_cases s : Sees (if n.val = 0 then 128 else 0) i j)
  all_goals (first | (rw [if_pos s]; rfl) | (rw [if_neg s]; rfl) | (exfalso; simp only [Sees] at s; split at s <;> omega))

/-- The slope's constants. -/
theorem slope_real (h : Fin 4) :
    Ideal.pow (Ideal.ofBits .f32 0x40000000#32) (Ideal.div (Ideal.ofBits .f32 0xC1000000#32 * (1 + (((BitVec.ofNat 32 (8 + h.val)).toInt : ℝ) : EReal))) (Ideal.ofBits .f32 0x41400000#32)) * Ideal.ofBits .f32 0x41800000#32
      = (slopeOf h.val : EReal) := by
  have e2 : Ideal.ofBits .f32 0x40000000#32 = ((2 : ℝ) : EReal) := by
    simp [Ideal.ofBits, Ideal.ieee]; norm_num [zpow_neg, ← EReal.coe_mul]
  have e8 : Ideal.ofBits .f32 0xC1000000#32 = ((-8 : ℝ) : EReal) := by
    simp [Ideal.ofBits, Ideal.ieee]; norm_num [zpow_neg, ← EReal.coe_mul]
  have e12 : Ideal.ofBits .f32 0x41400000#32 = ((12 : ℝ) : EReal) := by
    simp [Ideal.ofBits, Ideal.ieee]; norm_num [zpow_neg, ← EReal.coe_mul]
  have hh : (((BitVec.ofNat 32 (8 + h.val)).toInt : ℤ) : ℝ) = 8 + (h.val : ℝ) := by
    have : (BitVec.ofNat 32 (8 + h.val)).toInt = 8 + h.val := by
      rw [BitVec.toInt_ofNat']; apply Int.bmod_eq_of_le <;> omega
    rw [this]; push_cast; rfl
  rw [e2, e8, e12, ofBits_sixteen, hh, show (1 : EReal) = ((1 : ℝ) : EReal) from rfl, ← EReal.coe_add, ← EReal.coe_mul,
    div_real _ _ (by norm_num), Ideal.pow_coe_coe, ← EReal.coe_mul]
  rfl

/-- The masked scores. -/
theorem v79_0_real (hW : Args W D) (n : Fin 8) (r : Fin 16) (h : Fin 4) (i : Fin 128) (j : Fin 256) :
    (res_main_v79_0 (F := Ideal) W : Vec Ideal S1x8x16x4x128x256 .f32) (ix6 0 n r h i j)
      = if Sees (rcell D n.val r h.val).first i j then ((rcell D n.val r h.val).score i j : EReal) else ⊥ := by
  have : ∀ (M : IVec S1x8x16x4x128x256 1) (X : Vec Ideal S1x8x128x16x4x128 .f32) (Y : Vec Ideal S1x8x256x16x4x128 .f32) (Z : IVec S128x256 32),
      (res_main_v79_1 (F := Ideal) W) = M → (res_main_v20 (F := Ideal) W) = X → (res_main_v28 (F := Ideal) W) = Y → (res_main_v46 (F := Ideal) W) = Z →
      (res_main_v79_0 (F := Ideal) W : Vec Ideal S1x8x16x4x128x256 .f32) (ix6 0 n r h i j)
      = Scalar.select (M (ix6 0 n r h i j))
        ((∑ x, X (ix6 0 n i r h x) * Y (ix6 0 n j r h x)) * Ideal.ofBits .f32 0x3DB504F3#32
          + -(Ideal.pow (Ideal.ofBits .f32 0x40000000#32) (Ideal.div (Ideal.ofBits .f32 0xC1000000#32 * (1 + (((BitVec.ofNat 32 (8 + h.val)).toInt : ℝ) : EReal))) (Ideal.ofBits .f32 0x41400000#32)) * Ideal.ofBits .f32 0x41800000#32)
            * (((Z (ix2 i j)).toInt : ℝ) : EReal)) (Ideal.ofBits .f32 0xFF800000#32) := by
    intro M X Y Z hM hX hY hZ
    unfold res_main_v79_0
    rw [hM, hX, hY, hZ]
    pointwise []
    rfl
  rw [this _ _ _ _ rfl rfl rfl rfl, v79_1_apply (D := D), sum_mul_real (v20_real hW n i r h) (v28_real hW n j r h), slope_real, v46_toInt, ofBits_bot, ofBits_scale]
  by_cases s : Sees (rcell D n.val r h.val).first i j
  · rw [if_pos s, if_pos s]
    show ((_ : ℝ) : EReal) * _ + _ = _
    rw [← EReal.coe_neg, ← EReal.coe_mul, ← EReal.coe_mul, ← EReal.coe_add]
    congr 1
    unfold Cell.score
    push_cast
    rfl
  · rw [if_neg s, if_neg s]; rfl

/-- The largest score of a row. -/
def rmax (W : Valuation Cert.ReferenceIdeal.τ Cert.ReferenceIdeal.sig (Elt Ideal)) (n : Fin 8) (r : Fin 16) (h : Fin 4) (i : Fin 128) : ℝ :=
  ((res_main_v80 (F := Ideal) W : Vec Ideal S1x8x16x4x128 .f32) (ix5 0 n r h i)).toReal

/-- A row's largest score is a number, and one of the row's scores. -/
theorem v80_real (hW : Args W D) (n : Fin 8) (r : Fin 16) (h : Fin 4) (i : Fin 128) :
    (res_main_v80 (F := Ideal) W : Vec Ideal S1x8x16x4x128 .f32) (ix5 0 n r h i) = (rmax W n r h i : EReal) ∧
      ∃ j : Fin 256, (res_main_v79_0 (F := Ideal) W : Vec Ideal S1x8x16x4x128x256 .f32) (ix6 0 n r h i j) = (rmax W n r h i : EReal) := by
  have : ∀ (X : Vec Ideal S1x8x16x4x128x256 .f32), (res_main_v79_0 (F := Ideal) W) = X →
      (res_main_v80 (F := Ideal) W : Vec Ideal S1x8x16x4x128 .f32) (ix5 0 n r h i)
      = Finset.fold max (Ideal.ofBits .f32 0xFF800000#32) (fun x => X (ix6 0 n r h i x)) Finset.univ := by
    intro X hX
    unfold res_main_v80
    rw [hX]
    pointwise []
    exact max_last _ X _ 0 n r h i
  have e := this _ rfl
  rw [ofBits_bot] at e
  have own : Sees (rcell D n.val r h.val).first i ⟨128 + i.val, by omega⟩ := by
    refine ⟨by simp, by simp, ?_⟩
    exact (D.cell_first slopeOf scale n.val r h.val (fun _ _ => 0)).trans (Nat.le_add_right _ _)
  obtain ⟨x, hx, j, hj⟩ := fold_max_real (fun x => (res_main_v79_0 (F := Ideal) W : Vec Ideal S1x8x16x4x128x256 .f32) (ix6 0 n r h i x))
    (fun x => by rw [v79_0_real hW]; split <;> simp) ⟨128 + i.val, by omega⟩
    (by rw [v79_0_real hW, if_pos own]; simp)
  have ex : rmax W n r h i = x := by unfold rmax; rw [e, hx]; rfl
  rw [ex]
  exact ⟨e.trans hx, j, hj⟩

end Cert.Proof.Run.Ref
end
end
-- ==== Proof.Run.RefC.lean ====
/-
  The reference's exponentials, denominators and numerators, and the cotangents, on real numbers.
-/
module

public import proofs.«01_k».proof.Proof.Run.RefB

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- Whether a score is its row's largest, as a number. -/
theorem v84_apply (n : Fin 8) (r : Fin 16) (h : Fin 4) (i : Fin 128) (j : Fin 256) :
    (res_main_v84 (F := Ideal) W : Vec Ideal S1x8x16x4x128x256 .f32) (ix6 0 n r h i j)
      = (((if (res_main_v79_0 (F := Ideal) W : Vec Ideal S1x8x16x4x128x256 .f32) (ix6 0 n r h i j)
          = (res_main_v80 (F := Ideal) W : Vec Ideal S1x8x16x4x128 .f32) (ix5 0 n r h i) then 1 else 0 : ℝ)) : EReal) := by
  have : ∀ (X : Vec Ideal S1x8x16x4x128x256 .f32) (Y : Vec Ideal S1x8x16x4x128 .f32), (res_main_v79_0 (F := Ideal) W) = X → (res_main_v80 (F := Ideal) W) = Y →
      (res_main_v84 (F := Ideal) W : Vec Ideal S1x8x16x4x128x256 .f32) (ix6 0 n r h i j)
        = (((Ideal.cmp .oeq (X (ix6 0 n r h i j)) (Y (ix5 0 n r h i))).toNat : ℝ) : EReal) := by
    intro X Y hX hY
    unfold res_main_v84
    rw [hX, hY]
    pointwise []
    rfl
  rw [this _ _ rfl rfl]
  congr 1
  by_cases e : (res_main_v79_0 (F := Ideal) W : Vec Ideal S1x8x16x4x128x256 .f32) (ix6 0 n r h i j)
      = (res_main_v80 (F := Ideal) W : Vec Ideal S1x8x16x4x128 .f32) (ix5 0 n r h i)
  · rw [if_pos e]; simp [Ideal.cmp, e]
  · rw [if_neg e]; simp [Ideal.cmp, e]

/-- The row's largest score, alone in its lane. -/
theorem v86_apply (n : Fin 8) (r : Fin 16) (h : Fin 4) (i : Fin 128) :
    (res_main_v86 (F := Ideal) W : Vec Ideal S1x8x16x4x128x1 .f32) (ix6 0 n r h i 0) = (res_main_v80 (F := Ideal) W : Vec Ideal S1x8x16x4x128 .f32) (ix5 0 n r h i) := by
  have : ∀ (X : Vec Ideal S1x8x16x4x128 .f32), (res_main_v80 (F := Ideal) W) = X →
      (res_main_v86 (F := Ideal) W : Vec Ideal S1x8x16x4x128x1 .f32) (ix6 0 n r h i 0) = X (ix5 0 n r h i) := by
    intro X hX
    unfold res_main_v86
    rw [hX]
    pointwise []
  exact this _ rfl

/-- The exponentials. -/
theorem v89_real (hW : Args W D) (n : Fin 8) (r : Fin 16) (h : Fin 4) (i : Fin 128) (j : Fin 256) :
    (res_main_v89 (F := Ideal) W : Vec Ideal S1x8x16x4x128x256 .f32) (ix6 0 n r h i j)
      = ((rcell D n.val r h.val).expo (rmax W n r h) i j : EReal) := by
  have : ∀ (X : Vec Ideal S1x8x16x4x128x256 .f32) (Y : Vec Ideal S1x8x16x4x128x1 .f32), (res_main_v79_0 (F := Ideal) W) = X → (res_main_v86 (F := Ideal) W) = Y →
      (res_main_v89 (F := Ideal) W : Vec Ideal S1x8x16x4x128x256 .f32) (ix6 0 n r h i j) = Ideal.exp (X (ix6 0 n r h i j) - Y (ix6 0 n r h i 0)) := by
    intro X Y hX hY
    unfold res_main_v89
    rw [hX, hY]
    pointwise []
  rw [this _ _ rfl rfl, v79_0_real hW, v86_apply, (v80_real hW n r h i).1]
  unfold Cell.expo
  split
  · rw [← EReal.coe_sub, Ideal.exp_coe]
  · rw [EReal.bot_sub, Ideal.exp_bot]; rfl

/-- The denominators. -/
theorem v90_real (hW : Args W D) (n : Fin 8) (r : Fin 16) (h : Fin 4) (i : Fin 128) :
    (res_main_v90 (F := Ideal) W : Vec Ideal S1x8x16x4x128 .f32) (ix5 0 n r h i)
      = ((rcell D n.val r h.val).den (rmax W n r h) i : EReal) := by
  have : ∀ (X : Vec Ideal S1x8x16x4x128x256 .f32), (res_main_v89 (F := Ideal) W) = X →
      (res_main_v90 (F := Ideal) W : Vec Ideal S1x8x16x4x128 .f32) (ix5 0 n r h i) = ∑ j, X (ix6 0 n r h i j) := by
    intro X hX
    unfold res_main_v90
    rw [hX]
    pointwise [sum_last]
  rw [this _ rfl, sum_real (v89_real hW n r h i)]
  rfl

/-- The numerators. -/
theorem v92_real (hW : Args W D) (n : Fin 8) (r : Fin 16) (h : Fin 4) (i d : Fin 128) :
    (res_main_v92 (F := Ideal) W : Vec Ideal S1x8x128x16x4x128 .f32) (ix6 0 n i r h d)
      = ((rcell D n.val r h.val).num (rmax W n r h) i d : EReal) := by
  have : ∀ (X : Vec Ideal S1x8x256x16x4x128 .f32) (Y : Vec Ideal S1x8x16x4x128x256 .f32), (res_main_v34 (F := Ideal) W) = X → (res_main_v89 (F := Ideal) W) = Y →
      (res_main_v92 (F := Ideal) W : Vec Ideal S1x8x128x16x4x128 .f32) (ix6 0 n i r h d) = ∑ j, X (ix6 0 n j r h d) * Y (ix6 0 n r h i j) := by
    intro X Y hX hY
    unfold res_main_v92
    rw [hX, hY]
    pointwise []
  rw [this _ _ rfl rfl, sum_mul_real (fun j => v34_real hW n j r h d) (v89_real hW n r h i)]
  unfold Cell.num
  simp only [mul_comm]

/-- The denominators again, by block and place. -/
theorem v94_real (hW : Args W D) (n : Fin 8) (r : Fin 16) (h : Fin 4) (i : Fin 128) :
    (res_main_v94 (F := Ideal) W : Vec Ideal S1x8x128x16x4x1 .f32) (ix6 0 n i r h 0)
      = ((rcell D n.val r h.val).den (rmax W n r h) i : EReal) := by
  have : ∀ (X : Vec Ideal S1x8x16x4x128 .f32), (res_main_v90 (F := Ideal) W) = X →
      (res_main_v94 (F := Ideal) W : Vec Ideal S1x8x128x16x4x1 .f32) (ix6 0 n i r h 0) = X (ix5 0 n r h i) := by
    intro X hX
    unfold res_main_v94
    rw [hX]
    pointwise []
  rw [this _ rfl, v90_real hW]

/-- The result's cotangent. -/
theorem v113_real (hW : Args W D) (n : Fin 8) (r : Fin 16) (h : Fin 4) (i d : Fin 128) :
    (res_main_v113 (F := Ideal) W : Vec Ideal S1x8x128x16x4x128 .f32) (ix6 0 n i r h d) = ((rcell D n.val r h.val).g i d : EReal) := by
  obtain ⟨X, hX, hX'⟩ := hW.g
  have : (res_main_v113 (F := Ideal) W : Vec Ideal S1x8x128x16x4x128 .f32) (ix6 0 n i r h d)
      = X (ix2 ⟨n.val * 2048 + i.val * 16 + r.val, by omega⟩ ⟨h.val * 128 + d.val, by omega⟩) := by
    unfold res_main_v113
    rw [hX]
    pointwise []
  rw [this, hX']
  show ((D.g (n.val * 2048 + i.val * 16 + r.val) (h.val * 128 + d.val) : ℝ) : EReal)
    = (D.g (token n.val r i.val) (128 * h.val + d.val) : ℝ)
  rw [token_eq, mul_comm h.val 128]

/-- The log-sum's cotangent, its lanes added. -/
theorem v114_real (hW : Args W D) (n : Fin 8) (r : Fin 16) (h : Fin 4) (i : Fin 128) :
    (res_main_v114 (F := Ideal) W : Vec Ideal S1x8x16x4x128 .f32) (ix5 0 n r h i) = ((∑ d, (rcell D n.val r h.val).e i d : ℝ) : EReal) := by
  obtain ⟨X, hX, hX'⟩ := hW.e
  have : (res_main_v114 (F := Ideal) W : Vec Ideal S1x8x16x4x128 .f32) (ix5 0 n r h i)
      = ∑ d : Fin 128, X (ix2 ⟨n.val * 2048 + i.val * 16 + r.val, by omega⟩ ⟨h.val * 128 + d.val, by omega⟩) := by
    unfold res_main_v114
    rw [hX]
    pointwise [sum_lanes]
    exact Fin.sum_univ_one (M := EReal) _
  rw [this]
  refine sum_real fun d => ?_
  rw [hX']
  show ((D.e (n.val * 2048 + i.val * 16 + r.val) (h.val * 128 + d.val) : ℝ) : EReal)
    = (D.e (token n.val r i.val) (128 * h.val + d.val) : ℝ)
  rw [token_eq, mul_comm h.val 128]

/-- The result's cotangent over the denominator. -/
theorem v129_real (hW : Args W D) (n : Fin 8) (r : Fin 16) (h : Fin 4) (i d : Fin 128) :
    (res_main_v129 (F := Ideal) W : Vec Ideal S1x8x16x4x128x128 .f32) (ix6 0 n r h d i)
      = (((rcell D n.val r h.val).g i d / (rcell D n.val r h.val).den (rmax W n r h) i : ℝ) : EReal) := by
  have : ∀ (X : Vec Ideal S1x8x128x16x4x128 .f32) (Y : Vec Ideal S1x8x128x16x4x1 .f32), (res_main_v113 (F := Ideal) W) = X → (res_main_v94 (F := Ideal) W) = Y →
      (res_main_v129 (F := Ideal) W : Vec Ideal S1x8x16x4x128x128 .f32) (ix6 0 n r h d i) = Ideal.div (X (ix6 0 n i r h d)) (Y (ix6 0 n i r h 0)) := by
    intro X Y hX hY
    unfold res_main_v129
    rw [hX, hY]
    pointwise []
  rw [this _ _ rfl rfl, v113_real hW, v94_real hW, div_real _ _ ((rcell D n.val r h.val).den_pos _ (D.cell_first _ _ _ _ _ _) i).ne']

/-- The gradient at the values. -/
theorem v132_real (hW : Args W D) (n : Fin 8) (r : Fin 16) (h : Fin 4) (j : Fin 256) (d : Fin 128) :
    (res_main_v132 (F := Ideal) W : Vec Ideal S1x8x256x16x4x128 .f32) (ix6 0 n j r h d)
      = ((∑ i, (rcell D n.val r h.val).g i d / (rcell D n.val r h.val).den (rmax W n r h) i * (rcell D n.val r h.val).expo (rmax W n r h) i j : ℝ) : EReal) := by
  have : ∀ (X : Vec Ideal S1x8x16x4x128x128 .f32) (Y : Vec Ideal S1x8x16x4x128x256 .f32), (res_main_v129 (F := Ideal) W) = X → (res_main_v89 (F := Ideal) W) = Y →
      (res_main_v132 (F := Ideal) W : Vec Ideal S1x8x256x16x4x128 .f32) (ix6 0 n j r h d) = ∑ i, X (ix6 0 n r h d i) * Y (ix6 0 n r h i j) := by
    intro X Y hX hY
    unfold res_main_v132
    rw [hX, hY]
    pointwise []
  rw [this _ _ rfl rfl]
  exact sum_mul_real (fun i => v129_real hW n r h i d) (fun i => v89_real hW n r h i j)

end Cert.Proof.Run.Ref
end
end
-- ==== Proof.Run.RefD.lean ====
/-
  The reference's gradient at the scores, and at the keys, on real numbers: nothing of it goes to the row's largest score.
-/
module

public import proofs.«01_k».proof.Proof.Run.RefC

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

theorem rden_pos (D : Data) (m : Fin 128 → ℝ) (n : ℕ) (r : Fin 16) (h : ℕ) (i : Fin 128) : 0 < (rcell D n r h).den m i :=
  (rcell D n r h).den_pos _ (D.cell_first _ _ _ _ _ _) i

/-- The gradient at the exponents. -/
theorem v135_real (hW : Args W D) (n : Fin 8) (r : Fin 16) (h : Fin 4) (i : Fin 128) (j : Fin 256) :
    (res_main_v135 (F := Ideal) W : Vec Ideal S1x8x16x4x128x256 .f32) (ix6 0 n r h i j)
      = ((rcell D n.val r h.val).gradBy (rmax W n r h) i j : EReal) := by
  have : ∀ (A : Vec Ideal S1x8x16x4x128x128 .f32) (B : Vec Ideal S1x8x256x16x4x128 .f32) (C E : Vec Ideal S1x8x16x4x128 .f32)
      (G : Vec Ideal S1x8x128x16x4x128 .f32) (Y : Vec Ideal S1x8x128x16x4x1 .f32) (N : Vec Ideal S1x8x128x16x4x128 .f32) (X : Vec Ideal S1x8x16x4x128x256 .f32),
      (res_main_v129 (F := Ideal) W) = A → (res_main_v34 (F := Ideal) W) = B → (res_main_v114 (F := Ideal) W) = C → (res_main_v90 (F := Ideal) W) = E →
      (res_main_v113 (F := Ideal) W) = G → (res_main_v94 (F := Ideal) W) = Y → (res_main_v92 (F := Ideal) W) = N → (res_main_v89 (F := Ideal) W) = X →
      (res_main_v135 (F := Ideal) W : Vec Ideal S1x8x16x4x128x256 .f32) (ix6 0 n r h i j)
        = ((∑ d : Fin 128, A (ix6 0 n r h d i) * B (ix6 0 n j r h d)) + (Ideal.div (C (ix5 0 n r h i)) (E (ix5 0 n r h i))
            + ∑ k : Fin 1, -(∑ d : Fin 128, G (ix6 0 n i r h d) * Ideal.div 1 (Y (ix6 0 n i r h 0) * Y (ix6 0 n i r h 0)) * N (ix6 0 n i r h d))))
          * X (ix6 0 n r h i j) := by
    intro A B C E G Y N X h1 h2 h3 h4 h5 h6 h7 h8
    unfold res_main_v135
    rw [h1, h2, h3, h4, h5, h6, h7, h8]
    pointwise [sum_last, sum_ends]
  have hd := (rden_pos D (rmax W n r h) n.val r h.val i).ne'
  obtain ⟨G, hG⟩ : ∃ G : Vec Ideal S1x8x128x16x4x128 .f32, res_main_v113 (F := Ideal) W = G := ⟨_, rfl⟩
  obtain ⟨Y, hY⟩ : ∃ Y : Vec Ideal S1x8x128x16x4x1 .f32, res_main_v94 (F := Ideal) W = Y := ⟨_, rfl⟩
  obtain ⟨N, hN⟩ : ∃ N : Vec Ideal S1x8x128x16x4x128 .f32, res_main_v92 (F := Ideal) W = N := ⟨_, rfl⟩
  have g := fun d => v113_real hW n r h i d
  have y := v94_real hW n r h i
  have v := fun d => v92_real hW n r h i d
  rw [hG] at g
  rw [hY] at y
  rw [hN] at v
  have hs : ∀ d : Fin 128, G (ix6 0 n i r h d) * Ideal.div 1 (Y (ix6 0 n i r h 0) * Y (ix6 0 n i r h 0)) * N (ix6 0 n i r h d)
      = (((rcell D n.val r h.val).g i d * (1 / ((rcell D n.val r h.val).den (rmax W n r h) i * (rcell D n.val r h.val).den (rmax W n r h) i))
          * (rcell D n.val r h.val).num (rmax W n r h) i d : ℝ) : EReal) := by
    intro d
    rw [g, y, v, ← EReal.coe_mul, show (1 : EReal) = ((1 : ℝ) : EReal) from rfl,
      div_real _ _ (mul_ne_zero hd hd), ← EReal.coe_mul, ← EReal.coe_mul]
  rw [this _ _ _ _ _ _ _ _ rfl rfl rfl rfl hG hY hN rfl, sum_mul_real (v129_real hW n r h i) (v34_real hW n j r h), v114_real hW,
    v90_real hW, div_real _ _ hd, v89_real hW, sum_real hs]
  rw [Fin.sum_univ_one, ← EReal.coe_neg, ← EReal.coe_add, ← EReal.coe_add, ← EReal.coe_mul]
  rfl

/-- The gradient at the products of queries and keys. -/
theorem v148_real (hW : Args W D) (n : Fin 8) (r : Fin 16) (h : Fin 4) (i : Fin 128) (j : Fin 256) :
    (res_main_v148 (F := Ideal) W : Vec Ideal S1x8x16x4x128x256 .f32) (ix6 0 n r h i j)
      = (((rcell D n.val r h.val).gradBy (rmax W n r h) i j * scale : ℝ) : EReal) := by
  have : ∀ (M : IVec S1x8x16x4x128x256 1) (A : Vec Ideal S1x8x16x4x128x256 .f32) (C : Vec Ideal S1x8x16x4x128 .f32) (U : Vec Ideal S1x8x16x4x128x256 .f32),
      (res_main_v79_1 (F := Ideal) W) = M → (res_main_v135 (F := Ideal) W) = A → (res_main_v114 (F := Ideal) W) = C → (res_main_v84 (F := Ideal) W) = U →
      (res_main_v148 (F := Ideal) W : Vec Ideal S1x8x16x4x128x256 .f32) (ix6 0 n r h i j)
        = Scalar.select (M (ix6 0 n r h i j)) (A (ix6 0 n r h i j)
            + Ideal.div (∑ k : Fin 1, (C (ix5 0 n r h i) + ∑ x : Fin 256, -A (ix6 0 n r h i x))) (∑ x : Fin 256, U (ix6 0 n r h i x)) * U (ix6 0 n r h i j)) 0
          * Ideal.ofBits .f32 0x3DB504F3#32 := by
    intro M A C U h1 h2 h3 h4
    unfold res_main_v148
    rw [h1, h2, h3, h4]
    pointwise [sum_last, sum_ends]
  obtain ⟨A, hA⟩ : ∃ A : Vec Ideal S1x8x16x4x128x256 .f32, res_main_v135 (F := Ideal) W = A := ⟨_, rfl⟩
  have g := fun x => v135_real hW n r h i x
  rw [hA] at g
  have hneg : ∀ x : Fin 256, -A (ix6 0 n r h i x)
      = ((-(rcell D n.val r h.val).gradBy (rmax W n r h) i x : ℝ) : EReal) := fun x => by rw [g, EReal.coe_neg]
  obtain ⟨hM, j₀, hj₀⟩ := v80_real hW n r h i
  have hpos : (∑ x : Fin 256, (if (res_main_v79_0 (F := Ideal) W : Vec Ideal S1x8x16x4x128x256 .f32) (ix6 0 n r h i x)
          = (res_main_v80 (F := Ideal) W : Vec Ideal S1x8x16x4x128 .f32) (ix5 0 n r h i) then 1 else 0 : ℝ)) ≠ 0 := by
    refine (Finset.sum_pos' (fun x _ => by split <;> norm_num) ⟨j₀, Finset.mem_univ _, ?_⟩).ne'
    rw [if_pos (hj₀.trans hM.symm)]; norm_num
  have hz : (∑ d, (rcell D n.val r h.val).e i d) + ∑ x : Fin 256, -(rcell D n.val r h.val).gradBy (rmax W n r h) i x = 0 := by
    rw [Finset.sum_neg_distrib, (rcell D n.val r h.val).gradBy_sum _ (D.cell_first _ _ _ _ _ _)]; ring
  rw [this _ _ _ _ rfl hA rfl rfl, v79_1_apply (D := D), g, v114_real hW, sum_real hneg,
    sum_real (fun x => v84_apply n r h i x), v84_apply, Fin.sum_univ_one, ← EReal.coe_add, hz, div_real _ _ hpos, ofBits_scale, zero_div]
  rw [EReal.coe_zero, zero_mul, add_zero]
  by_cases s : Sees (rcell D n.val r h.val).first i j
  · rw [if_pos s, EReal.coe_mul]; rfl
  · rw [if_neg s]
    have : (rcell D n.val r h.val).gradBy (rmax W n r h) i j = 0 := by
      unfold Cell.gradBy Cell.expo; rw [if_neg s, mul_zero]
    rw [this, zero_mul]
    show (0 : EReal) * _ = _
    rw [zero_mul]; rfl

/-- The gradient at the keys of a block and the block before it. -/
theorem v150_real (hW : Args W D) (n : Fin 8) (r : Fin 16) (h : Fin 4) (j : Fin 256) (d : Fin 128) :
    (res_main_v150 (F := Ideal) W : Vec Ideal S1x8x256x16x4x128 .f32) (ix6 0 n j r h d)
      = ((∑ i, (rcell D n.val r h.val).gradBy (rmax W n r h) i j * scale * (rcell D n.val r h.val).q i d : ℝ) : EReal) := by
  have : ∀ (X : Vec Ideal S1x8x16x4x128x256 .f32) (Y : Vec Ideal S1x8x128x16x4x128 .f32), (res_main_v148 (F := Ideal) W) = X → (res_main_v20 (F := Ideal) W) = Y →
      (res_main_v150 (F := Ideal) W : Vec Ideal S1x8x256x16x4x128 .f32) (ix6 0 n j r h d) = ∑ i, X (ix6 0 n r h i j) * Y (ix6 0 n i r h d) := by
    intro X Y hX hY
    unfold res_main_v150
    rw [hX, hY]
    pointwise []
  rw [this _ _ rfl rfl]
  exact sum_mul_real (fun i => v148_real hW n r h i j) (fun i => v20_real hW n i r h d)

end Cert.Proof.Run.Ref
end
end
-- ==== Proof.Run.RefE.lean ====
/-
  The reference's result at a row and a column, out of the gradients at the scores, the keys and the values.
-/
module

public import proofs.«01_k».proof.Proof.Run.RefD

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

/-- The result's first 3072 columns are the buffer's own, the others those of the three gradients side by side. -/
theorem outer_apply (X : Vec Ideal S16384x4608 .bf16) (Z : Vec Ideal S1x16384x4x3x128 .f32) (row : Fin 16384) (col : Fin 4608) :
    (concatenate S16384x4608 1 [⟨S16384x3072, (extractStridedSlice S16384x3072 ![0, 0] X slices_S16384x4608_S16384x3072_0_0)⟩, ⟨S16384x1536, (truncf (F := Ideal) .bf16 (shapeCast _ Z shapeCasts_S1x16384x4x3x128_S16384x1536) bitsLt_bf16_f32)⟩] concatenates_S16384x3072_S16384x1536_S16384x4608_d1 : Vec Ideal S16384x4608 .bf16)
      (ix2 row col)
      = if hc : col.val < 3072 then X (ix2 row col)
        else Z (ix5 0 row ⟨(col.val - 3072) / 384, by omega⟩ ⟨(col.val - 3072) / 128 % 3, by omega⟩ ⟨(col.val - 3072) % 128, by omega⟩) := by
  pointwise []

/-- The three gradients side by side. -/
theorem middle_apply (P Q R : Vec Ideal S1x16384x4x1x128 .f32) (row : Fin 16384) (h : Fin 4) (s : Fin 3) (d : Fin 128) :
    (concatenate S1x16384x4x3x128 3 [⟨S1x16384x4x1x128, P⟩, ⟨S1x16384x4x1x128, Q⟩, ⟨S1x16384x4x1x128, R⟩] concatenates_S1x16384x4x1x128_S1x16384x4x1x128_S1x16384x4x1x128_S1x16384x4x3x128_d3 : Vec Ideal S1x16384x4x3x128 .f32)
      (ix5 0 row h s d)
      = if s.val < 1 then P (ix5 0 row h 0 d) else if s.val < 2 then Q (ix5 0 row h 0 d) else R (ix5 0 row h 0 d) := by
  pointwise []
  by_cases h1 : s.val < 1
  · rw [dif_pos h1, if_pos h1]; congr 2; apply Fin.ext; show s.val = 0; omega
  · rw [dif_neg h1, if_neg h1]
    by_cases h2 : s.val < 2
    · rw [dif_pos (show s.val - 1 < 1 by omega), if_pos h2]; congr 2; apply Fin.ext; show s.val - 1 = 0; omega
    · rw [dif_neg (show ¬ s.val - 1 < 1 by omega), if_neg h2]; congr 2; apply Fin.ext; show s.val - 1 - 1 = 0; omega

/-- The gradient at the queries at a row. -/
theorem queries_apply (A : Vec Ideal S1x8x16x4x128x256 .f32) (K : Vec Ideal S1x8x256x16x4x128 .f32) (row : Fin 16384) (h : Fin 4) (d : Fin 128) :
    (broadcastInDim S1x16384x4x1x128 ![0, 1, 2, 4] bcast_S1x16384x4x128_S1x16384x4x1x128_0_1_2_4 (shapeCast _ (transpose S1x8x128x16x4x128 [0, 1, 4, 2, 3, 5] (Host.dotGeneral (F := Ideal) (φ₁ := .f32) (φ₂ := .f32) dot_S1x8x16x4x128x256_S1x8x256x16x4x128_S1x8x16x4x128x128_5_2_4_5_0123_0134 none A K) transposes_S1x8x16x4x128x128_S1x8x128x16x4x128_0_1_4_2_3_5) shapeCasts_S1x8x128x16x4x128_S1x16384x4x128) : Vec Ideal S1x16384x4x1x128 .f32)
      (ix5 0 row h 0 d)
      = ∑ j : Fin 256, A (ix6 0 ⟨row.val / 2048, by omega⟩ ⟨row.val % 16, by omega⟩ h ⟨row.val / 16 % 128, by omega⟩ j)
          * K (ix6 0 ⟨row.val / 2048, by omega⟩ j ⟨row.val % 16, by omega⟩ h d) := by
  pointwise []

/-- The gradient at the keys, or at the values, at a row: the block's own part and the next block's. -/
theorem keys_apply (X : Vec Ideal S1x8x256x16x4x128 .f32) (row : Fin 16384) (h : Fin 4) (d : Fin 128) :
    (broadcastInDim S1x16384x4x1x128 ![0, 1, 2, 4] bcast_S1x16384x4x128_S1x16384x4x1x128_0_1_2_4 (shapeCast _ (addf (F := Ideal) (φ := .f32) (extractStridedSlice S1x8x128x16x4x128 ![0, 0, 128, 0, 0, 0] X slices_S1x8x256x16x4x128_S1x8x128x16x4x128_0_0_128_0_0_0) (pad S1x8x128x16x4x128 ![0, 0, 0, 0, 0, 0] ![0, 1, 0, 0, 0, 0] ![0, 0, 0, 0, 0, 0] (extractStridedSlice S1x7x128x16x4x128 ![0, 1, 0, 0, 0, 0] (extractStridedSlice S1x8x128x16x4x128 ![0, 0, 0, 0, 0, 0] X slices_S1x8x256x16x4x128_S1x8x128x16x4x128_0_0_0_0_0_0) slices_S1x8x128x16x4x128_S1x7x128x16x4x128_0_1_0_0_0_0) (constant (F := Ideal) S_ .f32 0x00000000#32) pads_S1x7x128x16x4x128_S1x8x128x16x4x128_000_010_000_000_000_000 h_S_)) shapeCasts_S1x8x128x16x4x128_S1x16384x4x128) : Vec Ideal S1x16384x4x1x128 .f32)
      (ix5 0 row h 0 d)
      = X (ix6 0 ⟨row.val / 2048, by omega⟩ ⟨128 + row.val / 16 % 128, by omega⟩ ⟨row.val % 16, by omega⟩ h d)
        + if hn : row.val / 2048 < 7 ∧ row.val / 16 % 128 < 128 ∧ row.val % 16 < 16 then X (ix6 0 ⟨1 + row.val / 2048, by omega⟩ ⟨row.val / 16 % 128, by omega⟩ ⟨row.val % 16, by omega⟩ h d) else 0 := by
  pointwise []

end Cert.Proof.Run.Ref
end
end
-- ==== Proof.Run.RefF.lean ====
/-
  The reference's result on real numbers: the gradient of the cells whose log-sums and results are its own.
-/
module

public import proofs.«01_k».proof.Proof.Run.RefE

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- The saved log-sums and results are those of the reference's cells. -/
structure Saved (W : Valuation Cert.ReferenceIdeal.τ Cert.ReferenceIdeal.sig (Elt Ideal)) (D : Data) : Prop where
  l : ∀ (n : Fin 8) (r : Fin 16) (h : Fin 4), D.lOf n.val r h.val = (rcell D n.val r h.val).lse (rmax W n r h)
  o : ∀ (n : Fin 8) (r : Fin 16) (h : Fin 4), D.oOf n.val r h.val = (rcell D n.val r h.val).out (rmax W n r h)

/-- The gradient at the queries, from the gradient at the products. -/
theorem dq_of (hS : Saved W D) (n : Fin 8) (r : Fin 16) (h : Fin 4) (i d : Fin 128) :
    (∑ j, (rcell D n.val r h.val).gradBy (rmax W n r h) i j * scale * (rcell D n.val r h.val).k j d : ℝ)
      = (rcell D n.val r h.val).dq (D.lOf n.val r h.val) (D.oOf n.val r h.val) i d := by
  unfold Cell.dq
  rw [hS.l, hS.o, Finset.sum_mul]
  refine Finset.sum_congr rfl fun j _ => ?_
  rw [(rcell D n.val r h.val).grad_eq _ (D.cell_first _ _ _ _ _ _)]
  show _ = _ * scale
  ring

/-- The gradient at the keys, likewise. -/
theorem dk_of (hS : Saved W D) (n : Fin 8) (r : Fin 16) (h : Fin 4) (j : Fin 256) (d : Fin 128) :
    (∑ i, (rcell D n.val r h.val).gradBy (rmax W n r h) i j * scale * (rcell D n.val r h.val).q i d : ℝ)
      = (rcell D n.val r h.val).dk (D.lOf n.val r h.val) (D.oOf n.val r h.val) j d := by
  unfold Cell.dk
  rw [hS.l, hS.o, Finset.sum_mul]
  refine Finset.sum_congr rfl fun i _ => ?_
  rw [(rcell D n.val r h.val).grad_eq _ (D.cell_first _ _ _ _ _ _)]
  show _ = _ * scale
  ring

/-- The gradient at the values, from the quotient's. -/
theorem dv_of (hS : Saved W D) (n : Fin 8) (r : Fin 16) (h : Fin 4) (j : Fin 256) (d : Fin 128) :
    (∑ i, (rcell D n.val r h.val).g i d / (rcell D n.val r h.val).den (rmax W n r h) i * (rcell D n.val r h.val).expo (rmax W n r h) i j : ℝ)
      = (rcell D n.val r h.val).dv (D.lOf n.val r h.val) j d := by
  unfold Cell.dv
  rw [hS.l]
  refine Finset.sum_congr rfl fun i _ => ?_
  rw [(rcell D n.val r h.val).expo_lse _ (D.cell_first _ _ _ _ _ _)]
  ring

/-- A sum of a block's own part and of the next block's, on real numbers. -/
theorem own_next (X : Vec Ideal S1x8x256x16x4x128 .f32) (f : ℕ → Fin 256 → ℝ) (r : Fin 16) (h : Fin 4) (d : Fin 128)
    (hX : ∀ (n : Fin 8) (j : Fin 256), X (ix6 0 n j r h d) = (f n.val j : EReal)) (n : Fin 8) (i : Fin 128) (q : Prop) [Decidable q] (hq : q) :
    X (ix6 0 n ⟨128 + i.val, by omega⟩ r h d) + (if hn : n.val < 7 ∧ q then X (ix6 0 ⟨1 + n.val, by omega⟩ ⟨i.val, by omega⟩ r h d) else 0)
      = ((f n.val ⟨128 + i.val, by omega⟩ + if n.val < 7 then f (n.val + 1) ⟨i.val, by omega⟩ else 0 : ℝ) : EReal) := by
  rw [hX, EReal.coe_add]
  congr 1
  by_cases hn : n.val < 7
  · rw [dif_pos (And.intro hn hq), if_pos hn, hX]
    show ((f (1 + n.val) _ : ℝ) : EReal) = _
    rw [Nat.add_comm]
  · rw [dif_neg (fun c => hn c.1), if_neg hn]; rfl

end Cert.Proof.Run.Ref
end
end
-- ==== Proof.Run.Forward.lean ====
/-
  The forward pass's result and log-sum at a row and a column, on real numbers: those of the reference's cells.
-/
module

public import proofs.«01_k».proof.Proof.Run.RefF

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- The result of a row and a column. -/
def outOf (W : Valuation Cert.ReferenceIdeal.τ Cert.ReferenceIdeal.sig (Elt Ideal)) (D : Data) (row col : ℕ) : ℝ :=
  (rcell D (row / 2048) ⟨row % 16, Nat.mod_lt _ (by decide)⟩ (col / 128)).out
    (rmax W ⟨row / 2048 % 8, Nat.mod_lt _ (by decide)⟩ ⟨row % 16, Nat.mod_lt _ (by decide)⟩ ⟨col / 128 % 4, Nat.mod_lt _ (by decide)⟩)
    ⟨row / 16 % 128, Nat.mod_lt _ (by decide)⟩ ⟨col % 128, Nat.mod_lt _ (by decide)⟩

/-- The log-sum of a row and a head. -/
def lseOf (W : Valuation Cert.ReferenceIdeal.τ Cert.ReferenceIdeal.sig (Elt Ideal)) (D : Data) (row h : ℕ) : ℝ :=
  (rcell D (row / 2048) ⟨row % 16, Nat.mod_lt _ (by decide)⟩ h).lse
    (rmax W ⟨row / 2048 % 8, Nat.mod_lt _ (by decide)⟩ ⟨row % 16, Nat.mod_lt _ (by decide)⟩ ⟨h % 4, Nat.mod_lt _ (by decide)⟩)
    ⟨row / 16 % 128, Nat.mod_lt _ (by decide)⟩

/-- The numbers the arrays hold: the arguments', and the forward pass's. -/
def filled (W : Valuation Cert.ReferenceIdeal.τ Cert.ReferenceIdeal.sig (Elt Ideal)) (D : Data) : Data :=
  { D with o := outOf W D, l := lseOf W D }

/-- The forward pass's numbers are those of the cells. -/
theorem filled_saved : Saved W (filled W D) where
  l n r h := by
    funext i
    show lseOf W D (token n.val r i.val) h.val = (rcell D n.val r h.val).lse _ i
    unfold lseOf
    have e1 : token n.val r i.val / 2048 = n.val := by unfold token; omega
    have e2 : token n.val r i.val % 16 = r.val := by unfold token; omega
    have e3 : token n.val r i.val / 16 % 128 = i.val := by unfold token; omega
    simp only [e1, e2, e3, Nat.mod_eq_of_lt n.isLt, Nat.mod_eq_of_lt h.isLt, Fin.eta]
  o n r h := by
    funext i d
    show outOf W D (token n.val r i.val) (128 * h.val + d.val) = (rcell D n.val r h.val).out _ i d
    unfold outOf
    have e1 : token n.val r i.val / 2048 = n.val := by unfold token; omega
    have e2 : token n.val r i.val % 16 = r.val := by unfold token; omega
    have e3 : token n.val r i.val / 16 % 128 = i.val := by unfold token; omega
    have e4 : (128 * h.val + d.val) / 128 = h.val := by omega
    have e5 : (128 * h.val + d.val) % 128 = d.val := by omega
    simp only [e1, e2, e3, e4, e5, Nat.mod_eq_of_lt n.isLt, Nat.mod_eq_of_lt h.isLt, Fin.eta]

/-- Numerator over denominator, at a row and a column. -/
theorem out_at (hW : Args W D) (row : Fin 16384) (col : Fin 512)
    (h1 : S1x8x128x16x4x128.ShapeCasts S1x16384x4x128) (h2 : S1x16384x4x128.ShapeCasts S16384x512) :
    (shapeCast S16384x512 (shapeCast S1x16384x4x128 (Host.divf (F := Ideal) (φ := .f32) (res_main_v92 (F := Ideal) W : Vec Ideal S1x8x128x16x4x128 .f32)
      (broadcastInDim S1x8x128x16x4x128 ![0, 1, 2, 3, 4, 5] bcast_S1x8x128x16x4x1_S1x8x128x16x4x128_0_1_2_3_4_5 (res_main_v94 (F := Ideal) W : Vec Ideal S1x8x128x16x4x1 .f32)))
      h1) h2 : Vec Ideal S16384x512 .f32) (ix2 row col)
      = (outOf W D row.val col.val : EReal) := by
  have : ∀ (X : Vec Ideal S1x8x128x16x4x128 .f32) (Y : Vec Ideal S1x8x128x16x4x1 .f32),
    (shapeCast S16384x512 (shapeCast S1x16384x4x128 (Host.divf (F := Ideal) (φ := .f32) X
      (broadcastInDim S1x8x128x16x4x128 ![0, 1, 2, 3, 4, 5] bcast_S1x8x128x16x4x1_S1x8x128x16x4x128_0_1_2_3_4_5 Y))
      h1) h2 : Vec Ideal S16384x512 .f32) (ix2 row col)
      = Ideal.div (X (ix6 0 ⟨row.val / 2048, by omega⟩ ⟨row.val / 16 % 128, by omega⟩ ⟨row.val % 16, by omega⟩ ⟨col.val / 128, by omega⟩ ⟨col.val % 128, by omega⟩))
        (Y (ix6 0 ⟨row.val / 2048, by omega⟩ ⟨row.val / 16 % 128, by omega⟩ ⟨row.val % 16, by omega⟩ ⟨col.val / 128, by omega⟩ 0)) := by
    intro X Y
    pointwise []
  rw [this, v92_real hW, v94_real hW, div_real _ _ (ne_of_gt (Cell.den_pos _ _ (D.cell_first _ _ _ _ _ _) _))]
  unfold outOf Cell.out
  simp only [Nat.mod_eq_of_lt (show row.val / 2048 < 8 by omega), Nat.mod_eq_of_lt (show col.val / 128 < 4 by omega)]

/-- A value per row and head. -/
abbrev S16384x4x1 : Shape := ⟨3, ![16384, 4, 1]⟩
/-- Its 128 lanes. -/
abbrev S16384x4x128L : Shape := ⟨3, ![16384, 4, 128]⟩

/-- Largest score plus logarithm of the denominator, at a row and a lane of a head. -/
theorem lse_at (hW : Args W D) (row : Fin 16384) (col : Fin 512)
    (hb : S16384x4x1.BroadcastsInDim S16384x4x128L ![0, 1, 2]) (h0 : S1x8x128x16x4.ShapeCasts S1x16384x4) (h1 : S1x16384x4.ShapeCasts S16384x4x1) (h3 : S1x8x16x4x128x1.ShapeCasts S1x8x16x4x128) (h2 : S16384x4x128L.ShapeCasts S16384x512) :
    (shapeCast S16384x512 (broadcastInDim S16384x4x128L ![0, 1, 2] hb
      (shapeCast S16384x4x1 (shapeCast S1x16384x4 (transpose S1x8x128x16x4 [0, 1, 4, 2, 3]
        (addf (F := Ideal) (φ := .f32) (shapeCast S1x8x16x4x128 (res_main_v86 (F := Ideal) W : Vec Ideal S1x8x16x4x128x1 .f32) h3) (Host.log (F := Ideal) (φ := .f32) (res_main_v90 (F := Ideal) W : Vec Ideal S1x8x16x4x128 .f32)))
        transposes_S1x8x16x4x128_S1x8x128x16x4_0_1_4_2_3) h0) h1)) h2 : Vec Ideal S16384x512 .f32) (ix2 row col)
      = (lseOf W D row.val (col.val / 128) : EReal) := by
  have : ∀ (X : Vec Ideal S1x8x16x4x128x1 .f32) (Y : Vec Ideal S1x8x16x4x128 .f32),
    (shapeCast S16384x512 (broadcastInDim S16384x4x128L ![0, 1, 2] hb
      (shapeCast S16384x4x1 (shapeCast S1x16384x4 (transpose S1x8x128x16x4 [0, 1, 4, 2, 3]
        (addf (F := Ideal) (φ := .f32) (shapeCast S1x8x16x4x128 X h3) (Host.log (F := Ideal) (φ := .f32) Y))
        transposes_S1x8x16x4x128_S1x8x128x16x4_0_1_4_2_3) h0) h1)) h2 : Vec Ideal S16384x512 .f32) (ix2 row col)
      = X (ix6 0 ⟨row.val / 2048, by omega⟩ ⟨row.val % 16, by omega⟩ ⟨col.val / 128, by omega⟩ ⟨row.val / 16 % 128, by omega⟩ 0)
        + Ideal.log (Y (ix5 0 ⟨row.val / 2048, by omega⟩ ⟨row.val % 16, by omega⟩ ⟨col.val / 128, by omega⟩ ⟨row.val / 16 % 128, by omega⟩)) := by
    intro X Y
    pointwise []
  rw [this, v86_apply, (v80_real hW _ _ _ _).1, v90_real hW, log_real _ (Cell.den_pos _ _ (D.cell_first _ _ _ _ _ _) _), ← EReal.coe_add]
  unfold lseOf Cell.lse
  simp only [Nat.mod_eq_of_lt (show row.val / 2048 < 8 by omega), Nat.mod_eq_of_lt (show col.val / 128 < 4 by omega)]

end Cert.Proof.Run.Ref
end
end
-- ==== Proof.Run.HostOut.lean ====
/-
  What the host's operations before the call leave in the two arrays of the forward pass: the reference's own forward
  values, numerator over denominator and largest score plus logarithm.
-/
module
public import proofs.«01_k».proof.Proof.Gen.KernelIdeal.Frame
public import proofs.«01_k».proof.Proof.Gen.ReferenceIdeal.Run
public import Idealize.ShloMosaic.Lib.StableHlo.RunRead
@[expose] public section
noncomputable section
namespace Cert.Proof.Run
open Cert.KernelIdeal Cert.KernelIdeal.Gen
open Idealize.ShloMosaic Idealize.ShloMosaic.TcCoe Idealize.ShloMosaic.StableHlo
open Cert.ReferenceIdeal.Value

variable {F : FTy → Type} [FloatOps F] [Named F]

variable (m : (l : Loc nD τ sig) → Buf (Elt F) l) (c : Dev nD) (W : Valuation Cert.ReferenceIdeal.τ Cert.ReferenceIdeal.sig (Elt F))

set_option maxHeartbeats 8000000 in
/-- The forward pass's result. -/
theorem host_out (hW : W (Proc.devRef .tc Cert.ReferenceIdeal.main_arg0) = m (c, Proc.devRef .tc main_arg0)) :
    V m c main_v94 = shapeCast S16384x512 (shapeCast S1x16384x4x128 (Host.divf (res_main_v92 W : Vec F S1x8x128x16x4x128 .f32)
      (broadcastInDim S1x8x128x16x4x128 ![0, 1, 2, 3, 4, 5] bcast_S1x8x128x16x4x1_S1x8x128x16x4x128_0_1_2_3_4_5 (res_main_v94 W : Vec F S1x8x128x16x4x1 .f32)))
      shapeCasts_S1x8x128x16x4x128_S1x16384x4x128) shapeCasts_S1x16384x4x128_S16384x512 := by
  unfold V
  after_reads_simp
  unfold res_main_v92 res_main_v94 res_main_v90 res_main_v89 res_main_v86 res_main_v80 res_main_v79_0 res_main_v79_1 res_main_v46 res_main_v41 res_main_v34 res_main_v28 res_main_v20 res_main_v21 res_main_v22 res_main_v3
  rw [hW]
  rfl

end Cert.Proof.Run
end
end
-- ==== Proof.Run.HostLse.lean ====
/-
  What the host's operations before the call leave in the two arrays of the forward pass: the reference's own forward
  values, numerator over denominator and largest score plus logarithm.
-/
module
public import proofs.«01_k».proof.Proof.Gen.KernelIdeal.Frame
public import proofs.«01_k».proof.Proof.Gen.ReferenceIdeal.Run
public import Idealize.ShloMosaic.Lib.StableHlo.RunRead
@[expose] public section
noncomputable section
namespace Cert.Proof.Run
open Cert.KernelIdeal Cert.KernelIdeal.Gen
open Idealize.ShloMosaic Idealize.ShloMosaic.TcCoe Idealize.ShloMosaic.StableHlo
open Cert.ReferenceIdeal.Value

variable {F : FTy → Type} [FloatOps F] [Named F]

variable (m : (l : Loc nD τ sig) → Buf (Elt F) l) (c : Dev nD) (W : Valuation Cert.ReferenceIdeal.τ Cert.ReferenceIdeal.sig (Elt F))

set_option maxHeartbeats 8000000 in
/-- The forward pass's log-sum, on every lane. -/
theorem host_lse (hW : W (Proc.devRef .tc Cert.ReferenceIdeal.main_arg0) = m (c, Proc.devRef .tc main_arg0)) :
    V m c main_v97 = shapeCast S16384x512 (broadcastInDim S16384x4x128 ![0, 1, 2] bcast_S16384x4x1_S16384x4x128_0_1_2
      (shapeCast S16384x4x1 (shapeCast S1x16384x4 (transpose S1x8x128x16x4 [0, 1, 4, 2, 3]
        (addf (shapeCast S1x8x16x4x128 (res_main_v86 W : Vec F S1x8x16x4x128x1 .f32) shapeCasts_S1x8x16x4x128x1_S1x8x16x4x128) (Host.log (res_main_v90 W : Vec F S1x8x16x4x128 .f32)))
        transposes_S1x8x16x4x128_S1x8x128x16x4_0_1_4_2_3) shapeCasts_S1x8x128x16x4_S1x16384x4) shapeCasts_S1x16384x4_S16384x4x1)) shapeCasts_S16384x4x128_S16384x512 := by
  unfold V
  after_reads_simp
  unfold res_main_v90 res_main_v89 res_main_v86 res_main_v80 res_main_v79_0 res_main_v79_1 res_main_v46 res_main_v41 res_main_v28 res_main_v20 res_main_v21 res_main_v3
  rw [hW]
  rfl

end Cert.Proof.Run
end
end
-- ==== Proof.Run.RefG.lean ====
/-
  The reference's result at a row and a column, on real numbers.
-/
module

public import proofs.«01_k».proof.Proof.Run.RefF

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- The block, the stream, the place, the head and the lane that a row and a column after the first 3072 name. -/
abbrev blockOf (row : Fin 16384) : Fin 8 := ⟨row.val / 2048, by omega⟩
abbrev streamOf (row : Fin 16384) : Fin 16 := ⟨row.val % 16, by omega⟩
abbrev placeOf (row : Fin 16384) : Fin 128 := ⟨row.val / 16 % 128, by omega⟩

/-- The gradient at the queries at a row. -/
theorem queries_real (hW : Args W D) (hS : Saved W D) (row : Fin 16384) (h : Fin 4) (d : Fin 128)
    (A : Vec Ideal S1x8x16x4x128x256 .f32) (hA : res_main_v148 (F := Ideal) W = A)
    (K : Vec Ideal S1x8x256x16x4x128 .f32) (hK : res_main_v28 (F := Ideal) W = K) :
    (∑ j : Fin 256, A (ix6 0 (blockOf row) (streamOf row) h (placeOf row) j) * K (ix6 0 (blockOf row) j (streamOf row) h d) : EReal)
      = (D.gq slopeOf scale (row.val / 2048) (streamOf row) h.val (fun _ _ => 0) (placeOf row) d : EReal) := by
  have hA' := fun j => v148_real hW (blockOf row) (streamOf row) h (placeOf row) j
  have hK' := fun j => v28_real hW (blockOf row) j (streamOf row) h d
  rw [hA] at hA'
  rw [hK] at hK'
  refine (sum_mul_real hA' hK').trans ?_
  rw [dq_of hS]
  rfl

/-- The gradient at the keys at a row. -/
theorem keys_real (hW : Args W D) (hS : Saved W D) (row : Fin 16384) (h : Fin 4) (d : Fin 128)
    (X : Vec Ideal S1x8x256x16x4x128 .f32) (hX : res_main_v150 (F := Ideal) W = X) :
    (X (ix6 0 (blockOf row) ⟨128 + (placeOf row).val, by omega⟩ (streamOf row) h d)
      + if hn : (blockOf row).val < 7 ∧ row.val / 16 % 128 < 128 ∧ row.val % 16 < 16 then X (ix6 0 ⟨1 + (blockOf row).val, by omega⟩ ⟨(placeOf row).val, by omega⟩ (streamOf row) h d) else 0)
      = (D.gk slopeOf scale (row.val / 2048) (streamOf row) h.val (fun _ _ => 0) (placeOf row) d : EReal) :=
  own_next X (fun n j => (rcell D n (streamOf row) h.val).dk (D.lOf n (streamOf row) h.val) (D.oOf n (streamOf row) h.val) j d)
    (streamOf row) h d (fun n j => by rw [← hX, ← dk_of hS]; exact v150_real hW n (streamOf row) h j d) (blockOf row) (placeOf row) _
    ⟨by omega, by omega⟩

/-- The gradient at the values at a row. -/
theorem values_real (hW : Args W D) (hS : Saved W D) (row : Fin 16384) (h : Fin 4) (d : Fin 128)
    (X : Vec Ideal S1x8x256x16x4x128 .f32) (hX : res_main_v132 (F := Ideal) W = X) :
    (X (ix6 0 (blockOf row) ⟨128 + (placeOf row).val, by omega⟩ (streamOf row) h d)
      + if hn : (blockOf row).val < 7 ∧ row.val / 16 % 128 < 128 ∧ row.val % 16 < 16 then X (ix6 0 ⟨1 + (blockOf row).val, by omega⟩ ⟨(placeOf row).val, by omega⟩ (streamOf row) h d) else 0)
      = (D.gv slopeOf scale (row.val / 2048) (streamOf row) h.val (fun _ _ => 0) (placeOf row) d : EReal) :=
  own_next X (fun n j => (rcell D n (streamOf row) h.val).dv (D.lOf n (streamOf row) h.val) j d)
    (streamOf row) h d (fun n j => by rw [← hX, ← dv_of hS]; exact v132_real hW n (streamOf row) h j d) (blockOf row) (placeOf row) _
    ⟨by omega, by omega⟩

/-- The reference's result, out of the gradients at the products, at the keys and at the values. -/
theorem result_term (A : Vec Ideal S1x8x16x4x128x256 .f32) (K Y Z : Vec Ideal S1x8x256x16x4x128 .f32) (X : Vec Ideal S16384x4608 .bf16)
    (hA : res_main_v148 (F := Ideal) W = A) (hK : res_main_v28 (F := Ideal) W = K) (hY : res_main_v150 (F := Ideal) W = Y)
    (hZ : res_main_v132 (F := Ideal) W = Z) (hX : W (Proc.devRef .tc main_arg3) = X) :
    (val4 W (Proc.devRef .tc main_v175) : Vec Ideal S16384x4608 .bf16)
      = concatenate S16384x4608 1 [⟨S16384x3072, (extractStridedSlice S16384x3072 ![0, 0] X slices_S16384x4608_S16384x3072_0_0)⟩, ⟨S16384x1536, (truncf (F := Ideal) .bf16 (shapeCast _ ((concatenate S1x16384x4x3x128 3 [⟨S1x16384x4x1x128, ((broadcastInDim S1x16384x4x1x128 ![0, 1, 2, 4] bcast_S1x16384x4x128_S1x16384x4x1x128_0_1_2_4 (shapeCast _ (transpose S1x8x128x16x4x128 [0, 1, 4, 2, 3, 5] (Host.dotGeneral (F := Ideal) (φ₁ := .f32) (φ₂ := .f32) dot_S1x8x16x4x128x256_S1x8x256x16x4x128_S1x8x16x4x128x128_5_2_4_5_0123_0134 none A K) transposes_S1x8x16x4x128x128_S1x8x128x16x4x128_0_1_4_2_3_5) shapeCasts_S1x8x128x16x4x128_S1x16384x4x128)) : Vec Ideal S1x16384x4x1x128 .f32)⟩, ⟨S1x16384x4x1x128, ((broadcastInDim S1x16384x4x1x128 ![0, 1, 2, 4] bcast_S1x16384x4x128_S1x16384x4x1x128_0_1_2_4 (shapeCast _ (addf (F := Ideal) (φ := .f32) (extractStridedSlice S1x8x128x16x4x128 ![0, 0, 128, 0, 0, 0] Y slices_S1x8x256x16x4x128_S1x8x128x16x4x128_0_0_128_0_0_0) (pad S1x8x128x16x4x128 ![0, 0, 0, 0, 0, 0] ![0, 1, 0, 0, 0, 0] ![0, 0, 0, 0, 0, 0] (extractStridedSlice S1x7x128x16x4x128 ![0, 1, 0, 0, 0, 0] (extractStridedSlice S1x8x128x16x4x128 ![0, 0, 0, 0, 0, 0] Y slices_S1x8x256x16x4x128_S1x8x128x16x4x128_0_0_0_0_0_0) slices_S1x8x128x16x4x128_S1x7x128x16x4x128_0_1_0_0_0_0) (constant (F := Ideal) S_ .f32 0x00000000#32) pads_S1x7x128x16x4x128_S1x8x128x16x4x128_000_010_000_000_000_000 h_S_)) shapeCasts_S1x8x128x16x4x128_S1x16384x4x128)) : Vec Ideal S1x16384x4x1x128 .f32)⟩, ⟨S1x16384x4x1x128, ((broadcastInDim S1x16384x4x1x128 ![0, 1, 2, 4] bcast_S1x16384x4x128_S1x16384x4x1x128_0_1_2_4 (shapeCast _ (addf (F := Ideal) (φ := .f32) (extractStridedSlice S1x8x128x16x4x128 ![0, 0, 128, 0, 0, 0] Z slices_S1x8x256x16x4x128_S1x8x128x16x4x128_0_0_128_0_0_0) (pad S1x8x128x16x4x128 ![0, 0, 0, 0, 0, 0] ![0, 1, 0, 0, 0, 0] ![0, 0, 0, 0, 0, 0] (extractStridedSlice S1x7x128x16x4x128 ![0, 1, 0, 0, 0, 0] (extractStridedSlice S1x8x128x16x4x128 ![0, 0, 0, 0, 0, 0] Z slices_S1x8x256x16x4x128_S1x8x128x16x4x128_0_0_0_0_0_0) slices_S1x8x128x16x4x128_S1x7x128x16x4x128_0_1_0_0_0_0) (constant (F := Ideal) S_ .f32 0x00000000#32) pads_S1x7x128x16x4x128_S1x8x128x16x4x128_000_010_000_000_000_000 h_S_)) shapeCasts_S1x8x128x16x4x128_S1x16384x4x128)) : Vec Ideal S1x16384x4x1x128 .f32)⟩] concatenates_S1x16384x4x1x128_S1x16384x4x1x128_S1x16384x4x1x128_S1x16384x4x3x128_d3 : Vec Ideal S1x16384x4x3x128 .f32)) shapeCasts_S1x16384x4x3x128_S16384x1536) bitsLt_bf16_f32)⟩] concatenates_S16384x3072_S16384x1536_S16384x4608_d1 := by
  rw [val4_main_v175]
  unfold res_main_v153 res_main_v159
  rw [hA, hK, hY, hZ, hX]

/-- The result at a row and a column: the buffer's own, or one of the three gradients. -/
theorem pick_apply (X : Vec Ideal S16384x4608 .bf16) (P Q R : Vec Ideal S1x16384x4x1x128 .f32) (row : Fin 16384) (col : Fin 4608) :
    (concatenate S16384x4608 1 [⟨S16384x3072, (extractStridedSlice S16384x3072 ![0, 0] X slices_S16384x4608_S16384x3072_0_0)⟩, ⟨S16384x1536, (truncf (F := Ideal) .bf16 (shapeCast _ ((concatenate S1x16384x4x3x128 3 [⟨S1x16384x4x1x128, P⟩, ⟨S1x16384x4x1x128, Q⟩, ⟨S1x16384x4x1x128, R⟩] concatenates_S1x16384x4x1x128_S1x16384x4x1x128_S1x16384x4x1x128_S1x16384x4x3x128_d3 : Vec Ideal S1x16384x4x3x128 .f32)) shapeCasts_S1x16384x4x3x128_S16384x1536) bitsLt_bf16_f32)⟩] concatenates_S16384x3072_S16384x1536_S16384x4608_d1 : Vec Ideal S16384x4608 .bf16) (ix2 row col)
      = if hc : col.val < 3072 then X (ix2 row col)
        else if (col.val - 3072) / 128 % 3 < 1 then P (ix5 0 row ⟨(col.val - 3072) / 384, by omega⟩ 0 ⟨(col.val - 3072) % 128, by omega⟩)
        else if (col.val - 3072) / 128 % 3 < 2 then Q (ix5 0 row ⟨(col.val - 3072) / 384, by omega⟩ 0 ⟨(col.val - 3072) % 128, by omega⟩)
        else R (ix5 0 row ⟨(col.val - 3072) / 384, by omega⟩ 0 ⟨(col.val - 3072) % 128, by omega⟩) := by
  rw [outer_apply]
  by_cases hc : col.val < 3072
  · rw [dif_pos hc, dif_pos hc]
  · rw [dif_neg hc, dif_neg hc]
    exact middle_apply P Q R row _ _ _

end Cert.Proof.Run.Ref
end
end
-- ==== Proof.Run.RefH.lean ====
/-
  The reference's result is the gradient of the cells.
-/
module

public import proofs.«01_k».proof.Proof.Run.RefG

@[expose] public section

noncomputable section

namespace Cert.Proof.Run.Ref

open Cert.ReferenceIdeal Cert.ReferenceIdeal.Gen Cert.ReferenceIdeal.Value
open Idealize.ShloMosaic Idealize.ShloMosaic.TcCoe Idealize.ShloMosaic.Pointwise Idealize.ShloMosaic.StableHlo

variable {W : Valuation Cert.ReferenceIdeal.τ Cert.ReferenceIdeal.sig (Elt Ideal)} {D : Data}

/-- The gradients side by side, picked by the column of a head. -/
theorem res_pick (n : ℕ) (r : Fin 16) (h : ℕ) (i : Fin 128) (c : ℕ) (pad : ℕ → ℕ → ℝ) (hc : c % 384 < 384) (hd : c % 128 < 128) :
    D.res slopeOf scale n r h pad ⟨c % 384, hc⟩ i
      = if c / 128 % 3 < 1 then D.gq slopeOf scale n r h pad i ⟨c % 128, hd⟩
        else if c / 128 % 3 < 2 then D.gk slopeOf scale n r h pad i ⟨c % 128, hd⟩
        else D.gv slopeOf scale n r h pad i ⟨c % 128, hd⟩ := by
  unfold Data.res
  by_cases h1 : c / 128 % 3 < 1
  · rw [if_pos h1, dif_pos (show c % 384 < 128 by omega)]
    congr 2; show c % 384 = c % 128; omega
  · rw [if_neg h1, dif_neg (show ¬ c % 384 < 128 by omega)]
    by_cases h2 : c / 128 % 3 < 2
    · rw [if_pos h2, dif_pos (show c % 384 < 256 by omega)]
      congr 2; show c % 384 - 128 = c % 128; omega
    · rw [if_neg h2, dif_neg (show ¬ c % 384 < 256 by omega)]
      congr 2; show c % 384 - 256 = c % 128; omega

/-- The reference's result: the buffer's own first columns, then the gradient. -/
theorem result_apply (hW : Args W D) (hS : Saved W D) (X : Vec Ideal S16384x4608 .bf16) (hX : W (Proc.devRef .tc main_arg3) = X)
    (row : Fin 16384) (col : Fin 4608) :
    (val4 W (Proc.devRef .tc main_v175) : Vec Ideal S16384x4608 .bf16) (ix2 row col)
      = if col.val < 3072 then X (ix2 row col) else (D.resAt slopeOf scale (fun _ _ => 0) row.val (col.val - 3072) : EReal) := by
  obtain ⟨A, hA⟩ : ∃ A : Vec Ideal S1x8x16x4x128x256 .f32, res_main_v148 (F := Ideal) W = A := ⟨_, rfl⟩
  obtain ⟨K, hK⟩ : ∃ K : Vec Ideal S1x8x256x16x4x128 .f32, res_main_v28 (F := Ideal) W = K := ⟨_, rfl⟩
  obtain ⟨Y, hY⟩ : ∃ Y : Vec Ideal S1x8x256x16x4x128 .f32, res_main_v150 (F := Ideal) W = Y := ⟨_, rfl⟩
  obtain ⟨Z, hZ⟩ : ∃ Z : Vec Ideal S1x8x256x16x4x128 .f32, res_main_v132 (F := Ideal) W = Z := ⟨_, rfl⟩
  rw [result_term A K Y Z X hA hK hY hZ hX, pick_apply]
  by_cases hc : col.val < 3072
  · rw [dif_pos hc, if_pos hc]
  rw [dif_neg hc, if_neg hc, queries_apply, keys_apply, keys_apply]
  unfold Data.resAt
  have hcl := col.isLt
  have hh : (col.val - 3072) / 384 < 4 := by omega
  rw [res_pick (hd := Nat.mod_lt _ (by decide))]
  have e1 := queries_real hW hS row ⟨(col.val - 3072) / 384, hh⟩ ⟨(col.val - 3072) % 128, Nat.mod_lt _ (by decide)⟩ A hA K hK
  have e2 := keys_real hW hS row ⟨(col.val - 3072) / 384, hh⟩ ⟨(col.val - 3072) % 128, Nat.mod_lt _ (by decide)⟩ Y hY
  have e3 := values_real hW hS row ⟨(col.val - 3072) / 384, hh⟩ ⟨(col.val - 3072) % 128, Nat.mod_lt _ (by decide)⟩ Z hZ
  by_cases h1 : (col.val - 3072) / 128 % 3 < 1
  · rw [if_pos h1, if_pos h1]
    exact e1
  · rw [if_neg h1, if_neg h1]
    by_cases h2 : (col.val - 3072) / 128 % 3 < 2
    · rw [if_pos h2, if_pos h2]
      exact e2
    · rw [if_neg h2, if_neg h2]
      exact e3

end Cert.Proof.Run.Ref
end
end
-- ==== Proof.Run.Equation.lean ====
/-
  The kernel's result array is the reference's result.
-/
module

public import proofs.«01_k».proof.Proof.Run.Finite
public import proofs.«01_k».proof.Proof.Run.Bridge
public import proofs.«01_k».proof.Proof.Run.KArray
public import proofs.«01_k».proof.Proof.Run.Forward
public import proofs.«01_k».proof.Proof.Run.HostOut
public import proofs.«01_k».proof.Proof.Run.HostLse
public import proofs.«01_k».proof.Proof.Run.RefH

@[expose] public section

noncomputable section

namespace Cert.Proof.Run

open Cert.KernelIdeal Cert.KernelIdeal.Gen
open Idealize.ShloMosaic Idealize.ShloMosaic.TcCoe Idealize.ShloMosaic.Pointwise Idealize.ShloMosaic.StableHlo
open Cert.ReferenceIdeal.Value (val4)
open Cert.Proof.Run.Ref (Args Saved filled filled_saved outOf lseOf slopeOf)

/-- The real numbers of an array, by row and column. -/
def reals {a b : ℕ} (X : Vec Ideal ⟨2, ![a, b]⟩ .f32) (row col : ℕ) : ℝ :=
  if h : row < a ∧ col < b then EReal.toReal (X (ix2 ⟨row, h.1⟩ ⟨col, h.2⟩)) else 0

theorem reals_apply {a b : ℕ} (X : Vec Ideal ⟨2, ![a, b]⟩ .f32) (row : Fin a) (col : Fin b) :
    reals X row.val col.val = EReal.toReal (X (ix2 row col)) := dif_pos ⟨row.isLt, col.isLt⟩

section

variable (m : (ℓ : Loc nD τ sig) → Buf (Elt Ideal) ℓ) (c : Dev nD)
  (W : Valuation Cert.ReferenceIdeal.τ Cert.ReferenceIdeal.sig (Elt Ideal))

/-- The arguments' real numbers. -/
def given : Data where
  p := reals (m ((c : Thread nD τ).loc main_arg0) : Vec Ideal S16384x4608 .f32)
  g := reals (m ((c : Thread nD τ).loc main_arg1) : Vec Ideal S16384x512 .f32)
  e := reals (m ((c : Thread nD τ).loc main_arg2) : Vec Ideal S16384x512 .f32)
  o _ _ := 0
  l _ _ := 0

/-- The precondition on one device. -/
structure Fin3 : Prop where
  p : ∀ (row : Fin 16384) (col : Fin 4608), 3072 ≤ col.val →
    (m ((c : Thread nD τ).loc main_arg0) : Vec Ideal S16384x4608 .f32) (ix2 row col) = ((given m c).p row.val col.val : EReal)
  g : ∀ (row : Fin 16384) (col : Fin 512),
    (m ((c : Thread nD τ).loc main_arg1) : Vec Ideal S16384x512 .f32) (ix2 row col) = ((given m c).g row.val col.val : EReal)
  e : ∀ (row : Fin 16384) (col : Fin 512),
    (m ((c : Thread nD τ).loc main_arg2) : Vec Ideal S16384x512 .f32) (ix2 row col) = ((given m c).e row.val col.val : EReal)

theorem fin3_of (h : Cert.Pre_KernelIdeal_finite m) : Fin3 m c where
  p row col hc := by
    refine (finite0 _ _ _ _ (h c).1 row col hc).trans ?_
    exact congrArg _ (reals_apply (m ((c : Thread nD τ).loc main_arg0) : Vec Ideal S16384x4608 .f32) row col).symm
  g row col := by
    refine (finite1 _ _ _ _ (h c).2.1 row col).trans ?_
    exact congrArg _ (reals_apply (m ((c : Thread nD τ).loc main_arg1) : Vec Ideal S16384x512 .f32) row col).symm
  e row col := by
    refine (finite2 _ _ _ _ (h c).2.2 row col).trans ?_
    exact congrArg _ (reals_apply (m ((c : Thread nD τ).loc main_arg2) : Vec Ideal S16384x512 .f32) row col).symm

variable {m c W}
variable (h0 : W (Proc.devRef .tc Cert.ReferenceIdeal.main_arg0) = m (c, Proc.devRef .tc main_arg0))
  (h1 : W (Proc.devRef .tc Cert.ReferenceIdeal.main_arg1) = m (c, Proc.devRef .tc main_arg1))
  (h2 : W (Proc.devRef .tc Cert.ReferenceIdeal.main_arg2) = m (c, Proc.devRef .tc main_arg2))
  (h3 : W (Proc.devRef .tc Cert.ReferenceIdeal.main_arg3) = m (c, Proc.devRef .tc main_arg3))

include h0 h1 h2 in
theorem args_given (hf : Fin3 m c) : Args W (given m c) where
  p := ⟨_, h0, hf.p⟩
  g := ⟨_, h1, hf.g⟩
  e := ⟨_, h2, hf.e⟩

include h0 h1 h2 in
theorem args_filled (hf : Fin3 m c) : Args W (filled W (given m c)) where
  p := ⟨_, h0, hf.p⟩
  g := ⟨_, h1, hf.g⟩
  e := ⟨_, h2, hf.e⟩

include h0 h1 h2 in
theorem agrees_filled (hf : Fin3 m c) : Agrees m c (filled W (given m c)) where
  p row col hc := by rw [← ix2_eq_valueIdx]; exact hf.p row col hc
  g row col := by rw [← ix2_eq_valueIdx]; exact hf.g row col
  e row col := by rw [← ix2_eq_valueIdx]; exact hf.e row col
  o := ⟨_, host_out m c W h0, fun row col => by
    rw [← ix2_eq_valueIdx]; exact Ref.out_at (args_given h0 h1 h2 hf) row col _ _⟩
  l := ⟨_, host_lse m c W h0, fun row col => by
    rw [← ix2_eq_valueIdx]; exact Ref.lse_at (args_given h0 h1 h2 hf) row col _ _ _ _ _⟩

include h0 h1 h2 h3 in
/-- The kernel's result array, element by element, is the reference's. -/
theorem equation (hf : Fin3 m c) :
    ((dats m 0 c).arrAt 9 cfg0.N : Vec Ideal S16384x4608 .bf16) = val4 W (Proc.devRef .tc Cert.ReferenceIdeal.main_v175) := by
  funext x
  obtain ⟨row, col, rfl⟩ : ∃ (row : Fin 16384) (col : Fin 4608), x = ix2 row col := ⟨x 0, x 1, eq_ix2 x⟩
  have hk := array9 (agrees_filled h0 h1 h2 hf) row col
  rw [← ix2_eq_valueIdx, entry9] at hk
  refine hk.trans (Eq.trans ?_ (Ref.result_apply (args_filled h0 h1 h2 hf) (filled_saved) _ h3 row col).symm)
  rw [resAt_eq]

end

end Cert.Proof.Run

end
-- ==== Proof.Run.Products.lean ====
/-
  The runs of the further calls.
-/
module

public import proofs.«01_k».proof.Proof.Gen.Gwd.Frame
public import proofs.«01_k».proof.Proof.Gen.GwdIdeal.Value
public import proofs.«01_k».proof.Proof.Gen.GwdRefIdeal.Run
public import proofs.«01_k».proof.Proof.Gen.GwdRefIdeal.Read
public import proofs.«01_k».proof.Proof.Gen.Gwgu.Frame
public import proofs.«01_k».proof.Proof.Gen.GwguIdeal.Value
public import proofs.«01_k».proof.Proof.Gen.GwguRefIdeal.Run
public import proofs.«01_k».proof.Proof.Gen.GwguRefIdeal.Read
public import proofs.«01_k».proof.Proof.Gen.Dhn.Frame
public import proofs.«01_k».proof.Proof.Gen.DhnIdeal.Value
public import proofs.«01_k».proof.Proof.Gen.DhnRefIdeal.Run
public import proofs.«01_k».proof.Proof.Gen.DhnRefIdeal.Read
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import proofs.«01_k».proof.Proof.Gen.Dgu.Frame
public import proofs.«01_k».proof.Proof.Gen.DguIdeal.Value
public import proofs.«01_k».proof.Proof.Gen.DguRefIdeal.Run
public import proofs.«01_k».proof.Proof.Gen.DguRefIdeal.Read
public import proofs.«01_k».proof.Proof.Gen.Gwb.Frame
public import proofs.«01_k».proof.Proof.Gen.GwbIdeal.Value
public import proofs.«01_k».proof.Proof.Gen.GwbRefIdeal.Run
public import proofs.«01_k».proof.Proof.Gen.GwbRefIdeal.Read
public import proofs.«01_k».proof.Proof.Gen.Dub.Frame
public import proofs.«01_k».proof.Proof.Gen.DubIdeal.Value
public import proofs.«01_k».proof.Proof.Gen.DubRefIdeal.Run
public import proofs.«01_k».proof.Proof.Gen.DubRefIdeal.Read
public import proofs.«01_k».proof.Proof.Gen.Gwout.Frame
public import proofs.«01_k».proof.Proof.Gen.GwoutIdeal.Value
public import proofs.«01_k».proof.Proof.Gen.GwoutRefIdeal.Run
public import proofs.«01_k».proof.Proof.Gen.GwoutRefIdeal.Read
public import proofs.«01_k».proof.Proof.Gen.Dmix.Frame
public import proofs.«01_k».proof.Proof.Gen.DmixIdeal.Value
public import proofs.«01_k».proof.Proof.Gen.DmixRefIdeal.Run
public import proofs.«01_k».proof.Proof.Gen.DmixRefIdeal.Read
public import proofs.«01_k».proof.Proof.Gen.Gwpd.Frame
public import proofs.«01_k».proof.Proof.Gen.GwpdIdeal.Value
public import proofs.«01_k».proof.Proof.Gen.GwpdRefIdeal.Run
public import proofs.«01_k».proof.Proof.Gen.GwpdRefIdeal.Read
public import proofs.«01_k».proof.Proof.Gen.Dod.Frame
public import proofs.«01_k».proof.Proof.Gen.DodIdeal.Value
public import proofs.«01_k».proof.Proof.Gen.DodRefIdeal.Run
public import proofs.«01_k».proof.Proof.Gen.DodRefIdeal.Read
public import proofs.«01_k».proof.Proof.Gen.Gwpa.Frame
public import proofs.«01_k».proof.Proof.Gen.GwpaIdeal.Value
public import proofs.«01_k».proof.Proof.Gen.GwpaRefIdeal.Run
public import proofs.«01_k».proof.Proof.Gen.GwpaRefIdeal.Read
public import proofs.«01_k».proof.Proof.Gen.Dyam.Frame
public import proofs.«01_k».proof.Proof.Gen.DyamIdeal.Value
public import proofs.«01_k».proof.Proof.Gen.DyamRefIdeal.Run
public import proofs.«01_k».proof.Proof.Gen.DyamRefIdeal.Read
public import proofs.«01_k».proof.Proof.Gen.Gu.Frame
public import proofs.«01_k».proof.Proof.Gen.GuIdeal.Value
public import proofs.«01_k».proof.Proof.Gen.GuRefIdeal.Run
public import proofs.«01_k».proof.Proof.Gen.GuRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Pd.Frame
public import proofs.«01_k».proof.Proof.Gen.PdIdeal.Value
public import proofs.«01_k».proof.Proof.Gen.PdRefIdeal.Run
public import proofs.«01_k».proof.Proof.Gen.PdRefIdeal.Read
public import proofs.«01_k».proof.Proof.Gen.Pa.Frame
public import proofs.«01_k».proof.Proof.Gen.PaIdeal.Value
public import proofs.«01_k».proof.Proof.Gen.PaRefIdeal.Run
public import proofs.«01_k».proof.Proof.Gen.PaRefIdeal.Read
public import proofs.«01_k».proof.Proof.Gen.Rmsb.Frame
public import proofs.«01_k».proof.Proof.Gen.RmsbIdeal.Value
public import proofs.«01_k».proof.Proof.Gen.RmsbRefIdeal.Run
public import proofs.«01_k».proof.Proof.Gen.RmsbRefIdeal.Read
public import proofs.«01_k».proof.Proof.Gen.Mixb.Frame
public import proofs.«01_k».proof.Proof.Gen.MixbIdeal.Value
public import proofs.«01_k».proof.Proof.Gen.MixbRefIdeal.Run
public import proofs.«01_k».proof.Proof.Gen.MixbRefIdeal.Read
public import proofs.«01_k».proof.Proof.Gen.Gwba.Frame
public import proofs.«01_k».proof.Proof.Gen.GwbaIdeal.Value
public import proofs.«01_k».proof.Proof.Gen.GwbaRefIdeal.Run
public import proofs.«01_k».proof.Proof.Gen.GwbaRefIdeal.Read
public import proofs.«01_k».proof.Proof.Gen.Duba.Frame
public import proofs.«01_k».proof.Proof.Gen.DubaIdeal.Value
public import proofs.«01_k».proof.Proof.Gen.DubaRefIdeal.Run
public import proofs.«01_k».proof.Proof.Gen.DubaRefIdeal.Read
public import proofs.«01_k».proof.Proof.Gen.Ba.Frame
public import proofs.«01_k».proof.Proof.Gen.BaIdeal.Value
public import proofs.«01_k».proof.Proof.Gen.BaRefIdeal.Run
public import proofs.«01_k».proof.Proof.Gen.BaRefIdeal.Read

@[expose] public section
-- ==== Proof.Run.Blocks.lean ====
/-
  Sums over consecutive blocks of indices.
-/
module

public import Mathlib.Data.EReal.Basic
public import Mathlib.Algebra.BigOperators.Fin
public import Mathlib.Algebra.BigOperators.Intervals

@[expose] public section

namespace Cert.Proof.Blocks

/-- The sum over the first `s` blocks of `b` indices, with the next block added, is the sum over the first `s + 1` blocks. -/
theorem extend (f : ℕ → EReal) (b s : ℕ) (g : Fin b → EReal) (hg : ∀ k : Fin b, g k = f (b * s + k.val)) :
    ∑ K ∈ Finset.range (b * s), f K + ∑ k : Fin b, g k = ∑ K ∈ Finset.range (b * (s + 1)), f K := by
  have h : ∑ k : Fin b, g k = ∑ k ∈ Finset.range b, f (b * s + k) := by
    rw [Finset.sum_range fun k => f (b * s + k)]
    exact Finset.sum_congr rfl fun k _ => hg k
  rw [h, Nat.mul_succ, Finset.sum_range_add]

/-- The first block alone, added to zero. -/
theorem first (f : ℕ → EReal) (b : ℕ) (g : Fin b → EReal) (hg : ∀ k : Fin b, g k = f (b * 0 + k.val)) :
    0 + ∑ k : Fin b, g k = ∑ K ∈ Finset.range (b * (0 + 1)), f K := by
  have h := extend f b 0 g hg
  rwa [Nat.mul_zero, Finset.sum_range_zero] at h

/-- The sum over all the blocks is the sum over the whole index. -/
theorem whole (f : ℕ → EReal) (n : ℕ) (g : Fin n → EReal) (hg : ∀ k : Fin n, g k = f k.val) :
    ∑ K ∈ Finset.range n, f K = ∑ k : Fin n, g k := by
  rw [Finset.sum_range f]
  exact Finset.sum_congr rfl fun k _ => (hg k).symm

end Cert.Proof.Blocks
-- ==== Proof.Run.GwdValue.lean ====
/-
  What the gradient of the layer's last weights holds after the run: each entry a sum over all tokens.
-/
module

public import proofs.«01_k».proof.Proof.Gen.GwdIdeal.Value
public import proofs.«01_k».proof.Proof.Run.Blocks
public import Idealize.ShloMosaic.Lib.Pointwise
public import Idealize.ShloMosaic.Lib.ValueIdx

@[expose] public section

noncomputable section

namespace Cert.Proof.Gwd

open Cert.GwdIdeal Cert.GwdIdeal.Gen
open Idealize.ShloMosaic Idealize.ShloMosaic.TcCoe Idealize.ShloMosaic.Pointwise
open Idealize.SL.Sem

theorem hz : (![0, 0] : Fin 2 → Nat) = fun _ => 0 := funext fun a => by fin_cases a <;> rfl

/-! ## What a grid point computes -/

section
variable {F : FTy → Type} [FloatOps F]
variable (c : Dev nD) (i : grid0.Coords) (a3 : Memref sig .tc .vmem S1024x1408 .bf16) (h3 : a3.IsWhole)
  (a4 : Memref sig .tc .vmem S1024x1024 .f32) (h4 : a4.IsWhole) (a5 : Memref sig .tc .vmem S1024x1408 .bf16) (h5 : a5.IsWhole)
  (a6 : Memref sig .tc .vmem S1408x1024 .bf16) (h6 : a6.IsWhole) (a7 : Memref sig .tc .vmem S1408x1024 .f32) (h7 : a7.IsWhole)
  (x0 : Vec F S1024x1408 .bf16) (x1 : Vec F S1024x1024 .f32) (x2 : Vec F S1024x1408 .bf16) (xs : Vec F S1408x1024 .f32)

/-- The first point of a block starts the accumulator from zero. -/
theorem scratch_first (hc0 : cond0_0 i) (hc1 : ¬cond0_1 i) :
    sout0_A_0 c i a3 h3 a4 h4 a5 h5 a6 h6 a7 h7 hc0 hc1 x0 x1 x2 = k0_pay2 (k0_pay1 (F := F)) x0 x2 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1408x1024) hz, View.readCov_unit_zero (S := S1408x1024) _ hz]
  simp only [View.readAt_eq_ld, h3.read_unread, h4.read_unread, h5.read_unread, View.ld_unit_zero (S := S1024x1408) hz,
    View.ld_unit_zero (S := S1024x1024) hz]

/-- A later point adds its block to the accumulator. -/
theorem scratch_next (hc0 : ¬cond0_0 i) (hc1 : ¬cond0_1 i) :
    sout0_B_0 c i a3 h3 a4 h4 a5 h5 a6 h6 a7 h7 hc0 hc1 x0 x1 x2 xs = k0_pay2 xs x0 x2 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h5.read_unread, h7.read_unread, View.ld_unit_zero (S := S1024x1408) hz,
    View.ld_unit_zero (S := S1024x1024) hz, View.ld_unit_zero (S := S1408x1024) hz]

/-- The last point of a block writes the accumulator with its own block added. -/
theorem out_last (hc0 : ¬cond0_0 i) (hc1 : cond0_1 i) :
    out0_C_3 c i a3 h3 a4 h4 a5 h5 a6 h6 a7 h7 hc0 hc1 x0 x1 x2 xs = k0_pay3 (k0_pay2 xs x0 x2 x1) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1408x1024) _ hz]
  simp only [View.readAt_eq_ld, h3.read_unread, h4.read_unread, h5.read_unread, h7.read_unread, View.ld_unit_zero (S := S1024x1408) hz,
    View.ld_unit_zero (S := S1024x1024) hz, View.ld_unit_zero (S := S1408x1024) hz]
end

/-! ## Entry by entry -/

/-- The gated activation of one entry. -/
def act (g u : EReal) : EReal := g * Ideal.logistic g * u

theorem pay1_apply (a : Fin 1408) (b : Fin 1024) : k0_pay1 (F := Ideal) (ValueIdx.ix2 a b) = 0 := by
  rw [← ix2_eq_valueIdx]
  pointwise [k0_pay1]

theorem pay2_apply (A : Vec Ideal S1408x1024 .f32) (G U : Vec Ideal S1024x1408 .bf16) (Y : Vec Ideal S1024x1024 .f32)
    (a : Fin 1408) (b : Fin 1024) :
    k0_pay2 A G U Y (ValueIdx.ix2 a b) = A (ValueIdx.ix2 a b)
      + ∑ k : Fin 1024, act (G (ValueIdx.ix2 k a)) (U (ValueIdx.ix2 k a)) * Y (ValueIdx.ix2 k b) := by
  simp only [← ix2_eq_valueIdx]
  pointwise [k0_pay2, act]

theorem pay3_apply (A : Vec Ideal S1408x1024 .f32) (a : Fin 1408) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, 0] := by
  unfold cc0_transform_1; generalize (i 2) = n; generalize (i 1) = h; revert n h; decide
theorem tr2_eq (i : grid0.Coords) : cc0_transform_2 i = ![(i 2).val, 2 + (i 0).val] := by
  unfold cc0_transform_2; generalize (i 2) = n; generalize (i 0) = h; revert n h; decide

theorem coords_val (t : Fin cfg0.N) : (grid0.coords t 0).val = t.val / 16 ∧ (grid0.coords t 2).val = t.val % 16 := by
  revert t; decide

variable (m : (ℓ : Loc nD τ sig) → Buf (Elt Ideal) ℓ) (c : Dev nD)

/-- The gate and the up projection of all tokens. -/
abbrev X : Vec Ideal S16384x5632 .bf16 := m ((c : Thread nD τ).loc main_arg0)
/-- The gradient of the layer's output. -/
abbrev Y : Vec Ideal S16384x1024 .f32 := m ((c : Thread nD τ).loc main_arg1)

theorem iblk0_apply (t : Fin cfg0.N) (k : Fin 1024) (a : Fin 1408) (row : Fin 16384) (col : Fin 5632)
    (hr : row.val = 1024 * (t.val % 16) + k.val) (hc : col.val = 1408 * (t.val / 16) + a.val) :
    (iblk m c 0 t : Vec Ideal S1024x1408 .bf16) (ValueIdx.ix2 k a) = X m c (ValueIdx.ix2 row col) := by
  unfold iblk
  show X m c (((cfg0.win 0).rect t).emb (ValueIdx.ix2 k a)) = _
  congr 1
  funext x
  apply Fin.ext
  refine (Pipeline.Window.rect_emb_val (cfg0.win 0) t (ValueIdx.ix2 k a) x rfl).trans ?_
  obtain ⟨h0, h2⟩ := coords_val t
  match x with
  | ⟨0, _⟩ =>
    show cc0_transform_0 (grid0.coords t) 0 * 1024 + k.val = row.val
    rw [tr0_eq, hr]; show (grid0.coords t 2).val * 1024 + k.val = _; omega
  | ⟨1, _⟩ =>
    show cc0_transform_0 (grid0.coords t) 1 * 1408 + a.val = col.val
    rw [tr0_eq, hc]; show (grid0.coords t 0).val * 1408 + a.val = _; omega

theorem iblk1_apply (t : Fin cfg0.N) (k : Fin 1024) (b : Fin 1024) (row : Fin 16384)
    (hr : row.val = 1024 * (t.val % 16) + k.val) :
    (iblk m c 1 t : Vec Ideal S1024x1024 .f32) (ValueIdx.ix2 k b) = Y m c (ValueIdx.ix2 row b) := by
  unfold iblk
  show Y m c (((cfg0.win 1).rect t).emb (ValueIdx.ix2 k b)) = _
  congr 1
  funext x
  apply Fin.ext
  refine (Pipeline.Window.rect_emb_val (cfg0.win 1) t (ValueIdx.ix2 k b) x rfl).trans ?_
  obtain ⟨h0, h2⟩ := coords_val t
  match x with
  | ⟨0, _⟩ =>
    show cc0_transform_1 (grid0.coords t) 0 * 1024 + k.val = row.val
    rw [tr1_eq, hr]; show (grid0.coords t 2).val * 1024 + k.val = _; omega
  | ⟨1, _⟩ =>
    show cc0_transform_1 (grid0.coords t) 1 * 1024 + b.val = b.val
    rw [tr1_eq]; show 0 * 1024 + b.val = _; omega

theorem iblk2_apply (t : Fin cfg0.N) (k : Fin 1024) (a : Fin 1408) (row : Fin 16384) (col : Fin 5632)
    (hr : row.val = 1024 * (t.val % 16) + k.val) (hc : col.val = 2816 + (1408 * (t.val / 16) + a.val)) :
    (iblk m c 2 t : Vec Ideal S1024x1408 .bf16) (ValueIdx.ix2 k a) = X m c (ValueIdx.ix2 row col) := by
  unfold iblk
  show X m c (((cfg0.win 2).rect t).emb (ValueIdx.ix2 k a)) = _
  congr 1
  funext x
  apply Fin.ext
  refine (Pipeline.Window.rect_emb_val (cfg0.win 2) t (ValueIdx.ix2 k a) x rfl).trans ?_
  obtain ⟨h0, h2⟩ := coords_val t
  match x with
  | ⟨0, _⟩ =>
    show cc0_transform_2 (grid0.coords t) 0 * 1024 + k.val = row.val
    rw [tr2_eq, hr]; show (grid0.coords t 2).val * 1024 + k.val = _; omega
  | ⟨1, _⟩ =>
    show cc0_transform_2 (grid0.coords t) 1 * 1408 + a.val = col.val
    rw [tr2_eq, hc]; show (2 + (grid0.coords t 0).val) * 1408 + a.val = _; omega

/-! ## The sum over the tokens -/

/-- What one token adds to an entry. -/
def entry (r : Fin 2816) (b : Fin 1024) (K : Fin 16384) : EReal :=
  act (X m c (ValueIdx.ix2 K ⟨r.val, by omega⟩)) (X m c (ValueIdx.ix2 K ⟨2816 + r.val, by omega⟩)) * Y m c (ValueIdx.ix2 K b)

/-- The same for any number, zero past the tokens. -/
def term (r : Fin 2816) (b : Fin 1024) (K : ℕ) : EReal := if h : K < 16384 then entry m c r b ⟨K, h⟩ else 0

/-- One point's addend is its block of the sum. -/
theorem block (t : Fin cfg0.N) (a : Fin 1408) (b : Fin 1024) (r : Fin 2816) (hr : r.val = 1408 * (t.val / 16) + a.val) (k : Fin 1024) :
    act ((iblk m c 0 t : Vec Ideal S1024x1408 .bf16) (ValueIdx.ix2 k a)) ((iblk m c 2 t : Vec Ideal S1024x1408 .bf16) (ValueIdx.ix2 k a))
      * (iblk m c 1 t : Vec Ideal S1024x1024 .f32) (ValueIdx.ix2 k b) = term m c r b (1024 * (t.val % 16) + k.val) := by
  have hK : 1024 * (t.val % 16) + k.val < 16384 := by omega
  rw [term, dif_pos hK, entry, iblk0_apply m c t k a ⟨_, hK⟩ ⟨r.val, by omega⟩ rfl hr, iblk1_apply m c t k b ⟨_, hK⟩ rfl,
    iblk2_apply m c t k a ⟨_, hK⟩ ⟨2816 + r.val, by omega⟩ rfl (by show 2816 + r.val = _; omega)]

/-- What the accumulator holds after a point that is not the last of its block. -/
theorem scratch_eq (n : ℕ) : ∀ (h : n < cfg0.N) (_ : ¬n % 16 = 15) (a : Fin 1408) (b : Fin 1024) (r : Fin 2816)
    (_ : r.val = 1408 * (n / 16) + a.val),
    (outsAt0 m c n h).2 (ValueIdx.ix2 a b) = ∑ K ∈ Finset.range (1024 * (n % 16 + 1)), term m c r b K := by
  induction n with
  | zero =>
    intro h hl a b r hr
    rw [outsAt0_A m c ⟨0, h⟩ (Nat.zero_mod _) hl]
    dsimp only
    rw [scratch_first, pay2_apply, pay1_apply]
    exact Blocks.first _ _ _ fun k => block m c ⟨0, h⟩ a b r hr k
  | succ n ih =>
    intro h hl a b r hr
    by_cases h0 : (n + 1) % 16 = 0
    · rw [outsAt0_A m c ⟨n + 1, h⟩ h0 hl]
      dsimp only
      rw [scratch_first, pay2_apply, pay1_apply, h0]
      refine Blocks.first _ _ _ fun k => (block m c ⟨n + 1, h⟩ a b r hr k).trans ?_
      rw [show (⟨n + 1, h⟩ : Fin cfg0.N).val % 16 = 0 from h0]
    · rw [outsAt0_B m c ⟨n + 1, h⟩ h0 hl]
      dsimp only
      rw [scratch_next, pay2_apply]
      have e := ih (Nat.lt_of_succ_lt h) (by omega) a b r (by omega)
      simp only [Nat.add_sub_cancel] at e ⊢
      rw [e, show (n + 1) % 16 = n % 16 + 1 by omega]
      refine Blocks.extend _ _ _ _ fun k => (block m c ⟨n + 1, h⟩ a b r hr k).trans ?_
      rw [show (⟨n + 1, h⟩ : Fin cfg0.N).val % 16 = n % 16 + 1 by show (n + 1) % 16 = _; omega]

/-- What a point that is the last of its block writes. -/
theorem out_eq (t : Fin cfg0.N) (ht : t.val % 16 = 15) (a : Fin 1408) (b : Fin 1024) (r : Fin 2816)
    (hr : r.val = 1408 * (t.val / 16) + a.val) :
    (outsAt0 m c t.val t.isLt).1 (ValueIdx.ix2 a b) = ∑ K : Fin 16384, entry m c r b K := by
  rw [outsAt0_C m c t (by omega) ht]
  dsimp only
  rw [out_last, pay3_apply, pay2_apply, scratch_eq m c (t.val - 1) _ (by omega) a b r (by omega),
    show (t.val - 1) % 16 + 1 = 15 by omega]
  refine (Blocks.extend (term m c r b) 1024 15 _ fun k => (block m c t a b r hr k).trans (by rw [ht])).trans ?_
  exact Blocks.whole (term m c r b) 16384 (entry m c r b) fun K => by
    rw [term, dif_pos K.isLt]

/-- The result after the run. -/
theorem result_eq (r : Fin 2816) (b : Fin 1024) :
    (Value.G3 m c : Vec Ideal S2816x1024 .bf16) (ValueIdx.ix2 r b) = ∑ K : Fin 16384, entry m c r b K := by
  have hp : Value.pt3Of (ValueIdx.ix2 r b) = 16 * (r.val / 1408) + 15 := by
    show 16 * (1 * (r.val / 1408 - 0) + 1 * (b.val / 1024 - 0)) + 15 = _
    omega
  have hlt : Value.pt3Of (ValueIdx.ix2 r b) < cfg0.N := by rw [hp, show cfg0.N = 32 from N_0]; omega
  have hl : Value.loc3Of (ValueIdx.ix2 r b) = ValueIdx.ix2 ⟨r.val % 1408, Nat.mod_lt _ (by decide)⟩ b := by
    funext x
    apply Fin.ext
    match x with
    | ⟨0, _⟩ => rfl
    | ⟨1, _⟩ => show b.val % 1024 = b.val; omega
  unfold Value.G3
  rw [dif_pos hlt, ← Value.outsAt0_sweep m c _ hlt, hl]
  exact out_eq m c ⟨_, hlt⟩ (by show Value.pt3Of _ % 16 = 15; rw [hp]; omega) _ b r
    (by show r.val = 1408 * (Value.pt3Of _ / 16) + r.val % 1408; rw [hp]; omega)

end Cert.Proof.Gwd

end
-- ==== Proof.Run.GwdEquation.lean ====
/-
  The gradient of the layer's last weights: the kernel's result is the reference's.
-/
module

public import proofs.«01_k».proof.Defs
public import proofs.«01_k».proof.Proof.Gen.Gwd
public import proofs.«01_k».proof.Proof.Gen.Gwd.Frame
public import proofs.«01_k».proof.Proof.Gen.GwdRefIdeal
public import proofs.«01_k».proof.Proof.Gen.GwdRefIdeal.Read
public import proofs.«01_k».proof.Proof.Run.GwdValue
public import Idealize.ShloMosaic.Lib.Quiescent

@[expose] public section

noncomputable section

namespace Cert.Proof.Gwd

open Idealize.ShloMosaic Idealize.ShloMosaic.TcCoe Idealize.ShloMosaic.StableHlo Idealize.ShloMosaic.Pointwise Idealize.SL.Sem

section
open Cert.GwdRefIdeal Cert.GwdRefIdeal.Read

/-- The reference's gated activation of one entry. -/
theorem ref_act (x : Vec Ideal S16384x5632 .bf16) (K : Fin 16384) (r : Fin 2816) :
    val_main_v5 (F := Ideal) x (ValueIdx.ix2 K r) =
      act (x (ValueIdx.ix2 K ⟨r.val, by omega⟩)) (x (ValueIdx.ix2 K ⟨2816 + r.val, by omega⟩)) := by
  have e0 : idx_main_v0 (ValueIdx.ix2 K r) = ValueIdx.ix2 K ⟨r.val, by omega⟩ := by
    funext a; match a with
    | ⟨0, _⟩ => rfl
    | ⟨1, _⟩ => rfl
  have e3 : idx_main_v3 (ValueIdx.ix2 K r) = ValueIdx.ix2 K ⟨2816 + r.val, by omega⟩ := by
    funext a; match a with
    | ⟨0, _⟩ => rfl
    | ⟨1, _⟩ => rfl
  simp only [val_main_v5_apply, val_main_v4_apply, val_main_v3_apply, val_main_v2_apply, val_main_v1_apply, val_main_v0_apply,
    val_main_call0_v5_apply, val_main_call0_v4_apply, val_main_call0_v3_apply, val_main_call0_v2_apply, val_main_call0_v1_apply,
    val_main_call0_v0_apply, val_main_call0_cst_apply, val_main_call0_cst_0_apply, e0, e3]
  generalize x (ValueIdx.ix2 K ⟨r.val, by omega⟩) = g
  generalize x (ValueIdx.ix2 K ⟨2816 + r.val, by omega⟩) = u
  pointwise [act, Ideal.logistic]

/-- The reference's result, entry by entry. -/
theorem ref_apply (x : Vec Ideal S16384x5632 .bf16) (y : Vec Ideal S16384x1024 .f32) (r : Fin 2816) (b : Fin 1024) :
    val_main_v10 (F := Ideal) x y (ValueIdx.ix2 r b) = ∑ K : Fin 16384,
      act (x (ValueIdx.ix2 K ⟨r.val, by omega⟩)) (x (ValueIdx.ix2 K ⟨2816 + r.val, by omega⟩)) * y (ValueIdx.ix2 K b) := by
  rw [val_main_v10_apply]
  show val_main_v9 (F := Ideal) x y (ValueIdx.ix2 r b) = _
  rw [val_main_v9_apply, val_main_v8_apply]
  refine Finset.sum_congr rfl fun K _ => ?_
  have el : lidx_main_v8 (idx_main_v9 (ValueIdx.ix2 r b)) K = ValueIdx.ix2 K b := by
    funext a; match a with
    | ⟨0, _⟩ => rfl
    | ⟨1, _⟩ => rfl
  have er : ridx_main_v8 (idx_main_v9 (ValueIdx.ix2 r b)) K = ValueIdx.ix2 K r := by
    funext a; match a with
    | ⟨0, _⟩ => rfl
    | ⟨1, _⟩ => rfl
  rw [el, er, ref_act, mul_comm]

end

/-- The reference ends, its arguments unchanged and every counter zero. -/
theorem quiescent_reference : Cert.quiescent_GwdRefIdeal := fun m g _ =>
  (θ_run _ _ _).mono (fun r h => ⟨fun c => (h c).2, sem_eq_zero_of_no_sems (by decide) r.2⟩) (Cert.GwdRefIdeal.Value.run m g)

/-- The kernel's result is the reference's, entry by entry. -/
theorem algebraic : Cert.algebraic_GwdIdeal_GwdRefIdeal := fun m g m' g' _ ha =>
  ⟨fun c => Cert.GwdIdeal.Value.G3 m c, Cert.GwdIdeal.Value.run m g,
    (θ_run _ _ _).mono (fun _ h c => ⟨(h c).1.trans (by
      rw [Cert.GwdRefIdeal.Read.val_main_v10_eq, (ha c).1, (ha c).2]
      funext i
      obtain ⟨r, b, rfl⟩ : ∃ (r : Fin 2816) (b : Fin 1024), i = ValueIdx.ix2 r b := ⟨i 0, i 1, (ValueIdx.eq_ix2 i)⟩
      exact (ref_apply _ _ r b).trans (result_eq m c r b).symm), (h c).2⟩) (Cert.GwdRefIdeal.Value.run m' g')⟩

end Cert.Proof.Gwd

end
-- ==== Proof.Run.GwguValue.lean ====
/-
  The gradient of the gate and up projection weights: what the kernel leaves, entry by entry.
-/
module

public import proofs.«01_k».proof.Proof.Gen.GwguIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwgu

open Cert.GwguIdeal Cert.GwguIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S2048x1024 .bf16) (h3 : a3.IsWhole) (a4 : Memref sig .tc .vmem S2048x1408 .bf16) (h4 : a4.IsWhole) (a5 : Memref sig .tc .vmem S1024x1408 .bf16) (h5 : a5.IsWhole) (a6 : Memref sig .tc .vmem S1024x1408 .f32) (h6 : a6.IsWhole)
  (x0 : Vec F S2048x1024 .bf16) (x1 : Vec F S2048x1408 .bf16) (xs : Vec F S1024x1408 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- A later point adds its block to the accumulator. -/
theorem scratch_next (hc0 : ¬cond0_0 i) (hc1 : ¬cond0_1 i) :
    sout0_B_0 c i a3 h3 a4 h4 a5 h5 a6 h6 hc0 hc1 x0 x1 xs = k0_pay2 xs x0 x1 := by
  frame_out

/-- The last point of a block writes the accumulator with its own block added. -/
theorem out_last (hc0 : ¬cond0_0 i) (hc1 : cond0_1 i) :
    out0_C_2 c i a3 h3 a4 h4 a5 h5 a6 h6 hc0 hc1 x0 x1 xs = k0_pay3 (k0_pay2 xs x0 x1) := by
  frame_out

end

/-! ## Entry by entry -/

theorem pay1_apply (a : Fin 1024) (b : Fin 1408) : k0_pay1 (F := Ideal) (ValueIdx.ix2 a b) = 0 := by
  rw [← ix2_eq_valueIdx]
  pointwise [k0_pay1]

theorem pay2_apply (A : Vec Ideal S1024x1408 .f32) (G : Vec Ideal S2048x1024 .bf16) (Y : Vec Ideal S2048x1408 .bf16) (a : Fin 1024) (b : Fin 1408) :
    k0_pay2 A G Y (ValueIdx.ix2 a b) = A (ValueIdx.ix2 a b) + ∑ k : Fin 2048, G (ValueIdx.ix2 k a) * Y (ValueIdx.ix2 k b) := by
  simp only [← ix2_eq_valueIdx]
  pointwise [k0_pay2]

theorem pay3_apply (A : Vec Ideal S1024x1408 .f32) (a : Fin 1024) (b : Fin 1408) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, (i 1).val] := by
  unfold cc0_transform_1; generalize (i 2) = n; generalize (i 1) = h; revert n h; decide

theorem coords_val (t : Fin cfg0.N) : (grid0.coords t 0).val = 0 ∧ (grid0.coords t 1).val = (t.val / 8) ∧ (grid0.coords t 2).val = (t.val % 8) := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S16384x5632 .bf16 := m ((c : Thread nD τ).loc main_arg1)

theorem iblk0_apply (t : Fin cfg0.N) (p : Fin 2048) (q : Fin 1024) (row : Fin 16384) (col : Fin 1024)
    (hr : row.val = 2048 * (t.val % 8) + p.val) (hc : col.val = 1024 * 0 + q.val) :
    (iblk m c 0 t : Vec Ideal S2048x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 2048 + p.val = row.val
    rw [tr0_eq, hr]; show (grid0.coords t 2).val * 2048 + p.val = _; rw [h2] <;> omega
  | ⟨1, _⟩ =>
    show cc0_transform_0 (grid0.coords t) 1 * 1024 + q.val = col.val
    rw [tr0_eq, hc]; show (grid0.coords t 0).val * 1024 + q.val = _; rw [h0] <;> omega

theorem iblk1_apply (t : Fin cfg0.N) (p : Fin 2048) (q : Fin 1408) (row : Fin 16384) (col : Fin 5632)
    (hr : row.val = 2048 * (t.val % 8) + p.val) (hc : col.val = 1408 * (t.val / 8) + q.val) :
    (iblk m c 1 t : Vec Ideal S2048x1408 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 2048 + p.val = row.val
    rw [tr1_eq, hr]; show (grid0.coords t 2).val * 2048 + p.val = _; rw [h2] <;> omega
  | ⟨1, _⟩ =>
    show cc0_transform_1 (grid0.coords t) 1 * 1408 + q.val = col.val
    rw [tr1_eq, hc]; show (grid0.coords t 1).val * 1408 + q.val = _; rw [h1] <;> omega

/-! ## The sum -/

/-- One addend of an entry. -/
def entry (r : Fin 1024) (s : Fin 5632) (K : Fin 16384) : EReal := X m c (ValueIdx.ix2 K r) * Y m c (ValueIdx.ix2 K s)

/-- The same for any number, zero past the last. -/
def term (r : Fin 1024) (s : Fin 5632) (K : ℕ) : EReal := if h : K < 16384 then entry m c r s ⟨K, h⟩ else 0

/-- One point's addend is its block of the sum. -/
theorem block (t : Fin cfg0.N) (a : Fin 1024) (b : Fin 1408) (r : Fin 1024) (s : Fin 5632)
    (hr : r.val = 1024 * 0 + a.val) (hs : s.val = 1408 * (t.val / 8) + b.val) (k : Fin 2048) :
    @HMul.hMul EReal EReal EReal _ ((iblk m c 0 t : Vec Ideal S2048x1024 .bf16) (ValueIdx.ix2 k a)) ((iblk m c 1 t : Vec Ideal S2048x1408 .bf16) (ValueIdx.ix2 k b)) = term m c r s (2048 * (t.val % 8) + k.val) := by
  have hK : 2048 * (t.val % 8) + k.val < 16384 := by omega
  rw [term, dif_pos hK, entry, iblk0_apply m c t k a ⟨_, hK⟩ r rfl hr, iblk1_apply m c t k b ⟨_, hK⟩ s rfl hs]

/-- What the accumulator holds after a point that is not the last of its block. -/
theorem scratch_eq (n : ℕ) : ∀ (h : n < cfg0.N) (_ : ¬n % 8 = 7) (a : Fin 1024) (b : Fin 1408) (r : Fin 1024) (s : Fin 5632)
    (_ : r.val = 1024 * 0 + a.val) (_ : s.val = 1408 * (n / 8) + b.val),
    (outsAt0 m c n h).2 (ValueIdx.ix2 a b) = ∑ K ∈ Finset.range (2048 * ((n % 8) + 1)), term m c r s K := by
  induction n with
  | zero =>
    intro h hl a b r s hr hs
    rw [outsAt0_A m c ⟨0, h⟩ (Nat.zero_mod _) hl]
    dsimp only
    rw [scratch_first, pay2_apply, pay1_apply]
    exact Blocks.first _ _ _ fun k => block m c ⟨0, h⟩ a b r s hr hs k
  | succ n ih =>
    intro h hl a b r s hr hs
    by_cases h0 : (n + 1) % 8 = 0
    · rw [outsAt0_A m c ⟨n + 1, h⟩ h0 hl]
      dsimp only
      rw [scratch_first, pay2_apply, pay1_apply, h0]
      refine Blocks.first _ _ _ fun k => (block m c ⟨n + 1, h⟩ a b r s hr hs k).trans ?_
      rw [show (⟨n + 1, h⟩ : Fin cfg0.N).val % 8 = 0 from h0]
    · rw [outsAt0_B m c ⟨n + 1, h⟩ h0 hl]
      dsimp only
      rw [scratch_next, pay2_apply]
      have e := ih (Nat.lt_of_succ_lt h) (by omega) a b r s (by omega) (by omega)
      simp only [Nat.add_sub_cancel] at e ⊢
      rw [e, show (n + 1) % 8 = n % 8 + 1 by omega]
      refine Blocks.extend _ _ _ _ fun k => (block m c ⟨n + 1, h⟩ a b r s hr hs k).trans ?_
      rw [show (⟨n + 1, h⟩ : Fin cfg0.N).val % 8 = n % 8 + 1 by show (n + 1) % 8 = _; omega]

/-- What a point that is the last of its block writes. -/
theorem out_eq (t : Fin cfg0.N) (ht : t.val % 8 = 7) (a : Fin 1024) (b : Fin 1408) (r : Fin 1024) (s : Fin 5632)
    (hr : r.val = 1024 * 0 + a.val) (hs : s.val = 1408 * (t.val / 8) + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 8 + 1 = 7 by omega] at e
  rw [outsAt0_C m c t (by omega) ht]
  dsimp only
  rw [out_last, pay3_apply, pay2_apply, e]
  refine (Blocks.extend (term m c r s) 2048 7 _ fun k => (block m c t a b r s hr hs k).trans (by rw [ht])).trans ?_
  exact Blocks.whole (term m c r s) 16384 (entry m c r s) fun K => by
    rw [term, dif_pos K.isLt]

/-- The result after the run. -/
theorem result_eq (r : Fin 1024) (s : Fin 5632) :
    (Value.G2 m c : Vec Ideal S1024x5632 .bf16) (ValueIdx.ix2 r s) = ∑ K : Fin 16384, entry m c r s K := by
  have hp : Value.pt2Of (ValueIdx.ix2 r s) = 8 * (4 * (r.val / 1024) + s.val / 1408) + 7 := by
    show 8 * (4 * (r.val / 1024 - 0) + 1 * (s.val / 1408 - 0)) + 7 = _
    omega
  have hlt : Value.pt2Of (ValueIdx.ix2 r s) < cfg0.N := by rw [hp, show cfg0.N = 32 from N_0]; omega
  have hl : Value.loc2Of (ValueIdx.ix2 r s) = ValueIdx.ix2 ⟨r.val % 1024, Nat.mod_lt _ (by decide)⟩ ⟨s.val % 1408, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 8 = 7; rw [hp]; omega) _ _ r s
    (by show r.val = 1024 * 0 + r.val % 1024; omega)
    (by show s.val = 1408 * (Value.pt2Of (ValueIdx.ix2 r s) / 8) + s.val % 1408; rw [hp]; omega)

end Cert.Proof.Gwgu

end
-- ==== Proof.Run.GwguEquation.lean ====
/-
  The gradient of the gate and up projection weights: the kernel's result is the reference's.
-/
module

public import proofs.«01_k».proof.Defs
public import proofs.«01_k».proof.Proof.Gen.Gwgu
public import proofs.«01_k».proof.Proof.Gen.Gwgu.Frame
public import proofs.«01_k».proof.Proof.Gen.GwguRefIdeal
public import proofs.«01_k».proof.Proof.Gen.GwguRefIdeal.Run
public import proofs.«01_k».proof.Proof.Gen.GwguRefIdeal.Read
public import proofs.«01_k».proof.Proof.Run.GwguValue
public import Idealize.ShloMosaic.Lib.Quiescent

@[expose] public section

noncomputable section

namespace Cert.Proof.Gwgu

open Idealize.ShloMosaic Idealize.ShloMosaic.TcCoe Idealize.ShloMosaic.StableHlo Idealize.ShloMosaic.Pointwise Idealize.SL.Sem

section
open Cert.GwguRefIdeal Cert.GwguRefIdeal.Read

/-- The reference's result, entry by entry. -/
theorem ref_apply (x : Vec Ideal S16384x1024 .bf16) (y : Vec Ideal S16384x5632 .bf16) (r : Fin 1024) (s : Fin 5632) :
    val_main_v6 (F := Ideal) x y (ValueIdx.ix2 r s) = ∑ K : Fin 16384, x (ValueIdx.ix2 K r) * y (ValueIdx.ix2 K s) := by
  rw [val_main_v6_apply]
  show val_main_v5 (F := Ideal) x y (ValueIdx.ix2 r s) = _
  rw [val_main_v5_apply]
  rw [val_main_v4_apply]
  refine Finset.sum_congr rfl fun K _ => ?_
  have el : lidx_main_v4 (idx_main_v5 (ValueIdx.ix2 r s)) K = (ValueIdx.ix2 K s) := by
    funext a; match a with
    | ⟨0, _⟩ => rfl
    | ⟨1, _⟩ => rfl
  have er : ridx_main_v4 (idx_main_v5 (ValueIdx.ix2 r s)) K = (ValueIdx.ix2 K r) := by
    funext a; match a with
    | ⟨0, _⟩ => rfl
    | ⟨1, _⟩ => rfl
  rw [el, er, val_main_v0_apply, val_main_v1_apply]
  exact mul_comm _ _

end

/-- The reference ends, its arguments unchanged and every counter zero. -/
theorem quiescent_reference : Cert.quiescent_GwguRefIdeal := fun m g _ =>
  (θ_run _ _ _).mono (fun r h => ⟨fun c => (h c).2, sem_eq_zero_of_no_sems (by decide) r.2⟩) (Cert.GwguRefIdeal.Value.run m g)

/-- The kernel's result is the reference's, entry by entry. -/
theorem algebraic : Cert.algebraic_GwguIdeal_GwguRefIdeal := fun m g m' g' _ ha =>
  ⟨fun c => Cert.GwguIdeal.Value.G2 m c, Cert.GwguIdeal.Value.run m g,
    (θ_run _ _ _).mono (fun _ h c => ⟨(h c).1.trans (by
      rw [Cert.GwguRefIdeal.Read.val_main_v6_eq, (ha c).1, (ha c).2]
      funext i
      obtain ⟨r, s, rfl⟩ : ∃ (r : Fin 1024) (s : Fin 5632), i = ValueIdx.ix2 r s := ⟨i 0, i 1, (ValueIdx.eq_ix2 i)⟩
      exact (ref_apply _ _ r s).trans (result_eq m c r s).symm), (h c).2⟩) (Cert.GwguRefIdeal.Value.run m' g')⟩

end Cert.Proof.Gwgu

end
-- ==== Proof.Run.DhnValue.lean ====
/-
  The gradient of the feed-forward layer's input: what the kernel leaves, entry by entry.
-/
module

public import proofs.«01_k».proof.Proof.Gen.DhnIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dhn

open Cert.DhnIdeal Cert.DhnIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x2816 .bf16) (h3 : a3.IsWhole) (a4 : Memref sig .tc .vmem S1024x2816 .bf16) (h4 : a4.IsWhole) (a5 : Memref sig .tc .vmem S1024x1024 .f32) (h5 : a5.IsWhole) (a6 : Memref sig .tc .vmem S1024x1024 .f32) (h6 : a6.IsWhole)
  (x0 : Vec F S1024x2816 .bf16) (x1 : Vec F S1024x2816 .bf16) (xs : Vec F S1024x1024 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- The last point of a block writes the accumulator with its own block added. -/
theorem out_last (hc0 : ¬cond0_0 i) (hc1 : cond0_1 i) :
    out0_B_2 c i a3 h3 a4 h4 a5 h5 a6 h6 hc0 hc1 x0 x1 xs = k0_pay2 xs x0 x1 := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x2816 .bf16) (Y : Vec Ideal S1024x2816 .bf16) (a : Fin 1024) (b : Fin 1024) :
    k0_pay2 A G Y (ValueIdx.ix2 a b) = A (ValueIdx.ix2 a b) + ∑ k : Fin 2816, G (ValueIdx.ix2 a k) * Y (ValueIdx.ix2 b k) := by
  simp only [← ix2_eq_valueIdx]
  pointwise [k0_pay2]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide

theorem coords_val (t : Fin cfg0.N) : (grid0.coords t 0).val = (t.val / 2) ∧ (grid0.coords t 1).val = 0 ∧ (grid0.coords t 2).val = (t.val % 2) := by
  revert t; decide

variable (m : (ℓ : Loc nD τ sig) → Buf (Elt Ideal) ℓ) (c : Dev nD)

/-- The left operand. -/
abbrev X : Vec Ideal S16384x5632 .bf16 := m ((c : Thread nD τ).loc main_arg0)
/-- The right operand. -/
abbrev Y : Vec Ideal S1024x5632 .bf16 := m ((c : Thread nD τ).loc main_arg1)

theorem iblk0_apply (t : Fin cfg0.N) (p : Fin 1024) (q : Fin 2816) (row : Fin 16384) (col : Fin 5632)
    (hr : row.val = 1024 * (t.val / 2) + p.val) (hc : col.val = 2816 * (t.val % 2) + q.val) :
    (iblk m c 0 t : Vec Ideal S1024x2816 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 2816 + q.val = col.val
    rw [tr0_eq, hc]; show (grid0.coords t 2).val * 2816 + q.val = _; rw [h2] <;> omega

theorem iblk1_apply (t : Fin cfg0.N) (p : Fin 1024) (q : Fin 2816) (row : Fin 1024) (col : Fin 5632)
    (hr : row.val = 1024 * 0 + p.val) (hc : col.val = 2816 * (t.val % 2) + q.val) :
    (iblk m c 1 t : Vec Ideal S1024x2816 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 1).val * 1024 + p.val = _; rw [h1] <;> omega
  | ⟨1, _⟩ =>
    show cc0_transform_1 (grid0.coords t) 1 * 2816 + q.val = col.val
    rw [tr1_eq, hc]; show (grid0.coords t 2).val * 2816 + q.val = _; rw [h2] <;> omega

/-! ## The sum -/

/-- One addend of an entry. -/
def entry (r : Fin 16384) (s : Fin 1024) (K : Fin 5632) : EReal := X m c (ValueIdx.ix2 r K) * Y m c (ValueIdx.ix2 s K)

/-- The same for any number, zero past the last. -/
def term (r : Fin 16384) (s : Fin 1024) (K : ℕ) : EReal := if h : K < 5632 then entry m c r s ⟨K, h⟩ else 0

/-- One point's addend is its block of the sum. -/
theorem block (t : Fin cfg0.N) (a : Fin 1024) (b : Fin 1024) (r : Fin 16384) (s : Fin 1024)
    (hr : r.val = 1024 * (t.val / 2) + a.val) (hs : s.val = 1024 * 0 + b.val) (k : Fin 2816) :
    @HMul.hMul EReal EReal EReal _ ((iblk m c 0 t : Vec Ideal S1024x2816 .bf16) (ValueIdx.ix2 a k)) ((iblk m c 1 t : Vec Ideal S1024x2816 .bf16) (ValueIdx.ix2 b k)) = term m c r s (2816 * (t.val % 2) + k.val) := by
  have hK : 2816 * (t.val % 2) + k.val < 5632 := by omega
  rw [term, dif_pos hK, entry, iblk0_apply m c t a k r ⟨_, hK⟩ hr rfl, iblk1_apply m c t b k s ⟨_, hK⟩ hs rfl]

/-- What the accumulator holds after the first point of a block. -/
theorem scratch_eq (t : Fin cfg0.N) (ht : t.val % 2 = 0) (a : Fin 1024) (b : Fin 1024) (r : Fin 16384) (s : Fin 1024)
    (hr : r.val = 1024 * (t.val / 2) + a.val) (hs : s.val = 1024 * 0 + b.val) :
    (outsAt0 m c t.val t.isLt).2 (ValueIdx.ix2 a b) = ∑ K ∈ Finset.range (2816 * (0 + 1)), term m c r s K := by
  rw [outsAt0_A m c t ht (by omega)]
  dsimp only
  rw [scratch_first, pay2_apply, pay1_apply]
  exact Blocks.first _ _ _ fun k => (block m c t a b r s hr hs k).trans (by rw [ht])

/-- What a point that is the last of its block writes. -/
theorem out_eq (t : Fin cfg0.N) (ht : t.val % 2 = 1) (a : Fin 1024) (b : Fin 1024) (r : Fin 16384) (s : Fin 1024)
    (hr : r.val = 1024 * (t.val / 2) + a.val) (hs : s.val = 1024 * 0 + b.val) :
    (outsAt0 m c t.val t.isLt).1 (ValueIdx.ix2 a b) = ∑ K : Fin 5632, entry m c r s K := by
  have e := scratch_eq m c ⟨t.val - 1, by omega⟩ (by show (t.val - 1) % 2 = 0; omega) a b r s (by show r.val = 1024 * ((t.val - 1) / 2) + a.val; omega) (by show s.val = 1024 * 0 + b.val; omega)
  dsimp only at e
  rw [outsAt0_B m c t (by omega) ht]
  dsimp only
  rw [out_last, pay2_apply, e]
  refine (Blocks.extend (term m c r s) 2816 1 _ fun k => (block m c t a b r s hr hs k).trans (by rw [ht])).trans ?_
  exact Blocks.whole (term m c r s) 5632 (entry m c r s) fun K => by
    rw [term, dif_pos K.isLt]

/-- The result after the run. -/
theorem result_eq (r : Fin 16384) (s : Fin 1024) :
    (Value.G2 m c : Vec Ideal S16384x1024 .f32) (ValueIdx.ix2 r s) = ∑ K : Fin 5632, entry m c r s K := by
  have hp : Value.pt2Of (ValueIdx.ix2 r s) = 2 * (1 * (r.val / 1024) + s.val / 1024) + 1 := by
    show 2 * (1 * (r.val / 1024 - 0) + 1 * (s.val / 1024 - 0)) + 1 = _
    omega
  have hlt : Value.pt2Of (ValueIdx.ix2 r s) < cfg0.N := by rw [hp, show cfg0.N = 32 from N_0]; omega
  have hl : Value.loc2Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 2 = 1; rw [hp]; omega) _ _ r s
    (by show r.val = 1024 * (Value.pt2Of (ValueIdx.ix2 r s) / 2) + r.val % 1024; rw [hp]; omega)
    (by show s.val = 1024 * 0 + s.val % 1024; omega)

end Cert.Proof.Dhn

end
-- ==== Proof.Run.DhnEquation.lean ====
/-
  The gradient of the feed-forward layer's input: the kernel's result is the reference's.
-/
module

public import proofs.«01_k».proof.Defs
public import proofs.«01_k».proof.Proof.Gen.Dhn
public import proofs.«01_k».proof.Proof.Gen.Dhn.Frame
public import proofs.«01_k».proof.Proof.Gen.DhnRefIdeal
public import proofs.«01_k».proof.Proof.Gen.DhnRefIdeal.Run
public import proofs.«01_k».proof.Proof.Gen.DhnRefIdeal.Read
public import proofs.«01_k».proof.Proof.Run.DhnValue
public import Idealize.ShloMosaic.Lib.Quiescent

@[expose] public section

noncomputable section

namespace Cert.Proof.Dhn

open Idealize.ShloMosaic Idealize.ShloMosaic.TcCoe Idealize.ShloMosaic.StableHlo Idealize.ShloMosaic.Pointwise Idealize.SL.Sem

section
open Cert.DhnRefIdeal Cert.DhnRefIdeal.Read

/-- The reference's result, entry by entry. -/
theorem ref_apply (x : Vec Ideal S16384x5632 .bf16) (y : Vec Ideal S1024x5632 .bf16) (r : Fin 16384) (s : Fin 1024) :
    val_main_v4 (F := Ideal) x y (ValueIdx.ix2 r s) = ∑ K : Fin 5632, x (ValueIdx.ix2 r K) * y (ValueIdx.ix2 s K) := by
  rw [val_main_v4_apply]
  refine Finset.sum_congr rfl fun K _ => ?_
  have el : lidx_main_v4 (ValueIdx.ix2 r s) K = (ValueIdx.ix2 r K) := by
    funext a; match a with
    | ⟨0, _⟩ => rfl
    | ⟨1, _⟩ => rfl
  have er : ridx_main_v4 (ValueIdx.ix2 r s) K = (ValueIdx.ix2 s K) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_DhnRefIdeal := fun m g _ =>
  (θ_run _ _ _).mono (fun r h => ⟨fun c => (h c).2, sem_eq_zero_of_no_sems (by decide) r.2⟩) (Cert.DhnRefIdeal.Value.run m g)

/-- The kernel's result is the reference's, entry by entry. -/
theorem algebraic : Cert.algebraic_DhnIdeal_DhnRefIdeal := fun m g m' g' _ ha =>
  ⟨fun c => Cert.DhnIdeal.Value.G2 m c, Cert.DhnIdeal.Value.run m g,
    (θ_run _ _ _).mono (fun _ h c => ⟨(h c).1.trans (by
      rw [Cert.DhnRefIdeal.Read.val_main_v4_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.DhnRefIdeal.Value.run m' g')⟩

end Cert.Proof.Dhn

end
-- ==== Proof.Run.DactValue.lean ====
/-
  The gradient of the gated activation: what the kernel leaves, entry by entry.
-/
module

public import proofs.«01_k».proof.Proof.Gen.DactIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dact

open Cert.DactIdeal Cert.DactIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .f32) (h3 : a3.IsWhole) (a4 : Memref sig .tc .vmem S2816x1024 .bf16) (h4 : a4.IsWhole) (a5 : Memref sig .tc .vmem S1024x2816 .bf16) (h5 : a5.IsWhole) (a6 : Memref sig .tc .vmem S1024x2816 .f32) (h6 : a6.IsWhole)
  (x0 : Vec F S1024x1024 .f32) (x1 : Vec F S2816x1024 .bf16) (xs : Vec F S1024x2816 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 1024) (b : Fin 2816) : k0_pay1 (F := Ideal) (ValueIdx.ix2 a b) = 0 := by
  rw [← ix2_eq_valueIdx]
  pointwise [k0_pay1]

theorem pay2_apply (A : Vec Ideal S1024x2816 .f32) (G : Vec Ideal S1024x1024 .f32) (Y : Vec Ideal S2816x1024 .bf16) (a : Fin 1024) (b : Fin 2816) :
    k0_pay2 A G Y (ValueIdx.ix2 a b) = A (ValueIdx.ix2 a b) + ∑ k : Fin 1024, G (ValueIdx.ix2 a k) * Y (ValueIdx.ix2 b k) := by
  simp only [← ix2_eq_valueIdx]
  pointwise [k0_pay2]

theorem pay3_apply (A : Vec Ideal S1024x2816 .f32) (a : Fin 1024) (b : Fin 2816) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .f32 := m ((c : Thread nD τ).loc main_arg0)
/-- The right operand. -/
abbrev Y : Vec Ideal S2816x1024 .bf16 := m ((c : Thread nD τ).loc main_arg1)

theorem iblk0_apply (t : Fin cfg0.N) (p : Fin 1024) (q : Fin 1024) (row : Fin 16384) (col : Fin 1024)
    (hr : row.val = 1024 * t.val + p.val) (hc : col.val = 1024 * 0 + q.val) :
    (iblk m c 0 t : Vec Ideal S1024x1024 .f32) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 2816) (q : Fin 1024) (row : Fin 2816) (col : Fin 1024)
    (hr : row.val = 2816 * 0 + p.val) (hc : col.val = 1024 * 0 + q.val) :
    (iblk m c 1 t : Vec Ideal S2816x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 2816 + p.val = row.val
    rw [tr1_eq, hr]; show (grid0.coords t 1).val * 2816 + p.val = _; rw [h1] <;> omega
  | ⟨1, _⟩ =>
    show cc0_transform_1 (grid0.coords t) 1 * 1024 + q.val = col.val
    rw [tr1_eq, hc]; show (grid0.coords t 2).val * 1024 + q.val = _; rw [h2] <;> omega

/-! ## The sum -/

/-- One addend of an entry. -/
def entry (r : Fin 16384) (s : Fin 2816) (K : Fin 1024) : EReal := X m c (ValueIdx.ix2 r K) * Y m c (ValueIdx.ix2 s K)

/-- The same for any number, zero past the last. -/
def term (r : Fin 16384) (s : Fin 2816) (K : ℕ) : EReal := if h : K < 1024 then entry m c r s ⟨K, h⟩ else 0

/-- One point's addend is its block of the sum. -/
theorem block (t : Fin cfg0.N) (a : Fin 1024) (b : Fin 2816) (r : Fin 16384) (s : Fin 2816)
    (hr : r.val = 1024 * t.val + a.val) (hs : s.val = 2816 * 0 + b.val) (k : Fin 1024) :
    @HMul.hMul EReal EReal EReal _ ((iblk m c 0 t : Vec Ideal S1024x1024 .f32) (ValueIdx.ix2 a k)) ((iblk m c 1 t : Vec Ideal S2816x1024 .bf16) (ValueIdx.ix2 b k)) = term m c r s (1024 * 0 + k.val) := by
  have hK : 1024 * 0 + k.val < 1024 := by omega
  rw [term, dif_pos hK, entry, iblk0_apply m c t a k r ⟨_, hK⟩ hr rfl, iblk1_apply m c t b k s ⟨_, hK⟩ hs rfl]

/-- What a point writes. -/
theorem out_eq (t : Fin cfg0.N) (a : Fin 1024) (b : Fin 2816) (r : Fin 16384) (s : Fin 2816)
    (hr : r.val = 1024 * t.val + a.val) (hs : s.val = 2816 * 0 + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 2816) :
    ((dats m 0 c).arrAt 2 cfg0.N : Vec Ideal S16384x2816 .bf16) (ValueIdx.ix2 r s) = ∑ K : Fin 1024, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 2816, Nat.mod_lt _ (by decide)⟩ : Fin 2816))
      = ValueIdx.ix2 r s := by
    funext x
    apply Fin.ext
    refine (Pipeline.Window.rect_emb_val (cfg0.win 2) ⟨_, hlt⟩ (ValueIdx.ix2 (⟨r.val % 1024, _⟩ : Fin 1024) (⟨s.val % 2816, _⟩ : Fin 2816)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 2816 + s.val % 2816 = s.val
      rw [tr2_eq]; show (grid0.coords ⟨_, hlt⟩ 1).val * 2816 + s.val % 2816 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 2816, Nat.mod_lt _ (by decide)⟩ : Fin 2816)))
      = outsAt0 m c ⟨_, hlt⟩ (ValueIdx.ix2 (⟨r.val % 1024, Nat.mod_lt _ (by decide)⟩ : Fin 1024) (⟨s.val % 2816, Nat.mod_lt _ (by decide)⟩ : Fin 2816)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Dact

end
-- ==== Proof.Run.DactEquation.lean ====
/-
  The gradient of the gated activation: the kernel's result is the reference's.
-/
module

public import proofs.«01_k».proof.Defs
public import proofs.«01_k».proof.Proof.Gen.Dact
public import proofs.«01_k».proof.Proof.Gen.Dact.Frame
public import proofs.«01_k».proof.Proof.Gen.DactRefIdeal
public import proofs.«01_k».proof.Proof.Gen.DactRefIdeal.Run
public import proofs.«01_k».proof.Proof.Gen.DactRefIdeal.Read
public import proofs.«01_k».proof.Proof.Run.DactValue
public import Idealize.ShloMosaic.Lib.Quiescent

@[expose] public section

noncomputable section

namespace Cert.Proof.Dact

open Idealize.ShloMosaic Idealize.ShloMosaic.TcCoe Idealize.ShloMosaic.StableHlo Idealize.ShloMosaic.Pointwise Idealize.SL.Sem

section
open Cert.DactRefIdeal Cert.DactRefIdeal.Read

/-- The reference's result, entry by entry. -/
theorem ref_apply (x : Vec Ideal S16384x1024 .f32) (y : Vec Ideal S2816x1024 .bf16) (r : Fin 16384) (s : Fin 2816) :
    val_main_v4 (F := Ideal) x y (ValueIdx.ix2 r s) = ∑ K : Fin 1024, x (ValueIdx.ix2 r K) * y (ValueIdx.ix2 s K) := by
  rw [val_main_v4_apply]
  show val_main_v3 (F := Ideal) x y (ValueIdx.ix2 r s) = _
  rw [val_main_v3_apply]
  refine Finset.sum_congr rfl fun K _ => ?_
  have el : lidx_main_v3 (ValueIdx.ix2 r s) K = (ValueIdx.ix2 r K) := by
    funext a; match a with
    | ⟨0, _⟩ => rfl
    | ⟨1, _⟩ => rfl
  have er : ridx_main_v3 (ValueIdx.ix2 r s) K = (ValueIdx.ix2 s K) := by
    funext a; match a with
    | ⟨0, _⟩ => rfl
    | ⟨1, _⟩ => rfl
  rw [el, er, val_main_v0_apply]
  rfl

end

/-- The reference ends, its arguments unchanged and every counter zero. -/
theorem quiescent_reference : Cert.quiescent_DactRefIdeal := fun m g _ =>
  (θ_run _ _ _).mono (fun r h => ⟨fun c => (h c).2, sem_eq_zero_of_no_sems (by decide) r.2⟩) (Cert.DactRefIdeal.Value.run m g)

/-- The kernel's result is the reference's, entry by entry. -/
theorem algebraic : Cert.algebraic_DactIdeal_DactRefIdeal := fun m g m' g' _ ha =>
  ⟨fun c => (Cert.DactIdeal.Gen.dats m 0 c).arrAt 2 Cert.DactIdeal.cfg0.N, Cert.DactIdeal.Value.run_blocks m g,
    (θ_run _ _ _).mono (fun _ h c => ⟨(h c).1.trans (by
      rw [Cert.DactRefIdeal.Read.val_main_v4_eq, (ha c).1, (ha c).2]
      funext i
      obtain ⟨r, s, rfl⟩ : ∃ (r : Fin 16384) (s : Fin 2816), i = ValueIdx.ix2 r s := ⟨i 0, i 1, (ValueIdx.eq_ix2 i)⟩
      exact (ref_apply _ _ r s).trans (result_eq m c r s).symm), (h c).2⟩) (Cert.DactRefIdeal.Value.run m' g')⟩

end Cert.Proof.Dact

end
-- ==== Proof.Run.DguValue.lean ====
/-
  The gradient of the gate and the up projection: what the kernel leaves, entry by entry.
-/
module

public import proofs.«01_k».proof.Proof.Gen.DguIdeal.Value
public import Idealize.ShloMosaic.Lib.Pointwise
public import Idealize.ShloMosaic.Lib.ValueIdx
public import Idealize.ShloMosaic.Lib.Pipeline.ValueKit

@[expose] public section

noncomputable section

namespace Cert.Proof.Dgu

open Cert.DguIdeal Cert.DguIdeal.Gen
open Idealize.ShloMosaic Idealize.ShloMosaic.TcCoe Idealize.ShloMosaic.Pointwise
open Idealize.SL.Sem

/-! ## One entry of a block -/

/-- The gate's gradient at one entry, of the gate, the up projection and the gradient of their gated product. -/
def gateGrad (g u d : EReal) : EReal :=
  d * u * Ideal.logistic g + g * (d * u) * (Ideal.logistic g * (1 - Ideal.logistic g))

/-- The up projection's gradient at one entry. -/
def upGrad (g d : EReal) : EReal := g * Ideal.logistic g * d

/-- A point writes its payload. -/
theorem out_eq_pay {F : FTy → Type} [FloatOps F] (x0 : Vec F S256x5632 .bf16) (x1 : Vec F S256x2816 .bf16) : out0_2 x0 x1 = k0_pay1 x0 x1 := by
  frame_out

theorem pay_gate (P : Vec Ideal S256x5632 .bf16) (D : Vec Ideal S256x2816 .bf16) (a : Fin 256) (q : Fin 2816) :
    k0_pay1 P D (ValueIdx.ix2 a ⟨q.val, by omega⟩) =
      gateGrad (P (ValueIdx.ix2 a ⟨q.val, by omega⟩)) (P (ValueIdx.ix2 a ⟨2816 + q.val, by omega⟩)) (D (ValueIdx.ix2 a q)) := by
  simp only [← ix2_eq_valueIdx]
  have h : q.val < 2816 := q.isLt
  pointwise [k0_pay1, gateGrad, h]

theorem pay_up (P : Vec Ideal S256x5632 .bf16) (D : Vec Ideal S256x2816 .bf16) (a : Fin 256) (q : Fin 2816) :
    k0_pay1 P D (ValueIdx.ix2 a ⟨2816 + q.val, by omega⟩) =
      upGrad (P (ValueIdx.ix2 a ⟨q.val, by omega⟩)) (D (ValueIdx.ix2 a q)) := by
  simp only [← ix2_eq_valueIdx]
  have h : ¬2816 + q.val < 2816 := by omega
  pointwise [k0_pay1, upGrad, h]

/-! ## Where the blocks lie -/

theorem tr0_eq (i : grid0.Coords) : cc0_transform_0 i = ![(i 0).val, 0] := by
  unfold cc0_transform_0; generalize (i 0) = n; revert n; decide

theorem tr1_eq (i : grid0.Coords) : cc0_transform_1 i = ![(i 0).val, 0] := by
  unfold cc0_transform_1; generalize (i 0) = n; revert n; decide

theorem tr2_eq (i : grid0.Coords) : cc0_transform_2 i = ![(i 0).val, 0] := by
  unfold cc0_transform_2; generalize (i 0) = n; revert n; decide

theorem coords_val (t : Fin cfg0.N) : (grid0.coords t 0).val = t.val := by
  revert t; decide

variable (m : (ℓ : Loc nD τ sig) → Buf (Elt Ideal) ℓ) (c : Dev nD)

/-- The gate and the up projection side by side. -/
abbrev X : Vec Ideal S16384x5632 .bf16 := m ((c : Thread nD τ).loc main_arg0)
/-- The gradient of their gated product. -/
abbrev Y : Vec Ideal S16384x2816 .bf16 := m ((c : Thread nD τ).loc main_arg1)

theorem iblk0_apply (t : Fin cfg0.N) (p : Fin 256) (q : Fin 5632) (row : Fin 16384)
    (hr : row.val = 256 * t.val + p.val) :
    (iblk m c 0 t : Vec Ideal S256x5632 .bf16) (ValueIdx.ix2 p q) = X m c (ValueIdx.ix2 row q) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  match x with
  | ⟨0, _⟩ =>
    show cc0_transform_0 (grid0.coords t) 0 * 256 + p.val = row.val
    rw [tr0_eq, hr]; show (grid0.coords t 0).val * 256 + p.val = _; rw [coords_val]; omega
  | ⟨1, _⟩ =>
    show cc0_transform_0 (grid0.coords t) 1 * 5632 + q.val = q.val
    rw [tr0_eq]; show 0 * 5632 + q.val = _; omega

theorem iblk1_apply (t : Fin cfg0.N) (p : Fin 256) (q : Fin 2816) (row : Fin 16384)
    (hr : row.val = 256 * t.val + p.val) :
    (iblk m c 1 t : Vec Ideal S256x2816 .bf16) (ValueIdx.ix2 p q) = Y m c (ValueIdx.ix2 row q) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  match x with
  | ⟨0, _⟩ =>
    show cc0_transform_1 (grid0.coords t) 0 * 256 + p.val = row.val
    rw [tr1_eq, hr]; show (grid0.coords t 0).val * 256 + p.val = _; rw [coords_val]; omega
  | ⟨1, _⟩ =>
    show cc0_transform_1 (grid0.coords t) 1 * 2816 + q.val = q.val
    rw [tr1_eq]; show 0 * 2816 + q.val = _; omega

/-! ## The result -/

/-- Every point writes its block back. -/
theorem flush_all : ∀ t : Fin cfg0.N, (cfg0.win 2).flush t = true := by decide

set_option maxRecDepth 8192 in
/-- An entry of the result is the entry that the point of its row block writes. -/
theorem result_block (r : Fin 16384) (x : Fin 5632) (hlt : r.val / 256 < cfg0.N) :
    ((dats m 0 c).arrAt 2 cfg0.N : Vec Ideal S16384x5632 .bf16) (ValueIdx.ix2 r x) =
      k0_pay1 (iblk m c 0 ⟨_, hlt⟩) (iblk m c 1 ⟨_, hlt⟩) (ValueIdx.ix2 (⟨r.val % 256, Nat.mod_lt _ (by decide)⟩ : Fin 256) x) := by
  have he : ((cfg0.win 2).rect ⟨_, hlt⟩).emb (ValueIdx.ix2 (⟨r.val % 256, Nat.mod_lt _ (by decide)⟩ : Fin 256) x) = ValueIdx.ix2 r x := by
    funext y
    apply Fin.ext
    refine (Pipeline.Window.rect_emb_val (cfg0.win 2) ⟨_, hlt⟩ (ValueIdx.ix2 (⟨r.val % 256, _⟩ : Fin 256) x) y rfl).trans ?_
    match y with
    | ⟨0, _⟩ =>
      show cc0_transform_2 (grid0.coords ⟨_, hlt⟩) 0 * 256 + r.val % 256 = r.val
      rw [tr2_eq]; show (grid0.coords ⟨_, hlt⟩ 0).val * 256 + r.val % 256 = r.val; rw [coords_val]; dsimp only; omega
    | ⟨1, _⟩ =>
      show cc0_transform_2 (grid0.coords ⟨_, hlt⟩) 1 * 5632 + x.val = x.val
      rw [tr2_eq]; show 0 * 5632 + x.val = x.val; omega
  have h : (dats m 0 c).arrAt 2 cfg0.N (((cfg0.win 2).rect ⟨_, hlt⟩).emb (ValueIdx.ix2 (⟨r.val % 256, Nat.mod_lt _ (by decide)⟩ : Fin 256) x))
      = out0_2 (iblk m c 0 ⟨_, hlt⟩) (iblk m c 1 ⟨_, hlt⟩) (ValueIdx.ix2 (⟨r.val % 256, Nat.mod_lt _ (by decide)⟩ : Fin 256) x) :=
    congrFun ((Value.blocks2 m c ⟨_, hlt⟩ (flush_all _)).trans (Value.flushed2 m c _)) (ValueIdx.ix2 _ _)
  rw [he] at h
  exact h.trans (congrFun (out_eq_pay _ _) _)

/-- The gate's half of the result. -/
theorem result_gate (r : Fin 16384) (q : Fin 2816) :
    ((dats m 0 c).arrAt 2 cfg0.N : Vec Ideal S16384x5632 .bf16) (ValueIdx.ix2 r ⟨q.val, by omega⟩) =
      gateGrad (X m c (ValueIdx.ix2 r ⟨q.val, by omega⟩)) (X m c (ValueIdx.ix2 r ⟨2816 + q.val, by omega⟩)) (Y m c (ValueIdx.ix2 r q)) := by
  have hlt : r.val / 256 < cfg0.N := by rw [show cfg0.N = 64 from N_0]; omega
  have hr : r.val = 256 * (r.val / 256) + r.val % 256 := by omega
  rw [result_block m c r _ hlt, pay_gate, iblk0_apply m c ⟨_, hlt⟩ _ _ r hr, iblk0_apply m c ⟨_, hlt⟩ _ _ r hr, iblk1_apply m c ⟨_, hlt⟩ _ _ r hr]

/-- The up projection's half of the result. -/
theorem result_up (r : Fin 16384) (q : Fin 2816) :
    ((dats m 0 c).arrAt 2 cfg0.N : Vec Ideal S16384x5632 .bf16) (ValueIdx.ix2 r ⟨2816 + q.val, by omega⟩) =
      upGrad (X m c (ValueIdx.ix2 r ⟨q.val, by omega⟩)) (Y m c (ValueIdx.ix2 r q)) := by
  have hlt : r.val / 256 < cfg0.N := by rw [show cfg0.N = 64 from N_0]; omega
  have hr : r.val = 256 * (r.val / 256) + r.val % 256 := by omega
  rw [result_block m c r _ hlt, pay_up, iblk0_apply m c ⟨_, hlt⟩ _ _ r hr, iblk1_apply m c ⟨_, hlt⟩ _ _ r hr]

end Cert.Proof.Dgu

end
-- ==== Proof.Run.DguEquation.lean ====
/-
  The gradient of the gate and the up projection: the kernel's result is the reference's.
-/
module

public import proofs.«01_k».proof.Defs
public import proofs.«01_k».proof.Proof.Gen.Dgu
public import proofs.«01_k».proof.Proof.Gen.Dgu.Frame
public import proofs.«01_k».proof.Proof.Gen.DguRefIdeal
public import proofs.«01_k».proof.Proof.Gen.DguRefIdeal.Run
public import proofs.«01_k».proof.Proof.Gen.DguRefIdeal.Read
public import proofs.«01_k».proof.Proof.Run.DguValue
public import Idealize.ShloMosaic.Lib.Quiescent
public import Idealize.ShloMosaic.Lib.KernelVsHost

@[expose] public section

noncomputable section

namespace Cert.Proof.Dgu

open Idealize.ShloMosaic Idealize.ShloMosaic.TcCoe Idealize.ShloMosaic.StableHlo Idealize.ShloMosaic.Pointwise Idealize.SL.Sem

section
open Cert.DguRefIdeal Cert.DguRefIdeal.Read

variable (x : Vec Ideal S16384x5632 .bf16) (y : Vec Ideal S16384x2816 .bf16) (r : Fin 16384) (q : Fin 2816)

theorem idx1_eq : idx_main_v1 (ValueIdx.ix2 r q) = ValueIdx.ix2 r ⟨q.val, by omega⟩ := by
  funext a; match a with
  | ⟨0, _⟩ => rfl
  | ⟨1, _⟩ => rfl

theorem idx3_eq : idx_main_v3 (ValueIdx.ix2 r q) = ValueIdx.ix2 r ⟨2816 + q.val, by omega⟩ := by
  funext a; match a with
  | ⟨0, _⟩ => rfl
  | ⟨1, _⟩ => rfl

/-- The reference's gradient of the gate, entry by entry. -/
theorem ref_gate_half : val_main_v9 (F := Ideal) x y (ValueIdx.ix2 r q) =
    gateGrad (x (ValueIdx.ix2 r ⟨q.val, by omega⟩)) (x (ValueIdx.ix2 r ⟨2816 + q.val, by omega⟩)) (y (ValueIdx.ix2 r q)) := by
  simp only [val_main_v9_apply, val_main_call1_v2_apply, val_main_call1_v1_apply, val_main_call1_v0_apply, val_main_v7_apply, val_main_v5_apply,
    val_main_v3_apply, val_main_v2_1_apply, val_main_call0_v7_apply, val_main_call0_v6_apply, val_main_call0_cst_1_apply, val_main_v2_2_apply,
    val_main_call0_v4_apply, val_main_call0_v3_apply, val_main_call0_v2_apply, val_main_call0_v1_apply, val_main_call0_v0_apply,
    val_main_call0_cst_apply, val_main_call0_cst_0_apply, val_main_v1_apply, val_main_v0_apply, idx1_eq, idx3_eq]
  generalize x (ValueIdx.ix2 r ⟨q.val, by omega⟩) = g
  generalize x (ValueIdx.ix2 r ⟨2816 + q.val, by omega⟩) = u
  generalize y (ValueIdx.ix2 r q) = d
  pointwise [gateGrad, Ideal.logistic]

/-- The reference's gradient of the up projection, entry by entry. -/
theorem ref_up_half : val_main_v6 (F := Ideal) x y (ValueIdx.ix2 r q) =
    upGrad (x (ValueIdx.ix2 r ⟨q.val, by omega⟩)) (y (ValueIdx.ix2 r q)) := by
  simp only [val_main_v6_apply, val_main_v5_apply, val_main_v2_0_apply, val_main_v2_2_apply,
    val_main_call0_v4_apply, val_main_call0_v3_apply, val_main_call0_v2_apply, val_main_call0_v1_apply, val_main_call0_v0_apply,
    val_main_call0_cst_apply, val_main_call0_cst_0_apply, val_main_v1_apply, val_main_v0_apply, idx1_eq]
  generalize x (ValueIdx.ix2 r ⟨q.val, by omega⟩) = g
  generalize y (ValueIdx.ix2 r q) = d
  pointwise [upGrad, Ideal.logistic]

/-- A half of the reference's result is zero on the other half. -/
theorem up_on_gate : val_main_v8 (F := Ideal) x y (ValueIdx.ix2 r ⟨q.val, by omega⟩) = 0 := by
  unfold val_main_v8
  refine (pad_apply_of_not_inside _ _ _ _ _ _ _ _ (1 : Fin 2) fun h => ?_).trans (by pointwise [val_main_cst])
  have h1 : 2816 ≤ q.val := h.1
  omega

theorem up_on_up : val_main_v8 (F := Ideal) x y (ValueIdx.ix2 r ⟨2816 + q.val, by omega⟩) = val_main_v6 (F := Ideal) x y (ValueIdx.ix2 r q) := by
  unfold val_main_v8
  refine pad_apply_of_inside _ _ _ _ _ _ _ _ (ValueIdx.ix2 r q) fun a => ?_
  match a with
  | ⟨0, _⟩ => show r.val = 0 + r.val * (0 + 1); omega
  | ⟨1, _⟩ => show 2816 + q.val = 2816 + q.val * (0 + 1); omega

theorem gate_on_gate : val_main_v10 (F := Ideal) x y (ValueIdx.ix2 r ⟨q.val, by omega⟩) = val_main_v9 (F := Ideal) x y (ValueIdx.ix2 r q) := by
  unfold val_main_v10
  refine pad_apply_of_inside _ _ _ _ _ _ _ _ (ValueIdx.ix2 r q) fun a => ?_
  match a with
  | ⟨0, _⟩ => show r.val = 0 + r.val * (0 + 1); omega
  | ⟨1, _⟩ => show q.val = 0 + q.val * (0 + 1); omega

theorem gate_on_up : val_main_v10 (F := Ideal) x y (ValueIdx.ix2 r ⟨2816 + q.val, by omega⟩) = 0 := by
  unfold val_main_v10
  refine (pad_apply_of_not_inside _ _ _ _ _ _ _ _ (1 : Fin 2) fun h => ?_).trans (by pointwise [val_main_cst_0])
  have h1 : (2816 + q.val - 0) / (0 + 1) < 2816 := h.2.2
  omega

theorem ref_gate : val_main_v12 (F := Ideal) x y (ValueIdx.ix2 r ⟨q.val, by omega⟩) =
    gateGrad (x (ValueIdx.ix2 r ⟨q.val, by omega⟩)) (x (ValueIdx.ix2 r ⟨2816 + q.val, by omega⟩)) (y (ValueIdx.ix2 r q)) := by
  rw [val_main_v12_apply]
  show val_main_v8 (F := Ideal) x y (ValueIdx.ix2 r ⟨q.val, by omega⟩) + val_main_v10 (F := Ideal) x y (ValueIdx.ix2 r ⟨q.val, by omega⟩) = _
  rw [up_on_gate, gate_on_gate, ref_gate_half, zero_add]

theorem ref_up : val_main_v12 (F := Ideal) x y (ValueIdx.ix2 r ⟨2816 + q.val, by omega⟩) =
    upGrad (x (ValueIdx.ix2 r ⟨q.val, by omega⟩)) (y (ValueIdx.ix2 r q)) := by
  rw [val_main_v12_apply]
  show val_main_v8 (F := Ideal) x y (ValueIdx.ix2 r ⟨2816 + q.val, by omega⟩) + val_main_v10 (F := Ideal) x y (ValueIdx.ix2 r ⟨2816 + q.val, by omega⟩) = _
  rw [up_on_up, gate_on_up, ref_up_half, add_zero]

end

/-- The reference ends, its arguments unchanged and every counter zero. -/
theorem quiescent_reference : Cert.quiescent_DguRefIdeal := fun m g _ =>
  (θ_run _ _ _).mono (fun r h => ⟨fun c => (h c).2, sem_eq_zero_of_no_sems (by decide) r.2⟩) (Cert.DguRefIdeal.Value.run m g)

/-- The kernel's result is the reference's, entry by entry. -/
theorem algebraic : Cert.algebraic_DguIdeal_DguRefIdeal := fun m g m' g' _ ha =>
  ⟨fun c => (Cert.DguIdeal.Gen.dats m 0 c).arrAt 2 Cert.DguIdeal.cfg0.N, Cert.DguIdeal.Value.run_blocks m g,
    (θ_run _ _ _).mono (fun _ h c => ⟨(h c).1.trans (by
      rw [Cert.DguRefIdeal.Read.val_main_v12_eq, (ha c).1, (ha c).2]
      funext i
      obtain ⟨r, s, rfl⟩ : ∃ (r : Fin 16384) (s : Fin 5632), i = ValueIdx.ix2 r s := ⟨i 0, i 1, (ValueIdx.eq_ix2 i)⟩
      by_cases hs : s.val < 2816
      · exact (ref_gate _ _ r ⟨s.val, hs⟩).trans (result_gate m c r ⟨s.val, hs⟩).symm
      · obtain ⟨q, hq⟩ : ∃ q : Fin 2816, s = ⟨2816 + q.val, by omega⟩ := ⟨⟨s.val - 2816, by omega⟩, Fin.ext (by show s.val = 2816 + (s.val - 2816); omega)⟩
        rw [hq]
        exact (ref_up _ _ r q).trans (result_up m c r q).symm), (h c).2⟩) (Cert.DguRefIdeal.Value.run m' g')⟩

end Cert.Proof.Dgu

end
-- ==== Proof.Run.GwbValue.lean ====
/-
  The gradient of the branch projections' weights: what the kernel leaves, entry by entry.
-/
module

public import proofs.«01_k».proof.Proof.Gen.GwbIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwb

open Cert.GwbIdeal Cert.GwbIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole) (a5 : Memref sig .tc .vmem S2048x1024 .bf16) (h5 : a5.IsWhole) (a6 : Memref sig .tc .vmem S2048x1024 .bf16) (h6 : a6.IsWhole) (a7 : Memref sig .tc .vmem S1024x1024 .bf16) (h7 : a7.IsWhole) (a8 : Memref sig .tc .vmem S1024x1024 .f32) (h8 : a8.IsWhole)
  (x0 : Vec F S2048x1024 .bf16) (x1 : Vec F S2048x1024 .bf16) (x2 : Vec F S2048x1024 .bf16) (x3 : Vec F S2048x1024 .bf16) (xs : Vec F S1024x1024 .f32)

/-- The first point of a block on piece 1 starts the accumulator from zero. -/
theorem case_A (hc0 : cond0_0 i) (hc1 : cond0_1 i) (hc2 : ¬cond0_2 i) (hc3 : ¬cond0_3 i) (hc4 : ¬cond0_4 i) :
    sout0_A_0 c i a3 h3 a4 h4 a5 h5 a6 h6 a7 h7 a8 h8 hc0 hc1 hc2 hc3 hc4 x0 x1 x2 x3 = k0_pay2 (k0_pay1 (F := F)) x0 x1 := by
  frame_out

/-- A later point on piece 1 adds its block to the accumulator. -/
theorem case_B (hc0 : ¬cond0_0 i) (hc1 : cond0_1 i) (hc2 : ¬cond0_2 i) (hc3 : ¬cond0_3 i) (hc4 : ¬cond0_4 i) :
    sout0_B_0 c i a3 h3 a4 h4 a5 h5 a6 h6 a7 h7 a8 h8 hc0 hc1 hc2 hc3 hc4 x0 x1 x2 x3 xs = k0_pay2 xs x0 x1 := by
  frame_out

/-- The last point of a block on piece 1 writes the accumulator with its own block added. -/
theorem case_C (hc0 : ¬cond0_0 i) (hc1 : cond0_1 i) (hc2 : ¬cond0_2 i) (hc3 : ¬cond0_3 i) (hc4 : cond0_4 i) :
    out0_C_4 c i a3 h3 a4 h4 a5 h5 a6 h6 a7 h7 a8 h8 hc0 hc1 hc2 hc3 hc4 x0 x1 x2 x3 xs = k0_pay5 (k0_pay2 xs x0 x1) := by
  frame_out

/-- The first point of a block on piece 2 starts the accumulator from zero. -/
theorem case_D (hc0 : cond0_0 i) (hc1 : ¬cond0_1 i) (hc2 : cond0_2 i) (hc3 : ¬cond0_3 i) (hc4 : ¬cond0_4 i) :
    sout0_D_0 c i a3 h3 a4 h4 a5 h5 a6 h6 a7 h7 a8 h8 hc0 hc1 hc2 hc3 hc4 x0 x1 x2 x3 = k0_pay3 (k0_pay1 (F := F)) x0 x2 := by
  frame_out

/-- A later point on piece 2 adds its block to the accumulator. -/
theorem case_E (hc0 : ¬cond0_0 i) (hc1 : ¬cond0_1 i) (hc2 : cond0_2 i) (hc3 : ¬cond0_3 i) (hc4 : ¬cond0_4 i) :
    sout0_E_0 c i a3 h3 a4 h4 a5 h5 a6 h6 a7 h7 a8 h8 hc0 hc1 hc2 hc3 hc4 x0 x1 x2 x3 xs = k0_pay3 xs x0 x2 := by
  frame_out

/-- The last point of a block on piece 2 writes the accumulator with its own block added. -/
theorem case_F (hc0 : ¬cond0_0 i) (hc1 : ¬cond0_1 i) (hc2 : cond0_2 i) (hc3 : ¬cond0_3 i) (hc4 : cond0_4 i) :
    out0_F_4 c i a3 h3 a4 h4 a5 h5 a6 h6 a7 h7 a8 h8 hc0 hc1 hc2 hc3 hc4 x0 x1 x2 x3 xs = k0_pay5 (k0_pay3 xs x0 x2) := by
  frame_out

/-- The first point of a block on piece 3 starts the accumulator from zero. -/
theorem case_G (hc0 : cond0_0 i) (hc1 : ¬cond0_1 i) (hc2 : ¬cond0_2 i) (hc3 : cond0_3 i) (hc4 : ¬cond0_4 i) :
    sout0_G_0 c i a3 h3 a4 h4 a5 h5 a6 h6 a7 h7 a8 h8 hc0 hc1 hc2 hc3 hc4 x0 x1 x2 x3 = k0_pay4 (k0_pay1 (F := F)) x0 x3 := by
  frame_out

/-- A later point on piece 3 adds its block to the accumulator. -/
theorem case_H (hc0 : ¬cond0_0 i) (hc1 : ¬cond0_1 i) (hc2 : ¬cond0_2 i) (hc3 : cond0_3 i) (hc4 : ¬cond0_4 i) :
    sout0_H_0 c i a3 h3 a4 h4 a5 h5 a6 h6 a7 h7 a8 h8 hc0 hc1 hc2 hc3 hc4 x0 x1 x2 x3 xs = k0_pay4 xs x0 x3 := by
  frame_out

/-- The last point of a block on piece 3 writes the accumulator with its own block added. -/
theorem case_I (hc0 : ¬cond0_0 i) (hc1 : ¬cond0_1 i) (hc2 : ¬cond0_2 i) (hc3 : cond0_3 i) (hc4 : cond0_4 i) :
    out0_I_4 c i a3 h3 a4 h4 a5 h5 a6 h6 a7 h7 a8 h8 hc0 hc1 hc2 hc3 hc4 x0 x1 x2 x3 xs = k0_pay5 (k0_pay4 xs x0 x3) := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G Y : Vec Ideal S2048x1024 .bf16) (a : Fin 1024) (b : Fin 1024) :
    k0_pay2 A G Y (ValueIdx.ix2 a b) = A (ValueIdx.ix2 a b) + ∑ k : Fin 2048, G (ValueIdx.ix2 k a) * Y (ValueIdx.ix2 k b) := by
  simp only [← ix2_eq_valueIdx]
  pointwise [k0_pay2]

theorem pay3_apply (A : Vec Ideal S1024x1024 .f32) (G Y : Vec Ideal S2048x1024 .bf16) (a : Fin 1024) (b : Fin 1024) :
    k0_pay3 A G Y (ValueIdx.ix2 a b) = A (ValueIdx.ix2 a b) + ∑ k : Fin 2048, G (ValueIdx.ix2 k a) * Y (ValueIdx.ix2 k b) := by
  simp only [← ix2_eq_valueIdx]
  pointwise [k0_pay3]

theorem pay4_apply (A : Vec Ideal S1024x1024 .f32) (G Y : Vec Ideal S2048x1024 .bf16) (a : Fin 1024) (b : Fin 1024) :
    k0_pay4 A G Y (ValueIdx.ix2 a b) = A (ValueIdx.ix2 a b) + ∑ k : Fin 2048, G (ValueIdx.ix2 k a) * Y (ValueIdx.ix2 k b) := by
  simp only [← ix2_eq_valueIdx]
  pointwise [k0_pay4]

theorem pay5_apply (A : Vec Ideal S1024x1024 .f32) (a : Fin 1024) (b : Fin 1024) :
    k0_pay5 A (ValueIdx.ix2 a b) = A (ValueIdx.ix2 a b) := by
  simp only [← ix2_eq_valueIdx]
  pointwise [k0_pay5]

/-! ## Where the blocks lie -/

theorem tr0_eq (i : grid0.Coords) : cc0_transform_0 i = ![(i 2).val, (i 0).val] := by
  unfold cc0_transform_0; generalize (i 2) = n; generalize (i 0) = h; revert n h; decide

theorem tr1_eq (i : grid0.Coords) (hi : (i 1).val < 3) : cc0_transform_1 i = ![(i 2).val, (i 1).val] := by
  revert hi
  unfold cc0_transform_1; generalize (i 1) = n; generalize (i 2) = h; revert n h; decide

theorem tr2_eq (i : grid0.Coords) (hi : (i 1).val = 3) : cc0_transform_2 i = ![(i 2).val, 0] := by
  revert hi
  unfold cc0_transform_2; generalize (i 1) = n; generalize (i 2) = h; revert n h; decide

theorem tr3_eq (i : grid0.Coords) (hi : (i 1).val ≥ 4) : cc0_transform_3 i = ![(i 2).val, (i 1).val - 4] := by
  revert hi
  unfold cc0_transform_3; generalize (i 1) = n; generalize (i 2) = h; revert n h; decide

theorem coords_val (t : Fin cfg0.N) : (grid0.coords t 0).val = 0 ∧ (grid0.coords t 1).val = (t.val / 8) ∧ (grid0.coords t 2).val = (t.val % 8) := by
  revert t; decide

variable (m : (ℓ : Loc nD τ sig) → Buf (Elt Ideal) ℓ) (c : Dev nD)

/-- The first piece. -/
abbrev P1 : Vec Ideal S16384x3072 .bf16 := m ((c : Thread nD τ).loc main_arg0)
/-- The second piece. -/
abbrev P2 : Vec Ideal S16384x1024 .bf16 := m ((c : Thread nD τ).loc main_arg1)
/-- The third piece. -/
abbrev P3 : Vec Ideal S16384x2048 .bf16 := m ((c : Thread nD τ).loc main_arg2)
/-- The other operand. -/
abbrev U : Vec Ideal S16384x1024 .bf16 := m ((c : Thread nD τ).loc main_arg3)

theorem iblk0_apply (t : Fin cfg0.N) (p : Fin 2048) (q : Fin 1024) (row : Fin 16384) (col : Fin 1024)
    (hr : row.val = 2048 * (t.val % 8) + p.val) (hc : col.val = 1024 * 0 + q.val) :
    (iblk m c 0 t : Vec Ideal S2048x1024 .bf16) (ValueIdx.ix2 p q) = U m c (ValueIdx.ix2 row col) := by
  unfold iblk
  show U m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 2048 + p.val = row.val
    rw [tr0_eq, hr]; show (grid0.coords t 2).val * 2048 + p.val = _; omega
  | ⟨1, _⟩ =>
    show cc0_transform_0 (grid0.coords t) 1 * 1024 + q.val = col.val
    rw [tr0_eq, hc]; show (grid0.coords t 0).val * 1024 + q.val = _; omega

theorem iblk1_apply (t : Fin cfg0.N) (ht : (t.val / 8) < 3) (p : Fin 2048) (q : Fin 1024) (row : Fin 16384) (col : Fin 3072)
    (hr : row.val = 2048 * (t.val % 8) + p.val) (hc : col.val = 1024 * (t.val / 8) + q.val) :
    (iblk m c 1 t : Vec Ideal S2048x1024 .bf16) (ValueIdx.ix2 p q) = P1 m c (ValueIdx.ix2 row col) := by
  unfold iblk
  show P1 m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 2048 + p.val = row.val
    rw [tr1_eq _ (by omega), hr]; show (grid0.coords t 2).val * 2048 + p.val = _; omega
  | ⟨1, _⟩ =>
    show cc0_transform_1 (grid0.coords t) 1 * 1024 + q.val = col.val
    rw [tr1_eq _ (by omega), hc]; show (grid0.coords t 1).val * 1024 + q.val = _; omega

theorem iblk2_apply (t : Fin cfg0.N) (ht : (t.val / 8) = 3) (p : Fin 2048) (q : Fin 1024) (row : Fin 16384) (col : Fin 1024)
    (hr : row.val = 2048 * (t.val % 8) + p.val) (hc : col.val = 1024 * 0 + q.val) :
    (iblk m c 2 t : Vec Ideal S2048x1024 .bf16) (ValueIdx.ix2 p q) = P2 m c (ValueIdx.ix2 row col) := by
  unfold iblk
  show P2 m c (((cfg0.win 2).rect t).emb (ValueIdx.ix2 p q)) = _
  congr 1
  funext x
  apply Fin.ext
  refine (Pipeline.Window.rect_emb_val (cfg0.win 2) t (ValueIdx.ix2 p q) x rfl).trans ?_
  obtain ⟨h0, h1, h2⟩ := coords_val t
  match x with
  | ⟨0, _⟩ =>
    show cc0_transform_2 (grid0.coords t) 0 * 2048 + p.val = row.val
    rw [tr2_eq _ (by omega), hr]; show (grid0.coords t 2).val * 2048 + p.val = _; omega
  | ⟨1, _⟩ =>
    show cc0_transform_2 (grid0.coords t) 1 * 1024 + q.val = col.val
    rw [tr2_eq _ (by omega), hc]; show 0 * 1024 + q.val = _; omega

theorem iblk3_apply (t : Fin cfg0.N) (ht : (t.val / 8) ≥ 4) (p : Fin 2048) (q : Fin 1024) (row : Fin 16384) (col : Fin 2048)
    (hr : row.val = 2048 * (t.val % 8) + p.val) (hc : col.val = 1024 * ((t.val / 8) - 4) + q.val) :
    (iblk m c 3 t : Vec Ideal S2048x1024 .bf16) (ValueIdx.ix2 p q) = P3 m c (ValueIdx.ix2 row col) := by
  unfold iblk
  show P3 m c (((cfg0.win 3).rect t).emb (ValueIdx.ix2 p q)) = _
  congr 1
  funext x
  apply Fin.ext
  refine (Pipeline.Window.rect_emb_val (cfg0.win 3) t (ValueIdx.ix2 p q) x rfl).trans ?_
  obtain ⟨h0, h1, h2⟩ := coords_val t
  match x with
  | ⟨0, _⟩ =>
    show cc0_transform_3 (grid0.coords t) 0 * 2048 + p.val = row.val
    rw [tr3_eq _ (by omega), hr]; show (grid0.coords t 2).val * 2048 + p.val = _; omega
  | ⟨1, _⟩ =>
    show cc0_transform_3 (grid0.coords t) 1 * 1024 + q.val = col.val
    rw [tr3_eq _ (by omega), hc]; show ((grid0.coords t 1).val - 4) * 1024 + q.val = _; omega

/-! ## The sum -/

/-- The three pieces side by side. -/
def joined (q : Fin 16384) (x : Fin 6144) : EReal :=
  if h : x.val < 3072 then P1 m c (ValueIdx.ix2 q ⟨x.val, h⟩)
  else if h' : x.val < 4096 then P2 m c (ValueIdx.ix2 q ⟨x.val - 3072, by omega⟩)
  else P3 m c (ValueIdx.ix2 q ⟨x.val - 4096, by omega⟩)

/-- One addend of an entry. -/
def entry (r : Fin 1024) (s : Fin 6144) (K : Fin 16384) : EReal := U m c (ValueIdx.ix2 K r) * joined m c K s

/-- The same for any number, zero past the last. -/
def term (r : Fin 1024) (s : Fin 6144) (K : ℕ) : EReal := if h : K < 16384 then entry m c r s ⟨K, h⟩ else 0

/-- One point's addend on piece 1 is its block of the sum. -/
theorem block1 (t : Fin cfg0.N) (ht : (t.val / 8) < 3) (a : Fin 1024) (b : Fin 1024) (r : Fin 1024) (s : Fin 6144)
    (hr : r.val = 1024 * 0 + a.val) (hs : s.val = 1024 * (t.val / 8) + b.val) (k : Fin 2048) :
    @HMul.hMul EReal EReal EReal _ ((iblk m c 0 t : Vec Ideal S2048x1024 .bf16) (ValueIdx.ix2 k a)) ((iblk m c 1 t : Vec Ideal S2048x1024 .bf16) (ValueIdx.ix2 k b)) = term m c r s (2048 * (t.val % 8) + k.val) := by
  have hK : 2048 * (t.val % 8) + k.val < 16384 := by omega
  rw [term, dif_pos hK, entry, joined, dif_pos (show s.val < 3072 by omega), iblk0_apply m c t k a ⟨_, hK⟩ r rfl hr, iblk1_apply m c t ht k b ⟨_, hK⟩ ⟨s.val, by omega⟩ rfl (by dsimp only; omega)]

/-- One point's addend on piece 2 is its block of the sum. -/
theorem block2 (t : Fin cfg0.N) (ht : (t.val / 8) = 3) (a : Fin 1024) (b : Fin 1024) (r : Fin 1024) (s : Fin 6144)
    (hr : r.val = 1024 * 0 + a.val) (hs : s.val = 1024 * (t.val / 8) + b.val) (k : Fin 2048) :
    @HMul.hMul EReal EReal EReal _ ((iblk m c 0 t : Vec Ideal S2048x1024 .bf16) (ValueIdx.ix2 k a)) ((iblk m c 2 t : Vec Ideal S2048x1024 .bf16) (ValueIdx.ix2 k b)) = term m c r s (2048 * (t.val % 8) + k.val) := by
  have hK : 2048 * (t.val % 8) + k.val < 16384 := by omega
  rw [term, dif_pos hK, entry, joined, dif_neg (show ¬s.val < 3072 by omega), dif_pos (show s.val < 4096 by omega), iblk0_apply m c t k a ⟨_, hK⟩ r rfl hr, iblk2_apply m c t ht k b ⟨_, hK⟩ ⟨s.val - 3072, by omega⟩ rfl (by dsimp only; omega)]

/-- One point's addend on piece 3 is its block of the sum. -/
theorem block3 (t : Fin cfg0.N) (ht : (t.val / 8) ≥ 4) (a : Fin 1024) (b : Fin 1024) (r : Fin 1024) (s : Fin 6144)
    (hr : r.val = 1024 * 0 + a.val) (hs : s.val = 1024 * (t.val / 8) + b.val) (k : Fin 2048) :
    @HMul.hMul EReal EReal EReal _ ((iblk m c 0 t : Vec Ideal S2048x1024 .bf16) (ValueIdx.ix2 k a)) ((iblk m c 3 t : Vec Ideal S2048x1024 .bf16) (ValueIdx.ix2 k b)) = term m c r s (2048 * (t.val % 8) + k.val) := by
  have hK : 2048 * (t.val % 8) + k.val < 16384 := by omega
  rw [term, dif_pos hK, entry, joined, dif_neg (show ¬s.val < 3072 by omega), dif_neg (show ¬s.val < 4096 by omega), iblk0_apply m c t k a ⟨_, hK⟩ r rfl hr, iblk3_apply m c t ht k b ⟨_, hK⟩ ⟨s.val - 4096, by omega⟩ rfl (by dsimp only; omega)]

/-- The first point of a block. -/
theorem first_eq (t : Fin cfg0.N) (ht : t.val % 8 = 0) (a : Fin 1024) (b : Fin 1024) (r : Fin 1024) (s : Fin 6144)
    (hr : r.val = 1024 * 0 + a.val) (hs : s.val = 1024 * (t.val / 8) + b.val) :
    (outsAt0 m c t.val t.isLt).2 (ValueIdx.ix2 a b) = 0 + ∑ k : Fin 2048, term m c r s (2048 * (t.val % 8) + k.val) := by
  have hN : t.val < 48 := lt_of_lt_of_eq t.isLt N_0
  rcases (show (t.val / 8) < 3 ∨ (t.val / 8) = 3 ∨ (t.val / 8) ≥ 4 by omega) with hj | hj | hj
  · rw [outsAt0_A m c t (by omega) (by omega) (by omega) (by omega) (by omega)]
    dsimp only
    rw [case_A, pay2_apply, pay1_apply]
    exact congrArg (_ + ·) (Finset.sum_congr rfl fun k _ => block1 m c t (by omega) a b r s hr hs k)
  · rw [outsAt0_D m c t (by omega) (by omega) (by omega) (by omega) (by omega)]
    dsimp only
    rw [case_D, pay3_apply, pay1_apply]
    exact congrArg (_ + ·) (Finset.sum_congr rfl fun k _ => block2 m c t (by omega) a b r s hr hs k)
  · rw [outsAt0_G m c t (by omega) (by omega) (by omega) (by omega) (by omega)]
    dsimp only
    rw [case_G, pay4_apply, pay1_apply]
    exact congrArg (_ + ·) (Finset.sum_congr rfl fun k _ => block3 m c t (by omega) a b r s hr hs k)

/-- A point between the first and the last. -/
theorem next_eq (t : Fin cfg0.N) (ht : ¬t.val % 8 = 0) (a : Fin 1024) (b : Fin 1024) (r : Fin 1024) (s : Fin 6144)
    (hr : r.val = 1024 * 0 + a.val) (hs : s.val = 1024 * (t.val / 8) + b.val) (hl : ¬t.val % 8 = 7) :
    (outsAt0 m c t.val t.isLt).2 (ValueIdx.ix2 a b) = (outsAt0 m c (t.val - 1) (Nat.lt_of_le_of_lt (Nat.sub_le _ _) t.isLt)).2 (ValueIdx.ix2 a b) + ∑ k : Fin 2048, term m c r s (2048 * (t.val % 8) + k.val) := by
  have hN : t.val < 48 := lt_of_lt_of_eq t.isLt N_0
  rcases (show (t.val / 8) < 3 ∨ (t.val / 8) = 3 ∨ (t.val / 8) ≥ 4 by omega) with hj | hj | hj
  · rw [outsAt0_B m c t (by omega) (by omega) (by omega) (by omega) (by omega)]
    dsimp only
    rw [case_B, pay2_apply]
    exact congrArg (_ + ·) (Finset.sum_congr rfl fun k _ => block1 m c t (by omega) a b r s hr hs k)
  · rw [outsAt0_E m c t (by omega) (by omega) (by omega) (by omega) (by omega)]
    dsimp only
    rw [case_E, pay3_apply]
    exact congrArg (_ + ·) (Finset.sum_congr rfl fun k _ => block2 m c t (by omega) a b r s hr hs k)
  · rw [outsAt0_H m c t (by omega) (by omega) (by omega) (by omega) (by omega)]
    dsimp only
    rw [case_H, pay4_apply]
    exact congrArg (_ + ·) (Finset.sum_congr rfl fun k _ => block3 m c t (by omega) a b r s hr hs k)

/-- The last point of a block. -/
theorem last_eq (t : Fin cfg0.N) (ht : t.val % 8 = 7) (a : Fin 1024) (b : Fin 1024) (r : Fin 1024) (s : Fin 6144)
    (hr : r.val = 1024 * 0 + a.val) (hs : s.val = 1024 * (t.val / 8) + b.val) :
    (outsAt0 m c t.val t.isLt).1 (ValueIdx.ix2 a b) = (outsAt0 m c (t.val - 1) (Nat.lt_of_le_of_lt (Nat.sub_le _ _) t.isLt)).2 (ValueIdx.ix2 a b) + ∑ k : Fin 2048, term m c r s (2048 * (t.val % 8) + k.val) := by
  have hN : t.val < 48 := lt_of_lt_of_eq t.isLt N_0
  rcases (show (t.val / 8) < 3 ∨ (t.val / 8) = 3 ∨ (t.val / 8) ≥ 4 by omega) with hj | hj | hj
  · rw [outsAt0_C m c t (by omega) (by omega) (by omega) (by omega) (by omega)]
    dsimp only
    rw [case_C, pay5_apply, pay2_apply]
    exact congrArg (_ + ·) (Finset.sum_congr rfl fun k _ => block1 m c t (by omega) a b r s hr hs k)
  · rw [outsAt0_F m c t (by omega) (by omega) (by omega) (by omega) (by omega)]
    dsimp only
    rw [case_F, pay5_apply, pay3_apply]
    exact congrArg (_ + ·) (Finset.sum_congr rfl fun k _ => block2 m c t (by omega) a b r s hr hs k)
  · rw [outsAt0_I m c t (by omega) (by omega) (by omega) (by omega) (by omega)]
    dsimp only
    rw [case_I, pay5_apply, pay4_apply]
    exact congrArg (_ + ·) (Finset.sum_congr rfl fun k _ => block3 m c t (by omega) a b r s hr hs k)

/-- What the accumulator holds after a point that is not the last of its block. -/
theorem scratch_eq (n : ℕ) : ∀ (h : n < cfg0.N) (_ : ¬n % 8 = 7) (a : Fin 1024) (b : Fin 1024) (r : Fin 1024) (s : Fin 6144)
    (_ : r.val = 1024 * 0 + a.val) (_ : s.val = 1024 * (n / 8) + b.val),
    (outsAt0 m c n h).2 (ValueIdx.ix2 a b) = ∑ K ∈ Finset.range (2048 * (n % 8 + 1)), term m c r s K := by
  induction n with
  | zero =>
    intro h hl a b r s hr hs
    exact (first_eq m c ⟨0, h⟩ rfl a b r s hr hs).trans (Blocks.first _ _ _ fun k => rfl)
  | succ n ih =>
    intro h hl a b r s hr hs
    by_cases h0 : (n + 1) % 8 = 0
    · refine (first_eq m c ⟨n + 1, h⟩ h0 a b r s hr hs).trans ?_
      rw [h0]
      exact Blocks.first (term m c r s) 2048 _ fun k => rfl
    · refine (next_eq m c ⟨n + 1, h⟩ h0 a b r s hr hs hl).trans ?_
      have e := ih (Nat.lt_of_succ_lt h) (by omega) a b r s (by omega) (by omega)
      simp only [Nat.add_sub_cancel] at e ⊢
      rw [e, show (n + 1) % 8 = n % 8 + 1 by omega]
      exact Blocks.extend (term m c r s) 2048 (n % 8 + 1) _ fun k => rfl

/-- What a point that is the last of its block writes. -/
theorem out_eq (t : Fin cfg0.N) (ht : t.val % 8 = 7) (a : Fin 1024) (b : Fin 1024) (r : Fin 1024) (s : Fin 6144)
    (hr : r.val = 1024 * 0 + a.val) (hs : s.val = 1024 * (t.val / 8) + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 8 + 1 = 7 by omega] at e
  rw [last_eq m c t ht a b r s hr hs, e]
  refine (Blocks.extend (term m c r s) 2048 7 _ fun k => by rw [ht]).trans ?_
  exact Blocks.whole (term m c r s) 16384 (entry m c r s) fun K => by
    rw [term, dif_pos K.isLt]

/-- The result after the run. -/
theorem result_eq (r : Fin 1024) (s : Fin 6144) :
    (Value.G4 m c : Vec Ideal S1024x6144 .bf16) (ValueIdx.ix2 r s) = ∑ K : Fin 16384, entry m c r s K := by
  have hp : Value.pt4Of (ValueIdx.ix2 r s) = 8 * (6 * (r.val / 1024) + s.val / 1024) + 7 := by
    show 8 * (6 * (r.val / 1024 - 0) + 1 * (s.val / 1024 - 0)) + 7 = _
    omega
  have hlt : Value.pt4Of (ValueIdx.ix2 r s) < cfg0.N := by rw [hp, show cfg0.N = 48 from N_0]; omega
  have hl : Value.loc4Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G4
  rw [dif_pos hlt, ← Value.outsAt0_sweep m c _ hlt, hl]
  exact out_eq m c ⟨_, hlt⟩ (by show Value.pt4Of _ % 8 = 7; rw [hp]; omega) _ _ r s
    (by show r.val = 1024 * 0 + r.val % 1024; omega)
    (by show s.val = 1024 * (Value.pt4Of (ValueIdx.ix2 r s) / 8) + s.val % 1024; rw [hp]; omega)

end Cert.Proof.Gwb

end
-- ==== Proof.Run.GwbEquation.lean ====
/-
  The gradient of the branch projections' weights: the kernel's result is the reference's.
-/
module

public import proofs.«01_k».proof.Defs
public import proofs.«01_k».proof.Proof.Gen.Gwb
public import proofs.«01_k».proof.Proof.Gen.Gwb.Frame
public import proofs.«01_k».proof.Proof.Gen.GwbRefIdeal
public import proofs.«01_k».proof.Proof.Gen.GwbRefIdeal.Run
public import proofs.«01_k».proof.Proof.Gen.GwbRefIdeal.Read
public import proofs.«01_k».proof.Proof.Run.GwbValue
public import Idealize.ShloMosaic.Lib.Quiescent
public import Idealize.ShloMosaic.Lib.Pipeline.Value

@[expose] public section

noncomputable section

namespace Cert.Proof.Gwb

open Idealize.ShloMosaic Idealize.ShloMosaic.TcCoe Idealize.ShloMosaic.StableHlo Idealize.ShloMosaic.Pointwise Idealize.SL.Sem

section
open Cert.GwbRefIdeal Cert.GwbRefIdeal.Read

/-- Three pieces side by side, entry by entry. -/
def beside (x0 : Vec Ideal S16384x3072 .bf16) (x1 : Vec Ideal S16384x1024 .bf16) (x2 : Vec Ideal S16384x2048 .bf16) (q : Fin 16384) (x : Fin 6144) : EReal :=
  if h : x.val < 3072 then x0 (ValueIdx.ix2 q ⟨x.val, h⟩)
  else if h' : x.val < 4096 then x1 (ValueIdx.ix2 q ⟨x.val - 3072, by omega⟩)
  else x2 (ValueIdx.ix2 q ⟨x.val - 4096, by omega⟩)

/-- The reference's joined operand, entry by entry. -/
theorem ref_joined (x0 : Vec Ideal S16384x3072 .bf16) (x1 : Vec Ideal S16384x1024 .bf16) (x2 : Vec Ideal S16384x2048 .bf16) (q : Fin 16384) (x : Fin 6144) :
    val_main_v9 (F := Ideal) x0 x1 x2 (ValueIdx.ix2 q x) = beside x0 x1 x2 q x := by
  unfold val_main_v9 beside
  split
  · next h =>
    exact concatenate_apply_piece (t := S16384x6144) 1 _ _ (ValueIdx.ix2 q x) 0 (by show 0 < 3; decide) S16384x3072 (val_main_v1 (F := Ideal) x0) rfl rfl 0 rfl
      (ValueIdx.ix2 q ⟨x.val, h⟩) (fun b hb => by match b with | ⟨0, _⟩ => rfl | ⟨1, _⟩ => exact absurd rfl hb) (by show 0 + x.val = x.val; omega)
  · split
    · next h h' =>
      exact concatenate_apply_piece (t := S16384x6144) 1 _ _ (ValueIdx.ix2 q x) 1 (by show 1 < 3; decide) S16384x1024 (val_main_v2 (F := Ideal) x1) rfl rfl 3072 rfl
        (ValueIdx.ix2 q ⟨x.val - 3072, by omega⟩) (fun b hb => by match b with | ⟨0, _⟩ => rfl | ⟨1, _⟩ => exact absurd rfl hb) (by show 3072 + (x.val - 3072) = x.val; omega)
    · next h h' =>
      exact concatenate_apply_piece (t := S16384x6144) 1 _ _ (ValueIdx.ix2 q x) 2 (by show 2 < 3; decide) S16384x2048 (val_main_v3 (F := Ideal) x2) rfl rfl 4096 rfl
        (ValueIdx.ix2 q ⟨x.val - 4096, by omega⟩) (fun b hb => by match b with | ⟨0, _⟩ => rfl | ⟨1, _⟩ => exact absurd rfl hb) (by show 4096 + (x.val - 4096) = x.val; omega)

/-- The reference's result, entry by entry. -/
theorem ref_apply (x0 : Vec Ideal S16384x3072 .bf16) (x1 : Vec Ideal S16384x1024 .bf16) (x2 : Vec Ideal S16384x2048 .bf16) (u : Vec Ideal S16384x1024 .bf16) (r : Fin 1024) (s : Fin 6144) :
    val_main_v12 (F := Ideal) x0 x1 x2 u (ValueIdx.ix2 r s) = ∑ K : Fin 16384, u (ValueIdx.ix2 K r) * beside x0 x1 x2 K s := by
  rw [val_main_v12_apply]
  show val_main_v11 (F := Ideal) x0 x1 x2 u (ValueIdx.ix2 r s) = _
  rw [val_main_v11_apply, val_main_v10_apply]
  refine Finset.sum_congr rfl fun K _ => ?_
  have el : lidx_main_v10 (idx_main_v11 (ValueIdx.ix2 r s)) K = (ValueIdx.ix2 K s) := by
    funext a; match a with
    | ⟨0, _⟩ => rfl
    | ⟨1, _⟩ => rfl
  have er : ridx_main_v10 (idx_main_v11 (ValueIdx.ix2 r s)) K = (ValueIdx.ix2 K r) := by
    funext a; match a with
    | ⟨0, _⟩ => rfl
    | ⟨1, _⟩ => rfl
  rw [el, er, ref_joined, val_main_v0_apply]
  exact mul_comm _ _

end

/-- The reference ends, its arguments unchanged and every counter zero. -/
theorem quiescent_reference : Cert.quiescent_GwbRefIdeal := fun m g _ =>
  (θ_run _ _ _).mono (fun r h => ⟨fun c => (h c).2, sem_eq_zero_of_no_sems (by decide) r.2⟩) (Cert.GwbRefIdeal.Value.run m g)

/-- The kernel's result is the reference's, entry by entry. -/
theorem algebraic : Cert.algebraic_GwbIdeal_GwbRefIdeal := fun m g m' g' _ ha =>
  ⟨fun c => Cert.GwbIdeal.Value.G4 m c, Cert.GwbIdeal.Value.run m g,
    (θ_run _ _ _).mono (fun _ h c => ⟨(h c).1.trans (by
      rw [Cert.GwbRefIdeal.Read.val_main_v12_eq, (ha c).1, (ha c).2.1, (ha c).2.2.1, (ha c).2.2.2]
      funext i
      obtain ⟨r, s, rfl⟩ : ∃ (r : Fin 1024) (s : Fin 6144), i = ValueIdx.ix2 r s := ⟨i 0, i 1, (ValueIdx.eq_ix2 i)⟩
      exact (ref_apply _ _ _ _ r s).trans (result_eq m c r s).symm), (h c).2⟩) (Cert.GwbRefIdeal.Value.run m' g')⟩

end Cert.Proof.Gwb

end
-- ==== Proof.Run.DubValue.lean ====
/-
  The gradient of the branches' input: what the kernel leaves, entry by entry.
-/
module

public import proofs.«01_k».proof.Proof.Gen.DubIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dub

open Cert.DubIdeal Cert.DubIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole)
  (x0 : Vec F S1024x1024 .bf16) (x1 : Vec F S1024x1024 .bf16) (x2 : Vec F S1024x1024 .bf16) (x3 : Vec F S1024x1024 .bf16) (x4 : Vec F S1024x1024 .f32) (xs : Vec F S1024x1024 .f32)

/-- The first point of a block on piece 1 starts the accumulator from zero. -/
theorem case_A (hc0 : cond0_0 i) (hc1 : cond0_1 i) (hc2 : ¬cond0_2 i) (hc3 : ¬cond0_3 i) (hc4 : ¬cond0_4 i) :
    sout0_A_0 c i a3 h3 a4 h4 a5 h5 a6 h6 a7 h7 a8 h8 a9 h9 hc0 hc1 hc2 hc3 hc4 x0 x1 x2 x3 x4 = k0_pay2 (k0_pay1 (F := F)) x1 x0 := by
  frame_out

/-- A later point on piece 1 adds its block to the accumulator. -/
theorem case_B (hc0 : ¬cond0_0 i) (hc1 : cond0_1 i) (hc2 : ¬cond0_2 i) (hc3 : ¬cond0_3 i) (hc4 : ¬cond0_4 i) :
    sout0_B_0 c i a3 h3 a4 h4 a5 h5 a6 h6 a7 h7 a8 h8 a9 h9 hc0 hc1 hc2 hc3 hc4 x0 x1 x2 x3 x4 xs = k0_pay2 xs x1 x0 := by
  frame_out

/-- A later point on piece 2 adds its block to the accumulator. -/
theorem case_C (hc0 : ¬cond0_0 i) (hc1 : ¬cond0_1 i) (hc2 : cond0_2 i) (hc3 : ¬cond0_3 i) (hc4 : ¬cond0_4 i) :
    sout0_C_0 c i a3 h3 a4 h4 a5 h5 a6 h6 a7 h7 a8 h8 a9 h9 hc0 hc1 hc2 hc3 hc4 x0 x1 x2 x3 x4 xs = k0_pay3 xs x2 x0 := by
  frame_out

/-- A later point on piece 3 adds its block to the accumulator. -/
theorem case_D (hc0 : ¬cond0_0 i) (hc1 : ¬cond0_1 i) (hc2 : ¬cond0_2 i) (hc3 : cond0_3 i) (hc4 : ¬cond0_4 i) :
    sout0_D_0 c i a3 h3 a4 h4 a5 h5 a6 h6 a7 h7 a8 h8 a9 h9 hc0 hc1 hc2 hc3 hc4 x0 x1 x2 x3 x4 xs = k0_pay4 xs x3 x0 := by
  frame_out

/-- The last point of a block on piece 3 writes the accumulator with its own block added. -/
theorem case_E (hc0 : ¬cond0_0 i) (hc1 : ¬cond0_1 i) (hc2 : ¬cond0_2 i) (hc3 : cond0_3 i) (hc4 : cond0_4 i) :
    out0_E_5 c i a3 h3 a4 h4 a5 h5 a6 h6 a7 h7 a8 h8 a9 h9 hc0 hc1 hc2 hc3 hc4 x0 x1 x2 x3 x4 xs = k0_pay5 (k0_pay4 xs x3 x0) x4 := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G Y : Vec Ideal S1024x1024 .bf16) (a : Fin 1024) (b : Fin 1024) :
    k0_pay2 A G Y (ValueIdx.ix2 a b) = A (ValueIdx.ix2 a b) + ∑ k : Fin 1024, G (ValueIdx.ix2 a k) * Y (ValueIdx.ix2 b k) := by
  simp only [← ix2_eq_valueIdx]
  pointwise [k0_pay2]

theorem pay3_apply (A : Vec Ideal S1024x1024 .f32) (G Y : Vec Ideal S1024x1024 .bf16) (a : Fin 1024) (b : Fin 1024) :
    k0_pay3 A G Y (ValueIdx.ix2 a b) = A (ValueIdx.ix2 a b) + ∑ k : Fin 1024, G (ValueIdx.ix2 a k) * Y (ValueIdx.ix2 b k) := by
  simp only [← ix2_eq_valueIdx]
  pointwise [k0_pay3]

theorem pay4_apply (A : Vec Ideal S1024x1024 .f32) (G Y : Vec Ideal S1024x1024 .bf16) (a : Fin 1024) (b : Fin 1024) :
    k0_pay4 A G Y (ValueIdx.ix2 a b) = A (ValueIdx.ix2 a b) + ∑ k : Fin 1024, G (ValueIdx.ix2 a k) * Y (ValueIdx.ix2 b k) := by
  simp only [← ix2_eq_valueIdx]
  pointwise [k0_pay4]

theorem pay5_apply (A R : Vec Ideal S1024x1024 .f32) (a : Fin 1024) (b : Fin 1024) :
    k0_pay5 A R (ValueIdx.ix2 a b) = A (ValueIdx.ix2 a b) + R (ValueIdx.ix2 a b) := by
  simp only [← ix2_eq_valueIdx]
  pointwise [k0_pay5]

/-! ## Where the blocks lie -/

theorem tr0_eq (i : grid0.Coords) : cc0_transform_0 i = ![(i 1).val, (i 2).val] := by
  unfold cc0_transform_0; generalize (i 1) = n; generalize (i 2) = h; revert n h; decide

theorem tr1_eq (i : grid0.Coords) (hi : (i 2).val < 3) : cc0_transform_1 i = ![(i 0).val, (i 2).val] := by
  revert hi
  unfold cc0_transform_1; generalize (i 2) = n; generalize (i 0) = h; revert n h; decide

theorem tr2_eq (i : grid0.Coords) (hi : (i 2).val = 3) : cc0_transform_2 i = ![(i 0).val, 0] := by
  revert hi
  unfold cc0_transform_2; generalize (i 2) = n; generalize (i 0) = h; revert n h; decide

theorem tr3_eq (i : grid0.Coords) (hi : (i 2).val ≥ 4) : cc0_transform_3 i = ![(i 0).val, (i 2).val - 4] := by
  revert hi
  unfold cc0_transform_3; generalize (i 2) = n; generalize (i 0) = h; revert n h; decide

theorem tr4_eq (i : grid0.Coords) : cc0_transform_4 i = ![(i 0).val, (i 1).val] := by
  unfold cc0_transform_4; generalize (i 0) = n; generalize (i 1) = h; revert n h; decide

theorem coords_val (t : Fin cfg0.N) : (grid0.coords t 0).val = (t.val / 6) ∧ (grid0.coords t 1).val = 0 ∧ (grid0.coords t 2).val = (t.val % 6) := by
  revert t; decide

variable (m : (ℓ : Loc nD τ sig) → Buf (Elt Ideal) ℓ) (c : Dev nD)

/-- The first piece. -/
abbrev P1 : Vec Ideal S16384x3072 .bf16 := m ((c : Thread nD τ).loc main_arg0)
/-- The second piece. -/
abbrev P2 : Vec Ideal S16384x1024 .bf16 := m ((c : Thread nD τ).loc main_arg1)
/-- The third piece. -/
abbrev P3 : Vec Ideal S16384x2048 .bf16 := m ((c : Thread nD τ).loc main_arg2)
/-- The other operand. -/
abbrev U : Vec Ideal S1024x6144 .bf16 := m ((c : Thread nD τ).loc main_arg3)
/-- What is added. -/
abbrev R : Vec Ideal S16384x1024 .f32 := m ((c : Thread nD τ).loc main_arg4)

theorem iblk0_apply (t : Fin cfg0.N) (p : Fin 1024) (q : Fin 1024) (row : Fin 1024) (col : Fin 6144)
    (hr : row.val = 1024 * 0 + p.val) (hc : col.val = 1024 * (t.val % 6) + q.val) :
    (iblk m c 0 t : Vec Ideal S1024x1024 .bf16) (ValueIdx.ix2 p q) = U m c (ValueIdx.ix2 row col) := by
  unfold iblk
  show U m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 1).val * 1024 + p.val = _; omega
  | ⟨1, _⟩ =>
    show cc0_transform_0 (grid0.coords t) 1 * 1024 + q.val = col.val
    rw [tr0_eq, hc]; show (grid0.coords t 2).val * 1024 + q.val = _; omega

theorem iblk1_apply (t : Fin cfg0.N) (ht : (t.val % 6) < 3) (p : Fin 1024) (q : Fin 1024) (row : Fin 16384) (col : Fin 3072)
    (hr : row.val = 1024 * (t.val / 6) + p.val) (hc : col.val = 1024 * (t.val % 6) + q.val) :
    (iblk m c 1 t : Vec Ideal S1024x1024 .bf16) (ValueIdx.ix2 p q) = P1 m c (ValueIdx.ix2 row col) := by
  unfold iblk
  show P1 m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq _ (by omega), hr]; show (grid0.coords t 0).val * 1024 + p.val = _; omega
  | ⟨1, _⟩ =>
    show cc0_transform_1 (grid0.coords t) 1 * 1024 + q.val = col.val
    rw [tr1_eq _ (by omega), hc]; show (grid0.coords t 2).val * 1024 + q.val = _; omega

theorem iblk2_apply (t : Fin cfg0.N) (ht : (t.val % 6) = 3) (p : Fin 1024) (q : Fin 1024) (row : Fin 16384) (col : Fin 1024)
    (hr : row.val = 1024 * (t.val / 6) + p.val) (hc : col.val = 1024 * 0 + q.val) :
    (iblk m c 2 t : Vec Ideal S1024x1024 .bf16) (ValueIdx.ix2 p q) = P2 m c (ValueIdx.ix2 row col) := by
  unfold iblk
  show P2 m c (((cfg0.win 2).rect t).emb (ValueIdx.ix2 p q)) = _
  congr 1
  funext x
  apply Fin.ext
  refine (Pipeline.Window.rect_emb_val (cfg0.win 2) t (ValueIdx.ix2 p q) x rfl).trans ?_
  obtain ⟨h0, h1, h2⟩ := coords_val t
  match x with
  | ⟨0, _⟩ =>
    show cc0_transform_2 (grid0.coords t) 0 * 1024 + p.val = row.val
    rw [tr2_eq _ (by omega), hr]; show (grid0.coords t 0).val * 1024 + p.val = _; omega
  | ⟨1, _⟩ =>
    show cc0_transform_2 (grid0.coords t) 1 * 1024 + q.val = col.val
    rw [tr2_eq _ (by omega), hc]; show 0 * 1024 + q.val = _; omega

theorem iblk3_apply (t : Fin cfg0.N) (ht : (t.val % 6) ≥ 4) (p : Fin 1024) (q : Fin 1024) (row : Fin 16384) (col : Fin 2048)
    (hr : row.val = 1024 * (t.val / 6) + p.val) (hc : col.val = 1024 * ((t.val % 6) - 4) + q.val) :
    (iblk m c 3 t : Vec Ideal S1024x1024 .bf16) (ValueIdx.ix2 p q) = P3 m c (ValueIdx.ix2 row col) := by
  unfold iblk
  show P3 m c (((cfg0.win 3).rect t).emb (ValueIdx.ix2 p q)) = _
  congr 1
  funext x
  apply Fin.ext
  refine (Pipeline.Window.rect_emb_val (cfg0.win 3) t (ValueIdx.ix2 p q) x rfl).trans ?_
  obtain ⟨h0, h1, h2⟩ := coords_val t
  match x with
  | ⟨0, _⟩ =>
    show cc0_transform_3 (grid0.coords t) 0 * 1024 + p.val = row.val
    rw [tr3_eq _ (by omega), hr]; show (grid0.coords t 0).val * 1024 + p.val = _; omega
  | ⟨1, _⟩ =>
    show cc0_transform_3 (grid0.coords t) 1 * 1024 + q.val = col.val
    rw [tr3_eq _ (by omega), hc]; show ((grid0.coords t 2).val - 4) * 1024 + q.val = _; omega

theorem iblk4_apply (t : Fin cfg0.N) (p : Fin 1024) (q : Fin 1024) (row : Fin 16384) (col : Fin 1024)
    (hr : row.val = 1024 * (t.val / 6) + p.val) (hc : col.val = 1024 * 0 + q.val) :
    (iblk m c 4 t : Vec Ideal S1024x1024 .f32) (ValueIdx.ix2 p q) = R m c (ValueIdx.ix2 row col) := by
  unfold iblk
  show R m c (((cfg0.win 4).rect t).emb (ValueIdx.ix2 p q)) = _
  congr 1
  funext x
  apply Fin.ext
  refine (Pipeline.Window.rect_emb_val (cfg0.win 4) t (ValueIdx.ix2 p q) x rfl).trans ?_
  obtain ⟨h0, h1, h2⟩ := coords_val t
  match x with
  | ⟨0, _⟩ =>
    show cc0_transform_4 (grid0.coords t) 0 * 1024 + p.val = row.val
    rw [tr4_eq, hr]; show (grid0.coords t 0).val * 1024 + p.val = _; omega
  | ⟨1, _⟩ =>
    show cc0_transform_4 (grid0.coords t) 1 * 1024 + q.val = col.val
    rw [tr4_eq, hc]; show (grid0.coords t 1).val * 1024 + q.val = _; omega

/-! ## The sum -/

/-- The three pieces side by side. -/
def joined (q : Fin 16384) (x : Fin 6144) : EReal :=
  if h : x.val < 3072 then P1 m c (ValueIdx.ix2 q ⟨x.val, h⟩)
  else if h' : x.val < 4096 then P2 m c (ValueIdx.ix2 q ⟨x.val - 3072, by omega⟩)
  else P3 m c (ValueIdx.ix2 q ⟨x.val - 4096, by omega⟩)

/-- One addend of an entry. -/
def entry (r : Fin 16384) (s : Fin 1024) (K : Fin 6144) : EReal := joined m c r K * U m c (ValueIdx.ix2 s K)

/-- The same for any number, zero past the last. -/
def term (r : Fin 16384) (s : Fin 1024) (K : ℕ) : EReal := if h : K < 6144 then entry m c r s ⟨K, h⟩ else 0

/-- One point's addend on piece 1 is its block of the sum. -/
theorem block1 (t : Fin cfg0.N) (ht : (t.val % 6) < 3) (a : Fin 1024) (b : Fin 1024) (r : Fin 16384) (s : Fin 1024)
    (hr : r.val = 1024 * (t.val / 6) + a.val) (hs : s.val = 1024 * 0 + b.val) (k : Fin 1024) :
    @HMul.hMul EReal EReal EReal _ ((iblk m c 1 t : Vec Ideal S1024x1024 .bf16) (ValueIdx.ix2 a k)) ((iblk m c 0 t : Vec Ideal S1024x1024 .bf16) (ValueIdx.ix2 b k)) = term m c r s (1024 * (t.val % 6) + k.val) := by
  have hK : 1024 * (t.val % 6) + k.val < 6144 := by omega
  rw [term, dif_pos hK, entry, joined, dif_pos (show 1024 * (t.val % 6) + k.val < 3072 by omega), iblk0_apply m c t b k s ⟨_, hK⟩ hs rfl, iblk1_apply m c t ht a k r ⟨1024 * (t.val % 6) + k.val, by omega⟩ hr (by dsimp only)]

/-- One point's addend on piece 2 is its block of the sum. -/
theorem block2 (t : Fin cfg0.N) (ht : (t.val % 6) = 3) (a : Fin 1024) (b : Fin 1024) (r : Fin 16384) (s : Fin 1024)
    (hr : r.val = 1024 * (t.val / 6) + a.val) (hs : s.val = 1024 * 0 + b.val) (k : Fin 1024) :
    @HMul.hMul EReal EReal EReal _ ((iblk m c 2 t : Vec Ideal S1024x1024 .bf16) (ValueIdx.ix2 a k)) ((iblk m c 0 t : Vec Ideal S1024x1024 .bf16) (ValueIdx.ix2 b k)) = term m c r s (1024 * (t.val % 6) + k.val) := by
  have hK : 1024 * (t.val % 6) + k.val < 6144 := by omega
  rw [term, dif_pos hK, entry, joined, dif_neg (show ¬1024 * (t.val % 6) + k.val < 3072 by omega), dif_pos (show 1024 * (t.val % 6) + k.val < 4096 by omega), iblk0_apply m c t b k s ⟨_, hK⟩ hs rfl, iblk2_apply m c t ht a k r ⟨1024 * (t.val % 6) + k.val - 3072, by omega⟩ hr (by dsimp only; omega)]

/-- One point's addend on piece 3 is its block of the sum. -/
theorem block3 (t : Fin cfg0.N) (ht : (t.val % 6) ≥ 4) (a : Fin 1024) (b : Fin 1024) (r : Fin 16384) (s : Fin 1024)
    (hr : r.val = 1024 * (t.val / 6) + a.val) (hs : s.val = 1024 * 0 + b.val) (k : Fin 1024) :
    @HMul.hMul EReal EReal EReal _ ((iblk m c 3 t : Vec Ideal S1024x1024 .bf16) (ValueIdx.ix2 a k)) ((iblk m c 0 t : Vec Ideal S1024x1024 .bf16) (ValueIdx.ix2 b k)) = term m c r s (1024 * (t.val % 6) + k.val) := by
  have hK : 1024 * (t.val % 6) + k.val < 6144 := by omega
  rw [term, dif_pos hK, entry, joined, dif_neg (show ¬1024 * (t.val % 6) + k.val < 3072 by omega), dif_neg (show ¬1024 * (t.val % 6) + k.val < 4096 by omega), iblk0_apply m c t b k s ⟨_, hK⟩ hs rfl, iblk3_apply m c t ht a k r ⟨1024 * (t.val % 6) + k.val - 4096, by omega⟩ hr (by dsimp only; omega)]

/-- The first point of a block. -/
theorem first_eq (t : Fin cfg0.N) (ht : t.val % 6 = 0) (a : Fin 1024) (b : Fin 1024) (r : Fin 16384) (s : Fin 1024)
    (hr : r.val = 1024 * (t.val / 6) + a.val) (hs : s.val = 1024 * 0 + b.val) :
    (outsAt0 m c t.val t.isLt).2 (ValueIdx.ix2 a b) = 0 + ∑ k : Fin 1024, term m c r s (1024 * (t.val % 6) + k.val) := by
  have hN : t.val < 96 := lt_of_lt_of_eq t.isLt N_0
  rw [outsAt0_A m c t (by omega) (by omega) (by omega) (by omega) (by omega)]
  dsimp only
  rw [case_A, pay2_apply, pay1_apply]
  exact congrArg (_ + ·) (Finset.sum_congr rfl fun k _ => block1 m c t (by omega) a b r s hr hs k)

/-- A point between the first and the last. -/
theorem next_eq (t : Fin cfg0.N) (ht : ¬t.val % 6 = 0) (a : Fin 1024) (b : Fin 1024) (r : Fin 16384) (s : Fin 1024)
    (hr : r.val = 1024 * (t.val / 6) + a.val) (hs : s.val = 1024 * 0 + b.val) (hl : ¬t.val % 6 = 5) :
    (outsAt0 m c t.val t.isLt).2 (ValueIdx.ix2 a b) = (outsAt0 m c (t.val - 1) (Nat.lt_of_le_of_lt (Nat.sub_le _ _) t.isLt)).2 (ValueIdx.ix2 a b) + ∑ k : Fin 1024, term m c r s (1024 * (t.val % 6) + k.val) := by
  have hN : t.val < 96 := lt_of_lt_of_eq t.isLt N_0
  rcases (show (t.val % 6) < 3 ∨ (t.val % 6) = 3 ∨ (t.val % 6) ≥ 4 by omega) with hj | hj | hj
  · rw [outsAt0_B m c t (by omega) (by omega) (by omega) (by omega) (by omega)]
    dsimp only
    rw [case_B, pay2_apply]
    exact congrArg (_ + ·) (Finset.sum_congr rfl fun k _ => block1 m c t (by omega) a b r s hr hs k)
  · rw [outsAt0_C m c t (by omega) (by omega) (by omega) (by omega) (by omega)]
    dsimp only
    rw [case_C, pay3_apply]
    exact congrArg (_ + ·) (Finset.sum_congr rfl fun k _ => block2 m c t (by omega) a b r s hr hs k)
  · rw [outsAt0_D m c t (by omega) (by omega) (by omega) (by omega) (by omega)]
    dsimp only
    rw [case_D, pay4_apply]
    exact congrArg (_ + ·) (Finset.sum_congr rfl fun k _ => block3 m c t (by omega) a b r s hr hs k)

/-- The last point of a block. -/
theorem last_eq (t : Fin cfg0.N) (ht : t.val % 6 = 5) (a : Fin 1024) (b : Fin 1024) (r : Fin 16384) (s : Fin 1024)
    (hr : r.val = 1024 * (t.val / 6) + a.val) (hs : s.val = 1024 * 0 + b.val) :
    (outsAt0 m c t.val t.isLt).1 (ValueIdx.ix2 a b) = (outsAt0 m c (t.val - 1) (Nat.lt_of_le_of_lt (Nat.sub_le _ _) t.isLt)).2 (ValueIdx.ix2 a b) + ∑ k : Fin 1024, term m c r s (1024 * (t.val % 6) + k.val) + R m c (ValueIdx.ix2 r s) := by
  have hN : t.val < 96 := lt_of_lt_of_eq t.isLt N_0
  rw [outsAt0_E m c t (by omega) (by omega) (by omega) (by omega) (by omega)]
  dsimp only
  rw [case_E, pay5_apply, pay4_apply, iblk4_apply m c t a b r s hr hs]
  exact congrArg (_ + · + _) (Finset.sum_congr rfl fun k _ => block3 m c t (by omega) a b r s hr hs k)

/-- What the accumulator holds after a point that is not the last of its block. -/
theorem scratch_eq (n : ℕ) : ∀ (h : n < cfg0.N) (_ : ¬n % 6 = 5) (a : Fin 1024) (b : Fin 1024) (r : Fin 16384) (s : Fin 1024)
    (_ : r.val = 1024 * (n / 6) + a.val) (_ : s.val = 1024 * 0 + b.val),
    (outsAt0 m c n h).2 (ValueIdx.ix2 a b) = ∑ K ∈ Finset.range (1024 * (n % 6 + 1)), term m c r s K := by
  induction n with
  | zero =>
    intro h hl a b r s hr hs
    exact (first_eq m c ⟨0, h⟩ rfl a b r s hr hs).trans (Blocks.first _ _ _ fun k => rfl)
  | succ n ih =>
    intro h hl a b r s hr hs
    by_cases h0 : (n + 1) % 6 = 0
    · refine (first_eq m c ⟨n + 1, h⟩ h0 a b r s hr hs).trans ?_
      rw [h0]
      exact Blocks.first (term m c r s) 1024 _ fun k => rfl
    · refine (next_eq m c ⟨n + 1, h⟩ h0 a b r s hr hs hl).trans ?_
      have e := ih (Nat.lt_of_succ_lt h) (by omega) a b r s (by omega) (by omega)
      simp only [Nat.add_sub_cancel] at e ⊢
      rw [e, show (n + 1) % 6 = n % 6 + 1 by omega]
      exact Blocks.extend (term m c r s) 1024 (n % 6 + 1) _ fun k => rfl

/-- What a point that is the last of its block writes. -/
theorem out_eq (t : Fin cfg0.N) (ht : t.val % 6 = 5) (a : Fin 1024) (b : Fin 1024) (r : Fin 16384) (s : Fin 1024)
    (hr : r.val = 1024 * (t.val / 6) + a.val) (hs : s.val = 1024 * 0 + b.val) :
    (outsAt0 m c t.val t.isLt).1 (ValueIdx.ix2 a b) = ∑ K : Fin 6144, entry m c r s K + R m c (ValueIdx.ix2 r s) := by
  have e := scratch_eq m c (t.val - 1) (Nat.lt_of_le_of_lt (Nat.sub_le _ _) t.isLt) (by omega) a b r s (by omega) (by omega)
  rw [show (t.val - 1) % 6 + 1 = 5 by omega] at e
  rw [last_eq m c t ht a b r s hr hs, e]
  refine congrArg (fun z : EReal => z + R m c (ValueIdx.ix2 r s)) ?_
  refine (Blocks.extend (term m c r s) 1024 5 _ fun k => by rw [ht]).trans ?_
  exact Blocks.whole (term m c r s) 6144 (entry m c r s) fun K => by
    rw [term, dif_pos K.isLt]

/-- The result after the run. -/
theorem result_eq (r : Fin 16384) (s : Fin 1024) :
    (Value.G5 m c : Vec Ideal S16384x1024 .f32) (ValueIdx.ix2 r s) = ∑ K : Fin 6144, entry m c r s K + R m c (ValueIdx.ix2 r s) := by
  have hp : Value.pt5Of (ValueIdx.ix2 r s) = 6 * (1 * (r.val / 1024) + s.val / 1024) + 5 := by
    show 6 * (1 * (r.val / 1024 - 0) + 1 * (s.val / 1024 - 0)) + 5 = _
    omega
  have hlt : Value.pt5Of (ValueIdx.ix2 r s) < cfg0.N := by rw [hp, show cfg0.N = 96 from N_0]; omega
  have hl : Value.loc5Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G5
  rw [dif_pos hlt, ← Value.outsAt0_sweep m c _ hlt, hl]
  exact out_eq m c ⟨_, hlt⟩ (by show Value.pt5Of _ % 6 = 5; rw [hp]; omega) _ _ r s
    (by show r.val = 1024 * (Value.pt5Of (ValueIdx.ix2 r s) / 6) + r.val % 1024; rw [hp]; omega)
    (by show s.val = 1024 * 0 + s.val % 1024; omega)

end Cert.Proof.Dub

end
-- ==== Proof.Run.DubEquation.lean ====
/-
  The gradient of the branches' input: the kernel's result is the reference's.
-/
module

public import proofs.«01_k».proof.Defs
public import proofs.«01_k».proof.Proof.Gen.Dub
public import proofs.«01_k».proof.Proof.Gen.Dub.Frame
public import proofs.«01_k».proof.Proof.Gen.DubRefIdeal
public import proofs.«01_k».proof.Proof.Gen.DubRefIdeal.Run
public import proofs.«01_k».proof.Proof.Gen.DubRefIdeal.Read
public import proofs.«01_k».proof.Proof.Run.DubValue
public import Idealize.ShloMosaic.Lib.Quiescent
public import Idealize.ShloMosaic.Lib.Pipeline.Value

@[expose] public section

noncomputable section

namespace Cert.Proof.Dub

open Idealize.ShloMosaic Idealize.ShloMosaic.TcCoe Idealize.ShloMosaic.StableHlo Idealize.ShloMosaic.Pointwise Idealize.SL.Sem

section
open Cert.DubRefIdeal Cert.DubRefIdeal.Read

/-- Three pieces side by side, entry by entry. -/
def beside (x0 : Vec Ideal S16384x3072 .bf16) (x1 : Vec Ideal S16384x1024 .bf16) (x2 : Vec Ideal S16384x2048 .bf16) (q : Fin 16384) (x : Fin 6144) : EReal :=
  if h : x.val < 3072 then x0 (ValueIdx.ix2 q ⟨x.val, h⟩)
  else if h' : x.val < 4096 then x1 (ValueIdx.ix2 q ⟨x.val - 3072, by omega⟩)
  else x2 (ValueIdx.ix2 q ⟨x.val - 4096, by omega⟩)

/-- The reference's joined operand, entry by entry. -/
theorem ref_joined (x0 : Vec Ideal S16384x3072 .bf16) (x1 : Vec Ideal S16384x1024 .bf16) (x2 : Vec Ideal S16384x2048 .bf16) (q : Fin 16384) (x : Fin 6144) :
    val_main_v9 (F := Ideal) x0 x1 x2 (ValueIdx.ix2 q x) = beside x0 x1 x2 q x := by
  unfold val_main_v9 beside
  split
  · next h =>
    exact concatenate_apply_piece (t := S16384x6144) 1 _ _ (ValueIdx.ix2 q x) 0 (by show 0 < 3; decide) S16384x3072 (val_main_v1 (F := Ideal) x0) rfl rfl 0 rfl
      (ValueIdx.ix2 q ⟨x.val, h⟩) (fun b hb => by match b with | ⟨0, _⟩ => rfl | ⟨1, _⟩ => exact absurd rfl hb) (by show 0 + x.val = x.val; omega)
  · split
    · next h h' =>
      exact concatenate_apply_piece (t := S16384x6144) 1 _ _ (ValueIdx.ix2 q x) 1 (by show 1 < 3; decide) S16384x1024 (val_main_v2 (F := Ideal) x1) rfl rfl 3072 rfl
        (ValueIdx.ix2 q ⟨x.val - 3072, by omega⟩) (fun b hb => by match b with | ⟨0, _⟩ => rfl | ⟨1, _⟩ => exact absurd rfl hb) (by show 3072 + (x.val - 3072) = x.val; omega)
    · next h h' =>
      exact concatenate_apply_piece (t := S16384x6144) 1 _ _ (ValueIdx.ix2 q x) 2 (by show 2 < 3; decide) S16384x2048 (val_main_v3 (F := Ideal) x2) rfl rfl 4096 rfl
        (ValueIdx.ix2 q ⟨x.val - 4096, by omega⟩) (fun b hb => by match b with | ⟨0, _⟩ => rfl | ⟨1, _⟩ => exact absurd rfl hb) (by show 4096 + (x.val - 4096) = x.val; omega)

/-- The reference's result, entry by entry. -/
theorem ref_apply (x0 : Vec Ideal S16384x3072 .bf16) (x1 : Vec Ideal S16384x1024 .bf16) (x2 : Vec Ideal S16384x2048 .bf16) (u : Vec Ideal S1024x6144 .bf16) (z : Vec Ideal S16384x1024 .f32) (r : Fin 16384) (s : Fin 1024) :
    val_main_v11 (F := Ideal) x0 x1 x2 u z (ValueIdx.ix2 r s) = ∑ K : Fin 6144, beside x0 x1 x2 r K * u (ValueIdx.ix2 s K) + z (ValueIdx.ix2 r s) := by
  rw [val_main_v11_apply]
  show z (ValueIdx.ix2 r s) + val_main_v10 (F := Ideal) x0 x1 x2 u (ValueIdx.ix2 r s) = _
  rw [val_main_v10_apply, add_comm]
  refine congrArg (fun y : EReal => y + z (ValueIdx.ix2 r s)) (Finset.sum_congr rfl fun K _ => ?_)
  have el : lidx_main_v10 (ValueIdx.ix2 r s) K = (ValueIdx.ix2 r K) := by
    funext a; match a with
    | ⟨0, _⟩ => rfl
    | ⟨1, _⟩ => rfl
  have er : ridx_main_v10 (ValueIdx.ix2 r s) K = (ValueIdx.ix2 s K) := by
    funext a; match a with
    | ⟨0, _⟩ => rfl
    | ⟨1, _⟩ => rfl
  rw [el, er, ref_joined, val_main_v0_apply]
  rfl

end

/-- The reference ends, its arguments unchanged and every counter zero. -/
theorem quiescent_reference : Cert.quiescent_DubRefIdeal := fun m g _ =>
  (θ_run _ _ _).mono (fun r h => ⟨fun c => (h c).2, sem_eq_zero_of_no_sems (by decide) r.2⟩) (Cert.DubRefIdeal.Value.run m g)

/-- The kernel's result is the reference's, entry by entry. -/
theorem algebraic : Cert.algebraic_DubIdeal_DubRefIdeal := fun m g m' g' _ ha =>
  ⟨fun c => Cert.DubIdeal.Value.G5 m c, Cert.DubIdeal.Value.run m g,
    (θ_run _ _ _).mono (fun _ h c => ⟨(h c).1.trans (by
      rw [Cert.DubRefIdeal.Read.val_main_v11_eq, (ha c).1, (ha c).2.1, (ha c).2.2.1, (ha c).2.2.2.1, (ha c).2.2.2.2]
      funext i
      obtain ⟨r, s, rfl⟩ : ∃ (r : Fin 16384) (s : Fin 1024), i = ValueIdx.ix2 r s := ⟨i 0, i 1, (ValueIdx.eq_ix2 i)⟩
      exact (ref_apply _ _ _ _ _ r s).trans (result_eq m c r s).symm), (h c).2⟩) (Cert.DubRefIdeal.Value.run m' g')⟩

end Cert.Proof.Dub

end
-- ==== Proof.Run.GwoutValue.lean ====
/-
  The gradient of the output projection's weights: what the kernel leaves, entry by entry.
-/
module

public import proofs.«01_k».proof.Proof.Gen.GwoutIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwout

open Cert.GwoutIdeal Cert.GwoutIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x1024 .f32) (h4 : a4.IsWhole) (a5 : Memref sig .tc .vmem S1024x1024 .bf16) (h5 : a5.IsWhole) (a6 : Memref sig .tc .vmem S1024x1024 .f32) (h6 : a6.IsWhole)
  (x0 : Vec F S1024x1024 .bf16) (x1 : Vec F S1024x1024 .f32) (xs : Vec F S1024x1024 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- A later point adds its block to the accumulator. -/
theorem scratch_next (hc0 : ¬cond0_0 i) (hc1 : ¬cond0_1 i) :
    sout0_B_0 c i a3 h3 a4 h4 a5 h5 a6 h6 hc0 hc1 x0 x1 xs = k0_pay2 xs x0 x1 := by
  frame_out

/-- The last point of a block writes the accumulator with its own block added. -/
theorem out_last (hc0 : ¬cond0_0 i) (hc1 : cond0_1 i) :
    out0_C_2 c i a3 h3 a4 h4 a5 h5 a6 h6 hc0 hc1 x0 x1 xs = k0_pay3 (k0_pay2 xs x0 x1) := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x1024 .bf16) (Y : Vec Ideal S1024x1024 .f32) (a : Fin 1024) (b : Fin 1024) :
    k0_pay2 A G Y (ValueIdx.ix2 a b) = A (ValueIdx.ix2 a b) + ∑ k : Fin 1024, G (ValueIdx.ix2 k a) * Y (ValueIdx.ix2 k b) := by
  simp only [← ix2_eq_valueIdx]
  pointwise [k0_pay2]

theorem pay3_apply (A : Vec Ideal S1024x1024 .f32) (a : Fin 1024) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, (i 1).val] := by
  unfold cc0_transform_1; generalize (i 2) = n; generalize (i 1) = h; revert n h; decide

theorem coords_val (t : Fin cfg0.N) : (grid0.coords t 0).val = 0 ∧ (grid0.coords t 1).val = 0 ∧ (grid0.coords t 2).val = (t.val % 16) := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S16384x1024 .f32 := m ((c : Thread nD τ).loc main_arg1)

theorem iblk0_apply (t : Fin cfg0.N) (p : Fin 1024) (q : Fin 1024) (row : Fin 16384) (col : Fin 1024)
    (hr : row.val = 1024 * (t.val % 16) + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 2).val * 1024 + p.val = _; rw [h2] <;> omega
  | ⟨1, _⟩ =>
    show cc0_transform_0 (grid0.coords t) 1 * 1024 + q.val = col.val
    rw [tr0_eq, hc]; show (grid0.coords t 0).val * 1024 + q.val = _; rw [h0] <;> omega

theorem iblk1_apply (t : Fin cfg0.N) (p : Fin 1024) (q : Fin 1024) (row : Fin 16384) (col : Fin 1024)
    (hr : row.val = 1024 * (t.val % 16) + p.val) (hc : col.val = 1024 * 0 + q.val) :
    (iblk m c 1 t : Vec Ideal S1024x1024 .f32) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

/-! ## The sum -/

/-- One addend of an entry. -/
def entry (r : Fin 1024) (s : Fin 1024) (K : Fin 16384) : EReal := X m c (ValueIdx.ix2 K r) * Y m c (ValueIdx.ix2 K s)

/-- The same for any number, zero past the last. -/
def term (r : Fin 1024) (s : Fin 1024) (K : ℕ) : EReal := if h : K < 16384 then entry m c r s ⟨K, h⟩ else 0

/-- One point's addend is its block of the sum. -/
theorem block (t : Fin cfg0.N) (a : Fin 1024) (b : Fin 1024) (r : Fin 1024) (s : Fin 1024)
    (hr : r.val = 1024 * 0 + a.val) (hs : s.val = 1024 * 0 + b.val) (k : Fin 1024) :
    @HMul.hMul EReal EReal EReal _ ((iblk m c 0 t : Vec Ideal S1024x1024 .bf16) (ValueIdx.ix2 k a)) ((iblk m c 1 t : Vec Ideal S1024x1024 .f32) (ValueIdx.ix2 k b)) = term m c r s (1024 * (t.val % 16) + k.val) := by
  have hK : 1024 * (t.val % 16) + k.val < 16384 := by omega
  rw [term, dif_pos hK, entry, iblk0_apply m c t k a ⟨_, hK⟩ r rfl hr, iblk1_apply m c t k b ⟨_, hK⟩ s rfl hs]

/-- What the accumulator holds after a point that is not the last of its block. -/
theorem scratch_eq (n : ℕ) : ∀ (h : n < cfg0.N) (_ : ¬n % 16 = 15) (a : Fin 1024) (b : Fin 1024) (r : Fin 1024) (s : Fin 1024)
    (_ : r.val = 1024 * 0 + a.val) (_ : s.val = 1024 * 0 + b.val),
    (outsAt0 m c n h).2 (ValueIdx.ix2 a b) = ∑ K ∈ Finset.range (1024 * ((n % 16) + 1)), term m c r s K := by
  induction n with
  | zero =>
    intro h hl a b r s hr hs
    rw [outsAt0_A m c ⟨0, h⟩ (Nat.zero_mod _) hl]
    dsimp only
    rw [scratch_first, pay2_apply, pay1_apply]
    exact Blocks.first _ _ _ fun k => block m c ⟨0, h⟩ a b r s hr hs k
  | succ n ih =>
    intro h hl a b r s hr hs
    by_cases h0 : (n + 1) % 16 = 0
    · rw [outsAt0_A m c ⟨n + 1, h⟩ h0 hl]
      dsimp only
      rw [scratch_first, pay2_apply, pay1_apply, h0]
      refine Blocks.first _ _ _ fun k => (block m c ⟨n + 1, h⟩ a b r s hr hs k).trans ?_
      rw [show (⟨n + 1, h⟩ : Fin cfg0.N).val % 16 = 0 from h0]
    · rw [outsAt0_B m c ⟨n + 1, h⟩ h0 hl]
      dsimp only
      rw [scratch_next, pay2_apply]
      have e := ih (Nat.lt_of_succ_lt h) (by omega) a b r s (by omega) (by omega)
      simp only [Nat.add_sub_cancel] at e ⊢
      rw [e, show (n + 1) % 16 = n % 16 + 1 by omega]
      refine Blocks.extend _ _ _ _ fun k => (block m c ⟨n + 1, h⟩ a b r s hr hs k).trans ?_
      rw [show (⟨n + 1, h⟩ : Fin cfg0.N).val % 16 = n % 16 + 1 by show (n + 1) % 16 = _; omega]

/-- What a point that is the last of its block writes. -/
theorem out_eq (t : Fin cfg0.N) (ht : t.val % 16 = 15) (a : Fin 1024) (b : Fin 1024) (r : Fin 1024) (s : Fin 1024)
    (hr : r.val = 1024 * 0 + a.val) (hs : s.val = 1024 * 0 + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 16 + 1 = 15 by omega] at e
  rw [outsAt0_C m c t (by omega) ht]
  dsimp only
  rw [out_last, pay3_apply, pay2_apply, e]
  refine (Blocks.extend (term m c r s) 1024 15 _ fun k => (block m c t a b r s hr hs k).trans (by rw [ht])).trans ?_
  exact Blocks.whole (term m c r s) 16384 (entry m c r s) fun K => by
    rw [term, dif_pos K.isLt]

/-- The result after the run. -/
theorem result_eq (r : Fin 1024) (s : Fin 1024) :
    (Value.G2 m c : Vec Ideal S1024x1024 .bf16) (ValueIdx.ix2 r s) = ∑ K : Fin 16384, entry m c r s K := by
  have hp : Value.pt2Of (ValueIdx.ix2 r s) = 16 * (1 * (r.val / 1024) + s.val / 1024) + 15 := by
    show 16 * (1 * (r.val / 1024 - 0) + 1 * (s.val / 1024 - 0)) + 15 = _
    omega
  have hlt : Value.pt2Of (ValueIdx.ix2 r s) < cfg0.N := by rw [hp, show cfg0.N = 16 from N_0]; omega
  have hl : Value.loc2Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 16 = 15; rw [hp]; omega) _ _ r s
    (by show r.val = 1024 * 0 + r.val % 1024; omega)
    (by show s.val = 1024 * 0 + s.val % 1024; omega)

end Cert.Proof.Gwout

end
-- ==== Proof.Run.GwoutEquation.lean ====
/-
  The gradient of the output projection's weights: the kernel's result is the reference's.
-/
module

public import proofs.«01_k».proof.Defs
public import proofs.«01_k».proof.Proof.Gen.Gwout
public import proofs.«01_k».proof.Proof.Gen.Gwout.Frame
public import proofs.«01_k».proof.Proof.Gen.GwoutRefIdeal
public import proofs.«01_k».proof.Proof.Gen.GwoutRefIdeal.Run
public import proofs.«01_k».proof.Proof.Gen.GwoutRefIdeal.Read
public import proofs.«01_k».proof.Proof.Run.GwoutValue
public import Idealize.ShloMosaic.Lib.Quiescent

@[expose] public section

noncomputable section

namespace Cert.Proof.Gwout

open Idealize.ShloMosaic Idealize.ShloMosaic.TcCoe Idealize.ShloMosaic.StableHlo Idealize.ShloMosaic.Pointwise Idealize.SL.Sem

section
open Cert.GwoutRefIdeal Cert.GwoutRefIdeal.Read

/-- The reference's result, entry by entry. -/
theorem ref_apply (x : Vec Ideal S16384x1024 .bf16) (y : Vec Ideal S16384x1024 .f32) (r : Fin 1024) (s : Fin 1024) :
    val_main_v5 (F := Ideal) x y (ValueIdx.ix2 r s) = ∑ K : Fin 16384, x (ValueIdx.ix2 K r) * y (ValueIdx.ix2 K s) := by
  rw [val_main_v5_apply]
  show val_main_v4 (F := Ideal) x y (ValueIdx.ix2 r s) = _
  rw [val_main_v4_apply]
  rw [val_main_v3_apply]
  refine Finset.sum_congr rfl fun K _ => ?_
  have el : lidx_main_v3 (idx_main_v4 (ValueIdx.ix2 r s)) K = (ValueIdx.ix2 K s) := by
    funext a; match a with
    | ⟨0, _⟩ => rfl
    | ⟨1, _⟩ => rfl
  have er : ridx_main_v3 (idx_main_v4 (ValueIdx.ix2 r s)) K = (ValueIdx.ix2 K r) := by
    funext a; match a with
    | ⟨0, _⟩ => rfl
    | ⟨1, _⟩ => rfl
  rw [el, er, val_main_v0_apply]
  exact mul_comm _ _

end

/-- The reference ends, its arguments unchanged and every counter zero. -/
theorem quiescent_reference : Cert.quiescent_GwoutRefIdeal := fun m g _ =>
  (θ_run _ _ _).mono (fun r h => ⟨fun c => (h c).2, sem_eq_zero_of_no_sems (by decide) r.2⟩) (Cert.GwoutRefIdeal.Value.run m g)

/-- The kernel's result is the reference's, entry by entry. -/
theorem algebraic : Cert.algebraic_GwoutIdeal_GwoutRefIdeal := fun m g m' g' _ ha =>
  ⟨fun c => Cert.GwoutIdeal.Value.G2 m c, Cert.GwoutIdeal.Value.run m g,
    (θ_run _ _ _).mono (fun _ h c => ⟨(h c).1.trans (by
      rw [Cert.GwoutRefIdeal.Read.val_main_v5_eq, (ha c).1, (ha c).2]
      funext i
      obtain ⟨r, s, rfl⟩ : ∃ (r : Fin 1024) (s : Fin 1024), i = ValueIdx.ix2 r s := ⟨i 0, i 1, (ValueIdx.eq_ix2 i)⟩
      exact (ref_apply _ _ r s).trans (result_eq m c r s).symm), (h c).2⟩) (Cert.GwoutRefIdeal.Value.run m' g')⟩

end Cert.Proof.Gwout

end
-- ==== Proof.Run.DmixValue.lean ====
/-
  The gradient of the mixed branches: what the kernel leaves, entry by entry.
-/
module

public import proofs.«01_k».proof.Proof.Gen.DmixIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dmix

open Cert.DmixIdeal Cert.DmixIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec F S1024x1024 .f32) (x1 : Vec F S1024x1024 .bf16) (xs : Vec F S1024x1024 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x1024 .f32) (Y : Vec Ideal S1024x1024 .bf16) (a : Fin 1024) (b : Fin 1024) :
    k0_pay2 A G Y (ValueIdx.ix2 a b) = A (ValueIdx.ix2 a b) + ∑ k : Fin 1024, G (ValueIdx.ix2 a k) * Y (ValueIdx.ix2 b k) := by
  simp only [← ix2_eq_valueIdx]
  pointwise [k0_pay2]

theorem pay3_apply (A : Vec Ideal S1024x1024 .f32) (a : Fin 1024) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .f32 := m ((c : Thread nD τ).loc main_arg0)
/-- The right operand. -/
abbrev Y : Vec Ideal S1024x1024 .bf16 := m ((c : Thread nD τ).loc main_arg1)

theorem iblk0_apply (t : Fin cfg0.N) (p : Fin 1024) (q : Fin 1024) (row : Fin 16384) (col : Fin 1024)
    (hr : row.val = 1024 * t.val + p.val) (hc : col.val = 1024 * 0 + q.val) :
    (iblk m c 0 t : Vec Ideal S1024x1024 .f32) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 1024) (row : Fin 1024) (col : Fin 1024)
    (hr : row.val = 1024 * 0 + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 1).val * 1024 + p.val = _; rw [h1] <;> omega
  | ⟨1, _⟩ =>
    show cc0_transform_1 (grid0.coords t) 1 * 1024 + q.val = col.val
    rw [tr1_eq, hc]; show (grid0.coords t 2).val * 1024 + q.val = _; rw [h2] <;> omega

/-! ## The sum -/

/-- One addend of an entry. -/
def entry (r : Fin 16384) (s : Fin 1024) (K : Fin 1024) : EReal := X m c (ValueIdx.ix2 r K) * Y m c (ValueIdx.ix2 s K)

/-- The same for any number, zero past the last. -/
def term (r : Fin 16384) (s : Fin 1024) (K : ℕ) : EReal := if h : K < 1024 then entry m c r s ⟨K, h⟩ else 0

/-- One point's addend is its block of the sum. -/
theorem block (t : Fin cfg0.N) (a : Fin 1024) (b : Fin 1024) (r : Fin 16384) (s : Fin 1024)
    (hr : r.val = 1024 * t.val + a.val) (hs : s.val = 1024 * 0 + b.val) (k : Fin 1024) :
    @HMul.hMul EReal EReal EReal _ ((iblk m c 0 t : Vec Ideal S1024x1024 .f32) (ValueIdx.ix2 a k)) ((iblk m c 1 t : Vec Ideal S1024x1024 .bf16) (ValueIdx.ix2 b k)) = term m c r s (1024 * 0 + k.val) := by
  have hK : 1024 * 0 + k.val < 1024 := by omega
  rw [term, dif_pos hK, entry, iblk0_apply m c t a k r ⟨_, hK⟩ hr rfl, iblk1_apply m c t b k s ⟨_, hK⟩ hs rfl]

/-- What a point writes. -/
theorem out_eq (t : Fin cfg0.N) (a : Fin 1024) (b : Fin 1024) (r : Fin 16384) (s : Fin 1024)
    (hr : r.val = 1024 * t.val + a.val) (hs : s.val = 1024 * 0 + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 1024) :
    ((dats m 0 c).arrAt 2 cfg0.N : Vec Ideal S16384x1024 .bf16) (ValueIdx.ix2 r s) = ∑ K : Fin 1024, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 1024, Nat.mod_lt _ (by decide)⟩ : Fin 1024))
      = ValueIdx.ix2 r s := by
    funext x
    apply Fin.ext
    refine (Pipeline.Window.rect_emb_val (cfg0.win 2) ⟨_, hlt⟩ (ValueIdx.ix2 (⟨r.val % 1024, _⟩ : Fin 1024) (⟨s.val % 1024, _⟩ : Fin 1024)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 1024 + s.val % 1024 = s.val
      rw [tr2_eq]; show (grid0.coords ⟨_, hlt⟩ 1).val * 1024 + s.val % 1024 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 1024, Nat.mod_lt _ (by decide)⟩ : Fin 1024)))
      = outsAt0 m c ⟨_, hlt⟩ (ValueIdx.ix2 (⟨r.val % 1024, Nat.mod_lt _ (by decide)⟩ : Fin 1024) (⟨s.val % 1024, Nat.mod_lt _ (by decide)⟩ : Fin 1024)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Dmix

end
-- ==== Proof.Run.DmixEquation.lean ====
/-
  The gradient of the mixed branches: the kernel's result is the reference's.
-/
module

public import proofs.«01_k».proof.Defs
public import proofs.«01_k».proof.Proof.Gen.Dmix
public import proofs.«01_k».proof.Proof.Gen.Dmix.Frame
public import proofs.«01_k».proof.Proof.Gen.DmixRefIdeal
public import proofs.«01_k».proof.Proof.Gen.DmixRefIdeal.Run
public import proofs.«01_k».proof.Proof.Gen.DmixRefIdeal.Read
public import proofs.«01_k».proof.Proof.Run.DmixValue
public import Idealize.ShloMosaic.Lib.Quiescent

@[expose] public section

noncomputable section

namespace Cert.Proof.Dmix

open Idealize.ShloMosaic Idealize.ShloMosaic.TcCoe Idealize.ShloMosaic.StableHlo Idealize.ShloMosaic.Pointwise Idealize.SL.Sem

section
open Cert.DmixRefIdeal Cert.DmixRefIdeal.Read

/-- The reference's result, entry by entry. -/
theorem ref_apply (x : Vec Ideal S16384x1024 .f32) (y : Vec Ideal S1024x1024 .bf16) (r : Fin 16384) (s : Fin 1024) :
    val_main_v4 (F := Ideal) x y (ValueIdx.ix2 r s) = ∑ K : Fin 1024, x (ValueIdx.ix2 r K) * y (ValueIdx.ix2 s K) := by
  rw [val_main_v4_apply]
  show val_main_v3 (F := Ideal) x y (ValueIdx.ix2 r s) = _
  rw [val_main_v3_apply]
  refine Finset.sum_congr rfl fun K _ => ?_
  have el : lidx_main_v3 (ValueIdx.ix2 r s) K = (ValueIdx.ix2 r K) := by
    funext a; match a with
    | ⟨0, _⟩ => rfl
    | ⟨1, _⟩ => rfl
  have er : ridx_main_v3 (ValueIdx.ix2 r s) K = (ValueIdx.ix2 s K) := by
    funext a; match a with
    | ⟨0, _⟩ => rfl
    | ⟨1, _⟩ => rfl
  rw [el, er, val_main_v0_apply]
  rfl

end

/-- The reference ends, its arguments unchanged and every counter zero. -/
theorem quiescent_reference : Cert.quiescent_DmixRefIdeal := fun m g _ =>
  (θ_run _ _ _).mono (fun r h => ⟨fun c => (h c).2, sem_eq_zero_of_no_sems (by decide) r.2⟩) (Cert.DmixRefIdeal.Value.run m g)

/-- The kernel's result is the reference's, entry by entry. -/
theorem algebraic : Cert.algebraic_DmixIdeal_DmixRefIdeal := fun m g m' g' _ ha =>
  ⟨fun c => (Cert.DmixIdeal.Gen.dats m 0 c).arrAt 2 Cert.DmixIdeal.cfg0.N, Cert.DmixIdeal.Value.run_blocks m g,
    (θ_run _ _ _).mono (fun _ h c => ⟨(h c).1.trans (by
      rw [Cert.DmixRefIdeal.Read.val_main_v4_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.DmixRefIdeal.Value.run m' g')⟩

end Cert.Proof.Dmix

end
-- ==== Proof.Run.GwpdValue.lean ====
/-
  The gradient of the delta branch's projection weights: what the kernel leaves, entry by entry.
-/
module

public import proofs.«01_k».proof.Proof.Gen.GwpdIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwpd

open Cert.GwpdIdeal Cert.GwpdIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x0 : Vec F S1024x1024 .bf16) (x1 : Vec F S1024x1024 .bf16) (xs : Vec F S1024x1024 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- A later point adds its block to the accumulator. -/
theorem scratch_next (hc0 : ¬cond0_0 i) (hc1 : ¬cond0_1 i) :
    sout0_B_0 c i a3 h3 a4 h4 a5 h5 a6 h6 hc0 hc1 x0 x1 xs = k0_pay2 xs x0 x1 := by
  frame_out

/-- The last point of a block writes the accumulator with its own block added. -/
theorem out_last (hc0 : ¬cond0_0 i) (hc1 : cond0_1 i) :
    out0_C_2 c i a3 h3 a4 h4 a5 h5 a6 h6 hc0 hc1 x0 x1 xs = k0_pay3 (k0_pay2 xs x0 x1) := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x1024 .bf16) (Y : Vec Ideal S1024x1024 .bf16) (a : Fin 1024) (b : Fin 1024) :
    k0_pay2 A G Y (ValueIdx.ix2 a b) = A (ValueIdx.ix2 a b) + ∑ k : Fin 1024, G (ValueIdx.ix2 k a) * Y (ValueIdx.ix2 k b) := by
  simp only [← ix2_eq_valueIdx]
  pointwise [k0_pay2]

theorem pay3_apply (A : Vec Ideal S1024x1024 .f32) (a : Fin 1024) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, (i 1).val] := by
  unfold cc0_transform_1; generalize (i 2) = n; generalize (i 1) = h; revert n h; decide

theorem coords_val (t : Fin cfg0.N) : (grid0.coords t 0).val = 0 ∧ (grid0.coords t 1).val = 0 ∧ (grid0.coords t 2).val = (t.val % 16) := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S16384x1024 .bf16 := m ((c : Thread nD τ).loc main_arg1)

theorem iblk0_apply (t : Fin cfg0.N) (p : Fin 1024) (q : Fin 1024) (row : Fin 16384) (col : Fin 1024)
    (hr : row.val = 1024 * (t.val % 16) + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 2).val * 1024 + p.val = _; rw [h2] <;> omega
  | ⟨1, _⟩ =>
    show cc0_transform_0 (grid0.coords t) 1 * 1024 + q.val = col.val
    rw [tr0_eq, hc]; show (grid0.coords t 0).val * 1024 + q.val = _; rw [h0] <;> omega

theorem iblk1_apply (t : Fin cfg0.N) (p : Fin 1024) (q : Fin 1024) (row : Fin 16384) (col : Fin 1024)
    (hr : row.val = 1024 * (t.val % 16) + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

/-! ## The sum -/

/-- One addend of an entry. -/
def entry (r : Fin 1024) (s : Fin 1024) (K : Fin 16384) : EReal := X m c (ValueIdx.ix2 K r) * Y m c (ValueIdx.ix2 K s)

/-- The same for any number, zero past the last. -/
def term (r : Fin 1024) (s : Fin 1024) (K : ℕ) : EReal := if h : K < 16384 then entry m c r s ⟨K, h⟩ else 0

/-- One point's addend is its block of the sum. -/
theorem block (t : Fin cfg0.N) (a : Fin 1024) (b : Fin 1024) (r : Fin 1024) (s : Fin 1024)
    (hr : r.val = 1024 * 0 + a.val) (hs : s.val = 1024 * 0 + b.val) (k : Fin 1024) :
    @HMul.hMul EReal EReal EReal _ ((iblk m c 0 t : Vec Ideal S1024x1024 .bf16) (ValueIdx.ix2 k a)) ((iblk m c 1 t : Vec Ideal S1024x1024 .bf16) (ValueIdx.ix2 k b)) = term m c r s (1024 * (t.val % 16) + k.val) := by
  have hK : 1024 * (t.val % 16) + k.val < 16384 := by omega
  rw [term, dif_pos hK, entry, iblk0_apply m c t k a ⟨_, hK⟩ r rfl hr, iblk1_apply m c t k b ⟨_, hK⟩ s rfl hs]

/-- What the accumulator holds after a point that is not the last of its block. -/
theorem scratch_eq (n : ℕ) : ∀ (h : n < cfg0.N) (_ : ¬n % 16 = 15) (a : Fin 1024) (b : Fin 1024) (r : Fin 1024) (s : Fin 1024)
    (_ : r.val = 1024 * 0 + a.val) (_ : s.val = 1024 * 0 + b.val),
    (outsAt0 m c n h).2 (ValueIdx.ix2 a b) = ∑ K ∈ Finset.range (1024 * ((n % 16) + 1)), term m c r s K := by
  induction n with
  | zero =>
    intro h hl a b r s hr hs
    rw [outsAt0_A m c ⟨0, h⟩ (Nat.zero_mod _) hl]
    dsimp only
    rw [scratch_first, pay2_apply, pay1_apply]
    exact Blocks.first _ _ _ fun k => block m c ⟨0, h⟩ a b r s hr hs k
  | succ n ih =>
    intro h hl a b r s hr hs
    by_cases h0 : (n + 1) % 16 = 0
    · rw [outsAt0_A m c ⟨n + 1, h⟩ h0 hl]
      dsimp only
      rw [scratch_first, pay2_apply, pay1_apply, h0]
      refine Blocks.first _ _ _ fun k => (block m c ⟨n + 1, h⟩ a b r s hr hs k).trans ?_
      rw [show (⟨n + 1, h⟩ : Fin cfg0.N).val % 16 = 0 from h0]
    · rw [outsAt0_B m c ⟨n + 1, h⟩ h0 hl]
      dsimp only
      rw [scratch_next, pay2_apply]
      have e := ih (Nat.lt_of_succ_lt h) (by omega) a b r s (by omega) (by omega)
      simp only [Nat.add_sub_cancel] at e ⊢
      rw [e, show (n + 1) % 16 = n % 16 + 1 by omega]
      refine Blocks.extend _ _ _ _ fun k => (block m c ⟨n + 1, h⟩ a b r s hr hs k).trans ?_
      rw [show (⟨n + 1, h⟩ : Fin cfg0.N).val % 16 = n % 16 + 1 by show (n + 1) % 16 = _; omega]

/-- What a point that is the last of its block writes. -/
theorem out_eq (t : Fin cfg0.N) (ht : t.val % 16 = 15) (a : Fin 1024) (b : Fin 1024) (r : Fin 1024) (s : Fin 1024)
    (hr : r.val = 1024 * 0 + a.val) (hs : s.val = 1024 * 0 + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 16 + 1 = 15 by omega] at e
  rw [outsAt0_C m c t (by omega) ht]
  dsimp only
  rw [out_last, pay3_apply, pay2_apply, e]
  refine (Blocks.extend (term m c r s) 1024 15 _ fun k => (block m c t a b r s hr hs k).trans (by rw [ht])).trans ?_
  exact Blocks.whole (term m c r s) 16384 (entry m c r s) fun K => by
    rw [term, dif_pos K.isLt]

/-- The result after the run. -/
theorem result_eq (r : Fin 1024) (s : Fin 1024) :
    (Value.G2 m c : Vec Ideal S1024x1024 .bf16) (ValueIdx.ix2 r s) = ∑ K : Fin 16384, entry m c r s K := by
  have hp : Value.pt2Of (ValueIdx.ix2 r s) = 16 * (1 * (r.val / 1024) + s.val / 1024) + 15 := by
    show 16 * (1 * (r.val / 1024 - 0) + 1 * (s.val / 1024 - 0)) + 15 = _
    omega
  have hlt : Value.pt2Of (ValueIdx.ix2 r s) < cfg0.N := by rw [hp, show cfg0.N = 16 from N_0]; omega
  have hl : Value.loc2Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 16 = 15; rw [hp]; omega) _ _ r s
    (by show r.val = 1024 * 0 + r.val % 1024; omega)
    (by show s.val = 1024 * 0 + s.val % 1024; omega)

end Cert.Proof.Gwpd

end
-- ==== Proof.Run.GwpdEquation.lean ====
/-
  The gradient of the delta branch's projection weights: the kernel's result is the reference's.
-/
module

public import proofs.«01_k».proof.Defs
public import proofs.«01_k».proof.Proof.Gen.Gwpd
public import proofs.«01_k».proof.Proof.Gen.Gwpd.Frame
public import proofs.«01_k».proof.Proof.Gen.GwpdRefIdeal
public import proofs.«01_k».proof.Proof.Gen.GwpdRefIdeal.Run
public import proofs.«01_k».proof.Proof.Gen.GwpdRefIdeal.Read
public import proofs.«01_k».proof.Proof.Run.GwpdValue
public import Idealize.ShloMosaic.Lib.Quiescent

@[expose] public section

noncomputable section

namespace Cert.Proof.Gwpd

open Idealize.ShloMosaic Idealize.ShloMosaic.TcCoe Idealize.ShloMosaic.StableHlo Idealize.ShloMosaic.Pointwise Idealize.SL.Sem

section
open Cert.GwpdRefIdeal Cert.GwpdRefIdeal.Read

/-- The reference's result, entry by entry. -/
theorem ref_apply (x : Vec Ideal S16384x1024 .bf16) (y : Vec Ideal S16384x1024 .bf16) (r : Fin 1024) (s : Fin 1024) :
    val_main_v6 (F := Ideal) x y (ValueIdx.ix2 r s) = ∑ K : Fin 16384, x (ValueIdx.ix2 K r) * y (ValueIdx.ix2 K s) := by
  rw [val_main_v6_apply]
  show val_main_v5 (F := Ideal) x y (ValueIdx.ix2 r s) = _
  rw [val_main_v5_apply]
  rw [val_main_v4_apply]
  refine Finset.sum_congr rfl fun K _ => ?_
  have el : lidx_main_v4 (idx_main_v5 (ValueIdx.ix2 r s)) K = (ValueIdx.ix2 K s) := by
    funext a; match a with
    | ⟨0, _⟩ => rfl
    | ⟨1, _⟩ => rfl
  have er : ridx_main_v4 (idx_main_v5 (ValueIdx.ix2 r s)) K = (ValueIdx.ix2 K r) := by
    funext a; match a with
    | ⟨0, _⟩ => rfl
    | ⟨1, _⟩ => rfl
  rw [el, er, val_main_v0_apply, val_main_v1_apply]
  exact mul_comm _ _

end

/-- The reference ends, its arguments unchanged and every counter zero. -/
theorem quiescent_reference : Cert.quiescent_GwpdRefIdeal := fun m g _ =>
  (θ_run _ _ _).mono (fun r h => ⟨fun c => (h c).2, sem_eq_zero_of_no_sems (by decide) r.2⟩) (Cert.GwpdRefIdeal.Value.run m g)

/-- The kernel's result is the reference's, entry by entry. -/
theorem algebraic : Cert.algebraic_GwpdIdeal_GwpdRefIdeal := fun m g m' g' _ ha =>
  ⟨fun c => Cert.GwpdIdeal.Value.G2 m c, Cert.GwpdIdeal.Value.run m g,
    (θ_run _ _ _).mono (fun _ h c => ⟨(h c).1.trans (by
      rw [Cert.GwpdRefIdeal.Read.val_main_v6_eq, (ha c).1, (ha c).2]
      funext i
      obtain ⟨r, s, rfl⟩ : ∃ (r : Fin 1024) (s : Fin 1024), i = ValueIdx.ix2 r s := ⟨i 0, i 1, (ValueIdx.eq_ix2 i)⟩
      exact (ref_apply _ _ r s).trans (result_eq m c r s).symm), (h c).2⟩) (Cert.GwpdRefIdeal.Value.run m' g')⟩

end Cert.Proof.Gwpd

end
-- ==== Proof.Run.DodValue.lean ====
/-
  The gradient of the delta branch's output: what the kernel leaves, entry by entry.
-/
module

public import proofs.«01_k».proof.Proof.Gen.DodIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dod

open Cert.DodIdeal Cert.DodIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S2048x1024 .bf16) (h3 : a3.IsWhole) (a4 : Memref sig .tc .vmem S1024x1024 .bf16) (h4 : a4.IsWhole) (a5 : Memref sig .tc .vmem S2048x1024 .bf16) (h5 : a5.IsWhole) (a6 : Memref sig .tc .vmem S2048x1024 .f32) (h6 : a6.IsWhole)
  (x0 : Vec F S2048x1024 .bf16) (x1 : Vec F S1024x1024 .bf16) (xs : Vec F S2048x1024 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 2048) (b : Fin 1024) : k0_pay1 (F := Ideal) (ValueIdx.ix2 a b) = 0 := by
  rw [← ix2_eq_valueIdx]
  pointwise [k0_pay1]

theorem pay2_apply (A : Vec Ideal S2048x1024 .f32) (G : Vec Ideal S2048x1024 .bf16) (Y : Vec Ideal S1024x1024 .bf16) (a : Fin 2048) (b : Fin 1024) :
    k0_pay2 A G Y (ValueIdx.ix2 a b) = A (ValueIdx.ix2 a b) + ∑ k : Fin 1024, G (ValueIdx.ix2 a k) * Y (ValueIdx.ix2 b k) := by
  simp only [← ix2_eq_valueIdx]
  pointwise [k0_pay2]

theorem pay3_apply (A : Vec Ideal S2048x1024 .f32) (a : Fin 2048) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S1024x1024 .bf16 := m ((c : Thread nD τ).loc main_arg1)

theorem iblk0_apply (t : Fin cfg0.N) (p : Fin 2048) (q : Fin 1024) (row : Fin 16384) (col : Fin 1024)
    (hr : row.val = 2048 * t.val + p.val) (hc : col.val = 1024 * 0 + q.val) :
    (iblk m c 0 t : Vec Ideal S2048x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 2048 + p.val = row.val
    rw [tr0_eq, hr]; show (grid0.coords t 0).val * 2048 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 1024) (row : Fin 1024) (col : Fin 1024)
    (hr : row.val = 1024 * 0 + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 1).val * 1024 + p.val = _; rw [h1] <;> omega
  | ⟨1, _⟩ =>
    show cc0_transform_1 (grid0.coords t) 1 * 1024 + q.val = col.val
    rw [tr1_eq, hc]; show (grid0.coords t 2).val * 1024 + q.val = _; rw [h2] <;> omega

/-! ## The sum -/

/-- One addend of an entry. -/
def entry (r : Fin 16384) (s : Fin 1024) (K : Fin 1024) : EReal := X m c (ValueIdx.ix2 r K) * Y m c (ValueIdx.ix2 s K)

/-- The same for any number, zero past the last. -/
def term (r : Fin 16384) (s : Fin 1024) (K : ℕ) : EReal := if h : K < 1024 then entry m c r s ⟨K, h⟩ else 0

/-- One point's addend is its block of the sum. -/
theorem block (t : Fin cfg0.N) (a : Fin 2048) (b : Fin 1024) (r : Fin 16384) (s : Fin 1024)
    (hr : r.val = 2048 * t.val + a.val) (hs : s.val = 1024 * 0 + b.val) (k : Fin 1024) :
    @HMul.hMul EReal EReal EReal _ ((iblk m c 0 t : Vec Ideal S2048x1024 .bf16) (ValueIdx.ix2 a k)) ((iblk m c 1 t : Vec Ideal S1024x1024 .bf16) (ValueIdx.ix2 b k)) = term m c r s (1024 * 0 + k.val) := by
  have hK : 1024 * 0 + k.val < 1024 := by omega
  rw [term, dif_pos hK, entry, iblk0_apply m c t a k r ⟨_, hK⟩ hr rfl, iblk1_apply m c t b k s ⟨_, hK⟩ hs rfl]

/-- What a point writes. -/
theorem out_eq (t : Fin cfg0.N) (a : Fin 2048) (b : Fin 1024) (r : Fin 16384) (s : Fin 1024)
    (hr : r.val = 2048 * t.val + a.val) (hs : s.val = 1024 * 0 + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 1024) :
    ((dats m 0 c).arrAt 2 cfg0.N : Vec Ideal S16384x1024 .bf16) (ValueIdx.ix2 r s) = ∑ K : Fin 1024, entry m c r s K := by
  have hlt : r.val / 2048 < cfg0.N := by rw [show cfg0.N = 8 from N_0]; omega
  have he : ((cfg0.win 2).rect ⟨_, hlt⟩).emb (ValueIdx.ix2 (⟨r.val % 2048, Nat.mod_lt _ (by decide)⟩ : Fin 2048) (⟨s.val % 1024, Nat.mod_lt _ (by decide)⟩ : Fin 1024))
      = ValueIdx.ix2 r s := by
    funext x
    apply Fin.ext
    refine (Pipeline.Window.rect_emb_val (cfg0.win 2) ⟨_, hlt⟩ (ValueIdx.ix2 (⟨r.val % 2048, _⟩ : Fin 2048) (⟨s.val % 1024, _⟩ : Fin 1024)) x rfl).trans ?_
    obtain ⟨h0, h1, h2⟩ := coords_val ⟨_, hlt⟩
    match x with
    | ⟨0, _⟩ =>
      show cc0_transform_2 (grid0.coords ⟨_, hlt⟩) 0 * 2048 + r.val % 2048 = r.val
      rw [tr2_eq]; show (grid0.coords ⟨_, hlt⟩ 0).val * 2048 + r.val % 2048 = r.val; rw [h0]; dsimp only; omega
    | ⟨1, _⟩ =>
      show cc0_transform_2 (grid0.coords ⟨_, hlt⟩) 1 * 1024 + s.val % 1024 = s.val
      rw [tr2_eq]; show (grid0.coords ⟨_, hlt⟩ 1).val * 1024 + s.val % 1024 = s.val; rw [h1]; omega
  have h : (dats m 0 c).arrAt 2 cfg0.N (((cfg0.win 2).rect ⟨_, hlt⟩).emb (ValueIdx.ix2 (⟨r.val % 2048, Nat.mod_lt _ (by decide)⟩ : Fin 2048) (⟨s.val % 1024, Nat.mod_lt _ (by decide)⟩ : Fin 1024)))
      = outsAt0 m c ⟨_, hlt⟩ (ValueIdx.ix2 (⟨r.val % 2048, Nat.mod_lt _ (by decide)⟩ : Fin 2048) (⟨s.val % 1024, Nat.mod_lt _ (by decide)⟩ : Fin 1024)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Dod

end
-- ==== Proof.Run.DodEquation.lean ====
/-
  The gradient of the delta branch's output: the kernel's result is the reference's.
-/
module

public import proofs.«01_k».proof.Defs
public import proofs.«01_k».proof.Proof.Gen.Dod
public import proofs.«01_k».proof.Proof.Gen.Dod.Frame
public import proofs.«01_k».proof.Proof.Gen.DodRefIdeal
public import proofs.«01_k».proof.Proof.Gen.DodRefIdeal.Run
public import proofs.«01_k».proof.Proof.Gen.DodRefIdeal.Read
public import proofs.«01_k».proof.Proof.Run.DodValue
public import Idealize.ShloMosaic.Lib.Quiescent

@[expose] public section

noncomputable section

namespace Cert.Proof.Dod

open Idealize.ShloMosaic Idealize.ShloMosaic.TcCoe Idealize.ShloMosaic.StableHlo Idealize.ShloMosaic.Pointwise Idealize.SL.Sem

section
open Cert.DodRefIdeal Cert.DodRefIdeal.Read

/-- The reference's result, entry by entry. -/
theorem ref_apply (x : Vec Ideal S16384x1024 .bf16) (y : Vec Ideal S1024x1024 .bf16) (r : Fin 16384) (s : Fin 1024) :
    val_main_v5 (F := Ideal) x y (ValueIdx.ix2 r s) = ∑ K : Fin 1024, x (ValueIdx.ix2 r K) * y (ValueIdx.ix2 s K) := by
  rw [val_main_v5_apply]
  show val_main_v4 (F := Ideal) x y (ValueIdx.ix2 r s) = _
  rw [val_main_v4_apply]
  refine Finset.sum_congr rfl fun K _ => ?_
  have el : lidx_main_v4 (ValueIdx.ix2 r s) K = (ValueIdx.ix2 r K) := by
    funext a; match a with
    | ⟨0, _⟩ => rfl
    | ⟨1, _⟩ => rfl
  have er : ridx_main_v4 (ValueIdx.ix2 r s) K = (ValueIdx.ix2 s K) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_DodRefIdeal := fun m g _ =>
  (θ_run _ _ _).mono (fun r h => ⟨fun c => (h c).2, sem_eq_zero_of_no_sems (by decide) r.2⟩) (Cert.DodRefIdeal.Value.run m g)

/-- The kernel's result is the reference's, entry by entry. -/
theorem algebraic : Cert.algebraic_DodIdeal_DodRefIdeal := fun m g m' g' _ ha =>
  ⟨fun c => (Cert.DodIdeal.Gen.dats m 0 c).arrAt 2 Cert.DodIdeal.cfg0.N, Cert.DodIdeal.Value.run_blocks m g,
    (θ_run _ _ _).mono (fun _ h c => ⟨(h c).1.trans (by
      rw [Cert.DodRefIdeal.Read.val_main_v5_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.DodRefIdeal.Value.run m' g')⟩

end Cert.Proof.Dod

end
-- ==== Proof.Run.GwpaValue.lean ====
/-
  The gradient of the attention branch's projection weights: what the kernel leaves, entry by entry.
-/
module

public import proofs.«01_k».proof.Proof.Gen.GwpaIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwpa

open Cert.GwpaIdeal Cert.GwpaIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x512 .bf16) (h3 : a3.IsWhole) (a4 : Memref sig .tc .vmem S1024x1024 .bf16) (h4 : a4.IsWhole) (a5 : Memref sig .tc .vmem S512x1024 .bf16) (h5 : a5.IsWhole) (a6 : Memref sig .tc .vmem S512x1024 .f32) (h6 : a6.IsWhole)
  (x0 : Vec F S1024x512 .bf16) (x1 : Vec F S1024x1024 .bf16) (xs : Vec F S512x1024 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- A later point adds its block to the accumulator. -/
theorem scratch_next (hc0 : ¬cond0_0 i) (hc1 : ¬cond0_1 i) :
    sout0_B_0 c i a3 h3 a4 h4 a5 h5 a6 h6 hc0 hc1 x0 x1 xs = k0_pay2 xs x0 x1 := by
  frame_out

/-- The last point of a block writes the accumulator with its own block added. -/
theorem out_last (hc0 : ¬cond0_0 i) (hc1 : cond0_1 i) :
    out0_C_2 c i a3 h3 a4 h4 a5 h5 a6 h6 hc0 hc1 x0 x1 xs = k0_pay3 (k0_pay2 xs x0 x1) := by
  frame_out

end

/-! ## Entry by entry -/

theorem pay1_apply (a : Fin 512) (b : Fin 1024) : k0_pay1 (F := Ideal) (ValueIdx.ix2 a b) = 0 := by
  rw [← ix2_eq_valueIdx]
  pointwise [k0_pay1]

theorem pay2_apply (A : Vec Ideal S512x1024 .f32) (G : Vec Ideal S1024x512 .bf16) (Y : Vec Ideal S1024x1024 .bf16) (a : Fin 512) (b : Fin 1024) :
    k0_pay2 A G Y (ValueIdx.ix2 a b) = A (ValueIdx.ix2 a b) + ∑ k : Fin 1024, G (ValueIdx.ix2 k a) * Y (ValueIdx.ix2 k b) := by
  simp only [← ix2_eq_valueIdx]
  pointwise [k0_pay2]

theorem pay3_apply (A : Vec Ideal S512x1024 .f32) (a : Fin 512) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, (i 1).val] := by
  unfold cc0_transform_1; generalize (i 2) = n; generalize (i 1) = h; revert n h; decide

theorem coords_val (t : Fin cfg0.N) : (grid0.coords t 0).val = 0 ∧ (grid0.coords t 1).val = 0 ∧ (grid0.coords t 2).val = (t.val % 16) := by
  revert t; decide

variable (m : (ℓ : Loc nD τ sig) → Buf (Elt Ideal) ℓ) (c : Dev nD)

/-- The left operand. -/
abbrev X : Vec Ideal S16384x512 .bf16 := m ((c : Thread nD τ).loc main_arg0)
/-- The right operand. -/
abbrev Y : Vec Ideal S16384x1024 .bf16 := m ((c : Thread nD τ).loc main_arg1)

theorem iblk0_apply (t : Fin cfg0.N) (p : Fin 1024) (q : Fin 512) (row : Fin 16384) (col : Fin 512)
    (hr : row.val = 1024 * (t.val % 16) + p.val) (hc : col.val = 512 * 0 + q.val) :
    (iblk m c 0 t : Vec Ideal S1024x512 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 2).val * 1024 + p.val = _; rw [h2] <;> omega
  | ⟨1, _⟩ =>
    show cc0_transform_0 (grid0.coords t) 1 * 512 + q.val = col.val
    rw [tr0_eq, hc]; show (grid0.coords t 0).val * 512 + q.val = _; rw [h0] <;> omega

theorem iblk1_apply (t : Fin cfg0.N) (p : Fin 1024) (q : Fin 1024) (row : Fin 16384) (col : Fin 1024)
    (hr : row.val = 1024 * (t.val % 16) + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

/-! ## The sum -/

/-- One addend of an entry. -/
def entry (r : Fin 512) (s : Fin 1024) (K : Fin 16384) : EReal := X m c (ValueIdx.ix2 K r) * Y m c (ValueIdx.ix2 K s)

/-- The same for any number, zero past the last. -/
def term (r : Fin 512) (s : Fin 1024) (K : ℕ) : EReal := if h : K < 16384 then entry m c r s ⟨K, h⟩ else 0

/-- One point's addend is its block of the sum. -/
theorem block (t : Fin cfg0.N) (a : Fin 512) (b : Fin 1024) (r : Fin 512) (s : Fin 1024)
    (hr : r.val = 512 * 0 + a.val) (hs : s.val = 1024 * 0 + b.val) (k : Fin 1024) :
    @HMul.hMul EReal EReal EReal _ ((iblk m c 0 t : Vec Ideal S1024x512 .bf16) (ValueIdx.ix2 k a)) ((iblk m c 1 t : Vec Ideal S1024x1024 .bf16) (ValueIdx.ix2 k b)) = term m c r s (1024 * (t.val % 16) + k.val) := by
  have hK : 1024 * (t.val % 16) + k.val < 16384 := by omega
  rw [term, dif_pos hK, entry, iblk0_apply m c t k a ⟨_, hK⟩ r rfl hr, iblk1_apply m c t k b ⟨_, hK⟩ s rfl hs]

/-- What the accumulator holds after a point that is not the last of its block. -/
theorem scratch_eq (n : ℕ) : ∀ (h : n < cfg0.N) (_ : ¬n % 16 = 15) (a : Fin 512) (b : Fin 1024) (r : Fin 512) (s : Fin 1024)
    (_ : r.val = 512 * 0 + a.val) (_ : s.val = 1024 * 0 + b.val),
    (outsAt0 m c n h).2 (ValueIdx.ix2 a b) = ∑ K ∈ Finset.range (1024 * ((n % 16) + 1)), term m c r s K := by
  induction n with
  | zero =>
    intro h hl a b r s hr hs
    rw [outsAt0_A m c ⟨0, h⟩ (Nat.zero_mod _) hl]
    dsimp only
    rw [scratch_first, pay2_apply, pay1_apply]
    exact Blocks.first _ _ _ fun k => block m c ⟨0, h⟩ a b r s hr hs k
  | succ n ih =>
    intro h hl a b r s hr hs
    by_cases h0 : (n + 1) % 16 = 0
    · rw [outsAt0_A m c ⟨n + 1, h⟩ h0 hl]
      dsimp only
      rw [scratch_first, pay2_apply, pay1_apply, h0]
      refine Blocks.first _ _ _ fun k => (block m c ⟨n + 1, h⟩ a b r s hr hs k).trans ?_
      rw [show (⟨n + 1, h⟩ : Fin cfg0.N).val % 16 = 0 from h0]
    · rw [outsAt0_B m c ⟨n + 1, h⟩ h0 hl]
      dsimp only
      rw [scratch_next, pay2_apply]
      have e := ih (Nat.lt_of_succ_lt h) (by omega) a b r s (by omega) (by omega)
      simp only [Nat.add_sub_cancel] at e ⊢
      rw [e, show (n + 1) % 16 = n % 16 + 1 by omega]
      refine Blocks.extend _ _ _ _ fun k => (block m c ⟨n + 1, h⟩ a b r s hr hs k).trans ?_
      rw [show (⟨n + 1, h⟩ : Fin cfg0.N).val % 16 = n % 16 + 1 by show (n + 1) % 16 = _; omega]

/-- What a point that is the last of its block writes. -/
theorem out_eq (t : Fin cfg0.N) (ht : t.val % 16 = 15) (a : Fin 512) (b : Fin 1024) (r : Fin 512) (s : Fin 1024)
    (hr : r.val = 512 * 0 + a.val) (hs : s.val = 1024 * 0 + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 16 + 1 = 15 by omega] at e
  rw [outsAt0_C m c t (by omega) ht]
  dsimp only
  rw [out_last, pay3_apply, pay2_apply, e]
  refine (Blocks.extend (term m c r s) 1024 15 _ fun k => (block m c t a b r s hr hs k).trans (by rw [ht])).trans ?_
  exact Blocks.whole (term m c r s) 16384 (entry m c r s) fun K => by
    rw [term, dif_pos K.isLt]

/-- The result after the run. -/
theorem result_eq (r : Fin 512) (s : Fin 1024) :
    (Value.G2 m c : Vec Ideal S512x1024 .bf16) (ValueIdx.ix2 r s) = ∑ K : Fin 16384, entry m c r s K := by
  have hp : Value.pt2Of (ValueIdx.ix2 r s) = 16 * (1 * (r.val / 512) + s.val / 1024) + 15 := by
    show 16 * (1 * (r.val / 512 - 0) + 1 * (s.val / 1024 - 0)) + 15 = _
    omega
  have hlt : Value.pt2Of (ValueIdx.ix2 r s) < cfg0.N := by rw [hp, show cfg0.N = 16 from N_0]; omega
  have hl : Value.loc2Of (ValueIdx.ix2 r s) = ValueIdx.ix2 ⟨r.val % 512, Nat.mod_lt _ (by decide)⟩ ⟨s.val % 1024, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 16 = 15; rw [hp]; omega) _ _ r s
    (by show r.val = 512 * 0 + r.val % 512; omega)
    (by show s.val = 1024 * 0 + s.val % 1024; omega)

end Cert.Proof.Gwpa

end
-- ==== Proof.Run.GwpaEquation.lean ====
/-
  The gradient of the attention branch's projection weights: the kernel's result is the reference's.
-/
module

public import proofs.«01_k».proof.Defs
public import proofs.«01_k».proof.Proof.Gen.Gwpa
public import proofs.«01_k».proof.Proof.Gen.Gwpa.Frame
public import proofs.«01_k».proof.Proof.Gen.GwpaRefIdeal
public import proofs.«01_k».proof.Proof.Gen.GwpaRefIdeal.Run
public import proofs.«01_k».proof.Proof.Gen.GwpaRefIdeal.Read
public import proofs.«01_k».proof.Proof.Run.GwpaValue
public import Idealize.ShloMosaic.Lib.Quiescent

@[expose] public section

noncomputable section

namespace Cert.Proof.Gwpa

open Idealize.ShloMosaic Idealize.ShloMosaic.TcCoe Idealize.ShloMosaic.StableHlo Idealize.ShloMosaic.Pointwise Idealize.SL.Sem

section
open Cert.GwpaRefIdeal Cert.GwpaRefIdeal.Read

/-- The reference's result, entry by entry. -/
theorem ref_apply (x : Vec Ideal S16384x512 .bf16) (y : Vec Ideal S16384x1024 .bf16) (r : Fin 512) (s : Fin 1024) :
    val_main_v6 (F := Ideal) x y (ValueIdx.ix2 r s) = ∑ K : Fin 16384, x (ValueIdx.ix2 K r) * y (ValueIdx.ix2 K s) := by
  rw [val_main_v6_apply]
  show val_main_v5 (F := Ideal) x y (ValueIdx.ix2 r s) = _
  rw [val_main_v5_apply]
  rw [val_main_v4_apply]
  refine Finset.sum_congr rfl fun K _ => ?_
  have el : lidx_main_v4 (idx_main_v5 (ValueIdx.ix2 r s)) K = (ValueIdx.ix2 K s) := by
    funext a; match a with
    | ⟨0, _⟩ => rfl
    | ⟨1, _⟩ => rfl
  have er : ridx_main_v4 (idx_main_v5 (ValueIdx.ix2 r s)) K = (ValueIdx.ix2 K r) := by
    funext a; match a with
    | ⟨0, _⟩ => rfl
    | ⟨1, _⟩ => rfl
  rw [el, er, val_main_v0_apply, val_main_v1_apply]
  exact mul_comm _ _

end

/-- The reference ends, its arguments unchanged and every counter zero. -/
theorem quiescent_reference : Cert.quiescent_GwpaRefIdeal := fun m g _ =>
  (θ_run _ _ _).mono (fun r h => ⟨fun c => (h c).2, sem_eq_zero_of_no_sems (by decide) r.2⟩) (Cert.GwpaRefIdeal.Value.run m g)

/-- The kernel's result is the reference's, entry by entry. -/
theorem algebraic : Cert.algebraic_GwpaIdeal_GwpaRefIdeal := fun m g m' g' _ ha =>
  ⟨fun c => Cert.GwpaIdeal.Value.G2 m c, Cert.GwpaIdeal.Value.run m g,
    (θ_run _ _ _).mono (fun _ h c => ⟨(h c).1.trans (by
      rw [Cert.GwpaRefIdeal.Read.val_main_v6_eq, (ha c).1, (ha c).2]
      funext i
      obtain ⟨r, s, rfl⟩ : ∃ (r : Fin 512) (s : Fin 1024), i = ValueIdx.ix2 r s := ⟨i 0, i 1, (ValueIdx.eq_ix2 i)⟩
      exact (ref_apply _ _ r s).trans (result_eq m c r s).symm), (h c).2⟩) (Cert.GwpaRefIdeal.Value.run m' g')⟩

end Cert.Proof.Gwpa

end
-- ==== Proof.Run.DyamValue.lean ====
/-
  The gradient of the attention branch's output: what the kernel leaves, entry by entry.
-/
module

public import proofs.«01_k».proof.Proof.Gen.DyamIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Dyam

open Cert.DyamIdeal Cert.DyamIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S512x1024 .bf16) (h4 : a4.IsWhole) (a5 : Memref sig .tc .vmem S1024x512 .bf16) (h5 : a5.IsWhole) (a6 : Memref sig .tc .vmem S1024x512 .f32) (h6 : a6.IsWhole)
  (x0 : Vec F S1024x1024 .bf16) (x1 : Vec F S512x1024 .bf16) (xs : Vec F S1024x512 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 1024) (b : Fin 512) : k0_pay1 (F := Ideal) (ValueIdx.ix2 a b) = 0 := by
  rw [← ix2_eq_valueIdx]
  pointwise [k0_pay1]

theorem pay2_apply (A : Vec Ideal S1024x512 .f32) (G : Vec Ideal S1024x1024 .bf16) (Y : Vec Ideal S512x1024 .bf16) (a : Fin 1024) (b : Fin 512) :
    k0_pay2 A G Y (ValueIdx.ix2 a b) = A (ValueIdx.ix2 a b) + ∑ k : Fin 1024, G (ValueIdx.ix2 a k) * Y (ValueIdx.ix2 b k) := by
  simp only [← ix2_eq_valueIdx]
  pointwise [k0_pay2]

theorem pay3_apply (A : Vec Ideal S1024x512 .f32) (a : Fin 1024) (b : Fin 512) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S512x1024 .bf16 := m ((c : Thread nD τ).loc main_arg1)

theorem iblk0_apply (t : Fin cfg0.N) (p : Fin 1024) (q : Fin 1024) (row : Fin 16384) (col : Fin 1024)
    (hr : row.val = 1024 * t.val + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 512) (q : Fin 1024) (row : Fin 512) (col : Fin 1024)
    (hr : row.val = 512 * 0 + p.val) (hc : col.val = 1024 * 0 + q.val) :
    (iblk m c 1 t : Vec Ideal S512x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 512 + p.val = row.val
    rw [tr1_eq, hr]; show (grid0.coords t 1).val * 512 + p.val = _; rw [h1] <;> omega
  | ⟨1, _⟩ =>
    show cc0_transform_1 (grid0.coords t) 1 * 1024 + q.val = col.val
    rw [tr1_eq, hc]; show (grid0.coords t 2).val * 1024 + q.val = _; rw [h2] <;> omega

/-! ## The sum -/

/-- One addend of an entry. -/
def entry (r : Fin 16384) (s : Fin 512) (K : Fin 1024) : EReal := X m c (ValueIdx.ix2 r K) * Y m c (ValueIdx.ix2 s K)

/-- The same for any number, zero past the last. -/
def term (r : Fin 16384) (s : Fin 512) (K : ℕ) : EReal := if h : K < 1024 then entry m c r s ⟨K, h⟩ else 0

/-- One point's addend is its block of the sum. -/
theorem block (t : Fin cfg0.N) (a : Fin 1024) (b : Fin 512) (r : Fin 16384) (s : Fin 512)
    (hr : r.val = 1024 * t.val + a.val) (hs : s.val = 512 * 0 + b.val) (k : Fin 1024) :
    @HMul.hMul EReal EReal EReal _ ((iblk m c 0 t : Vec Ideal S1024x1024 .bf16) (ValueIdx.ix2 a k)) ((iblk m c 1 t : Vec Ideal S512x1024 .bf16) (ValueIdx.ix2 b k)) = term m c r s (1024 * 0 + k.val) := by
  have hK : 1024 * 0 + k.val < 1024 := by omega
  rw [term, dif_pos hK, entry, iblk0_apply m c t a k r ⟨_, hK⟩ hr rfl, iblk1_apply m c t b k s ⟨_, hK⟩ hs rfl]

/-- What a point writes. -/
theorem out_eq (t : Fin cfg0.N) (a : Fin 1024) (b : Fin 512) (r : Fin 16384) (s : Fin 512)
    (hr : r.val = 1024 * t.val + a.val) (hs : s.val = 512 * 0 + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 512) :
    ((dats m 0 c).arrAt 2 cfg0.N : Vec Ideal S16384x512 .bf16) (ValueIdx.ix2 r s) = ∑ K : Fin 1024, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 512, Nat.mod_lt _ (by decide)⟩ : Fin 512))
      = ValueIdx.ix2 r s := by
    funext x
    apply Fin.ext
    refine (Pipeline.Window.rect_emb_val (cfg0.win 2) ⟨_, hlt⟩ (ValueIdx.ix2 (⟨r.val % 1024, _⟩ : Fin 1024) (⟨s.val % 512, _⟩ : Fin 512)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 512 + s.val % 512 = s.val
      rw [tr2_eq]; show (grid0.coords ⟨_, hlt⟩ 1).val * 512 + s.val % 512 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 512, Nat.mod_lt _ (by decide)⟩ : Fin 512)))
      = outsAt0 m c ⟨_, hlt⟩ (ValueIdx.ix2 (⟨r.val % 1024, Nat.mod_lt _ (by decide)⟩ : Fin 1024) (⟨s.val % 512, Nat.mod_lt _ (by decide)⟩ : Fin 512)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Dyam

end
-- ==== Proof.Run.DyamEquation.lean ====
/-
  The gradient of the attention branch's output: the kernel's result is the reference's.
-/
module

public import proofs.«01_k».proof.Defs
public import proofs.«01_k».proof.Proof.Gen.Dyam
public import proofs.«01_k».proof.Proof.Gen.Dyam.Frame
public import proofs.«01_k».proof.Proof.Gen.DyamRefIdeal
public import proofs.«01_k».proof.Proof.Gen.DyamRefIdeal.Run
public import proofs.«01_k».proof.Proof.Gen.DyamRefIdeal.Read
public import proofs.«01_k».proof.Proof.Run.DyamValue
public import Idealize.ShloMosaic.Lib.Quiescent

@[expose] public section

noncomputable section

namespace Cert.Proof.Dyam

open Idealize.ShloMosaic Idealize.ShloMosaic.TcCoe Idealize.ShloMosaic.StableHlo Idealize.ShloMosaic.Pointwise Idealize.SL.Sem

section
open Cert.DyamRefIdeal Cert.DyamRefIdeal.Read

/-- The reference's result, entry by entry. -/
theorem ref_apply (x : Vec Ideal S16384x1024 .bf16) (y : Vec Ideal S512x1024 .bf16) (r : Fin 16384) (s : Fin 512) :
    val_main_v5 (F := Ideal) x y (ValueIdx.ix2 r s) = ∑ K : Fin 1024, x (ValueIdx.ix2 r K) * y (ValueIdx.ix2 s K) := by
  rw [val_main_v5_apply]
  show val_main_v4 (F := Ideal) x y (ValueIdx.ix2 r s) = _
  rw [val_main_v4_apply]
  refine Finset.sum_congr rfl fun K _ => ?_
  have el : lidx_main_v4 (ValueIdx.ix2 r s) K = (ValueIdx.ix2 r K) := by
    funext a; match a with
    | ⟨0, _⟩ => rfl
    | ⟨1, _⟩ => rfl
  have er : ridx_main_v4 (ValueIdx.ix2 r s) K = (ValueIdx.ix2 s K) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_DyamRefIdeal := fun m g _ =>
  (θ_run _ _ _).mono (fun r h => ⟨fun c => (h c).2, sem_eq_zero_of_no_sems (by decide) r.2⟩) (Cert.DyamRefIdeal.Value.run m g)

/-- The kernel's result is the reference's, entry by entry. -/
theorem algebraic : Cert.algebraic_DyamIdeal_DyamRefIdeal := fun m g m' g' _ ha =>
  ⟨fun c => (Cert.DyamIdeal.Gen.dats m 0 c).arrAt 2 Cert.DyamIdeal.cfg0.N, Cert.DyamIdeal.Value.run_blocks m g,
    (θ_run _ _ _).mono (fun _ h c => ⟨(h c).1.trans (by
      rw [Cert.DyamRefIdeal.Read.val_main_v5_eq, (ha c).1, (ha c).2]
      funext i
      obtain ⟨r, s, rfl⟩ : ∃ (r : Fin 16384) (s : Fin 512), i = ValueIdx.ix2 r s := ⟨i 0, i 1, (ValueIdx.eq_ix2 i)⟩
      exact (ref_apply _ _ r s).trans (result_eq m c r s).symm), (h c).2⟩) (Cert.DyamRefIdeal.Value.run m' g')⟩

end Cert.Proof.Dyam

end
-- ==== Proof.Run.GuValue.lean ====
/-
  The gate and the up projection: what the kernel leaves, entry by entry.
-/
module

public import proofs.«01_k».proof.Proof.Gen.GuIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gu

open Cert.GuIdeal Cert.GuIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x2816 .bf16) (h4 : a4.IsWhole) (a5 : Memref sig .tc .vmem S1024x2816 .bf16) (h5 : a5.IsWhole) (a6 : Memref sig .tc .vmem S1024x2816 .f32) (h6 : a6.IsWhole)
  (x0 : Vec F S1024x1024 .bf16) (x1 : Vec F S1024x2816 .bf16) (xs : Vec F S1024x2816 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 1024) (b : Fin 2816) : k0_pay1 (F := Ideal) (ValueIdx.ix2 a b) = 0 := by
  rw [← ix2_eq_valueIdx]
  pointwise [k0_pay1]

theorem pay2_apply (A : Vec Ideal S1024x2816 .f32) (G : Vec Ideal S1024x1024 .bf16) (Y : Vec Ideal S1024x2816 .bf16) (a : Fin 1024) (b : Fin 2816) :
    k0_pay2 A G Y (ValueIdx.ix2 a b) = A (ValueIdx.ix2 a b) + ∑ k : Fin 1024, G (ValueIdx.ix2 a k) * Y (ValueIdx.ix2 k b) := by
  simp only [← ix2_eq_valueIdx]
  pointwise [k0_pay2]

theorem pay3_apply (A : Vec Ideal S1024x2816 .f32) (a : Fin 1024) (b : Fin 2816) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = (t.val / 2) ∧ (grid0.coords t 1).val = (t.val % 2) ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S1024x5632 .bf16 := m ((c : Thread nD τ).loc main_arg1)

theorem iblk0_apply (t : Fin cfg0.N) (p : Fin 1024) (q : Fin 1024) (row : Fin 16384) (col : Fin 1024)
    (hr : row.val = 1024 * (t.val / 2) + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 2816) (row : Fin 1024) (col : Fin 5632)
    (hr : row.val = 1024 * 0 + p.val) (hc : col.val = 2816 * (t.val % 2) + q.val) :
    (iblk m c 1 t : Vec Ideal S1024x2816 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 2816 + q.val = col.val
    rw [tr1_eq, hc]; show (grid0.coords t 1).val * 2816 + q.val = _; rw [h1] <;> omega

/-! ## The sum -/

/-- One addend of an entry. -/
def entry (r : Fin 16384) (s : Fin 5632) (K : Fin 1024) : EReal := X m c (ValueIdx.ix2 r K) * Y m c (ValueIdx.ix2 K s)

/-- The same for any number, zero past the last. -/
def term (r : Fin 16384) (s : Fin 5632) (K : ℕ) : EReal := if h : K < 1024 then entry m c r s ⟨K, h⟩ else 0

/-- One point's addend is its block of the sum. -/
theorem block (t : Fin cfg0.N) (a : Fin 1024) (b : Fin 2816) (r : Fin 16384) (s : Fin 5632)
    (hr : r.val = 1024 * (t.val / 2) + a.val) (hs : s.val = 2816 * (t.val % 2) + b.val) (k : Fin 1024) :
    @HMul.hMul EReal EReal EReal _ ((iblk m c 0 t : Vec Ideal S1024x1024 .bf16) (ValueIdx.ix2 a k)) ((iblk m c 1 t : Vec Ideal S1024x2816 .bf16) (ValueIdx.ix2 k b)) = term m c r s (1024 * 0 + k.val) := by
  have hK : 1024 * 0 + k.val < 1024 := by omega
  rw [term, dif_pos hK, entry, iblk0_apply m c t a k r ⟨_, hK⟩ hr rfl, iblk1_apply m c t k b ⟨_, hK⟩ s rfl hs]

/-- What a point writes. -/
theorem out_eq (t : Fin cfg0.N) (a : Fin 1024) (b : Fin 2816) (r : Fin 16384) (s : Fin 5632)
    (hr : r.val = 1024 * (t.val / 2) + a.val) (hs : s.val = 2816 * (t.val % 2) + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 5632) :
    ((dats m 0 c).arrAt 2 cfg0.N : Vec Ideal S16384x5632 .bf16) (ValueIdx.ix2 r s) = ∑ K : Fin 1024, entry m c r s K := by
  have hlt : 2 * (r.val / 1024) + s.val / 2816 < cfg0.N := by rw [show cfg0.N = 32 from N_0]; omega
  have he : ((cfg0.win 2).rect ⟨_, hlt⟩).emb (ValueIdx.ix2 (⟨r.val % 1024, Nat.mod_lt _ (by decide)⟩ : Fin 1024) (⟨s.val % 2816, Nat.mod_lt _ (by decide)⟩ : Fin 2816))
      = ValueIdx.ix2 r s := by
    funext x
    apply Fin.ext
    refine (Pipeline.Window.rect_emb_val (cfg0.win 2) ⟨_, hlt⟩ (ValueIdx.ix2 (⟨r.val % 1024, _⟩ : Fin 1024) (⟨s.val % 2816, _⟩ : Fin 2816)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 2816 + s.val % 2816 = s.val
      rw [tr2_eq]; show (grid0.coords ⟨_, hlt⟩ 1).val * 2816 + s.val % 2816 = s.val; rw [h1]; dsimp only; omega
  have h : (dats m 0 c).arrAt 2 cfg0.N (((cfg0.win 2).rect ⟨_, hlt⟩).emb (ValueIdx.ix2 (⟨r.val % 1024, Nat.mod_lt _ (by decide)⟩ : Fin 1024) (⟨s.val % 2816, Nat.mod_lt _ (by decide)⟩ : Fin 2816)))
      = outsAt0 m c ⟨_, hlt⟩ (ValueIdx.ix2 (⟨r.val % 1024, Nat.mod_lt _ (by decide)⟩ : Fin 1024) (⟨s.val % 2816, Nat.mod_lt _ (by decide)⟩ : Fin 2816)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Gu

end
-- ==== Proof.Run.GuEquation.lean ====
/-
  The gate and the up projection: the kernel's result is the reference's.
-/
module

public import proofs.«01_k».proof.Defs
public import proofs.«01_k».proof.Proof.Gen.Gu
public import proofs.«01_k».proof.Proof.Gen.Gu.Frame
public import proofs.«01_k».proof.Proof.Gen.GuRefIdeal
public import proofs.«01_k».proof.Proof.Gen.GuRefIdeal.Run
public import proofs.«01_k».proof.Proof.Gen.GuRefIdeal.Read
public import proofs.«01_k».proof.Proof.Run.GuValue
public import Idealize.ShloMosaic.Lib.Quiescent

@[expose] public section

noncomputable section

namespace Cert.Proof.Gu

open Idealize.ShloMosaic Idealize.ShloMosaic.TcCoe Idealize.ShloMosaic.StableHlo Idealize.ShloMosaic.Pointwise Idealize.SL.Sem

section
open Cert.GuRefIdeal Cert.GuRefIdeal.Read

/-- The reference's result, entry by entry. -/
theorem ref_apply (x : Vec Ideal S16384x1024 .bf16) (y : Vec Ideal S1024x5632 .bf16) (r : Fin 16384) (s : Fin 5632) :
    val_main_v3 (F := Ideal) x y (ValueIdx.ix2 r s) = ∑ K : Fin 1024, x (ValueIdx.ix2 r K) * y (ValueIdx.ix2 K s) := by
  rw [val_main_v3_apply]
  show val_main_v2 (F := Ideal) x y (ValueIdx.ix2 r s) = _
  rw [val_main_v2_apply]
  refine Finset.sum_congr rfl fun K _ => ?_
  have el : lidx_main_v2 (ValueIdx.ix2 r s) K = (ValueIdx.ix2 r K) := by
    funext a; match a with
    | ⟨0, _⟩ => rfl
    | ⟨1, _⟩ => rfl
  have er : ridx_main_v2 (ValueIdx.ix2 r s) K = (ValueIdx.ix2 K s) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_GuRefIdeal := fun m g _ =>
  (θ_run _ _ _).mono (fun r h => ⟨fun c => (h c).2, sem_eq_zero_of_no_sems (by decide) r.2⟩) (Cert.GuRefIdeal.Value.run m g)

/-- The kernel's result is the reference's, entry by entry. -/
theorem algebraic : Cert.algebraic_GuIdeal_GuRefIdeal := fun m g m' g' _ ha =>
  ⟨fun c => (Cert.GuIdeal.Gen.dats m 0 c).arrAt 2 Cert.GuIdeal.cfg0.N, Cert.GuIdeal.Value.run_blocks m g,
    (θ_run _ _ _).mono (fun _ h c => ⟨(h c).1.trans (by
      rw [Cert.GuRefIdeal.Read.val_main_v3_eq, (ha c).1, (ha c).2]
      funext i
      obtain ⟨r, s, rfl⟩ : ∃ (r : Fin 16384) (s : Fin 5632), i = ValueIdx.ix2 r s := ⟨i 0, i 1, (ValueIdx.eq_ix2 i)⟩
      exact (ref_apply _ _ r s).trans (result_eq m c r s).symm), (h c).2⟩) (Cert.GuRefIdeal.Value.run m' g')⟩

end Cert.Proof.Gu

end
-- ==== Proof.Run.DownValue.lean ====
/-
  The feed-forward layer's last product: what the kernel leaves, entry by entry.
-/
module

public import proofs.«01_k».proof.Proof.Gen.DownIdeal.Value
public import proofs.«01_k».proof.Proof.Run.Blocks
public import proofs.«01_k».proof.Proof.Run.GwdValue
public import Idealize.ShloMosaic.Lib.Pointwise
public import Idealize.ShloMosaic.Lib.ValueIdx
public import Idealize.ShloMosaic.Lib.Pipeline.ValueKit

@[expose] public section

noncomputable section

namespace Cert.Proof.Down

open Cert.DownIdeal Cert.DownIdeal.Gen
open Idealize.ShloMosaic Idealize.ShloMosaic.TcCoe Idealize.ShloMosaic.Pointwise
open Idealize.SL.Sem
open Cert.Proof.Gwd (act)
/-! ## What a grid point computes -/

section
variable {F : FTy → Type} [FloatOps F]
variable (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1408 .bf16) (h6 : a6.IsWhole) (a7 : Memref sig .tc .vmem S1024x1024 .f32) (h7 : a7.IsWhole) (a8 : Memref sig .tc .vmem S1024x1024 .f32) (h8 : a8.IsWhole)
  (x0 : Vec F S1024x1408 .bf16) (x1 : Vec F S1408x1024 .bf16) (x2 : Vec F S1024x1024 .f32) (x3 : Vec F S1024x1408 .bf16) (xs : Vec F S1024x1024 .f32)

/-- The first point of a block starts the accumulator from zero. -/
theorem scratch_first (hc0 : cond0_0 i) (hc1 : ¬cond0_1 i) :
    sout0_A_0 c i a3 h3 a4 h4 a5 h5 a6 h6 a7 h7 a8 h8 hc0 hc1 x0 x1 x2 x3 = k0_pay2 (k0_pay1 (F := F)) x0 x3 x1 := by
  frame_out

/-- The last point of a block writes the accumulator with its own block added. -/
theorem out_last (hc0 : ¬cond0_0 i) (hc1 : cond0_1 i) :
    out0_B_4 c i a3 h3 a4 h4 a5 h5 a6 h6 a7 h7 a8 h8 hc0 hc1 x0 x1 x2 x3 xs = k0_pay3 (k0_pay2 xs x0 x3 x1) x2 := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G U : Vec Ideal S1024x1408 .bf16) (Y : Vec Ideal S1408x1024 .bf16) (a : Fin 1024) (b : Fin 1024) :
    k0_pay2 A G U Y (ValueIdx.ix2 a b) = A (ValueIdx.ix2 a b) + ∑ k : Fin 1408, act (G (ValueIdx.ix2 a k)) (U (ValueIdx.ix2 a k)) * Y (ValueIdx.ix2 k b) := by
  simp only [← ix2_eq_valueIdx]
  pointwise [k0_pay2, act]

theorem pay3_apply (A R : Vec Ideal S1024x1024 .f32) (a : Fin 1024) (b : Fin 1024) :
    k0_pay3 A R (ValueIdx.ix2 a b) = A (ValueIdx.ix2 a b) + R (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide
theorem tr3_eq (i : grid0.Coords) : cc0_transform_3 i = ![(i 0).val, 2 + (i 2).val] := by
  unfold cc0_transform_3; generalize (i 0) = n; generalize (i 2) = h; revert n h; decide

theorem coords_val (t : Fin cfg0.N) : (grid0.coords t 0).val = (t.val / 2) ∧ (grid0.coords t 1).val = 0 ∧ (grid0.coords t 2).val = (t.val % 2) := by
  revert t; decide

variable (m : (ℓ : Loc nD τ sig) → Buf (Elt Ideal) ℓ) (c : Dev nD)

/-- The left operand. -/
abbrev X : Vec Ideal S16384x5632 .bf16 := m ((c : Thread nD τ).loc main_arg0)
/-- The right operand. -/
abbrev Y : Vec Ideal S2816x1024 .bf16 := m ((c : Thread nD τ).loc main_arg1)
/-- What is added. -/
abbrev R : Vec Ideal S16384x1024 .f32 := m ((c : Thread nD τ).loc main_arg2)

theorem iblk0_apply (t : Fin cfg0.N) (p : Fin 1024) (q : Fin 1408) (row : Fin 16384) (col : Fin 5632)
    (hr : row.val = 1024 * (t.val / 2) + p.val) (hc : col.val = 1408 * (t.val % 2) + q.val) :
    (iblk m c 0 t : Vec Ideal S1024x1408 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1408 + q.val = col.val
    rw [tr0_eq, hc]; show (grid0.coords t 2).val * 1408 + q.val = _; rw [h2] <;> omega

theorem iblk1_apply (t : Fin cfg0.N) (p : Fin 1408) (q : Fin 1024) (row : Fin 2816) (col : Fin 1024)
    (hr : row.val = 1408 * (t.val % 2) + p.val) (hc : col.val = 1024 * 0 + q.val) :
    (iblk m c 1 t : Vec Ideal S1408x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1408 + p.val = row.val
    rw [tr1_eq, hr]; show (grid0.coords t 2).val * 1408 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

theorem iblk2_apply (t : Fin cfg0.N) (p : Fin 1024) (q : Fin 1024) (row : Fin 16384) (col : Fin 1024)
    (hr : row.val = 1024 * (t.val / 2) + p.val) (hc : col.val = 1024 * 0 + q.val) :
    (iblk m c 2 t : Vec Ideal S1024x1024 .f32) (ValueIdx.ix2 p q) = R m c (ValueIdx.ix2 row col) := by
  unfold iblk
  show R m c (((cfg0.win 2).rect t).emb (ValueIdx.ix2 p q)) = _
  congr 1
  funext x
  apply Fin.ext
  refine (Pipeline.Window.rect_emb_val (cfg0.win 2) t (ValueIdx.ix2 p q) x rfl).trans ?_
  obtain ⟨h0, h1, h2⟩ := coords_val t
  match x with
  | ⟨0, _⟩ =>
    show cc0_transform_2 (grid0.coords t) 0 * 1024 + p.val = row.val
    rw [tr2_eq, hr]; show (grid0.coords t 0).val * 1024 + p.val = _; rw [h0] <;> omega
  | ⟨1, _⟩ =>
    show cc0_transform_2 (grid0.coords t) 1 * 1024 + q.val = col.val
    rw [tr2_eq, hc]; show (grid0.coords t 1).val * 1024 + q.val = _; rw [h1] <;> omega

theorem iblk3_apply (t : Fin cfg0.N) (p : Fin 1024) (q : Fin 1408) (row : Fin 16384) (col : Fin 5632)
    (hr : row.val = 1024 * (t.val / 2) + p.val) (hc : col.val = 1408 * (2 + (t.val % 2)) + q.val) :
    (iblk m c 3 t : Vec Ideal S1024x1408 .bf16) (ValueIdx.ix2 p q) = X m c (ValueIdx.ix2 row col) := by
  unfold iblk
  show X m c (((cfg0.win 3).rect t).emb (ValueIdx.ix2 p q)) = _
  congr 1
  funext x
  apply Fin.ext
  refine (Pipeline.Window.rect_emb_val (cfg0.win 3) t (ValueIdx.ix2 p q) x rfl).trans ?_
  obtain ⟨h0, h1, h2⟩ := coords_val t
  match x with
  | ⟨0, _⟩ =>
    show cc0_transform_3 (grid0.coords t) 0 * 1024 + p.val = row.val
    rw [tr3_eq, hr]; show (grid0.coords t 0).val * 1024 + p.val = _; rw [h0] <;> omega
  | ⟨1, _⟩ =>
    show cc0_transform_3 (grid0.coords t) 1 * 1408 + q.val = col.val
    rw [tr3_eq, hc]; show (2 + (grid0.coords t 2).val) * 1408 + q.val = _; rw [h2] <;> omega

/-! ## The sum -/

/-- One addend of an entry. -/
def entry (r : Fin 16384) (s : Fin 1024) (K : Fin 2816) : EReal := act (X m c (ValueIdx.ix2 r ⟨K.val, by omega⟩)) (X m c (ValueIdx.ix2 r ⟨2816 + K.val, by omega⟩)) * Y m c (ValueIdx.ix2 K s)

/-- The same for any number, zero past the last. -/
def term (r : Fin 16384) (s : Fin 1024) (K : ℕ) : EReal := if h : K < 2816 then entry m c r s ⟨K, h⟩ else 0

/-- One point's addend is its block of the sum. -/
theorem block (t : Fin cfg0.N) (a : Fin 1024) (b : Fin 1024) (r : Fin 16384) (s : Fin 1024)
    (hr : r.val = 1024 * (t.val / 2) + a.val) (hs : s.val = 1024 * 0 + b.val) (k : Fin 1408) :
    @HMul.hMul EReal EReal EReal _ (act ((iblk m c 0 t : Vec Ideal S1024x1408 .bf16) (ValueIdx.ix2 a k)) ((iblk m c 3 t : Vec Ideal S1024x1408 .bf16) (ValueIdx.ix2 a k))) ((iblk m c 1 t : Vec Ideal S1408x1024 .bf16) (ValueIdx.ix2 k b)) = term m c r s (1408 * (t.val % 2) + k.val) := by
  have hK : 1408 * (t.val % 2) + k.val < 2816 := by omega
  rw [term, dif_pos hK, entry, iblk0_apply m c t a k r ⟨1408 * (t.val % 2) + k.val, by omega⟩ hr rfl, iblk1_apply m c t k b ⟨_, hK⟩ s rfl hs, iblk3_apply m c t a k r ⟨2816 + (1408 * (t.val % 2) + k.val), by omega⟩ hr (by show 2816 + _ = _; omega)]

/-- What the accumulator holds after the first point of a block. -/
theorem scratch_eq (t : Fin cfg0.N) (ht : t.val % 2 = 0) (a : Fin 1024) (b : Fin 1024) (r : Fin 16384) (s : Fin 1024)
    (hr : r.val = 1024 * (t.val / 2) + a.val) (hs : s.val = 1024 * 0 + b.val) :
    (outsAt0 m c t.val t.isLt).2 (ValueIdx.ix2 a b) = ∑ K ∈ Finset.range (1408 * (0 + 1)), term m c r s K := by
  rw [outsAt0_A m c t ht (by omega)]
  dsimp only
  rw [scratch_first, pay2_apply, pay1_apply]
  exact Blocks.first _ _ _ fun k => (block m c t a b r s hr hs k).trans (by rw [ht])

/-- What a point that is the last of its block writes. -/
theorem out_eq (t : Fin cfg0.N) (ht : t.val % 2 = 1) (a : Fin 1024) (b : Fin 1024) (r : Fin 16384) (s : Fin 1024)
    (hr : r.val = 1024 * (t.val / 2) + a.val) (hs : s.val = 1024 * 0 + b.val) :
    (outsAt0 m c t.val t.isLt).1 (ValueIdx.ix2 a b) = ∑ K : Fin 2816, entry m c r s K + R m c (ValueIdx.ix2 r s) := by
  have e := scratch_eq m c ⟨t.val - 1, by omega⟩ (by show (t.val - 1) % 2 = 0; omega) a b r s (by show r.val = 1024 * ((t.val - 1) / 2) + a.val; omega) (by show s.val = 1024 * 0 + b.val; omega)
  dsimp only at e
  rw [outsAt0_B m c t (by omega) ht]
  dsimp only
  rw [out_last, pay3_apply, pay2_apply, e]
  rw [iblk2_apply m c t a b r s hr hs]
  refine congrArg (· + _) ?_
  refine (Blocks.extend (term m c r s) 1408 1 _ fun k => (block m c t a b r s hr hs k).trans (by rw [ht])).trans ?_
  exact Blocks.whole (term m c r s) 2816 (entry m c r s) fun K => by
    rw [term, dif_pos K.isLt]

/-- The result after the run. -/
theorem result_eq (r : Fin 16384) (s : Fin 1024) :
    (Value.G4 m c : Vec Ideal S16384x1024 .f32) (ValueIdx.ix2 r s) = ∑ K : Fin 2816, entry m c r s K + R m c (ValueIdx.ix2 r s) := by
  have hp : Value.pt4Of (ValueIdx.ix2 r s) = 2 * (1 * (r.val / 1024) + s.val / 1024) + 1 := by
    show 2 * (1 * (r.val / 1024 - 0) + 1 * (s.val / 1024 - 0)) + 1 = _
    omega
  have hlt : Value.pt4Of (ValueIdx.ix2 r s) < cfg0.N := by rw [hp, show cfg0.N = 32 from N_0]; omega
  have hl : Value.loc4Of (ValueIdx.ix2 r s) = ValueIdx.ix2 ⟨r.val % 1024, Nat.mod_lt _ (by decide)⟩ ⟨s.val % 1024, Nat.mod_lt _ (by decide)⟩ := by
    funext x
    match x with
    | ⟨0, _⟩ => rfl
    | ⟨1, _⟩ => rfl
  unfold Value.G4
  rw [dif_pos hlt, ← Value.outsAt0_sweep m c _ hlt, hl]
  exact out_eq m c ⟨_, hlt⟩ (by show Value.pt4Of _ % 2 = 1; rw [hp]; omega) _ _ r s
    (by show r.val = 1024 * (Value.pt4Of (ValueIdx.ix2 r s) / 2) + r.val % 1024; rw [hp]; omega)
    (by show s.val = 1024 * 0 + s.val % 1024; omega)

end Cert.Proof.Down

end
-- ==== Proof.Run.DownEquation.lean ====
/-
  The feed-forward layer's last product: the kernel's result is the reference's.
-/
module

public import proofs.«01_k».proof.Defs
public import proofs.«01_k».proof.Proof.Gen.Down
public import proofs.«01_k».proof.Proof.Gen.Down.Frame
public import proofs.«01_k».proof.Proof.Gen.DownRefIdeal
public import proofs.«01_k».proof.Proof.Gen.DownRefIdeal.Run
public import proofs.«01_k».proof.Proof.Gen.DownRefIdeal.Read
public import proofs.«01_k».proof.Proof.Run.DownValue
public import Idealize.ShloMosaic.Lib.Quiescent

@[expose] public section

noncomputable section

namespace Cert.Proof.Down

open Idealize.ShloMosaic Idealize.ShloMosaic.TcCoe Idealize.ShloMosaic.StableHlo Idealize.ShloMosaic.Pointwise Idealize.SL.Sem
open Cert.Proof.Gwd (act)
section
open Cert.DownRefIdeal Cert.DownRefIdeal.Read

/-- The reference's gated activation of one entry. -/
theorem ref_act (x : Vec Ideal S16384x5632 .bf16) (K : Fin 16384) (r : Fin 2816) :
    val_main_v5 (F := Ideal) x (ValueIdx.ix2 K r) =
      act (x (ValueIdx.ix2 K ⟨r.val, by omega⟩)) (x (ValueIdx.ix2 K ⟨2816 + r.val, by omega⟩)) := by
  have e0 : idx_main_v0 (ValueIdx.ix2 K r) = ValueIdx.ix2 K ⟨r.val, by omega⟩ := by
    funext a; match a with
    | ⟨0, _⟩ => rfl
    | ⟨1, _⟩ => rfl
  have e3 : idx_main_v3 (ValueIdx.ix2 K r) = ValueIdx.ix2 K ⟨2816 + r.val, by omega⟩ := by
    funext a; match a with
    | ⟨0, _⟩ => rfl
    | ⟨1, _⟩ => rfl
  simp only [val_main_v5_apply, val_main_v4_apply, val_main_v3_apply, val_main_v2_apply, val_main_v1_apply, val_main_v0_apply,
    val_main_call0_v5_apply, val_main_call0_v4_apply, val_main_call0_v3_apply, val_main_call0_v2_apply, val_main_call0_v1_apply,
    val_main_call0_v0_apply, val_main_call0_cst_apply, val_main_call0_cst_0_apply, e0, e3]
  generalize x (ValueIdx.ix2 K ⟨r.val, by omega⟩) = g
  generalize x (ValueIdx.ix2 K ⟨2816 + r.val, by omega⟩) = u
  pointwise [act, Ideal.logistic]

/-- The reference's result, entry by entry. -/
theorem ref_apply (x : Vec Ideal S16384x5632 .bf16) (y : Vec Ideal S2816x1024 .bf16) (z : Vec Ideal S16384x1024 .f32) (r : Fin 16384) (s : Fin 1024) :
    val_main_v8 (F := Ideal) x y z (ValueIdx.ix2 r s) = ∑ K : Fin 2816, act (x (ValueIdx.ix2 r ⟨K.val, by omega⟩)) (x (ValueIdx.ix2 r ⟨2816 + K.val, by omega⟩)) * y (ValueIdx.ix2 K s) + z (ValueIdx.ix2 r s) := by
  rw [val_main_v8_apply]
  show z (ValueIdx.ix2 r s) + val_main_v7 (F := Ideal) x y (ValueIdx.ix2 r s) = _
  rw [val_main_v7_apply, add_comm]
  refine congrArg (· + _) (Finset.sum_congr rfl fun K _ => ?_)
  have el : lidx_main_v7 (ValueIdx.ix2 r s) K = (ValueIdx.ix2 r K) := by
    funext a; match a with
    | ⟨0, _⟩ => rfl
    | ⟨1, _⟩ => rfl
  have er : ridx_main_v7 (ValueIdx.ix2 r s) K = (ValueIdx.ix2 K s) := by
    funext a; match a with
    | ⟨0, _⟩ => rfl
    | ⟨1, _⟩ => rfl
  rw [el, er, ref_act, val_main_v6_apply]
  rfl

end

/-- The reference ends, its arguments unchanged and every counter zero. -/
theorem quiescent_reference : Cert.quiescent_DownRefIdeal := fun m g _ =>
  (θ_run _ _ _).mono (fun r h => ⟨fun c => (h c).2, sem_eq_zero_of_no_sems (by decide) r.2⟩) (Cert.DownRefIdeal.Value.run m g)

/-- The kernel's result is the reference's, entry by entry. -/
theorem algebraic : Cert.algebraic_DownIdeal_DownRefIdeal := fun m g m' g' _ ha =>
  ⟨fun c => Cert.DownIdeal.Value.G4 m c, Cert.DownIdeal.Value.run m g,
    (θ_run _ _ _).mono (fun _ h c => ⟨(h c).1.trans (by
      rw [Cert.DownRefIdeal.Read.val_main_v8_eq, (ha c).1, (ha c).2.1, (ha c).2.2]
      funext i
      obtain ⟨r, s, rfl⟩ : ∃ (r : Fin 16384) (s : Fin 1024), i = ValueIdx.ix2 r s := ⟨i 0, i 1, (ValueIdx.eq_ix2 i)⟩
      exact (ref_apply _ _ _ r s).trans (result_eq m c r s).symm), (h c).2⟩) (Cert.DownRefIdeal.Value.run m' g')⟩

end Cert.Proof.Down

end
-- ==== Proof.Run.OutValue.lean ====
/-
  The output projection: what the kernel leaves, entry by entry.
-/
module

public import proofs.«01_k».proof.Proof.Gen.OutIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Out

open Cert.OutIdeal Cert.OutIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x0 : Vec F S1024x1024 .bf16) (x1 : Vec F S1024x1024 .bf16) (x2 : Vec F S1024x1024 .f32) (xs : Vec F S1024x1024 .f32)

/-- The one point of a block writes its product. -/
theorem out_only (hc0 : cond0_0 i) (hc1 : cond0_1 i) :
    out0_A_3 c i a3 h3 a4 h4 a5 h5 a6 h6 a7 h7 hc0 hc1 x0 x1 x2 = k0_pay3 (k0_pay2 (k0_pay1 (F := F)) x0 x1) x2 := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x1024 .bf16) (Y : Vec Ideal S1024x1024 .bf16) (a : Fin 1024) (b : Fin 1024) :
    k0_pay2 A G Y (ValueIdx.ix2 a b) = A (ValueIdx.ix2 a b) + ∑ k : Fin 1024, G (ValueIdx.ix2 a k) * Y (ValueIdx.ix2 k b) := by
  simp only [← ix2_eq_valueIdx]
  pointwise [k0_pay2]

theorem pay3_apply (A R : Vec Ideal S1024x1024 .f32) (a : Fin 1024) (b : Fin 1024) :
    k0_pay3 A R (ValueIdx.ix2 a b) = A (ValueIdx.ix2 a b) + R (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide
theorem tr3_eq (i : grid0.Coords) : cc0_transform_3 i = ![(i 0).val, (i 1).val] := by
  unfold cc0_transform_3; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S1024x1024 .bf16 := m ((c : Thread nD τ).loc main_arg1)
/-- What is added. -/
abbrev R : Vec Ideal S16384x1024 .f32 := m ((c : Thread nD τ).loc main_arg2)

theorem iblk0_apply (t : Fin cfg0.N) (p : Fin 1024) (q : Fin 1024) (row : Fin 16384) (col : Fin 1024)
    (hr : row.val = 1024 * t.val + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 1024) (row : Fin 1024) (col : Fin 1024)
    (hr : row.val = 1024 * 0 + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

theorem iblk2_apply (t : Fin cfg0.N) (p : Fin 1024) (q : Fin 1024) (row : Fin 16384) (col : Fin 1024)
    (hr : row.val = 1024 * t.val + p.val) (hc : col.val = 1024 * 0 + q.val) :
    (iblk m c 2 t : Vec Ideal S1024x1024 .f32) (ValueIdx.ix2 p q) = R m c (ValueIdx.ix2 row col) := by
  unfold iblk
  show R m c (((cfg0.win 2).rect t).emb (ValueIdx.ix2 p q)) = _
  congr 1
  funext x
  apply Fin.ext
  refine (Pipeline.Window.rect_emb_val (cfg0.win 2) t (ValueIdx.ix2 p q) x rfl).trans ?_
  obtain ⟨h0, h1, h2⟩ := coords_val t
  match x with
  | ⟨0, _⟩ =>
    show cc0_transform_2 (grid0.coords t) 0 * 1024 + p.val = row.val
    rw [tr2_eq, hr]; show (grid0.coords t 0).val * 1024 + p.val = _; rw [h0] <;> omega
  | ⟨1, _⟩ =>
    show cc0_transform_2 (grid0.coords t) 1 * 1024 + q.val = col.val
    rw [tr2_eq, hc]; show (grid0.coords t 1).val * 1024 + q.val = _; rw [h1] <;> omega

/-! ## The sum -/

/-- One addend of an entry. -/
def entry (r : Fin 16384) (s : Fin 1024) (K : Fin 1024) : EReal := X m c (ValueIdx.ix2 r K) * Y m c (ValueIdx.ix2 K s)

/-- The same for any number, zero past the last. -/
def term (r : Fin 16384) (s : Fin 1024) (K : ℕ) : EReal := if h : K < 1024 then entry m c r s ⟨K, h⟩ else 0

/-- One point's addend is its block of the sum. -/
theorem block (t : Fin cfg0.N) (a : Fin 1024) (b : Fin 1024) (r : Fin 16384) (s : Fin 1024)
    (hr : r.val = 1024 * t.val + a.val) (hs : s.val = 1024 * 0 + b.val) (k : Fin 1024) :
    @HMul.hMul EReal EReal EReal _ ((iblk m c 0 t : Vec Ideal S1024x1024 .bf16) (ValueIdx.ix2 a k)) ((iblk m c 1 t : Vec Ideal S1024x1024 .bf16) (ValueIdx.ix2 k b)) = term m c r s (1024 * 0 + k.val) := by
  have hK : 1024 * 0 + k.val < 1024 := by omega
  rw [term, dif_pos hK, entry, iblk0_apply m c t a k r ⟨_, hK⟩ hr rfl, iblk1_apply m c t k b ⟨_, hK⟩ s rfl hs]

/-- What a point writes. -/
theorem out_eq (t : Fin cfg0.N) (a : Fin 1024) (b : Fin 1024) (r : Fin 16384) (s : Fin 1024)
    (hr : r.val = 1024 * t.val + a.val) (hs : s.val = 1024 * 0 + b.val) :
    outsAt0 m c t (ValueIdx.ix2 a b) = ∑ K : Fin 1024, entry m c r s K + R m c (ValueIdx.ix2 r s) := by
  unfold outsAt0
  rw [out_only, pay3_apply, pay2_apply, pay1_apply]
  rw [iblk2_apply m c t a b r s hr hs]
  refine congrArg (· + _) ?_
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 3).flush t = true := by decide

/-- The result after the run. -/
theorem result_eq (r : Fin 16384) (s : Fin 1024) :
    ((dats m 0 c).arrAt 3 cfg0.N : Vec Ideal S16384x1024 .f32) (ValueIdx.ix2 r s) = ∑ K : Fin 1024, entry m c r s K + R m c (ValueIdx.ix2 r s) := by
  have hlt : r.val / 1024 < cfg0.N := by rw [show cfg0.N = 16 from N_0]; omega
  have he : ((cfg0.win 3).rect ⟨_, hlt⟩).emb (ValueIdx.ix2 (⟨r.val % 1024, Nat.mod_lt _ (by decide)⟩ : Fin 1024) (⟨s.val % 1024, Nat.mod_lt _ (by decide)⟩ : Fin 1024))
      = ValueIdx.ix2 r s := by
    funext x
    apply Fin.ext
    refine (Pipeline.Window.rect_emb_val (cfg0.win 3) ⟨_, hlt⟩ (ValueIdx.ix2 (⟨r.val % 1024, _⟩ : Fin 1024) (⟨s.val % 1024, _⟩ : Fin 1024)) x rfl).trans ?_
    obtain ⟨h0, h1, h2⟩ := coords_val ⟨_, hlt⟩
    match x with
    | ⟨0, _⟩ =>
      show cc0_transform_3 (grid0.coords ⟨_, hlt⟩) 0 * 1024 + r.val % 1024 = r.val
      rw [tr3_eq]; show (grid0.coords ⟨_, hlt⟩ 0).val * 1024 + r.val % 1024 = r.val; rw [h0]; dsimp only; omega
    | ⟨1, _⟩ =>
      show cc0_transform_3 (grid0.coords ⟨_, hlt⟩) 1 * 1024 + s.val % 1024 = s.val
      rw [tr3_eq]; show (grid0.coords ⟨_, hlt⟩ 1).val * 1024 + s.val % 1024 = s.val; rw [h1]; omega
  have h : (dats m 0 c).arrAt 3 cfg0.N (((cfg0.win 3).rect ⟨_, hlt⟩).emb (ValueIdx.ix2 (⟨r.val % 1024, Nat.mod_lt _ (by decide)⟩ : Fin 1024) (⟨s.val % 1024, Nat.mod_lt _ (by decide)⟩ : Fin 1024)))
      = outsAt0 m c ⟨_, hlt⟩ (ValueIdx.ix2 (⟨r.val % 1024, Nat.mod_lt _ (by decide)⟩ : Fin 1024) (⟨s.val % 1024, Nat.mod_lt _ (by decide)⟩ : Fin 1024)) :=
    congrFun ((Value.blocks3 m c ⟨_, hlt⟩ (flush_all _)).trans (Value.flushed3 m c _)) (ValueIdx.ix2 _ _)
  rw [he] at h
  exact h.trans (out_eq m c ⟨_, hlt⟩ _ _ r s (by dsimp only; omega) (by dsimp only; omega))

end Cert.Proof.Out

end
-- ==== Proof.Run.OutEquation.lean ====
/-
  The output projection: the kernel's result is the reference's.
-/
module

public import proofs.«01_k».proof.Defs
public import proofs.«01_k».proof.Proof.Gen.Out
public import proofs.«01_k».proof.Proof.Gen.Out.Frame
public import proofs.«01_k».proof.Proof.Gen.OutRefIdeal
public import proofs.«01_k».proof.Proof.Gen.OutRefIdeal.Run
public import proofs.«01_k».proof.Proof.Gen.OutRefIdeal.Read
public import proofs.«01_k».proof.Proof.Run.OutValue
public import Idealize.ShloMosaic.Lib.Quiescent

@[expose] public section

noncomputable section

namespace Cert.Proof.Out

open Idealize.ShloMosaic Idealize.ShloMosaic.TcCoe Idealize.ShloMosaic.StableHlo Idealize.ShloMosaic.Pointwise Idealize.SL.Sem

section
open Cert.OutRefIdeal Cert.OutRefIdeal.Read

/-- The reference's result, entry by entry. -/
theorem ref_apply (x : Vec Ideal S16384x1024 .bf16) (y : Vec Ideal S1024x1024 .bf16) (z : Vec Ideal S16384x1024 .f32) (r : Fin 16384) (s : Fin 1024) :
    val_main_v3 (F := Ideal) x y z (ValueIdx.ix2 r s) = ∑ K : Fin 1024, x (ValueIdx.ix2 r K) * y (ValueIdx.ix2 K s) + z (ValueIdx.ix2 r s) := by
  rw [val_main_v3_apply]
  show z (ValueIdx.ix2 r s) + val_main_v2 (F := Ideal) x y (ValueIdx.ix2 r s) = _
  rw [val_main_v2_apply, add_comm]
  refine congrArg (· + _) (Finset.sum_congr rfl fun K _ => ?_)
  have el : lidx_main_v2 (ValueIdx.ix2 r s) K = (ValueIdx.ix2 r K) := by
    funext a; match a with
    | ⟨0, _⟩ => rfl
    | ⟨1, _⟩ => rfl
  have er : ridx_main_v2 (ValueIdx.ix2 r s) K = (ValueIdx.ix2 K s) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_OutRefIdeal := fun m g _ =>
  (θ_run _ _ _).mono (fun r h => ⟨fun c => (h c).2, sem_eq_zero_of_no_sems (by decide) r.2⟩) (Cert.OutRefIdeal.Value.run m g)

/-- The kernel's result is the reference's, entry by entry. -/
theorem algebraic : Cert.algebraic_OutIdeal_OutRefIdeal := fun m g m' g' _ ha =>
  ⟨fun c => (Cert.OutIdeal.Gen.dats m 0 c).arrAt 3 Cert.OutIdeal.cfg0.N, Cert.OutIdeal.Value.run_blocks m g,
    (θ_run _ _ _).mono (fun _ h c => ⟨(h c).1.trans (by
      rw [Cert.OutRefIdeal.Read.val_main_v3_eq, (ha c).1, (ha c).2.1, (ha c).2.2]
      funext i
      obtain ⟨r, s, rfl⟩ : ∃ (r : Fin 16384) (s : Fin 1024), i = ValueIdx.ix2 r s := ⟨i 0, i 1, (ValueIdx.eq_ix2 i)⟩
      exact (ref_apply _ _ _ r s).trans (result_eq m c r s).symm), (h c).2⟩) (Cert.OutRefIdeal.Value.run m' g')⟩

end Cert.Proof.Out

end
-- ==== Proof.Run.PdValue.lean ====
/-
  The delta branch's projection: what the kernel leaves, entry by entry.
-/
module

public import proofs.«01_k».proof.Proof.Gen.PdIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Pd

open Cert.PdIdeal Cert.PdIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S2048x1024 .bf16) (h3 : a3.IsWhole) (a4 : Memref sig .tc .vmem S1024x1024 .bf16) (h4 : a4.IsWhole) (a5 : Memref sig .tc .vmem S2048x1024 .bf16) (h5 : a5.IsWhole) (a6 : Memref sig .tc .vmem S2048x1024 .f32) (h6 : a6.IsWhole)
  (x0 : Vec F S2048x1024 .bf16) (x1 : Vec F S1024x1024 .bf16) (xs : Vec F S2048x1024 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 2048) (b : Fin 1024) : k0_pay1 (F := Ideal) (ValueIdx.ix2 a b) = 0 := by
  rw [← ix2_eq_valueIdx]
  pointwise [k0_pay1]

theorem pay2_apply (A : Vec Ideal S2048x1024 .f32) (G : Vec Ideal S2048x1024 .bf16) (Y : Vec Ideal S1024x1024 .bf16) (a : Fin 2048) (b : Fin 1024) :
    k0_pay2 A G Y (ValueIdx.ix2 a b) = A (ValueIdx.ix2 a b) + ∑ k : Fin 1024, G (ValueIdx.ix2 a k) * Y (ValueIdx.ix2 k b) := by
  simp only [← ix2_eq_valueIdx]
  pointwise [k0_pay2]

theorem pay3_apply (A : Vec Ideal S2048x1024 .f32) (a : Fin 2048) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S1024x1024 .bf16 := m ((c : Thread nD τ).loc main_arg1)

theorem iblk0_apply (t : Fin cfg0.N) (p : Fin 2048) (q : Fin 1024) (row : Fin 16384) (col : Fin 1024)
    (hr : row.val = 2048 * t.val + p.val) (hc : col.val = 1024 * 0 + q.val) :
    (iblk m c 0 t : Vec Ideal S2048x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 2048 + p.val = row.val
    rw [tr0_eq, hr]; show (grid0.coords t 0).val * 2048 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 1024) (row : Fin 1024) (col : Fin 1024)
    (hr : row.val = 1024 * 0 + p.val) (hc : col.val = 1024 * 0 + q.val) :
    (iblk m c 1 t : Vec Ideal S1024x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

/-! ## The sum -/

/-- One addend of an entry. -/
def entry (r : Fin 16384) (s : Fin 1024) (K : Fin 1024) : EReal := X m c (ValueIdx.ix2 r K) * Y m c (ValueIdx.ix2 K s)

/-- The same for any number, zero past the last. -/
def term (r : Fin 16384) (s : Fin 1024) (K : ℕ) : EReal := if h : K < 1024 then entry m c r s ⟨K, h⟩ else 0

/-- One point's addend is its block of the sum. -/
theorem block (t : Fin cfg0.N) (a : Fin 2048) (b : Fin 1024) (r : Fin 16384) (s : Fin 1024)
    (hr : r.val = 2048 * t.val + a.val) (hs : s.val = 1024 * 0 + b.val) (k : Fin 1024) :
    @HMul.hMul EReal EReal EReal _ ((iblk m c 0 t : Vec Ideal S2048x1024 .bf16) (ValueIdx.ix2 a k)) ((iblk m c 1 t : Vec Ideal S1024x1024 .bf16) (ValueIdx.ix2 k b)) = term m c r s (1024 * 0 + k.val) := by
  have hK : 1024 * 0 + k.val < 1024 := by omega
  rw [term, dif_pos hK, entry, iblk0_apply m c t a k r ⟨_, hK⟩ hr rfl, iblk1_apply m c t k b ⟨_, hK⟩ s rfl hs]

/-- What a point writes. -/
theorem out_eq (t : Fin cfg0.N) (a : Fin 2048) (b : Fin 1024) (r : Fin 16384) (s : Fin 1024)
    (hr : r.val = 2048 * t.val + a.val) (hs : s.val = 1024 * 0 + b.val) :
    outsAt0 m c t (ValueIdx.ix2 a b) = ∑ K : Fin 1024, entry m c r s K := by
  unfold outsAt0
  rw [out_only, pay3_apply, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 1024) :
    ((dats m 0 c).arrAt 2 cfg0.N : Vec Ideal S16384x1024 .bf16) (ValueIdx.ix2 r s) = ∑ K : Fin 1024, entry m c r s K := by
  have hlt : r.val / 2048 < cfg0.N := by rw [show cfg0.N = 8 from N_0]; omega
  have he : ((cfg0.win 2).rect ⟨_, hlt⟩).emb (ValueIdx.ix2 (⟨r.val % 2048, Nat.mod_lt _ (by decide)⟩ : Fin 2048) (⟨s.val % 1024, Nat.mod_lt _ (by decide)⟩ : Fin 1024))
      = ValueIdx.ix2 r s := by
    funext x
    apply Fin.ext
    refine (Pipeline.Window.rect_emb_val (cfg0.win 2) ⟨_, hlt⟩ (ValueIdx.ix2 (⟨r.val % 2048, _⟩ : Fin 2048) (⟨s.val % 1024, _⟩ : Fin 1024)) x rfl).trans ?_
    obtain ⟨h0, h1, h2⟩ := coords_val ⟨_, hlt⟩
    match x with
    | ⟨0, _⟩ =>
      show cc0_transform_2 (grid0.coords ⟨_, hlt⟩) 0 * 2048 + r.val % 2048 = r.val
      rw [tr2_eq]; show (grid0.coords ⟨_, hlt⟩ 0).val * 2048 + r.val % 2048 = r.val; rw [h0]; dsimp only; omega
    | ⟨1, _⟩ =>
      show cc0_transform_2 (grid0.coords ⟨_, hlt⟩) 1 * 1024 + s.val % 1024 = s.val
      rw [tr2_eq]; show (grid0.coords ⟨_, hlt⟩ 1).val * 1024 + s.val % 1024 = s.val; rw [h1]; omega
  have h : (dats m 0 c).arrAt 2 cfg0.N (((cfg0.win 2).rect ⟨_, hlt⟩).emb (ValueIdx.ix2 (⟨r.val % 2048, Nat.mod_lt _ (by decide)⟩ : Fin 2048) (⟨s.val % 1024, Nat.mod_lt _ (by decide)⟩ : Fin 1024)))
      = outsAt0 m c ⟨_, hlt⟩ (ValueIdx.ix2 (⟨r.val % 2048, Nat.mod_lt _ (by decide)⟩ : Fin 2048) (⟨s.val % 1024, Nat.mod_lt _ (by decide)⟩ : Fin 1024)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Pd

end
-- ==== Proof.Run.PdEquation.lean ====
/-
  The delta branch's projection: the kernel's result is the reference's.
-/
module

public import proofs.«01_k».proof.Defs
public import proofs.«01_k».proof.Proof.Gen.Pd
public import proofs.«01_k».proof.Proof.Gen.Pd.Frame
public import proofs.«01_k».proof.Proof.Gen.PdRefIdeal
public import proofs.«01_k».proof.Proof.Gen.PdRefIdeal.Run
public import proofs.«01_k».proof.Proof.Gen.PdRefIdeal.Read
public import proofs.«01_k».proof.Proof.Run.PdValue
public import Idealize.ShloMosaic.Lib.Quiescent

@[expose] public section

noncomputable section

namespace Cert.Proof.Pd

open Idealize.ShloMosaic Idealize.ShloMosaic.TcCoe Idealize.ShloMosaic.StableHlo Idealize.ShloMosaic.Pointwise Idealize.SL.Sem

section
open Cert.PdRefIdeal Cert.PdRefIdeal.Read

/-- The reference's result, entry by entry. -/
theorem ref_apply (x : Vec Ideal S16384x1024 .bf16) (y : Vec Ideal S1024x1024 .bf16) (r : Fin 16384) (s : Fin 1024) :
    val_main_v3 (F := Ideal) x y (ValueIdx.ix2 r s) = ∑ K : Fin 1024, x (ValueIdx.ix2 r K) * y (ValueIdx.ix2 K s) := by
  rw [val_main_v3_apply]
  show val_main_v2 (F := Ideal) x y (ValueIdx.ix2 r s) = _
  rw [val_main_v2_apply]
  refine Finset.sum_congr rfl fun K _ => ?_
  have el : lidx_main_v2 (ValueIdx.ix2 r s) K = (ValueIdx.ix2 r K) := by
    funext a; match a with
    | ⟨0, _⟩ => rfl
    | ⟨1, _⟩ => rfl
  have er : ridx_main_v2 (ValueIdx.ix2 r s) K = (ValueIdx.ix2 K s) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_PdRefIdeal := fun m g _ =>
  (θ_run _ _ _).mono (fun r h => ⟨fun c => (h c).2, sem_eq_zero_of_no_sems (by decide) r.2⟩) (Cert.PdRefIdeal.Value.run m g)

/-- The kernel's result is the reference's, entry by entry. -/
theorem algebraic : Cert.algebraic_PdIdeal_PdRefIdeal := fun m g m' g' _ ha =>
  ⟨fun c => (Cert.PdIdeal.Gen.dats m 0 c).arrAt 2 Cert.PdIdeal.cfg0.N, Cert.PdIdeal.Value.run_blocks m g,
    (θ_run _ _ _).mono (fun _ h c => ⟨(h c).1.trans (by
      rw [Cert.PdRefIdeal.Read.val_main_v3_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.PdRefIdeal.Value.run m' g')⟩

end Cert.Proof.Pd

end
-- ==== Proof.Run.PaValue.lean ====
/-
  The attention branch's projection: what the kernel leaves, entry by entry.
-/
module

public import proofs.«01_k».proof.Proof.Gen.PaIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Pa

open Cert.PaIdeal Cert.PaIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x512 .bf16) (h3 : a3.IsWhole) (a4 : Memref sig .tc .vmem S512x1024 .bf16) (h4 : a4.IsWhole) (a5 : Memref sig .tc .vmem S1024x1024 .bf16) (h5 : a5.IsWhole) (a6 : Memref sig .tc .vmem S1024x1024 .f32) (h6 : a6.IsWhole)
  (x0 : Vec F S1024x512 .bf16) (x1 : Vec F S512x1024 .bf16) (xs : Vec F S1024x1024 .f32)

/-- The one point of a block writes its product. -/
theorem out_only (hc0 : cond0_0 i) (hc1 : cond0_1 i) :
    out0_A_2 c i a3 h3 a4 h4 a5 h5 a6 h6 hc0 hc1 x0 x1 = k0_pay3 (k0_pay2 (k0_pay1 (F := F)) x0 x1) := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x512 .bf16) (Y : Vec Ideal S512x1024 .bf16) (a : Fin 1024) (b : Fin 1024) :
    k0_pay2 A G Y (ValueIdx.ix2 a b) = A (ValueIdx.ix2 a b) + ∑ k : Fin 512, G (ValueIdx.ix2 a k) * Y (ValueIdx.ix2 k b) := by
  simp only [← ix2_eq_valueIdx]
  pointwise [k0_pay2]

theorem pay3_apply (A : Vec Ideal S1024x1024 .f32) (a : Fin 1024) (b : Fin 1024) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x512 .bf16 := m ((c : Thread nD τ).loc main_arg0)
/-- The right operand. -/
abbrev Y : Vec Ideal S512x1024 .bf16 := m ((c : Thread nD τ).loc main_arg1)

theorem iblk0_apply (t : Fin cfg0.N) (p : Fin 1024) (q : Fin 512) (row : Fin 16384) (col : Fin 512)
    (hr : row.val = 1024 * t.val + p.val) (hc : col.val = 512 * 0 + q.val) :
    (iblk m c 0 t : Vec Ideal S1024x512 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 512 + q.val = col.val
    rw [tr0_eq, hc]; show (grid0.coords t 2).val * 512 + q.val = _; rw [h2] <;> omega

theorem iblk1_apply (t : Fin cfg0.N) (p : Fin 512) (q : Fin 1024) (row : Fin 512) (col : Fin 1024)
    (hr : row.val = 512 * 0 + p.val) (hc : col.val = 1024 * 0 + q.val) :
    (iblk m c 1 t : Vec Ideal S512x1024 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 512 + p.val = row.val
    rw [tr1_eq, hr]; show (grid0.coords t 2).val * 512 + p.val = _; rw [h2] <;> omega
  | ⟨1, _⟩ =>
    show cc0_transform_1 (grid0.coords t) 1 * 1024 + q.val = col.val
    rw [tr1_eq, hc]; show (grid0.coords t 1).val * 1024 + q.val = _; rw [h1] <;> omega

/-! ## The sum -/

/-- One addend of an entry. -/
def entry (r : Fin 16384) (s : Fin 1024) (K : Fin 512) : EReal := X m c (ValueIdx.ix2 r K) * Y m c (ValueIdx.ix2 K s)

/-- The same for any number, zero past the last. -/
def term (r : Fin 16384) (s : Fin 1024) (K : ℕ) : EReal := if h : K < 512 then entry m c r s ⟨K, h⟩ else 0

/-- One point's addend is its block of the sum. -/
theorem block (t : Fin cfg0.N) (a : Fin 1024) (b : Fin 1024) (r : Fin 16384) (s : Fin 1024)
    (hr : r.val = 1024 * t.val + a.val) (hs : s.val = 1024 * 0 + b.val) (k : Fin 512) :
    @HMul.hMul EReal EReal EReal _ ((iblk m c 0 t : Vec Ideal S1024x512 .bf16) (ValueIdx.ix2 a k)) ((iblk m c 1 t : Vec Ideal S512x1024 .bf16) (ValueIdx.ix2 k b)) = term m c r s (512 * 0 + k.val) := by
  have hK : 512 * 0 + k.val < 512 := by omega
  rw [term, dif_pos hK, entry, iblk0_apply m c t a k r ⟨_, hK⟩ hr rfl, iblk1_apply m c t k b ⟨_, hK⟩ s rfl hs]

/-- What a point writes. -/
theorem out_eq (t : Fin cfg0.N) (a : Fin 1024) (b : Fin 1024) (r : Fin 16384) (s : Fin 1024)
    (hr : r.val = 1024 * t.val + a.val) (hs : s.val = 1024 * 0 + b.val) :
    outsAt0 m c t (ValueIdx.ix2 a b) = ∑ K : Fin 512, entry m c r s K := by
  unfold outsAt0
  rw [out_only, pay3_apply, pay2_apply, pay1_apply]
  refine (Blocks.first (term m c r s) 512 _ fun k => block m c t a b r s hr hs k).trans ?_
  exact Blocks.whole (term m c r s) 512 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 1024) :
    ((dats m 0 c).arrAt 2 cfg0.N : Vec Ideal S16384x1024 .bf16) (ValueIdx.ix2 r s) = ∑ K : Fin 512, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 1024, Nat.mod_lt _ (by decide)⟩ : Fin 1024))
      = ValueIdx.ix2 r s := by
    funext x
    apply Fin.ext
    refine (Pipeline.Window.rect_emb_val (cfg0.win 2) ⟨_, hlt⟩ (ValueIdx.ix2 (⟨r.val % 1024, _⟩ : Fin 1024) (⟨s.val % 1024, _⟩ : Fin 1024)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 1024 + s.val % 1024 = s.val
      rw [tr2_eq]; show (grid0.coords ⟨_, hlt⟩ 1).val * 1024 + s.val % 1024 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 1024, Nat.mod_lt _ (by decide)⟩ : Fin 1024)))
      = outsAt0 m c ⟨_, hlt⟩ (ValueIdx.ix2 (⟨r.val % 1024, Nat.mod_lt _ (by decide)⟩ : Fin 1024) (⟨s.val % 1024, Nat.mod_lt _ (by decide)⟩ : Fin 1024)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Pa

end
-- ==== Proof.Run.PaEquation.lean ====
/-
  The attention branch's projection: the kernel's result is the reference's.
-/
module

public import proofs.«01_k».proof.Defs
public import proofs.«01_k».proof.Proof.Gen.Pa
public import proofs.«01_k».proof.Proof.Gen.Pa.Frame
public import proofs.«01_k».proof.Proof.Gen.PaRefIdeal
public import proofs.«01_k».proof.Proof.Gen.PaRefIdeal.Run
public import proofs.«01_k».proof.Proof.Gen.PaRefIdeal.Read
public import proofs.«01_k».proof.Proof.Run.PaValue
public import Idealize.ShloMosaic.Lib.Quiescent

@[expose] public section

noncomputable section

namespace Cert.Proof.Pa

open Idealize.ShloMosaic Idealize.ShloMosaic.TcCoe Idealize.ShloMosaic.StableHlo Idealize.ShloMosaic.Pointwise Idealize.SL.Sem

section
open Cert.PaRefIdeal Cert.PaRefIdeal.Read

/-- The reference's result, entry by entry. -/
theorem ref_apply (x : Vec Ideal S16384x512 .bf16) (y : Vec Ideal S512x1024 .bf16) (r : Fin 16384) (s : Fin 1024) :
    val_main_v3 (F := Ideal) x y (ValueIdx.ix2 r s) = ∑ K : Fin 512, x (ValueIdx.ix2 r K) * y (ValueIdx.ix2 K s) := by
  rw [val_main_v3_apply]
  show val_main_v2 (F := Ideal) x y (ValueIdx.ix2 r s) = _
  rw [val_main_v2_apply]
  refine Finset.sum_congr rfl fun K _ => ?_
  have el : lidx_main_v2 (ValueIdx.ix2 r s) K = (ValueIdx.ix2 r K) := by
    funext a; match a with
    | ⟨0, _⟩ => rfl
    | ⟨1, _⟩ => rfl
  have er : ridx_main_v2 (ValueIdx.ix2 r s) K = (ValueIdx.ix2 K s) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_PaRefIdeal := fun m g _ =>
  (θ_run _ _ _).mono (fun r h => ⟨fun c => (h c).2, sem_eq_zero_of_no_sems (by decide) r.2⟩) (Cert.PaRefIdeal.Value.run m g)

/-- The kernel's result is the reference's, entry by entry. -/
theorem algebraic : Cert.algebraic_PaIdeal_PaRefIdeal := fun m g m' g' _ ha =>
  ⟨fun c => (Cert.PaIdeal.Gen.dats m 0 c).arrAt 2 Cert.PaIdeal.cfg0.N, Cert.PaIdeal.Value.run_blocks m g,
    (θ_run _ _ _).mono (fun _ h c => ⟨(h c).1.trans (by
      rw [Cert.PaRefIdeal.Read.val_main_v3_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.PaRefIdeal.Value.run m' g')⟩

end Cert.Proof.Pa

end
-- ==== Proof.Run.RmsbValue.lean ====
/-
  The gradient of the norm: what the kernel leaves, entry by entry.
-/
module

public import proofs.«01_k».proof.Proof.Gen.RmsbIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Rmsb

open Cert.RmsbIdeal Cert.RmsbIdeal.Gen
open Idealize.ShloMosaic Idealize.ShloMosaic.TcCoe Idealize.ShloMosaic.Pointwise
open Idealize.SL.Sem

/-! ## One row -/

/-- The mean of a row's squares, with the small constant added. -/
def power (x : Fin 1024 → EReal) : EReal :=
  Ideal.div (∑ k, x k * x k) (Ideal.ofBits FTy.f32 1149239296#32) + Ideal.ofBits FTy.f32 897988541#32

/-- The gradient of each addend of the mean, of the row, its gradient and the norm's weights. -/
def slope (x v w : Fin 1024 → EReal) : EReal :=
  Ideal.div ((∑ k, x k * (v k * w k)) * (Ideal.ofBits FTy.f32 3204448256#32 * Ideal.div (Ideal.rsqrt (power x)) (power x)))
    (Ideal.ofBits FTy.f32 1149239296#32)

/-- The row's gradient at one entry. -/
def rowGrad (x v w : Fin 1024 → EReal) (b : Fin 1024) : EReal :=
  v b * w b * Ideal.rsqrt (power x) + x b * slope x v w + slope x v w * x b

/-- The row's part of the gradient of one weight. -/
def weightGrad (x v : Fin 1024 → EReal) (b : Fin 1024) : EReal := x b * Ideal.rsqrt (power x) * v b

/-! ## What a grid point computes -/

section
variable {F : FTy → Type} [FloatOps F]
variable (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole)
  (x0 : Vec F S512x1024 .f32) (x1 : Vec F S1x1024 .f32) (x2 x3 : Vec F S512x1024 .f32) (xs : Vec F S1x1024 .f32)

/-- The first point writes its rows' gradient. -/
theorem rows_first (hc0 : cond0_0 i) : out0_A_4 c i a1 h1 a2 h2 a3 h3 a4 h4 a5 h5 a6 h6 hc0 x0 x1 x2 x3 = k0_pay6 x0 x1 x2 x3 := by
  frame_out

/-- A later point writes its rows' gradient. -/
theorem rows_next (hc0 : ¬cond0_0 i) : out0_B_4 c i a1 h1 a2 h2 a3 h3 a4 h4 a5 h5 a6 h6 hc0 x0 x1 x2 x3 xs = k0_pay6 x0 x1 x2 x3 := by
  frame_out

/-- The first point starts the weights' gradient from zero. -/
theorem weights_first (hc0 : cond0_0 i) : out0_A_5 c i a1 h1 a2 h2 a3 h3 a4 h4 a5 h5 a6 h6 hc0 x0 x1 x2 x3 = k0_pay2 (k0_pay5 x0 x2) (k0_pay1 (F := F)) := by
  frame_out

/-- A later point adds its rows' part to the weights' gradient. -/
theorem weights_next (hc0 : ¬cond0_0 i) : out0_B_5 c i a1 h1 a2 h2 a3 h3 a4 h4 a5 h5 a6 h6 hc0 x0 x1 x2 x3 xs = k0_pay2 (k0_pay5 x0 x2) xs := by
  frame_out

end

/-! ## Entry by entry -/

theorem pay1_apply (b : Fin 1024) : k0_pay1 (F := Ideal) (ValueIdx.ix2 (0 : Fin 1) b) = 0 := by
  rw [← ix2_eq_valueIdx]
  pointwise [k0_pay1]

theorem pay2_apply (G S : Vec Ideal S1x1024 .f32) (b : Fin 1024) :
    k0_pay2 G S (ValueIdx.ix2 (0 : Fin 1) b) = S (ValueIdx.ix2 (0 : Fin 1) b) + G (ValueIdx.ix2 (0 : Fin 1) b) := by
  simp only [← ix2_eq_valueIdx]
  pointwise [k0_pay2]

theorem pay5_apply (X Y : Vec Ideal S512x1024 .f32) (b : Fin 1024) :
    k0_pay5 X Y (ValueIdx.ix2 (0 : Fin 1) b) = ∑ k : Fin 512, weightGrad (fun j => X (ValueIdx.ix2 k j)) (fun j => Y (ValueIdx.ix2 k j)) b := by
  simp only [← ix2_eq_valueIdx]
  pointwise [k0_pay5, k0_pay4, k0_pay3, weightGrad, power]

theorem pay6_apply (X Y R : Vec Ideal S512x1024 .f32) (W : Vec Ideal S1x1024 .f32) (a : Fin 512) (b : Fin 1024) :
    k0_pay6 X W Y R (ValueIdx.ix2 a b) =
      rowGrad (fun j => X (ValueIdx.ix2 a j)) (fun j => Y (ValueIdx.ix2 a j)) (fun j => W (ValueIdx.ix2 (0 : Fin 1) j)) b + R (ValueIdx.ix2 a b) := by
  simp only [← ix2_eq_valueIdx]
  pointwise [k0_pay6, k0_pay4, k0_pay3, rowGrad, slope, power, Finset.univ_unique, Finset.sum_singleton]

/-! ## Where the blocks lie -/

theorem tr0_eq (i : grid0.Coords) : cc0_transform_0 i = ![(i 0).val, 0] := by
  unfold cc0_transform_0; generalize (i 0) = n; revert n; decide

theorem tr1_eq (i : grid0.Coords) : cc0_transform_1 i = ![0, 0] := by
  unfold cc0_transform_1; generalize (i 0) = n; revert n; decide

theorem tr2_eq (i : grid0.Coords) : cc0_transform_2 i = ![(i 0).val, 0] := by
  unfold cc0_transform_2; generalize (i 0) = n; revert n; decide

theorem tr3_eq (i : grid0.Coords) : cc0_transform_3 i = ![(i 0).val, 0] := by
  unfold cc0_transform_3; generalize (i 0) = n; revert n; decide

theorem tr4_eq (i : grid0.Coords) : cc0_transform_4 i = ![(i 0).val, 0] := by
  unfold cc0_transform_4; generalize (i 0) = n; revert n; decide

theorem tr5_eq (i : grid0.Coords) : cc0_transform_5 i = ![0, 0] := by
  unfold cc0_transform_5; generalize (i 0) = n; revert n; decide

theorem coords_val (t : Fin cfg0.N) : (grid0.coords t 0).val = t.val := by
  revert t; decide

variable (m : (ℓ : Loc nD τ sig) → Buf (Elt Ideal) ℓ) (c : Dev nD)

/-- The rows. -/
abbrev X : Vec Ideal S16384x1024 .f32 := m ((c : Thread nD τ).loc main_arg0)
/-- The norm's weights. -/
abbrev W : Vec Ideal S1x1024 .f32 := m ((c : Thread nD τ).loc main_arg1)
/-- The gradient of the normed rows. -/
abbrev Y : Vec Ideal S16384x1024 .f32 := m ((c : Thread nD τ).loc main_arg2)
/-- What is added to the rows' gradient. -/
abbrev R : Vec Ideal S16384x1024 .f32 := m ((c : Thread nD τ).loc main_arg3)

theorem iblk0_apply (t : Fin cfg0.N) (p : Fin 512) (q : Fin 1024) (row : Fin 16384)
    (hr : row.val = 512 * t.val + p.val) :
    (iblk m c 0 t : Vec Ideal S512x1024 .f32) (ValueIdx.ix2 p q) = X m c (ValueIdx.ix2 row q) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  match x with
  | ⟨0, _⟩ =>
    show cc0_transform_0 (grid0.coords t) 0 * 512 + p.val = row.val
    rw [tr0_eq, hr]; show (grid0.coords t 0).val * 512 + p.val = _; rw [coords_val]; omega
  | ⟨1, _⟩ =>
    show cc0_transform_0 (grid0.coords t) 1 * 1024 + q.val = q.val
    rw [tr0_eq]; show 0 * 1024 + q.val = _; omega

theorem iblk1_apply (t : Fin cfg0.N) (q : Fin 1024) :
    (iblk m c 1 t : Vec Ideal S1x1024 .f32) (ValueIdx.ix2 (0 : Fin 1) q) = W m c (ValueIdx.ix2 (0 : Fin 1) q) := by
  unfold iblk
  show W m c (((cfg0.win 1).rect t).emb (ValueIdx.ix2 (0 : Fin 1) q)) = _
  congr 1
  funext x
  apply Fin.ext
  refine (Pipeline.Window.rect_emb_val (cfg0.win 1) t (ValueIdx.ix2 (0 : Fin 1) q) x rfl).trans ?_
  match x with
  | ⟨0, _⟩ =>
    show cc0_transform_1 (grid0.coords t) 0 * 1 + 0 = 0
    rw [tr1_eq]; rfl
  | ⟨1, _⟩ =>
    show cc0_transform_1 (grid0.coords t) 1 * 1024 + q.val = q.val
    rw [tr1_eq]; show 0 * 1024 + q.val = _; omega

theorem iblk2_apply (t : Fin cfg0.N) (p : Fin 512) (q : Fin 1024) (row : Fin 16384)
    (hr : row.val = 512 * t.val + p.val) :
    (iblk m c 2 t : Vec Ideal S512x1024 .f32) (ValueIdx.ix2 p q) = Y m c (ValueIdx.ix2 row q) := by
  unfold iblk
  show Y m c (((cfg0.win 2).rect t).emb (ValueIdx.ix2 p q)) = _
  congr 1
  funext x
  apply Fin.ext
  refine (Pipeline.Window.rect_emb_val (cfg0.win 2) t (ValueIdx.ix2 p q) x rfl).trans ?_
  match x with
  | ⟨0, _⟩ =>
    show cc0_transform_2 (grid0.coords t) 0 * 512 + p.val = row.val
    rw [tr2_eq, hr]; show (grid0.coords t 0).val * 512 + p.val = _; rw [coords_val]; omega
  | ⟨1, _⟩ =>
    show cc0_transform_2 (grid0.coords t) 1 * 1024 + q.val = q.val
    rw [tr2_eq]; show 0 * 1024 + q.val = _; omega

theorem iblk3_apply (t : Fin cfg0.N) (p : Fin 512) (q : Fin 1024) (row : Fin 16384)
    (hr : row.val = 512 * t.val + p.val) :
    (iblk m c 3 t : Vec Ideal S512x1024 .f32) (ValueIdx.ix2 p q) = R m c (ValueIdx.ix2 row q) := by
  unfold iblk
  show R m c (((cfg0.win 3).rect t).emb (ValueIdx.ix2 p q)) = _
  congr 1
  funext x
  apply Fin.ext
  refine (Pipeline.Window.rect_emb_val (cfg0.win 3) t (ValueIdx.ix2 p q) x rfl).trans ?_
  match x with
  | ⟨0, _⟩ =>
    show cc0_transform_3 (grid0.coords t) 0 * 512 + p.val = row.val
    rw [tr3_eq, hr]; show (grid0.coords t 0).val * 512 + p.val = _; rw [coords_val]; omega
  | ⟨1, _⟩ =>
    show cc0_transform_3 (grid0.coords t) 1 * 1024 + q.val = q.val
    rw [tr3_eq]; show 0 * 1024 + q.val = _; omega

/-! ## The rows' gradient -/

/-- What a point writes for its rows. -/
theorem rows_eq (t : Fin cfg0.N) : (outsAt0 m c t.val t.isLt).1 = k0_pay6 (iblk m c 0 t) (iblk m c 1 t) (iblk m c 2 t) (iblk m c 3 t) := by
  by_cases h0 : t.val % 32 = 0
  · rw [outsAt0_A m c t h0]; dsimp only; rw [rows_first]
  · rw [outsAt0_B m c t h0]; dsimp only; rw [rows_next]

/-- Every point writes its rows back. -/
theorem flush_all : ∀ t : Fin cfg0.N, (cfg0.win 4).flush t = true := by decide

/-- The rows' gradient after the run. -/
theorem result_rows (r : Fin 16384) (s : Fin 1024) :
    ((dats m 0 c).arrAt 4 cfg0.N : Vec Ideal S16384x1024 .f32) (ValueIdx.ix2 r s) =
      rowGrad (fun j => X m c (ValueIdx.ix2 r j)) (fun j => Y m c (ValueIdx.ix2 r j)) (fun j => W m c (ValueIdx.ix2 (0 : Fin 1) j)) s + R m c (ValueIdx.ix2 r s) := by
  have hlt : r.val / 512 < cfg0.N := by rw [show cfg0.N = 32 from N_0]; omega
  have hr : r.val = 512 * (r.val / 512) + r.val % 512 := by omega
  have he : ((cfg0.win 4).rect ⟨_, hlt⟩).emb (ValueIdx.ix2 (⟨r.val % 512, Nat.mod_lt _ (by decide)⟩ : Fin 512) s) = ValueIdx.ix2 r s := by
    funext y
    apply Fin.ext
    refine (Pipeline.Window.rect_emb_val (cfg0.win 4) ⟨_, hlt⟩ (ValueIdx.ix2 (⟨r.val % 512, _⟩ : Fin 512) s) y rfl).trans ?_
    match y with
    | ⟨0, _⟩ =>
      show cc0_transform_4 (grid0.coords ⟨_, hlt⟩) 0 * 512 + r.val % 512 = r.val
      rw [tr4_eq]; show (grid0.coords ⟨_, hlt⟩ 0).val * 512 + r.val % 512 = r.val; rw [coords_val]; dsimp only; omega
    | ⟨1, _⟩ =>
      show cc0_transform_4 (grid0.coords ⟨_, hlt⟩) 1 * 1024 + s.val = s.val
      rw [tr4_eq]; show 0 * 1024 + s.val = s.val; omega
  have h : (dats m 0 c).arrAt 4 cfg0.N (((cfg0.win 4).rect ⟨_, hlt⟩).emb (ValueIdx.ix2 (⟨r.val % 512, Nat.mod_lt _ (by decide)⟩ : Fin 512) s))
      = (outsAt0 m c (r.val / 512) hlt).1 (ValueIdx.ix2 (⟨r.val % 512, Nat.mod_lt _ (by decide)⟩ : Fin 512) s) :=
    congrFun ((Value.blocks4 m c ⟨_, hlt⟩ (flush_all _)).trans (Value.flushed4 m c _)) (ValueIdx.ix2 _ _)
  rw [he] at h
  refine h.trans ((congrFun (rows_eq m c ⟨_, hlt⟩) _).trans ?_)
  have e0 := fun q => iblk0_apply m c ⟨_, hlt⟩ (⟨r.val % 512, Nat.mod_lt _ (by decide)⟩ : Fin 512) q r hr
  have e2 := fun q => iblk2_apply m c ⟨_, hlt⟩ (⟨r.val % 512, Nat.mod_lt _ (by decide)⟩ : Fin 512) q r hr
  rw [pay6_apply, iblk3_apply m c ⟨_, hlt⟩ _ _ r hr]
  simp only [e0, e2, iblk1_apply]

/-! ## The weights' gradient -/

/-- One row's part of one weight's gradient. -/
def entry (s : Fin 1024) (K : Fin 16384) : EReal :=
  weightGrad (fun j => X m c (ValueIdx.ix2 K j)) (fun j => Y m c (ValueIdx.ix2 K j)) s

/-- The same for any number, zero past the last. -/
def term (s : Fin 1024) (K : ℕ) : EReal := if h : K < 16384 then entry m c s ⟨K, h⟩ else 0

/-- One point's addend is its block of the sum. -/
theorem block (t : Fin cfg0.N) (s : Fin 1024) (k : Fin 512) :
    weightGrad (fun j => (iblk m c 0 t : Vec Ideal S512x1024 .f32) (ValueIdx.ix2 k j)) (fun j => (iblk m c 2 t : Vec Ideal S512x1024 .f32) (ValueIdx.ix2 k j)) s =
      term m c s (512 * t.val + k.val) := by
  have ht : t.val < 32 := t.isLt.trans_eq N_0
  have hK : 512 * t.val + k.val < 16384 := by omega
  rw [term, dif_pos hK, entry]
  have e0 := fun q => iblk0_apply m c t k q ⟨_, hK⟩ rfl
  have e2 := fun q => iblk2_apply m c t k q ⟨_, hK⟩ rfl
  simp only [e0, e2]

/-- What the weights' gradient holds after a point. -/
theorem weights_eq (n : ℕ) : ∀ (h : n < cfg0.N) (s : Fin 1024),
    (outsAt0 m c n h).2 (ValueIdx.ix2 (0 : Fin 1) s) = ∑ K ∈ Finset.range (512 * (n + 1)), term m c s K := by
  induction n with
  | zero =>
    intro h s
    rw [outsAt0_A m c ⟨0, h⟩ (Nat.zero_mod _)]
    dsimp only
    rw [weights_first, pay2_apply, pay1_apply, pay5_apply]
    exact Blocks.first _ _ _ fun k => block m c ⟨0, h⟩ s k
  | succ n ih =>
    intro h s
    have hN := h
    rw [show cfg0.N = 32 from N_0] at hN
    rw [outsAt0_B m c ⟨n + 1, h⟩ (by show ¬(n + 1) % 32 = 0; omega)]
    dsimp only
    rw [weights_next, pay2_apply, pay5_apply]
    have e := ih (Nat.lt_of_succ_lt h) s
    simp only [Nat.add_sub_cancel] at e ⊢
    rw [e]
    exact Blocks.extend _ _ _ _ fun k => block m c ⟨n + 1, h⟩ s k

/-- Only the last point writes the weights' gradient back. -/
theorem flush_last : ∀ t : Fin cfg0.N, (cfg0.win 5).flush t = true → t.val = 31 := by decide

theorem flush_31 (h : 31 < cfg0.N) : (cfg0.win 5).flush ⟨31, h⟩ = true := by revert h; decide

/-- The weights' gradient after the run. -/
theorem result_weights (s : Fin 1024) :
    ((dats m 0 c).arrAt 5 cfg0.N : Vec Ideal S1x1024 .f32) (ValueIdx.ix2 (0 : Fin 1) s) = ∑ K : Fin 16384, entry m c s K := by
  have hlt : 31 < cfg0.N := by rw [show cfg0.N = 32 from N_0]; omega
  have he : ((cfg0.win 5).rect ⟨_, hlt⟩).emb (ValueIdx.ix2 (0 : Fin 1) s) = ValueIdx.ix2 (0 : Fin 1) s := by
    funext y
    apply Fin.ext
    refine (Pipeline.Window.rect_emb_val (cfg0.win 5) ⟨_, hlt⟩ (ValueIdx.ix2 (0 : Fin 1) s) y rfl).trans ?_
    match y with
    | ⟨0, _⟩ =>
      show cc0_transform_5 (grid0.coords ⟨_, hlt⟩) 0 * 1 + 0 = 0
      rw [tr5_eq]; rfl
    | ⟨1, _⟩ =>
      show cc0_transform_5 (grid0.coords ⟨_, hlt⟩) 1 * 1024 + s.val = s.val
      rw [tr5_eq]; show 0 * 1024 + s.val = s.val; omega
  have hb : ((cfg0.win 5).blk ⟨_, hlt⟩).view.read (Elt Ideal) ((dats m 0 c).arrAt 5 cfg0.N) = (dats m 0 c).flushed 5 ⟨_, hlt⟩ :=
    (dats m 0 c).read_blk_arrAt_eq_flushed 5 (fun t t' ht ht' hne => absurd (Fin.ext ((flush_last t ht).trans (flush_last t' ht').symm)) hne)
      cfg0.N ⟨_, hlt⟩ hlt (flush_31 hlt)
  have h : (dats m 0 c).arrAt 5 cfg0.N (((cfg0.win 5).rect ⟨_, hlt⟩).emb (ValueIdx.ix2 (0 : Fin 1) s))
      = (outsAt0 m c 31 hlt).2 (ValueIdx.ix2 (0 : Fin 1) s) :=
    congrFun (hb.trans (Value.flushed5 m c _)) (ValueIdx.ix2 _ _)
  rw [he] at h
  refine h.trans ((weights_eq m c 31 hlt s).trans ?_)
  exact Blocks.whole (term m c s) 16384 (entry m c s) fun K => by
    rw [term, dif_pos K.isLt]

end Cert.Proof.Rmsb

end
-- ==== Proof.Run.RmsbEquation.lean ====
/-
  The gradient of the norm: the kernel's results are the reference's.
-/
module

public import proofs.«01_k».proof.Defs
public import proofs.«01_k».proof.Proof.Gen.Rmsb
public import proofs.«01_k».proof.Proof.Gen.Rmsb.Frame
public import proofs.«01_k».proof.Proof.Gen.RmsbRefIdeal
public import proofs.«01_k».proof.Proof.Gen.RmsbRefIdeal.Run
public import proofs.«01_k».proof.Proof.Gen.RmsbRefIdeal.Read
public import proofs.«01_k».proof.Proof.Run.RmsbValue
public import Idealize.ShloMosaic.Lib.Quiescent
public import Idealize.ShloMosaic.Lib.KernelVsHost

@[expose] public section

noncomputable section

namespace Cert.Proof.Rmsb

open Idealize.ShloMosaic Idealize.ShloMosaic.TcCoe Idealize.ShloMosaic.StableHlo Idealize.ShloMosaic.Pointwise Idealize.SL.Sem

section
open Cert.RmsbRefIdeal Cert.RmsbRefIdeal.Read

variable (x : Vec Ideal S16384x1024 .f32) (w : Vec Ideal S1x1024 .f32) (v z : Vec Ideal S16384x1024 .f32) (r : Fin 16384) (s : Fin 1024)

/-! ## Where the reference reads -/

theorem idx_square (k : Fin 1024) : idx_main_v2 (idx_main_v3 (ValueIdx.ix2 r (0 : Fin 1))) k = ValueIdx.ix2 r k := by
  funext a; match a with
  | ⟨0, _⟩ => rfl
  | ⟨1, _⟩ => rfl

theorem idx_spread : idx_main_v12 (ValueIdx.ix2 r s) = ValueIdx.ix2 r (0 : Fin 1) := by
  funext a; match a with
  | ⟨0, _⟩ => rfl
  | ⟨1, _⟩ => rfl

theorem idx_spread' : idx_main_v26 (ValueIdx.ix2 r s) = ValueIdx.ix2 r (0 : Fin 1) := by
  funext a; match a with
  | ⟨0, _⟩ => rfl
  | ⟨1, _⟩ => rfl

theorem idx_weight : idx_main_v0 (idx_main_v14 (idx_main_v20 (ValueIdx.ix2 r s))) = ValueIdx.ix2 (0 : Fin 1) s := by
  funext a; match a with
  | ⟨0, _⟩ => rfl
  | ⟨1, _⟩ => exact Fin.ext (Nat.mod_eq_of_lt s.isLt)

theorem idx_product (k : Fin 1024) : idx_main_v24 (idx_main_v25 (ValueIdx.ix2 r (0 : Fin 1))) k = ValueIdx.ix2 r k := by
  funext a; match a with
  | ⟨0, _⟩ => exact Fin.ext (by show r.val * 1 + 0 = r.val; omega)
  | ⟨1, _⟩ => rfl

theorem idx_slope (k : Fin 1) : idx_main_v31 (idx_main_v32 (ValueIdx.ix2 r s)) k = ValueIdx.ix2 r (0 : Fin 1) := by
  have hk := k.isLt
  funext a; match a with
  | ⟨0, _⟩ => rfl
  | ⟨1, _⟩ => exact Fin.ext (by show k.val = 0; omega)

theorem idx_column (k : Fin 1) (K : Fin 16384) :
    idx_main_v18 (idx_main_v19 (idx_main_v22 (idx_main_v37 (ValueIdx.ix2 (0 : Fin 1) s)) k)) K = ValueIdx.ix2 K s := by
  have hk := k.isLt
  funext a; match a with
  | ⟨0, _⟩ => rfl
  | ⟨1, _⟩ => exact Fin.ext (by show k.val * 1024 + s.val = s.val; omega)

/-! ## The reference's arrays, entry by entry -/

/-- A row's mean square. -/
theorem ref_power : val_main_v7 (F := Ideal) x (ValueIdx.ix2 r (0 : Fin 1)) = power (fun j => x (ValueIdx.ix2 r j)) := by
  simp only [val_main_v7_apply, val_main_v5_apply, val_main_v3_apply, val_main_v2_apply, val_main_v1_apply, val_main_v4_apply, val_main_v6_apply,
    val_main_cst_apply, val_main_cst_0_apply, val_main_cst_1_apply, idx_square]
  pointwise [power]

/-- Its inverse root. -/
theorem ref_root : val_main_v8 (F := Ideal) x (ValueIdx.ix2 r (0 : Fin 1)) = Ideal.rsqrt (power (fun j => x (ValueIdx.ix2 r j))) := by
  rw [val_main_v8_apply, ref_power]
  pointwise

/-- The norm's weights, spread over the rows. -/
theorem ref_weight : val_main_v20 (F := Ideal) w (ValueIdx.ix2 r s) = w (ValueIdx.ix2 (0 : Fin 1) s) := by
  rw [val_main_v20_apply, val_main_v14_apply, val_main_v0_apply, idx_weight]

/-- The gradient of each addend of a row's mean. -/
theorem ref_slope : val_main_v30 (F := Ideal) x w v (ValueIdx.ix2 r (0 : Fin 1)) =
    slope (fun j => x (ValueIdx.ix2 r j)) (fun j => v (ValueIdx.ix2 r j)) (fun j => w (ValueIdx.ix2 (0 : Fin 1) j)) := by
  simp only [val_main_v30_apply, val_main_v29_apply, val_main_v28_apply, val_main_v25_apply, val_main_v24_apply, val_main_v23_apply, val_main_v21_apply,
    val_main_v11_apply, val_main_v10_apply, val_main_v9_apply, val_main_cst_2_apply, val_main_cst_5_apply, val_main_cst_6_apply,
    idx_product, ref_weight, ref_root, ref_power]
  pointwise [slope]

/-- A row's gradient, and what is added to it. -/
theorem ref_rows : val_main_v38 (F := Ideal) x w v z (ValueIdx.ix2 r s) =
    rowGrad (fun j => x (ValueIdx.ix2 r j)) (fun j => v (ValueIdx.ix2 r j)) (fun j => w (ValueIdx.ix2 (0 : Fin 1) j)) s + z (ValueIdx.ix2 r s) := by
  simp only [val_main_v38_apply, val_main_v36_apply, val_main_v35_apply, val_main_v34_apply, val_main_v33_apply, val_main_v32_apply, val_main_v31_apply,
    val_main_v27_apply, val_main_v26_apply, val_main_v21_apply, val_main_cst_7_apply, idx_slope, idx_spread', ref_weight, ref_root, ref_slope,
    Finset.univ_unique, Finset.sum_singleton]
  refine Eq.trans ?_ (add_comm _ _)
  pointwise [rowGrad]

/-- The gradient of the norm's weights. -/
theorem ref_weights : val_main_v37 (F := Ideal) x v (ValueIdx.ix2 (0 : Fin 1) s) =
    ∑ K : Fin 16384, weightGrad (fun j => x (ValueIdx.ix2 K j)) (fun j => v (ValueIdx.ix2 K j)) s := by
  simp only [val_main_v37_apply, val_main_v22_apply, val_main_v19_apply, val_main_v18_apply, val_main_v17_apply, val_main_v13_apply, val_main_v12_apply,
    val_main_cst_3_apply, val_main_cst_4_apply, idx_column, idx_spread, ref_root, Finset.univ_unique, Finset.sum_singleton]
  pointwise [weightGrad]

end

/-- The reference ends, its arguments unchanged and every counter zero. -/
theorem quiescent_reference : Cert.quiescent_RmsbRefIdeal := fun m g _ =>
  (θ_run _ _ _).mono (fun r h => ⟨fun c => (h c).2.2, sem_eq_zero_of_no_sems (by decide) r.2⟩) (Cert.RmsbRefIdeal.Value.run m g)

/-- The kernel's results are the reference's, entry by entry. -/
theorem algebraic : Cert.algebraic_RmsbIdeal_RmsbRefIdeal := fun m g m' g' _ ha =>
  ⟨fun c => (Cert.RmsbIdeal.Gen.dats m 0 c).arrAt 4 Cert.RmsbIdeal.cfg0.N, fun c => (Cert.RmsbIdeal.Gen.dats m 0 c).arrAt 5 Cert.RmsbIdeal.cfg0.N,
    Cert.RmsbIdeal.Value.run_blocks m g,
    (θ_run _ _ _).mono (fun _ h c => ⟨(h c).1.trans (by
      rw [Cert.RmsbRefIdeal.Read.val_main_v38_eq, (ha c).1, (ha c).2.1, (ha c).2.2.1, (ha c).2.2.2]
      funext i
      obtain ⟨r, s, rfl⟩ : ∃ (r : Fin 16384) (s : Fin 1024), i = ValueIdx.ix2 r s := ⟨i 0, i 1, (ValueIdx.eq_ix2 i)⟩
      exact (ref_rows _ _ _ _ r s).trans (result_rows m c r s).symm), (h c).2.1.trans (by
      rw [Cert.RmsbRefIdeal.Read.val_main_v37_eq, (ha c).1, (ha c).2.2.1]
      funext i
      obtain ⟨p, s, rfl⟩ : ∃ (p : Fin 1) (s : Fin 1024), i = ValueIdx.ix2 p s := ⟨i 0, i 1, (ValueIdx.eq_ix2 i)⟩
      obtain rfl : p = 0 := Subsingleton.elim _ _
      exact (ref_weights _ _ s).trans (result_weights m c s).symm), (h c).2.2⟩) (Cert.RmsbRefIdeal.Value.run m' g')⟩

end Cert.Proof.Rmsb

end
-- ==== Proof.Run.MixbValue.lean ====
/-
  The gradient of the gated sum of the two mixers: what the kernel leaves, entry by entry.
-/
module

public import proofs.«01_k».proof.Proof.Gen.MixbIdeal.Value
public import Idealize.ShloMosaic.Lib.Pointwise
public import Idealize.ShloMosaic.Lib.ValueIdx
public import Idealize.ShloMosaic.Lib.Pipeline.ValueKit

@[expose] public section

noncomputable section

namespace Cert.Proof.Mixb

open Cert.MixbIdeal Cert.MixbIdeal.Gen
open Idealize.ShloMosaic Idealize.ShloMosaic.TcCoe Idealize.ShloMosaic.Pointwise
open Idealize.SL.Sem

/-! ## What a grid point computes -/

section
variable {F : FTy → Type} [FloatOps F]
variable (x0 x1 : Vec F S512x1024 .bf16) (x2 : Vec F S512x2048 .bf16) (x3 : Vec F S512x1024 .bf16)

/-- A point writes the first mixer's gradient. -/
theorem first_eq : out0_4 x0 x1 x2 x3 = k0_pay5 x2 x3 := by
  frame_out

/-- A point writes the second mixer's gradient. -/
theorem second_eq : out0_5 x0 x1 x2 x3 = k0_pay6 x2 x3 := by
  frame_out

/-- A point writes the gates' gradient. -/
theorem gates_eq : out0_6 x0 x1 x2 x3 = k0_pay7 x0 x1 x2 x3 := by
  frame_out

end

/-! ## Entry by entry -/

/-- The gradient of a gate's argument, of the gate's argument, the mixer's value and the sum's gradient. -/
def gateGrad (g y d : EReal) : EReal := d * y * (Ideal.logistic g * (1 - Ideal.logistic g))

theorem pay_first (G : Vec Ideal S512x2048 .bf16) (D : Vec Ideal S512x1024 .bf16) (a : Fin 512) (b : Fin 1024) :
    k0_pay5 G D (ValueIdx.ix2 a b) = @HMul.hMul EReal EReal EReal _ (Ideal.logistic (G (ValueIdx.ix2 a ⟨b.val, by omega⟩))) (D (ValueIdx.ix2 a b)) := by
  simp only [← ix2_eq_valueIdx]
  pointwise [k0_pay5, k0_pay3, k0_pay2, k0_pay1]

theorem pay_second (G : Vec Ideal S512x2048 .bf16) (D : Vec Ideal S512x1024 .bf16) (a : Fin 512) (b : Fin 1024) :
    k0_pay6 G D (ValueIdx.ix2 a b) = @HMul.hMul EReal EReal EReal _ (Ideal.logistic (G (ValueIdx.ix2 a ⟨1024 + b.val, by omega⟩))) (D (ValueIdx.ix2 a b)) := by
  simp only [← ix2_eq_valueIdx]
  pointwise [k0_pay6, k0_pay4, k0_pay2, k0_pay1]

theorem pay_gate_first (A B : Vec Ideal S512x1024 .bf16) (G : Vec Ideal S512x2048 .bf16) (D : Vec Ideal S512x1024 .bf16) (a : Fin 512) (b : Fin 1024) :
    k0_pay7 A B G D (ValueIdx.ix2 a ⟨b.val, by omega⟩) =
      gateGrad (G (ValueIdx.ix2 a ⟨b.val, by omega⟩)) (A (ValueIdx.ix2 a b)) (D (ValueIdx.ix2 a b)) := by
  simp only [← ix2_eq_valueIdx]
  have h : b.val < 1024 := b.isLt
  pointwise [k0_pay7, k0_pay4, k0_pay3, k0_pay2, k0_pay1, gateGrad, h]

theorem pay_gate_second (A B : Vec Ideal S512x1024 .bf16) (G : Vec Ideal S512x2048 .bf16) (D : Vec Ideal S512x1024 .bf16) (a : Fin 512) (b : Fin 1024) :
    k0_pay7 A B G D (ValueIdx.ix2 a ⟨1024 + b.val, by omega⟩) =
      gateGrad (G (ValueIdx.ix2 a ⟨1024 + b.val, by omega⟩)) (B (ValueIdx.ix2 a b)) (D (ValueIdx.ix2 a b)) := by
  simp only [← ix2_eq_valueIdx]
  have h : ¬1024 + b.val < 1024 := by omega
  pointwise [k0_pay7, k0_pay4, k0_pay3, k0_pay2, k0_pay1, gateGrad, h]

/-! ## Where the blocks lie -/

theorem tr0_eq (i : grid0.Coords) : cc0_transform_0 i = ![(i 0).val, 0] := by
  unfold cc0_transform_0; generalize (i 0) = n; revert n; decide

theorem tr1_eq (i : grid0.Coords) : cc0_transform_1 i = ![(i 0).val, 0] := by
  unfold cc0_transform_1; generalize (i 0) = n; revert n; decide

theorem tr2_eq (i : grid0.Coords) : cc0_transform_2 i = ![(i 0).val, 2] := by
  unfold cc0_transform_2; generalize (i 0) = n; revert n; decide

theorem tr3_eq (i : grid0.Coords) : cc0_transform_3 i = ![(i 0).val, 0] := by
  unfold cc0_transform_3; generalize (i 0) = n; revert n; decide

theorem tr4_eq (i : grid0.Coords) : cc0_transform_4 i = ![(i 0).val, 0] := by
  unfold cc0_transform_4; generalize (i 0) = n; revert n; decide

theorem tr5_eq (i : grid0.Coords) : cc0_transform_5 i = ![(i 0).val, 0] := by
  unfold cc0_transform_5; generalize (i 0) = n; revert n; decide

theorem tr6_eq (i : grid0.Coords) : cc0_transform_6 i = ![(i 0).val, 0] := by
  unfold cc0_transform_6; generalize (i 0) = n; revert n; decide

theorem coords_val (t : Fin cfg0.N) : (grid0.coords t 0).val = t.val := by
  revert t; decide

variable (m : (ℓ : Loc nD τ sig) → Buf (Elt Ideal) ℓ) (c : Dev nD)

/-- The first mixer's output. -/
abbrev A : Vec Ideal S16384x1024 .bf16 := m ((c : Thread nD τ).loc main_arg0)
/-- The second mixer's output. -/
abbrev B : Vec Ideal S16384x1024 .bf16 := m ((c : Thread nD τ).loc main_arg1)
/-- The projection whose last 2048 columns are the gates' arguments. -/
abbrev G : Vec Ideal S16384x6144 .bf16 := m ((c : Thread nD τ).loc main_arg2)
/-- The gradient of the gated sum. -/
abbrev D : Vec Ideal S16384x1024 .bf16 := m ((c : Thread nD τ).loc main_arg3)

theorem iblk0_apply (t : Fin cfg0.N) (p : Fin 512) (q : Fin 1024) (row : Fin 16384)
    (hr : row.val = 512 * t.val + p.val) :
    (iblk m c 0 t : Vec Ideal S512x1024 .bf16) (ValueIdx.ix2 p q) = A m c (ValueIdx.ix2 row q) := by
  unfold iblk
  show A m c (((cfg0.win 0).rect t).emb (ValueIdx.ix2 p q)) = _
  congr 1
  funext x
  apply Fin.ext
  refine (Pipeline.Window.rect_emb_val (cfg0.win 0) t (ValueIdx.ix2 p q) x rfl).trans ?_
  match x with
  | ⟨0, _⟩ =>
    show cc0_transform_0 (grid0.coords t) 0 * 512 + p.val = row.val
    rw [tr0_eq, hr]; show (grid0.coords t 0).val * 512 + p.val = _; rw [coords_val]; omega
  | ⟨1, _⟩ =>
    show cc0_transform_0 (grid0.coords t) 1 * 1024 + q.val = q.val
    rw [tr0_eq]; show 0 * 1024 + q.val = _; omega

theorem iblk1_apply (t : Fin cfg0.N) (p : Fin 512) (q : Fin 1024) (row : Fin 16384)
    (hr : row.val = 512 * t.val + p.val) :
    (iblk m c 1 t : Vec Ideal S512x1024 .bf16) (ValueIdx.ix2 p q) = B m c (ValueIdx.ix2 row q) := by
  unfold iblk
  show B m c (((cfg0.win 1).rect t).emb (ValueIdx.ix2 p q)) = _
  congr 1
  funext x
  apply Fin.ext
  refine (Pipeline.Window.rect_emb_val (cfg0.win 1) t (ValueIdx.ix2 p q) x rfl).trans ?_
  match x with
  | ⟨0, _⟩ =>
    show cc0_transform_1 (grid0.coords t) 0 * 512 + p.val = row.val
    rw [tr1_eq, hr]; show (grid0.coords t 0).val * 512 + p.val = _; rw [coords_val]; omega
  | ⟨1, _⟩ =>
    show cc0_transform_1 (grid0.coords t) 1 * 1024 + q.val = q.val
    rw [tr1_eq]; show 0 * 1024 + q.val = _; omega

theorem iblk2_apply (t : Fin cfg0.N) (p : Fin 512) (q : Fin 2048) (row : Fin 16384)
    (hr : row.val = 512 * t.val + p.val) :
    (iblk m c 2 t : Vec Ideal S512x2048 .bf16) (ValueIdx.ix2 p q) = G m c (ValueIdx.ix2 row ⟨4096 + q.val, by omega⟩) := by
  unfold iblk
  show G m c (((cfg0.win 2).rect t).emb (ValueIdx.ix2 p q)) = _
  congr 1
  funext x
  apply Fin.ext
  refine (Pipeline.Window.rect_emb_val (cfg0.win 2) t (ValueIdx.ix2 p q) x rfl).trans ?_
  match x with
  | ⟨0, _⟩ =>
    show cc0_transform_2 (grid0.coords t) 0 * 512 + p.val = row.val
    rw [tr2_eq, hr]; show (grid0.coords t 0).val * 512 + p.val = _; rw [coords_val]; omega
  | ⟨1, _⟩ =>
    show cc0_transform_2 (grid0.coords t) 1 * 2048 + q.val = 4096 + q.val
    rw [tr2_eq]; show 2 * 2048 + q.val = _; omega

theorem iblk3_apply (t : Fin cfg0.N) (p : Fin 512) (q : Fin 1024) (row : Fin 16384)
    (hr : row.val = 512 * t.val + p.val) :
    (iblk m c 3 t : Vec Ideal S512x1024 .bf16) (ValueIdx.ix2 p q) = D m c (ValueIdx.ix2 row q) := by
  unfold iblk
  show D m c (((cfg0.win 3).rect t).emb (ValueIdx.ix2 p q)) = _
  congr 1
  funext x
  apply Fin.ext
  refine (Pipeline.Window.rect_emb_val (cfg0.win 3) t (ValueIdx.ix2 p q) x rfl).trans ?_
  match x with
  | ⟨0, _⟩ =>
    show cc0_transform_3 (grid0.coords t) 0 * 512 + p.val = row.val
    rw [tr3_eq, hr]; show (grid0.coords t 0).val * 512 + p.val = _; rw [coords_val]; omega
  | ⟨1, _⟩ =>
    show cc0_transform_3 (grid0.coords t) 1 * 1024 + q.val = q.val
    rw [tr3_eq]; show 0 * 1024 + q.val = _; omega

/-! ## The results -/

/-- Every point writes its block of result 0 back. -/
theorem flush_first : ∀ t : Fin cfg0.N, (cfg0.win 4).flush t = true := by decide

set_option maxRecDepth 8192 in
/-- An entry of result 0 is the entry that the point of its row block writes. -/
theorem block_first (r : Fin 16384) (x : Fin 1024) (hlt : r.val / 512 < cfg0.N) :
    ((dats m 0 c).arrAt 4 cfg0.N : Vec Ideal S16384x1024 .bf16) (ValueIdx.ix2 r x) =
      k0_pay5 (iblk m c 2 ⟨_, hlt⟩) (iblk m c 3 ⟨_, hlt⟩) (ValueIdx.ix2 (⟨r.val % 512, Nat.mod_lt _ (by decide)⟩ : Fin 512) x) := by
  have he : ((cfg0.win 4).rect ⟨_, hlt⟩).emb (ValueIdx.ix2 (⟨r.val % 512, Nat.mod_lt _ (by decide)⟩ : Fin 512) x) = ValueIdx.ix2 r x := by
    funext y
    apply Fin.ext
    refine (Pipeline.Window.rect_emb_val (cfg0.win 4) ⟨_, hlt⟩ (ValueIdx.ix2 (⟨r.val % 512, _⟩ : Fin 512) x) y rfl).trans ?_
    match y with
    | ⟨0, _⟩ =>
      show cc0_transform_4 (grid0.coords ⟨_, hlt⟩) 0 * 512 + r.val % 512 = r.val
      rw [tr4_eq]; show (grid0.coords ⟨_, hlt⟩ 0).val * 512 + r.val % 512 = r.val; rw [coords_val]; dsimp only; omega
    | ⟨1, _⟩ =>
      show cc0_transform_4 (grid0.coords ⟨_, hlt⟩) 1 * 1024 + x.val = x.val
      rw [tr4_eq]; show 0 * 1024 + x.val = x.val; omega
  have h : (dats m 0 c).arrAt 4 cfg0.N (((cfg0.win 4).rect ⟨_, hlt⟩).emb (ValueIdx.ix2 (⟨r.val % 512, Nat.mod_lt _ (by decide)⟩ : Fin 512) x))
      = out0_4 (iblk m c 0 ⟨_, hlt⟩) (iblk m c 1 ⟨_, hlt⟩) (iblk m c 2 ⟨_, hlt⟩) (iblk m c 3 ⟨_, hlt⟩) (ValueIdx.ix2 (⟨r.val % 512, Nat.mod_lt _ (by decide)⟩ : Fin 512) x) :=
    congrFun ((Value.blocks4 m c ⟨_, hlt⟩ (flush_first _)).trans (Value.flushed4 m c _)) (ValueIdx.ix2 _ _)
  rw [he] at h
  exact h.trans (congrFun (first_eq _ _ _ _) _)

/-- Every point writes its block of result 1 back. -/
theorem flush_second : ∀ t : Fin cfg0.N, (cfg0.win 5).flush t = true := by decide

set_option maxRecDepth 8192 in
/-- An entry of result 1 is the entry that the point of its row block writes. -/
theorem block_second (r : Fin 16384) (x : Fin 1024) (hlt : r.val / 512 < cfg0.N) :
    ((dats m 0 c).arrAt 5 cfg0.N : Vec Ideal S16384x1024 .bf16) (ValueIdx.ix2 r x) =
      k0_pay6 (iblk m c 2 ⟨_, hlt⟩) (iblk m c 3 ⟨_, hlt⟩) (ValueIdx.ix2 (⟨r.val % 512, Nat.mod_lt _ (by decide)⟩ : Fin 512) x) := by
  have he : ((cfg0.win 5).rect ⟨_, hlt⟩).emb (ValueIdx.ix2 (⟨r.val % 512, Nat.mod_lt _ (by decide)⟩ : Fin 512) x) = ValueIdx.ix2 r x := by
    funext y
    apply Fin.ext
    refine (Pipeline.Window.rect_emb_val (cfg0.win 5) ⟨_, hlt⟩ (ValueIdx.ix2 (⟨r.val % 512, _⟩ : Fin 512) x) y rfl).trans ?_
    match y with
    | ⟨0, _⟩ =>
      show cc0_transform_5 (grid0.coords ⟨_, hlt⟩) 0 * 512 + r.val % 512 = r.val
      rw [tr5_eq]; show (grid0.coords ⟨_, hlt⟩ 0).val * 512 + r.val % 512 = r.val; rw [coords_val]; dsimp only; omega
    | ⟨1, _⟩ =>
      show cc0_transform_5 (grid0.coords ⟨_, hlt⟩) 1 * 1024 + x.val = x.val
      rw [tr5_eq]; show 0 * 1024 + x.val = x.val; omega
  have h : (dats m 0 c).arrAt 5 cfg0.N (((cfg0.win 5).rect ⟨_, hlt⟩).emb (ValueIdx.ix2 (⟨r.val % 512, Nat.mod_lt _ (by decide)⟩ : Fin 512) x))
      = out0_5 (iblk m c 0 ⟨_, hlt⟩) (iblk m c 1 ⟨_, hlt⟩) (iblk m c 2 ⟨_, hlt⟩) (iblk m c 3 ⟨_, hlt⟩) (ValueIdx.ix2 (⟨r.val % 512, Nat.mod_lt _ (by decide)⟩ : Fin 512) x) :=
    congrFun ((Value.blocks5 m c ⟨_, hlt⟩ (flush_second _)).trans (Value.flushed5 m c _)) (ValueIdx.ix2 _ _)
  rw [he] at h
  exact h.trans (congrFun (second_eq _ _ _ _) _)

/-- Every point writes its block of result 2 back. -/
theorem flush_gates : ∀ t : Fin cfg0.N, (cfg0.win 6).flush t = true := by decide

set_option maxRecDepth 8192 in
/-- An entry of result 2 is the entry that the point of its row block writes. -/
theorem block_gates (r : Fin 16384) (x : Fin 2048) (hlt : r.val / 512 < cfg0.N) :
    ((dats m 0 c).arrAt 6 cfg0.N : Vec Ideal S16384x2048 .bf16) (ValueIdx.ix2 r x) =
      k0_pay7 (iblk m c 0 ⟨_, hlt⟩) (iblk m c 1 ⟨_, hlt⟩) (iblk m c 2 ⟨_, hlt⟩) (iblk m c 3 ⟨_, hlt⟩) (ValueIdx.ix2 (⟨r.val % 512, Nat.mod_lt _ (by decide)⟩ : Fin 512) x) := by
  have he : ((cfg0.win 6).rect ⟨_, hlt⟩).emb (ValueIdx.ix2 (⟨r.val % 512, Nat.mod_lt _ (by decide)⟩ : Fin 512) x) = ValueIdx.ix2 r x := by
    funext y
    apply Fin.ext
    refine (Pipeline.Window.rect_emb_val (cfg0.win 6) ⟨_, hlt⟩ (ValueIdx.ix2 (⟨r.val % 512, _⟩ : Fin 512) x) y rfl).trans ?_
    match y with
    | ⟨0, _⟩ =>
      show cc0_transform_6 (grid0.coords ⟨_, hlt⟩) 0 * 512 + r.val % 512 = r.val
      rw [tr6_eq]; show (grid0.coords ⟨_, hlt⟩ 0).val * 512 + r.val % 512 = r.val; rw [coords_val]; dsimp only; omega
    | ⟨1, _⟩ =>
      show cc0_transform_6 (grid0.coords ⟨_, hlt⟩) 1 * 2048 + x.val = x.val
      rw [tr6_eq]; show 0 * 2048 + x.val = x.val; omega
  have h : (dats m 0 c).arrAt 6 cfg0.N (((cfg0.win 6).rect ⟨_, hlt⟩).emb (ValueIdx.ix2 (⟨r.val % 512, Nat.mod_lt _ (by decide)⟩ : Fin 512) x))
      = out0_6 (iblk m c 0 ⟨_, hlt⟩) (iblk m c 1 ⟨_, hlt⟩) (iblk m c 2 ⟨_, hlt⟩) (iblk m c 3 ⟨_, hlt⟩) (ValueIdx.ix2 (⟨r.val % 512, Nat.mod_lt _ (by decide)⟩ : Fin 512) x) :=
    congrFun ((Value.blocks6 m c ⟨_, hlt⟩ (flush_gates _)).trans (Value.flushed6 m c _)) (ValueIdx.ix2 _ _)
  rw [he] at h
  exact h.trans (congrFun (gates_eq _ _ _ _) _)

/-- The first mixer's gradient. -/
theorem result_first (r : Fin 16384) (q : Fin 1024) :
    ((dats m 0 c).arrAt 4 cfg0.N : Vec Ideal S16384x1024 .bf16) (ValueIdx.ix2 r q) =
      @HMul.hMul EReal EReal EReal _ (Ideal.logistic (G m c (ValueIdx.ix2 r ⟨4096 + q.val, by omega⟩))) (D m c (ValueIdx.ix2 r q)) := by
  have hlt : r.val / 512 < cfg0.N := by rw [show cfg0.N = 32 from N_0]; omega
  have hr : r.val = 512 * (r.val / 512) + r.val % 512 := by omega
  rw [block_first m c r _ hlt, pay_first, iblk2_apply m c ⟨_, hlt⟩ _ _ r hr, iblk3_apply m c ⟨_, hlt⟩ _ _ r hr]

/-- The second mixer's gradient. -/
theorem result_second (r : Fin 16384) (q : Fin 1024) :
    ((dats m 0 c).arrAt 5 cfg0.N : Vec Ideal S16384x1024 .bf16) (ValueIdx.ix2 r q) =
      @HMul.hMul EReal EReal EReal _ (Ideal.logistic (G m c (ValueIdx.ix2 r ⟨4096 + (1024 + q.val), by omega⟩))) (D m c (ValueIdx.ix2 r q)) := by
  have hlt : r.val / 512 < cfg0.N := by rw [show cfg0.N = 32 from N_0]; omega
  have hr : r.val = 512 * (r.val / 512) + r.val % 512 := by omega
  rw [block_second m c r _ hlt, pay_second, iblk2_apply m c ⟨_, hlt⟩ _ _ r hr, iblk3_apply m c ⟨_, hlt⟩ _ _ r hr]

/-- The gradient of the first gate's argument. -/
theorem result_gate_first (r : Fin 16384) (q : Fin 1024) :
    ((dats m 0 c).arrAt 6 cfg0.N : Vec Ideal S16384x2048 .bf16) (ValueIdx.ix2 r ⟨q.val, by omega⟩) =
      gateGrad (G m c (ValueIdx.ix2 r ⟨4096 + q.val, by omega⟩)) (A m c (ValueIdx.ix2 r q)) (D m c (ValueIdx.ix2 r q)) := by
  have hlt : r.val / 512 < cfg0.N := by rw [show cfg0.N = 32 from N_0]; omega
  have hr : r.val = 512 * (r.val / 512) + r.val % 512 := by omega
  rw [block_gates m c r _ hlt, pay_gate_first, iblk2_apply m c ⟨_, hlt⟩ _ _ r hr, iblk0_apply m c ⟨_, hlt⟩ _ _ r hr, iblk3_apply m c ⟨_, hlt⟩ _ _ r hr]

/-- The gradient of the second gate's argument. -/
theorem result_gate_second (r : Fin 16384) (q : Fin 1024) :
    ((dats m 0 c).arrAt 6 cfg0.N : Vec Ideal S16384x2048 .bf16) (ValueIdx.ix2 r ⟨1024 + q.val, by omega⟩) =
      gateGrad (G m c (ValueIdx.ix2 r ⟨4096 + (1024 + q.val), by omega⟩)) (B m c (ValueIdx.ix2 r q)) (D m c (ValueIdx.ix2 r q)) := by
  have hlt : r.val / 512 < cfg0.N := by rw [show cfg0.N = 32 from N_0]; omega
  have hr : r.val = 512 * (r.val / 512) + r.val % 512 := by omega
  rw [block_gates m c r _ hlt, pay_gate_second, iblk2_apply m c ⟨_, hlt⟩ _ _ r hr, iblk1_apply m c ⟨_, hlt⟩ _ _ r hr, iblk3_apply m c ⟨_, hlt⟩ _ _ r hr]

end Cert.Proof.Mixb

end
-- ==== Proof.Run.MixbEquation.lean ====
/-
  The gradient of the gated sum of the two mixers: the kernel's results are the reference's.
-/
module

public import proofs.«01_k».proof.Defs
public import proofs.«01_k».proof.Proof.Gen.Mixb
public import proofs.«01_k».proof.Proof.Gen.Mixb.Frame
public import proofs.«01_k».proof.Proof.Gen.MixbRefIdeal
public import proofs.«01_k».proof.Proof.Gen.MixbRefIdeal.Run
public import proofs.«01_k».proof.Proof.Gen.MixbRefIdeal.Read
public import proofs.«01_k».proof.Proof.Run.MixbValue
public import Idealize.ShloMosaic.Lib.Quiescent
public import Idealize.ShloMosaic.Lib.KernelVsHost

@[expose] public section

noncomputable section

namespace Cert.Proof.Mixb

open Idealize.ShloMosaic Idealize.ShloMosaic.TcCoe Idealize.ShloMosaic.StableHlo Idealize.ShloMosaic.Pointwise Idealize.SL.Sem

section
open Cert.MixbRefIdeal Cert.MixbRefIdeal.Read

variable (y z : Vec Ideal S16384x1024 .bf16) (g : Vec Ideal S16384x6144 .bf16) (d : Vec Ideal S16384x1024 .bf16) (r : Fin 16384) (q : Fin 1024)

theorem idx2_eq (x : Fin 2048) : idx_main_v2 (ValueIdx.ix2 r x) = ValueIdx.ix2 r ⟨4096 + x.val, by omega⟩ := by
  funext a; match a with
  | ⟨0, _⟩ => rfl
  | ⟨1, _⟩ => rfl

theorem idx13_eq : idx_main_v13 (ValueIdx.ix2 r q) = ValueIdx.ix2 r ⟨q.val, by omega⟩ := by
  funext a; match a with
  | ⟨0, _⟩ => rfl
  | ⟨1, _⟩ => rfl

theorem idx14_eq : idx_main_v14 (ValueIdx.ix2 r q) = ValueIdx.ix2 r ⟨1024 + q.val, by omega⟩ := by
  funext a; match a with
  | ⟨0, _⟩ => rfl
  | ⟨1, _⟩ => rfl

/-- The reference's gates. -/
theorem ref_gate (x : Fin 2048) : val_main_v9 (F := Ideal) g (ValueIdx.ix2 r x) = Ideal.logistic (g (ValueIdx.ix2 r ⟨4096 + x.val, by omega⟩)) := by
  simp only [val_main_v9_apply, val_main_v8_apply, val_main_v7_apply, val_main_v6_apply, val_main_v5_apply, val_main_v4_apply, val_main_v3_apply,
    val_main_v2_apply, val_main_cst_apply, val_main_cst_0_apply, idx2_eq]
  pointwise [Ideal.logistic]

/-- The reference's gradient of the first mixer. -/
theorem ref_first : val_main_v25 (F := Ideal) g d (ValueIdx.ix2 r q) =
    @HMul.hMul EReal EReal EReal _ (Ideal.logistic (g (ValueIdx.ix2 r ⟨4096 + q.val, by omega⟩))) (d (ValueIdx.ix2 r q)) := by
  simp only [val_main_v25_apply, val_main_v21_apply, val_main_v18_apply, val_main_v13_apply, idx13_eq, ref_gate]
  pointwise

/-- The reference's gradient of the second mixer. -/
theorem ref_second : val_main_v26 (F := Ideal) g d (ValueIdx.ix2 r q) =
    @HMul.hMul EReal EReal EReal _ (Ideal.logistic (g (ValueIdx.ix2 r ⟨4096 + (1024 + q.val), by omega⟩))) (d (ValueIdx.ix2 r q)) := by
  simp only [val_main_v26_apply, val_main_v19_apply, val_main_v18_apply, val_main_v14_apply, idx14_eq, ref_gate]
  pointwise

/-- The reference's gradient of the gates, before the logistic's. -/
theorem ref_left : val_main_v23 (F := Ideal) y z d (ValueIdx.ix2 r ⟨q.val, by omega⟩) = @HMul.hMul EReal EReal EReal _ (d (ValueIdx.ix2 r q)) (y (ValueIdx.ix2 r q)) := by
  simp only [← ix2_eq_valueIdx]
  have h : q.val < 1024 := q.isLt
  pointwise [val_main_v23, val_main_v22, val_main_v20, val_main_v18, val_main_v1, val_main_v0, h]

theorem ref_right : val_main_v23 (F := Ideal) y z d (ValueIdx.ix2 r ⟨1024 + q.val, by omega⟩) = @HMul.hMul EReal EReal EReal _ (d (ValueIdx.ix2 r q)) (z (ValueIdx.ix2 r q)) := by
  simp only [← ix2_eq_valueIdx]
  have h : ¬1024 + q.val < 1024 := by omega
  pointwise [val_main_v23, val_main_v22, val_main_v20, val_main_v18, val_main_v1, val_main_v0, h]

/-- The reference's gradient of the first gate's argument. -/
theorem ref_gate_first : val_main_v27 (F := Ideal) y z g d (ValueIdx.ix2 r ⟨q.val, by omega⟩) =
    gateGrad (g (ValueIdx.ix2 r ⟨4096 + q.val, by omega⟩)) (y (ValueIdx.ix2 r q)) (d (ValueIdx.ix2 r q)) := by
  simp only [val_main_v27_apply, val_main_v24_apply, val_main_v12_apply, val_main_v11_apply, val_main_v10_apply, val_main_cst_1_apply, ref_gate, ref_left]
  pointwise [gateGrad]

/-- The reference's gradient of the second gate's argument. -/
theorem ref_gate_second : val_main_v27 (F := Ideal) y z g d (ValueIdx.ix2 r ⟨1024 + q.val, by omega⟩) =
    gateGrad (g (ValueIdx.ix2 r ⟨4096 + (1024 + q.val), by omega⟩)) (z (ValueIdx.ix2 r q)) (d (ValueIdx.ix2 r q)) := by
  simp only [val_main_v27_apply, val_main_v24_apply, val_main_v12_apply, val_main_v11_apply, val_main_v10_apply, val_main_cst_1_apply, ref_gate, ref_right]
  pointwise [gateGrad]

end

/-- The reference ends, its arguments unchanged and every counter zero. -/
theorem quiescent_reference : Cert.quiescent_MixbRefIdeal := fun m g _ =>
  (θ_run _ _ _).mono (fun r h => ⟨fun c => (h c).2.2.2, sem_eq_zero_of_no_sems (by decide) r.2⟩) (Cert.MixbRefIdeal.Value.run m g)

/-- The kernel's results are the reference's, entry by entry. -/
theorem algebraic : Cert.algebraic_MixbIdeal_MixbRefIdeal := fun m g m' g' _ ha =>
  ⟨fun c => (Cert.MixbIdeal.Gen.dats m 0 c).arrAt 4 Cert.MixbIdeal.cfg0.N, fun c => (Cert.MixbIdeal.Gen.dats m 0 c).arrAt 5 Cert.MixbIdeal.cfg0.N,
    fun c => (Cert.MixbIdeal.Gen.dats m 0 c).arrAt 6 Cert.MixbIdeal.cfg0.N,
    Cert.MixbIdeal.Value.run_blocks m g,
    (θ_run _ _ _).mono (fun _ h c => ⟨(h c).1.trans (by
      rw [Cert.MixbRefIdeal.Read.val_main_v25_eq, (ha c).2.2.1, (ha c).2.2.2]
      funext i
      obtain ⟨r, s, rfl⟩ : ∃ (r : Fin 16384) (s : Fin 1024), i = ValueIdx.ix2 r s := ⟨i 0, i 1, (ValueIdx.eq_ix2 i)⟩
      exact (ref_first _ _ r s).trans (result_first m c r s).symm), (h c).2.1.trans (by
      rw [Cert.MixbRefIdeal.Read.val_main_v26_eq, (ha c).2.2.1, (ha c).2.2.2]
      funext i
      obtain ⟨r, s, rfl⟩ : ∃ (r : Fin 16384) (s : Fin 1024), i = ValueIdx.ix2 r s := ⟨i 0, i 1, (ValueIdx.eq_ix2 i)⟩
      exact (ref_second _ _ r s).trans (result_second m c r s).symm), (h c).2.2.1.trans (by
      rw [Cert.MixbRefIdeal.Read.val_main_v27_eq, (ha c).1, (ha c).2.1, (ha c).2.2.1, (ha c).2.2.2]
      funext i
      obtain ⟨r, s, rfl⟩ : ∃ (r : Fin 16384) (s : Fin 2048), i = ValueIdx.ix2 r s := ⟨i 0, i 1, (ValueIdx.eq_ix2 i)⟩
      by_cases hs : s.val < 1024
      · exact (ref_gate_first _ _ _ _ r ⟨s.val, hs⟩).trans (result_gate_first m c r ⟨s.val, hs⟩).symm
      · obtain ⟨q, hq⟩ : ∃ q : Fin 1024, s = ⟨1024 + q.val, by omega⟩ := ⟨⟨s.val - 1024, by omega⟩, Fin.ext (by show s.val = 1024 + (s.val - 1024); omega)⟩
        rw [hq]
        exact (ref_gate_second _ _ _ _ r q).trans (result_gate_second m c r q).symm), (h c).2.2.2⟩) (Cert.MixbRefIdeal.Value.run m' g')⟩

end Cert.Proof.Mixb

end
-- ==== Proof.Run.GwbaValue.lean ====
/-
  The gradient of the weights of beta and the decay: what the kernel leaves, entry by entry.
-/
module

public import proofs.«01_k».proof.Proof.Gen.GwbaIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Gwba

open Cert.GwbaIdeal Cert.GwbaIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x128 .f32) (h4 : a4.IsWhole) (a5 : Memref sig .tc .vmem S1024x128 .bf16) (h5 : a5.IsWhole) (a6 : Memref sig .tc .vmem S1024x128 .f32) (h6 : a6.IsWhole)
  (x0 : Vec F S1024x1024 .bf16) (x1 : Vec F S1024x128 .f32) (xs : Vec F S1024x128 .f32)

/-- The first point of a block starts the accumulator from zero. -/
theorem scratch_first (hc0 : cond0_0 i) (hc1 : ¬cond0_1 i) :
    sout0_A_0 c i a3 h3 a4 h4 a5 h5 a6 h6 hc0 hc1 x0 x1 = k0_pay2 (k0_pay1 (F := F)) x0 x1 := by
  frame_out

/-- A later point adds its block to the accumulator. -/
theorem scratch_next (hc0 : ¬cond0_0 i) (hc1 : ¬cond0_1 i) :
    sout0_B_0 c i a3 h3 a4 h4 a5 h5 a6 h6 hc0 hc1 x0 x1 xs = k0_pay2 xs x0 x1 := by
  frame_out

/-- The last point of a block writes the accumulator with its own block added. -/
theorem out_last (hc0 : ¬cond0_0 i) (hc1 : cond0_1 i) :
    out0_C_2 c i a3 h3 a4 h4 a5 h5 a6 h6 hc0 hc1 x0 x1 xs = k0_pay3 (k0_pay2 xs x0 x1) := by
  frame_out

end

/-! ## Entry by entry -/

theorem pay1_apply (a : Fin 1024) (b : Fin 128) : k0_pay1 (F := Ideal) (ValueIdx.ix2 a b) = 0 := by
  rw [← ix2_eq_valueIdx]
  pointwise [k0_pay1]

theorem pay2_apply (A : Vec Ideal S1024x128 .f32) (G : Vec Ideal S1024x1024 .bf16) (Y : Vec Ideal S1024x128 .f32) (a : Fin 1024) (b : Fin 128) :
    k0_pay2 A G Y (ValueIdx.ix2 a b) = A (ValueIdx.ix2 a b) + ∑ k : Fin 1024, G (ValueIdx.ix2 k a) * Y (ValueIdx.ix2 k b) := by
  simp only [← ix2_eq_valueIdx]
  pointwise [k0_pay2]

theorem pay3_apply (A : Vec Ideal S1024x128 .f32) (a : Fin 1024) (b : Fin 128) :
    k0_pay3 A (ValueIdx.ix2 a b) = A (ValueIdx.ix2 a b) := by
  simp only [← ix2_eq_valueIdx]
  pointwise [k0_pay3]

/-! ## Where the blocks lie -/

theorem tr0_eq (i : grid0.Coords) : cc0_transform_0 i = ![(i 2).val, (i 0).val] := by
  unfold cc0_transform_0; generalize (i 2) = n; generalize (i 0) = h; revert n h; decide
theorem tr1_eq (i : grid0.Coords) : cc0_transform_1 i = ![(i 2).val, (i 1).val] := by
  unfold cc0_transform_1; generalize (i 2) = n; generalize (i 1) = h; revert n h; decide

theorem coords_val (t : Fin cfg0.N) : (grid0.coords t 0).val = 0 ∧ (grid0.coords t 1).val = 0 ∧ (grid0.coords t 2).val = (t.val % 16) := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S16384x128 .f32 := m ((c : Thread nD τ).loc main_arg1)

theorem iblk0_apply (t : Fin cfg0.N) (p : Fin 1024) (q : Fin 1024) (row : Fin 16384) (col : Fin 1024)
    (hr : row.val = 1024 * (t.val % 16) + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 2).val * 1024 + p.val = _; rw [h2] <;> omega
  | ⟨1, _⟩ =>
    show cc0_transform_0 (grid0.coords t) 1 * 1024 + q.val = col.val
    rw [tr0_eq, hc]; show (grid0.coords t 0).val * 1024 + q.val = _; rw [h0] <;> omega

theorem iblk1_apply (t : Fin cfg0.N) (p : Fin 1024) (q : Fin 128) (row : Fin 16384) (col : Fin 128)
    (hr : row.val = 1024 * (t.val % 16) + p.val) (hc : col.val = 128 * 0 + q.val) :
    (iblk m c 1 t : Vec Ideal S1024x128 .f32) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 128 + q.val = col.val
    rw [tr1_eq, hc]; show (grid0.coords t 1).val * 128 + q.val = _; rw [h1] <;> omega

/-! ## The sum -/

/-- One addend of an entry. -/
def entry (r : Fin 1024) (s : Fin 128) (K : Fin 16384) : EReal := X m c (ValueIdx.ix2 K r) * Y m c (ValueIdx.ix2 K s)

/-- The same for any number, zero past the last. -/
def term (r : Fin 1024) (s : Fin 128) (K : ℕ) : EReal := if h : K < 16384 then entry m c r s ⟨K, h⟩ else 0

/-- One point's addend is its block of the sum. -/
theorem block (t : Fin cfg0.N) (a : Fin 1024) (b : Fin 128) (r : Fin 1024) (s : Fin 128)
    (hr : r.val = 1024 * 0 + a.val) (hs : s.val = 128 * 0 + b.val) (k : Fin 1024) :
    @HMul.hMul EReal EReal EReal _ ((iblk m c 0 t : Vec Ideal S1024x1024 .bf16) (ValueIdx.ix2 k a)) ((iblk m c 1 t : Vec Ideal S1024x128 .f32) (ValueIdx.ix2 k b)) = term m c r s (1024 * (t.val % 16) + k.val) := by
  have hK : 1024 * (t.val % 16) + k.val < 16384 := by omega
  rw [term, dif_pos hK, entry, iblk0_apply m c t k a ⟨_, hK⟩ r rfl hr, iblk1_apply m c t k b ⟨_, hK⟩ s rfl hs]

/-- What the accumulator holds after a point that is not the last of its block. -/
theorem scratch_eq (n : ℕ) : ∀ (h : n < cfg0.N) (_ : ¬n % 16 = 15) (a : Fin 1024) (b : Fin 128) (r : Fin 1024) (s : Fin 128)
    (_ : r.val = 1024 * 0 + a.val) (_ : s.val = 128 * 0 + b.val),
    (outsAt0 m c n h).2 (ValueIdx.ix2 a b) = ∑ K ∈ Finset.range (1024 * ((n % 16) + 1)), term m c r s K := by
  induction n with
  | zero =>
    intro h hl a b r s hr hs
    rw [outsAt0_A m c ⟨0, h⟩ (Nat.zero_mod _) hl]
    dsimp only
    rw [scratch_first, pay2_apply, pay1_apply]
    exact Blocks.first _ _ _ fun k => block m c ⟨0, h⟩ a b r s hr hs k
  | succ n ih =>
    intro h hl a b r s hr hs
    by_cases h0 : (n + 1) % 16 = 0
    · rw [outsAt0_A m c ⟨n + 1, h⟩ h0 hl]
      dsimp only
      rw [scratch_first, pay2_apply, pay1_apply, h0]
      refine Blocks.first _ _ _ fun k => (block m c ⟨n + 1, h⟩ a b r s hr hs k).trans ?_
      rw [show (⟨n + 1, h⟩ : Fin cfg0.N).val % 16 = 0 from h0]
    · rw [outsAt0_B m c ⟨n + 1, h⟩ h0 hl]
      dsimp only
      rw [scratch_next, pay2_apply]
      have e := ih (Nat.lt_of_succ_lt h) (by omega) a b r s (by omega) (by omega)
      simp only [Nat.add_sub_cancel] at e ⊢
      rw [e, show (n + 1) % 16 = n % 16 + 1 by omega]
      refine Blocks.extend _ _ _ _ fun k => (block m c ⟨n + 1, h⟩ a b r s hr hs k).trans ?_
      rw [show (⟨n + 1, h⟩ : Fin cfg0.N).val % 16 = n % 16 + 1 by show (n + 1) % 16 = _; omega]

/-- What a point that is the last of its block writes. -/
theorem out_eq (t : Fin cfg0.N) (ht : t.val % 16 = 15) (a : Fin 1024) (b : Fin 128) (r : Fin 1024) (s : Fin 128)
    (hr : r.val = 1024 * 0 + a.val) (hs : s.val = 128 * 0 + b.val) :
    (outsAt0 m c t.val t.isLt).1 (ValueIdx.ix2 a b) = ∑ K : Fin 16384, entry m c r s K := by
  have e := scratch_eq m c (t.val - 1) (Nat.lt_of_le_of_lt (Nat.sub_le _ _) t.isLt) (by omega) a b r s (by omega) (by omega)
  rw [show (t.val - 1) % 16 + 1 = 15 by omega] at e
  rw [outsAt0_C m c t (by omega) ht]
  dsimp only
  rw [out_last, pay3_apply, pay2_apply, e]
  refine (Blocks.extend (term m c r s) 1024 15 _ fun k => (block m c t a b r s hr hs k).trans (by rw [ht])).trans ?_
  exact Blocks.whole (term m c r s) 16384 (entry m c r s) fun K => by
    rw [term, dif_pos K.isLt]

/-- The result after the run. -/
theorem result_eq (r : Fin 1024) (s : Fin 128) :
    (Value.G2 m c : Vec Ideal S1024x128 .bf16) (ValueIdx.ix2 r s) = ∑ K : Fin 16384, entry m c r s K := by
  have hp : Value.pt2Of (ValueIdx.ix2 r s) = 16 * (1 * (r.val / 1024) + s.val / 128) + 15 := by
    show 16 * (1 * (r.val / 1024 - 0) + 1 * (s.val / 128 - 0)) + 15 = _
    omega
  have hlt : Value.pt2Of (ValueIdx.ix2 r s) < cfg0.N := by rw [hp, show cfg0.N = 16 from N_0]; omega
  have hl : Value.loc2Of (ValueIdx.ix2 r s) = ValueIdx.ix2 ⟨r.val % 1024, Nat.mod_lt _ (by decide)⟩ ⟨s.val % 128, Nat.mod_lt _ (by decide)⟩ := by
    funext x
    match x with
    | ⟨0, _⟩ => rfl
    | ⟨1, _⟩ => rfl
  unfold Value.G2
  rw [dif_pos hlt, ← Value.outsAt0_sweep m c _ hlt, hl]
  exact out_eq m c ⟨_, hlt⟩ (by show Value.pt2Of _ % 16 = 15; rw [hp]; omega) _ _ r s
    (by show r.val = 1024 * 0 + r.val % 1024; omega)
    (by show s.val = 128 * 0 + s.val % 128; omega)

end Cert.Proof.Gwba

end
-- ==== Proof.Run.GwbaEquation.lean ====
/-
  The gradient of the weights of beta and the decay: the kernel's result is the reference's.
-/
module

public import proofs.«01_k».proof.Defs
public import proofs.«01_k».proof.Proof.Gen.Gwba
public import proofs.«01_k».proof.Proof.Gen.Gwba.Frame
public import proofs.«01_k».proof.Proof.Gen.GwbaRefIdeal
public import proofs.«01_k».proof.Proof.Gen.GwbaRefIdeal.Run
public import proofs.«01_k».proof.Proof.Gen.GwbaRefIdeal.Read
public import proofs.«01_k».proof.Proof.Run.GwbaValue
public import Idealize.ShloMosaic.Lib.Quiescent

@[expose] public section

noncomputable section

namespace Cert.Proof.Gwba

open Idealize.ShloMosaic Idealize.ShloMosaic.TcCoe Idealize.ShloMosaic.StableHlo Idealize.ShloMosaic.Pointwise Idealize.SL.Sem

section
open Cert.GwbaRefIdeal Cert.GwbaRefIdeal.Read

/-- The reference's result, entry by entry. -/
theorem ref_apply (x : Vec Ideal S16384x1024 .bf16) (y : Vec Ideal S16384x128 .f32) (r : Fin 1024) (s : Fin 128) :
    val_main_v5 (F := Ideal) x y (ValueIdx.ix2 r s) = ∑ K : Fin 16384, x (ValueIdx.ix2 K r) * y (ValueIdx.ix2 K s) := by
  rw [val_main_v5_apply]
  show val_main_v4 (F := Ideal) x y (ValueIdx.ix2 r s) = _
  rw [val_main_v4_apply]
  rw [val_main_v3_apply]
  refine Finset.sum_congr rfl fun K _ => ?_
  have el : lidx_main_v3 (idx_main_v4 (ValueIdx.ix2 r s)) K = (ValueIdx.ix2 K s) := by
    funext a; match a with
    | ⟨0, _⟩ => rfl
    | ⟨1, _⟩ => rfl
  have er : ridx_main_v3 (idx_main_v4 (ValueIdx.ix2 r s)) K = (ValueIdx.ix2 K r) := by
    funext a; match a with
    | ⟨0, _⟩ => rfl
    | ⟨1, _⟩ => rfl
  rw [el, er, val_main_v0_apply]
  exact mul_comm _ _

end

/-- The reference ends, its arguments unchanged and every counter zero. -/
theorem quiescent_reference : Cert.quiescent_GwbaRefIdeal := fun m g _ =>
  (θ_run _ _ _).mono (fun r h => ⟨fun c => (h c).2, sem_eq_zero_of_no_sems (by decide) r.2⟩) (Cert.GwbaRefIdeal.Value.run m g)

/-- The kernel's result is the reference's, entry by entry. -/
theorem algebraic : Cert.algebraic_GwbaIdeal_GwbaRefIdeal := fun m g m' g' _ ha =>
  ⟨fun c => Cert.GwbaIdeal.Value.G2 m c, Cert.GwbaIdeal.Value.run m g,
    (θ_run _ _ _).mono (fun _ h c => ⟨(h c).1.trans (by
      rw [Cert.GwbaRefIdeal.Read.val_main_v5_eq, (ha c).1, (ha c).2]
      funext i
      obtain ⟨r, s, rfl⟩ : ∃ (r : Fin 1024) (s : Fin 128), i = ValueIdx.ix2 r s := ⟨i 0, i 1, (ValueIdx.eq_ix2 i)⟩
      exact (ref_apply _ _ r s).trans (result_eq m c r s).symm), (h c).2⟩) (Cert.GwbaRefIdeal.Value.run m' g')⟩

end Cert.Proof.Gwba

end
-- ==== Proof.Run.DubaValue.lean ====
/-
  The gradient of the mixer's input by beta and the decay: what the kernel leaves, entry by entry.
-/
module

public import proofs.«01_k».proof.Proof.Gen.DubaIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Duba

open Cert.DubaIdeal Cert.DubaIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x128 .f32) (h3 : a3.IsWhole) (a4 : Memref sig .tc .vmem S1024x128 .bf16) (h4 : a4.IsWhole) (a5 : Memref sig .tc .vmem S1024x1024 .f32) (h5 : a5.IsWhole) (a6 : Memref sig .tc .vmem S1024x1024 .f32) (h6 : a6.IsWhole)
  (x0 : Vec F S1024x128 .f32) (x1 : Vec F S1024x128 .bf16) (xs : Vec F S1024x1024 .f32)

/-- The one point of a block writes its product. -/
theorem out_only (hc0 : cond0_0 i) (hc1 : cond0_1 i) :
    out0_A_2 c i a3 h3 a4 h4 a5 h5 a6 h6 hc0 hc1 x0 x1 = k0_pay2 (k0_pay1 (F := F)) x0 x1 := by
  frame_out

end

/-! ## Entry by entry -/

theorem pay1_apply (a : Fin 1024) (b : Fin 1024) : k0_pay1 (F := Ideal) (ValueIdx.ix2 a b) = 0 := by
  rw [← ix2_eq_valueIdx]
  pointwise [k0_pay1]

theorem pay2_apply (A : Vec Ideal S1024x1024 .f32) (G : Vec Ideal S1024x128 .f32) (Y : Vec Ideal S1024x128 .bf16) (a : Fin 1024) (b : Fin 1024) :
    k0_pay2 A G Y (ValueIdx.ix2 a b) = A (ValueIdx.ix2 a b) + ∑ k : Fin 128, G (ValueIdx.ix2 a k) * Y (ValueIdx.ix2 b k) := by
  simp only [← ix2_eq_valueIdx]
  pointwise [k0_pay2]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 1).val, (i 2).val] := by
  unfold cc0_transform_1; generalize (i 1) = n; generalize (i 2) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x128 .f32 := m ((c : Thread nD τ).loc main_arg0)
/-- The right operand. -/
abbrev Y : Vec Ideal S1024x128 .bf16 := m ((c : Thread nD τ).loc main_arg1)

theorem iblk0_apply (t : Fin cfg0.N) (p : Fin 1024) (q : Fin 128) (row : Fin 16384) (col : Fin 128)
    (hr : row.val = 1024 * t.val + p.val) (hc : col.val = 128 * 0 + q.val) :
    (iblk m c 0 t : Vec Ideal S1024x128 .f32) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 128 + q.val = col.val
    rw [tr0_eq, hc]; show (grid0.coords t 2).val * 128 + q.val = _; rw [h2] <;> omega

theorem iblk1_apply (t : Fin cfg0.N) (p : Fin 1024) (q : Fin 128) (row : Fin 1024) (col : Fin 128)
    (hr : row.val = 1024 * 0 + p.val) (hc : col.val = 128 * 0 + q.val) :
    (iblk m c 1 t : Vec Ideal S1024x128 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 1).val * 1024 + p.val = _; rw [h1] <;> omega
  | ⟨1, _⟩ =>
    show cc0_transform_1 (grid0.coords t) 1 * 128 + q.val = col.val
    rw [tr1_eq, hc]; show (grid0.coords t 2).val * 128 + q.val = _; rw [h2] <;> omega

/-! ## The sum -/

/-- One addend of an entry. -/
def entry (r : Fin 16384) (s : Fin 1024) (K : Fin 128) : EReal := X m c (ValueIdx.ix2 r K) * Y m c (ValueIdx.ix2 s K)

/-- The same for any number, zero past the last. -/
def term (r : Fin 16384) (s : Fin 1024) (K : ℕ) : EReal := if h : K < 128 then entry m c r s ⟨K, h⟩ else 0

/-- One point's addend is its block of the sum. -/
theorem block (t : Fin cfg0.N) (a : Fin 1024) (b : Fin 1024) (r : Fin 16384) (s : Fin 1024)
    (hr : r.val = 1024 * t.val + a.val) (hs : s.val = 1024 * 0 + b.val) (k : Fin 128) :
    @HMul.hMul EReal EReal EReal _ ((iblk m c 0 t : Vec Ideal S1024x128 .f32) (ValueIdx.ix2 a k)) ((iblk m c 1 t : Vec Ideal S1024x128 .bf16) (ValueIdx.ix2 b k)) = term m c r s (128 * 0 + k.val) := by
  have hK : 128 * 0 + k.val < 128 := by omega
  rw [term, dif_pos hK, entry, iblk0_apply m c t a k r ⟨_, hK⟩ hr rfl, iblk1_apply m c t b k s ⟨_, hK⟩ hs rfl]

/-- What a point writes. -/
theorem out_eq (t : Fin cfg0.N) (a : Fin 1024) (b : Fin 1024) (r : Fin 16384) (s : Fin 1024)
    (hr : r.val = 1024 * t.val + a.val) (hs : s.val = 1024 * 0 + b.val) :
    outsAt0 m c t (ValueIdx.ix2 a b) = ∑ K : Fin 128, entry m c r s K := by
  unfold outsAt0
  rw [out_only, pay2_apply, pay1_apply]
  refine (Blocks.first (term m c r s) 128 _ fun k => block m c t a b r s hr hs k).trans ?_
  exact Blocks.whole (term m c r s) 128 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 1024) :
    ((dats m 0 c).arrAt 2 cfg0.N : Vec Ideal S16384x1024 .f32) (ValueIdx.ix2 r s) = ∑ K : Fin 128, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 1024, Nat.mod_lt _ (by decide)⟩ : Fin 1024))
      = ValueIdx.ix2 r s := by
    funext x
    apply Fin.ext
    refine (Pipeline.Window.rect_emb_val (cfg0.win 2) ⟨_, hlt⟩ (ValueIdx.ix2 (⟨r.val % 1024, _⟩ : Fin 1024) (⟨s.val % 1024, _⟩ : Fin 1024)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 1024 + s.val % 1024 = s.val
      rw [tr2_eq]; show (grid0.coords ⟨_, hlt⟩ 1).val * 1024 + s.val % 1024 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 1024, Nat.mod_lt _ (by decide)⟩ : Fin 1024)))
      = outsAt0 m c ⟨_, hlt⟩ (ValueIdx.ix2 (⟨r.val % 1024, Nat.mod_lt _ (by decide)⟩ : Fin 1024) (⟨s.val % 1024, Nat.mod_lt _ (by decide)⟩ : Fin 1024)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Duba

end
-- ==== Proof.Run.DubaEquation.lean ====
/-
  The gradient of the mixer's input by beta and the decay: the kernel's result is the reference's.
-/
module

public import proofs.«01_k».proof.Defs
public import proofs.«01_k».proof.Proof.Gen.Duba
public import proofs.«01_k».proof.Proof.Gen.Duba.Frame
public import proofs.«01_k».proof.Proof.Gen.DubaRefIdeal
public import proofs.«01_k».proof.Proof.Gen.DubaRefIdeal.Run
public import proofs.«01_k».proof.Proof.Gen.DubaRefIdeal.Read
public import proofs.«01_k».proof.Proof.Run.DubaValue
public import Idealize.ShloMosaic.Lib.Quiescent

@[expose] public section

noncomputable section

namespace Cert.Proof.Duba

open Idealize.ShloMosaic Idealize.ShloMosaic.TcCoe Idealize.ShloMosaic.StableHlo Idealize.ShloMosaic.Pointwise Idealize.SL.Sem

section
open Cert.DubaRefIdeal Cert.DubaRefIdeal.Read

/-- The reference's result, entry by entry. -/
theorem ref_apply (x : Vec Ideal S16384x128 .f32) (y : Vec Ideal S1024x128 .bf16) (r : Fin 16384) (s : Fin 1024) :
    val_main_v3 (F := Ideal) x y (ValueIdx.ix2 r s) = ∑ K : Fin 128, x (ValueIdx.ix2 r K) * y (ValueIdx.ix2 s K) := by
  rw [val_main_v3_apply]
  refine Finset.sum_congr rfl fun K _ => ?_
  have el : lidx_main_v3 (ValueIdx.ix2 r s) K = (ValueIdx.ix2 r K) := by
    funext a; match a with
    | ⟨0, _⟩ => rfl
    | ⟨1, _⟩ => rfl
  have er : ridx_main_v3 (ValueIdx.ix2 r s) K = (ValueIdx.ix2 s K) := by
    funext a; match a with
    | ⟨0, _⟩ => rfl
    | ⟨1, _⟩ => rfl
  rw [el, er, val_main_v0_apply]
  rfl

end

/-- The reference ends, its arguments unchanged and every counter zero. -/
theorem quiescent_reference : Cert.quiescent_DubaRefIdeal := fun m g _ =>
  (θ_run _ _ _).mono (fun r h => ⟨fun c => (h c).2, sem_eq_zero_of_no_sems (by decide) r.2⟩) (Cert.DubaRefIdeal.Value.run m g)

/-- The kernel's result is the reference's, entry by entry. -/
theorem algebraic : Cert.algebraic_DubaIdeal_DubaRefIdeal := fun m g m' g' _ ha =>
  ⟨fun c => (Cert.DubaIdeal.Gen.dats m 0 c).arrAt 2 Cert.DubaIdeal.cfg0.N, Cert.DubaIdeal.Value.run_blocks m g,
    (θ_run _ _ _).mono (fun _ h c => ⟨(h c).1.trans (by
      rw [Cert.DubaRefIdeal.Read.val_main_v3_eq, (ha c).1, (ha c).2]
      funext i
      obtain ⟨r, s, rfl⟩ : ∃ (r : Fin 16384) (s : Fin 1024), i = ValueIdx.ix2 r s := ⟨i 0, i 1, (ValueIdx.eq_ix2 i)⟩
      exact (ref_apply _ _ r s).trans (result_eq m c r s).symm), (h c).2⟩) (Cert.DubaRefIdeal.Value.run m' g')⟩

end Cert.Proof.Duba

end
-- ==== Proof.Run.BaValue.lean ====
/-
  Beta and the decay before their activation: what the kernel leaves, entry by entry.
-/
module

public import proofs.«01_k».proof.Proof.Gen.BaIdeal.Value
public import proofs.«01_k».proof.Proof.Run.Blocks
public import Idealize.ShloMosaic.Lib.Pointwise
public import Idealize.ShloMosaic.Lib.ValueIdx
public import Idealize.ShloMosaic.Lib.Pipeline.ValueKit

@[expose] public section

noncomputable section

namespace Cert.Proof.Ba

open Cert.BaIdeal Cert.BaIdeal.Gen
open Idealize.ShloMosaic Idealize.ShloMosaic.TcCoe Idealize.ShloMosaic.Pointwise
open Idealize.SL.Sem

/-! ## What a grid point computes -/

section
variable {F : FTy → Type} [FloatOps F]
variable (c : Dev nD) (i : grid0.Coords) (a3 : Memref sig .tc .vmem S1024x1024 .bf16) (h3 : a3.IsWhole) (a4 : Memref sig .tc .vmem S1024x128 .bf16) (h4 : a4.IsWhole) (a5 : Memref sig .tc .vmem S1024x128 .f32) (h5 : a5.IsWhole) (a6 : Memref sig .tc .vmem S1024x128 .f32) (h6 : a6.IsWhole)
  (x0 : Vec F S1024x1024 .bf16) (x1 : Vec F S1024x128 .bf16) (xs : Vec F S1024x128 .f32)

/-- The one point of a block writes its product. -/
theorem out_only (hc0 : cond0_0 i) (hc1 : cond0_1 i) :
    out0_A_2 c i a3 h3 a4 h4 a5 h5 a6 h6 hc0 hc1 x0 x1 = k0_pay2 (k0_pay1 (F := F)) x0 x1 := by
  frame_out

end

/-! ## Entry by entry -/

theorem pay1_apply (a : Fin 1024) (b : Fin 128) : k0_pay1 (F := Ideal) (ValueIdx.ix2 a b) = 0 := by
  rw [← ix2_eq_valueIdx]
  pointwise [k0_pay1]

theorem pay2_apply (A : Vec Ideal S1024x128 .f32) (G : Vec Ideal S1024x1024 .bf16) (Y : Vec Ideal S1024x128 .bf16) (a : Fin 1024) (b : Fin 128) :
    k0_pay2 A G Y (ValueIdx.ix2 a b) = A (ValueIdx.ix2 a b) + ∑ k : Fin 1024, G (ValueIdx.ix2 a k) * Y (ValueIdx.ix2 k b) := by
  simp only [← ix2_eq_valueIdx]
  pointwise [k0_pay2]

/-! ## Where the blocks lie -/

theorem tr0_eq (i : grid0.Coords) : cc0_transform_0 i = ![(i 0).val, (i 2).val] := by
  unfold cc0_transform_0; generalize (i 0) = n; generalize (i 2) = h; revert n h; decide
theorem tr1_eq (i : grid0.Coords) : cc0_transform_1 i = ![(i 2).val, (i 1).val] := by
  unfold cc0_transform_1; generalize (i 2) = n; generalize (i 1) = h; revert n h; decide
theorem tr2_eq (i : grid0.Coords) : cc0_transform_2 i = ![(i 0).val, (i 1).val] := by
  unfold cc0_transform_2; generalize (i 0) = n; generalize (i 1) = h; revert n h; decide

theorem coords_val (t : Fin cfg0.N) : (grid0.coords t 0).val = t.val ∧ (grid0.coords t 1).val = 0 ∧ (grid0.coords t 2).val = 0 := by
  revert t; decide

variable (m : (ℓ : Loc nD τ sig) → Buf (Elt Ideal) ℓ) (c : Dev nD)

/-- The left operand. -/
abbrev X : Vec Ideal S16384x1024 .bf16 := m ((c : Thread nD τ).loc main_arg0)
/-- The right operand. -/
abbrev Y : Vec Ideal S1024x128 .bf16 := m ((c : Thread nD τ).loc main_arg1)

theorem iblk0_apply (t : Fin cfg0.N) (p : Fin 1024) (q : Fin 1024) (row : Fin 16384) (col : Fin 1024)
    (hr : row.val = 1024 * t.val + p.val) (hc : col.val = 1024 * 0 + q.val) :
    (iblk m c 0 t : Vec Ideal S1024x1024 .bf16) (ValueIdx.ix2 p q) = X m c (ValueIdx.ix2 row col) := by
  unfold iblk
  show X m c (((cfg0.win 0).rect t).emb (ValueIdx.ix2 p q)) = _
  congr 1
  funext x
  apply Fin.ext
  refine (Pipeline.Window.rect_emb_val (cfg0.win 0) t (ValueIdx.ix2 p q) x rfl).trans ?_
  obtain ⟨h0, h1, h2⟩ := coords_val t
  match x with
  | ⟨0, _⟩ =>
    show cc0_transform_0 (grid0.coords t) 0 * 1024 + p.val = row.val
    rw [tr0_eq, hr]; show (grid0.coords t 0).val * 1024 + p.val = _; rw [h0] <;> omega
  | ⟨1, _⟩ =>
    show cc0_transform_0 (grid0.coords t) 1 * 1024 + q.val = col.val
    rw [tr0_eq, hc]; show (grid0.coords t 2).val * 1024 + q.val = _; rw [h2] <;> omega

theorem iblk1_apply (t : Fin cfg0.N) (p : Fin 1024) (q : Fin 128) (row : Fin 1024) (col : Fin 128)
    (hr : row.val = 1024 * 0 + p.val) (hc : col.val = 128 * 0 + q.val) :
    (iblk m c 1 t : Vec Ideal S1024x128 .bf16) (ValueIdx.ix2 p q) = Y m c (ValueIdx.ix2 row col) := by
  unfold iblk
  show Y m c (((cfg0.win 1).rect t).emb (ValueIdx.ix2 p q)) = _
  congr 1
  funext x
  apply Fin.ext
  refine (Pipeline.Window.rect_emb_val (cfg0.win 1) t (ValueIdx.ix2 p q) x rfl).trans ?_
  obtain ⟨h0, h1, h2⟩ := coords_val t
  match x with
  | ⟨0, _⟩ =>
    show cc0_transform_1 (grid0.coords t) 0 * 1024 + p.val = row.val
    rw [tr1_eq, hr]; show (grid0.coords t 2).val * 1024 + p.val = _; rw [h2] <;> omega
  | ⟨1, _⟩ =>
    show cc0_transform_1 (grid0.coords t) 1 * 128 + q.val = col.val
    rw [tr1_eq, hc]; show (grid0.coords t 1).val * 128 + q.val = _; rw [h1] <;> omega

/-! ## The sum -/

/-- One addend of an entry. -/
def entry (r : Fin 16384) (s : Fin 128) (K : Fin 1024) : EReal := X m c (ValueIdx.ix2 r K) * Y m c (ValueIdx.ix2 K s)

/-- The same for any number, zero past the last. -/
def term (r : Fin 16384) (s : Fin 128) (K : ℕ) : EReal := if h : K < 1024 then entry m c r s ⟨K, h⟩ else 0

/-- One point's addend is its block of the sum. -/
theorem block (t : Fin cfg0.N) (a : Fin 1024) (b : Fin 128) (r : Fin 16384) (s : Fin 128)
    (hr : r.val = 1024 * t.val + a.val) (hs : s.val = 128 * 0 + b.val) (k : Fin 1024) :
    @HMul.hMul EReal EReal EReal _ ((iblk m c 0 t : Vec Ideal S1024x1024 .bf16) (ValueIdx.ix2 a k)) ((iblk m c 1 t : Vec Ideal S1024x128 .bf16) (ValueIdx.ix2 k b)) = term m c r s (1024 * 0 + k.val) := by
  have hK : 1024 * 0 + k.val < 1024 := by omega
  rw [term, dif_pos hK, entry, iblk0_apply m c t a k r ⟨_, hK⟩ hr rfl, iblk1_apply m c t k b ⟨_, hK⟩ s rfl hs]

/-- What a point writes. -/
theorem out_eq (t : Fin cfg0.N) (a : Fin 1024) (b : Fin 128) (r : Fin 16384) (s : Fin 128)
    (hr : r.val = 1024 * t.val + a.val) (hs : s.val = 128 * 0 + b.val) :
    outsAt0 m c t (ValueIdx.ix2 a b) = ∑ K : Fin 1024, entry m c r s K := by
  unfold outsAt0
  rw [out_only, pay2_apply, pay1_apply]
  refine (Blocks.first (term m c r s) 1024 _ fun k => block m c t a b r s hr hs k).trans ?_
  exact Blocks.whole (term m c r s) 1024 (entry m c r s) fun K => by
    rw [term, dif_pos K.isLt]

/-- Every point writes its block back. -/
theorem flush_all : ∀ t : Fin cfg0.N, (cfg0.win 2).flush t = true := by decide

/-- The result after the run. -/
theorem result_eq (r : Fin 16384) (s : Fin 128) :
    ((dats m 0 c).arrAt 2 cfg0.N : Vec Ideal S16384x128 .f32) (ValueIdx.ix2 r s) = ∑ K : Fin 1024, entry m c r s K := by
  have hlt : r.val / 1024 < cfg0.N := by rw [show cfg0.N = 16 from N_0]; omega
  have he : ((cfg0.win 2).rect ⟨_, hlt⟩).emb (ValueIdx.ix2 (⟨r.val % 1024, Nat.mod_lt _ (by decide)⟩ : Fin 1024) (⟨s.val % 128, Nat.mod_lt _ (by decide)⟩ : Fin 128))
      = ValueIdx.ix2 r s := by
    funext x
    apply Fin.ext
    refine (Pipeline.Window.rect_emb_val (cfg0.win 2) ⟨_, hlt⟩ (ValueIdx.ix2 (⟨r.val % 1024, _⟩ : Fin 1024) (⟨s.val % 128, _⟩ : Fin 128)) x rfl).trans ?_
    obtain ⟨h0, h1, h2⟩ := coords_val ⟨_, hlt⟩
    match x with
    | ⟨0, _⟩ =>
      show cc0_transform_2 (grid0.coords ⟨_, hlt⟩) 0 * 1024 + r.val % 1024 = r.val
      rw [tr2_eq]; show (grid0.coords ⟨_, hlt⟩ 0).val * 1024 + r.val % 1024 = r.val; rw [h0]; dsimp only; omega
    | ⟨1, _⟩ =>
      show cc0_transform_2 (grid0.coords ⟨_, hlt⟩) 1 * 128 + s.val % 128 = s.val
      rw [tr2_eq]; show (grid0.coords ⟨_, hlt⟩ 1).val * 128 + s.val % 128 = s.val; rw [h1]; omega
  have h : (dats m 0 c).arrAt 2 cfg0.N (((cfg0.win 2).rect ⟨_, hlt⟩).emb (ValueIdx.ix2 (⟨r.val % 1024, Nat.mod_lt _ (by decide)⟩ : Fin 1024) (⟨s.val % 128, Nat.mod_lt _ (by decide)⟩ : Fin 128)))
      = outsAt0 m c ⟨_, hlt⟩ (ValueIdx.ix2 (⟨r.val % 1024, Nat.mod_lt _ (by decide)⟩ : Fin 1024) (⟨s.val % 128, Nat.mod_lt _ (by decide)⟩ : Fin 128)) :=
    congrFun ((Value.blocks2 m c ⟨_, hlt⟩ (flush_all _)).trans (Value.flushed2 m c _)) (ValueIdx.ix2 _ _)
  rw [he] at h
  exact h.trans (out_eq m c ⟨_, hlt⟩ _ _ r s (by dsimp only; omega) (by dsimp only; omega))

end Cert.Proof.Ba

end
-- ==== Proof.Run.BaEquation.lean ====
/-
  Beta and the decay before their activation: the kernel's result is the reference's.
-/
module

public import proofs.«01_k».proof.Defs
public import proofs.«01_k».proof.Proof.Gen.Ba
public import proofs.«01_k».proof.Proof.Gen.Ba.Frame
public import proofs.«01_k».proof.Proof.Gen.BaRefIdeal
public import proofs.«01_k».proof.Proof.Gen.BaRefIdeal.Run
public import proofs.«01_k».proof.Proof.Gen.BaRefIdeal.Read
public import proofs.«01_k».proof.Proof.Run.BaValue
public import Idealize.ShloMosaic.Lib.Quiescent

@[expose] public section

noncomputable section

namespace Cert.Proof.Ba

open Idealize.ShloMosaic Idealize.ShloMosaic.TcCoe Idealize.ShloMosaic.StableHlo Idealize.ShloMosaic.Pointwise Idealize.SL.Sem

section
open Cert.BaRefIdeal Cert.BaRefIdeal.Read

/-- The reference's result, entry by entry. -/
theorem ref_apply (x : Vec Ideal S16384x1024 .bf16) (y : Vec Ideal S1024x128 .bf16) (r : Fin 16384) (s : Fin 128) :
    val_main_v2 (F := Ideal) x y (ValueIdx.ix2 r s) = ∑ K : Fin 1024, x (ValueIdx.ix2 r K) * y (ValueIdx.ix2 K s) := by
  rw [val_main_v2_apply]
  refine Finset.sum_congr rfl fun K _ => ?_
  have el : lidx_main_v2 (ValueIdx.ix2 r s) K = (ValueIdx.ix2 r K) := by
    funext a; match a with
    | ⟨0, _⟩ => rfl
    | ⟨1, _⟩ => rfl
  have er : ridx_main_v2 (ValueIdx.ix2 r s) K = (ValueIdx.ix2 K s) := by
    funext a; match a with
    | ⟨0, _⟩ => rfl
    | ⟨1, _⟩ => rfl
  rw [el, er, val_main_v0_apply, val_main_v1_apply]
  rfl

end

/-- The reference ends, its arguments unchanged and every counter zero. -/
theorem quiescent_reference : Cert.quiescent_BaRefIdeal := fun m g _ =>
  (θ_run _ _ _).mono (fun r h => ⟨fun c => (h c).2, sem_eq_zero_of_no_sems (by decide) r.2⟩) (Cert.BaRefIdeal.Value.run m g)

/-- The kernel's result is the reference's, entry by entry. -/
theorem algebraic : Cert.algebraic_BaIdeal_BaRefIdeal := fun m g m' g' _ ha =>
  ⟨fun c => (Cert.BaIdeal.Gen.dats m 0 c).arrAt 2 Cert.BaIdeal.cfg0.N, Cert.BaIdeal.Value.run_blocks m g,
    (θ_run _ _ _).mono (fun _ h c => ⟨(h c).1.trans (by
      rw [Cert.BaRefIdeal.Read.val_main_v2_eq, (ha c).1, (ha c).2]
      funext i
      obtain ⟨r, s, rfl⟩ : ∃ (r : Fin 16384) (s : Fin 128), i = ValueIdx.ix2 r s := ⟨i 0, i 1, (ValueIdx.eq_ix2 i)⟩
      exact (ref_apply _ _ r s).trans (result_eq m c r s).symm), (h c).2⟩) (Cert.BaRefIdeal.Value.run m' g')⟩

end Cert.Proof.Ba

end
-- ==== Proof.lean ====
/-
  The claims about the attention's gradient: both kernels and the reference end with their arguments unchanged and every
  counter zero; the named constant is the slope's; and the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Run.Frames
public import proofs.«01_k».proof.Proof.Run.Equation
public import proofs.«01_k».proof.Proof.Gen.Gwd
public import proofs.«01_k».proof.Proof.Gen.GwdIdeal
public import proofs.«01_k».proof.Proof.Gen.GwdRefIdeal
public import proofs.«01_k».proof.Proof.Gen.Gwgu
public import proofs.«01_k».proof.Proof.Gen.GwguIdeal
public import proofs.«01_k».proof.Proof.Gen.GwguRefIdeal
public import proofs.«01_k».proof.Proof.Gen.Dhn
public import proofs.«01_k».proof.Proof.Gen.DhnIdeal
public import proofs.«01_k».proof.Proof.Gen.DhnRefIdeal
public import proofs.«01_k».proof.Proof.Gen.Dact
public import proofs.«01_k».proof.Proof.Gen.DactIdeal
public import proofs.«01_k».proof.Proof.Gen.DactRefIdeal
public import proofs.«01_k».proof.Proof.Gen.Dgu
public import proofs.«01_k».proof.Proof.Gen.DguIdeal
public import proofs.«01_k».proof.Proof.Gen.DguRefIdeal
public import proofs.«01_k».proof.Proof.Gen.Gwb
public import proofs.«01_k».proof.Proof.Gen.GwbIdeal
public import proofs.«01_k».proof.Proof.Gen.GwbRefIdeal
public import proofs.«01_k».proof.Proof.Gen.Dub
public import proofs.«01_k».proof.Proof.Gen.DubIdeal
public import proofs.«01_k».proof.Proof.Gen.DubRefIdeal
public import proofs.«01_k».proof.Proof.Gen.Gwout
public import proofs.«01_k».proof.Proof.Gen.GwoutIdeal
public import proofs.«01_k».proof.Proof.Gen.GwoutRefIdeal
public import proofs.«01_k».proof.Proof.Gen.Dmix
public import proofs.«01_k».proof.Proof.Gen.DmixIdeal
public import proofs.«01_k».proof.Proof.Gen.DmixRefIdeal
public import proofs.«01_k».proof.Proof.Gen.Gwpd
public import proofs.«01_k».proof.Proof.Gen.GwpdIdeal
public import proofs.«01_k».proof.Proof.Gen.GwpdRefIdeal
public import proofs.«01_k».proof.Proof.Gen.Dod
public import proofs.«01_k».proof.Proof.Gen.DodIdeal
public import proofs.«01_k».proof.Proof.Gen.DodRefIdeal
public import proofs.«01_k».proof.Proof.Gen.Gwpa
public import proofs.«01_k».proof.Proof.Gen.GwpaIdeal
public import proofs.«01_k».proof.Proof.Gen.GwpaRefIdeal
public import proofs.«01_k».proof.Proof.Gen.Dyam
public import proofs.«01_k».proof.Proof.Gen.DyamIdeal
public import proofs.«01_k».proof.Proof.Gen.DyamRefIdeal
public import proofs.«01_k».proof.Proof.Gen.Gu
public import proofs.«01_k».proof.Proof.Gen.GuIdeal
public import proofs.«01_k».proof.Proof.Gen.GuRefIdeal
public import proofs.«01_k».proof.Proof.Gen.Down
public import proofs.«01_k».proof.Proof.Gen.DownIdeal
public import proofs.«01_k».proof.Proof.Gen.DownRefIdeal
public import proofs.«01_k».proof.Proof.Gen.Out
public import proofs.«01_k».proof.Proof.Gen.OutIdeal
public import proofs.«01_k».proof.Proof.Gen.OutRefIdeal
public import proofs.«01_k».proof.Proof.Gen.Pd
public import proofs.«01_k».proof.Proof.Gen.PdIdeal
public import proofs.«01_k».proof.Proof.Gen.PdRefIdeal
public import proofs.«01_k».proof.Proof.Gen.Pa
public import proofs.«01_k».proof.Proof.Gen.PaIdeal
public import proofs.«01_k».proof.Proof.Gen.PaRefIdeal
public import proofs.«01_k».proof.Proof.Gen.Rmsb
public import proofs.«01_k».proof.Proof.Gen.RmsbIdeal
public import proofs.«01_k».proof.Proof.Gen.RmsbRefIdeal
public import proofs.«01_k».proof.Proof.Gen.Mixb
public import proofs.«01_k».proof.Proof.Gen.MixbIdeal
public import proofs.«01_k».proof.Proof.Gen.MixbRefIdeal
public import proofs.«01_k».proof.Proof.Gen.Gwba
public import proofs.«01_k».proof.Proof.Gen.GwbaIdeal
public import proofs.«01_k».proof.Proof.Gen.GwbaRefIdeal
public import proofs.«01_k».proof.Proof.Gen.Duba
public import proofs.«01_k».proof.Proof.Gen.DubaIdeal
public import proofs.«01_k».proof.Proof.Gen.DubaRefIdeal
public import proofs.«01_k».proof.Proof.Gen.Ba
public import proofs.«01_k».proof.Proof.Gen.BaIdeal
public import proofs.«01_k».proof.Proof.Gen.BaRefIdeal
public import proofs.«01_k».proof.Proof.Run.Products
public import Idealize.ShloMosaic.Lib.Quiescent
public import proofs.«01_k».proof.Proof.Run.GwdEquation
public import proofs.«01_k».proof.Proof.Run.GwguEquation
public import proofs.«01_k».proof.Proof.Run.DhnEquation
public import proofs.«01_k».proof.Proof.Run.DactEquation
public import proofs.«01_k».proof.Proof.Run.DguEquation
public import proofs.«01_k».proof.Proof.Run.GwbEquation
public import proofs.«01_k».proof.Proof.Run.DubEquation
public import proofs.«01_k».proof.Proof.Run.GwoutEquation
public import proofs.«01_k».proof.Proof.Run.DmixEquation
public import proofs.«01_k».proof.Proof.Run.GwpdEquation
public import proofs.«01_k».proof.Proof.Run.DodEquation
public import proofs.«01_k».proof.Proof.Run.GwpaEquation
public import proofs.«01_k».proof.Proof.Run.DyamEquation
public import proofs.«01_k».proof.Proof.Run.GuEquation
public import proofs.«01_k».proof.Proof.Run.DownEquation
public import proofs.«01_k».proof.Proof.Run.OutEquation
public import proofs.«01_k».proof.Proof.Run.PdEquation
public import proofs.«01_k».proof.Proof.Run.PaEquation
public import proofs.«01_k».proof.Proof.Run.RmsbEquation
public import proofs.«01_k».proof.Proof.Run.MixbEquation
public import proofs.«01_k».proof.Proof.Run.GwbaEquation
public import proofs.«01_k».proof.Proof.Run.DubaEquation
public import proofs.«01_k».proof.Proof.Run.BaEquation

@[expose] public section

noncomputable section

namespace Cert.Proof

open Idealize.ShloMosaic Idealize.ShloMosaic.TcCoe Idealize.ShloMosaic.StableHlo Idealize.SL.Sem

/-- The reference ends, its arguments unchanged and every counter zero. -/
theorem quiescent_reference : Cert.quiescent_ReferenceIdeal := fun m g _ =>
  (θ_run _ _ _).mono (fun r h => ⟨fun c => (h c).2, sem_eq_zero_of_no_sems (by decide) r.2⟩) (Cert.ReferenceIdeal.Value.run m g)

/-- The named constant's literal is the slope's. -/
theorem preserves : Cert.preserves_Kernel_KernelIdeal :=
  IdealRules.named_const.statement Cert.KernelIdeal.κ "log_slope" .f32 0xBEEC9820#32 ((-((8 * 12⁻¹) * (Real.log 2)) : ℝ) : EReal) rfl

section

open Cert.KernelIdeal Cert.KernelIdeal.Gen Cert.Proof.Run

/-- The kernel ends with its result array, its arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v98) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 9, ((h.1 c).1 4).trans (((dats m 0 c).arrAt_in 4 rfl _).trans ((A_eq m c 4).trans (V_main_arg0 m c))),
      ((h.1 c).1 7).trans (((dats m 0 c).arrAt_in 7 rfl _).trans ((A_eq m c 7).trans (V_main_arg1 m c))),
      ((h.1 c).1 8).trans (((dats m 0 c).arrAt_in 8 rfl _).trans ((A_eq m c 8).trans (V_main_arg2 m c))),
      ((h.1 c).2 main_arg3 (Pipeline.mem_restRefs_of main_arg3 (by decide) (by decide))).trans (V_main_arg3 m c)⟩) (run_main m ρ)

end

section

open Cert.ReferenceIdeal

/-- The reference ends with its result, its arguments unchanged. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v175) = Value.val4 (launchContents m c) (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (Value.val4_main_v175 (launchContents m c)).symm, (h c).2⟩) (Value.run m ρ)

end

/-- The kernel's result is the reference's, element by element. -/
theorem algebraic : Cert.algebraic_KernelIdeal_ReferenceIdeal_pre_finite := fun m g m' g' hp ha =>
  ⟨fun c => Cert.ReferenceIdeal.Value.val4 (launchContents m' c) (Proc.devRef .tc Cert.ReferenceIdeal.main_v175),
    (θ_run _ _ _).mono (fun _ h c => ⟨(h c).1.trans
      (Run.equation (ha c).1 (ha c).2.1 (ha c).2.2.1 (ha c).2.2.2 (Run.fin3_of m c hp)), (h c).2⟩) (kernel_value m g),
    reference_value m' g'⟩

/-- Every claim about the attention gradient, and of every further call that it ends and that its result is the reference's. -/
theorem claim : Cert.Claim :=
  ⟨Cert.Kernel.Gen.facts, Cert.KernelIdeal.Gen.facts, Cert.ReferenceIdeal.Gen.facts,
    Cert.Gwd.Gen.facts, Cert.GwdIdeal.Gen.facts, Cert.GwdRefIdeal.Gen.facts,
    Cert.Gwgu.Gen.facts, Cert.GwguIdeal.Gen.facts, Cert.GwguRefIdeal.Gen.facts,
    Cert.Dhn.Gen.facts, Cert.DhnIdeal.Gen.facts, Cert.DhnRefIdeal.Gen.facts,
    Cert.Dact.Gen.facts, Cert.DactIdeal.Gen.facts, Cert.DactRefIdeal.Gen.facts,
    Cert.Dgu.Gen.facts, Cert.DguIdeal.Gen.facts, Cert.DguRefIdeal.Gen.facts,
    Cert.Gwb.Gen.facts, Cert.GwbIdeal.Gen.facts, Cert.GwbRefIdeal.Gen.facts,
    Cert.Dub.Gen.facts, Cert.DubIdeal.Gen.facts, Cert.DubRefIdeal.Gen.facts,
    Cert.Gwout.Gen.facts, Cert.GwoutIdeal.Gen.facts, Cert.GwoutRefIdeal.Gen.facts,
    Cert.Dmix.Gen.facts, Cert.DmixIdeal.Gen.facts, Cert.DmixRefIdeal.Gen.facts,
    Cert.Gwpd.Gen.facts, Cert.GwpdIdeal.Gen.facts, Cert.GwpdRefIdeal.Gen.facts,
    Cert.Dod.Gen.facts, Cert.DodIdeal.Gen.facts, Cert.DodRefIdeal.Gen.facts,
    Cert.Gwpa.Gen.facts, Cert.GwpaIdeal.Gen.facts, Cert.GwpaRefIdeal.Gen.facts,
    Cert.Dyam.Gen.facts, Cert.DyamIdeal.Gen.facts, Cert.DyamRefIdeal.Gen.facts,
    Cert.Gu.Gen.facts, Cert.GuIdeal.Gen.facts, Cert.GuRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Pd.Gen.facts, Cert.PdIdeal.Gen.facts, Cert.PdRefIdeal.Gen.facts,
    Cert.Pa.Gen.facts, Cert.PaIdeal.Gen.facts, Cert.PaRefIdeal.Gen.facts,
    Cert.Rmsb.Gen.facts, Cert.RmsbIdeal.Gen.facts, Cert.RmsbRefIdeal.Gen.facts,
    Cert.Mixb.Gen.facts, Cert.MixbIdeal.Gen.facts, Cert.MixbRefIdeal.Gen.facts,
    Cert.Gwba.Gen.facts, Cert.GwbaIdeal.Gen.facts, Cert.GwbaRefIdeal.Gen.facts,
    Cert.Duba.Gen.facts, Cert.DubaIdeal.Gen.facts, Cert.DubaRefIdeal.Gen.facts,
    Cert.Ba.Gen.facts, Cert.BaIdeal.Gen.facts, Cert.BaRefIdeal.Gen.facts,
    Cert.Pre_finite.Gen.facts,
    fun m g _ => Run.quiescent_literal m g, fun m g _ => Run.quiescent m g, fun m g _ => Run.quiescent m g,
    quiescent_reference, fun m g _ => quiescent_reference m g trivial,
    fun m g _ => Cert.Gwd.Gen.frame m g, fun m g _ => Cert.GwdIdeal.Gen.frame m g, Gwd.quiescent_reference,
    fun m g _ => Cert.Gwgu.Gen.frame m g, fun m g _ => Cert.GwguIdeal.Gen.frame m g, Gwgu.quiescent_reference,
    fun m g _ => Cert.Dhn.Gen.frame m g, fun m g _ => Cert.DhnIdeal.Gen.frame m g, Dhn.quiescent_reference,
    fun m g _ => Cert.Dact.Gen.frame m g, fun m g _ => Cert.DactIdeal.Gen.frame m g, Dact.quiescent_reference,
    fun m g _ => Cert.Dgu.Gen.frame m g, fun m g _ => Cert.DguIdeal.Gen.frame m g, Dgu.quiescent_reference,
    fun m g _ => Cert.Gwb.Gen.frame m g, fun m g _ => Cert.GwbIdeal.Gen.frame m g, Gwb.quiescent_reference,
    fun m g _ => Cert.Dub.Gen.frame m g, fun m g _ => Cert.DubIdeal.Gen.frame m g, Dub.quiescent_reference,
    fun m g _ => Cert.Gwout.Gen.frame m g, fun m g _ => Cert.GwoutIdeal.Gen.frame m g, Gwout.quiescent_reference,
    fun m g _ => Cert.Dmix.Gen.frame m g, fun m g _ => Cert.DmixIdeal.Gen.frame m g, Dmix.quiescent_reference,
    fun m g _ => Cert.Gwpd.Gen.frame m g, fun m g _ => Cert.GwpdIdeal.Gen.frame m g, Gwpd.quiescent_reference,
    fun m g _ => Cert.Dod.Gen.frame m g, fun m g _ => Cert.DodIdeal.Gen.frame m g, Dod.quiescent_reference,
    fun m g _ => Cert.Gwpa.Gen.frame m g, fun m g _ => Cert.GwpaIdeal.Gen.frame m g, Gwpa.quiescent_reference,
    fun m g _ => Cert.Dyam.Gen.frame m g, fun m g _ => Cert.DyamIdeal.Gen.frame m g, Dyam.quiescent_reference,
    fun m g _ => Cert.Gu.Gen.frame m g, fun m g _ => Cert.GuIdeal.Gen.frame m g, Gu.quiescent_reference,
    fun m g _ => Cert.Down.Gen.frame m g, fun m g _ => Cert.DownIdeal.Gen.frame m g, Down.quiescent_reference,
    fun m g _ => Cert.Out.Gen.frame m g, fun m g _ => Cert.OutIdeal.Gen.frame m g, Out.quiescent_reference,
    fun m g _ => Cert.Pd.Gen.frame m g, fun m g _ => Cert.PdIdeal.Gen.frame m g, Pd.quiescent_reference,
    fun m g _ => Cert.Pa.Gen.frame m g, fun m g _ => Cert.PaIdeal.Gen.frame m g, Pa.quiescent_reference,
    fun m g _ => Cert.Rmsb.Gen.frame m g, fun m g _ => Cert.RmsbIdeal.Gen.frame m g, Rmsb.quiescent_reference,
    fun m g _ => Cert.Mixb.Gen.frame m g, fun m g _ => Cert.MixbIdeal.Gen.frame m g, Mixb.quiescent_reference,
    fun m g _ => Cert.Gwba.Gen.frame m g, fun m g _ => Cert.GwbaIdeal.Gen.frame m g, Gwba.quiescent_reference,
    fun m g _ => Cert.Duba.Gen.frame m g, fun m g _ => Cert.DubaIdeal.Gen.frame m g, Duba.quiescent_reference,
    fun m g _ => Cert.Ba.Gen.frame m g, fun m g _ => Cert.BaIdeal.Gen.frame m g, Ba.quiescent_reference,
    preserves, algebraic,
    trivial, Gwd.algebraic,
    trivial, Gwgu.algebraic,
    trivial, Dhn.algebraic,
    trivial, Dact.algebraic,
    trivial, Dgu.algebraic,
    trivial, Gwb.algebraic,
    trivial, Dub.algebraic,
    trivial, Gwout.algebraic,
    trivial, Dmix.algebraic,
    trivial, Gwpd.algebraic,
    trivial, Dod.algebraic,
    trivial, Gwpa.algebraic,
    trivial, Dyam.algebraic,
    trivial, Gu.algebraic,
    trivial, Down.algebraic,
    trivial, Out.algebraic,
    trivial, Pd.algebraic,
    trivial, Pa.algebraic,
    trivial, Rmsb.algebraic,
    trivial, Mixb.algebraic,
    trivial, Gwba.algebraic,
    trivial, Duba.algebraic,
    trivial, Ba.algebraic⟩

end Cert.Proof

end
